-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_on_state_results [hKernelIdeal : Cert.KernelIdeal.Facts] [hReferenceIdeal : Cert.ReferenceIdeal.Facts] [hOn_state_results : Cert.On_state_results.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![640, 24, 64]⟩ : Shape).Idx, (Cert.On_state_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 i = 1#1 → r.2.mem ((c.tc : Thread Cert.KernelIdeal.nD Cert.KernelIdeal.τ).loc Cert.KernelIdeal.main_v3_0) i = v0 c i)
          ∧ (∀ i : (⟨4, ![640, 24, 64, 128]⟩ : Shape).Idx, (Cert.On_state_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 i = 1#1 → r.2.mem ((c.tc : Thread Cert.KernelIdeal.nD Cert.KernelIdeal.τ).loc Cert.KernelIdeal.main_v3_1) i = v1 c i)
          ∧ (∀ i : (⟨3, ![640, 24, 64]⟩ : Shape).Idx, (Cert.On_state_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2 i = 1#1 → r.2.mem ((c.tc : Thread Cert.KernelIdeal.nD Cert.KernelIdeal.τ).loc Cert.KernelIdeal.main_v3_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![640, 24, 64]⟩ : Shape).Idx, (Cert.On_state_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 i = 1#1 → r.2.mem ((c.tc : Thread Cert.ReferenceIdeal.nD Cert.ReferenceIdeal.τ).loc Cert.ReferenceIdeal.main_v20_0) i = v0 c i)
          ∧ (∀ i : (⟨4, ![640, 24, 64, 128]⟩ : Shape).Idx, (Cert.On_state_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 i = 1#1 → r.2.mem ((c.tc : Thread Cert.ReferenceIdeal.nD Cert.ReferenceIdeal.τ).loc Cert.ReferenceIdeal.main_v20_1) i = v1 c i)
          ∧ (∀ i : (⟨3, ![640, 24, 64]⟩ : Shape).Idx, (Cert.On_state_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2 i = 1#1 → r.2.mem ((c.tc : Thread Cert.ReferenceIdeal.nD Cert.ReferenceIdeal.τ).loc Cert.ReferenceIdeal.main_v20_2) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hOn_state_results : Cert.On_state_results.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_state_results (hKernelIdeal := hKernelIdeal) (hReferenceIdeal := hReferenceIdeal) (hOn_state_results := hOn_state_results)
-- ==== On_state_results.lean ====
abbrev S640x24x64 : Shape := ⟨3, ![640, 24, 64]⟩
abbrev S640x24 : Shape := ⟨2, ![640, 24]⟩
abbrev S24 : Shape := ⟨1, ![24]⟩
abbrev S640x1x128 : Shape := ⟨3, ![640, 1, 128]⟩
abbrev S803x24x64x128 : Shape := ⟨4, ![803, 24, 64, 128]⟩
abbrev S803x24x64 : Shape := ⟨3, ![803, 24, 64]⟩
abbrev S640 : Shape := ⟨1, ![640]⟩
abbrev S_ : Shape := ⟨0, ![]⟩
abbrev S640x24x64x128 : Shape := ⟨4, ![640, 24, 64, 128]⟩

class Facts : Prop where
  bcast_S_S640x24x64 : S_.BroadcastsInDim S640x24x64 (![] : Fin 0 → Fin S640x24x64.rank)
  bcast_S_S640x24x64x128 : S_.BroadcastsInDim S640x24x64x128 (![] : Fin 0 → Fin S640x24x64x128.rank)

variable [Facts]

def fn {F : FTy → Type} [FloatOps F] (main_arg0 : FVec F S640x24x64 .bf16) (main_arg1 : FVec F S640x24 .bf16) (main_arg2 : FVec F S24 .f32) (main_arg3 : FVec F S24 .f32) (main_arg4 : FVec F S640x1x128 .bf16) (main_arg5 : FVec F S640x1x128 .bf16) (main_arg6 : FVec F S24 .f32) (main_arg7 : FVec F S803x24x64x128 .fp8e4m3) (main_arg8 : FVec F S803x24x64 .f32) (main_arg9 : IVec S640 32) : IVec S640x24x64 1 × IVec S640x24x64x128 1 × IVec S640x24x64 1 :=
  let main_c : IVec S_ 1 := constantI S_ 1 0#1
  let main_v0 : IVec S640x24x64 1 := broadcastInDim S640x24x64 ![] bcast_S_S640x24x64 main_c
  let main_c_0 : IVec S_ 1 := constantI S_ 1 1#1
  let main_v1 : IVec S640x24x64x128 1 := broadcastInDim S640x24x64x128 ![] bcast_S_S640x24x64x128 main_c_0
  let main_c_1 : IVec S_ 1 := constantI S_ 1 1#1
  let main_v2 : IVec S640x24x64 1 := broadcastInDim S640x24x64 ![] bcast_S_S640x24x64 main_c_1
  (main_v0, main_v1, main_v2)
-- ==== Kernel.lean ====
abbrev S640x24x64 : Shape := ⟨3, ![640, 24, 64]⟩
abbrev S640x24 : Shape := ⟨2, ![640, 24]⟩
abbrev S24 : Shape := ⟨1, ![24]⟩
abbrev S640x1x128 : Shape := ⟨3, ![640, 1, 128]⟩
abbrev S803x24x64x128 : Shape := ⟨4, ![803, 24, 64, 128]⟩
abbrev S803x24x64 : Shape := ⟨3, ![803, 24, 64]⟩
abbrev S640 : Shape := ⟨1, ![640]⟩
abbrev S1x24 : Shape := ⟨2, ![1, 24]⟩
abbrev S640x24x64x128 : Shape := ⟨4, ![640, 24, 64, 128]⟩
abbrev S16x24x64 : Shape := ⟨3, ![16, 24, 64]⟩
abbrev S16x24 : Shape := ⟨2, ![16, 24]⟩
abbrev S16x1x128 : Shape := ⟨3, ![16, 1, 128]⟩
abbrev S16x24x64x128 : Shape := ⟨4, ![16, 24, 64, 128]⟩
abbrev S2x16x24x64x128 : Shape := ⟨5, ![2, 16, 24, 64, 128]⟩
abbrev S2x16x24x64 : Shape := ⟨4, ![2, 16, 24, 64]⟩
abbrev S2 : Shape := ⟨1, ![2]⟩
abbrev S512x128 : Shape := ⟨2, ![512, 128]⟩
abbrev S3x512x128 : Shape := ⟨3, ![3, 512, 128]⟩
abbrev S1 : Shape := ⟨1, ![1]⟩
abbrev S_ : Shape := ⟨0, ![]⟩
abbrev S1x1x24x64x128 : Shape := ⟨5, ![1, 1, 24, 64, 128]⟩
abbrev S24x64x128 : Shape := ⟨3, ![24, 64, 128]⟩
abbrev S1x24x64x128 : Shape := ⟨4, ![1, 24, 64, 128]⟩
abbrev S1x1x24x64 : Shape := ⟨4, ![1, 1, 24, 64]⟩
abbrev S24x64 : Shape := ⟨2, ![24, 64]⟩
abbrev S1x24x64 : Shape := ⟨3, ![1, 24, 64]⟩
abbrev S24x24 : Shape := ⟨2, ![24, 24]⟩
abbrev S24x1 : Shape := ⟨2, ![24, 1]⟩
abbrev S128x128 : Shape := ⟨2, ![128, 128]⟩
abbrev S16x512 : Shape := ⟨2, ![16, 512]⟩
abbrev S1x1x128 : Shape := ⟨3, ![1, 1, 128]⟩
abbrev S1x128 : Shape := ⟨2, ![1, 128]⟩
abbrev S1x1 : Shape := ⟨2, ![1, 1]⟩
abbrev S16x128 : Shape := ⟨2, ![16, 128]⟩
abbrev S8x64 : Shape := ⟨2, ![8, 64]⟩
abbrev S8x128 : Shape := ⟨2, ![8, 128]⟩
abbrev S8x128x1 : Shape := ⟨3, ![8, 128, 1]⟩
abbrev S1x1x8x64x128 : Shape := ⟨5, ![1, 1, 8, 64, 128]⟩
abbrev S8x64x128 : Shape := ⟨3, ![8, 64, 128]⟩
abbrev S128x4x128 : Shape := ⟨3, ![128, 4, 128]⟩
abbrev S1x512x128 : Shape := ⟨3, ![1, 512, 128]⟩
abbrev S1x32x128 : Shape := ⟨3, ![1, 32, 128]⟩
abbrev S32x128 : Shape := ⟨2, ![32, 128]⟩
abbrev S4x8x128 : Shape := ⟨3, ![4, 8, 128]⟩
abbrev S1x8x128 : Shape := ⟨3, ![1, 8, 128]⟩
abbrev S1x8x64x128 : Shape := ⟨4, ![1, 8, 64, 128]⟩
abbrev S1x8x64 : Shape := ⟨3, ![1, 8, 64]⟩
abbrev S8x1 : Shape := ⟨2, ![8, 1]⟩

abbrev nBuf : Space → Nat
  | .hbm => 15
  | .vmem => 25
  | .smem => 1
  | _ => 0

abbrev bufTy : (tb : Table) → Fin (tcTables nBuf tb) → BufTy
  | .hbm, ⟨0, _⟩ => ⟨S640x24x64, .bf16⟩
  | .hbm, ⟨1, _⟩ => ⟨S640x24, .bf16⟩
  | .hbm, ⟨2, _⟩ => ⟨S24, .f32⟩
  | .hbm, ⟨3, _⟩ => ⟨S24, .f32⟩
  | .hbm, ⟨4, _⟩ => ⟨S640x1x128, .bf16⟩
  | .hbm, ⟨5, _⟩ => ⟨S640x1x128, .bf16⟩
  | .hbm, ⟨6, _⟩ => ⟨S24, .f32⟩
  | .hbm, ⟨7, _⟩ => ⟨S803x24x64x128, .fp8e4m3⟩
  | .hbm, ⟨8, _⟩ => ⟨S803x24x64, .f32⟩
  | .hbm, ⟨9, _⟩ => ⟨S1x24, .f32⟩
  | .hbm, ⟨10, _⟩ => ⟨S1x24, .f32⟩
  | .hbm, ⟨11, _⟩ => ⟨S1x24, .f32⟩
  | .hbm, ⟨12, _⟩ => ⟨S640x24x64, .bf16⟩
  | .hbm, ⟨13, _⟩ => ⟨S640x24x64x128, .fp8e4m3⟩
  | .hbm, ⟨14, _⟩ => ⟨S640x24x64, .f32⟩
  | .local _ .vmem, ⟨0, _⟩ => ⟨S16x24x64, .bf16⟩
  | .local _ .vmem, ⟨1, _⟩ => ⟨S16x24x64, .bf16⟩
  | .local _ .vmem, ⟨2, _⟩ => ⟨S16x24, .bf16⟩
  | .local _ .vmem, ⟨3, _⟩ => ⟨S16x24, .bf16⟩
  | .local _ .vmem, ⟨4, _⟩ => ⟨S1x24, .f32⟩
  | .local _ .vmem, ⟨5, _⟩ => ⟨S1x24, .f32⟩
  | .local _ .vmem, ⟨6, _⟩ => ⟨S16x1x128, .bf16⟩
  | .local _ .vmem, ⟨7, _⟩ => ⟨S16x1x128, .bf16⟩
  | .local _ .vmem, ⟨8, _⟩ => ⟨S16x1x128, .bf16⟩
  | .local _ .vmem, ⟨9, _⟩ => ⟨S16x1x128, .bf16⟩
  | .local _ .vmem, ⟨10, _⟩ => ⟨S1x24, .f32⟩
  | .local _ .vmem, ⟨11, _⟩ => ⟨S16x24x64, .bf16⟩
  | .local _ .vmem, ⟨12, _⟩ => ⟨S16x24x64, .bf16⟩
  | .local _ .vmem, ⟨13, _⟩ => ⟨S16x24x64x128, .fp8e4m3⟩
  | .local _ .vmem, ⟨14, _⟩ => ⟨S16x24x64x128, .fp8e4m3⟩
  | .local _ .vmem, ⟨15, _⟩ => ⟨S16x24x64, .f32⟩
  | .local _ .vmem, ⟨16, _⟩ => ⟨S16x24x64, .f32⟩
  | .local _ .vmem, ⟨17, _⟩ => ⟨S2x16x24x64x128, .fp8e4m3⟩
  | .local _ .vmem, ⟨18, _⟩ => ⟨S2x16x24x64, .f32⟩
  | .local _ .vmem, ⟨19, _⟩ => ⟨S512x128, .bf16⟩
  | .local _ .vmem, ⟨20, _⟩ => ⟨S512x128, .f32⟩
  | .local _ .vmem, ⟨21, _⟩ => ⟨S3x512x128, .fp8e4m3⟩
  | .local _ .vmem, ⟨22, _⟩ => ⟨S3x512x128, .f32⟩
  | .local _ .vmem, ⟨23, _⟩ => ⟨S16x24, .f32⟩
  | .local _ .vmem, ⟨24, _⟩ => ⟨S16x24, .f32⟩
  | .local _ .smem, ⟨0, _⟩ => ⟨S640, .i32⟩
  | _, _ => ⟨S640x24x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_arg9 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_scratch9 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![40], ![false]⟩

abbrev pre0 : Pipeline.Prefetch sig := ⟨1, ![main_arg9.idx], fun | 0 => main_arg9.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

@[reducible] def k0_t1_loop : Scf.Loop 32 :=
  let c0_i32_46 : BitVec 32 := 0#32
  let c16_i32_47 : BitVec 32 := 16#32
  let v111 : BitVec 32 := Scalar.addi c0_i32_46 c16_i32_47
  let c1_i32_48 : BitVec 32 := 1#32
  ⟨c0_i32_46, v111, c1_i32_48⟩
def k0_off1 (k0_t1 : Fin k0_t1_loop.trips) : Fin 1 → Nat :=
  let c0_i32_52 : BitVec 32 := 0#32
  let c0_i32_51 : BitVec 32 := 0#32
  let c0_i32_46 : BitVec 32 := 0#32
  let c1_i32_48 : BitVec 32 := 1#32
  let arg24 : BitVec 32 := Scf.iv c0_i32_46 c1_i32_48 k0_t1
  let c1_i32_50 : BitVec 32 := 1#32
  let v112 : BitVec 32 := Scalar.muli arg24 c1_i32_50
  let v113 : BitVec 32 := Scalar.addi c0_i32_51 v112
  let v114 : BitVec 32 := Scalar.addi c0_i32_52 v113
  let v115 : Index := Scalar.indexCast v114
  ![v115.toNat]
def k0_off2 (k0_t1 : Fin k0_t1_loop.trips) : Fin 1 → Nat :=
  let c0_i32_52 : BitVec 32 := 0#32
  let c0_i32_51 : BitVec 32 := 0#32
  let c0_i32_46 : BitVec 32 := 0#32
  let c1_i32_48 : BitVec 32 := 1#32
  let arg24 : BitVec 32 := Scf.iv c0_i32_46 c1_i32_48 k0_t1
  let c1_i32_50 : BitVec 32 := 1#32
  let v112 : BitVec 32 := Scalar.muli arg24 c1_i32_50
  let v113 : BitVec 32 := Scalar.addi c0_i32_51 v112
  let v114 : BitVec 32 := Scalar.addi c0_i32_52 v113
  let v120 : Index := Scalar.indexCast v114
  ![v120.toNat]
def k0_off3 (k0_t1 : Fin k0_t1_loop.trips) : Fin 5 → Nat :=
  let c0_i32_55 : BitVec 32 := 0#32
  let c0_i32_51 : BitVec 32 := 0#32
  let c0_i32_46 : BitVec 32 := 0#32
  let c1_i32_48 : BitVec 32 := 1#32
  let arg24 : BitVec 32 := Scf.iv c0_i32_46 c1_i32_48 k0_t1
  let c1_i32_50 : BitVec 32 := 1#32
  let v112 : BitVec 32 := Scalar.muli arg24 c1_i32_50
  let v113 : BitVec 32 := Scalar.addi c0_i32_51 v112
  let c0_i32_57 : BitVec 32 := 0#32
  let c0_i32_58 : BitVec 32 := 0#32
  let c0_i32_59 : BitVec 32 := 0#32
  ![0, v113.toNat, 0, 0, 0]
def k0_off4 (v121 : BitVec 32) : Fin 4 → Nat :=
  let c802_i32 : BitVec 32 := 802#32
  let v122 : BitVec 32 := Scalar.minsi v121 c802_i32
  let c0_i32_60 : BitVec 32 := 0#32
  let c0_i32_61 : BitVec 32 := 0#32
  let c0_i32_62 : BitVec 32 := 0#32
  ![v122.toNat, 0, 0, 0]
def k0_cond2 (v116 : BitVec 32) : BitVec 1 :=
  let c0_i32_53 : BitVec 32 := 0#32
  let v117 : BitVec 1 := Scalar.cmpi .sge v116 c0_i32_53
  let v118 : BitVec 32 := Scalar.extui v117
  let c0_i32_54 : BitVec 32 := 0#32
  let v119 : BitVec 1 := Scalar.cmpi .ne v118 c0_i32_54
  v119

def k0_off5 (k0_t1 : Fin k0_t1_loop.trips) : Fin 4 → Nat :=
  let c0_i32_63 : BitVec 32 := 0#32
  let c0_i32_51 : BitVec 32 := 0#32
  let c0_i32_46 : BitVec 32 := 0#32
  let c1_i32_48 : BitVec 32 := 1#32
  let arg24 : BitVec 32 := Scf.iv c0_i32_46 c1_i32_48 k0_t1
  let c1_i32_50 : BitVec 32 := 1#32
  let v112 : BitVec 32 := Scalar.muli arg24 c1_i32_50
  let v113 : BitVec 32 := Scalar.addi c0_i32_51 v112
  let c0_i32_65 : BitVec 32 := 0#32
  let c0_i32_66 : BitVec 32 := 0#32
  ![0, v113.toNat, 0, 0]
def k0_off6 (v121 : BitVec 32) : Fin 3 → Nat :=
  let c802_i32 : BitVec 32 := 802#32
  let v122 : BitVec 32 := Scalar.minsi v121 c802_i32
  let c0_i32_67 : BitVec 32 := 0#32
  let c0_i32_68 : BitVec 32 := 0#32
  ![v122.toNat, 0, 0]

def k0_chk1 (i : grid0.Coords) (v116 : BitVec 32) (v121 : BitVec 32) : Prop :=
  (∀ (k0_h1 : k0_cond1 i = 1#1), ∀ (k0_h2 : k0_cond2 v116 = 1#1), ∀ a, (k0_off4 v121) a + S1x24x64x128.size a ≤ S803x24x64x128.size a) ∧
  (∀ (k0_h1 : k0_cond1 i = 1#1), ∀ (k0_h2 : k0_cond2 v116 = 1#1), ∀ (hinb : ∀ a, (k0_off4 v121) a + S1x24x64x128.size a ≤ S803x24x64x128.size a), (Rect.unit (s := S803x24x64x128) (k0_off4 v121) S1x24x64x128.size hinb).WholeWords (EltTy.packing .fp8e4m3)) ∧
  (∀ (k0_h1 : k0_cond1 i = 1#1), ∀ (k0_h2 : k0_cond2 v116 = 1#1), ∀ a, (k0_off6 v121) a + S1x24x64.size a ≤ S803x24x64.size a)
theorem k0_off4_inb : ∀ (i : grid0.Coords) (v116 : BitVec 32) (v121 : BitVec 32) (k0_hw1 : k0_chk1 i v116 v121), ∀ (k0_h1 : k0_cond1 i = 1#1), ∀ (k0_h2 : k0_cond2 v116 = 1#1), ∀ a, (k0_off4 v121) a + S1x24x64x128.size a ≤ S803x24x64x128.size a := fun i v116 v121 k0_hw1 k0_h1 k0_h2 => k0_hw1.1 k0_h1 k0_h2
theorem k0_off4_wordsfp8e4m3 : ∀ (i : grid0.Coords) (v116 : BitVec 32) (v121 : BitVec 32) (k0_hw1 : k0_chk1 i v116 v121), ∀ (k0_h1 : k0_cond1 i = 1#1), ∀ (k0_h2 : k0_cond2 v116 = 1#1), (Rect.unit (s := S803x24x64x128) (k0_off4 v121) S1x24x64x128.size (k0_off4_inb i v116 v121 k0_hw1 k0_h1 k0_h2)).WholeWords (EltTy.packing .fp8e4m3) := fun i v116 v121 k0_hw1 k0_h1 k0_h2 => k0_hw1.2.1 k0_h1 k0_h2 (k0_off4_inb i v116 v121 k0_hw1 k0_h1 k0_h2)
theorem k0_off6_inb : ∀ (i : grid0.Coords) (v116 : BitVec 32) (v121 : BitVec 32) (k0_hw1 : k0_chk1 i v116 v121), ∀ (k0_h1 : k0_cond1 i = 1#1), ∀ (k0_h2 : k0_cond2 v116 = 1#1), ∀ a, (k0_off6 v121) a + S1x24x64.size a ≤ S803x24x64.size a := fun i v116 v121 k0_hw1 k0_h1 k0_h2 => k0_hw1.2.2 k0_h1 k0_h2

def k0_cond3 (i : grid0.Coords) : BitVec 1 :=
  let arg0 : BitVec 32 := BitVec.ofNat 32 (i 0).val
  let c1_i32_5 : BitVec 32 := 1#32
  let v13 : BitVec 32 := Scalar.addi arg0 c1_i32_5
  let c40_i32 : BitVec 32 := 40#32
  let v14 : BitVec 1 := Scalar.cmpi .slt v13 c40_i32
  let v15 : BitVec 32 := Scalar.extui v14
  let c0_i32_6 : BitVec 32 := 0#32
  let v16 : BitVec 1 := Scalar.cmpi .ne v15 c0_i32_6
  v16

@[reducible] def k0_t2_loop : Scf.Loop 32 :=
  let c0_i32_37 : BitVec 32 := 0#32
  let c16_i32_38 : BitVec 32 := 16#32
  let v79 : BitVec 32 := Scalar.addi c0_i32_37 c16_i32_38
  let c1_i32_39 : BitVec 32 := 1#32
  ⟨c0_i32_37, v79, c1_i32_39⟩
def k0_off7 (i : grid0.Coords) (k0_t2 : Fin k0_t2_loop.trips) : Fin 1 → Nat :=
  let arg0 : BitVec 32 := BitVec.ofNat 32 (i 0).val
  let c1_i32_35 : BitVec 32 := 1#32
  let v77 : BitVec 32 := Scalar.addi arg0 c1_i32_35
  let c16_i32_43 : BitVec 32 := 16#32
  let v82 : BitVec 32 := Scalar.muli v77 c16_i32_43
  let c0_i32_42 : BitVec 32 := 0#32
  let c0_i32_37 : BitVec 32 := 0#32
  let c1_i32_39 : BitVec 32 := 1#32
  let arg24 : BitVec 32 := Scf.iv c0_i32_37 c1_i32_39 k0_t2
  let c1_i32_41 : BitVec 32 := 1#32
  let v80 : BitVec 32 := Scalar.muli arg24 c1_i32_41
  let v81 : BitVec 32 := Scalar.addi c0_i32_42 v80
  let v83 : BitVec 32 := Scalar.addi v82 v81
  let v84 : Index := Scalar.indexCast v83
  ![v84.toNat]
def k0_off8 (i : grid0.Coords) (k0_t2 : Fin k0_t2_loop.trips) : Fin 1 → Nat :=
  let arg0 : BitVec 32 := BitVec.ofNat 32 (i 0).val
  let c1_i32_35 : BitVec 32 := 1#32
  let v77 : BitVec 32 := Scalar.addi arg0 c1_i32_35
  let c16_i32_43 : BitVec 32 := 16#32
  let v82 : BitVec 32 := Scalar.muli v77 c16_i32_43
  let c0_i32_42 : BitVec 32 := 0#32
  let c0_i32_37 : BitVec 32 := 0#32
  let c1_i32_39 : BitVec 32 := 1#32
  let arg24 : BitVec 32 := Scf.iv c0_i32_37 c1_i32_39 k0_t2
  let c1_i32_41 : BitVec 32 := 1#32
  let v80 : BitVec 32 := Scalar.muli arg24 c1_i32_41
  let v81 : BitVec 32 := Scalar.addi c0_i32_42 v80
  let v83 : BitVec 32 := Scalar.addi v82 v81
  let v89 : Index := Scalar.indexCast v83
  ![v89.toNat]
def k0_off9 (i : grid0.Coords) : Fin 1 → Nat :=
  let c1_i32_36 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v78 : BitVec 32 := Scalar.subi c1_i32_36 v9
  ![v78.toNat]
def k0_off10 (i : grid0.Coords) (k0_t2 : Fin k0_t2_loop.trips) : Fin 5 → Nat :=
  let c1_i32_36 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v78 : BitVec 32 := Scalar.subi c1_i32_36 v9
  let c0_i32_42 : BitVec 32 := 0#32
  let c0_i32_37 : BitVec 32 := 0#32
  let c1_i32_39 : BitVec 32 := 1#32
  let arg24 : BitVec 32 := Scf.iv c0_i32_37 c1_i32_39 k0_t2
  let c1_i32_41 : BitVec 32 := 1#32
  let v80 : BitVec 32 := Scalar.muli arg24 c1_i32_41
  let v81 : BitVec 32 := Scalar.addi c0_i32_42 v80
  let c0_i32_46 : BitVec 32 := 0#32
  let c0_i32_47 : BitVec 32 := 0#32
  let c0_i32_48 : BitVec 32 := 0#32
  ![v78.toNat, v81.toNat, 0, 0, 0]
def k0_off11 (v90 : BitVec 32) : Fin 4 → Nat :=
  let c802_i32 : BitVec 32 := 802#32
  let v91 : BitVec 32 := Scalar.minsi v90 c802_i32
  let c0_i32_49 : BitVec 32 := 0#32
  let c0_i32_50 : BitVec 32 := 0#32
  let c0_i32_51 : BitVec 32 := 0#32
  ![v91.toNat, 0, 0, 0]
def k0_cond4 (v85 : BitVec 32) : BitVec 1 :=
  let c0_i32_44 : BitVec 32 := 0#32
  let v86 : BitVec 1 := Scalar.cmpi .sge v85 c0_i32_44
  let v87 : BitVec 32 := Scalar.extui v86
  let c0_i32_45 : BitVec 32 := 0#32
  let v88 : BitVec 1 := Scalar.cmpi .ne v87 c0_i32_45
  v88

def k0_off12 (i : grid0.Coords) : Fin 1 → Nat :=
  let c1_i32_36 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v78 : BitVec 32 := Scalar.subi c1_i32_36 v9
  ![v78.toNat]
def k0_off13 (i : grid0.Coords) (k0_t2 : Fin k0_t2_loop.trips) : Fin 4 → Nat :=
  let c1_i32_36 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v78 : BitVec 32 := Scalar.subi c1_i32_36 v9
  let c0_i32_42 : BitVec 32 := 0#32
  let c0_i32_37 : BitVec 32 := 0#32
  let c1_i32_39 : BitVec 32 := 1#32
  let arg24 : BitVec 32 := Scf.iv c0_i32_37 c1_i32_39 k0_t2
  let c1_i32_41 : BitVec 32 := 1#32
  let v80 : BitVec 32 := Scalar.muli arg24 c1_i32_41
  let v81 : BitVec 32 := Scalar.addi c0_i32_42 v80
  let c0_i32_52 : BitVec 32 := 0#32
  let c0_i32_53 : BitVec 32 := 0#32
  ![v78.toNat, v81.toNat, 0, 0]
def k0_off14 (v90 : BitVec 32) : Fin 3 → Nat :=
  let c802_i32 : BitVec 32 := 802#32
  let v91 : BitVec 32 := Scalar.minsi v90 c802_i32
  let c0_i32_54 : BitVec 32 := 0#32
  let c0_i32_55 : BitVec 32 := 0#32
  ![v91.toNat, 0, 0]

def k0_chk2 (i : grid0.Coords) (v85 : BitVec 32) (v90 : BitVec 32) : Prop :=
  (∀ (k0_h3 : k0_cond3 i = 1#1), ∀ (k0_h4 : k0_cond4 v85 = 1#1), ∀ a, (k0_off11 v90) a + S1x24x64x128.size a ≤ S803x24x64x128.size a) ∧
  (∀ (k0_h3 : k0_cond3 i = 1#1), ∀ (k0_h4 : k0_cond4 v85 = 1#1), ∀ (hinb : ∀ a, (k0_off11 v90) a + S1x24x64x128.size a ≤ S803x24x64x128.size a), (Rect.unit (s := S803x24x64x128) (k0_off11 v90) S1x24x64x128.size hinb).WholeWords (EltTy.packing .fp8e4m3)) ∧
  (∀ (k0_h3 : k0_cond3 i = 1#1), ∀ (k0_h4 : k0_cond4 v85 = 1#1), ∀ a, (k0_off14 v90) a + S1x24x64.size a ≤ S803x24x64.size a)
theorem k0_off11_inb : ∀ (i : grid0.Coords) (v85 : BitVec 32) (v90 : BitVec 32) (k0_hw2 : k0_chk2 i v85 v90), ∀ (k0_h3 : k0_cond3 i = 1#1), ∀ (k0_h4 : k0_cond4 v85 = 1#1), ∀ a, (k0_off11 v90) a + S1x24x64x128.size a ≤ S803x24x64x128.size a := fun i v85 v90 k0_hw2 k0_h3 k0_h4 => k0_hw2.1 k0_h3 k0_h4
theorem k0_off11_wordsfp8e4m3 : ∀ (i : grid0.Coords) (v85 : BitVec 32) (v90 : BitVec 32) (k0_hw2 : k0_chk2 i v85 v90), ∀ (k0_h3 : k0_cond3 i = 1#1), ∀ (k0_h4 : k0_cond4 v85 = 1#1), (Rect.unit (s := S803x24x64x128) (k0_off11 v90) S1x24x64x128.size (k0_off11_inb i v85 v90 k0_hw2 k0_h3 k0_h4)).WholeWords (EltTy.packing .fp8e4m3) := fun i v85 v90 k0_hw2 k0_h3 k0_h4 => k0_hw2.2.1 k0_h3 k0_h4 (k0_off11_inb i v85 v90 k0_hw2 k0_h3 k0_h4)
theorem k0_off14_inb : ∀ (i : grid0.Coords) (v85 : BitVec 32) (v90 : BitVec 32) (k0_hw2 : k0_chk2 i v85 v90), ∀ (k0_h3 : k0_cond3 i = 1#1), ∀ (k0_h4 : k0_cond4 v85 = 1#1), ∀ a, (k0_off14 v90) a + S1x24x64.size a ≤ S803x24x64.size a := fun i v85 v90 k0_hw2 k0_h3 k0_h4 => k0_hw2.2.2 k0_h3 k0_h4

@[reducible] def k0_t3_loop : Scf.Loop 32 :=
  let c0_i32_7 : BitVec 32 := 0#32
  let c16_i32 : BitVec 32 := 16#32
  let v17 : BitVec 32 := Scalar.addi c0_i32_7 c16_i32
  let c1_i32_8 : BitVec 32 := 1#32
  ⟨c0_i32_7, v17, c1_i32_8⟩
def k0_off15 (i : grid0.Coords) (k0_t3 : Fin k0_t3_loop.trips) : Fin 1 → Nat :=
  let arg0 : BitVec 32 := BitVec.ofNat 32 (i 0).val
  let c16_i32_37 : BitVec 32 := 16#32
  let v79 : BitVec 32 := Scalar.muli arg0 c16_i32_37
  let c0_i32_36 : BitVec 32 := 0#32
  let c0_i32_7 : BitVec 32 := 0#32
  let c1_i32_8 : BitVec 32 := 1#32
  let arg24 : BitVec 32 := Scf.iv c0_i32_7 c1_i32_8 k0_t3
  let c1_i32_35 : BitVec 32 := 1#32
  let v77 : BitVec 32 := Scalar.muli arg24 c1_i32_35
  let v78 : BitVec 32 := Scalar.addi c0_i32_36 v77
  let v80 : BitVec 32 := Scalar.addi v79 v78
  let v81 : Index := Scalar.indexCast v80
  ![v81.toNat]
def k0_off16 (i : grid0.Coords) (k0_t3 : Fin k0_t3_loop.trips) : Fin 1 → Nat :=
  let arg0 : BitVec 32 := BitVec.ofNat 32 (i 0).val
  let c16_i32_37 : BitVec 32 := 16#32
  let v79 : BitVec 32 := Scalar.muli arg0 c16_i32_37
  let c0_i32_36 : BitVec 32 := 0#32
  let c0_i32_7 : BitVec 32 := 0#32
  let c1_i32_8 : BitVec 32 := 1#32
  let arg24 : BitVec 32 := Scf.iv c0_i32_7 c1_i32_8 k0_t3
  let c1_i32_35 : BitVec 32 := 1#32
  let v77 : BitVec 32 := Scalar.muli arg24 c1_i32_35
  let v78 : BitVec 32 := Scalar.addi c0_i32_36 v77
  let v80 : BitVec 32 := Scalar.addi v79 v78
  let v91 : Index := Scalar.indexCast v80
  ![v91.toNat]
def k0_off17 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off18 (i : grid0.Coords) (k0_t3 : Fin k0_t3_loop.trips) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_36 : BitVec 32 := 0#32
  let c0_i32_7 : BitVec 32 := 0#32
  let c1_i32_8 : BitVec 32 := 1#32
  let arg24 : BitVec 32 := Scf.iv c0_i32_7 c1_i32_8 k0_t3
  let c1_i32_35 : BitVec 32 := 1#32
  let v77 : BitVec 32 := Scalar.muli arg24 c1_i32_35
  let v78 : BitVec 32 := Scalar.addi c0_i32_36 v77
  let c0_i32_42 : BitVec 32 := 0#32
  let c0_i32_43 : BitVec 32 := 0#32
  let c0_i32_44 : BitVec 32 := 0#32
  ![v9.toNat, v78.toNat, 0, 0, 0]
def k0_off19 (v92 : BitVec 32) : Fin 4 → Nat :=
  let c802_i32 : BitVec 32 := 802#32
  let v93 : BitVec 32 := Scalar.minsi v92 c802_i32
  let c0_i32_45 : BitVec 32 := 0#32
  let c0_i32_46 : BitVec 32 := 0#32
  let c0_i32_47 : BitVec 32 := 0#32
  ![v93.toNat, 0, 0, 0]
def k0_cond5 (v82 : BitVec 32) : BitVec 1 :=
  let c0_i32_38 : BitVec 32 := 0#32
  let v83 : BitVec 1 := Scalar.cmpi .sge v82 c0_i32_38
  let v84 : BitVec 32 := Scalar.extui v83
  let c0_i32_39 : BitVec 32 := 0#32
  let v85 : BitVec 1 := Scalar.cmpi .ne v84 c0_i32_39
  v85

def k0_off20 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off21 (i : grid0.Coords) (k0_t3 : Fin k0_t3_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_36 : BitVec 32 := 0#32
  let c0_i32_7 : BitVec 32 := 0#32
  let c1_i32_8 : BitVec 32 := 1#32
  let arg24 : BitVec 32 := Scf.iv c0_i32_7 c1_i32_8 k0_t3
  let c1_i32_35 : BitVec 32 := 1#32
  let v77 : BitVec 32 := Scalar.muli arg24 c1_i32_35
  let v78 : BitVec 32 := Scalar.addi c0_i32_36 v77
  let c0_i32_48 : BitVec 32 := 0#32
  let c0_i32_49 : BitVec 32 := 0#32
  ![v9.toNat, v78.toNat, 0, 0]
def k0_off22 (v92 : BitVec 32) : Fin 3 → Nat :=
  let c802_i32 : BitVec 32 := 802#32
  let v93 : BitVec 32 := Scalar.minsi v92 c802_i32
  let c0_i32_50 : BitVec 32 := 0#32
  let c0_i32_51 : BitVec 32 := 0#32
  ![v93.toNat, 0, 0]

def k0_chk3 (v82 : BitVec 32) (v92 : BitVec 32) : Prop :=
  (∀ (k0_h5 : k0_cond5 v82 = 1#1), ∀ a, (k0_off19 v92) a + S1x24x64x128.size a ≤ S803x24x64x128.size a) ∧
  (∀ (k0_h5 : k0_cond5 v82 = 1#1), ∀ (hinb : ∀ a, (k0_off19 v92) a + S1x24x64x128.size a ≤ S803x24x64x128.size a), (Rect.unit (s := S803x24x64x128) (k0_off19 v92) S1x24x64x128.size hinb).WholeWords (EltTy.packing .fp8e4m3)) ∧
  (∀ (k0_h5 : k0_cond5 v82 = 1#1), ∀ a, (k0_off22 v92) a + S1x24x64.size a ≤ S803x24x64.size a)
theorem k0_off19_inb : ∀ (v82 : BitVec 32) (v92 : BitVec 32) (k0_hw3 : k0_chk3 v82 v92), ∀ (k0_h5 : k0_cond5 v82 = 1#1), ∀ a, (k0_off19 v92) a + S1x24x64x128.size a ≤ S803x24x64x128.size a := fun v82 v92 k0_hw3 k0_h5 => k0_hw3.1 k0_h5
theorem k0_off19_wordsfp8e4m3 : ∀ (v82 : BitVec 32) (v92 : BitVec 32) (k0_hw3 : k0_chk3 v82 v92), ∀ (k0_h5 : k0_cond5 v82 = 1#1), (Rect.unit (s := S803x24x64x128) (k0_off19 v92) S1x24x64x128.size (k0_off19_inb v82 v92 k0_hw3 k0_h5)).WholeWords (EltTy.packing .fp8e4m3) := fun v82 v92 k0_hw3 k0_h5 => k0_hw3.2.1 k0_h5 (k0_off19_inb v82 v92 k0_hw3 k0_h5)
theorem k0_off22_inb : ∀ (v82 : BitVec 32) (v92 : BitVec 32) (k0_hw3 : k0_chk3 v82 v92), ∀ (k0_h5 : k0_cond5 v82 = 1#1), ∀ a, (k0_off22 v92) a + S1x24x64.size a ≤ S803x24x64.size a := fun v82 v92 k0_hw3 k0_h5 => k0_hw3.2.2 k0_h5

def k0_off23 (i : grid0.Coords) (k0_t3 : Fin k0_t3_loop.trips) : Fin 1 → Nat :=
  let arg0 : BitVec 32 := BitVec.ofNat 32 (i 0).val
  let c16_i32_37 : BitVec 32 := 16#32
  let v79 : BitVec 32 := Scalar.muli arg0 c16_i32_37
  let c0_i32_36 : BitVec 32 := 0#32
  let c0_i32_7 : BitVec 32 := 0#32
  let c1_i32_8 : BitVec 32 := 1#32
  let arg24 : BitVec 32 := Scf.iv c0_i32_7 c1_i32_8 k0_t3
  let c1_i32_35 : BitVec 32 := 1#32
  let v77 : BitVec 32 := Scalar.muli arg24 c1_i32_35
  let v78 : BitVec 32 := Scalar.addi c0_i32_36 v77
  let v80 : BitVec 32 := Scalar.addi v79 v78
  let v86 : Index := Scalar.indexCast v80
  ![v86.toNat]
def k0_off24 (i : grid0.Coords) (k0_t3 : Fin k0_t3_loop.trips) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v92 : Index := Scalar.indexCast v9
  let c0_i32_36 : BitVec 32 := 0#32
  let c0_i32_7 : BitVec 32 := 0#32
  let c1_i32_8 : BitVec 32 := 1#32
  let arg24 : BitVec 32 := Scf.iv c0_i32_7 c1_i32_8 k0_t3
  let c1_i32_35 : BitVec 32 := 1#32
  let v77 : BitVec 32 := Scalar.muli arg24 c1_i32_35
  let v78 : BitVec 32 := Scalar.addi c0_i32_36 v77
  let v93 : Index := Scalar.indexCast v78
  let c0_43 : Index := 0#32
  let c0_44 : Index := 0#32
  let c0_45 : Index := 0#32
  ![v92.toNat, v93.toNat, 0, 0, 0]
def k0_off25 (i : grid0.Coords) (k0_t3 : Fin k0_t3_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v98 : Index := Scalar.indexCast v9
  let c0_i32_36 : BitVec 32 := 0#32
  let c0_i32_7 : BitVec 32 := 0#32
  let c1_i32_8 : BitVec 32 := 1#32
  let arg24 : BitVec 32 := Scf.iv c0_i32_7 c1_i32_8 k0_t3
  let c1_i32_35 : BitVec 32 := 1#32
  let v77 : BitVec 32 := Scalar.muli arg24 c1_i32_35
  let v78 : BitVec 32 := Scalar.addi c0_i32_36 v77
  let v99 : Index := Scalar.indexCast v78
  let c0_47 : Index := 0#32
  let c0_48 : Index := 0#32
  ![v98.toNat, v99.toNat, 0, 0]
@[reducible] def k0_t4_loop : Scf.Loop 32 :=
  let c0_i32_31 : BitVec 32 := 0#32
  let c16_i32_32 : BitVec 32 := 16#32
  let v76 : BitVec 32 := Scalar.addi c0_i32_31 c16_i32_32
  let c1_i32_33 : BitVec 32 := 1#32
  ⟨c0_i32_31, v76, c1_i32_33⟩
def k0_off26 (k0_t4 : Fin k0_t4_loop.trips) : Fin 2 → Nat :=
  let c0_i32_36 : BitVec 32 := 0#32
  let c0_i32_31 : BitVec 32 := 0#32
  let c1_i32_33 : BitVec 32 := 1#32
  let arg24 : BitVec 32 := Scf.iv c0_i32_31 c1_i32_33 k0_t4
  let c1_i32_35 : BitVec 32 := 1#32
  let v77 : BitVec 32 := Scalar.muli arg24 c1_i32_35
  let v78 : BitVec 32 := Scalar.addi c0_i32_36 v77
  let v79 : Index := Scalar.indexCast v78
  let c0_37 : Index := 0#32
  ![v79.toNat, 0]
def k0_off27 (k0_t4 : Fin k0_t4_loop.trips) : Fin 3 → Nat :=
  let c0_i32_36 : BitVec 32 := 0#32
  let c0_i32_31 : BitVec 32 := 0#32
  let c1_i32_33 : BitVec 32 := 1#32
  let arg24 : BitVec 32 := Scf.iv c0_i32_31 c1_i32_33 k0_t4
  let c1_i32_35 : BitVec 32 := 1#32
  let v77 : BitVec 32 := Scalar.muli arg24 c1_i32_35
  let v78 : BitVec 32 := Scalar.addi c0_i32_36 v77
  let v95 : Index := Scalar.indexCast v78
  let c0_43 : Index := 0#32
  let c0_44 : Index := 0#32
  ![v95.toNat, 0, 0]
def k0_off28 (i : grid0.Coords) (k0_t4 : Fin k0_t4_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v99 : Index := Scalar.indexCast v9
  let c0_i32_36 : BitVec 32 := 0#32
  let c0_i32_31 : BitVec 32 := 0#32
  let c1_i32_33 : BitVec 32 := 1#32
  let arg24 : BitVec 32 := Scf.iv c0_i32_31 c1_i32_33 k0_t4
  let c1_i32_35 : BitVec 32 := 1#32
  let v77 : BitVec 32 := Scalar.muli arg24 c1_i32_35
  let v78 : BitVec 32 := Scalar.addi c0_i32_36 v77
  let v100 : Index := Scalar.indexCast v78
  let c0_45 : Index := 0#32
  let c0_46 : Index := 0#32
  ![v99.toNat, v100.toNat, 0, 0]
def k0_off29 (k0_t4 : Fin k0_t4_loop.trips) : Fin 3 → Nat :=
  let c0_i32_36 : BitVec 32 := 0#32
  let c0_i32_31 : BitVec 32 := 0#32
  let c1_i32_33 : BitVec 32 := 1#32
  let arg24 : BitVec 32 := Scf.iv c0_i32_31 c1_i32_33 k0_t4
  let c1_i32_35 : BitVec 32 := 1#32
  let v77 : BitVec 32 := Scalar.muli arg24 c1_i32_35
  let v78 : BitVec 32 := Scalar.addi c0_i32_36 v77
  let v107 : Index := Scalar.indexCast v78
  let c0_47 : Index := 0#32
  let c0_48 : Index := 0#32
  ![v107.toNat, 0, 0]
def k0_off30 (i : grid0.Coords) (k0_t4 : Fin k0_t4_loop.trips) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v753 : Index := Scalar.indexCast v9
  let c0_i32_36 : BitVec 32 := 0#32
  let c0_i32_31 : BitVec 32 := 0#32
  let c1_i32_33 : BitVec 32 := 1#32
  let arg24 : BitVec 32 := Scf.iv c0_i32_31 c1_i32_33 k0_t4
  let c1_i32_35 : BitVec 32 := 1#32
  let v77 : BitVec 32 := Scalar.muli arg24 c1_i32_35
  let v78 : BitVec 32 := Scalar.addi c0_i32_36 v77
  let v754 : Index := Scalar.indexCast v78
  let c0_260 : Index := 0#32
  let c0_261 : Index := 0#32
  let c0_262 : Index := 0#32
  ![v753.toNat, v754.toNat, 0, 0, 0]
def k0_off31 (k0_t4 : Fin k0_t4_loop.trips) : Fin 4 → Nat :=
  let c0_i32_36 : BitVec 32 := 0#32
  let c0_i32_31 : BitVec 32 := 0#32
  let c1_i32_33 : BitVec 32 := 1#32
  let arg24 : BitVec 32 := Scf.iv c0_i32_31 c1_i32_33 k0_t4
  let c1_i32_35 : BitVec 32 := 1#32
  let v77 : BitVec 32 := Scalar.muli arg24 c1_i32_35
  let v78 : BitVec 32 := Scalar.addi c0_i32_36 v77
  let v1348 : Index := Scalar.indexCast v78
  let c0_487 : Index := 0#32
  let c0_488 : Index := 0#32
  let c0_489 : Index := 0#32
  ![v1348.toNat, 0, 0, 0]
def k0_off32 (k0_t4 : Fin k0_t4_loop.trips) : Fin 3 → Nat :=
  let c0_i32_36 : BitVec 32 := 0#32
  let c0_i32_31 : BitVec 32 := 0#32
  let c1_i32_33 : BitVec 32 := 1#32
  let arg24 : BitVec 32 := Scf.iv c0_i32_31 c1_i32_33 k0_t4
  let c1_i32_35 : BitVec 32 := 1#32
  let v77 : BitVec 32 := Scalar.muli arg24 c1_i32_35
  let v78 : BitVec 32 := Scalar.addi c0_i32_36 v77
  let v1916 : Index := Scalar.indexCast v78
  let c0_668 : Index := 0#32
  let c0_669 : Index := 0#32
  ![v1916.toNat, 0, 0]
def k0_off33 (i : grid0.Coords) (k0_t4 : Fin k0_t4_loop.trips) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3104 : Index := Scalar.indexCast v9
  let c0_i32_36 : BitVec 32 := 0#32
  let c0_i32_31 : BitVec 32 := 0#32
  let c1_i32_33 : BitVec 32 := 1#32
  let arg24 : BitVec 32 := Scf.iv c0_i32_31 c1_i32_33 k0_t4
  let c1_i32_35 : BitVec 32 := 1#32
  let v77 : BitVec 32 := Scalar.muli arg24 c1_i32_35
  let v78 : BitVec 32 := Scalar.addi c0_i32_36 v77
  let v3105 : Index := Scalar.indexCast v78
  let c8 : Index := 8#32
  let c0_1048 : Index := 0#32
  let c0_1049 : Index := 0#32
  ![v3104.toNat, v3105.toNat, 8, 0, 0]
def k0_off34 (k0_t4 : Fin k0_t4_loop.trips) : Fin 4 → Nat :=
  let c0_i32_36 : BitVec 32 := 0#32
  let c0_i32_31 : BitVec 32 := 0#32
  let c1_i32_33 : BitVec 32 := 1#32
  let arg24 : BitVec 32 := Scf.iv c0_i32_31 c1_i32_33 k0_t4
  let c1_i32_35 : BitVec 32 := 1#32
  let v77 : BitVec 32 := Scalar.muli arg24 c1_i32_35
  let v78 : BitVec 32 := Scalar.addi c0_i32_36 v77
  let v3699 : Index := Scalar.indexCast v78
  let c8_1299 : Index := 8#32
  let c0_1300 : Index := 0#32
  let c0_1301 : Index := 0#32
  ![v3699.toNat, 8, 0, 0]
def k0_off35 (k0_t4 : Fin k0_t4_loop.trips) : Fin 3 → Nat :=
  let c0_i32_36 : BitVec 32 := 0#32
  let c0_i32_31 : BitVec 32 := 0#32
  let c1_i32_33 : BitVec 32 := 1#32
  let arg24 : BitVec 32 := Scf.iv c0_i32_31 c1_i32_33 k0_t4
  let c1_i32_35 : BitVec 32 := 1#32
  let v77 : BitVec 32 := Scalar.muli arg24 c1_i32_35
  let v78 : BitVec 32 := Scalar.addi c0_i32_36 v77
  let v4267 : Index := Scalar.indexCast v78
  let c8_1482 : Index := 8#32
  let c0_1483 : Index := 0#32
  ![v4267.toNat, 8, 0]
def k0_off36 (i : grid0.Coords) (k0_t4 : Fin k0_t4_loop.trips) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5455 : Index := Scalar.indexCast v9
  let c0_i32_36 : BitVec 32 := 0#32
  let c0_i32_31 : BitVec 32 := 0#32
  let c1_i32_33 : BitVec 32 := 1#32
  let arg24 : BitVec 32 := Scf.iv c0_i32_31 c1_i32_33 k0_t4
  let c1_i32_35 : BitVec 32 := 1#32
  let v77 : BitVec 32 := Scalar.muli arg24 c1_i32_35
  let v78 : BitVec 32 := Scalar.addi c0_i32_36 v77
  let v5456 : Index := Scalar.indexCast v78
  let c16 : Index := 16#32
  let c0_1862 : Index := 0#32
  let c0_1863 : Index := 0#32
  ![v5455.toNat, v5456.toNat, 16, 0, 0]
def k0_off37 (k0_t4 : Fin k0_t4_loop.trips) : Fin 4 → Nat :=
  let c0_i32_36 : BitVec 32 := 0#32
  let c0_i32_31 : BitVec 32 := 0#32
  let c1_i32_33 : BitVec 32 := 1#32
  let arg24 : BitVec 32 := Scf.iv c0_i32_31 c1_i32_33 k0_t4
  let c1_i32_35 : BitVec 32 := 1#32
  let v77 : BitVec 32 := Scalar.muli arg24 c1_i32_35
  let v78 : BitVec 32 := Scalar.addi c0_i32_36 v77
  let v6050 : Index := Scalar.indexCast v78
  let c16_2113 : Index := 16#32
  let c0_2114 : Index := 0#32
  let c0_2115 : Index := 0#32
  ![v6050.toNat, 16, 0, 0]
def k0_off38 (k0_t4 : Fin k0_t4_loop.trips) : Fin 3 → Nat :=
  let c0_i32_36 : BitVec 32 := 0#32
  let c0_i32_31 : BitVec 32 := 0#32
  let c1_i32_33 : BitVec 32 := 1#32
  let arg24 : BitVec 32 := Scf.iv c0_i32_31 c1_i32_33 k0_t4
  let c1_i32_35 : BitVec 32 := 1#32
  let v77 : BitVec 32 := Scalar.muli arg24 c1_i32_35
  let v78 : BitVec 32 := Scalar.addi c0_i32_36 v77
  let v6618 : Index := Scalar.indexCast v78
  let c16_2296 : Index := 16#32
  let c0_2297 : Index := 0#32
  ![v6618.toNat, 16, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x24x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x24 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x1x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x24 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x24x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x24x64x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x24x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S640x24x64 : Shape := ⟨3, ![640, 24, 64]⟩
abbrev S640x24 : Shape := ⟨2, ![640, 24]⟩
abbrev S24 : Shape := ⟨1, ![24]⟩
abbrev S640x1x128 : Shape := ⟨3, ![640, 1, 128]⟩
abbrev S803x24x64x128 : Shape := ⟨4, ![803, 24, 64, 128]⟩
abbrev S803x24x64 : Shape := ⟨3, ![803, 24, 64]⟩
abbrev S640 : Shape := ⟨1, ![640]⟩
abbrev S_ : Shape := ⟨0, ![]⟩
abbrev S640x1x1x1 : Shape := ⟨4, ![640, 1, 1, 1]⟩
abbrev S640x1 : Shape := ⟨2, ![640, 1]⟩
abbrev S640x24x64x128 : Shape := ⟨4, ![640, 24, 64, 128]⟩
abbrev S640x24x64x1 : Shape := ⟨4, ![640, 24, 64, 1]⟩
abbrev S1x24 : Shape := ⟨2, ![1, 24]⟩
abbrev S640x24x1x1 : Shape := ⟨4, ![640, 24, 1, 1]⟩
abbrev S640x24x1 : Shape := ⟨3, ![640, 24, 1]⟩
abbrev S640x1x1x128 : Shape := ⟨4, ![640, 1, 1, 128]⟩
abbrev S1x24x1 : Shape := ⟨3, ![1, 24, 1]⟩
abbrev S1x1x1x254 : Shape := ⟨4, ![1, 1, 1, 254]⟩
abbrev S640x24x64x254 : Shape := ⟨4, ![640, 24, 64, 254]⟩

abbrev nBuf : Space → Nat
  | .hbm => 39
  | .vmem => 13
  | .smem => 0
  | _ => 0

abbrev bufTy : (tb : Table) → Fin (tcTables nBuf tb) → BufTy
  | .hbm, ⟨0, _⟩ => ⟨S640x24x64, .bf16⟩
  | .hbm, ⟨1, _⟩ => ⟨S640x24, .bf16⟩
  | .hbm, ⟨2, _⟩ => ⟨S24, .f32⟩
  | .hbm, ⟨3, _⟩ => ⟨S24, .f32⟩
  | .hbm, ⟨4, _⟩ => ⟨S640x1x128, .bf16⟩
  | .hbm, ⟨5, _⟩ => ⟨S640x1x128, .bf16⟩
  | .hbm, ⟨6, _⟩ => ⟨S24, .f32⟩
  | .hbm, ⟨7, _⟩ => ⟨S803x24x64x128, .fp8e4m3⟩
  | .hbm, ⟨8, _⟩ => ⟨S803x24x64, .f32⟩
  | .hbm, ⟨9, _⟩ => ⟨S640, .i32⟩
  | .hbm, ⟨10, _⟩ => ⟨S_, .i32⟩
  | .hbm, ⟨11, _⟩ => ⟨S640, .i32⟩
  | .hbm, ⟨12, _⟩ => ⟨S640, .i32⟩
  | .hbm, ⟨13, _⟩ => ⟨S_, .i32⟩
  | .hbm, ⟨14, _⟩ => ⟨S640, .i32⟩
  | .hbm, ⟨15, _⟩ => ⟨S640, .i1⟩
  | .hbm, ⟨16, _⟩ => ⟨S640, .i32⟩
  | .hbm, ⟨17, _⟩ => ⟨S640x1x1x1, .i32⟩
  | .hbm, ⟨18, _⟩ => ⟨S_, .i32⟩
  | .hbm, ⟨19, _⟩ => ⟨S640, .i32⟩
  | .hbm, ⟨20, _⟩ => ⟨S640, .i1⟩
  | .hbm, ⟨21, _⟩ => ⟨S_, .i32⟩
  | .hbm, ⟨22, _⟩ => ⟨S640, .i32⟩
  | .hbm, ⟨23, _⟩ => ⟨S640, .i32⟩
  | .hbm, ⟨24, _⟩ => ⟨S640, .i32⟩
  | .hbm, ⟨25, _⟩ => ⟨S640x1, .i32⟩
  | .hbm, ⟨26, _⟩ => ⟨S640x24x64x128, .fp8e4m3⟩
  | .hbm, ⟨27, _⟩ => ⟨S_, .i32⟩
  | .hbm, ⟨28, _⟩ => ⟨S640, .i32⟩
  | .hbm, ⟨29, _⟩ => ⟨S640, .i1⟩
  | .hbm, ⟨30, _⟩ => ⟨S_, .i32⟩
  | .hbm, ⟨31, _⟩ => ⟨S640, .i32⟩
  | .hbm, ⟨32, _⟩ => ⟨S640, .i32⟩
  | .hbm, ⟨33, _⟩ => ⟨S640, .i32⟩
  | .hbm, ⟨34, _⟩ => ⟨S640x1, .i32⟩
  | .hbm, ⟨35, _⟩ => ⟨S640x24x64, .f32⟩
  | .hbm, ⟨36, _⟩ => ⟨S640x24x64, .bf16⟩
  | .hbm, ⟨37, _⟩ => ⟨S640x24x64x128, .fp8e4m3⟩
  | .hbm, ⟨38, _⟩ => ⟨S640x24x64, .f32⟩
  | .local _ .vmem, ⟨0, _⟩ => ⟨S640x24x64, .bf16⟩
  | .local _ .vmem, ⟨1, _⟩ => ⟨S640x24, .bf16⟩
  | .local _ .vmem, ⟨2, _⟩ => ⟨S24, .f32⟩
  | .local _ .vmem, ⟨3, _⟩ => ⟨S24, .f32⟩
  | .local _ .vmem, ⟨4, _⟩ => ⟨S640x1x128, .bf16⟩
  | .local _ .vmem, ⟨5, _⟩ => ⟨S640x1x128, .bf16⟩
  | .local _ .vmem, ⟨6, _⟩ => ⟨S24, .f32⟩
  | .local _ .vmem, ⟨7, _⟩ => ⟨S640x24x64x128, .fp8e4m3⟩
  | .local _ .vmem, ⟨8, _⟩ => ⟨S640x24x64, .f32⟩
  | .local _ .vmem, ⟨9, _⟩ => ⟨S640x1x1x1, .i32⟩
  | .local _ .vmem, ⟨10, _⟩ => ⟨S640x24x64, .bf16⟩
  | .local _ .vmem, ⟨11, _⟩ => ⟨S640x24x64x128, .fp8e4m3⟩
  | .local _ .vmem, ⟨12, _⟩ => ⟨S640x24x64, .f32⟩
  | _, _ => ⟨S640x24x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_c_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_c_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev main_v20_2 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S640x24x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S640x24 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S640x1x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S640x1x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S640x24x64x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S640x24x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S640x1x1x1 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S640x24x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S640x24x64x128 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S640x24x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.State.Sets.lean ====
/-
  The windows of the kernel's double buffer and of the pool: the memrefs that the transfers name, and the sets of
  elements they cover, as plain conditions on the leading coordinates.
-/
module

public import proofs.«01_k».proof.Proof.Gen.Kernel.Launch
public import proofs.«01_k».proof.Proof.Gen.Kernel.Skeleton
public import Idealize.ShloMosaic.Lib.Pipeline.FrameBody
public import Idealize.ShloMosaic.Lib.Pipeline.Value
public import Idealize.ShloMosaic.Lib.ValueIdxCore
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The code buffer, the scale buffer, the two pool arrays and the table of indices. -/
abbrev mC : Memref sig .tc .vmem S2x16x24x64x128 .fp8e4m3 := Memref.whole cc0_scratch0
abbrev mS : Memref sig .tc .vmem S2x16x24x64 .f32 := Memref.whole cc0_scratch1
abbrev mA : Memref sig .tc .hbm S803x24x64x128 .fp8e4m3 := Memref.whole main_arg7
abbrev mB : Memref sig .tc .hbm S803x24x64 .f32 := Memref.whole main_arg8
abbrev mT : Memref sig .tc .smem S640 .i32 := Memref.whole main_arg9

/-- A window of the code buffer: one sequence of one slot. -/
abbrev winC (o : Fin 5 → ℕ) (h : ∀ a, o a + S1x1x24x64x128.size a ≤ S2x16x24x64x128.size a) : Memref sig .tc .vmem S24x64x128 .fp8e4m3 :=
  (mC.slice (Rect.unit (s := S2x16x24x64x128) o S1x1x24x64x128.size h) (fun _ => rfl)).squeeze S24x64x128 squeezes_S1x1x24x64x128_S24x64x128
/-- A window of the scale buffer: one sequence of one slot. -/
abbrev winS (o : Fin 4 → ℕ) (h : ∀ a, o a + S1x1x24x64.size a ≤ S2x16x24x64.size a) : Memref sig .tc .vmem S24x64 .f32 :=
  (mS.slice (Rect.unit (s := S2x16x24x64) o S1x1x24x64.size h) (fun _ => rfl)).squeeze S24x64 squeezes_S1x1x24x64_S24x64
/-- One row of the pool of codes. -/
abbrev rowA (o : Fin 4 → ℕ) (h : ∀ a, o a + S1x24x64x128.size a ≤ S803x24x64x128.size a) : Memref sig .tc .hbm S24x64x128 .fp8e4m3 :=
  (mA.slice (Rect.unit (s := S803x24x64x128) o S1x24x64x128.size h) (fun _ => rfl)).squeeze S24x64x128 squeezes_S1x24x64x128_S24x64x128
/-- One row of the pool of scales. -/
abbrev rowB (o : Fin 3 → ℕ) (h : ∀ a, o a + S1x24x64.size a ≤ S803x24x64.size a) : Memref sig .tc .hbm S24x64 .f32 :=
  (mB.slice (Rect.unit (s := S803x24x64) o S1x24x64.size h) (fun _ => rfl)).squeeze S24x64 squeezes_S1x24x64_S24x64

/-- The elements of sequence `b` of slot `s` of the code buffer. -/
def setC (c : Dev nD) (s b : ℕ) : Finset (Idx (mC.view.loc (c : Thread nD τ))) :=
  Finset.univ.filter fun j : S2x16x24x64x128.Idx => (j 0).val = s ∧ (j 1).val = b
/-- The elements of sequence `b` of slot `s` of the scale buffer. -/
def setS (c : Dev nD) (s b : ℕ) : Finset (Idx (mS.view.loc (c : Thread nD τ))) :=
  Finset.univ.filter fun j : S2x16x24x64.Idx => (j 0).val = s ∧ (j 1).val = b
/-- The elements of row `r` of the pool of codes. -/
def setA (c : Dev nD) (r : ℕ) : Finset (Idx (mA.view.loc (c : Thread nD τ))) :=
  Finset.univ.filter fun j : S803x24x64x128.Idx => (j 0).val = r
/-- The elements of row `r` of the pool of scales. -/
def setB (c : Dev nD) (r : ℕ) : Finset (Idx (mB.view.loc (c : Thread nD τ))) :=
  Finset.univ.filter fun j : S803x24x64.Idx => (j 0).val = r

/-- The window at `(s, b)` covers exactly the codes of that sequence and slot. -/
theorem set_winC (c : Dev nD) (s b : ℕ) (h) : (winC ![s, b, 0, 0, 0] h).view.set = setC c s b := by
  ext j
  have A : j ∈ (winC ![s, b, 0, 0, 0] h).view.set ↔ ∀ a : Fin 5, (![s, b, 0, 0, 0] : Fin 5 → ℕ) a ≤ (j a : ℕ) ∧ (j a : ℕ) < (![s, b, 0, 0, 0] : Fin 5 → ℕ) a + S1x1x24x64x128.size a := by
    simp only [winC, Memref.view_squeeze, Memref.view_slice, View.set_reshape]
    refine (Iff.of_eq (congrArg (j ∈ ·) (View.set_slice_whole _ _))).trans ?_
    exact Rect.mem_set_unit
  have h0 : (j 0 : ℕ) < 2 := (j 0).isLt
  have h1 : (j 1 : ℕ) < 16 := (j 1).isLt
  have h2 : (j 2 : ℕ) < 24 := (j 2).isLt
  have h3 : (j 3 : ℕ) < 64 := (j 3).isLt
  have h4 : (j 4 : ℕ) < 128 := (j 4).isLt
  rw [A]
  simp only [setC, Finset.mem_filter, Finset.mem_univ, true_and]
  constructor
  · intro H
    exact ⟨by have := H 0; simp at this; omega, by have := H 1; simp at this; omega⟩
  · intro H
    intro a
    fin_cases a <;> simp <;> omega

/-- The window at `(s, b)` covers exactly the scales of that sequence and slot. -/
theorem set_winS (c : Dev nD) (s b : ℕ) (h) : (winS ![s, b, 0, 0] h).view.set = setS c s b := by
  ext j
  have A : j ∈ (winS ![s, b, 0, 0] h).view.set ↔ ∀ a : Fin 4, (![s, b, 0, 0] : Fin 4 → ℕ) a ≤ (j a : ℕ) ∧ (j a : ℕ) < (![s, b, 0, 0] : Fin 4 → ℕ) a + S1x1x24x64.size a := by
    simp only [winS, Memref.view_squeeze, Memref.view_slice, View.set_reshape]
    refine (Iff.of_eq (congrArg (j ∈ ·) (View.set_slice_whole _ _))).trans ?_
    exact Rect.mem_set_unit
  have h0 : (j 0 : ℕ) < 2 := (j 0).isLt
  have h1 : (j 1 : ℕ) < 16 := (j 1).isLt
  have h2 : (j 2 : ℕ) < 24 := (j 2).isLt
  have h3 : (j 3 : ℕ) < 64 := (j 3).isLt
  rw [A]
  simp only [setS, Finset.mem_filter, Finset.mem_univ, true_and]
  constructor
  · intro H
    exact ⟨by have := H 0; simp at this; omega, by have := H 1; simp at this; omega⟩
  · intro H
    intro a
    fin_cases a <;> simp <;> omega

/-- The row at `r` covers exactly the codes of that row. -/
theorem set_rowA (c : Dev nD) (r : ℕ) (h) : (rowA ![r, 0, 0, 0] h).view.set = setA c r := by
  ext j
  have A : j ∈ (rowA ![r, 0, 0, 0] h).view.set ↔ ∀ a : Fin 4, (![r, 0, 0, 0] : Fin 4 → ℕ) a ≤ (j a : ℕ) ∧ (j a : ℕ) < (![r, 0, 0, 0] : Fin 4 → ℕ) a + S1x24x64x128.size a := by
    simp only [rowA, Memref.view_squeeze, Memref.view_slice, View.set_reshape]
    refine (Iff.of_eq (congrArg (j ∈ ·) (View.set_slice_whole _ _))).trans ?_
    exact Rect.mem_set_unit
  have h0 : (j 0 : ℕ) < 803 := (j 0).isLt
  have h1 : (j 1 : ℕ) < 24 := (j 1).isLt
  have h2 : (j 2 : ℕ) < 64 := (j 2).isLt
  have h3 : (j 3 : ℕ) < 128 := (j 3).isLt
  rw [A]
  simp only [setA, Finset.mem_filter, Finset.mem_univ, true_and]
  constructor
  · intro H
    exact by have := H 0; simp at this; omega
  · intro H
    intro a
    fin_cases a <;> simp <;> omega

/-- The row at `r` covers exactly the scales of that row. -/
theorem set_rowB (c : Dev nD) (r : ℕ) (h) : (rowB ![r, 0, 0] h).view.set = setB c r := by
  ext j
  have A : j ∈ (rowB ![r, 0, 0] h).view.set ↔ ∀ a : Fin 3, (![r, 0, 0] : Fin 3 → ℕ) a ≤ (j a : ℕ) ∧ (j a : ℕ) < (![r, 0, 0] : Fin 3 → ℕ) a + S1x24x64.size a := by
    simp only [rowB, Memref.view_squeeze, Memref.view_slice, View.set_reshape]
    refine (Iff.of_eq (congrArg (j ∈ ·) (View.set_slice_whole _ _))).trans ?_
    exact Rect.mem_set_unit
  have h0 : (j 0 : ℕ) < 803 := (j 0).isLt
  have h1 : (j 1 : ℕ) < 24 := (j 1).isLt
  have h2 : (j 2 : ℕ) < 64 := (j 2).isLt
  rw [A]
  simp only [setB, Finset.mem_filter, Finset.mem_univ, true_and]
  constructor
  · intro H
    exact by have := H 0; simp at this; omega
  · intro H
    intro a
    fin_cases a <;> simp <;> omega

/-! ## Reads through a window -/

/-- A read through a window of the code buffer is a read of the buffer at the window's slot and sequence. -/
theorem read_winC (c : Dev nD) (s : Fin 2) (b : Fin 16) (h) (g : Buf (Elt F) (mC.view.loc (c : Thread nD τ))) (i : S24x64x128.Idx) :
    (winC ![s.val, b.val, 0, 0, 0] h).view.read (Elt F) g i = (g : S2x16x24x64x128.Idx → Elt F .fp8e4m3) (ix5 s b (i 0) (i 1) (i 2)) := by
  rw [Memref.read_squeeze_slice mC _ (fun _ => rfl) squeezes_S1x1x24x64x128_S24x64x128 (show S1x1x24x64x128.ShapeCasts S24x64x128 by decide) g]
  refine (shapeCast_apply (s := S1x1x24x64x128) _ _ i (ix5 0 0 (i 0) (i 1) (i 2)) ?_).trans ?_
  · rw [Shape.rowMajor_val_five, Shape.rowMajor_val_three]
    show ((((0 * 1 + 0) * 24 + (i 0).val) * 64 + (i 1).val) * 128 + (i 2).val) = ((i 0).val * 64 + (i 1).val) * 128 + (i 2).val
    omega
  · refine congrArg (g : S2x16x24x64x128.Idx → Elt F .fp8e4m3) (funext fun a => Fin.ext ?_)
    match a with
    | ⟨0, _⟩ => show s.val + 1 * 0 = s.val; omega
    | ⟨1, _⟩ => show b.val + 1 * 0 = b.val; omega
    | ⟨2, _⟩ => show 0 + 1 * (i 0).val = (i 0).val; omega
    | ⟨3, _⟩ => show 0 + 1 * (i 1).val = (i 1).val; omega
    | ⟨4, _⟩ => show 0 + 1 * (i 2).val = (i 2).val; omega

/-- A read through a window of the scale buffer is a read of the buffer at the window's slot and sequence. -/
theorem read_winS (c : Dev nD) (s : Fin 2) (b : Fin 16) (h) (g : Buf (Elt F) (mS.view.loc (c : Thread nD τ))) (i : S24x64.Idx) :
    (winS ![s.val, b.val, 0, 0] h).view.read (Elt F) g i = (g : S2x16x24x64.Idx → Elt F .f32) (ix4 s b (i 0) (i 1)) := by
  rw [Memref.read_squeeze_slice mS _ (fun _ => rfl) squeezes_S1x1x24x64_S24x64 (show S1x1x24x64.ShapeCasts S24x64 by decide) g]
  refine (shapeCast_apply (s := S1x1x24x64) _ _ i (ix4 0 0 (i 0) (i 1)) ?_).trans ?_
  · rw [Shape.rowMajor_val_four, Shape.rowMajor_val_two]
    show (((0 * 1 + 0) * 24 + (i 0).val) * 64 + (i 1).val) = (i 0).val * 64 + (i 1).val
    omega
  · refine congrArg (g : S2x16x24x64.Idx → Elt F .f32) (funext fun a => Fin.ext ?_)
    match a with
    | ⟨0, _⟩ => show s.val + 1 * 0 = s.val; omega
    | ⟨1, _⟩ => show b.val + 1 * 0 = b.val; omega
    | ⟨2, _⟩ => show 0 + 1 * (i 0).val = (i 0).val; omega
    | ⟨3, _⟩ => show 0 + 1 * (i 1).val = (i 1).val; omega

/-- A read through a row of the pool of codes. -/
theorem read_rowA (c : Dev nD) (r : Fin 803) (h) (g : Buf (Elt F) (mA.view.loc (c : Thread nD τ))) (i : S24x64x128.Idx) :
    (rowA ![r.val, 0, 0, 0] h).view.read (Elt F) g i = (g : S803x24x64x128.Idx → Elt F .fp8e4m3) (ix4 r (i 0) (i 1) (i 2)) := by
  rw [Memref.read_squeeze_slice mA _ (fun _ => rfl) squeezes_S1x24x64x128_S24x64x128 (show S1x24x64x128.ShapeCasts S24x64x128 by decide) g]
  refine (shapeCast_apply (s := S1x24x64x128) _ _ i (ix4 0 (i 0) (i 1) (i 2)) ?_).trans ?_
  · rw [Shape.rowMajor_val_four, Shape.rowMajor_val_three]
    show (((0 * 24 + (i 0).val) * 64 + (i 1).val) * 128 + (i 2).val) = ((i 0).val * 64 + (i 1).val) * 128 + (i 2).val
    omega
  · refine congrArg (g : S803x24x64x128.Idx → Elt F .fp8e4m3) (funext fun a => Fin.ext ?_)
    match a with
    | ⟨0, _⟩ => show r.val + 1 * 0 = r.val; omega
    | ⟨1, _⟩ => show 0 + 1 * (i 0).val = (i 0).val; omega
    | ⟨2, _⟩ => show 0 + 1 * (i 1).val = (i 1).val; omega
    | ⟨3, _⟩ => show 0 + 1 * (i 2).val = (i 2).val; omega

/-- A read through a row of the pool of scales. -/
theorem read_rowB (c : Dev nD) (r : Fin 803) (h) (g : Buf (Elt F) (mB.view.loc (c : Thread nD τ))) (i : S24x64.Idx) :
    (rowB ![r.val, 0, 0] h).view.read (Elt F) g i = (g : S803x24x64.Idx → Elt F .f32) (ix3 r (i 0) (i 1)) := by
  rw [Memref.read_squeeze_slice mB _ (fun _ => rfl) squeezes_S1x24x64_S24x64 (show S1x24x64.ShapeCasts S24x64 by decide) g]
  refine (shapeCast_apply (s := S1x24x64) _ _ i (ix3 0 (i 0) (i 1)) ?_).trans ?_
  · rw [Shape.rowMajor_val_three, Shape.rowMajor_val_two]
    show (0 * 24 + (i 0).val) * 64 + (i 1).val = (i 0).val * 64 + (i 1).val
    omega
  · refine congrArg (g : S803x24x64.Idx → Elt F .f32) (funext fun a => Fin.ext ?_)
    match a with
    | ⟨0, _⟩ => show r.val + 1 * 0 = r.val; omega
    | ⟨1, _⟩ => show 0 + 1 * (i 0).val = (i 0).val; omega
    | ⟨2, _⟩ => show 0 + 1 * (i 1).val = (i 1).val; omega

/-! ## The table's words and the rows they name -/

/-- Whether a table word names a row of the pool: it is not negative. -/
abbrev liveW (w : BitVec 32) : Prop := k0_cond2 w = 1#1

/-- The row that a table word names: the word, but at most the last row. -/
def rowW (w : BitVec 32) : ℕ := (Scalar.minsi w 802#32).toNat

/-- A table word names a row exactly when it is not negative. -/
theorem liveW_iff (w : BitVec 32) : liveW w ↔ 0 ≤ w.toInt := by
  have e : ((0#32).sle w = true) ↔ 0 ≤ w.toInt := by simp [BitVec.sle]
  rw [← e]
  unfold liveW k0_cond2
  simp only [Scalar.cmpi, IntOp.cmpi, Scalar.extui]
  cases (0#32).sle w <;> decide

/-- The row a live word names, as a number. -/
theorem rowW_eq (w : BitVec 32) (h : liveW w) : rowW w = min w.toNat 802 := by
  rw [liveW_iff] at h
  have h' : w.toNat < 2 ^ 31 := by
    have := BitVec.toInt_eq_toNat_cond w
    have := w.isLt
    split at * <;> omega
  unfold rowW Scalar.minsi IntOp.minsi
  have e : (w.slt 802#32 = true) ↔ w.toNat < 802 := by
    simp only [BitVec.slt, decide_eq_true_eq]
    have := BitVec.toInt_eq_toNat_cond w
    have h8 : (802#32).toInt = 802 := by decide
    rw [h8]
    split at * <;> omega
  split
  · rename_i hs; rw [e] at hs; omega
  · rename_i hs; rw [e] at hs; simp; omega

/-- The row a live word names lies in the pool. -/
theorem rowW_lt (w : BitVec 32) (h : liveW w) : rowW w < 803 := by rw [rowW_eq w h]; omega

/-- The step of the grid as coordinates. -/
def mkC (x : Fin 40) : grid0.Coords := fun a => ⟨x.val, by match a with | ⟨0, _⟩ => exact x.isLt⟩
theorem eq_mkC (i : grid0.Coords) : i = mkC (i 0) := by
  funext a; match a with | ⟨0, _⟩ => rfl

/-! ## The offsets that the loops compute -/

/-- The first branch is taken at the first step alone. -/
theorem cond1_iff (i : grid0.Coords) : k0_cond1 i = 1#1 ↔ (i 0).val = 0 := by
  have A : ∀ x : Fin 40, (k0_cond1 (mkC x) = 1#1 ↔ x.val = 0) := by decide +kernel
  rw [eq_mkC i]; exact A (i 0)
/-- The second branch is taken at every step but the last. -/
theorem cond3_iff (i : grid0.Coords) : k0_cond3 i = 1#1 ↔ (i 0).val + 1 < 40 := by
  have A : ∀ x : Fin 40, (k0_cond3 (mkC x) = 1#1 ↔ x.val + 1 < 40) := by decide +kernel
  rw [eq_mkC i]; exact A (i 0)

theorem off1_eq (t : Fin k0_t1_loop.trips) : k0_off1 t = ![t.val] := by revert t; decide +kernel
theorem off2_eq (t : Fin k0_t1_loop.trips) : k0_off2 t = ![t.val] := by revert t; decide +kernel
theorem off3_eq (t : Fin k0_t1_loop.trips) : k0_off3 t = ![0, t.val, 0, 0, 0] := by revert t; decide +kernel
theorem off5_eq (t : Fin k0_t1_loop.trips) : k0_off5 t = ![0, t.val, 0, 0] := by revert t; decide +kernel
theorem off7_eq (i : grid0.Coords) (t : Fin k0_t2_loop.trips) (h : (i 0).val + 1 < 40) : k0_off7 i t = ![16 * ((i 0).val + 1) + t.val] := by
  have A : ∀ (x : Fin 40) (t : Fin k0_t2_loop.trips), x.val + 1 < 40 → k0_off7 (mkC x) t = ![16 * (x.val + 1) + t.val] := by decide +kernel
  rw [eq_mkC i]; exact A (i 0) t h
theorem off8_eq (i : grid0.Coords) (t : Fin k0_t2_loop.trips) (h : (i 0).val + 1 < 40) : k0_off8 i t = ![16 * ((i 0).val + 1) + t.val] := by
  have A : ∀ (x : Fin 40) (t : Fin k0_t2_loop.trips), x.val + 1 < 40 → k0_off8 (mkC x) t = ![16 * (x.val + 1) + t.val] := by decide +kernel
  rw [eq_mkC i]; exact A (i 0) t h
theorem off9_eq (i : grid0.Coords) (h : (i 0).val + 1 < 40) : k0_off9 i = ![((i 0).val + 1) % 2] := by
  have A : ∀ (x : Fin 40), x.val + 1 < 40 → k0_off9 (mkC x) = ![(x.val + 1) % 2] := by decide +kernel
  rw [eq_mkC i]; exact A (i 0) h
theorem off12_eq (i : grid0.Coords) (h : (i 0).val + 1 < 40) : k0_off12 i = ![((i 0).val + 1) % 2] := by
  have A : ∀ (x : Fin 40), x.val + 1 < 40 → k0_off12 (mkC x) = ![(x.val + 1) % 2] := by decide +kernel
  rw [eq_mkC i]; exact A (i 0) h
theorem off10_eq (i : grid0.Coords) (t : Fin k0_t2_loop.trips) (h : (i 0).val + 1 < 40) : k0_off10 i t = ![((i 0).val + 1) % 2, t.val, 0, 0, 0] := by
  have A : ∀ (x : Fin 40) (t : Fin k0_t2_loop.trips), x.val + 1 < 40 → k0_off10 (mkC x) t = ![(x.val + 1) % 2, t.val, 0, 0, 0] := by decide +kernel
  rw [eq_mkC i]; exact A (i 0) t h
theorem off13_eq (i : grid0.Coords) (t : Fin k0_t2_loop.trips) (h : (i 0).val + 1 < 40) : k0_off13 i t = ![((i 0).val + 1) % 2, t.val, 0, 0] := by
  have A : ∀ (x : Fin 40) (t : Fin k0_t2_loop.trips), x.val + 1 < 40 → k0_off13 (mkC x) t = ![(x.val + 1) % 2, t.val, 0, 0] := by decide +kernel
  rw [eq_mkC i]; exact A (i 0) t h
theorem off15_eq (i : grid0.Coords) (t : Fin k0_t3_loop.trips) : k0_off15 i t = ![16 * (i 0).val + t.val] := by
  have A : ∀ (x : Fin 40) (t : Fin k0_t3_loop.trips), k0_off15 (mkC x) t = ![16 * x.val + t.val] := by decide +kernel
  rw [eq_mkC i]; exact A (i 0) t
theorem off16_eq (i : grid0.Coords) (t : Fin k0_t3_loop.trips) : k0_off16 i t = ![16 * (i 0).val + t.val] := by
  have A : ∀ (x : Fin 40) (t : Fin k0_t3_loop.trips), k0_off16 (mkC x) t = ![16 * x.val + t.val] := by decide +kernel
  rw [eq_mkC i]; exact A (i 0) t
theorem off23_eq (i : grid0.Coords) (t : Fin k0_t3_loop.trips) : k0_off23 i t = ![16 * (i 0).val + t.val] := by
  have A : ∀ (x : Fin 40) (t : Fin k0_t3_loop.trips), k0_off23 (mkC x) t = ![16 * x.val + t.val] := by decide +kernel
  rw [eq_mkC i]; exact A (i 0) t
theorem off17_eq (i : grid0.Coords) : k0_off17 i = ![(i 0).val % 2] := by
  have A : ∀ (x : Fin 40), k0_off17 (mkC x) = ![x.val % 2] := by decide +kernel
  rw [eq_mkC i]; exact A (i 0)
theorem off20_eq (i : grid0.Coords) : k0_off20 i = ![(i 0).val % 2] := by
  have A : ∀ (x : Fin 40), k0_off20 (mkC x) = ![x.val % 2] := by decide +kernel
  rw [eq_mkC i]; exact A (i 0)
theorem off18_eq (i : grid0.Coords) (t : Fin k0_t3_loop.trips) : k0_off18 i t = ![(i 0).val % 2, t.val, 0, 0, 0] := by
  have A : ∀ (x : Fin 40) (t : Fin k0_t3_loop.trips), k0_off18 (mkC x) t = ![x.val % 2, t.val, 0, 0, 0] := by decide +kernel
  rw [eq_mkC i]; exact A (i 0) t
theorem off24_eq (i : grid0.Coords) (t : Fin k0_t3_loop.trips) : k0_off24 i t = ![(i 0).val % 2, t.val, 0, 0, 0] := by
  have A : ∀ (x : Fin 40) (t : Fin k0_t3_loop.trips), k0_off24 (mkC x) t = ![x.val % 2, t.val, 0, 0, 0] := by decide +kernel
  rw [eq_mkC i]; exact A (i 0) t
theorem off21_eq (i : grid0.Coords) (t : Fin k0_t3_loop.trips) : k0_off21 i t = ![(i 0).val % 2, t.val, 0, 0] := by
  have A : ∀ (x : Fin 40) (t : Fin k0_t3_loop.trips), k0_off21 (mkC x) t = ![x.val % 2, t.val, 0, 0] := by decide +kernel
  rw [eq_mkC i]; exact A (i 0) t
theorem off25_eq (i : grid0.Coords) (t : Fin k0_t3_loop.trips) : k0_off25 i t = ![(i 0).val % 2, t.val, 0, 0] := by
  have A : ∀ (x : Fin 40) (t : Fin k0_t3_loop.trips), k0_off25 (mkC x) t = ![x.val % 2, t.val, 0, 0] := by decide +kernel
  rw [eq_mkC i]; exact A (i 0) t
theorem off28_eq (i : grid0.Coords) (t : Fin k0_t4_loop.trips) : k0_off28 i t = ![(i 0).val % 2, t.val, 0, 0] := by
  have A : ∀ (x : Fin 40) (t : Fin k0_t4_loop.trips), k0_off28 (mkC x) t = ![x.val % 2, t.val, 0, 0] := by decide +kernel
  rw [eq_mkC i]; exact A (i 0) t
theorem off30_eq (i : grid0.Coords) (t : Fin k0_t4_loop.trips) : k0_off30 i t = ![(i 0).val % 2, t.val, 0, 0, 0] := by
  have A : ∀ (x : Fin 40) (t : Fin k0_t4_loop.trips), k0_off30 (mkC x) t = ![x.val % 2, t.val, 0, 0, 0] := by decide +kernel
  rw [eq_mkC i]; exact A (i 0) t
theorem off33_eq (i : grid0.Coords) (t : Fin k0_t4_loop.trips) : k0_off33 i t = ![(i 0).val % 2, t.val, 8, 0, 0] := by
  have A : ∀ (x : Fin 40) (t : Fin k0_t4_loop.trips), k0_off33 (mkC x) t = ![x.val % 2, t.val, 8, 0, 0] := by decide +kernel
  rw [eq_mkC i]; exact A (i 0) t
theorem off36_eq (i : grid0.Coords) (t : Fin k0_t4_loop.trips) : k0_off36 i t = ![(i 0).val % 2, t.val, 16, 0, 0] := by
  have A : ∀ (x : Fin 40) (t : Fin k0_t4_loop.trips), k0_off36 (mkC x) t = ![x.val % 2, t.val, 16, 0, 0] := by decide +kernel
  rw [eq_mkC i]; exact A (i 0) t
theorem off4_eq (w : BitVec 32) : k0_off4 w = ![rowW w, 0, 0, 0] := rfl
theorem off11_eq (w : BitVec 32) : k0_off11 w = ![rowW w, 0, 0, 0] := rfl
theorem off19_eq (w : BitVec 32) : k0_off19 w = ![rowW w, 0, 0, 0] := rfl
theorem off6_eq (w : BitVec 32) : k0_off6 w = ![rowW w, 0, 0] := rfl
theorem off14_eq (w : BitVec 32) : k0_off14 w = ![rowW w, 0, 0] := rfl
theorem off22_eq (w : BitVec 32) : k0_off22 w = ![rowW w, 0, 0] := rfl

/-! ## The side conditions of the transfers -/

/-- A row below the pool's extent fits. -/
theorem inbA (r : ℕ) (hr : r < 803) (a : Fin 4) : (![r, 0, 0, 0] : Fin 4 → ℕ) a + S1x24x64x128.size a ≤ S803x24x64x128.size a := by
  fin_cases a <;> simp <;> omega
theorem inbB (r : ℕ) (hr : r < 803) (a : Fin 3) : (![r, 0, 0] : Fin 3 → ℕ) a + S1x24x64.size a ≤ S803x24x64.size a := by
  fin_cases a <;> simp <;> omega
theorem inbC (s b : ℕ) (hs : s < 2) (hb : b < 16) (a : Fin 5) : (![s, b, 0, 0, 0] : Fin 5 → ℕ) a + S1x1x24x64x128.size a ≤ S2x16x24x64x128.size a := by
  fin_cases a <;> simp <;> omega
theorem inbS (s b : ℕ) (hs : s < 2) (hb : b < 16) (a : Fin 4) : (![s, b, 0, 0] : Fin 4 → ℕ) a + S1x1x24x64.size a ≤ S2x16x24x64.size a := by
  fin_cases a <;> simp <;> omega

/-- A row of codes is made of whole words. -/
theorem wordsA (r : ℕ) (h : ∀ a, (![r, 0, 0, 0] : Fin 4 → ℕ) a + S1x24x64x128.size a ≤ S803x24x64x128.size a) :
    (Rect.unit (s := S803x24x64x128) ![r, 0, 0, 0] S1x24x64x128.size h).WholeWords (EltTy.packing .fp8e4m3) := by
  have A : ∀ x : Fin 803, S803x24x64x128.WholeWordsAt (EltTy.packing .fp8e4m3) ![x.val, 0, 0, 0] S1x24x64x128.size (fun _ => 1) := by decide +kernel
  have hr : r < 803 := by have := h 0; simp at this; omega
  exact A ⟨r, hr⟩

theorem chk1 (i : grid0.Coords) (w : BitVec 32) : k0_chk1 i w w :=
  ⟨fun _ h => inbA _ (rowW_lt w h), fun _ h hi => wordsA _ hi, fun _ h => inbB _ (rowW_lt w h)⟩
theorem chk2 (i : grid0.Coords) (w : BitVec 32) : k0_chk2 i w w :=
  ⟨fun _ h => inbA _ (rowW_lt w h), fun _ h hi => wordsA _ hi, fun _ h => inbB _ (rowW_lt w h)⟩
theorem chk3 (w : BitVec 32) : k0_chk3 w w :=
  ⟨fun h => inbA _ (rowW_lt w h), fun h hi => wordsA _ hi, fun h => inbB _ (rowW_lt w h)⟩

end Cert.Kernel.Hand

end
-- ==== Proof.State.Res.lean ====
/-
  The resources of the kernel's double buffer: a slot that is idle, one whose transfers are being issued, in flight or
  waited for, and one that is ready. Each slot has two semaphores, sixteen windows of codes, sixteen of scales, and a
  read share of either pool for each.
-/
module

public import proofs.«01_k».proof.Proof.State.Sets
public import Idealize.ShloMosaic.Lib.PageRing.Basic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! ## What a block's windows hold -/

/-- The table's word at position `k` (zero outside the table). -/
def tw (T : S640.Idx → BitVec 32) (k : ℕ) : BitVec 32 := if h : k < 640 then T (ix1 ⟨k, h⟩) else 0#32
/-- Whether sequence `b` of block `n` reads a row of the pool. -/
abbrev lv (T : S640.Idx → BitVec 32) (n b : ℕ) : Prop := liveW (tw T (16 * n + b))
/-- The row that sequence `b` of block `n` reads. -/
abbrev rw0 (T : S640.Idx → BitVec 32) (n b : ℕ) : ℕ := rowW (tw T (16 * n + b))
/-- That row, as an index of the pool. -/
def rowF (T : S640.Idx → BitVec 32) (n b : ℕ) : Fin 803 := ⟨min (rw0 T n b) 802, by omega⟩

variable (c : Dev nD) (T : S640.Idx → BitVec 32) (fA : Buf (Elt F) (mA.view.loc (c : Thread nD τ))) (fB : Buf (Elt F) (mB.view.loc (c : Thread nD τ)))

/-- The codes and scales of the row that sequence `b` of block `n` reads. -/
def srcC (n b : ℕ) : S24x64x128.Idx → Elt F .fp8e4m3 := fun i => (fA : S803x24x64x128.Idx → Elt F .fp8e4m3) (ix4 (rowF T n b) (i 0) (i 1) (i 2))
def srcS (n b : ℕ) : S24x64.Idx → Elt F .f32 := fun i => (fB : S803x24x64.Idx → Elt F .f32) (ix3 (rowF T n b) (i 0) (i 1))
/-- The zeros that a sequence without a row gets. -/
def zeroC : S24x64x128.Idx → Elt F .fp8e4m3 := fun i => k0_pay607 (F := F) (ix5 0 0 (i 0) (i 1) (i 2))
def zeroS : S24x64.Idx → Elt F .f32 := fun i => k0_pay608 (F := F) (ix4 0 0 (i 0) (i 1))
/-- What sequence `b` of block `n` computes from: its row, or zeros. -/
def valC (n b : ℕ) : S24x64x128.Idx → Elt F .fp8e4m3 := if lv T n b then srcC c T fA n b else zeroC
def valS (n b : ℕ) : S24x64.Idx → Elt F .f32 := if lv T n b then srcS c T fB n b else zeroS

/-- The code buffer holds `v` in the window of slot `s` and sequence `b`. -/
def HoldsC (s b : ℕ) (g : Buf (Elt F) (mC.view.loc (c : Thread nD τ))) (v : S24x64x128.Idx → Elt F .fp8e4m3) : Prop :=
  ∀ (s' : Fin 2) (b' : Fin 16), s'.val = s → b'.val = b → ∀ i : S24x64x128.Idx, (g : S2x16x24x64x128.Idx → Elt F .fp8e4m3) (ix5 s' b' (i 0) (i 1) (i 2)) = v i
/-- The scale buffer holds `v` in the window of slot `s` and sequence `b`. -/
def HoldsS (s b : ℕ) (g : Buf (Elt F) (mS.view.loc (c : Thread nD τ))) (v : S24x64.Idx → Elt F .f32) : Prop :=
  ∀ (s' : Fin 2) (b' : Fin 16), s'.val = s → b'.val = b → ∀ i : S24x64.Idx, (g : S2x16x24x64.Idx → Elt F .f32) (ix4 s' b' (i 0) (i 1)) = v i

/-! ## Semaphores and amounts -/

/-- The semaphore of slot `s` for the codes, and that for the scales. -/
def csem (s : ℕ) : DmaSem sig := ⟨17 + s % 2, by have : sig.nDmaSem = 21 := rfl; omega⟩
def ssem (s : ℕ) : DmaSem sig := ⟨19 + s % 2, by have : sig.nDmaSem = 21 := rfl; omega⟩

/-- The semaphore that the kernel names for slot `s` of the codes. -/
theorem csem_eq (s : ℕ) (hs : s < 2) (h) :
    ((cc0_scratch2.slice (Rect.unit (s := S2) ![s] S1.size h)).squeeze S_ squeezes_S1_S_).sem = csem s := by
  obtain rfl | rfl : s = 0 ∨ s = 1 := by omega
  · have e : h = (by decide) := rfl
    rw [e]; exact Fin.ext (by show 17 + _ = _; decide +kernel)
  · have e : h = (by decide) := rfl
    rw [e]; exact Fin.ext (by show 17 + _ = _; decide +kernel)
theorem ssem_eq (s : ℕ) (hs : s < 2) (h) :
    ((cc0_scratch3.slice (Rect.unit (s := S2) ![s] S1.size h)).squeeze S_ squeezes_S1_S_).sem = ssem s := by
  obtain rfl | rfl : s = 0 ∨ s = 1 := by omega
  · have e : h = (by decide) := rfl
    rw [e]; exact Fin.ext (by show 19 + _ = _; decide +kernel)
  · have e : h = (by decide) := rfl
    rw [e]; exact Fin.ext (by show 19 + _ = _; decide +kernel)

/-- What one transfer of codes, and one of scales, adds to its semaphore. -/
def NC : ℕ := (winC ![0, 0, 0, 0, 0] (inbC 0 0 (by omega) (by omega))).view.dmaCredit
def NS : ℕ := (winS ![0, 0, 0, 0] (inbS 0 0 (by omega) (by omega))).view.dmaCredit
theorem NC_pos : 0 < NC := by decide +kernel
theorem NS_pos : 0 < NS := by decide +kernel
theorem amountC (o h) (sm : DmaSem sig) : (winC o h).view.amount (.dma sm) = NC := rfl
theorem amountS (o h) (sm : DmaSem sig) : (winS o h).view.amount (.dma sm) = NS := rfl
theorem creditC (o h) : (winC o h).view.dmaCredit = 1 * NC := (Nat.one_mul _).symm
theorem creditS (o h) : (winS o h).view.dmaCredit = 1 * NS := (Nat.one_mul _).symm

/-! ## The resources -/

/-- The read share of the pool that belongs to slot `s` and sequence `b`. -/
def qT (s b : ℕ) : PosShare TreeShare := Transfers.shareTokN fullShare (16 * s + b)

/-- A window of codes at the contents `v`, and one at some contents. -/
def WC (s b : ℕ) (v : S24x64x128.Idx → Elt F .fp8e4m3) : sProp 𝕄 :=
  iprop(∃ g, ⌜HoldsC c s b g v⌝ ∗ (mC.view.loc (c : Thread nD τ) ↦[setC c s b]{fullShare} g))
def WS (s b : ℕ) (v : S24x64.Idx → Elt F .f32) : sProp 𝕄 :=
  iprop(∃ g, ⌜HoldsS c s b g v⌝ ∗ (mS.view.loc (c : Thread nD τ) ↦[setS c s b]{fullShare} g))
def WC' (s b : ℕ) : sProp 𝕄 := iprop(∃ g, (mC.view.loc (c : Thread nD τ) ↦[setC c s b]{fullShare} g))
def WS' (s b : ℕ) : sProp 𝕄 := iprop(∃ g, (mS.view.loc (c : Thread nD τ) ↦[setS c s b]{fullShare} g))
/-- The read shares of slot `s` and sequence `b` of the two pools. -/
def TokA (s b : ℕ) : sProp 𝕄 := (mA.view.loc (c : Thread nD τ) ↦[Finset.univ]{qT s b} fA)
def TokB (s b : ℕ) : sProp 𝕄 := (mB.view.loc (c : Thread nD τ) ↦[Finset.univ]{qT s b} fB)

/-- Slot `s` and sequence `b` while no transfer uses them. -/
def FreeAt (s b : ℕ) : sProp 𝕄 := iprop(WC' c s b ∗ WS' c s b ∗ TokA c fA s b ∗ TokB c fB s b)
/-- What remains of them while the transfers of block `n` are in flight. -/
def LeftAt (s n b : ℕ) : sProp 𝕄 :=
  if lv T n b then
    iprop((mA.view.loc (c : Thread nD τ) ↦[Finset.univ \ setA c (rw0 T n b)]{qT s b} fA)
      ∗ (mB.view.loc (c : Thread nD τ) ↦[Finset.univ \ setB c (rw0 T n b)]{qT s b} fB))
  else FreeAt c fA fB s b
/-- Slot `s` and sequence `b` when block `n`'s contents are there. -/
def ReadyAt (s n b : ℕ) : sProp 𝕄 :=
  iprop(WC c s b (valC c T fA n b) ∗ WS c s b (valS c T fB n b) ∗ TokA c fA s b ∗ TokB c fB s b)

/-- What a landed transfer of codes hands over: its window at the row's codes, and the row's share. -/
def DelC (s n b : ℕ) : sProp 𝕄 :=
  iprop(WC c s b (srcC c T fA n b) ∗ (mA.view.loc (c : Thread nD τ) ↦[setA c (rw0 T n b)]{qT s b} fA))
def DelS (s n b : ℕ) : sProp 𝕄 :=
  iprop(WS c s b (srcS c T fB n b) ∗ (mB.view.loc (c : Thread nD τ) ↦[setB c (rw0 T n b)]{qT s b} fB))

set_option synthInstance.maxHeartbeats 400000 in
instance (s n b : ℕ) : Storable (upEmb : UEmb _ 𝕄) (DelC c T fA s n b) := by unfold DelC WC; infer_instance
set_option synthInstance.maxHeartbeats 400000 in
instance (s n b : ℕ) : Storable (upEmb : UEmb _ 𝕄) (DelS c T fB s n b) := by unfold DelS WS; infer_instance

/-- How many of the first `b` sequences of block `n` read a row, and which is the `i`-th of them. -/
abbrev cnt (n b : ℕ) : ℕ := PageRing.cntP (lv T n) b
abbrev nth (n i : ℕ) : ℕ := PageRing.slotOfP (lv T n) 16 i

/-- The transfers of codes of block `n` into slot `s`: `k` issued, `u` units consumed. -/
def BatC (s n k u : ℕ) : sProp 𝕄 :=
  Transfers.Batch (countersEmb (U := Pipeline.UD sig nD τ)) (c : Thread nD τ) (.dma (csem s)) () NC
    (fun t : Fin (cnt T n 16) => DelC c T fA s n (nth T n t.val)) k u
def BatS (s n k u : ℕ) : sProp 𝕄 :=
  Transfers.Batch (countersEmb (U := Pipeline.UD sig nD τ)) (c : Thread nD τ) (.dma (ssem s)) () NS
    (fun t : Fin (cnt T n 16) => DelS c T fB s n (nth T n t.val)) k u

/-- Slot `s` idle: its semaphores at zero and every sequence free. -/
def Idle (s : ℕ) : sProp 𝕄 :=
  iprop(semVal ((c : Thread nD τ), SemLoc.dma (csem s)) 0 ∗ semVal ((c : Thread nD τ), SemLoc.dma (ssem s)) 0
    ∗ bigSep (Finset.range 16) (FreeAt c fA fB s))
/-- Block `n`'s transfers into slot `s`, those of the first `b` sequences issued. -/
def Iss (s n b : ℕ) : sProp 𝕄 :=
  iprop(BatC c T fA s n (cnt T n b) 0 ∗ BatS c T fB s n (cnt T n b) 0
    ∗ bigSep (Finset.range 16) (fun b' => if b' < b then LeftAt c T fA fB s n b' else FreeAt c fA fB s b'))
/-- Block `n`'s transfers into slot `s`, all issued and none waited for. -/
def Pend (s n : ℕ) : sProp 𝕄 := Iss c T fA fB s n 16
/-- A sequence without a row after its zeros are written. -/
def ZeroAt (s b : ℕ) : sProp 𝕄 := iprop(WC c s b zeroC ∗ WS c s b zeroS ∗ TokA c fA s b ∗ TokB c fB s b)
/-- What sequence `b'` of block `n` has in hand when the first `b` sequences have been waited for. -/
def WaitAt (s n b b' : ℕ) : sProp 𝕄 :=
  if lv T n b' then LeftAt c T fA fB s n b' else if b' < b then ZeroAt c fA fB s b' else FreeAt c fA fB s b'
def Wt (s n b : ℕ) : sProp 𝕄 :=
  iprop(BatC c T fA s n (cnt T n 16) (NC * cnt T n b) ∗ BatS c T fB s n (cnt T n 16) (NS * cnt T n b)
    ∗ bigSep (Finset.range 16) (WaitAt c T fA fB s n b))
/-- Slot `s` with block `n`'s contents in every sequence. -/
def Ready (s n : ℕ) : sProp 𝕄 :=
  iprop(semVal ((c : Thread nD τ), SemLoc.dma (csem s)) 0 ∗ semVal ((c : Thread nD τ), SemLoc.dma (ssem s)) 0
    ∗ bigSep (Finset.range 16) (ReadyAt c T fA fB s n))

/-! ## Moving between them -/

/-- One summand out of a separating product, and its successor back in. -/
theorem take_put (P P' : ℕ → sProp 𝕄) (b : ℕ) (hb : b < 16) (h : ∀ b', b' ≠ b → P b' = P' b') :
    bigSep (Finset.range 16) P ⊢ iprop(P b ∗ (P' b -∗ bigSep (Finset.range 16) P')) := by
  rw [bigSep_erase (Finset.mem_range.mpr hb), bigSep_erase (Φ := P') (Finset.mem_range.mpr hb),
    bigSep_congr (Ψ := P') (fun i hi => h i (Finset.ne_of_mem_erase hi))]
  show iprop(P b ∗ bigSep ((Finset.range 16).erase b) P') ⊢ iprop(P b ∗ (P' b -∗ (P' b ∗ bigSep ((Finset.range 16).erase b) P')))
  iintro ⟨H, HR⟩
  isplitl [H]; · iexact H
  iintro H'
  isplitl [H'] <;> iassumption

/-- Before the first issue: the two batches are allocated from the semaphores at zero. -/
theorem idle_iss (s n : ℕ) : Idle c fA fB s ⊢ (|={Set.univ}=> Iss c T fA fB s n 0 : sProp 𝕄) := by
  unfold Idle Iss BatC BatS
  iintro ⟨H1, H2, HF⟩
  imod (Transfers.batch_alloc' (Lvl := ℕ) (countersEmb (U := Pipeline.UD sig nD τ)) (c : Thread nD τ) () NC
    (fun t : Fin (cnt T n 16) => DelC c T fA s n (nth T n t.val)) (sm := .dma (csem s)) (E := Set.univ)) $$ H1 with HC
  imod (Transfers.batch_alloc' (Lvl := ℕ) (countersEmb (U := Pipeline.UD sig nD τ)) (c : Thread nD τ) () NS
    (fun t : Fin (cnt T n 16) => DelS c T fB s n (nth T n t.val)) (sm := .dma (ssem s)) (E := Set.univ)) $$ H2 with HS
  imodintro
  isplitl [HC]; · iexact HC
  isplitl [HS]; · iexact HS
  iexact HF

/-- All issued, before the first wait. -/
theorem pend_wt (s n : ℕ) : Pend c T fA fB s n ⊢ Wt c T fA fB s n 0 := by
  unfold Pend Iss Wt
  rw [show cnt T n 0 = 0 from rfl, Nat.mul_zero, Nat.mul_zero]
  have h : bigSep (Finset.range 16) (fun b' => if b' < 16 then LeftAt c T fA fB s n b' else FreeAt c fA fB s b') = bigSep (Finset.range 16) (WaitAt c T fA fB s n 0) := by
    refine bigSep_congr fun b hb => ?_
    rw [if_pos (Finset.mem_range.mp hb)]
    unfold WaitAt
    by_cases hl : lv T n b
    · rw [if_pos hl]
    · rw [if_neg hl, if_neg (Nat.not_lt_zero b)]; unfold LeftAt; rw [if_neg hl]
  rw [h]

/-- A live sequence with both transfers landed is ready. -/
theorem ready_live (s n b : ℕ) (hl : lv T n b) :
    iprop(LeftAt c T fA fB s n b ∗ DelC c T fA s n b ∗ DelS c T fB s n b) ⊢ ReadyAt c T fA fB s n b := by
  unfold LeftAt ReadyAt DelC DelS valC valS TokA TokB
  rw [if_pos hl, if_pos hl, if_pos hl]
  iintro ⟨⟨HA, HB⟩, ⟨HC, HA'⟩, HS, HB'⟩
  isplitl [HC]; · iexact HC
  isplitl [HS]; · iexact HS
  isplitl [HA HA']
  · iapply (pointsTo_split_subset (Finset.subset_univ (setA c (rw0 T n b)))).2
    isplitl [HA'] <;> iassumption
  · iapply (pointsTo_split_subset (Finset.subset_univ (setB c (rw0 T n b)))).2
    isplitl [HB'] <;> iassumption

/-- A product over the numbers below `n`, by value. -/
theorem fin_range (n : ℕ) (P : ℕ → sProp 𝕄) : bigSep Finset.univ (fun t : Fin n => P t.val) = bigSep (Finset.range n) P :=
  Ring.bigSep_fin_eq_range n _ P fun _ _ => rfl

/-- The deliveries, put back at their sequences. -/
theorem wt_ready' (s n : ℕ) :
    iprop(bigSep Finset.univ (fun t : Fin (cnt T n 16) => DelC c T fA s n (nth T n t.val))
      ∗ bigSep Finset.univ (fun t : Fin (cnt T n 16) => DelS c T fB s n (nth T n t.val))
      ∗ bigSep (Finset.range 16) (WaitAt c T fA fB s n 16)) ⊢ bigSep (Finset.range 16) (ReadyAt c T fA fB s n) := by
  rw [fin_range (cnt T n 16) (fun i => DelC c T fA s n (nth T n i)), fin_range (cnt T n 16) (fun i => DelS c T fB s n (nth T n i)),
    PageRing.bigSep_liveP (lv T n) (DelC c T fA s n) 16, PageRing.bigSep_liveP (lv T n) (DelS c T fB s n) 16]
  refine (sep_mono .rfl (Entails.of_eq (BI.bigSep_sep _ _ _).symm)).trans ?_
  refine (Entails.of_eq (BI.bigSep_sep _ _ _).symm).trans (bigSep_mono fun b hb => ?_)
  unfold WaitAt
  by_cases hl : lv T n b
  · rw [if_pos hl, if_pos hl, if_pos hl]
    show iprop(DelC c T fA s n b ∗ DelS c T fB s n b ∗ LeftAt c T fA fB s n b) ⊢ _
    iintro ⟨HC, HS, HL⟩
    iapply (ready_live c T fA fB s n b hl)
    isplitl [HL]; · iexact HL
    isplitl [HC] <;> iassumption
  · rw [if_neg hl, if_neg hl, if_neg hl, if_pos (Finset.mem_range.mp hb)]
    unfold ZeroAt ReadyAt valC valS
    rw [if_neg hl, if_neg hl]
    show iprop(emp ∗ emp ∗ (WC c s b zeroC ∗ WS c s b zeroS ∗ TokA c fA s b ∗ TokB c fB s b)) ⊢ iprop(WC c s b zeroC ∗ WS c s b zeroS ∗ TokA c fA s b ∗ TokB c fB s b)
    iintro ⟨-, -, HL⟩
    iexact HL

/-- After the last wait: the deliveries are collected, and every sequence is ready. -/
theorem wt_ready (s n : ℕ) : Wt c T fA fB s n 16 ⊢ (|={Set.univ}=> Ready c T fA fB s n : sProp 𝕄) := by
  unfold Wt Ready BatC BatS
  iintro ⟨HC, HS, HW⟩
  imod (Transfers.batch_collect' (countersEmb (U := Pipeline.UD sig nD τ)) (c : Thread nD τ) NC_pos) $$ HC with ⟨HC, H1⟩
  imod (Transfers.batch_collect' (countersEmb (U := Pipeline.UD sig nD τ)) (c : Thread nD τ) NS_pos) $$ HS with ⟨HS, H2⟩
  imodintro
  isplitl [H1]; · iexact H1
  isplitl [H2]; · iexact H2
  iapply (wt_ready' c T fA fB s n)
  isplitl [HC]; · iexact HC
  isplitl [HS]; · iexact HS
  iexact HW

/-- A ready sequence is free again. -/
theorem ready_free (s n b : ℕ) : ReadyAt c T fA fB s n b ⊢ FreeAt c fA fB s b := by
  unfold ReadyAt FreeAt WC WS WC' WS'
  iintro ⟨⟨%g, -, HC⟩, ⟨%g', -, HS⟩, HA, HB⟩
  isplitl [HC]; · iexists g; iexact HC
  isplitl [HS]; · iexists g'; iexact HS
  isplitl [HA] <;> iassumption

/-- A ready slot is idle again. -/
theorem ready_idle (s n : ℕ) : Ready c T fA fB s n ⊢ Idle c fA fB s := by
  unfold Ready Idle
  iintro ⟨H1, H2, H⟩
  isplitl [H1]; · iexact H1
  isplitl [H2]; · iexact H2
  have h : bigSep (Finset.range 16) (ReadyAt c T fA fB s n) ⊢ bigSep (Finset.range 16) (FreeAt c fA fB s) :=
    bigSep_mono fun b _ => ready_free c T fA fB s n b
  iapply h
  iexact H

end Cert.Kernel.Hand

end
-- ==== Proof.State.Issue.lean ====
/-
  Issuing a sequence's two transfers: the rules for the table's word and for the two enqueues, and the step of the
  issue's state.
-/
module

public import proofs.«01_k».proof.Proof.State.Res

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (c : Dev nD) (T : S640.Idx → BitVec 32) (fA : Buf (Elt F) (mA.view.loc (c : Thread nD τ))) (fB : Buf (Elt F) (mB.view.loc (c : Thread nD τ)))
variable {defs : Defs nD τ sig (Elt F) Λ₀} {𝒱 : Variants} {bd : Option 𝒱.V}

/-- The table at the contents `T`. -/
def Tab (q : PosShare TreeShare) : sProp 𝕄 := (mT.view.loc (c : Thread nD τ) ↦[Finset.univ]{q} T)

/-- Loading the table's word at position `k`. -/
theorem wp_word (q : PosShare TreeShare) {o : Fin 1 → ℕ} (k : ℕ) (hk : k < 640) (e : o = ![k]) (h) (Q : BitVec 32 → sProp 𝕄) :
    Tab (F := F) c T q ⊢ iprop((Tab (F := F) c T q -∗ Q (tw T k))
      -∗ wp frame (wpE defs 𝒱 (c : Thread nD τ) bd) Set.univ (smemLoad (Val := Elt F) mT (Rect.unit (s := S640) o S1.size h) numel1_S1 rfl) Q) := by
  subst e
  have hv : (mT.access (Rect.unit (s := S640) ![k] S1.size h)).read (Elt F) (T : Buf (Elt F) ((mT.access (Rect.unit (s := S640) ![k] S1.size h)).loc (c : Thread nD τ))) (Shape.Idx.first (numel1_S1.symm ▸ Nat.one_pos)) = tw T k := by
    unfold tw
    rw [dif_pos hk]
    show T _ = T _
    refine congrArg T (funext fun a => ?_)
    match a with
    | ⟨0, _⟩ => exact Fin.ext (by show k + 1 * _ = k; simp [Shape.Idx.first])
  unfold Tab
  iintro H HQ
  iapply (wp_smemLoadElt 𝒱 (c : Thread nD τ) bd Set.univ (m := mT) (r := Rect.unit (s := S640) ![k] S1.size h) (hw := View.loads_smem_one rfl numel1_S1)
    (x := Shape.Idx.first (numel1_S1.symm ▸ Nat.one_pos)) (k := .ret) (S := Finset.univ) (q := q) (f := T) (Finset.subset_univ _)) $$ H
  iintro H
  rw [wp_ret, hv]
  imodintro
  iapply HQ
  iexact H

/-- The codes land: their window holds the row's codes. -/
theorem land_codes (s n b : ℕ) (hs : s < 2) (hb : b < 16) (hl : lv T n b) (hC hA) (g) :
    iprop(((winC ![s, b, 0, 0, 0] hC).view.loc (c : Thread nD τ) ↦[setC c s b]{fullShare} (winC ![s, b, 0, 0, 0] hC).view.write (Elt F) g
          ((ReadAs.same).apply ((rowA ![rw0 T n b, 0, 0, 0] hA).view.read (Elt F) fA)) Finset.univ)
        ∗ ((rowA ![rw0 T n b, 0, 0, 0] hA).view.loc (c : Thread nD τ) ↦[(rowA ![rw0 T n b, 0, 0, 0] hA).view.set]{qT s b} fA)) ⊢ DelC c T fA s n b := by
  unfold DelC WC
  rw [set_rowA]
  iintro ⟨H, HA⟩
  isplitl [H]
  · iexists ((winC ![s, b, 0, 0, 0] hC).view.write (Elt F) g ((ReadAs.same).apply ((rowA ![rw0 T n b, 0, 0, 0] hA).view.read (Elt F) fA)) Finset.univ)
    isplitr [H]
    · ipureintro
      intro s' b' hs' hb' i
      subst hs' hb'
      refine Eq.trans (read_winC c s' b' hC _ i).symm ?_
      refine (congrFun (View.read_write_univ _ _) i).trans ?_
      have hr : rw0 T n b'.val < 803 := rowW_lt _ hl
      have e : rowF T n b'.val = ⟨rw0 T n b'.val, hr⟩ := Fin.ext (Nat.min_eq_left (Nat.le_of_lt_succ hr))
      unfold srcC
      rw [e]
      exact read_rowA c ⟨rw0 T n b'.val, hr⟩ hA fA i
    · iexact H
  · iexact HA

/-- The scales land: their window holds the row's scales. -/
theorem land_scales (s n b : ℕ) (hs : s < 2) (hb : b < 16) (hl : lv T n b) (hC hA) (g) :
    iprop(((winS ![s, b, 0, 0] hC).view.loc (c : Thread nD τ) ↦[setS c s b]{fullShare} (winS ![s, b, 0, 0] hC).view.write (Elt F) g
          ((ReadAs.same).apply ((rowB ![rw0 T n b, 0, 0] hA).view.read (Elt F) fB)) Finset.univ)
        ∗ ((rowB ![rw0 T n b, 0, 0] hA).view.loc (c : Thread nD τ) ↦[(rowB ![rw0 T n b, 0, 0] hA).view.set]{qT s b} fB)) ⊢ DelS c T fB s n b := by
  unfold DelS WS
  rw [set_rowB]
  iintro ⟨H, HA⟩
  isplitl [H]
  · iexists ((winS ![s, b, 0, 0] hC).view.write (Elt F) g ((ReadAs.same).apply ((rowB ![rw0 T n b, 0, 0] hA).view.read (Elt F) fB)) Finset.univ)
    isplitr [H]
    · ipureintro
      intro s' b' hs' hb' i
      subst hs' hb'
      refine Eq.trans (read_winS c s' b' hC _ i).symm ?_
      refine (congrFun (View.read_write_univ _ _) i).trans ?_
      have hr : rw0 T n b'.val < 803 := rowW_lt _ hl
      have e : rowF T n b'.val = ⟨rw0 T n b'.val, hr⟩ := Fin.ext (Nat.min_eq_left (Nat.le_of_lt_succ hr))
      unfold srcS
      rw [e]
      exact read_rowB c ⟨rw0 T n b'.val, hr⟩ hA fB i
    · iexact H
  · iexact HA

/-- Issuing the codes' transfer of a live sequence. -/
theorem wp_issueC (s n b : ℕ) (hs : s < 2) (hb : b < 16) (hl : lv T n b) {oC : Fin 5 → ℕ} {oA : Fin 4 → ℕ}
    (eC : oC = ![s, b, 0, 0, 0]) (eA : oA = ![rw0 T n b, 0, 0, 0]) (hC hA) {sm : DmaSem sig} (esm : sm = csem s) (w1 w2 w3)
    (Q : PUnit → sProp 𝕄) :
    iprop(BatC c T fA s n (cnt T n b) 0 ∗ WC' (F := F) c s b ∗ TokA c fA s b)
      ⊢ iprop((BatC c T fA s n (cnt T n (b + 1)) 0 ∗ (mA.view.loc (c : Thread nD τ) ↦[Finset.univ \ setA c (rw0 T n b)]{qT s b} fA) -∗ Q ⟨⟩)
        -∗ wp frame (wpE defs 𝒱 (c : Thread nD τ) bd) Set.univ
            (Prog.lift (.enqueueDma (rowA oA hA) (.here (winC oC hC)) (.dma sm) w1 w2 w3)) Q) := by
  subst eC eA esm
  obtain ⟨hstep, hslot, hlt⟩ := PageRing.live_facts (lv T n) 16 b hb hl
  unfold BatC WC' TokA
  iintro ⟨HB, ⟨%g, HW⟩, HA⟩ HQ
  icases (pointsTo_split_subset (Finset.subset_univ (setA c (rw0 T n b)))).1 $$ HA with ⟨HA, HR⟩
  iapply (Transfers.wp_dmaBatch (countersEmb (U := Pipeline.UD sig nD τ)) 𝒱 (c : Thread nD τ) bd
    (src := rowA ![rw0 T n b, 0, 0, 0] hA) (dst := winC ![s, b, 0, 0, 0] hC) (sm := .dma (csem s)) (via := .same) (hsrc := w1) (hdst := w2) (hsem := w3) (k := .ret)
    (D := fun t : Fin (cnt T n 16) => DelC c T fA s n (nth T n t.val)) () NC (amountC _ _ _)
    (Sd := setC c s b) (q := qT s b) (fs := fA) (fd := g)
    (by rw [set_winC]) hlt (Nat.zero_le _)
    (by simp only [hslot]; exact land_codes c T fA s n b hs hb hl hC hA g)) $$ [HA HW HB]
  · isplitl [HA]; · rw [set_rowA]; iexact HA
    isplitl [HW]; · iexact HW
    iexact HB
  iintro HB
  rw [wp_ret]
  imodintro
  iapply HQ
  isplitl [HB]
  · rw [show cnt T n (b + 1) = cnt T n b + 1 from hstep]; iexact HB
  · iexact HR

/-- Issuing the scales' transfer of a live sequence. -/
theorem wp_issueS (s n b : ℕ) (hs : s < 2) (hb : b < 16) (hl : lv T n b) {oC : Fin 4 → ℕ} {oA : Fin 3 → ℕ}
    (eC : oC = ![s, b, 0, 0]) (eA : oA = ![rw0 T n b, 0, 0]) (hC hA) {sm : DmaSem sig} (esm : sm = ssem s) (w1 w2 w3)
    (Q : PUnit → sProp 𝕄) :
    iprop(BatS c T fB s n (cnt T n b) 0 ∗ WS' (F := F) c s b ∗ TokB c fB s b)
      ⊢ iprop((BatS c T fB s n (cnt T n (b + 1)) 0 ∗ (mB.view.loc (c : Thread nD τ) ↦[Finset.univ \ setB c (rw0 T n b)]{qT s b} fB) -∗ Q ⟨⟩)
        -∗ wp frame (wpE defs 𝒱 (c : Thread nD τ) bd) Set.univ
            (Prog.lift (.enqueueDma (rowB oA hA) (.here (winS oC hC)) (.dma sm) w1 w2 w3)) Q) := by
  subst eC eA esm
  obtain ⟨hstep, hslot, hlt⟩ := PageRing.live_facts (lv T n) 16 b hb hl
  unfold BatS WS' TokB
  iintro ⟨HB, ⟨%g, HW⟩, HA⟩ HQ
  icases (pointsTo_split_subset (Finset.subset_univ (setB c (rw0 T n b)))).1 $$ HA with ⟨HA, HR⟩
  iapply (Transfers.wp_dmaBatch (countersEmb (U := Pipeline.UD sig nD τ)) 𝒱 (c : Thread nD τ) bd
    (src := rowB ![rw0 T n b, 0, 0] hA) (dst := winS ![s, b, 0, 0] hC) (sm := .dma (ssem s)) (via := .same) (hsrc := w1) (hdst := w2) (hsem := w3) (k := .ret)
    (D := fun t : Fin (cnt T n 16) => DelS c T fB s n (nth T n t.val)) () NS (amountS _ _ _)
    (Sd := setS c s b) (q := qT s b) (fs := fB) (fd := g)
    (by rw [set_winS]) hlt (Nat.zero_le _)
    (by simp only [hslot]; exact land_scales c T fB s n b hs hb hl hC hA g)) $$ [HA HW HB]
  · isplitl [HA]; · rw [set_rowB]; iexact HA
    isplitl [HW]; · iexact HW
    iexact HB
  iintro HB
  rw [wp_ret]
  imodintro
  iapply HQ
  isplitl [HB]
  · rw [show cnt T n (b + 1) = cnt T n b + 1 from hstep]; iexact HB
  · iexact HR

/-- Both transfers of a live sequence: the state of the issue before them, and after them. -/
theorem iss_take (s n b : ℕ) (hb : b < 16) (hl : lv T n b) :
    Iss c T fA fB s n b ⊢ iprop((BatC c T fA s n (cnt T n b) 0 ∗ WC' c s b ∗ TokA c fA s b) ∗ (BatS c T fB s n (cnt T n b) 0 ∗ WS' c s b ∗ TokB c fB s b)
      ∗ ((BatC c T fA s n (cnt T n (b + 1)) 0 ∗ (mA.view.loc (c : Thread nD τ) ↦[Finset.univ \ setA c (rw0 T n b)]{qT s b} fA))
          ∗ (BatS c T fB s n (cnt T n (b + 1)) 0 ∗ (mB.view.loc (c : Thread nD τ) ↦[Finset.univ \ setB c (rw0 T n b)]{qT s b} fB))
          -∗ Iss c T fA fB s n (b + 1))) := by
  unfold Iss
  iintro ⟨H1, H2, HF⟩
  have hn : ¬ b < b := Nat.lt_irrefl b
  icases (take_put (fun b' => if b' < b then LeftAt c T fA fB s n b' else FreeAt c fA fB s b')
    (fun b' => if b' < b + 1 then LeftAt c T fA fB s n b' else FreeAt c fA fB s b') b hb
    (fun b' hne => by by_cases h : b' < b
                      · simp only [if_pos h, if_pos (show b' < b + 1 by omega)]
                      · simp only [if_neg h, if_neg (show ¬ b' < b + 1 by omega)])) $$ HF with ⟨HF, HP⟩
  simp only [if_neg hn, if_pos (Nat.lt_succ_self b)]
  unfold FreeAt
  icases HF with ⟨HC, HS, HA, HB⟩
  isplitl [H1 HC HA]
  · isplitl [H1]; · iexact H1
    isplitl [HC] <;> iassumption
  isplitl [H2 HS HB]
  · isplitl [H2]; · iexact H2
    isplitl [HS] <;> iassumption
  iintro ⟨⟨H1, HA⟩, ⟨H2, HB⟩⟩
  isplitl [H1]; · iexact H1
  isplitl [H2]; · iexact H2
  iapply HP
  unfold LeftAt
  rw [if_pos hl]
  isplitl [HA] <;> iassumption

/-- A sequence without a row issues nothing. -/
theorem iss_dead (s n b : ℕ) (hb : b < 16) (hl : ¬ lv T n b) : Iss c T fA fB s n b ⊢ Iss c T fA fB s n (b + 1) := by
  unfold Iss
  rw [show cnt T n (b + 1) = cnt T n b from PageRing.dead_facts (lv T n) b hl]
  have h : bigSep (Finset.range 16) (fun b' => if b' < b then LeftAt c T fA fB s n b' else FreeAt c fA fB s b')
      = bigSep (Finset.range 16) (fun b' => if b' < b + 1 then LeftAt c T fA fB s n b' else FreeAt c fA fB s b') := by
    refine bigSep_congr fun b' _ => ?_
    by_cases h1 : b' < b
    · rw [if_pos h1, if_pos (show b' < b + 1 by omega)]
    · rw [if_neg h1]
      by_cases h2 : b' < b + 1
      · have : b' = b := by omega
        subst this
        rw [if_pos h2]; unfold LeftAt; rw [if_neg hl]
      · rw [if_neg h2]
  rw [h]

end Cert.Kernel.Hand

end
-- ==== Proof.State.Wait.lean ====
/-
  Waiting for a sequence's two transfers, and writing zeros for a sequence without a row: the rules and the steps of
  the state.
-/
module

public import proofs.«01_k».proof.Proof.State.Issue

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (c : Dev nD) (T : S640.Idx → BitVec 32) (fA : Buf (Elt F) (mA.view.loc (c : Thread nD τ))) (fB : Buf (Elt F) (mB.view.loc (c : Thread nD τ)))
variable {defs : Defs nD τ sig (Elt F) Λ₀} {𝒱 : Variants} {bd : Option 𝒱.V}

/-- The count of live sequences grows with the prefix. -/
theorem cnt_mono (n a b : ℕ) (h : a ≤ b) : cnt T n a ≤ cnt T n b := by
  induction b with
  | zero => obtain rfl : a = 0 := by omega
            exact Nat.le_refl _
  | succ b ih =>
    rcases Nat.lt_or_ge a (b + 1) with h' | h'
    · refine (ih (by omega)).trans ?_
      show PageRing.cntP (lv T n) b ≤ PageRing.cntP (lv T n) (b + 1)
      rw [PageRing.cntP_succ]; exact Nat.le_add_right _ _
    · obtain rfl : a = b + 1 := by omega
      exact Nat.le_refl _

/-- Waiting for a live sequence's codes. -/
theorem wp_waitC (s n b : ℕ) (hb : b < 16) (hl : lv T n b) {oC : Fin 5 → ℕ} {oA : Fin 4 → ℕ} (hC hA) {sm : DmaSem sig} (esm : sm = csem s) (w1 w2)
    (Q : PUnit → sProp 𝕄) (W : Waits sig Unit) :
    iprop(BatC c T fA s n (cnt T n 16) (NC * cnt T n b) ∗ owes (c : Thread nD τ) 0 W)
      ⊢ iprop((∀ W', (BatC c T fA s n (cnt T n 16) (NC * cnt T n (b + 1)) ∗ owes (c : Thread nD τ) 0 W') -∗ Q ⟨⟩)
        -∗ wp frame (wpE defs 𝒱 (c : Thread nD τ) bd) Set.univ
            (Prog.lift (.waitDma2 sm (rowA oA hA) (winC oC hC) w1 w2)) Q) := by
  subst esm
  have hstep : cnt T n (b + 1) = cnt T n b + 1 := (PageRing.live_facts (lv T n) 16 b hb hl).1
  have hle : cnt T n (b + 1) ≤ cnt T n 16 := cnt_mono T n _ _ (by omega)
  have e : NC * cnt T n b + 1 * NC = NC * cnt T n (b + 1) := by rw [hstep, Nat.mul_add, Nat.one_mul, Nat.mul_one]
  unfold BatC
  iintro ⟨HB, HO⟩ HQ
  iapply (Transfers.wp_waitBatchMul (countersEmb (U := Pipeline.UD sig nD τ)) 𝒱 (c : Thread nD τ) bd (sem := csem s)
    (srcw := rowA oA hA) (dstw := winC oC hC) (hsrc := w1) (hdst := w2) (k := .ret)
    (D := fun t : Fin (cnt T n 16) => DelC c T fA s n (nth T n t.val)) (j := cnt T n 16) (u := NC * cnt T n b) (W := W) () (N := NC) 1 (creditC _ _) (by rw [e]; exact Nat.mul_le_mul_left _ hle)) $$ [HB HO]
  · isplitl [HB] <;> iassumption
  rw [e]
  iintro ⟨HB, HO⟩
  rw [wp_ret]
  imodintro
  iapply HQ
  isplitl [HB]; · iexact HB
  iexact HO

/-- Waiting for a live sequence's scales. -/
theorem wp_waitS (s n b : ℕ) (hb : b < 16) (hl : lv T n b) {oC : Fin 4 → ℕ} {oA : Fin 3 → ℕ} (hC hA) {sm : DmaSem sig} (esm : sm = ssem s) (w1 w2)
    (Q : PUnit → sProp 𝕄) (W : Waits sig Unit) :
    iprop(BatS c T fB s n (cnt T n 16) (NS * cnt T n b) ∗ owes (c : Thread nD τ) 0 W)
      ⊢ iprop((∀ W', (BatS c T fB s n (cnt T n 16) (NS * cnt T n (b + 1)) ∗ owes (c : Thread nD τ) 0 W') -∗ Q ⟨⟩)
        -∗ wp frame (wpE defs 𝒱 (c : Thread nD τ) bd) Set.univ
            (Prog.lift (.waitDma2 sm (rowB oA hA) (winS oC hC) w1 w2)) Q) := by
  subst esm
  have hstep : cnt T n (b + 1) = cnt T n b + 1 := (PageRing.live_facts (lv T n) 16 b hb hl).1
  have hle : cnt T n (b + 1) ≤ cnt T n 16 := cnt_mono T n _ _ (by omega)
  have e : NS * cnt T n b + 1 * NS = NS * cnt T n (b + 1) := by rw [hstep, Nat.mul_add, Nat.one_mul, Nat.mul_one]
  unfold BatS
  iintro ⟨HB, HO⟩ HQ
  iapply (Transfers.wp_waitBatchMul (countersEmb (U := Pipeline.UD sig nD τ)) 𝒱 (c : Thread nD τ) bd (sem := ssem s)
    (srcw := rowB oA hA) (dstw := winS oC hC) (hsrc := w1) (hdst := w2) (k := .ret)
    (D := fun t : Fin (cnt T n 16) => DelS c T fB s n (nth T n t.val)) (j := cnt T n 16) (u := NS * cnt T n b) (W := W) () (N := NS) 1 (creditS _ _) (by rw [e]; exact Nat.mul_le_mul_left _ hle)) $$ [HB HO]
  · isplitl [HB] <;> iassumption
  rw [e]
  iintro ⟨HB, HO⟩
  rw [wp_ret]
  imodintro
  iapply HQ
  isplitl [HB]; · iexact HB
  iexact HO

/-! ## The zeros of a sequence without a row -/

/-- The rectangle that the zeros are stored through covers the sequence's window. -/
theorem set_accC (s b : ℕ) (h) : (mC.access (Rect.unit (s := S2x16x24x64x128) ![s, b, 0, 0, 0] S1x1x24x64x128.size h)).set = setC c s b := by
  rw [← set_winC c s b h]
  exact (View.set_reshape _ _).symm
theorem set_accS (s b : ℕ) (h) : (mS.access (Rect.unit (s := S2x16x24x64) ![s, b, 0, 0] S1x1x24x64.size h)).set = setS c s b := by
  rw [← set_winS c s b h]
  exact (View.set_reshape _ _).symm

/-- A store through it leaves the stored block in the window. -/
theorem holds_accC (s b : ℕ) (h) (g : Buf (Elt F) (mC.view.loc (c : Thread nD τ))) (w : S1x1x24x64x128.Idx → Elt F .fp8e4m3) :
    HoldsC c s b ((mC.access (Rect.unit (s := S2x16x24x64x128) ![s, b, 0, 0, 0] S1x1x24x64x128.size h)).write (Elt F) g w Finset.univ)
      (fun i => w (ix5 0 0 (i 0) (i 1) (i 2))) := by
  intro s' b' hs hb i
  subst hs hb
  have e : ix5 s' b' (i 0) (i 1) (i 2) = (mC.access (Rect.unit (s := S2x16x24x64x128) ![s'.val, b'.val, 0, 0, 0] S1x1x24x64x128.size h)).emb
      (ix5 0 0 (i 0) (i 1) (i 2)) := by
    funext a
    refine Fin.ext ?_
    match a with
    | ⟨0, _⟩ => show s'.val = s'.val + 1 * 0; omega
    | ⟨1, _⟩ => show b'.val = b'.val + 1 * 0; omega
    | ⟨2, _⟩ => show (i 0).val = 0 + 1 * (i 0).val; omega
    | ⟨3, _⟩ => show (i 1).val = 0 + 1 * (i 1).val; omega
    | ⟨4, _⟩ => show (i 2).val = 0 + 1 * (i 2).val; omega
  exact (congrArg _ e).trans (View.write_emb_of_mem _ _ (Finset.mem_univ _))
theorem holds_accS (s b : ℕ) (h) (g : Buf (Elt F) (mS.view.loc (c : Thread nD τ))) (w : S1x1x24x64.Idx → Elt F .f32) :
    HoldsS c s b ((mS.access (Rect.unit (s := S2x16x24x64) ![s, b, 0, 0] S1x1x24x64.size h)).write (Elt F) g w Finset.univ)
      (fun i => w (ix4 0 0 (i 0) (i 1))) := by
  intro s' b' hs hb i
  subst hs hb
  have e : ix4 s' b' (i 0) (i 1) = (mS.access (Rect.unit (s := S2x16x24x64) ![s'.val, b'.val, 0, 0] S1x1x24x64.size h)).emb
      (ix4 0 0 (i 0) (i 1)) := by
    funext a
    refine Fin.ext ?_
    match a with
    | ⟨0, _⟩ => show s'.val = s'.val + 1 * 0; omega
    | ⟨1, _⟩ => show b'.val = b'.val + 1 * 0; omega
    | ⟨2, _⟩ => show (i 0).val = 0 + 1 * (i 0).val; omega
    | ⟨3, _⟩ => show (i 1).val = 0 + 1 * (i 1).val; omega
  exact (congrArg _ e).trans (View.write_emb_of_mem _ _ (Finset.mem_univ _))

/-- Loading a window of codes before its zeros are stored (the value is not used). -/
theorem wp_loadC (s b : ℕ) {o : Fin 5 → ℕ} (e : o = ![s, b, 0, 0, 0]) (h hl) (Q : (S1x1x24x64x128.Idx → Elt F .fp8e4m3) → sProp 𝕄) :
    WC' (F := F) c s b ⊢ iprop((∀ v, WC' (F := F) c s b -∗ Q v)
      -∗ wp frame (wpE defs 𝒱 (c : Thread nD τ) bd) Set.univ (Prog.lift (.load mC (Rect.unit (s := S2x16x24x64x128) o S1x1x24x64x128.size h).toLoadRect hl)) Q) := by
  subst e
  unfold WC'
  iintro ⟨%g, H⟩ HQ
  iapply (wp_load_rect 𝒱 (c : Thread nD τ) bd Set.univ (m := mC) (r := Rect.unit (s := S2x16x24x64x128) ![s, b, 0, 0, 0] S1x1x24x64x128.size h) (hl := hl)
    (k := .ret) (S := setC c s b) (f := g) (by rw [set_accC])) $$ H
  iintro H
  rw [wp_ret]
  imodintro
  iapply HQ
  iexists g
  iexact H
/-- Storing the zeros of the codes. -/
theorem wp_storeC (s b : ℕ) {o : Fin 5 → ℕ} (e : o = ![s, b, 0, 0, 0]) (h hx hm) (w : S1x1x24x64x128.Idx → Elt F .fp8e4m3) (Q : PUnit → sProp 𝕄) :
    WC' (F := F) c s b ⊢ iprop((WC (F := F) c s b (fun i => w (ix5 0 0 (i 0) (i 1) (i 2))) -∗ Q ⟨⟩)
      -∗ wp frame (wpE defs 𝒱 (c : Thread nD τ) bd) Set.univ (Prog.lift (.store mC (Rect.unit (s := S2x16x24x64x128) o S1x1x24x64x128.size h) w Finset.univ hx hm)) Q) := by
  subst e
  unfold WC' WC
  iintro ⟨%g, H⟩ HQ
  iapply (wp_store 𝒱 (c : Thread nD τ) bd Set.univ (m := mC) (r := Rect.unit (s := S2x16x24x64x128) ![s, b, 0, 0, 0] S1x1x24x64x128.size h) (hx := hx) (hm := hm)
    (w := w) (k := .ret) (S := setC c s b) (f := g) (by rw [View.setOn_univ, set_accC])) $$ H
  iintro H
  rw [wp_ret]
  imodintro
  iapply HQ
  iexists ((mC.access (Rect.unit (s := S2x16x24x64x128) ![s, b, 0, 0, 0] S1x1x24x64x128.size h)).write (Elt F) g w Finset.univ)
  isplitr [H]
  · ipureintro; exact holds_accC c s b h g w
  · iexact H
/-- Loading a window of scales before its zeros are stored (the value is not used). -/
theorem wp_loadS (s b : ℕ) {o : Fin 4 → ℕ} (e : o = ![s, b, 0, 0]) (h hl) (Q : (S1x1x24x64.Idx → Elt F .f32) → sProp 𝕄) :
    WS' (F := F) c s b ⊢ iprop((∀ v, WS' (F := F) c s b -∗ Q v)
      -∗ wp frame (wpE defs 𝒱 (c : Thread nD τ) bd) Set.univ (Prog.lift (.load mS (Rect.unit (s := S2x16x24x64) o S1x1x24x64.size h).toLoadRect hl)) Q) := by
  subst e
  unfold WS'
  iintro ⟨%g, H⟩ HQ
  iapply (wp_load_rect 𝒱 (c : Thread nD τ) bd Set.univ (m := mS) (r := Rect.unit (s := S2x16x24x64) ![s, b, 0, 0] S1x1x24x64.size h) (hl := hl)
    (k := .ret) (S := setS c s b) (f := g) (by rw [set_accS])) $$ H
  iintro H
  rw [wp_ret]
  imodintro
  iapply HQ
  iexists g
  iexact H
/-- Storing the zeros of the scales. -/
theorem wp_storeS (s b : ℕ) {o : Fin 4 → ℕ} (e : o = ![s, b, 0, 0]) (h hx hm) (w : S1x1x24x64.Idx → Elt F .f32) (Q : PUnit → sProp 𝕄) :
    WS' (F := F) c s b ⊢ iprop((WS (F := F) c s b (fun i => w (ix4 0 0 (i 0) (i 1))) -∗ Q ⟨⟩)
      -∗ wp frame (wpE defs 𝒱 (c : Thread nD τ) bd) Set.univ (Prog.lift (.store mS (Rect.unit (s := S2x16x24x64) o S1x1x24x64.size h) w Finset.univ hx hm)) Q) := by
  subst e
  unfold WS' WS
  iintro ⟨%g, H⟩ HQ
  iapply (wp_store 𝒱 (c : Thread nD τ) bd Set.univ (m := mS) (r := Rect.unit (s := S2x16x24x64) ![s, b, 0, 0] S1x1x24x64.size h) (hx := hx) (hm := hm)
    (w := w) (k := .ret) (S := setS c s b) (f := g) (by rw [View.setOn_univ, set_accS])) $$ H
  iintro H
  rw [wp_ret]
  imodintro
  iapply HQ
  iexists ((mS.access (Rect.unit (s := S2x16x24x64) ![s, b, 0, 0] S1x1x24x64.size h)).write (Elt F) g w Finset.univ)
  isplitr [H]
  · ipureintro; exact holds_accS c s b h g w
  · iexact H

/-- The second guard of the wait loop is the first one's negation. -/
theorem dead_iff (w : BitVec 32) : (Scalar.cmpi .ne (Scalar.extui (Scalar.cmpi .slt w 0#32) : BitVec 32) 0#32 = 1#1) ↔ ¬ liveW w := by
  have e : liveW w ↔ w.slt 0#32 = false := by
    rw [liveW_iff]; simp [BitVec.slt]
  rw [e]
  simp only [Scalar.cmpi, IntOp.cmpi, Scalar.extui]
  cases w.slt 0#32 <;> decide

/-- The state of the waits around a live sequence. -/
theorem wt_live (s n b : ℕ) (hl : lv T n b) :
    bigSep (Finset.range 16) (WaitAt c T fA fB s n b) ⊢ bigSep (Finset.range 16) (WaitAt c T fA fB s n (b + 1)) := by
  have h : bigSep (Finset.range 16) (WaitAt c T fA fB s n b) = bigSep (Finset.range 16) (WaitAt c T fA fB s n (b + 1)) := by
    refine bigSep_congr fun b' _ => ?_
    unfold WaitAt
    by_cases h : lv T n b'
    · rw [if_pos h, if_pos h]
    · rw [if_neg h, if_neg h]
      have hne : b' ≠ b := fun e => h (e ▸ hl)
      by_cases h1 : b' < b
      · rw [if_pos h1, if_pos (show b' < b + 1 by omega)]
      · rw [if_neg h1, if_neg (show ¬ b' < b + 1 by omega)]
  rw [h]
/-- The state of the waits around a sequence without a row. -/
theorem wt_dead (s n b : ℕ) (hb : b < 16) (hl : ¬ lv T n b) :
    bigSep (Finset.range 16) (WaitAt c T fA fB s n b) ⊢ iprop(FreeAt c fA fB s b
      ∗ (ZeroAt c fA fB s b -∗ bigSep (Finset.range 16) (WaitAt c T fA fB s n (b + 1)))) := by
  have h := take_put (WaitAt c T fA fB s n b) (WaitAt c T fA fB s n (b + 1)) b hb (fun b' hne => by
    unfold WaitAt
    by_cases h : lv T n b'
    · rw [if_pos h, if_pos h]
    · rw [if_neg h, if_neg h]
      by_cases h1 : b' < b
      · rw [if_pos h1, if_pos (show b' < b + 1 by omega)]
      · rw [if_neg h1, if_neg (show ¬ b' < b + 1 by omega)])
  have e1 : WaitAt c T fA fB s n b b = FreeAt c fA fB s b := by
    unfold WaitAt; rw [if_neg hl, if_neg (Nat.lt_irrefl b)]
  have e2 : WaitAt c T fA fB s n (b + 1) b = ZeroAt c fA fB s b := by
    unfold WaitAt; rw [if_neg hl, if_pos (Nat.lt_succ_self b)]
  rw [e1, e2] at h
  exact h

end Cert.Kernel.Hand

end
-- ==== Proof.State.Trip4.lean ====
/-
The compute trip: one sequence's update, run once through.
-/
module

public import proofs.«01_k».proof.Proof.State.Wait
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Memref (isWhole_whole)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (c : Dev nD) (i : grid0.Coords)
  (arg2 : Memref sig .tc .vmem S16x24x64 .bf16) (harg2 : arg2.IsWhole) (arg3 : Memref sig .tc .vmem S16x24 .bf16) (harg3 : arg3.IsWhole)
  (arg4 : Memref sig .tc .vmem S1x24 .f32) (harg4 : arg4.IsWhole) (arg5 : Memref sig .tc .vmem S1x24 .f32) (harg5 : arg5.IsWhole)
  (arg6 : Memref sig .tc .vmem S16x1x128 .bf16) (harg6 : arg6.IsWhole) (arg7 : Memref sig .tc .vmem S16x1x128 .bf16) (harg7 : arg7.IsWhole)
  (arg8 : Memref sig .tc .vmem S1x24 .f32) (harg8 : arg8.IsWhole)
  (arg11 : Memref sig .tc .vmem S16x24x64 .bf16) (harg11 : arg11.IsWhole) (arg12 : Memref sig .tc .vmem S16x24x64x128 .fp8e4m3) (harg12 : arg12.IsWhole)
  (arg13 : Memref sig .tc .vmem S16x24x64 .f32) (harg13 : arg13.IsWhole)
  (arg18 : Memref sig .tc .vmem S512x128 .bf16) (harg18 : arg18.IsWhole) (arg19 : Memref sig .tc .vmem S512x128 .f32) (harg19 : arg19.IsWhole)
  (arg20 : Memref sig .tc .vmem S3x512x128 .fp8e4m3) (harg20 : arg20.IsWhole) (arg21 : Memref sig .tc .vmem S3x512x128 .f32) (harg21 : arg21.IsWhole)
  (arg22 : Memref sig .tc .vmem S16x24 .f32) (harg22 : arg22.IsWhole) (arg23 : Memref sig .tc .vmem S16x24 .f32) (harg23 : arg23.IsWhole)

/-- A buffer's contents on core `c`, and the buffer held whole at them. -/
abbrev Bf {sp : Space} {S : Shape} {e : EltTy} (M : Memref sig .tc sp S e) : Type := Buf (Elt F) (M.view.loc (c : Thread nD τ))
abbrev pt {sp : Space} {S : Shape} {e : EltTy} (M : Memref sig .tc sp S e) (f : Bf (F := F) c M) : sProp 𝕄 :=
  M.view.loc (c : Thread nD τ) ↦{fullShare} f

/-- What one sequence's trip leaves in the code and scale blocks, with the proof that the trip runs. -/
noncomputable def trip4Run (v9 : BitVec 32) (v20 : IVec S24x24 1) (v28 : FVec F S24x1 .f32) (v57 : FVec F S128x128 .bf16) (v74 v75 : IVec S16x512 32) (t : Fin k0_t4_loop.trips)
    (f2 : Bf (F := F) c arg2) (f6 : Bf (F := F) c arg6) (f7 : Bf (F := F) c arg7) (f18 : Bf (F := F) c arg18) (f22 : Bf (F := F) c arg22) (f23 : Bf (F := F) c arg23)
    (hwC : ∀ a, (![(i 0).val % 2, t.val, 0, 0, 0] : Fin 5 → ℕ) a + S1x1x24x64x128.size a ≤ S2x16x24x64x128.size a) (hwS : ∀ a, (![(i 0).val % 2, t.val, 0, 0] : Fin 4 → ℕ) a + S1x1x24x64.size a ≤ S2x16x24x64.size a)
    (gC : Bf (F := F) c mC) (gS : Bf (F := F) c mS) (f12 : Bf (F := F) c arg12) (f13 : Bf (F := F) c arg13) :
    { W : Bf (F := F) c arg12 × Bf (F := F) c arg13 //
      ∀ (defs : Defs nD τ sig (Elt F) Λ₀) (f11 : Bf (F := F) c arg11) (f19 : Bf (F := F) c arg19) (f20 : Bf (F := F) c arg20) (f21 : Bf (F := F) c arg21)
        (hC0 : (mC.access (Rect.unit (s := S2x16x24x64x128) (k0_off30 i t) S1x1x8x64x128.size (k0_off30_inb i t))).set ⊆ (winC ![(i 0).val % 2, t.val, 0, 0, 0] hwC).view.set)
        (hC1 : (mC.access (Rect.unit (s := S2x16x24x64x128) (k0_off33 i t) S1x1x8x64x128.size (k0_off33_inb i t))).set ⊆ (winC ![(i 0).val % 2, t.val, 0, 0, 0] hwC).view.set)
        (hC2 : (mC.access (Rect.unit (s := S2x16x24x64x128) (k0_off36 i t) S1x1x8x64x128.size (k0_off36_inb i t))).set ⊆ (winC ![(i 0).val % 2, t.val, 0, 0, 0] hwC).view.set)
        (hS : (mS.access (Rect.unit (s := S2x16x24x64) (k0_off28 i t) S1x1x24x64.size (k0_off28_inb i t))).set ⊆ (winS ![(i 0).val % 2, t.val, 0, 0] hwS).view.set)
        (Q : Unit → sProp 𝕄),
        iprop(pt c arg2 f2 ∗ pt c arg6 f6 ∗ pt c arg7 f7 ∗ pt c arg18 f18 ∗ pt c arg22 f22 ∗ pt c arg23 f23
          ∗ ((winC ![(i 0).val % 2, t.val, 0, 0, 0] hwC).view.loc (c : Thread nD τ) ↦[(winC ![(i 0).val % 2, t.val, 0, 0, 0] hwC).view.set]{fullShare} gC) ∗ ((winS ![(i 0).val % 2, t.val, 0, 0] hwS).view.loc (c : Thread nD τ) ↦[(winS ![(i 0).val % 2, t.val, 0, 0] hwS).view.set]{fullShare} gS)
          ∗ pt c arg11 f11 ∗ pt c arg12 f12 ∗ pt c arg13 f13 ∗ pt c arg19 f19 ∗ pt c arg20 f20 ∗ pt c arg21 f21
          ∗ (iprop(pt c arg2 f2 ∗ pt c arg6 f6 ∗ pt c arg7 f7 ∗ pt c arg18 f18 ∗ pt c arg22 f22 ∗ pt c arg23 f23
              ∗ ((winC ![(i 0).val % 2, t.val, 0, 0, 0] hwC).view.loc (c : Thread nD τ) ↦[(winC ![(i 0).val % 2, t.val, 0, 0, 0] hwC).view.set]{fullShare} gC) ∗ ((winS ![(i 0).val % 2, t.val, 0, 0] hwS).view.loc (c : Thread nD τ) ↦[(winS ![(i 0).val % 2, t.val, 0, 0] hwS).view.set]{fullShare} gS)
              ∗ (∃ f, pt c arg11 f) ∗ pt c arg12 W.1 ∗ pt c arg13 W.2 ∗ (∃ f, pt c arg19 f) ∗ (∃ f, pt c arg20 f) ∗ (∃ f, pt c arg21 f)) -∗ Q ⟨⟩))
          ⊢ wp frame (wpE defs Variants.none (c : Thread nD τ) none) Set.univ (k0_t4_body i mT (isWhole_whole _) arg2 harg2 arg3 harg3 arg4 harg4 arg5 harg5 arg6 harg6 arg7 harg7 arg8 harg8 mA (isWhole_whole _) mB (isWhole_whole _) arg11 harg11 arg12 harg12 arg13 harg13 mC (isWhole_whole _) mS (isWhole_whole _) cc0_scratch2 cc0_scratch3 arg18 harg18 arg19 harg19 arg20 harg20 arg21 harg21 arg22 harg22 arg23 harg23 v9 v20 v28 v57 v74 v75 t ⟨⟩) Q } := by
  refine ⟨⟨?_, ?_⟩, fun defs f11 f19 f20 f21 hC0 hC1 hC2 hS Q => ?run⟩
  case run =>
    iintro ⟨H2, H6, H7, H18, H22, H23, HC, HS, H11, H12, H13, H19, H20, H21, Hk⟩
    unfold k0_t4_body
    sl_exec_parts!
    sl_step
    iapply Hk
    isplitl [H2]; · iexact H2
    isplitl [H6]; · iexact H6
    isplitl [H7]; · iexact H7
    isplitl [H18]; · iexact H18
    isplitl [H22]; · iexact H22
    isplitl [H23]; · iexact H23
    isplitl [HC]; · iexact HC
    isplitl [HS]; · iexact HS
    isplitl [H11]; · iexists _; iexact H11
    isplitl [H12]; · iexact H12
    isplitl [H13]; · iexact H13
    isplitl [H19]; · iexists _; iexact H19
    isplitl [H20]; · iexists _; iexact H20
    iexists _; iexact H21

end Cert.Kernel.Hand

end
-- ==== Proof.State.Step4.lean ====
/-
A trip of the compute loop over the windows that are ready.
-/
module

public import proofs.«01_k».proof.Proof.State.Trip4

@[expose] public section

set_option maxRecDepth 16384

noncomputable section

namespace Cert.Kernel.Hand

open Cert.Kernel Cert.Kernel.Gen
open Idealize.ShloMosaic Idealize.ShloMosaic.TcCoe Idealize.ShloMosaic.Tactic
open Memref (isWhole_whole)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (c : Dev nD) (T : S640.Idx → BitVec 32) (fA : Buf (Elt F) (mA.view.loc (c : Thread nD τ))) (fB : Buf (Elt F) (mB.view.loc (c : Thread nD τ)))
variable {defs : Defs nD τ sig (Elt F) Λ₀} {𝒱 : Variants} {bd : Option 𝒱.V}
variable (i : grid0.Coords)
  (arg2 : Memref sig .tc .vmem S16x24x64 .bf16) (harg2 : arg2.IsWhole) (arg3 : Memref sig .tc .vmem S16x24 .bf16) (harg3 : arg3.IsWhole)
  (arg4 : Memref sig .tc .vmem S1x24 .f32) (harg4 : arg4.IsWhole) (arg5 : Memref sig .tc .vmem S1x24 .f32) (harg5 : arg5.IsWhole)
  (arg6 : Memref sig .tc .vmem S16x1x128 .bf16) (harg6 : arg6.IsWhole) (arg7 : Memref sig .tc .vmem S16x1x128 .bf16) (harg7 : arg7.IsWhole)
  (arg8 : Memref sig .tc .vmem S1x24 .f32) (harg8 : arg8.IsWhole)
  (arg11 : Memref sig .tc .vmem S16x24x64 .bf16) (harg11 : arg11.IsWhole) (arg12 : Memref sig .tc .vmem S16x24x64x128 .fp8e4m3) (harg12 : arg12.IsWhole)
  (arg13 : Memref sig .tc .vmem S16x24x64 .f32) (harg13 : arg13.IsWhole)
  (arg18 : Memref sig .tc .vmem S512x128 .bf16) (harg18 : arg18.IsWhole) (arg19 : Memref sig .tc .vmem S512x128 .f32) (harg19 : arg19.IsWhole)
  (arg20 : Memref sig .tc .vmem S3x512x128 .fp8e4m3) (harg20 : arg20.IsWhole) (arg21 : Memref sig .tc .vmem S3x512x128 .f32) (harg21 : arg21.IsWhole)
  (arg22 : Memref sig .tc .vmem S16x24 .f32) (harg22 : arg22.IsWhole) (arg23 : Memref sig .tc .vmem S16x24 .f32) (harg23 : arg23.IsWhole)

/-- A whole buffer, the rectangle of all of it, and reading through it. -/
theorem set_whole_sub {S : Shape} {sp : CoreSpace} {e : EltTy} (m : Memref sig .tc sp S e) (r : Rect S) :
    (m.access r).set ⊆ (Finset.univ : Finset (Idx ((m.access r).loc (c : Thread nD τ)))) := Finset.subset_univ _

/-- Loading from a buffer held whole. -/
theorem wp_ld {S : Shape} {sp : CoreSpace} {e : EltTy} (m : Memref sig .tc sp S e) (f : Bf (F := F) c m) (r : Rect S) (hl) (Q : (r.shape.Idx → Elt F e) → sProp 𝕄) :
    pt c m f ⊢ iprop((pt c m f -∗ Q ((m.access r).read (Elt F) f))
      -∗ wp frame (wpE defs 𝒱 (c : Thread nD τ) bd) Set.univ (Prog.lift (.load m r.toLoadRect hl)) Q) := by
  unfold pt
  iintro H HQ
  iapply (wp_load_rect 𝒱 (c : Thread nD τ) bd Set.univ (m := m) (r := r) (hl := hl) (k := .ret) (S := Finset.univ) (f := f) (Finset.subset_univ _)) $$ H
  iintro H
  rw [wp_ret]
  imodintro
  iapply HQ
  iexact H
/-- Storing into a buffer held whole. -/
theorem wp_st {S : Shape} {sp : CoreSpace} {e : EltTy} (m : Memref sig .tc sp S e) (f : Bf (F := F) c m) (r : Rect S) (hx hm) (w : r.shape.Idx → Elt F e) (Q : PUnit → sProp 𝕄) :
    pt c m f ⊢ iprop((pt c m ((m.access r).write (Elt F) f w Finset.univ) -∗ Q ⟨⟩)
      -∗ wp frame (wpE defs 𝒱 (c : Thread nD τ) bd) Set.univ (Prog.lift (.store m r w Finset.univ hx hm)) Q) := by
  unfold pt
  iintro H HQ
  iapply (wp_store 𝒱 (c : Thread nD τ) bd Set.univ (m := m) (r := r) (hx := hx) (hm := hm) (w := w) (k := .ret) (S := Finset.univ) (f := f) (Finset.subset_univ _)) $$ H
  iintro H
  rw [wp_ret]
  imodintro
  iapply HQ
  iexact H

variable (P : ℕ → Bf (F := F) c arg12 → Bf (F := F) c arg13 → Prop)
  (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8)

/-- The buffers the compute loop reads. -/
def RO (f18 : Bf (F := F) c arg18) (f22 : Bf (F := F) c arg22) (f23 : Bf (F := F) c arg23) : sProp 𝕄 :=
  iprop(pt c arg2 f2 ∗ pt c arg6 f6 ∗ pt c arg7 f7 ∗ pt c arg18 f18 ∗ pt c arg22 f22 ∗ pt c arg23 f23)
/-- The three output blocks, the first `k` sequences done. -/
def Outs (k : ℕ) : sProp 𝕄 :=
  iprop(∃ f12 f13, ⌜P k f12 f13⌝ ∗ (∃ f11, pt (F := F) c arg11 f11) ∗ pt c arg12 f12 ∗ pt c arg13 f13)
/-- The buffers a trip of the compute loop works in. -/
def Scr : sProp 𝕄 :=
  iprop((∃ f, pt (F := F) c arg19 f) ∗ (∃ f, pt (F := F) c arg20 f) ∗ (∃ f, pt (F := F) c arg21 f))

/-- A block of eight heads of a window lies in the window. -/
theorem sub_winC (c : Dev nD) (s b g : ℕ) (hg : g + 8 ≤ 24) {o : Fin 5 → ℕ} (e : o = ![s, b, g, 0, 0]) (h) (hw) :
    (mC.access (Rect.unit (s := S2x16x24x64x128) o S1x1x8x64x128.size h)).set ⊆ (winC ![s, b, 0, 0, 0] hw).view.set := by
  subst e
  rw [set_winC c s b hw]
  intro j hj
  have hj' := (Iff.of_eq (congrArg (j ∈ ·) (View.set_slice_whole _ _))).mp hj
  have B := Rect.mem_set_unit.mp hj'
  have B0 := B 0
  have B1 := B 1
  unfold setC
  rw [Finset.mem_filter]
  refine ⟨Finset.mem_univ _, ?_, ?_⟩
  · have h1 : s ≤ (j 0 : ℕ) := B0.1
    have h2 : (j 0 : ℕ) < s + 1 := B0.2
    omega
  · have h1 : b ≤ (j 1 : ℕ) := B1.1
    have h2 : (j 1 : ℕ) < b + 1 := B1.2
    omega
theorem sub_winS (c : Dev nD) (s b : ℕ) {o : Fin 4 → ℕ} (e : o = ![s, b, 0, 0]) (h) (hw) :
    (mS.access (Rect.unit (s := S2x16x24x64) o S1x1x24x64.size h)).set ⊆ (winS ![s, b, 0, 0] hw).view.set := by
  subst e
  rw [set_winS c s b hw, ← set_accS c s b h]

/-- The window of codes, and of scales, of sequence `t` in the slot of point `i`. -/
theorem hwC (t : Fin k0_t4_loop.trips) : ∀ a, (![(i 0).val % 2, t.val, 0, 0, 0] : Fin 5 → ℕ) a + S1x1x24x64x128.size a ≤ S2x16x24x64x128.size a :=
  inbC _ _ (Nat.mod_lt _ (by omega)) t.isLt
theorem hwS (t : Fin k0_t4_loop.trips) : ∀ a, (![(i 0).val % 2, t.val, 0, 0] : Fin 4 → ℕ) a + S1x1x24x64.size a ≤ S2x16x24x64.size a :=
  inbS _ _ (Nat.mod_lt _ (by omega)) t.isLt

/-- What the trip of sequence `t` leaves in the blocks of codes and scales. -/
abbrev tripOut (v9 : BitVec 32) (v20 : IVec S24x24 1) (v28 : FVec F S24x1 .f32) (v57 : FVec F S128x128 .bf16) (v74 v75 : IVec S16x512 32)
    (f18 : Bf (F := F) c arg18) (f22 : Bf (F := F) c arg22) (f23 : Bf (F := F) c arg23)
    (t : Fin k0_t4_loop.trips) (gC : Bf (F := F) c mC) (gS : Bf (F := F) c mS) (f12 : Bf (F := F) c arg12) (f13 : Bf (F := F) c arg13) :
    Bf (F := F) c arg12 × Bf (F := F) c arg13 :=
  (trip4Run c i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 v9 v20 v28 v57 v74 v75 t f2 f6 f7 f18 f22 f23 (hwC i t) (hwS i t) gC gS f12 f13).1

/-- One trip of the compute loop. -/
theorem trip4 (v9 : BitVec 32) (v20 : IVec S24x24 1) (v28 : FVec F S24x1 .f32) (v57 : FVec F S128x128 .bf16) (v74 v75 : IVec S16x512 32)
    (f18 : Bf (F := F) c arg18) (f22 : Bf (F := F) c arg22) (f23 : Bf (F := F) c arg23)
    (hstep : ∀ (t : Fin k0_t4_loop.trips) gC gS f12 f13, HoldsC c ((i 0).val % 2) t.val gC (valC c T fA (i 0).val t.val) → HoldsS c ((i 0).val % 2) t.val gS (valS c T fB (i 0).val t.val) →
      P t.val f12 f13 → P (t.val + 1) (tripOut c i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 f2 f6 f7 v9 v20 v28 v57 v74 v75 f18 f22 f23 t gC gS f12 f13).1 (tripOut c i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 f2 f6 f7 v9 v20 v28 v57 v74 v75 f18 f22 f23 t gC gS f12 f13).2)
    (t : Fin k0_t4_loop.trips) (a : Unit) :
    iprop(RO c arg2 arg6 arg7 arg18 arg22 arg23 f2 f6 f7 f18 f22 f23 ∗ Ready c T fA fB ((i 0).val % 2) (i 0).val ∗ Outs c arg11 arg12 arg13 P t.val ∗ Scr (F := F) c arg19 arg20 arg21)
      ⊢ wp frame (wpE defs Variants.none (c : Thread nD τ) none) Set.univ (k0_t4_body i mT (isWhole_whole _) arg2 harg2 arg3 harg3 arg4 harg4 arg5 harg5 arg6 harg6 arg7 harg7 arg8 harg8 mA (isWhole_whole _) mB (isWhole_whole _) arg11 harg11 arg12 harg12 arg13 harg13 mC (isWhole_whole _) mS (isWhole_whole _) cc0_scratch2 cc0_scratch3 arg18 harg18 arg19 harg19 arg20 harg20 arg21 harg21 arg22 harg22 arg23 harg23 v9 v20 v28 v57 v74 v75 t a)
          (fun _ => iprop(RO c arg2 arg6 arg7 arg18 arg22 arg23 f2 f6 f7 f18 f22 f23 ∗ Ready c T fA fB ((i 0).val % 2) (i 0).val ∗ Outs c arg11 arg12 arg13 P (t.val + 1) ∗ Scr (F := F) c arg19 arg20 arg21)) := by
  have ht : t.val < 16 := t.isLt
  obtain ⟨⟩ := a
  unfold RO Ready Outs Scr
  iintro ⟨⟨H2, H6, H7, H18, H22, H23⟩, ⟨Hc, Hs, HR⟩, ⟨%f12, %f13, %hP, ⟨%f11, H11⟩, H12, H13⟩, ⟨⟨%f19, H19⟩, ⟨%f20, H20⟩, ⟨%f21, H21⟩⟩⟩
  have htp := take_put (ReadyAt c T fA fB ((i 0).val % 2) (i 0).val) (ReadyAt c T fA fB ((i 0).val % 2) (i 0).val) t.val ht (fun _ _ => rfl)
  icases htp $$ HR with ⟨HR, Hback⟩
  unfold ReadyAt WC WS
  icases HR with ⟨⟨%gC, %hC, HC⟩, ⟨%gS, %hS, HS⟩, HA, HB⟩
  rw [← set_winC c ((i 0).val % 2) t.val (hwC i t), ← set_winS c ((i 0).val % 2) t.val (hwS i t)]
  iapply ((trip4Run c i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 v9 v20 v28 v57 v74 v75 t f2 f6 f7 f18 f22 f23 (hwC i t) (hwS i t) gC gS f12 f13).2 defs f11 f19 f20 f21
    (sub_winC c _ _ 0 (by omega) (off30_eq i t) _ _) (sub_winC c _ _ 8 (by omega) (off33_eq i t) _ _) (sub_winC c _ _ 16 (by omega) (off36_eq i t) _ _)
    (sub_winS c _ _ (off28_eq i t) _ _) _)
  isplitl [H2]; · iexact H2
  isplitl [H6]; · iexact H6
  isplitl [H7]; · iexact H7
  isplitl [H18]; · iexact H18
  isplitl [H22]; · iexact H22
  isplitl [H23]; · iexact H23
  isplitl [HC]; · iexact HC
  isplitl [HS]; · iexact HS
  isplitl [H11]; · iexact H11
  isplitl [H12]; · iexact H12
  isplitl [H13]; · iexact H13
  isplitl [H19]; · iexact H19
  isplitl [H20]; · iexact H20
  isplitl [H21]; · iexact H21
  iintro ⟨H2, H6, H7, H18, H22, H23, HC, HS, ⟨%g11, H11⟩, H12, H13, H19, H20, H21⟩
  isplitl [H2 H6 H7 H18 H22 H23]
  · isplitl [H2]; · iexact H2
    isplitl [H6]; · iexact H6
    isplitl [H7]; · iexact H7
    isplitl [H18]; · iexact H18
    isplitl [H22]; · iexact H22
    iexact H23
  isplitl [Hc Hs Hback HC HS HA HB]
  · isplitl [Hc]; · iexact Hc
    isplitl [Hs]; · iexact Hs
    iapply Hback
    isplitl [HC]
    · iexists gC; isplitr; · ipureintro; exact hC
      iexact HC
    isplitl [HS]
    · iexists gS; isplitr; · ipureintro; exact hS
      iexact HS
    isplitl [HA] <;> iassumption
  isplitl [H11 H12 H13]
  · iexists (tripOut c i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 f2 f6 f7 v9 v20 v28 v57 v74 v75 f18 f22 f23 t gC gS f12 f13).1
    iexists (tripOut c i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 f2 f6 f7 v9 v20 v28 v57 v74 v75 f18 f22 f23 t gC gS f12 f13).2
    isplitr
    · ipureintro; exact hstep t gC gS f12 f13 hC hS hP
    isplitl [H11]; · iexists g11; iexact H11
    isplitl [H12] <;> iassumption
  isplitl [H19]; · iexact H19
  isplitl [H20] <;> iassumption

end Cert.Kernel.Hand

end
-- ==== Proof.State.Trips.lean ====
/-
  The trips of the issue loops.
-/
module

public import proofs.«01_k».proof.Proof.State.Issue

@[expose] public section

set_option maxRecDepth 16384

noncomputable section

namespace Cert.Kernel.Hand

open Cert.Kernel Cert.Kernel.Gen
open Idealize.ShloMosaic Idealize.ShloMosaic.TcCoe Idealize.ShloMosaic.Tactic
open Memref (isWhole_whole)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (c : Dev nD) (T : S640.Idx → BitVec 32) (fA : Buf (Elt F) (mA.view.loc (c : Thread nD τ))) (fB : Buf (Elt F) (mB.view.loc (c : Thread nD τ)))
variable {defs : Defs nD τ sig (Elt F) Λ₀} {𝒱 : Variants} {bd : Option 𝒱.V}
variable (i : grid0.Coords)
  (arg2 : Memref sig .tc .vmem S16x24x64 .bf16) (harg2 : arg2.IsWhole) (arg3 : Memref sig .tc .vmem S16x24 .bf16) (harg3 : arg3.IsWhole)
  (arg4 : Memref sig .tc .vmem S1x24 .f32) (harg4 : arg4.IsWhole) (arg5 : Memref sig .tc .vmem S1x24 .f32) (harg5 : arg5.IsWhole)
  (arg6 : Memref sig .tc .vmem S16x1x128 .bf16) (harg6 : arg6.IsWhole) (arg7 : Memref sig .tc .vmem S16x1x128 .bf16) (harg7 : arg7.IsWhole)
  (arg8 : Memref sig .tc .vmem S1x24 .f32) (harg8 : arg8.IsWhole)
  (arg11 : Memref sig .tc .vmem S16x24x64 .bf16) (harg11 : arg11.IsWhole) (arg12 : Memref sig .tc .vmem S16x24x64x128 .fp8e4m3) (harg12 : arg12.IsWhole)
  (arg13 : Memref sig .tc .vmem S16x24x64 .f32) (harg13 : arg13.IsWhole)
  (arg18 : Memref sig .tc .vmem S512x128 .bf16) (harg18 : arg18.IsWhole) (arg19 : Memref sig .tc .vmem S512x128 .f32) (harg19 : arg19.IsWhole)
  (arg20 : Memref sig .tc .vmem S3x512x128 .fp8e4m3) (harg20 : arg20.IsWhole) (arg21 : Memref sig .tc .vmem S3x512x128 .f32) (harg21 : arg21.IsWhole)
  (arg22 : Memref sig .tc .vmem S16x24 .f32) (harg22 : arg22.IsWhole) (arg23 : Memref sig .tc .vmem S16x24 .f32) (harg23 : arg23.IsWhole)

/-- The kernel's semaphore at an offset that is a slot's number. -/
theorem csem_at {o : Fin 1 → ℕ} {s : ℕ} (e : o = ![s]) (hs : s < 2) (h) :
    ((cc0_scratch2.slice (Rect.unit (s := S2) o S1.size h)).squeeze S_ squeezes_S1_S_).sem = csem s := by subst e; exact csem_eq s hs h
theorem ssem_at {o : Fin 1 → ℕ} {s : ℕ} (e : o = ![s]) (hs : s < 2) (h) :
    ((cc0_scratch3.slice (Rect.unit (s := S2) o S1.size h)).squeeze S_ squeezes_S1_S_).sem = ssem s := by subst e; exact ssem_eq s hs h

/-- One trip of the first step's issue loop: sequence `t` of block 0 into slot 0. -/
theorem trip1 (q : PosShare TreeShare) (h1 : k0_cond1 i = 1#1) (t : Fin k0_t1_loop.trips) (a : Unit) :
    iprop(Tab (F := F) c T q ∗ Iss c T fA fB 0 0 t.val)
      ⊢ wp frame (wpE defs 𝒱 (c : Thread nD τ) bd) Set.univ (k0_t1_body i mT (isWhole_whole _) arg2 harg2 arg3 harg3 arg4 harg4 arg5 harg5 arg6 harg6 arg7 harg7 arg8 harg8 mA (isWhole_whole _) mB (isWhole_whole _) arg11 harg11 arg12 harg12 arg13 harg13 mC (isWhole_whole _) mS (isWhole_whole _) cc0_scratch2 cc0_scratch3 arg18 harg18 arg19 harg19 arg20 harg20 arg21 harg21 arg22 harg22 arg23 harg23 h1 t a)
          (fun _ => iprop(Tab (F := F) c T q ∗ Iss c T fA fB 0 0 (t.val + 1))) := by
  have ht : t.val < 16 := t.isLt
  unfold k0_t1_body
  simp only [wp_bind]
  iintro ⟨HT, HI⟩
  iapply (wp_word c T q t.val (by omega) (off1_eq t)) $$ HT
  iintro HT
  by_cases hl : lv T 0 t.val
  · have hl' : liveW (tw T t.val) := by simpa [lv] using hl
    rw [dif_pos (show k0_cond2 _ = 1#1 from hl')]
    simp only [wp_bind]
    iapply (wp_word c T q t.val (by omega) (off2_eq t)) $$ HT
    iintro HT
    rw [show (Prog.lift (TpuEff.assume (k0_chk1 i (tw T t.val) (tw T t.val)) (k0_chk1.dec i (tw T t.val) (tw T t.val)))
        : Prog (TpuEff nD τ sig (Elt F) Λ₀ (c : Thread nD τ).2) _) = .op _ .ret from rfl, wp_assume_of 𝒱 (c : Thread nD τ) bd Set.univ (chk1 i (tw T t.val))]
    rw [wp_ret]
    imodintro
    icases (iss_take c T fA fB 0 0 t.val ht hl) $$ HI with ⟨HC, HS, HI⟩
    iapply (wp_issueC c T fA 0 0 t.val (by omega) ht hl (off3_eq t) (by simpa [rw0] using off4_eq (tw T t.val)) _ _ (csem_eq 0 (by omega) _) _ _ _) $$ HC
    iintro HC
    iapply (wp_issueS c T fB 0 0 t.val (by omega) ht hl (off5_eq t) (by simpa [rw0] using off6_eq (tw T t.val)) _ _ (ssem_eq 0 (by omega) _) _ _ _) $$ HS
    iintro HS
    simp only [wp_pure]
    imodintro
    isplitl [HT]; · iexact HT
    iapply HI
    isplitl [HC] <;> iassumption
  · have hl' : ¬ liveW (tw T t.val) := by simpa [lv] using hl
    rw [dif_neg (show ¬ k0_cond2 _ = 1#1 from hl')]
    simp only [wp_pure]
    imodintro
    isplitl [HT]; · iexact HT
    iapply (iss_dead c T fA fB 0 0 t.val ht hl)
    iexact HI

/-- One trip of the issue loop for the next block, into the other slot. -/
theorem trip2 (q : PosShare TreeShare) (h1 : k0_cond3 i = 1#1) (hn : (i 0).val + 1 < 40) (t : Fin k0_t2_loop.trips) (a : Unit) :
    iprop(Tab (F := F) c T q ∗ Iss c T fA fB (((i 0).val + 1) % 2) ((i 0).val + 1) t.val)
      ⊢ wp frame (wpE defs 𝒱 (c : Thread nD τ) bd) Set.univ (k0_t2_body i mT (isWhole_whole _) arg2 harg2 arg3 harg3 arg4 harg4 arg5 harg5 arg6 harg6 arg7 harg7 arg8 harg8 mA (isWhole_whole _) mB (isWhole_whole _) arg11 harg11 arg12 harg12 arg13 harg13 mC (isWhole_whole _) mS (isWhole_whole _) cc0_scratch2 cc0_scratch3 arg18 harg18 arg19 harg19 arg20 harg20 arg21 harg21 arg22 harg22 arg23 harg23 h1 t a)
          (fun _ => iprop(Tab (F := F) c T q ∗ Iss c T fA fB (((i 0).val + 1) % 2) ((i 0).val + 1) (t.val + 1))) := by
  have ht : t.val < 16 := t.isLt
  unfold k0_t2_body
  simp only [wp_bind]
  iintro ⟨HT, HI⟩
  iapply (wp_word c T q (16 * ((i 0).val + 1) + t.val) (by omega) (off7_eq i t hn)) $$ HT
  iintro HT
  by_cases hl : lv T ((i 0).val + 1) t.val
  · have hl' : liveW (tw T (16 * ((i 0).val + 1) + t.val)) := by simpa [lv] using hl
    rw [dif_pos (show k0_cond4 _ = 1#1 from hl')]
    simp only [wp_bind]
    iapply (wp_word c T q (16 * ((i 0).val + 1) + t.val) (by omega) (off8_eq i t hn)) $$ HT
    iintro HT
    rw [show (Prog.lift (TpuEff.assume (k0_chk2 i (tw T (16 * ((i 0).val + 1) + t.val)) (tw T (16 * ((i 0).val + 1) + t.val))) (k0_chk2.dec i (tw T (16 * ((i 0).val + 1) + t.val)) (tw T (16 * ((i 0).val + 1) + t.val))))
        : Prog (TpuEff nD τ sig (Elt F) Λ₀ (c : Thread nD τ).2) _) = .op _ .ret from rfl, wp_assume_of 𝒱 (c : Thread nD τ) bd Set.univ (chk2 i (tw T (16 * ((i 0).val + 1) + t.val)))]
    rw [wp_ret]
    imodintro
    icases (iss_take c T fA fB (((i 0).val + 1) % 2) ((i 0).val + 1) t.val ht hl) $$ HI with ⟨HC, HS, HI⟩
    iapply (wp_issueC c T fA (((i 0).val + 1) % 2) ((i 0).val + 1) t.val (by omega) ht hl (off10_eq i t hn) (by simpa [rw0] using off11_eq (tw T (16 * ((i 0).val + 1) + t.val))) _ _ (csem_at (off9_eq i hn) (by omega) _) _ _ _) $$ HC
    iintro HC
    iapply (wp_issueS c T fB (((i 0).val + 1) % 2) ((i 0).val + 1) t.val (by omega) ht hl (off13_eq i t hn) (by simpa [rw0] using off14_eq (tw T (16 * ((i 0).val + 1) + t.val))) _ _ (ssem_at (off12_eq i hn) (by omega) _) _ _ _) $$ HS
    iintro HS
    simp only [wp_pure]
    imodintro
    isplitl [HT]; · iexact HT
    iapply HI
    isplitl [HC] <;> iassumption
  · have hl' : ¬ liveW (tw T (16 * ((i 0).val + 1) + t.val)) := by simpa [lv] using hl
    rw [dif_neg (show ¬ k0_cond4 _ = 1#1 from hl')]
    simp only [wp_pure]
    imodintro
    isplitl [HT]; · iexact HT
    iapply (iss_dead c T fA fB (((i 0).val + 1) % 2) ((i 0).val + 1) t.val ht hl)
    iexact HI

end Cert.Kernel.Hand

end
-- ==== Proof.State.Trip3.lean ====
/-
  The trips of the wait loop.
-/
module

public import proofs.«01_k».proof.Proof.State.Wait
public import proofs.«01_k».proof.Proof.State.Trips

@[expose] public section

set_option maxRecDepth 16384

noncomputable section

namespace Cert.Kernel.Hand

open Cert.Kernel Cert.Kernel.Gen
open Idealize.ShloMosaic Idealize.ShloMosaic.TcCoe Idealize.ShloMosaic.Tactic
open Memref (isWhole_whole)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (c : Dev nD) (T : S640.Idx → BitVec 32) (fA : Buf (Elt F) (mA.view.loc (c : Thread nD τ))) (fB : Buf (Elt F) (mB.view.loc (c : Thread nD τ)))
variable {defs : Defs nD τ sig (Elt F) Λ₀} {𝒱 : Variants} {bd : Option 𝒱.V}
variable (i : grid0.Coords)
  (arg2 : Memref sig .tc .vmem S16x24x64 .bf16) (harg2 : arg2.IsWhole) (arg3 : Memref sig .tc .vmem S16x24 .bf16) (harg3 : arg3.IsWhole)
  (arg4 : Memref sig .tc .vmem S1x24 .f32) (harg4 : arg4.IsWhole) (arg5 : Memref sig .tc .vmem S1x24 .f32) (harg5 : arg5.IsWhole)
  (arg6 : Memref sig .tc .vmem S16x1x128 .bf16) (harg6 : arg6.IsWhole) (arg7 : Memref sig .tc .vmem S16x1x128 .bf16) (harg7 : arg7.IsWhole)
  (arg8 : Memref sig .tc .vmem S1x24 .f32) (harg8 : arg8.IsWhole)
  (arg11 : Memref sig .tc .vmem S16x24x64 .bf16) (harg11 : arg11.IsWhole) (arg12 : Memref sig .tc .vmem S16x24x64x128 .fp8e4m3) (harg12 : arg12.IsWhole)
  (arg13 : Memref sig .tc .vmem S16x24x64 .f32) (harg13 : arg13.IsWhole)
  (arg18 : Memref sig .tc .vmem S512x128 .bf16) (harg18 : arg18.IsWhole) (arg19 : Memref sig .tc .vmem S512x128 .f32) (harg19 : arg19.IsWhole)
  (arg20 : Memref sig .tc .vmem S3x512x128 .fp8e4m3) (harg20 : arg20.IsWhole) (arg21 : Memref sig .tc .vmem S3x512x128 .f32) (harg21 : arg21.IsWhole)
  (arg22 : Memref sig .tc .vmem S16x24 .f32) (harg22 : arg22.IsWhole) (arg23 : Memref sig .tc .vmem S16x24 .f32) (harg23 : arg23.IsWhole)

/-- One trip of the wait loop: sequence `t` of the block at hand. -/
theorem trip3 (q : PosShare TreeShare) (t : Fin k0_t3_loop.trips) (a : Unit) :
    iprop(Tab (F := F) c T q ∗ (∃ W, owes (c : Thread nD τ) 0 W) ∗ Wt c T fA fB ((i 0).val % 2) (i 0).val t.val)
      ⊢ wp frame (wpE defs 𝒱 (c : Thread nD τ) bd) Set.univ (k0_t3_body i mT (isWhole_whole _) arg2 harg2 arg3 harg3 arg4 harg4 arg5 harg5 arg6 harg6 arg7 harg7 arg8 harg8 mA (isWhole_whole _) mB (isWhole_whole _) arg11 harg11 arg12 harg12 arg13 harg13 mC (isWhole_whole _) mS (isWhole_whole _) cc0_scratch2 cc0_scratch3 arg18 harg18 arg19 harg19 arg20 harg20 arg21 harg21 arg22 harg22 arg23 harg23 t a)
          (fun _ => iprop(Tab (F := F) c T q ∗ (∃ W, owes (c : Thread nD τ) 0 W) ∗ Wt c T fA fB ((i 0).val % 2) (i 0).val (t.val + 1))) := by
  have ht : t.val < 16 := t.isLt
  have hi : (i 0).val < 40 := (i 0).isLt
  unfold k0_t3_body Wt
  simp only [wp_bind]
  iintro ⟨HT, ⟨%W, HO⟩, HC, HS, HW⟩
  iapply (wp_word c T q (16 * (i 0).val + t.val) (by omega) (off15_eq i t)) $$ HT
  iintro HT
  by_cases hl : lv T (i 0).val t.val
  · rw [dif_pos (show k0_cond5 _ = 1#1 from hl)]
    simp only [wp_bind]
    iapply (wp_word c T q (16 * (i 0).val + t.val) (by omega) (off16_eq i t)) $$ HT
    iintro HT
    rw [show (Prog.lift (TpuEff.assume (k0_chk3 (tw T (16 * (i 0).val + t.val)) (tw T (16 * (i 0).val + t.val))) (k0_chk3.dec (tw T (16 * (i 0).val + t.val)) (tw T (16 * (i 0).val + t.val))))
        : Prog (TpuEff nD τ sig (Elt F) Λ₀ (c : Thread nD τ).2) _) = .op _ .ret from rfl, wp_assume_of 𝒱 (c : Thread nD τ) bd Set.univ (chk3 (tw T (16 * (i 0).val + t.val)))]
    rw [wp_ret]
    imodintro
    iapply (wp_waitC c T fA ((i 0).val % 2) (i 0).val t.val ht hl _ _ (csem_at (off17_eq i) (by omega) _) _ _ _ W) $$ [HC HO]
    · isplitl [HC] <;> iassumption
    iintro %W1 ⟨HC, HO⟩
    iapply (wp_waitS c T fB ((i 0).val % 2) (i 0).val t.val ht hl _ _ (ssem_at (off20_eq i) (by omega) _) _ _ _ W1) $$ [HS HO]
    · isplitl [HS] <;> iassumption
    iintro %W2 ⟨HS, HO⟩
    simp only [wp_pure, fupd_wp_eq]
    iapply (wp_word c T q (16 * (i 0).val + t.val) (by omega) (off23_eq i t)) $$ HT
    iintro HT
    rw [if_neg (fun h => (dead_iff _).mp h hl)]
    simp only [wp_pure]
    imodintro
    isplitl [HT]; · iexact HT
    isplitl [HO]; · iexists W2; iexact HO
    isplitl [HC]; · iexact HC
    isplitl [HS]; · iexact HS
    iapply (wt_live c T fA fB ((i 0).val % 2) (i 0).val t.val hl)
    iexact HW
  · rw [dif_neg (show ¬ k0_cond5 _ = 1#1 from hl)]
    simp only [wp_bind]
    iapply (wp_word c T q (16 * (i 0).val + t.val) (by omega) (off23_eq i t)) $$ HT
    iintro HT
    rw [if_pos ((dead_iff _).mpr hl)]
    simp only [wp_bind]
    icases (wt_dead c T fA fB ((i 0).val % 2) (i 0).val t.val ht hl) $$ HW with ⟨HF, HW⟩
    unfold FreeAt
    icases HF with ⟨HFC, HFS, HA, HB⟩
    iapply (wp_loadC c ((i 0).val % 2) t.val (off24_eq i t)) $$ HFC
    iintro %v1 HFC
    iapply (wp_storeC c ((i 0).val % 2) t.val (off24_eq i t)) $$ HFC
    iintro HFC
    iapply (wp_loadS c ((i 0).val % 2) t.val (off25_eq i t)) $$ HFS
    iintro %v2 HFS
    iapply (wp_storeS c ((i 0).val % 2) t.val (off25_eq i t)) $$ HFS
    iintro HFS
    simp only [wp_pure]
    imodintro
    have e : cnt T (i 0).val (t.val + 1) = cnt T (i 0).val t.val := PageRing.dead_facts (lv T (i 0).val) t.val hl
    rw [e]
    isplitl [HT]; · iexact HT
    isplitl [HO]; · iexists W; iexact HO
    isplitl [HC]; · iexact HC
    isplitl [HS]; · iexact HS
    iapply HW
    unfold ZeroAt zeroC zeroS
    isplitl [HFC]; · iexact HFC
    isplitl [HFS]; · iexact HFS
    isplitl [HA] <;> iassumption

end Cert.Kernel.Hand

end
-- ==== Proof.State.Body.lean ====
/-
One run of the kernel's body.
-/
module

public import proofs.«01_k».proof.Proof.State.Step4
public import proofs.«01_k».proof.Proof.State.Trip3

@[expose] public section

set_option maxRecDepth 16384

noncomputable section

namespace Cert.Kernel.Hand

open Cert.Kernel Cert.Kernel.Gen
open Idealize.ShloMosaic Idealize.ShloMosaic.TcCoe Idealize.ShloMosaic.Tactic
open Memref (isWhole_whole)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (c : Dev nD) (T : S640.Idx → BitVec 32) (fA : Buf (Elt F) (mA.view.loc (c : Thread nD τ))) (fB : Buf (Elt F) (mB.view.loc (c : Thread nD τ)))
variable {defs : Defs nD τ sig (Elt F) Λ₀}
variable (i : grid0.Coords)
  (arg2 : Memref sig .tc .vmem S16x24x64 .bf16) (harg2 : arg2.IsWhole) (arg3 : Memref sig .tc .vmem S16x24 .bf16) (harg3 : arg3.IsWhole)
  (arg4 : Memref sig .tc .vmem S1x24 .f32) (harg4 : arg4.IsWhole) (arg5 : Memref sig .tc .vmem S1x24 .f32) (harg5 : arg5.IsWhole)
  (arg6 : Memref sig .tc .vmem S16x1x128 .bf16) (harg6 : arg6.IsWhole) (arg7 : Memref sig .tc .vmem S16x1x128 .bf16) (harg7 : arg7.IsWhole)
  (arg8 : Memref sig .tc .vmem S1x24 .f32) (harg8 : arg8.IsWhole)
  (arg11 : Memref sig .tc .vmem S16x24x64 .bf16) (harg11 : arg11.IsWhole) (arg12 : Memref sig .tc .vmem S16x24x64x128 .fp8e4m3) (harg12 : arg12.IsWhole)
  (arg13 : Memref sig .tc .vmem S16x24x64 .f32) (harg13 : arg13.IsWhole)
  (arg18 : Memref sig .tc .vmem S512x128 .bf16) (harg18 : arg18.IsWhole) (arg19 : Memref sig .tc .vmem S512x128 .f32) (harg19 : arg19.IsWhole)
  (arg20 : Memref sig .tc .vmem S3x512x128 .fp8e4m3) (harg20 : arg20.IsWhole) (arg21 : Memref sig .tc .vmem S3x512x128 .f32) (harg21 : arg21.IsWhole)
  (arg22 : Memref sig .tc .vmem S16x24 .f32) (harg22 : arg22.IsWhole) (arg23 : Memref sig .tc .vmem S16x24 .f32) (harg23 : arg23.IsWhole)

/-- The issue loop of the first point. -/
theorem loop1 (q : PosShare TreeShare) (h1 : k0_cond1 i = 1#1) :
    iprop(Tab (F := F) c T q ∗ Idle c fA fB 0)
      ⊢ wp frame (wpE defs Variants.none (c : Thread nD τ) none) Set.univ (Scf.Loop.for k0_t1_loop (k0_t1_ok i h1) ⟨⟩ (k0_t1_body i mT (isWhole_whole _) arg2 harg2 arg3 harg3 arg4 harg4 arg5 harg5 arg6 harg6 arg7 harg7 arg8 harg8 mA (isWhole_whole _) mB (isWhole_whole _) arg11 harg11 arg12 harg12 arg13 harg13 mC (isWhole_whole _) mS (isWhole_whole _) cc0_scratch2 cc0_scratch3 arg18 harg18 arg19 harg19 arg20 harg20 arg21 harg21 arg22 harg22 arg23 harg23 h1))
          (fun _ => iprop(Tab (F := F) c T q ∗ Pend c T fA fB 0 0)) := by
  iintro ⟨HT, HI⟩
  imod (idle_iss c T fA fB 0 0) $$ HI with HI
  have h := Scf.wp_for frame (wpE defs Variants.none (c : Thread nD τ) none) Set.univ k0_t1_loop.lb k0_t1_loop.ub k0_t1_loop.st (k0_t1_ok i h1) ⟨⟩ _
    (fun k _ => iprop(Tab (F := F) c T q ∗ Iss c T fA fB 0 0 k)) (fun t a => trip1 c T fA fB i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 q h1 t a) (Q := fun _ => iprop(Tab (F := F) c T q ∗ Pend c T fA fB 0 0))
  iapply h
  isplitl [HT HI]
  · isplitl [HT] <;> iassumption
  iintro %acc H
  unfold Pend
  iexact H
/-- The issue loop of the next point. -/
theorem loop2 (q : PosShare TreeShare) (h3 : k0_cond3 i = 1#1) (hn : (i 0).val + 1 < 40) :
    iprop(Tab (F := F) c T q ∗ Idle c fA fB (((i 0).val + 1) % 2))
      ⊢ wp frame (wpE defs Variants.none (c : Thread nD τ) none) Set.univ (Scf.Loop.for k0_t2_loop (k0_t2_ok i h3) ⟨⟩ (k0_t2_body i mT (isWhole_whole _) arg2 harg2 arg3 harg3 arg4 harg4 arg5 harg5 arg6 harg6 arg7 harg7 arg8 harg8 mA (isWhole_whole _) mB (isWhole_whole _) arg11 harg11 arg12 harg12 arg13 harg13 mC (isWhole_whole _) mS (isWhole_whole _) cc0_scratch2 cc0_scratch3 arg18 harg18 arg19 harg19 arg20 harg20 arg21 harg21 arg22 harg22 arg23 harg23 h3))
          (fun _ => iprop(Tab (F := F) c T q ∗ Pend c T fA fB (((i 0).val + 1) % 2) ((i 0).val + 1))) := by
  iintro ⟨HT, HI⟩
  imod (idle_iss c T fA fB (((i 0).val + 1) % 2) ((i 0).val + 1)) $$ HI with HI
  have h := Scf.wp_for frame (wpE defs Variants.none (c : Thread nD τ) none) Set.univ k0_t2_loop.lb k0_t2_loop.ub k0_t2_loop.st (k0_t2_ok i h3) ⟨⟩ _
    (fun k _ => iprop(Tab (F := F) c T q ∗ Iss c T fA fB (((i 0).val + 1) % 2) ((i 0).val + 1) k)) (fun t a => trip2 c T fA fB i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 q h3 hn t a)
    (Q := fun _ => iprop(Tab (F := F) c T q ∗ Pend c T fA fB (((i 0).val + 1) % 2) ((i 0).val + 1)))
  iapply h
  isplitl [HT HI]
  · isplitl [HT] <;> iassumption
  iintro %acc H
  unfold Pend
  iexact H
/-- The wait loop. -/
theorem loop3 (q : PosShare TreeShare) :
    iprop(Tab (F := F) c T q ∗ (∃ W, owes (c : Thread nD τ) 0 W) ∗ Pend c T fA fB ((i 0).val % 2) (i 0).val)
      ⊢ wp frame (wpE defs Variants.none (c : Thread nD τ) none) Set.univ (Scf.Loop.for k0_t3_loop k0_t3_ok ⟨⟩ (k0_t3_body i mT (isWhole_whole _) arg2 harg2 arg3 harg3 arg4 harg4 arg5 harg5 arg6 harg6 arg7 harg7 arg8 harg8 mA (isWhole_whole _) mB (isWhole_whole _) arg11 harg11 arg12 harg12 arg13 harg13 mC (isWhole_whole _) mS (isWhole_whole _) cc0_scratch2 cc0_scratch3 arg18 harg18 arg19 harg19 arg20 harg20 arg21 harg21 arg22 harg22 arg23 harg23))
          (fun _ => iprop(Tab (F := F) c T q ∗ (∃ W, owes (c : Thread nD τ) 0 W) ∗ Wt c T fA fB ((i 0).val % 2) (i 0).val 16)) := by
  iintro ⟨HT, HO, HI⟩
  have h := Scf.wp_for frame (wpE defs Variants.none (c : Thread nD τ) none) Set.univ k0_t3_loop.lb k0_t3_loop.ub k0_t3_loop.st k0_t3_ok ⟨⟩ _
    (fun k _ => iprop(Tab (F := F) c T q ∗ (∃ W, owes (c : Thread nD τ) 0 W) ∗ Wt c T fA fB ((i 0).val % 2) (i 0).val k)) (fun t a => trip3 c T fA fB i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 q t a)
    (Q := fun _ => iprop(Tab (F := F) c T q ∗ (∃ W, owes (c : Thread nD τ) 0 W) ∗ Wt c T fA fB ((i 0).val % 2) (i 0).val 16))
  iapply h
  isplitl [HT HO HI]
  · isplitl [HT]; · iexact HT
    isplitl [HO]; · iexact HO
    iapply (pend_wt c T fA fB ((i 0).val % 2) (i 0).val)
    iexact HI
  iintro %acc H
  iexact H

variable (P : ℕ → Bf (F := F) c arg12 → Bf (F := F) c arg13 → Prop)
  (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8)

/-- The compute loop. -/
theorem loop4 (v9 : BitVec 32) (v20 : IVec S24x24 1) (v28 : FVec F S24x1 .f32) (v57 : FVec F S128x128 .bf16) (v74 v75 : IVec S16x512 32)
    (f18 : Bf (F := F) c arg18) (f22 : Bf (F := F) c arg22) (f23 : Bf (F := F) c arg23)
    (hstep : ∀ (t : Fin k0_t4_loop.trips) gC gS f12 f13, HoldsC c ((i 0).val % 2) t.val gC (valC c T fA (i 0).val t.val) → HoldsS c ((i 0).val % 2) t.val gS (valS c T fB (i 0).val t.val) →
      P t.val f12 f13 → P (t.val + 1) (tripOut c i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 f2 f6 f7 v9 v20 v28 v57 v74 v75 f18 f22 f23 t gC gS f12 f13).1 (tripOut c i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 f2 f6 f7 v9 v20 v28 v57 v74 v75 f18 f22 f23 t gC gS f12 f13).2) :
    iprop(RO c arg2 arg6 arg7 arg18 arg22 arg23 f2 f6 f7 f18 f22 f23 ∗ Ready c T fA fB ((i 0).val % 2) (i 0).val ∗ Outs c arg11 arg12 arg13 P 0 ∗ Scr (F := F) c arg19 arg20 arg21)
      ⊢ wp frame (wpE defs Variants.none (c : Thread nD τ) none) Set.univ (Scf.Loop.for k0_t4_loop k0_t4_ok ⟨⟩ (k0_t4_body i mT (isWhole_whole _) arg2 harg2 arg3 harg3 arg4 harg4 arg5 harg5 arg6 harg6 arg7 harg7 arg8 harg8 mA (isWhole_whole _) mB (isWhole_whole _) arg11 harg11 arg12 harg12 arg13 harg13 mC (isWhole_whole _) mS (isWhole_whole _) cc0_scratch2 cc0_scratch3 arg18 harg18 arg19 harg19 arg20 harg20 arg21 harg21 arg22 harg22 arg23 harg23 v9 v20 v28 v57 v74 v75))
          (fun _ => iprop(RO c arg2 arg6 arg7 arg18 arg22 arg23 f2 f6 f7 f18 f22 f23 ∗ Ready c T fA fB ((i 0).val % 2) (i 0).val ∗ Outs c arg11 arg12 arg13 P 16 ∗ Scr (F := F) c arg19 arg20 arg21)) := by
  iintro HI
  have h := Scf.wp_for frame (wpE defs Variants.none (c : Thread nD τ) none) Set.univ k0_t4_loop.lb k0_t4_loop.ub k0_t4_loop.st k0_t4_ok ⟨⟩ _
    (fun k _ => iprop(RO c arg2 arg6 arg7 arg18 arg22 arg23 f2 f6 f7 f18 f22 f23 ∗ Ready c T fA fB ((i 0).val % 2) (i 0).val ∗ Outs c arg11 arg12 arg13 P k ∗ Scr (F := F) c arg19 arg20 arg21))
    (fun t a => trip4 c T fA fB i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 P f2 f6 f7 v9 v20 v28 v57 v74 v75 f18 f22 f23 hstep t a)
    (Q := fun _ => iprop(RO c arg2 arg6 arg7 arg18 arg22 arg23 f2 f6 f7 f18 f22 f23 ∗ Ready c T fA fB ((i 0).val % 2) (i 0).val ∗ Outs c arg11 arg12 arg13 P 16 ∗ Scr (F := F) c arg19 arg20 arg21))
  iapply h
  isplitl [HI]; · iexact HI
  iintro %acc H
  iexact H

/-- The two slots between points: the transfers of point `t` in flight, the other slot idle. -/
def Slots (t : ℕ) : sProp 𝕄 :=
  iprop((if 0 < t ∧ t < 40 then Pend c T fA fB (t % 2) t else Idle c fA fB (t % 2)) ∗ Idle c fA fB ((t + 1) % 2))

/-- The table of unit rows is in its buffer. -/
def Has18 (f18 : Bf (F := F) c arg18) : Prop := (arg18.access (Rect.unit (s := S512x128) ![0, 0] S512x128.size inb_S512x128_S512x128_0_0)).read (Elt F) f18 = (k0_pay606 (F := F))

/-- The buffer of the table of unit rows before point `t`. -/
def E18 (t : ℕ) : sProp 𝕄 := iprop(∃ f18, ⌜0 < t → Has18 c arg18 f18⌝ ∗ pt (F := F) c arg18 f18)

/-- The time steps and the decays of a block of sequences, written over the contents `f22` and `f23`. -/
abbrev dtOf (f22 : Bf (F := F) c arg22) : Bf (F := F) c arg22 :=
  (arg22.access (Rect.unit (s := S16x24) ![0, 0] S16x24.size inb_S16x24_S16x24_0_0)).write (Elt F) f22 (k0_pay614 (k0_pay611 ((arg3.access (Rect.unit (s := S16x24) ![0, 0] S16x24.size inb_S16x24_S16x24_0_0)).read (Elt F) f3)) (k0_pay612 ((arg4.access (Rect.unit (s := S1x24) ![0, 0] S1x24.size inb_S1x24_S1x24_0_0)).read (Elt F) f4))) Finset.univ
abbrev decayOf (f23 : Bf (F := F) c arg23) : Bf (F := F) c arg23 :=
  (arg23.access (Rect.unit (s := S16x24) ![0, 0] S16x24.size inb_S16x24_S16x24_0_0)).write (Elt F) f23 (k0_pay615 (k0_pay611 ((arg3.access (Rect.unit (s := S16x24) ![0, 0] S16x24.size inb_S16x24_S16x24_0_0)).read (Elt F) f3)) (k0_pay612 ((arg4.access (Rect.unit (s := S1x24) ![0, 0] S1x24.size inb_S1x24_S1x24_0_0)).read (Elt F) f4)) ((arg5.access (Rect.unit (s := S1x24) ![0, 0] S1x24.size inb_S1x24_S1x24_0_0)).read (Elt F) f5)) Finset.univ
/-- Which slot the point uses, as the kernel computes it. -/
abbrev v9Of : BitVec 32 :=
  let v1 : BitVec 32 := Scalar.select (Scalar.cmpi .eq 2#32 0#32) 1#32 2#32
  let v2 : BitVec 32 := Scalar.remsi (BitVec.ofNat 32 (i 0).val) v1
  Scalar.select (Scalar.andi (Scalar.xori (Scalar.cmpi .slt v2 0#32) (Scalar.cmpi .slt v1 0#32)) (Scalar.cmpi .ne v2 0#32)) (Scalar.addi v2 v1) v2
/-- The trip at the values the body reaches it with. -/
abbrev stepOut (f18 : Bf (F := F) c arg18) (f22 : Bf (F := F) c arg22) (f23 : Bf (F := F) c arg23)
    (t : Fin k0_t4_loop.trips) (gC : Bf (F := F) c mC) (gS : Bf (F := F) c mS) (f12 : Bf (F := F) c arg12) (f13 : Bf (F := F) c arg13) :
    Bf (F := F) c arg12 × Bf (F := F) c arg13 :=
  tripOut c i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 f2 f6 f7 (v9Of i) k0_pay609 (k0_pay610 ((arg8.access (Rect.unit (s := S1x24) ![0, 0] S1x24.size inb_S1x24_S1x24_0_0)).read (Elt F) f8)) (k0_pay616 (F := F)) k0_pay617 (iota .tc S16x512 32 [1] iota_S16x512_d1_w32)
    f18 (dtOf c arg3 arg4 arg22 f3 f4 f22) (decayOf c arg3 arg4 arg5 arg23 f3 f4 f5 f23) t gC gS f12 f13

/-- What a run of the body needs of the predicate it carries through the compute loop. -/
def StepOK : Prop :=
  ∀ f18 f22 f23 (t : Fin k0_t4_loop.trips) gC gS f12 f13, Has18 (F := F) c arg18 f18 →
    HoldsC c ((i 0).val % 2) t.val gC (valC c T fA (i 0).val t.val) → HoldsS c ((i 0).val % 2) t.val gS (valS c T fB (i 0).val t.val) →
    P t.val f12 f13 → P (t.val + 1) (stepOut c i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 f2 f3 f4 f5 f6 f7 f8 f18 f22 f23 t gC gS f12 f13).1 (stepOut c i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 f2 f3 f4 f5 f6 f7 f8 f18 f22 f23 t gC gS f12 f13).2

/-- The input blocks. -/
def Ins : sProp 𝕄 := iprop(pt c arg2 f2 ∗ pt c arg3 f3 ∗ pt c arg4 f4 ∗ pt c arg5 f5 ∗ pt c arg6 f6 ∗ pt c arg7 f7 ∗ pt c arg8 f8)
/-- The body's scratch buffers that hold nothing from one point to the next. -/
def Scr5 : sProp 𝕄 := iprop(Scr (F := F) c arg19 arg20 arg21 ∗ (∃ f, pt (F := F) c arg22 f) ∗ (∃ f, pt (F := F) c arg23 f))

/-- A run carried on by what it ends in. -/
theorem run_of {α : Type} {p : Prog (TpuEff nD τ sig (Elt F) Λ₀ .tc) α} {A : sProp 𝕄} {B Q : α → sProp 𝕄} (h : A ⊢ wp frame (wpE defs Variants.none (c : Thread nD τ) none) Set.univ p B) :
    A ⊢ iprop((∀ a, B a -∗ Q a) -∗ wp frame (wpE defs Variants.none (c : Thread nD τ) none) Set.univ p Q) := by
  have h2 : iprop(A ∗ (∀ a, B a -∗ Q a)) ⊢ wp frame (wpE defs Variants.none (c : Thread nD τ) none) Set.univ p Q := by
    refine (sep_mono h .rfl).trans ((wp_frame_r _ _ _).trans (wp_mono _ _ _ fun a => ?_))
    iintro ⟨H, HW⟩
    iapply HW
    iexact H
  iintro HA HW
  iapply h2
  isplitl [HA] <;> iassumption
/-- The table of unit rows and the slots of a point after its first guard. -/
def Mid1 (q : PosShare TreeShare) : sProp 𝕄 :=
  iprop(Tab (F := F) c T q ∗ (∃ W, owes (c : Thread nD τ) 0 W) ∗ Pend c T fA fB ((i 0).val % 2) (i 0).val ∗ Idle c fA fB (((i 0).val + 1) % 2)
    ∗ (∃ f18, ⌜Has18 c arg18 f18⌝ ∗ pt (F := F) c arg18 f18) ∗ Ins c arg2 arg3 arg4 arg5 arg6 arg7 arg8 f2 f3 f4 f5 f6 f7 f8)
/-- The slots of the next point after the second guard. -/
def Nxt (t : ℕ) : sProp 𝕄 := if t < 40 then Pend c T fA fB (t % 2) t else Idle c fA fB (t % 2)
/-- The same after its second guard. -/
def Mid2 (q : PosShare TreeShare) : sProp 𝕄 :=
  iprop(Tab (F := F) c T q ∗ (∃ W, owes (c : Thread nD τ) 0 W) ∗ Pend c T fA fB ((i 0).val % 2) (i 0).val ∗ Nxt c T fA fB ((i 0).val + 1)
    ∗ (∃ f18, ⌜Has18 c arg18 f18⌝ ∗ pt (F := F) c arg18 f18) ∗ Ins c arg2 arg3 arg4 arg5 arg6 arg7 arg8 f2 f3 f4 f5 f6 f7 f8)

/-- The head of the body from its third transfer loop on. -/
noncomputable def tail3 : Prog (TpuEff nD τ sig (Elt F) Λ₀ .tc) (Σ' (v9 : BitVec 32) (v20 : IVec S24x24 1) (v28 : FVec F S24x1 .f32) (v30 : FVec F S16x24 .f32), FVec F S1x24 .f32) := do
  Scf.Loop.for k0_t3_loop k0_t3_ok ⟨⟩ (k0_t3_body i mT (isWhole_whole _) arg2 harg2 arg3 harg3 arg4 harg4 arg5 harg5 arg6 harg6 arg7 harg7 arg8 harg8 mA (isWhole_whole _) mB (isWhole_whole _) arg11 harg11 arg12 harg12 arg13 harg13 mC (isWhole_whole _) mS (isWhole_whole _) cc0_scratch2 cc0_scratch3 arg18 harg18 arg19 harg19 arg20 harg20 arg21 harg21 arg22 harg22 arg23 harg23)
  let v21 : Vec F S1x24 .f32 ← Prog.lift (.load arg8 (Rect.unit (s := S1x24) ![0, 0] S1x24.size inb_S1x24_S1x24_0_0).toLoadRect (View.loadsAt_vmem h_S1x24))
  let v29 : Vec F S16x24 .bf16 ← Prog.lift (.load arg3 (Rect.unit (s := S16x24) ![0, 0] S16x24.size inb_S16x24_S16x24_0_0).toLoadRect (View.loadsAt_vmem h_S16x24))
  let v31 : Vec F S1x24 .f32 ← Prog.lift (.load arg4 (Rect.unit (s := S1x24) ![0, 0] S1x24.size inb_S1x24_S1x24_0_0).toLoadRect (View.loadsAt_vmem h_S1x24))
  pure ⟨v9Of i, k0_pay609, k0_pay610 v21, k0_pay611 v29, k0_pay612 v31⟩

/-- The head of the body from its second guard on. -/
noncomputable def tail2 : Prog (TpuEff nD τ sig (Elt F) Λ₀ .tc) (Σ' (v9 : BitVec 32) (v20 : IVec S24x24 1) (v28 : FVec F S24x1 .f32) (v30 : FVec F S16x24 .f32), FVec F S1x24 .f32) :=
  if h3 : k0_cond3 i = 1#1 then do
    Scf.Loop.for k0_t2_loop (k0_t2_ok i h3) ⟨⟩ (k0_t2_body i mT (isWhole_whole _) arg2 harg2 arg3 harg3 arg4 harg4 arg5 harg5 arg6 harg6 arg7 harg7 arg8 harg8 mA (isWhole_whole _) mB (isWhole_whole _) arg11 harg11 arg12 harg12 arg13 harg13 mC (isWhole_whole _) mS (isWhole_whole _) cc0_scratch2 cc0_scratch3 arg18 harg18 arg19 harg19 arg20 harg20 arg21 harg21 arg22 harg22 arg23 harg23 h3)
    tail3 i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23
  else tail3 i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23
/-- The head of the body. -/
noncomputable def tail1 : Prog (TpuEff nD τ sig (Elt F) Λ₀ .tc) (Σ' (v9 : BitVec 32) (v20 : IVec S24x24 1) (v28 : FVec F S24x1 .f32) (v30 : FVec F S16x24 .f32), FVec F S1x24 .f32) :=
  if h1 : k0_cond1 i = 1#1 then do
    let v108 : Vec F S512x128 .bf16 ← Prog.lift (.load arg18 (Rect.unit (s := S512x128) ![0, 0] S512x128.size inb_S512x128_S512x128_0_0).toLoadRect (View.loadsAt_vmem h_S512x128))
    Prog.lift (.store arg18 (Rect.unit (s := S512x128) ![0, 0] S512x128.size inb_S512x128_S512x128_0_0) (k0_pay606 (F := F)) Finset.univ (View.stores_vmem h_S512x128 (harg18.storeExact_slice rfl _ packedbf16_S512x128_S512x128_0_0) (fun _ => rfl)) (.inl rfl))
    Scf.Loop.for k0_t1_loop (k0_t1_ok i h1) ⟨⟩ (k0_t1_body i mT (isWhole_whole _) arg2 harg2 arg3 harg3 arg4 harg4 arg5 harg5 arg6 harg6 arg7 harg7 arg8 harg8 mA (isWhole_whole _) mB (isWhole_whole _) arg11 harg11 arg12 harg12 arg13 harg13 mC (isWhole_whole _) mS (isWhole_whole _) cc0_scratch2 cc0_scratch3 arg18 harg18 arg19 harg19 arg20 harg20 arg21 harg21 arg22 harg22 arg23 harg23 h1)
    tail2 i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23
  else tail2 i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23
set_option maxRecDepth 65536 in
/-- The printed head is this one. -/
theorem part164_eq : k0_part164 (F := F) i mT (isWhole_whole _) arg2 harg2 arg3 harg3 arg4 harg4 arg5 harg5 arg6 harg6 arg7 harg7 arg8 harg8 mA (isWhole_whole _) mB (isWhole_whole _) arg11 harg11 arg12 harg12 arg13 harg13 mC (isWhole_whole _) mS (isWhole_whole _) cc0_scratch2 cc0_scratch3 arg18 harg18 arg19 harg19 arg20 harg20 arg21 harg21 arg22 harg22 arg23 harg23 = tail1 i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 := rfl
/-- The head from its third loop on. -/
theorem tail3_run (q : PosShare TreeShare) :
    Mid2 c T fA fB i arg2 arg3 arg4 arg5 arg6 arg7 arg8 arg18 f2 f3 f4 f5 f6 f7 f8 q ⊢ wp frame (wpE defs Variants.none (c : Thread nD τ) none) Set.univ (tail3 i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23)
          (fun r => iprop(⌜r = ⟨v9Of i, k0_pay609, k0_pay610 ((arg8.access (Rect.unit (s := S1x24) ![0, 0] S1x24.size inb_S1x24_S1x24_0_0)).read (Elt F) f8), k0_pay611 ((arg3.access (Rect.unit (s := S16x24) ![0, 0] S16x24.size inb_S16x24_S16x24_0_0)).read (Elt F) f3), k0_pay612 ((arg4.access (Rect.unit (s := S1x24) ![0, 0] S1x24.size inb_S1x24_S1x24_0_0)).read (Elt F) f4)⟩⌝
            ∗ Tab (F := F) c T q ∗ (∃ W, owes (c : Thread nD τ) 0 W) ∗ Ready c T fA fB ((i 0).val % 2) (i 0).val
            ∗ Nxt c T fA fB ((i 0).val + 1)
            ∗ (∃ f18, ⌜Has18 c arg18 f18⌝ ∗ pt (F := F) c arg18 f18) ∗ Ins c arg2 arg3 arg4 arg5 arg6 arg7 arg8 f2 f3 f4 f5 f6 f7 f8)) := by
  unfold tail3
  simp only [wp_bind]
  unfold Mid2 Ins
  iintro ⟨HT, HO, HA, HB, H18, ⟨H2, H3, H4, H5, H6, H7, H8⟩⟩
  iapply (run_of c (loop3 c T fA fB i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 q)) $$ [HT HO HA]
  · isplitl [HT]; · iexact HT
    isplitl [HO] <;> iassumption
  iintro %a ⟨HT, HO, HA⟩
  imod (wt_ready c T fA fB ((i 0).val % 2) (i 0).val) $$ HA with HA
  iapply (wp_ld c arg8 f8 (Rect.unit (s := S1x24) ![0, 0] S1x24.size inb_S1x24_S1x24_0_0) _ _) $$ H8
  iintro H8
  iapply (wp_ld c arg3 f3 (Rect.unit (s := S16x24) ![0, 0] S16x24.size inb_S16x24_S16x24_0_0) _ _) $$ H3
  iintro H3
  iapply (wp_ld c arg4 f4 (Rect.unit (s := S1x24) ![0, 0] S1x24.size inb_S1x24_S1x24_0_0) _ _) $$ H4
  iintro H4
  simp only [wp_pure]
  imodintro
  isplitr
  · ipureintro; first | trivial | rfl
  isplitl [HT]; · iexact HT
  isplitl [HO]; · iexact HO
  isplitl [HA]; · iexact HA
  isplitl [HB]; · iexact HB
  isplitl [H18]; · iexact H18
  isplitl [H2]; · iexact H2
  isplitl [H3]; · iexact H3
  isplitl [H4]; · iexact H4
  isplitl [H5]; · iexact H5
  isplitl [H6]; · iexact H6
  isplitl [H7]; · iexact H7
  iexact H8

/-- The head from its second guard on. -/
theorem tail2_run (q : PosShare TreeShare) :
    Mid1 c T fA fB i arg2 arg3 arg4 arg5 arg6 arg7 arg8 arg18 f2 f3 f4 f5 f6 f7 f8 q ⊢ wp frame (wpE defs Variants.none (c : Thread nD τ) none) Set.univ (tail2 i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23)
          (fun r => iprop(⌜r = ⟨v9Of i, k0_pay609, k0_pay610 ((arg8.access (Rect.unit (s := S1x24) ![0, 0] S1x24.size inb_S1x24_S1x24_0_0)).read (Elt F) f8), k0_pay611 ((arg3.access (Rect.unit (s := S16x24) ![0, 0] S16x24.size inb_S16x24_S16x24_0_0)).read (Elt F) f3), k0_pay612 ((arg4.access (Rect.unit (s := S1x24) ![0, 0] S1x24.size inb_S1x24_S1x24_0_0)).read (Elt F) f4)⟩⌝
            ∗ Tab (F := F) c T q ∗ (∃ W, owes (c : Thread nD τ) 0 W) ∗ Ready c T fA fB ((i 0).val % 2) (i 0).val
            ∗ Nxt c T fA fB ((i 0).val + 1)
            ∗ (∃ f18, ⌜Has18 c arg18 f18⌝ ∗ pt (F := F) c arg18 f18) ∗ Ins c arg2 arg3 arg4 arg5 arg6 arg7 arg8 f2 f3 f4 f5 f6 f7 f8)) := by
  unfold tail2 Mid1
  by_cases h0 : (i 0).val + 1 < 40
  · rw [dif_pos ((cond3_iff i).mpr h0), wp_bind]
    iintro ⟨HT, HO, HA, HB, H18, HI⟩
    iapply (run_of c (loop2 c T fA fB i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 q ((cond3_iff i).mpr h0) h0)) $$ [HT HB]
    · isplitl [HT] <;> iassumption
    iintro %a ⟨HT, HB⟩
    iapply (tail3_run c T fA fB i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 f2 f3 f4 f5 f6 f7 f8 q)
    unfold Mid2 Nxt
    rw [if_pos h0]
    isplitl [HT]; · iexact HT
    isplitl [HO]; · iexact HO
    isplitl [HA]; · iexact HA
    isplitl [HB]; · iexact HB
    isplitl [H18] <;> iassumption
  · rw [dif_neg (fun h => h0 ((cond3_iff i).mp h))]
    refine BIBase.Entails.trans ?_ (tail3_run c T fA fB i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 f2 f3 f4 f5 f6 f7 f8 q)
    unfold Mid2 Nxt
    rw [if_neg h0]

/-- The head of the body: the transfers. -/
theorem head (q : PosShare TreeShare) :
    iprop(Tab (F := F) c T q ∗ (∃ W, owes (c : Thread nD τ) 0 W) ∗ Slots c T fA fB (i 0).val ∗ E18 (F := F) c arg18 (i 0).val ∗ Ins c arg2 arg3 arg4 arg5 arg6 arg7 arg8 f2 f3 f4 f5 f6 f7 f8)
      ⊢ wp frame (wpE defs Variants.none (c : Thread nD τ) none) Set.univ (k0_part164 i mT (isWhole_whole _) arg2 harg2 arg3 harg3 arg4 harg4 arg5 harg5 arg6 harg6 arg7 harg7 arg8 harg8 mA (isWhole_whole _) mB (isWhole_whole _) arg11 harg11 arg12 harg12 arg13 harg13 mC (isWhole_whole _) mS (isWhole_whole _) cc0_scratch2 cc0_scratch3 arg18 harg18 arg19 harg19 arg20 harg20 arg21 harg21 arg22 harg22 arg23 harg23)
          (fun r => iprop(⌜r = ⟨v9Of i, k0_pay609, k0_pay610 ((arg8.access (Rect.unit (s := S1x24) ![0, 0] S1x24.size inb_S1x24_S1x24_0_0)).read (Elt F) f8), k0_pay611 ((arg3.access (Rect.unit (s := S16x24) ![0, 0] S16x24.size inb_S16x24_S16x24_0_0)).read (Elt F) f3), k0_pay612 ((arg4.access (Rect.unit (s := S1x24) ![0, 0] S1x24.size inb_S1x24_S1x24_0_0)).read (Elt F) f4)⟩⌝
            ∗ Tab (F := F) c T q ∗ (∃ W, owes (c : Thread nD τ) 0 W) ∗ Ready c T fA fB ((i 0).val % 2) (i 0).val
            ∗ Nxt c T fA fB ((i 0).val + 1)
            ∗ (∃ f18, ⌜Has18 c arg18 f18⌝ ∗ pt (F := F) c arg18 f18) ∗ Ins c arg2 arg3 arg4 arg5 arg6 arg7 arg8 f2 f3 f4 f5 f6 f7 f8)) := by
  have hi : (i 0).val < 40 := (i 0).isLt
  rw [part164_eq]
  unfold tail1
  unfold Slots E18
  by_cases h0 : (i 0).val = 0
  · rw [dif_pos ((cond1_iff i).mpr h0), if_neg (by omega : ¬ (0 < (i 0).val ∧ (i 0).val < 40)), show Idle c fA fB ((i 0).val % 2) = Idle c fA fB 0 by rw [h0]]
    simp only [wp_bind]
    iintro ⟨HT, HO, ⟨HA, HB⟩, ⟨%f18, -, H18⟩, HI⟩
    iapply (wp_ld c arg18 f18 (Rect.unit (s := S512x128) ![0, 0] S512x128.size inb_S512x128_S512x128_0_0) _ _) $$ H18
    iintro H18
    iapply (wp_st c arg18 f18 (Rect.unit (s := S512x128) ![0, 0] S512x128.size inb_S512x128_S512x128_0_0) _ _ _ _) $$ H18
    iintro H18
    iapply (run_of c (loop1 c T fA fB i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 q ((cond1_iff i).mpr h0))) $$ [HT HA]
    · isplitl [HT] <;> iassumption
    iintro %a ⟨HT, HA⟩
    iapply (tail2_run c T fA fB i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 f2 f3 f4 f5 f6 f7 f8 q)
    unfold Mid1
    rw [show Pend c T fA fB ((i 0).val % 2) (i 0).val = Pend c T fA fB 0 0 by rw [h0]]
    isplitl [HT]; · iexact HT
    isplitl [HO]; · iexact HO
    isplitl [HA]; · iexact HA
    isplitl [HB]; · iexact HB
    isplitl [H18]
    · iexists ((arg18.access (Rect.unit (s := S512x128) ![0, 0] S512x128.size inb_S512x128_S512x128_0_0)).write (Elt F) f18 (k0_pay606 (F := F)) Finset.univ)
      isplitr [H18]
      · ipureintro; exact View.read_write_univ _ _
      · iexact H18
    iexact HI
  · rw [dif_neg (fun h => h0 ((cond1_iff i).mp h)), if_pos ⟨by omega, hi⟩]
    iintro ⟨HT, HO, ⟨HA, HB⟩, ⟨%f18, %h18, H18⟩, HI⟩
    iapply (tail2_run c T fA fB i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 f2 f3 f4 f5 f6 f7 f8 q)
    unfold Mid1
    isplitl [HT]; · iexact HT
    isplitl [HO]; · iexact HO
    isplitl [HA]; · iexact HA
    isplitl [HB]; · iexact HB
    isplitl [H18]
    · iexists f18
      isplitr [H18]
      · ipureintro; exact h18 (by omega)
      · iexact H18
    iexact HI
/-- The slots of the next point: its pending transfers, and the slot just read. -/
theorem slots_next (t : ℕ) (ht : t < 40) : iprop(Nxt c T fA fB (t + 1) ∗ Ready c T fA fB (t % 2) t) ⊢ Slots c T fA fB (t + 1) := by
  unfold Slots Nxt
  rw [show (t + 1 + 1) % 2 = t % 2 by omega]
  by_cases hn : t + 1 < 40
  · rw [if_pos hn, if_pos ⟨by omega, hn⟩]
    exact sep_mono .rfl (ready_idle c T fA fB (t % 2) t)
  · rw [if_neg hn, if_neg (fun h => hn h.2)]
    exact sep_mono .rfl (ready_idle c T fA fB (t % 2) t)
/-- One run of the body. -/
theorem body_run (hstep : StepOK c T fA fB i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 P f2 f3 f4 f5 f6 f7 f8) (q : PosShare TreeShare) :
    iprop(Tab (F := F) c T q ∗ (∃ W, owes (c : Thread nD τ) 0 W) ∗ Slots c T fA fB (i 0).val ∗ E18 (F := F) c arg18 (i 0).val
        ∗ Ins c arg2 arg3 arg4 arg5 arg6 arg7 arg8 f2 f3 f4 f5 f6 f7 f8 ∗ Outs c arg11 arg12 arg13 P 0 ∗ Scr5 (F := F) c arg19 arg20 arg21 arg22 arg23)
      ⊢ wp frame (wpE defs Variants.none (c : Thread nD τ) none) Set.univ (cc0_state_update i mT (isWhole_whole _) arg2 harg2 arg3 harg3 arg4 harg4 arg5 harg5 arg6 harg6 arg7 harg7 arg8 harg8 mA (isWhole_whole _) mB (isWhole_whole _) arg11 harg11 arg12 harg12 arg13 harg13 mC (isWhole_whole _) mS (isWhole_whole _) cc0_scratch2 cc0_scratch3 arg18 harg18 arg19 harg19 arg20 harg20 arg21 harg21 arg22 harg22 arg23 harg23)
          (fun _ => iprop(Tab (F := F) c T q ∗ (∃ W, owes (c : Thread nD τ) 0 W) ∗ Slots c T fA fB ((i 0).val + 1) ∗ E18 (F := F) c arg18 ((i 0).val + 1)
        ∗ Ins c arg2 arg3 arg4 arg5 arg6 arg7 arg8 f2 f3 f4 f5 f6 f7 f8 ∗ Outs c arg11 arg12 arg13 P 16 ∗ Scr5 (F := F) c arg19 arg20 arg21 arg22 arg23)) := by
  have hi : (i 0).val < 40 := (i 0).isLt
  rw [cc0_state_update_eq_skeleton]
  unfold cc0_state_update_skel
  simp only [wp_bind]
  iintro ⟨HT, HO, HS, H18, HI, HP, HX⟩
  iapply (run_of c (head c T fA fB i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 f2 f3 f4 f5 f6 f7 f8 q)) $$ [HT HO HS H18 HI]
  · isplitl [HT]; · iexact HT
    isplitl [HO]; · iexact HO
    isplitl [HS]; · iexact HS
    isplitl [H18] <;> iassumption
  iintro %r ⟨%hr, HT, HO, HA, HB, ⟨%f18, %h18, H18⟩, HI⟩
  subst hr
  unfold Scr5 Ins
  icases HX with ⟨HX, ⟨%f22, H22⟩, ⟨%f23, H23⟩⟩
  icases HI with ⟨H2, H3, H4, H5, H6, H7, H8⟩
  rw [k0_part165_eq_skeleton]
  unfold k0_part165_skel
  simp only [wp_bind]
  iapply (wp_ld c arg22 f22 (Rect.unit (s := S16x24) ![0, 0] S16x24.size inb_S16x24_S16x24_0_0) _ _) $$ H22
  iintro H22
  iapply (wp_st c arg22 f22 (Rect.unit (s := S16x24) ![0, 0] S16x24.size inb_S16x24_S16x24_0_0) _ _ _ _) $$ H22
  iintro H22
  iapply (wp_ld c arg5 f5 (Rect.unit (s := S1x24) ![0, 0] S1x24.size inb_S1x24_S1x24_0_0) _ _) $$ H5
  iintro H5
  iapply (wp_ld c arg23 f23 (Rect.unit (s := S16x24) ![0, 0] S16x24.size inb_S16x24_S16x24_0_0) _ _) $$ H23
  iintro H23
  iapply (wp_st c arg23 f23 (Rect.unit (s := S16x24) ![0, 0] S16x24.size inb_S16x24_S16x24_0_0) _ _ _ _) $$ H23
  iintro H23
  simp only [wp_pure]
  imodintro
  iapply (run_of c (loop4 c T fA fB i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 P f2 f6 f7 (v9Of i) k0_pay609 (k0_pay610 ((arg8.access (Rect.unit (s := S1x24) ![0, 0] S1x24.size inb_S1x24_S1x24_0_0)).read (Elt F) f8)) (k0_pay616 (F := F)) k0_pay617 (iota .tc S16x512 32 [1] iota_S16x512_d1_w32)
    f18 (dtOf c arg3 arg4 arg22 f3 f4 f22) (decayOf c arg3 arg4 arg5 arg23 f3 f4 f5 f23) (fun t gC gS f12 f13 => hstep f18 f22 f23 t gC gS f12 f13 h18))) $$ [H2 H6 H7 H18 H22 H23 HA HP HX]
  · isplitl [H2 H6 H7 H18 H22 H23]
    · unfold RO
      isplitl [H2]; · iexact H2
      isplitl [H6]; · iexact H6
      isplitl [H7]; · iexact H7
      isplitl [H18]; · iexact H18
      isplitl [H22]; · iexact H22
      iexact H23
    isplitl [HA]; · iexact HA
    isplitl [HP] <;> iassumption
  unfold RO
  iintro %a ⟨⟨H2, H6, H7, H18, H22, H23⟩, HA, HP, HX⟩
  simp only [wp_pure]
  imodintro
  isplitl [HT]; · iexact HT
  isplitl [HO]; · iexact HO
  isplitl [HA HB]
  · iapply (slots_next c T fA fB (i 0).val hi)
    isplitl [HB] <;> iassumption
  isplitl [H18]
  · unfold E18
    iexists f18
    isplitr [H18]
    · ipureintro; exact fun _ => h18
    · iexact H18
  isplitl [H2 H3 H4 H5 H6 H7 H8]
  · isplitl [H2]; · iexact H2
    isplitl [H3]; · iexact H3
    isplitl [H4]; · iexact H4
    isplitl [H5]; · iexact H5
    isplitl [H6]; · iexact H6
    isplitl [H7]; · iexact H7
    iexact H8
  isplitl [HP]; · iexact HP
  isplitl [HX]; · iexact HX
  isplitl [H22]
  · iexists (dtOf c arg3 arg4 arg22 f3 f4 f22); iexact H22
  iexists (decayOf c arg3 arg4 arg5 arg23 f3 f4 f5 f23); iexact H23

end Cert.Kernel.Hand

end
-- ==== Proof.State.Core.lean ====
/-
  One run of the kernel's body between the pipeline's blocks.
-/
module

public import proofs.«01_k».proof.Proof.State.Body

@[expose] public section

set_option maxRecDepth 16384

noncomputable section

namespace Cert.Kernel.Hand

open Cert.Kernel Cert.Kernel.Gen
open Idealize.ShloMosaic Idealize.ShloMosaic.TcCoe Idealize.ShloMosaic.Tactic
open Memref (isWhole_whole)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (c : Dev nD) (T : S640.Idx → BitVec 32) (fA : Buf (Elt F) (mA.view.loc (c : Thread nD τ))) (fB : Buf (Elt F) (mB.view.loc (c : Thread nD τ)))
variable {defs : Defs nD τ sig (Elt F) Λ₀}
variable (i : grid0.Coords)
  (arg2 : Memref sig .tc .vmem S16x24x64 .bf16) (harg2 : arg2.IsWhole) (arg3 : Memref sig .tc .vmem S16x24 .bf16) (harg3 : arg3.IsWhole)
  (arg4 : Memref sig .tc .vmem S1x24 .f32) (harg4 : arg4.IsWhole) (arg5 : Memref sig .tc .vmem S1x24 .f32) (harg5 : arg5.IsWhole)
  (arg6 : Memref sig .tc .vmem S16x1x128 .bf16) (harg6 : arg6.IsWhole) (arg7 : Memref sig .tc .vmem S16x1x128 .bf16) (harg7 : arg7.IsWhole)
  (arg8 : Memref sig .tc .vmem S1x24 .f32) (harg8 : arg8.IsWhole)
  (arg11 : Memref sig .tc .vmem S16x24x64 .bf16) (harg11 : arg11.IsWhole) (arg12 : Memref sig .tc .vmem S16x24x64x128 .fp8e4m3) (harg12 : arg12.IsWhole)
  (arg13 : Memref sig .tc .vmem S16x24x64 .f32) (harg13 : arg13.IsWhole)
  (arg18 : Memref sig .tc .vmem S512x128 .bf16) (harg18 : arg18.IsWhole) (arg19 : Memref sig .tc .vmem S512x128 .f32) (harg19 : arg19.IsWhole)
  (arg20 : Memref sig .tc .vmem S3x512x128 .fp8e4m3) (harg20 : arg20.IsWhole) (arg21 : Memref sig .tc .vmem S3x512x128 .f32) (harg21 : arg21.IsWhole)
  (arg22 : Memref sig .tc .vmem S16x24 .f32) (harg22 : arg22.IsWhole) (arg23 : Memref sig .tc .vmem S16x24 .f32) (harg23 : arg23.IsWhole)

/-- A whole buffer at a reading. -/
theorem owns_pt {S : Shape} {sp : CoreSpace} {e : EltTy} (M : Memref sig .tc sp S e) (h : M.IsWhole) (X : S.Idx → Elt F e) :
    (owns (c : Thread nD τ) M fullShare X : sProp 𝕄) = iprop(∃ f, ⌜M.view.read (Elt F) f = X⌝ ∗ pt (F := F) c M f) := by
  unfold owns
  rw [h.set_eq_univ]

variable (P : ℕ → Bf (F := F) c arg12 → Bf (F := F) c arg13 → Prop) (X2 : S16x24x64.Idx → Elt F .bf16) (X3 : S16x24.Idx → Elt F .bf16) (X4 : S1x24.Idx → Elt F .f32) (X5 : S1x24.Idx → Elt F .f32) (X6 : S16x1x128.Idx → Elt F .bf16) (X7 : S16x1x128.Idx → Elt F .bf16) (X8 : S1x24.Idx → Elt F .f32)

/-- What a run leaves in the two state results' blocks. -/
def Left : sProp 𝕄 := iprop(∃ f12 f13, ⌜P 16 f12 f13⌝ ∗ pt (F := F) c arg12 f12 ∗ pt (F := F) c arg13 f13)
/-- One run of the body, its blocks at their readings. -/
theorem core (hP0 : ∀ f12 f13, P 0 f12 f13)
    (hstep : ∀ f2 f3 f4 f5 f6 f7 f8, arg2.view.read (Elt F) f2 = X2 → arg3.view.read (Elt F) f3 = X3 → arg4.view.read (Elt F) f4 = X4 → arg5.view.read (Elt F) f5 = X5 → arg6.view.read (Elt F) f6 = X6 → arg7.view.read (Elt F) f7 = X7 → arg8.view.read (Elt F) f8 = X8 → StepOK c T fA fB i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 P f2 f3 f4 f5 f6 f7 f8) (q : PosShare TreeShare) :
    iprop(Tab (F := F) c T q ∗ (∃ W, owes (c : Thread nD τ) 0 W) ∗ Slots c T fA fB (i 0).val ∗ E18 (F := F) c arg18 (i 0).val ∗ Scr5 (F := F) c arg19 arg20 arg21 arg22 arg23
        ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ (∃ X, owns (c : Thread nD τ) arg11 fullShare X) ∗ (∃ X, owns (c : Thread nD τ) arg12 fullShare X) ∗ (∃ X, owns (c : Thread nD τ) arg13 fullShare X))
      ⊢ wp frame (wpE defs Variants.none (c : Thread nD τ) none) Set.univ (cc0_state_update i mT (isWhole_whole _) arg2 harg2 arg3 harg3 arg4 harg4 arg5 harg5 arg6 harg6 arg7 harg7 arg8 harg8 mA (isWhole_whole _) mB (isWhole_whole _) arg11 harg11 arg12 harg12 arg13 harg13 mC (isWhole_whole _) mS (isWhole_whole _) cc0_scratch2 cc0_scratch3 arg18 harg18 arg19 harg19 arg20 harg20 arg21 harg21 arg22 harg22 arg23 harg23)
          (fun _ => iprop(Tab (F := F) c T q ∗ (∃ W, owes (c : Thread nD τ) 0 W) ∗ Slots c T fA fB ((i 0).val + 1) ∗ E18 (F := F) c arg18 ((i 0).val + 1) ∗ Scr5 (F := F) c arg19 arg20 arg21 arg22 arg23
        ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ (∃ X, owns (c : Thread nD τ) arg11 fullShare X) ∗ Left c arg12 arg13 P)) := by
  rw [owns_pt c arg2 harg2, owns_pt c arg3 harg3, owns_pt c arg4 harg4, owns_pt c arg5 harg5, owns_pt c arg6 harg6, owns_pt c arg7 harg7, owns_pt c arg8 harg8]
  simp only [owns_pt c arg11 harg11, owns_pt c arg12 harg12, owns_pt c arg13 harg13]
  iintro ⟨HT, HO, HS, H18, HX, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%X11, %f11, -, H11⟩, ⟨%X12, %f12, -, H12⟩, ⟨%X13, %f13, -, H13⟩⟩
  iapply (run_of c (body_run c T fA fB i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 P f2 f3 f4 f5 f6 f7 f8 (hstep f2 f3 f4 f5 f6 f7 f8 h2 h3 h4 h5 h6 h7 h8) q)) $$ [HT HO HS H18 HX H2 H3 H4 H5 H6 H7 H8 H11 H12 H13]
  · isplitl [HT]; · iexact HT
    isplitl [HO]; · iexact HO
    isplitl [HS]; · iexact HS
    isplitl [H18]; · iexact H18
    isplitl [H2 H3 H4 H5 H6 H7 H8]
    · unfold Ins
      isplitl [H2]; · iexact H2
      isplitl [H3]; · iexact H3
      isplitl [H4]; · iexact H4
      isplitl [H5]; · iexact H5
      isplitl [H6]; · iexact H6
      isplitl [H7]; · iexact H7
      iexact H8
    isplitl [H11 H12 H13]
    · unfold Outs
      iexists f12, f13
      isplitr; · ipureintro; exact hP0 _ _
      isplitl [H11]; · iexists f11; iexact H11
      isplitl [H12] <;> iassumption
    iexact HX
  unfold Ins Outs Left
  iintro %_ ⟨HT, HO, HS, H18, ⟨H2, H3, H4, H5, H6, H7, H8⟩, ⟨%g12, %g13, %hP, ⟨%g11, H11⟩, H12, H13⟩, HX⟩
  isplitl [HT]; · iexact HT
  isplitl [HO]; · iexact HO
  isplitl [HS]; · iexact HS
  isplitl [H18]; · iexact H18
  isplitl [HX]; · iexact HX
  isplitl [H2]
  · iexists f2
    isplitr; · ipureintro; exact h2
    iexact H2
  isplitl [H3]
  · iexists f3
    isplitr; · ipureintro; exact h3
    iexact H3
  isplitl [H4]
  · iexists f4
    isplitr; · ipureintro; exact h4
    iexact H4
  isplitl [H5]
  · iexists f5
    isplitr; · ipureintro; exact h5
    iexact H5
  isplitl [H6]
  · iexists f6
    isplitr; · ipureintro; exact h6
    iexact H6
  isplitl [H7]
  · iexists f7
    isplitr; · ipureintro; exact h7
    iexact H7
  isplitl [H8]
  · iexists f8
    isplitr; · ipureintro; exact h8
    iexact H8
  isplitl [H11]
  · iexists _, g11
    isplitr; · ipureintro; exact rfl
    iexact H11
  iexists g12, g13
  isplitr; · ipureintro; exact hP
  isplitl [H12] <;> iassumption

end Cert.Kernel.Hand

end
-- ==== Proof.State.Pool.lean ====
/-
  The kernel's own buffers and semaphores, and the two pools, taken apart into the resources of the two slots and put
  together again.
-/
module

public import proofs.«01_k».proof.Proof.State.Body
public import Idealize.ShloMosaic.Lib.Ring

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (c : Dev nD) (T : S640.Idx → BitVec 32) (fA : Buf (Elt F) (mA.view.loc (c : Thread nD τ))) (fB : Buf (Elt F) (mB.view.loc (c : Thread nD τ)))

/-- A family over thirty-two numbers, as two families over sixteen. -/
theorem range32 (Φ : ℕ → sProp 𝕄) : bigSep (Finset.range 32) Φ = iprop(bigSep (Finset.range 16) Φ ∗ bigSep (Finset.range 16) (fun b => Φ (16 + b))) := by
  have h : ∀ k : ℕ, bigSep (Finset.range (16 + k)) Φ ⊣⊢ iprop(bigSep (Finset.range 16) Φ ∗ bigSep (Finset.range k) (fun b => Φ (16 + b))) := by
    intro k
    induction k with
    | zero => rw [Finset.range_zero, BI.bigSep_empty]; exact ⟨BI.sep_emp.2, BI.sep_emp.1⟩
    | succ k ih =>
      rw [show Finset.range (16 + (k + 1)) = insert (16 + k) (Finset.range (16 + k)) from Finset.range_add_one, BI.bigSep_insert Finset.notMem_range_self,
        Finset.range_add_one (n := k), BI.bigSep_insert Finset.notMem_range_self]
      constructor
      · refine (Idealize.SL.BI.sep_mono_r ih.1).trans ?_
        show iprop(Φ (16 + k) ∗ bigSep (Finset.range 16) Φ ∗ bigSep (Finset.range k) (fun b => Φ (16 + b))) ⊢ iprop(bigSep (Finset.range 16) Φ ∗ Φ (16 + k) ∗ bigSep (Finset.range k) (fun b => Φ (16 + b)))
        iintro ⟨H, H1, H2⟩
        isplitl [H1]; · iexact H1
        isplitl [H] <;> iassumption
      · refine BIBase.Entails.trans ?_ (Idealize.SL.BI.sep_mono_r ih.2)
        show iprop(bigSep (Finset.range 16) Φ ∗ Φ (16 + k) ∗ bigSep (Finset.range k) (fun b => Φ (16 + b))) ⊢ iprop(Φ (16 + k) ∗ bigSep (Finset.range 16) Φ ∗ bigSep (Finset.range k) (fun b => Φ (16 + b)))
        iintro ⟨H1, H, H2⟩
        isplitl [H]; · iexact H
        isplitl [H1] <;> iassumption
  exact BI.Entails.antisymm (h 16).1 (h 16).2

/-- Number `k` of the thirty-two windows of codes, and of scales. -/
def piecC (k : Fin 32) : Finset (Idx (mC.view.loc (c : Thread nD τ))) := setC c (k.val / 16) (k.val % 16)
def piecS (k : Fin 32) : Finset (Idx (mS.view.loc (c : Thread nD τ))) := setS c (k.val / 16) (k.val % 16)
theorem mem_setC (s b : ℕ) (j : S2x16x24x64x128.Idx) : (j : Idx (mC.view.loc (c : Thread nD τ))) ∈ setC c s b ↔ (j 0).val = s ∧ (j 1).val = b :=
  ⟨fun h => (Finset.mem_filter.mp h).2, fun h => Finset.mem_filter.mpr ⟨Finset.mem_univ _, h⟩⟩
theorem mem_setS (s b : ℕ) (j : S2x16x24x64.Idx) : (j : Idx (mS.view.loc (c : Thread nD τ))) ∈ setS c s b ↔ (j 0).val = s ∧ (j 1).val = b :=
  ⟨fun h => (Finset.mem_filter.mp h).2, fun h => Finset.mem_filter.mpr ⟨Finset.mem_univ _, h⟩⟩
/-- They are disjoint and cover the buffer. -/
theorem piecC_disj (b b' : Fin 32) (h : b ≠ b') : Disjoint (piecC c b) (piecC c b') := by
  rw [Finset.disjoint_left]
  intro j hj hj'
  have h1 := (mem_setC c _ _ j).mp hj
  have h2 := (mem_setC c _ _ j).mp hj'
  exact h (Fin.ext (by omega))
theorem piecS_disj (b b' : Fin 32) (h : b ≠ b') : Disjoint (piecS c b) (piecS c b') := by
  rw [Finset.disjoint_left]
  intro j hj hj'
  have h1 := (mem_setS c _ _ j).mp hj
  have h2 := (mem_setS c _ _ j).mp hj'
  exact h (Fin.ext (by omega))
theorem piecC_cover : Finset.univ.biUnion (piecC c) = Finset.univ := by
  refine Finset.eq_univ_iff_forall.mpr fun j => ?_
  have h0 : ((j : S2x16x24x64x128.Idx) 0).val < 2 := ((j : S2x16x24x64x128.Idx) 0).isLt
  have h1 : ((j : S2x16x24x64x128.Idx) 1).val < 16 := ((j : S2x16x24x64x128.Idx) 1).isLt
  refine Finset.mem_biUnion.mpr ⟨⟨16 * ((j : S2x16x24x64x128.Idx) 0).val + ((j : S2x16x24x64x128.Idx) 1).val, by omega⟩, Finset.mem_univ _, (mem_setC c _ _ j).mpr ⟨?_, ?_⟩⟩
  · show _ = (16 * _ + _) / 16; omega
  · show _ = (16 * _ + _) % 16; omega
theorem piecS_cover : Finset.univ.biUnion (piecS c) = Finset.univ := by
  refine Finset.eq_univ_iff_forall.mpr fun j => ?_
  have h0 : ((j : S2x16x24x64.Idx) 0).val < 2 := ((j : S2x16x24x64.Idx) 0).isLt
  have h1 : ((j : S2x16x24x64.Idx) 1).val < 16 := ((j : S2x16x24x64.Idx) 1).isLt
  refine Finset.mem_biUnion.mpr ⟨⟨16 * ((j : S2x16x24x64.Idx) 0).val + ((j : S2x16x24x64.Idx) 1).val, by omega⟩, Finset.mem_univ _, (mem_setS c _ _ j).mpr ⟨?_, ?_⟩⟩
  · show _ = (16 * _ + _) / 16; omega
  · show _ = (16 * _ + _) % 16; omega

/-- The thirty-two windows of codes, and of scales, by slot. -/
theorem winsC_eq : bigSep Finset.univ (fun k : Fin 32 => (iprop(∃ f, (mC.view.loc (c : Thread nD τ) ↦[piecC c k]{fullShare} f)) : sProp 𝕄))
    = iprop(bigSep (Finset.range 16) (WC' (F := F) c 0) ∗ bigSep (Finset.range 16) (WC' (F := F) c 1)) := by
  rw [Ring.bigSep_fin_eq_range 32 _ (fun k => WC' (F := F) c (k / 16) (k % 16)) (fun t h => rfl), range32]
  have e0 : bigSep (Finset.range 16) (fun k => WC' (F := F) c (k / 16) (k % 16)) = bigSep (Finset.range 16) (WC' (F := F) c 0) :=
    BI.bigSep_congr fun b hb => by have := Finset.mem_range.mp hb; rw [show b / 16 = 0 by omega, show b % 16 = b by omega]
  have e1 : bigSep (Finset.range 16) (fun b => WC' (F := F) c ((16 + b) / 16) ((16 + b) % 16)) = bigSep (Finset.range 16) (WC' (F := F) c 1) :=
    BI.bigSep_congr fun b hb => by have := Finset.mem_range.mp hb; rw [show (16 + b) / 16 = 1 by omega, show (16 + b) % 16 = b by omega]
  rw [e0, e1]
theorem winsS_eq : bigSep Finset.univ (fun k : Fin 32 => (iprop(∃ f, (mS.view.loc (c : Thread nD τ) ↦[piecS c k]{fullShare} f)) : sProp 𝕄))
    = iprop(bigSep (Finset.range 16) (WS' (F := F) c 0) ∗ bigSep (Finset.range 16) (WS' (F := F) c 1)) := by
  rw [Ring.bigSep_fin_eq_range 32 _ (fun k => WS' (F := F) c (k / 16) (k % 16)) (fun t h => rfl), range32]
  have e0 : bigSep (Finset.range 16) (fun k => WS' (F := F) c (k / 16) (k % 16)) = bigSep (Finset.range 16) (WS' (F := F) c 0) :=
    BI.bigSep_congr fun b hb => by have := Finset.mem_range.mp hb; rw [show b / 16 = 0 by omega, show b % 16 = b by omega]
  have e1 : bigSep (Finset.range 16) (fun b => WS' (F := F) c ((16 + b) / 16) ((16 + b) % 16)) = bigSep (Finset.range 16) (WS' (F := F) c 1) :=
    BI.bigSep_congr fun b hb => by have := Finset.mem_range.mp hb; rw [show (16 + b) / 16 = 1 by omega, show (16 + b) % 16 = b by omega]
  rw [e0, e1]

/-- The two slot buffers taken apart and put together again. -/
theorem splitC : (iprop(∃ f, pt (F := F) c mC f) : sProp 𝕄) ⊢ iprop(bigSep (Finset.range 16) (WC' (F := F) c 0) ∗ bigSep (Finset.range 16) (WC' (F := F) c 1)) := by
  rw [← winsC_eq]
  iintro ⟨%f, H⟩
  have h : (pt (F := F) c mC f : sProp 𝕄) ⊢ bigSep Finset.univ (fun k : Fin 32 => (iprop(∃ f, (mC.view.loc (c : Thread nD τ) ↦[piecC c k]{fullShare} f)) : sProp 𝕄)) := by
    refine (BIBase.Entails.of_eq (Ring.pointsTo_blocks (piecC c) (piecC_disj c) (piecC_cover c) f)).trans ?_
    refine BI.bigSep_mono fun b _ => ?_
    show (mC.view.loc (c : Thread nD τ) ↦[piecC c b]{fullShare} f : sProp 𝕄) ⊢ iprop(∃ f, (mC.view.loc (c : Thread nD τ) ↦[piecC c b]{fullShare} f))
    iintro H
    iexists f
    iexact H
  iapply h
  iexact H
theorem splitS : (iprop(∃ f, pt (F := F) c mS f) : sProp 𝕄) ⊢ iprop(bigSep (Finset.range 16) (WS' (F := F) c 0) ∗ bigSep (Finset.range 16) (WS' (F := F) c 1)) := by
  rw [← winsS_eq]
  iintro ⟨%f, H⟩
  have h : (pt (F := F) c mS f : sProp 𝕄) ⊢ bigSep Finset.univ (fun k : Fin 32 => (iprop(∃ f, (mS.view.loc (c : Thread nD τ) ↦[piecS c k]{fullShare} f)) : sProp 𝕄)) := by
    refine (BIBase.Entails.of_eq (Ring.pointsTo_blocks (piecS c) (piecS_disj c) (piecS_cover c) f)).trans ?_
    refine BI.bigSep_mono fun b _ => ?_
    show (mS.view.loc (c : Thread nD τ) ↦[piecS c b]{fullShare} f : sProp 𝕄) ⊢ iprop(∃ f, (mS.view.loc (c : Thread nD τ) ↦[piecS c b]{fullShare} f))
    iintro H
    iexists f
    iexact H
  iapply h
  iexact H
theorem joinC : iprop(bigSep (Finset.range 16) (WC' (F := F) c 0) ∗ bigSep (Finset.range 16) (WC' (F := F) c 1)) ⊢ (iprop(∃ f, pt (F := F) c mC f) : sProp 𝕄) := by
  rw [← winsC_eq]
  exact Ring.pointsTo_blocks_join_exists (piecC c) (piecC_disj c) (piecC_cover c) (fun _ => zeroC (F := F) (ix3 0 0 0))
theorem joinS : iprop(bigSep (Finset.range 16) (WS' (F := F) c 0) ∗ bigSep (Finset.range 16) (WS' (F := F) c 1)) ⊢ (iprop(∃ f, pt (F := F) c mS f) : sProp 𝕄) := by
  rw [← winsS_eq]
  exact Ring.pointsTo_blocks_join_exists (piecS c) (piecS_disj c) (piecS_cover c) (fun _ => zeroS (F := F) (ix2 0 0))

/-- What remains of the two pools beside the slots' read shares. -/
def RestA : sProp 𝕄 := (mA.view.loc (c : Thread nD τ) ↦{Transfers.shareDrop fullShare 32} fA)
def RestB : sProp 𝕄 := (mB.view.loc (c : Thread nD τ) ↦{Transfers.shareDrop fullShare 32} fB)
/-- A pool is its read shares, by slot, and what remains. -/
theorem toksA : (pt (F := F) c mA fA : sProp 𝕄) ⊣⊢ iprop(RestA c fA ∗ bigSep (Finset.range 16) (TokA c fA 0) ∗ bigSep (Finset.range 16) (TokA c fA 1)) := by
  have e := Transfers.pointsTo_toks_range (nD := nD) (τ := τ) (sig := sig) (Ix := Unit) (Val := Elt F) (Name := ℕ) (U := Pipeline.UD sig nD τ) (Lvl := ℕ) (ℓ := mA.view.loc (c : Thread nD τ)) (S := Finset.univ) (f := fA) fullShare 32
  rw [range32] at e
  have e0 : bigSep (Finset.range 16) (TokA c fA 0) = bigSep (Finset.range 16) (fun i => (mA.view.loc (c : Thread nD τ) ↦[Finset.univ]{Transfers.shareTokN fullShare i} fA : sProp 𝕄)) :=
    BI.bigSep_congr fun b _ => by unfold TokA qT; rw [show 16 * 0 + b = b by omega]
  rw [e0]
  exact e
theorem toksB : (pt (F := F) c mB fB : sProp 𝕄) ⊣⊢ iprop(RestB c fB ∗ bigSep (Finset.range 16) (TokB c fB 0) ∗ bigSep (Finset.range 16) (TokB c fB 1)) := by
  have e := Transfers.pointsTo_toks_range (nD := nD) (τ := τ) (sig := sig) (Ix := Unit) (Val := Elt F) (Name := ℕ) (U := Pipeline.UD sig nD τ) (Lvl := ℕ) (ℓ := mB.view.loc (c : Thread nD τ)) (S := Finset.univ) (f := fB) fullShare 32
  rw [range32] at e
  have e0 : bigSep (Finset.range 16) (TokB c fB 0) = bigSep (Finset.range 16) (fun i => (mB.view.loc (c : Thread nD τ) ↦[Finset.univ]{Transfers.shareTokN fullShare i} fB : sProp 𝕄)) :=
    BI.bigSep_congr fun b _ => by unfold TokB qT; rw [show 16 * 0 + b = b by omega]
  rw [e0]
  exact e

/-- The sequences of a slot are all free. -/
theorem free_eq (s : ℕ) : bigSep (Finset.range 16) (FreeAt c fA fB s)
    = iprop(bigSep (Finset.range 16) (WC' (F := F) c s) ∗ bigSep (Finset.range 16) (WS' (F := F) c s) ∗ bigSep (Finset.range 16) (TokA c fA s) ∗ bigSep (Finset.range 16) (TokB c fB s)) := by
  have e3 := BI.bigSep_sep (Finset.range 16) (TokA c fA s) (TokB c fB s)
  have e2 := (BI.bigSep_sep (Finset.range 16) (WS' (F := F) c s) (fun b => iprop(TokA c fA s b ∗ TokB c fB s b))).trans (congrArg (BI.sep _) e3)
  exact (BI.bigSep_sep (Finset.range 16) (WC' (F := F) c s) (fun b => iprop(WS' (F := F) c s b ∗ TokA c fA s b ∗ TokB c fB s b))).trans (congrArg (BI.sep _) e2)

/-- What the kernel's own buffers and semaphores are before and after the run. -/
def Own : sProp 𝕄 :=
  iprop((∃ f, pt (F := F) c mC f) ∗ (∃ f, pt (F := F) c mS f)
    ∗ (semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0)
    ∗ pt (F := F) c mA fA ∗ pt (F := F) c mB fB)
/-- Both slots idle, and what remains of the pools. -/
def Both : sProp 𝕄 := iprop(Idle c fA fB 0 ∗ Idle c fA fB 1 ∗ RestA c fA ∗ RestB c fB)
theorem own_both : Own c fA fB ⊢ Both c fA fB := by
  unfold Both Idle Own
  rw [free_eq, free_eq]
  iintro ⟨HC, HS, ⟨S17, S18, S19, S20⟩, HA, HB⟩
  ihave HC := (splitC (F := F) c) $$ HC
  ihave HS := (splitS (F := F) c) $$ HS
  ihave HA := (toksA c fA).1 $$ HA
  ihave HB := (toksB c fB).1 $$ HB
  icases HC with ⟨C0, C1⟩
  icases HS with ⟨S0, S1⟩
  icases HA with ⟨RA, A0, A1⟩
  icases HB with ⟨RB, B0, B1⟩
  isplitl [S17 S19 C0 S0 A0 B0]
  · isplitl [S17]; · iexact S17
    isplitl [S19]; · iexact S19
    isplitl [C0]; · iexact C0
    isplitl [S0]; · iexact S0
    isplitl [A0] <;> iassumption
  isplitl [S18 S20 C1 S1 A1 B1]
  · isplitl [S18]; · iexact S18
    isplitl [S20]; · iexact S20
    isplitl [C1]; · iexact C1
    isplitl [S1]; · iexact S1
    isplitl [A1] <;> iassumption
  isplitl [RA] <;> iassumption
theorem both_own : Both c fA fB ⊢ Own c fA fB := by
  unfold Both Idle Own
  rw [free_eq, free_eq]
  iintro ⟨⟨S17, S19, C0, S0, A0, B0⟩, ⟨S18, S20, C1, S1, A1, B1⟩, RA, RB⟩
  isplitl [C0 C1]
  · iapply (joinC (F := F) c)
    isplitl [C0] <;> iassumption
  isplitl [S0 S1]
  · iapply (joinS (F := F) c)
    isplitl [S0] <;> iassumption
  isplitl [S17 S18 S19 S20]
  · isplitl [S17]; · iexact S17
    isplitl [S18]; · iexact S18
    isplitl [S19]; · iexact S19
    iexact S20
  isplitl [RA A0 A1]
  · iapply (toksA c fA).2
    isplitl [RA]; · iexact RA
    isplitl [A0] <;> iassumption
  iapply (toksB c fB).2
  isplitl [RB]; · iexact RB
  isplitl [B0] <;> iassumption

end Cert.Kernel.Hand

end
-- ==== Proof.State.Launch.lean ====
/-
  The kernel's pipeline: its proof data and one point of it.
-/
module

public import proofs.«01_k».proof.Proof.State.Core
public import proofs.«01_k».proof.Proof.State.Pool
public import proofs.«01_k».proof.Proof.Gen.Kernel.Launch
public import Idealize.ShloMosaic.Lib.Pipeline.FrameBody

@[expose] public section

set_option maxRecDepth 16384

noncomputable section

namespace Cert.Kernel.Hand

open Cert.Kernel Cert.Kernel.Gen
open Idealize.ShloMosaic Idealize.ShloMosaic.TcCoe Idealize.ShloMosaic.Tactic
open Memref (isWhole_whole)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- The kernel's own semaphores. -/
abbrev osem0 : Fin 4 → SemLoc sig := ![SemLoc.dma 17, SemLoc.dma 18, SemLoc.dma 19, SemLoc.dma 20]
theorem ownSemFacts0 : Pipeline.OwnSemFacts spec0 osem0 := by decide
/-- The pools, which the kernel reads by its own transfers. -/
def H0 : Finset (Ref sig .tc) := {main_arg7, main_arg8}
theorem H0_sub : H0 ⊆ Pipeline.restRefsP sig pre0 spec0 := by decide

/-- The buffers as the kernel finds them. -/
def V (c : Dev nD) (b : Ref sig .tc) : Buf (Elt F) ((c : Thread nD τ).loc b) := StableHlo.after (hostOps0 (F := F)) (fun b => m (c, b)) b
theorem hostOps0_fresh : (hostOps0 : List (HloOp τ sig (Elt F))).Forall fun op => op.fresh = ∅ := ⟨rfl, rfl, rfl⟩
set_option backward.isDefEq.respectTransparency.types false in
theorem hmain (𝒱₀ : Variants) : Pipeline.HMainP (Ix := Unit) (Name := ℕ) (U := Pipeline.UD sig nD τ) (Lvl := ℕ) (pcfgs (F := F)) 0 defs₀ 𝒱₀ m (main (F := F)) (V m) :=
  Pipeline.hmainP_prefix pcfgs 0 defs₀ 𝒱₀ m main hostOps0 hostOps0_sub hostOps0_fresh main_chain

/-- The table of slots, as the kernel finds it. -/
def tbl : pre0.Contents (Elt F) := fun j => V m (0 : Dev nD) (pre0.ref j)
theorem V_pre (c : Dev nD) (j : Fin 1) : V m c (pre0.ref j) = tbl m j := by
  obtain rfl : c = 0 := Subsingleton.elim _ _
  rfl
theorem ok_tbl : ok0 (F := F) (tbl m) := by unfold ok0; trivial
abbrev adm : (pcfg0 (F := F)).Adm := ⟨tbl m, ok_tbl m⟩
abbrev cfgM : Pipeline.Cfg sig Λ₀ := cfg0 (adm m)

/-- A window's block at a point. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

abbrev ms0 (t : Fin (cfgM m).N) : Memref sig .tc .vmem S16x24x64 .bf16 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S16x24 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x24 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x24 .f32 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S16x1x128 .bf16 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S16x1x128 .bf16 := spec0_5.stage ((cfgM m).slots t 5)
abbrev hs5 (t : Fin (cfgM m).N) : (ms5 m t).IsWhole := hstage0_5 (((cfgM m).slots t 5).cast nbuf0_5)
abbrev ms6 (t : Fin (cfgM m).N) : Memref sig .tc .vmem S1x24 .f32 := spec0_6.stage ((cfgM m).slots t 6)
abbrev hs6 (t : Fin (cfgM m).N) : (ms6 m t).IsWhole := hstage0_6 (((cfgM m).slots t 6).cast nbuf0_6)
abbrev ms7 (t : Fin (cfgM m).N) : Memref sig .tc .vmem S16x24x64 .bf16 := spec0_7.stage ((cfgM m).slots t 7)
abbrev hs7 (t : Fin (cfgM m).N) : (ms7 m t).IsWhole := hstage0_7 (((cfgM m).slots t 7).cast nbuf0_7)
abbrev ms8 (t : Fin (cfgM m).N) : Memref sig .tc .vmem S16x24x64x128 .fp8e4m3 := spec0_8.stage ((cfgM m).slots t 8)
abbrev hs8 (t : Fin (cfgM m).N) : (ms8 m t).IsWhole := hstage0_8 (((cfgM m).slots t 8).cast nbuf0_8)
abbrev ms9 (t : Fin (cfgM m).N) : Memref sig .tc .vmem S16x24x64 .f32 := spec0_9.stage ((cfgM m).slots t 9)
abbrev hs9 (t : Fin (cfgM m).N) : (ms9 m t).IsWhole := hstage0_9 (((cfgM m).slots t 9).cast nbuf0_9)

/-- The state between the points. -/
def Φs (c : Dev nD) (t : ℕ) : sProp 𝕄 :=
  iprop(Tab (F := F) c (V m c main_arg9) fullShare.right ∗ Slots c (V m c main_arg9) (V m c main_arg7) (V m c main_arg8) t ∗ E18 (F := F) c (Memref.whole cc0_scratch4) t ∗ Scr5 (F := F) c (Memref.whole cc0_scratch5) (Memref.whole cc0_scratch6) (Memref.whole cc0_scratch7) (Memref.whole cc0_scratch8) (Memref.whole cc0_scratch9)
    ∗ RestA c (V m c main_arg7) ∗ RestB c (V m c main_arg8) ∗ (∃ r, prngReg (Ix := Unit) (Val := Elt F) (Name := ℕ) (U := Pipeline.UD sig nD τ) (Lvl := ℕ) c r))

variable (o8 : (c : Dev nD) → (t : Fin (cfgM m).N) → S16x24x64x128.Idx → Elt F .fp8e4m3) (o9 : (c : Dev nD) → (t : Fin (cfgM m).N) → S16x24x64.Idx → Elt F .f32)

/-- The proof data of the pipeline: each input block unchanged, the two state results' blocks as given, nothing said of the first
    result's. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfgM m) ⟨7, h⟩ t
    | ⟨8, _⟩ => o8 c t
    | ⟨9, _⟩ => o9 c t
    | ⟨_ + 10, h⟩ => absurd h (Nat.not_lt.2 (Nat.le_add_left _ _))
  Φ t := Φs m c t.val
  q _ := fullShare
  owed _ := 0
theorem A_eq (c : Dev nD) (w : Fin (cfgM m).W) : (dats m o8 o9 0 c).A w = V m c (Pipeline.arrRef spec0 w) := by
  dsimp only [dats]
theorem before0 (c : Dev nD) (t : Fin (cfgM m).N) (d) : (dats m o8 o9 0 c).before 0 t d = iblk m c 0 t :=
  ((dats m o8 o9 0 c).before_in_eq_fetched 0 rfl (fun _ => rfl) (fun _ _ _ => rfl) (fun t => rfl) t d).trans rfl
theorem before1 (c : Dev nD) (t : Fin (cfgM m).N) (d) : (dats m o8 o9 0 c).before 1 t d = iblk m c 1 t :=
  ((dats m o8 o9 0 c).before_in_eq_fetched 1 rfl (fun _ => rfl) (fun _ _ _ => rfl) (fun t => rfl) t d).trans rfl
theorem before2 (c : Dev nD) (t : Fin (cfgM m).N) (d) : (dats m o8 o9 0 c).before 2 t d = iblk m c 2 t :=
  ((dats m o8 o9 0 c).before_in_eq_fetched 2 rfl (fun _ => rfl) (fun _ _ _ => rfl) (fun t => rfl) t d).trans rfl
theorem before3 (c : Dev nD) (t : Fin (cfgM m).N) (d) : (dats m o8 o9 0 c).before 3 t d = iblk m c 3 t :=
  ((dats m o8 o9 0 c).before_in_eq_fetched 3 rfl (fun _ => rfl) (fun _ _ _ => rfl) (fun t => rfl) t d).trans rfl
theorem before4 (c : Dev nD) (t : Fin (cfgM m).N) (d) : (dats m o8 o9 0 c).before 4 t d = iblk m c 4 t :=
  ((dats m o8 o9 0 c).before_in_eq_fetched 4 rfl (fun _ => rfl) (fun _ _ _ => rfl) (fun t => rfl) t d).trans rfl
theorem before5 (c : Dev nD) (t : Fin (cfgM m).N) (d) : (dats m o8 o9 0 c).before 5 t d = iblk m c 5 t :=
  ((dats m o8 o9 0 c).before_in_eq_fetched 5 rfl (fun _ => rfl) (fun _ _ _ => rfl) (fun t => rfl) t d).trans rfl
theorem before6 (c : Dev nD) (t : Fin (cfgM m).N) (d) : (dats m o8 o9 0 c).before 6 t d = iblk m c 6 t :=
  ((dats m o8 o9 0 c).before_in_eq_fetched 6 rfl (fun _ => rfl) (fun _ _ _ => rfl) (fun t => rfl) t d).trans rfl

/-- The body as the pipeline calls it. -/
abbrev bodyAt (t : Fin (cfgM m).N) : Prog (TpuEff nD τ sig (Elt F) Λ₀ .tc) PUnit := cc0_state_update (F := F) (grid0.coords t) mT (isWhole_whole _) (ms0 m t) (hs0 m t) (ms1 m t) (hs1 m t) (ms2 m t) (hs2 m t) (ms3 m t) (hs3 m t) (ms4 m t) (hs4 m t) (ms5 m t) (hs5 m t) (ms6 m t) (hs6 m t) mA (isWhole_whole _) mB (isWhole_whole _) (ms7 m t) (hs7 m t) (ms8 m t) (hs8 m t) (ms9 m t) (hs9 m t) mC (isWhole_whole _) mS (isWhole_whole _) cc0_scratch2 cc0_scratch3 (Memref.whole cc0_scratch4) (isWhole_whole _) (Memref.whole cc0_scratch5) (isWhole_whole _) (Memref.whole cc0_scratch6) (isWhole_whole _) (Memref.whole cc0_scratch7) (isWhole_whole _) (Memref.whole cc0_scratch8) (isWhole_whole _) (Memref.whole cc0_scratch9) (isWhole_whole _)
theorem defs₀_row (t : Fin (cfgM m).N) : defs₀ (F := F) .tc (cfgM m).body ((cfgM m).bodyArgs t ((cfgM m).slots t)) = bodyAt m t := by
  unfold defs₀
  rw [Defs.onTc_tc]
theorem coords_val : ∀ t : Fin grid0.N, ((grid0.coords t) 0).val = t.val := by decide

/-- What a run of the body at a point leaves, as `StepOK` says it of the point's blocks. -/
def PointOK (c : Dev nD) (t : Fin (cfgM m).N) (P : ℕ → Bf (F := F) c (ms8 m t) → Bf (F := F) c (ms9 m t) → Prop) : Prop :=
  ∀ (f2 : Bf (F := F) c (ms0 m t)) (f3 : Bf (F := F) c (ms1 m t)) (f4 : Bf (F := F) c (ms2 m t)) (f5 : Bf (F := F) c (ms3 m t)) (f6 : Bf (F := F) c (ms4 m t)) (f7 : Bf (F := F) c (ms5 m t)) (f8 : Bf (F := F) c (ms6 m t)),
    (ms0 m t).view.read (Elt F) f2 = iblk m c 0 t → (ms1 m t).view.read (Elt F) f3 = iblk m c 1 t → (ms2 m t).view.read (Elt F) f4 = iblk m c 2 t → (ms3 m t).view.read (Elt F) f5 = iblk m c 3 t → (ms4 m t).view.read (Elt F) f6 = iblk m c 4 t → (ms5 m t).view.read (Elt F) f7 = iblk m c 5 t → (ms6 m t).view.read (Elt F) f8 = iblk m c 6 t →
    StepOK c (V m c main_arg9) (V m c main_arg7) (V m c main_arg8) (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (Memref.whole cc0_scratch4) (isWhole_whole _) (Memref.whole cc0_scratch5) (isWhole_whole _) (Memref.whole cc0_scratch6) (isWhole_whole _) (Memref.whole cc0_scratch7) (isWhole_whole _) (Memref.whole cc0_scratch8) (isWhole_whole _) (Memref.whole cc0_scratch9) (isWhole_whole _) P f2 f3 f4 f5 f6 f7 f8

/-- One point. -/
theorem point (c : Dev nD) (t : Fin (cfgM m).N) (P : ℕ → Bf (F := F) c (ms8 m t) → Bf (F := F) c (ms9 m t) → Prop) (hP0 : ∀ f12 f13, P 0 f12 f13) (hstep : PointOK m c t P) :
    iprop(Φs m c t.val ∗ (∃ W, owes (c : Thread nD τ) 0 W) ∗ owns (c : Thread nD τ) (ms0 m t) fullShare (iblk m c 0 t) ∗ owns (c : Thread nD τ) (ms1 m t) fullShare (iblk m c 1 t) ∗ owns (c : Thread nD τ) (ms2 m t) fullShare (iblk m c 2 t) ∗ owns (c : Thread nD τ) (ms3 m t) fullShare (iblk m c 3 t) ∗ owns (c : Thread nD τ) (ms4 m t) fullShare (iblk m c 4 t) ∗ owns (c : Thread nD τ) (ms5 m t) fullShare (iblk m c 5 t) ∗ owns (c : Thread nD τ) (ms6 m t) fullShare (iblk m c 6 t) ∗ (∃ X, owns (c : Thread nD τ) (ms7 m t) fullShare X) ∗ (∃ X, owns (c : Thread nD τ) (ms8 m t) fullShare X) ∗ (∃ X, owns (c : Thread nD τ) (ms9 m t) fullShare X))
      ⊢ wp frame (wpE defs₀ Variants.none (c : Thread nD τ) none) Set.univ (bodyAt m t)
        (fun _ => iprop(Φs m c (t.val + 1) ∗ (∃ W, owes (c : Thread nD τ) 0 W) ∗ owns (c : Thread nD τ) (ms0 m t) fullShare (iblk m c 0 t) ∗ owns (c : Thread nD τ) (ms1 m t) fullShare (iblk m c 1 t) ∗ owns (c : Thread nD τ) (ms2 m t) fullShare (iblk m c 2 t) ∗ owns (c : Thread nD τ) (ms3 m t) fullShare (iblk m c 3 t) ∗ owns (c : Thread nD τ) (ms4 m t) fullShare (iblk m c 4 t) ∗ owns (c : Thread nD τ) (ms5 m t) fullShare (iblk m c 5 t) ∗ owns (c : Thread nD τ) (ms6 m t) fullShare (iblk m c 6 t) ∗ (∃ X, owns (c : Thread nD τ) (ms7 m t) fullShare X) ∗ Left c (ms8 m t) (ms9 m t) P)) := by
  have h := core (defs := defs₀ (F := F)) c (V m c main_arg9) (V m c main_arg7) (V m c main_arg8) (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (Memref.whole cc0_scratch4) (isWhole_whole _) (Memref.whole cc0_scratch5) (isWhole_whole _) (Memref.whole cc0_scratch6) (isWhole_whole _) (Memref.whole cc0_scratch7) (isWhole_whole _) (Memref.whole cc0_scratch8) (isWhole_whole _) (Memref.whole cc0_scratch9) (isWhole_whole _) P (iblk m c 0 t) (iblk m c 1 t) (iblk m c 2 t) (iblk m c 3 t) (iblk m c 4 t) (iblk m c 5 t) (iblk m c 6 t) hP0 hstep fullShare.right
  rw [coords_val t] at h
  unfold Φs
  iintro ⟨⟨HT, HS, H18, HX, HA, HB, HG⟩, HO, H0, H1, H2, H3, H4, H5, H6, H7, H8, H9⟩
  iapply (run_of c h) $$ [HT HS H18 HX HO H0 H1 H2 H3 H4 H5 H6 H7 H8 H9]
  · isplitl [HT]; · iexact HT
    isplitl [HO]; · iexact HO
    isplitl [HS]; · iexact HS
    isplitl [H18]; · iexact H18
    isplitl [HX]; · iexact HX
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro %_ ⟨HT, HO, HS, H18, HX, H0, H1, H2, H3, H4, H5, H6, H7, HL⟩
  isplitl [HT HS H18 HX HA HB HG]
  · isplitl [HT]; · iexact HT
    isplitl [HS]; · iexact HS
    isplitl [H18]; · iexact H18
    isplitl [HX]; · iexact HX
    isplitl [HA]; · iexact HA
    isplitl [HB]; · iexact HB
    iexact HG
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HL

end Cert.Kernel.Hand

end
-- ==== Proof.State.Run.lean ====
/-
  The kernel's pipeline run: with nothing said of the results, and with the two state results' blocks given.
-/
module

public import proofs.«01_k».proof.Proof.State.Launch

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)
variable (o8 : (c : Dev nD) → (t : Fin (cfgM m).N) → S16x24x64x128.Idx → Elt F .fp8e4m3) (o9 : (c : Dev nD) → (t : Fin (cfgM m).N) → S16x24x64.Idx → Elt F .f32)

theorem ownSems0_eq4 (c : Dev nD) : (Pipeline.ownSems0 (Ix := Unit) (Name := ℕ) (U := Pipeline.UD sig nD τ) (Lvl := ℕ) (Val := Elt F) (τ := τ) osem0 c : sProp 𝕄)
    = iprop(semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) := by
  rw [Pipeline.ownSems0_eq_of_list c osem0 [0, 1, 2, 3] (by decide) (by decide)]
  rfl
theorem hbmPts0_eq (c : Dev nD) : (bigSep H0 (fun b => ((c : Thread nD τ).loc b) ↦{fullShare} V m c b) : sProp 𝕄)
    = iprop(pt (F := F) c mA (V m c main_arg7) ∗ pt (F := F) c mB (V m c main_arg8)) := by
  rw [BI.bigSep_eq_bigSepL_of_eq [main_arg7, main_arg8] (by decide) (by decide)]
  rfl
theorem PhiT0_eq (c : Dev nD) : (Pipeline.ΦT pre0 (tbl m) c : sProp 𝕄) = Tab (F := F) c (V m c main_arg9) fullShare.right := by
  obtain rfl : c = 0 := Subsingleton.elim _ _
  unfold Pipeline.ΦT Pipeline.prefHeld
  rw [BI.bigSep_univ_eq_bigSepL [(0 : Fin 1)] (by decide) (by decide)]
  rfl
/-- The kernel's invariant, conjunct by conjunct. -/
theorem PhiD0_eq (c : Dev nD) : (Pipeline.ΦD osem0 spec0 H0 (V m) c : sProp 𝕄)
    = iprop(((∃ f, pt (F := F) c mC f) ∗ (∃ f, pt (F := F) c mS f) ∗ (∃ f, pt (F := F) c (Memref.whole cc0_scratch4) f) ∗ (∃ f, pt (F := F) c (Memref.whole cc0_scratch5) f) ∗ (∃ f, pt (F := F) c (Memref.whole cc0_scratch6) f) ∗ (∃ f, pt (F := F) c (Memref.whole cc0_scratch7) f) ∗ (∃ f, pt (F := F) c (Memref.whole cc0_scratch8) f) ∗ (∃ f, pt (F := F) c (Memref.whole cc0_scratch9) f))
      ∗ (∃ r, prngReg (Ix := Unit) (Val := Elt F) (Name := ℕ) (U := Pipeline.UD sig nD τ) (Lvl := ℕ) c r)
      ∗ (semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0)
      ∗ pt (F := F) c mA (V m c main_arg7) ∗ pt (F := F) c mB (V m c main_arg8)) := by
  rw [Pipeline.ΦD_eq, scopedRest0_eq, ownSems0_eq4, hbmPts0_eq]
theorem owns_of (c : Dev nD) {S : Shape} {sp : CoreSpace} {e : EltTy} (M : Memref sig .tc sp S e) (h : M.IsWhole) (f : Bf (F := F) c M) :
    (pt (F := F) c M f : sProp 𝕄) ⊢ owns (c : Thread nD τ) M fullShare (M.view.read (Elt F) f) := by
  rw [owns_pt c M h]
  iintro H
  iexists f
  isplitr; · ipureintro; rfl
  iexact H
/-- Into the first point, and out of the last. -/
theorem hin (c : Dev nD) : iprop(Pipeline.ΦD osem0 spec0 H0 (V m) c ∗ Pipeline.ΦT pre0 (tbl m) c) ⊢ (Φs m c 0 : sProp 𝕄) := by
  rw [PhiD0_eq, PhiT0_eq]
  unfold Φs Slots E18 Scr5 Scr
  have hb := own_both c (V m c main_arg7) (V m c main_arg8)
  unfold Own Both at hb
  rw [if_neg (by omega)]
  iintro ⟨⟨⟨HC, HS, ⟨%f18, H18⟩, H19, H20, H21, H22, H23⟩, HG, HQ, HA, HB⟩, HT⟩
  ihave HO := hb $$ [HC HS HQ HA HB]
  · isplitl [HC]; · iexact HC
    isplitl [HS]; · iexact HS
    isplitl [HQ]; · iexact HQ
    isplitl [HA] <;> iassumption
  icases HO with ⟨H0, H1, RA, RB⟩
  isplitl [HT]; · iexact HT
  isplitl [H0 H1]; · isplitl [H0] <;> iassumption
  isplitl [H18]
  · iexists f18
    isplitr; · ipureintro; exact fun h => absurd h (by omega)
    iexact H18
  isplitl [H19 H20 H21 H22 H23]
  · isplitl [H19 H20 H21]
    · isplitl [H19]; · iexact H19
      isplitl [H20] <;> iassumption
    isplitl [H22] <;> iassumption
  isplitl [RA]; · iexact RA
  isplitl [RB]; · iexact RB
  iexact HG
theorem hout (c : Dev nD) : (Φs m c 40 : sProp 𝕄) ⊢ Pipeline.ΦD osem0 spec0 H0 (V m) c := by
  rw [PhiD0_eq]
  unfold Φs Slots E18 Scr5 Scr
  have hb := both_own c (V m c main_arg7) (V m c main_arg8)
  unfold Own Both at hb
  rw [if_neg (by omega)]
  iintro ⟨HT, ⟨H0, H1⟩, ⟨%f18, -, H18⟩, ⟨⟨H19, H20, H21⟩, H22, H23⟩, RA, RB, HG⟩
  ihave HO := hb $$ [H0 H1 RA RB]
  · isplitl [H0]; · iexact H0
    isplitl [H1]; · iexact H1
    isplitl [RA] <;> iassumption
  icases HO with ⟨HC, HS, HQ, HA, HB⟩
  isplitl [HC HS H18 H19 H20 H21 H22 H23]
  · isplitl [HC]; · iexact HC
    isplitl [HS]; · iexact HS
    isplitl [H18]; · iexists f18; iexact H18
    isplitl [H19]; · iexact H19
    isplitl [H20]; · iexact H20
    isplitl [H21]; · iexact H21
    isplitl [H22] <;> iassumption
  isplitl [HG]; · iexact HG
  isplitl [HQ]; · iexact HQ
  isplitl [HA] <;> iassumption

/-- Nothing is said of any result. -/
abbrev fgtA : Fin 10 → Bool := fun | 0 => false | 1 => false | 2 => false | 3 => false | 4 => false | 5 => false | 6 => false | 7 => true | 8 => true | 9 => true | ⟨_ + 10, h⟩ => absurd h (Nat.not_lt.2 (Nat.le_add_left _ _))
theorem soundA (c : Dev nD) (t : Fin (cfgM m).N) :
    iprop((dats m o8 o9 0 c).Φ t.castSucc ∗ (dats m o8 o9 0 c).owesAt () t.castSucc ∗ (∃ d, owns (c : Thread nD τ) (ms0 m t) fullShare ((dats m o8 o9 0 c).before 0 t d)) ∗ (∃ d, owns (c : Thread nD τ) (ms1 m t) fullShare ((dats m o8 o9 0 c).before 1 t d)) ∗ (∃ d, owns (c : Thread nD τ) (ms2 m t) fullShare ((dats m o8 o9 0 c).before 2 t d)) ∗ (∃ d, owns (c : Thread nD τ) (ms3 m t) fullShare ((dats m o8 o9 0 c).before 3 t d)) ∗ (∃ d, owns (c : Thread nD τ) (ms4 m t) fullShare ((dats m o8 o9 0 c).before 4 t d)) ∗ (∃ d, owns (c : Thread nD τ) (ms5 m t) fullShare ((dats m o8 o9 0 c).before 5 t d)) ∗ (∃ d, owns (c : Thread nD τ) (ms6 m t) fullShare ((dats m o8 o9 0 c).before 6 t d)) ∗ (∃ X, owns (c : Thread nD τ) (ms7 m t) fullShare X) ∗ (∃ X, owns (c : Thread nD τ) (ms8 m t) fullShare X) ∗ (∃ X, owns (c : Thread nD τ) (ms9 m t) fullShare X))
      ⊢ wp frame (wpE (defs₀ (F := F)) Variants.none (c : Thread nD τ) none) Set.univ (bodyAt m t)
        (fun _ => iprop((dats m o8 o9 0 c).Φ t.succ ∗ (dats m o8 o9 0 c).owesAt () t.succ ∗ owns (c : Thread nD τ) (ms0 m t) fullShare ((dats m o8 o9 0 c).after 0 t) ∗ owns (c : Thread nD τ) (ms1 m t) fullShare ((dats m o8 o9 0 c).after 1 t) ∗ owns (c : Thread nD τ) (ms2 m t) fullShare ((dats m o8 o9 0 c).after 2 t) ∗ owns (c : Thread nD τ) (ms3 m t) fullShare ((dats m o8 o9 0 c).after 3 t) ∗ owns (c : Thread nD τ) (ms4 m t) fullShare ((dats m o8 o9 0 c).after 4 t) ∗ owns (c : Thread nD τ) (ms5 m t) fullShare ((dats m o8 o9 0 c).after 5 t) ∗ owns (c : Thread nD τ) (ms6 m t) fullShare ((dats m o8 o9 0 c).after 6 t) ∗ (∃ X, owns (c : Thread nD τ) (ms7 m t) fullShare X) ∗ (∃ X, owns (c : Thread nD τ) (ms8 m t) fullShare X) ∗ (∃ X, owns (c : Thread nD τ) (ms9 m t) fullShare X))) := by
  rw [show (dats m o8 o9 0 c).Φ t.castSucc = Φs m c t.val from rfl, show (dats m o8 o9 0 c).Φ t.succ = Φs m c (t.val + 1) from rfl]
  unfold Dat.owesAt Pipeline.owesWithin
  rw [show (dats m o8 o9 0 c).owed t.castSucc = 0 from rfl, show (dats m o8 o9 0 c).owed t.succ = 0 from rfl]
  simp only [before0 m o8 o9 c t, before1 m o8 o9 c t, before2 m o8 o9 c t, before3 m o8 o9 c t, before4 m o8 o9 c t, before5 m o8 o9 c t, before6 m o8 o9 c t]
  iintro ⟨HΦ, ⟨%W, -, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_of c (point m c t (fun _ _ _ => True) (fun _ _ => trivial) (fun _ _ _ _ _ _ _ _ _ _ _ _ _ _ _ => by intros; trivial))) $$ [HΦ HO H0 H1 H2 H3 H4 H5 H6 H7 H8 H9]
  · isplitl [HΦ]; · iexact HΦ
    isplitl [HO]; · iexists W; iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists d7; iexact H7
    isplitl [H8]; · iexists _; iexact H8
    iexists _; iexact H9
  unfold Left
  iintro %_ ⟨HΦ, ⟨%W', HO⟩, H0, H1, H2, H3, H4, H5, H6, H7, %g8, %g9, %hP, H8, H9⟩
  isplitl [HΦ]; · iexact HΦ
  isplitl [HO]
  · iexists W'
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; iapply (owns_of c (ms8 m t) (hs8 m t) g8); iexact H8
  iexists _; iapply (owns_of c (ms9 m t) (hs9 m t) g9); iexact H9
theorem body_obligationA (c : Dev nD) : BodyObligation (dats m o8 o9 0 c) (defs₀ (F := F)) Variants.none () Set.univ fgtA := fun t => by
  rw [bigSep_W0, bigSep_W0, defs₀_row]
  exact triple_restated (soundA m o8 o9 c t) rfl .rfl fun _ => .rfl
set_option backward.isDefEq.respectTransparency.types false in
theorem run_mainA : θ_run defs (onTc (τ := τ) (main (F := F))) (s₀ m ρ) (fun r => Pipeline.RDat.FramePost (cfgM m) (fun c => (dats m o8 o9 0 c).toRForget fgtA) (V m) r ∧ r.2.sem = fun _ => 0) :=
  Pipeline.θ_run_frameP_dma_forget (Q' := _) pcfgs (fun _ => adm m) (dats m o8 o9) (0 : Fin 1) launch0 osem0 defs₀ Variants.none fgtA ownSemFacts0 H0 H0_sub m ρ main
    (hbody := fun c => (body_obligationA m o8 o9 c).loose) (hshare := fun c => (dats m o8 o9 0 c).share_full fun _ => rfl)
    (howed := fun _ _ => rfl) (V := V m) (hmain := hmain m Variants.none) (hA := A_eq m o8 o9) (hpf := V_pre m)
    (hin := fun c => hin m c) (hout := fun c => hout m c)

/-- Nothing is said of the first result. -/
abbrev fgtV : Fin 10 → Bool := fun | 0 => false | 1 => false | 2 => false | 3 => false | 4 => false | 5 => false | 6 => false | 7 => true | 8 => false | 9 => false | ⟨_ + 10, h⟩ => absurd h (Nat.not_lt.2 (Nat.le_add_left _ _))
theorem soundV (c : Dev nD) (t : Fin (cfgM m).N)
    (P : ℕ → Bf (F := F) c (ms8 m t) → Bf (F := F) c (ms9 m t) → Prop) (hP0 : ∀ f12 f13, P 0 f12 f13) (hstep : PointOK m c t P)
    (hP : ∀ f12 f13, P 16 f12 f13 → (ms8 m t).view.read (Elt F) f12 = o8 c t ∧ (ms9 m t).view.read (Elt F) f13 = o9 c t) :
    iprop((dats m o8 o9 0 c).Φ t.castSucc ∗ (dats m o8 o9 0 c).owesAt () t.castSucc ∗ (∃ d, owns (c : Thread nD τ) (ms0 m t) fullShare ((dats m o8 o9 0 c).before 0 t d)) ∗ (∃ d, owns (c : Thread nD τ) (ms1 m t) fullShare ((dats m o8 o9 0 c).before 1 t d)) ∗ (∃ d, owns (c : Thread nD τ) (ms2 m t) fullShare ((dats m o8 o9 0 c).before 2 t d)) ∗ (∃ d, owns (c : Thread nD τ) (ms3 m t) fullShare ((dats m o8 o9 0 c).before 3 t d)) ∗ (∃ d, owns (c : Thread nD τ) (ms4 m t) fullShare ((dats m o8 o9 0 c).before 4 t d)) ∗ (∃ d, owns (c : Thread nD τ) (ms5 m t) fullShare ((dats m o8 o9 0 c).before 5 t d)) ∗ (∃ d, owns (c : Thread nD τ) (ms6 m t) fullShare ((dats m o8 o9 0 c).before 6 t d)) ∗ (∃ X, owns (c : Thread nD τ) (ms7 m t) fullShare X) ∗ (∃ d, owns (c : Thread nD τ) (ms8 m t) fullShare ((dats m o8 o9 0 c).before 8 t d)) ∗ (∃ d, owns (c : Thread nD τ) (ms9 m t) fullShare ((dats m o8 o9 0 c).before 9 t d)))
      ⊢ wp frame (wpE (defs₀ (F := F)) Variants.none (c : Thread nD τ) none) Set.univ (bodyAt m t)
        (fun _ => iprop((dats m o8 o9 0 c).Φ t.succ ∗ (dats m o8 o9 0 c).owesAt () t.succ ∗ owns (c : Thread nD τ) (ms0 m t) fullShare ((dats m o8 o9 0 c).after 0 t) ∗ owns (c : Thread nD τ) (ms1 m t) fullShare ((dats m o8 o9 0 c).after 1 t) ∗ owns (c : Thread nD τ) (ms2 m t) fullShare ((dats m o8 o9 0 c).after 2 t) ∗ owns (c : Thread nD τ) (ms3 m t) fullShare ((dats m o8 o9 0 c).after 3 t) ∗ owns (c : Thread nD τ) (ms4 m t) fullShare ((dats m o8 o9 0 c).after 4 t) ∗ owns (c : Thread nD τ) (ms5 m t) fullShare ((dats m o8 o9 0 c).after 5 t) ∗ owns (c : Thread nD τ) (ms6 m t) fullShare ((dats m o8 o9 0 c).after 6 t) ∗ (∃ X, owns (c : Thread nD τ) (ms7 m t) fullShare X) ∗ owns (c : Thread nD τ) (ms8 m t) fullShare ((dats m o8 o9 0 c).after 8 t) ∗ owns (c : Thread nD τ) (ms9 m t) fullShare ((dats m o8 o9 0 c).after 9 t))) := by
  rw [show (dats m o8 o9 0 c).Φ t.castSucc = Φs m c t.val from rfl, show (dats m o8 o9 0 c).Φ t.succ = Φs m c (t.val + 1) from rfl]
  unfold Dat.owesAt Pipeline.owesWithin
  rw [show (dats m o8 o9 0 c).owed t.castSucc = 0 from rfl, show (dats m o8 o9 0 c).owed t.succ = 0 from rfl]
  simp only [before0 m o8 o9 c t, before1 m o8 o9 c t, before2 m o8 o9 c t, before3 m o8 o9 c t, before4 m o8 o9 c t, before5 m o8 o9 c t, before6 m o8 o9 c t]
  iintro ⟨HΦ, ⟨%W, -, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_of c (point m c t P hP0 hstep)) $$ [HΦ HO H0 H1 H2 H3 H4 H5 H6 H7 H8 H9]
  · isplitl [HΦ]; · iexact HΦ
    isplitl [HO]; · iexists W; iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists d7; iexact H7
    isplitl [H8]; · iexists _; iexact H8
    iexists _; iexact H9
  unfold Left
  iintro %_ ⟨HΦ, ⟨%W', HO⟩, H0, H1, H2, H3, H4, H5, H6, H7, %g8, %g9, %hP', H8, H9⟩
  isplitl [HΦ]; · iexact HΦ
  isplitl [HO]
  · iexists W'
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · rw [show (dats m o8 o9 0 c).after 8 t = (ms8 m t).view.read (Elt F) g8 from (hP g8 g9 hP').1.symm]
    iapply (owns_of c (ms8 m t) (hs8 m t) g8); iexact H8
  rw [show (dats m o8 o9 0 c).after 9 t = (ms9 m t).view.read (Elt F) g9 from (hP g8 g9 hP').2.symm]
  iapply (owns_of c (ms9 m t) (hs9 m t) g9); iexact H9
variable (P : (c : Dev nD) → (t : Fin (cfgM m).N) → ℕ → Bf (F := F) c (ms8 m t) → Bf (F := F) c (ms9 m t) → Prop) (hP0 : ∀ c t f12 f13, P c t 0 f12 f13) (hstep : ∀ c t, PointOK m c t (P c t))
    (hP : ∀ c t f12 f13, P c t 16 f12 f13 → (ms8 m t).view.read (Elt F) f12 = o8 c t ∧ (ms9 m t).view.read (Elt F) f13 = o9 c t)
include hP0 hstep hP
theorem body_obligationV (c : Dev nD) : BodyObligation (dats m o8 o9 0 c) (defs₀ (F := F)) Variants.none () Set.univ fgtV := fun t => by
  rw [bigSep_W0, bigSep_W0, defs₀_row]
  exact triple_restated (soundV m o8 o9 c t (P c t) (hP0 c t) (hstep c t) (hP c t)) rfl .rfl fun _ => .rfl
set_option backward.isDefEq.respectTransparency.types false in
theorem run_mainV : θ_run defs (onTc (τ := τ) (main (F := F))) (s₀ m ρ) (fun r => Pipeline.RDat.FramePost (cfgM m) (fun c => (dats m o8 o9 0 c).toRForget fgtV) (V m) r ∧ r.2.sem = fun _ => 0) :=
  Pipeline.θ_run_frameP_dma_forget (Q' := _) pcfgs (fun _ => adm m) (dats m o8 o9) (0 : Fin 1) launch0 osem0 defs₀ Variants.none fgtV ownSemFacts0 H0 H0_sub m ρ main
    (hbody := fun c => (body_obligationV m o8 o9 P hP0 hstep hP c).loose) (hshare := fun c => (dats m o8 o9 0 c).share_full fun _ => rfl)
    (howed := fun _ _ => rfl) (V := V m) (hmain := hmain m Variants.none) (hA := A_eq m o8 o9) (hpf := V_pre m)
    (hin := fun c => hin m c) (hout := fun c => hout m c)

end Cert.Kernel.Hand

end
-- ==== Proof.State.Frame.lean ====
/-
  The kernel's frame.
-/
module

public import proofs.«01_k».proof.Proof.State.Run
public import Idealize.ShloMosaic.Lib.StableHlo.RunRead

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)
variable (o8 : (c : Dev nD) → (t : Fin (cfgM m).N) → S16x24x64x128.Idx → Elt F .fp8e4m3) (o9 : (c : Dev nD) → (t : Fin (cfgM m).N) → S16x24x64.Idx → Elt F .f32)

/-! No argument array is written before the kernel runs. -/
theorem V_arg0 (c : Dev nD) : V m c main_arg0 = m ((c : Thread nD τ).loc main_arg0) := by
  unfold V
  exact StableHlo.after_unwritten [main_v0, main_v1, main_v2] rfl (by decide) _
theorem V_arg1 (c : Dev nD) : V m c main_arg1 = m ((c : Thread nD τ).loc main_arg1) := by
  unfold V
  exact StableHlo.after_unwritten [main_v0, main_v1, main_v2] rfl (by decide) _
theorem V_arg2 (c : Dev nD) : V m c main_arg2 = m ((c : Thread nD τ).loc main_arg2) := by
  unfold V
  exact StableHlo.after_unwritten [main_v0, main_v1, main_v2] rfl (by decide) _
theorem V_arg3 (c : Dev nD) : V m c main_arg3 = m ((c : Thread nD τ).loc main_arg3) := by
  unfold V
  exact StableHlo.after_unwritten [main_v0, main_v1, main_v2] rfl (by decide) _
theorem V_arg4 (c : Dev nD) : V m c main_arg4 = m ((c : Thread nD τ).loc main_arg4) := by
  unfold V
  exact StableHlo.after_unwritten [main_v0, main_v1, main_v2] rfl (by decide) _
theorem V_arg5 (c : Dev nD) : V m c main_arg5 = m ((c : Thread nD τ).loc main_arg5) := by
  unfold V
  exact StableHlo.after_unwritten [main_v0, main_v1, main_v2] rfl (by decide) _
theorem V_arg6 (c : Dev nD) : V m c main_arg6 = m ((c : Thread nD τ).loc main_arg6) := by
  unfold V
  exact StableHlo.after_unwritten [main_v0, main_v1, main_v2] rfl (by decide) _
theorem V_arg7 (c : Dev nD) : V m c main_arg7 = m ((c : Thread nD τ).loc main_arg7) := by
  unfold V
  exact StableHlo.after_unwritten [main_v0, main_v1, main_v2] rfl (by decide) _
theorem V_arg8 (c : Dev nD) : V m c main_arg8 = m ((c : Thread nD τ).loc main_arg8) := by
  unfold V
  exact StableHlo.after_unwritten [main_v0, main_v1, main_v2] rfl (by decide) _
theorem V_arg9 (c : Dev nD) : V m c main_arg9 = m ((c : Thread nD τ).loc main_arg9) := by
  unfold V
  exact StableHlo.after_unwritten [main_v0, main_v1, main_v2] rfl (by decide) _

/-- The argument arrays at the end are those of the start. -/
abbrev Kept (m : (ℓ : Loc nD τ sig) → Buf (Elt F) ℓ) (r : PUnit × MemSt nD τ sig (Elt F)) (c : Dev nD) : Prop :=
  r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9)

/-- The argument arrays end unchanged. -/
theorem args_of {fgt : Fin 10 → Bool} {r : PUnit × MemSt nD τ sig (Elt F)} (h : Pipeline.RDat.FramePost (cfgM m) (fun c => (dats m o8 o9 0 c).toRForget fgt) (V m) r ∧ r.2.sem = fun _ => 0) (c : Dev nD) :
    Kept m r c :=
  ⟨(Pipeline.RDat.FramePost.arr_in h.1 c 0 rfl).trans ((A_eq m o8 o9 c 0).trans (V_arg0 m c)),
    (Pipeline.RDat.FramePost.arr_in h.1 c 1 rfl).trans ((A_eq m o8 o9 c 1).trans (V_arg1 m c)),
    ((h.1 c).2 main_arg2 (by decide : main_arg2 ∈ Pipeline.restRefs sig spec0)).trans (V_arg2 m c),
    ((h.1 c).2 main_arg3 (by decide : main_arg3 ∈ Pipeline.restRefs sig spec0)).trans (V_arg3 m c),
    (Pipeline.RDat.FramePost.arr_in h.1 c 4 rfl).trans ((A_eq m o8 o9 c 4).trans (V_arg4 m c)),
    (Pipeline.RDat.FramePost.arr_in h.1 c 5 rfl).trans ((A_eq m o8 o9 c 5).trans (V_arg5 m c)),
    ((h.1 c).2 main_arg6 (by decide : main_arg6 ∈ Pipeline.restRefs sig spec0)).trans (V_arg6 m c),
    ((h.1 c).2 main_arg7 (by decide : main_arg7 ∈ Pipeline.restRefs sig spec0)).trans (V_arg7 m c),
    ((h.1 c).2 main_arg8 (by decide : main_arg8 ∈ Pipeline.restRefs sig spec0)).trans (V_arg8 m c),
    ((h.1 c).2 main_arg9 (by decide : main_arg9 ∈ Pipeline.restRefs sig spec0)).trans (V_arg9 m c)⟩
/-- The program terminates, nothing faults, its argument arrays end unchanged and every semaphore at zero. -/
theorem frame : θ_run defs (onTc (τ := τ) (main (F := F))) ⟨m, fun _ => 0, ρ⟩ (fun r => (∀ c : Dev nD, Kept m r c) ∧ r.2.sem = fun _ => 0) :=
  (θ_run defs _ _).mono (fun _ h => ⟨fun c => args_of m (fun c t => Pipeline.Dat.unnamed (cfg := cfgM m) 8 t) (fun c t => Pipeline.Dat.unnamed (cfg := cfgM m) 9 t) h c, h.2⟩) (run_mainA m ρ _ _)

end Cert.Kernel.Hand

end
-- ==== Proof.StateI.Sets.lean ====
/-
  The windows of the kernel's double buffer and of the pool: the memrefs that the transfers name, and the sets of
  elements they cover, as plain conditions on the leading coordinates.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Value
public import Idealize.ShloMosaic.Lib.ValueIdxCore
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The code buffer, the scale buffer, the two pool arrays and the table of indices. -/
abbrev mC : Memref sig .tc .vmem S2x16x24x64x128 .fp8e4m3 := Memref.whole cc0_scratch0
abbrev mS : Memref sig .tc .vmem S2x16x24x64 .f32 := Memref.whole cc0_scratch1
abbrev mA : Memref sig .tc .hbm S803x24x64x128 .fp8e4m3 := Memref.whole main_arg7
abbrev mB : Memref sig .tc .hbm S803x24x64 .f32 := Memref.whole main_arg8
abbrev mT : Memref sig .tc .smem S640 .i32 := Memref.whole main_arg9

/-- A window of the code buffer: one sequence of one slot. -/
abbrev winC (o : Fin 5 → ℕ) (h : ∀ a, o a + S1x1x24x64x128.size a ≤ S2x16x24x64x128.size a) : Memref sig .tc .vmem S24x64x128 .fp8e4m3 :=
  (mC.slice (Rect.unit (s := S2x16x24x64x128) o S1x1x24x64x128.size h) (fun _ => rfl)).squeeze S24x64x128 squeezes_S1x1x24x64x128_S24x64x128
/-- A window of the scale buffer: one sequence of one slot. -/
abbrev winS (o : Fin 4 → ℕ) (h : ∀ a, o a + S1x1x24x64.size a ≤ S2x16x24x64.size a) : Memref sig .tc .vmem S24x64 .f32 :=
  (mS.slice (Rect.unit (s := S2x16x24x64) o S1x1x24x64.size h) (fun _ => rfl)).squeeze S24x64 squeezes_S1x1x24x64_S24x64
/-- One row of the pool of codes. -/
abbrev rowA (o : Fin 4 → ℕ) (h : ∀ a, o a + S1x24x64x128.size a ≤ S803x24x64x128.size a) : Memref sig .tc .hbm S24x64x128 .fp8e4m3 :=
  (mA.slice (Rect.unit (s := S803x24x64x128) o S1x24x64x128.size h) (fun _ => rfl)).squeeze S24x64x128 squeezes_S1x24x64x128_S24x64x128
/-- One row of the pool of scales. -/
abbrev rowB (o : Fin 3 → ℕ) (h : ∀ a, o a + S1x24x64.size a ≤ S803x24x64.size a) : Memref sig .tc .hbm S24x64 .f32 :=
  (mB.slice (Rect.unit (s := S803x24x64) o S1x24x64.size h) (fun _ => rfl)).squeeze S24x64 squeezes_S1x24x64_S24x64

/-- The elements of sequence `b` of slot `s` of the code buffer. -/
def setC (c : Dev nD) (s b : ℕ) : Finset (Idx (mC.view.loc (c : Thread nD τ))) :=
  Finset.univ.filter fun j : S2x16x24x64x128.Idx => (j 0).val = s ∧ (j 1).val = b
/-- The elements of sequence `b` of slot `s` of the scale buffer. -/
def setS (c : Dev nD) (s b : ℕ) : Finset (Idx (mS.view.loc (c : Thread nD τ))) :=
  Finset.univ.filter fun j : S2x16x24x64.Idx => (j 0).val = s ∧ (j 1).val = b
/-- The elements of row `r` of the pool of codes. -/
def setA (c : Dev nD) (r : ℕ) : Finset (Idx (mA.view.loc (c : Thread nD τ))) :=
  Finset.univ.filter fun j : S803x24x64x128.Idx => (j 0).val = r
/-- The elements of row `r` of the pool of scales. -/
def setB (c : Dev nD) (r : ℕ) : Finset (Idx (mB.view.loc (c : Thread nD τ))) :=
  Finset.univ.filter fun j : S803x24x64.Idx => (j 0).val = r

/-- The window at `(s, b)` covers exactly the codes of that sequence and slot. -/
theorem set_winC (c : Dev nD) (s b : ℕ) (h) : (winC ![s, b, 0, 0, 0] h).view.set = setC c s b := by
  ext j
  have A : j ∈ (winC ![s, b, 0, 0, 0] h).view.set ↔ ∀ a : Fin 5, (![s, b, 0, 0, 0] : Fin 5 → ℕ) a ≤ (j a : ℕ) ∧ (j a : ℕ) < (![s, b, 0, 0, 0] : Fin 5 → ℕ) a + S1x1x24x64x128.size a := by
    simp only [winC, Memref.view_squeeze, Memref.view_slice, View.set_reshape]
    refine (Iff.of_eq (congrArg (j ∈ ·) (View.set_slice_whole _ _))).trans ?_
    exact Rect.mem_set_unit
  have h0 : (j 0 : ℕ) < 2 := (j 0).isLt
  have h1 : (j 1 : ℕ) < 16 := (j 1).isLt
  have h2 : (j 2 : ℕ) < 24 := (j 2).isLt
  have h3 : (j 3 : ℕ) < 64 := (j 3).isLt
  have h4 : (j 4 : ℕ) < 128 := (j 4).isLt
  rw [A]
  simp only [setC, Finset.mem_filter, Finset.mem_univ, true_and]
  constructor
  · intro H
    exact ⟨by have := H 0; simp at this; omega, by have := H 1; simp at this; omega⟩
  · intro H
    intro a
    fin_cases a <;> simp <;> omega

/-- The window at `(s, b)` covers exactly the scales of that sequence and slot. -/
theorem set_winS (c : Dev nD) (s b : ℕ) (h) : (winS ![s, b, 0, 0] h).view.set = setS c s b := by
  ext j
  have A : j ∈ (winS ![s, b, 0, 0] h).view.set ↔ ∀ a : Fin 4, (![s, b, 0, 0] : Fin 4 → ℕ) a ≤ (j a : ℕ) ∧ (j a : ℕ) < (![s, b, 0, 0] : Fin 4 → ℕ) a + S1x1x24x64.size a := by
    simp only [winS, Memref.view_squeeze, Memref.view_slice, View.set_reshape]
    refine (Iff.of_eq (congrArg (j ∈ ·) (View.set_slice_whole _ _))).trans ?_
    exact Rect.mem_set_unit
  have h0 : (j 0 : ℕ) < 2 := (j 0).isLt
  have h1 : (j 1 : ℕ) < 16 := (j 1).isLt
  have h2 : (j 2 : ℕ) < 24 := (j 2).isLt
  have h3 : (j 3 : ℕ) < 64 := (j 3).isLt
  rw [A]
  simp only [setS, Finset.mem_filter, Finset.mem_univ, true_and]
  constructor
  · intro H
    exact ⟨by have := H 0; simp at this; omega, by have := H 1; simp at this; omega⟩
  · intro H
    intro a
    fin_cases a <;> simp <;> omega

/-- The row at `r` covers exactly the codes of that row. -/
theorem set_rowA (c : Dev nD) (r : ℕ) (h) : (rowA ![r, 0, 0, 0] h).view.set = setA c r := by
  ext j
  have A : j ∈ (rowA ![r, 0, 0, 0] h).view.set ↔ ∀ a : Fin 4, (![r, 0, 0, 0] : Fin 4 → ℕ) a ≤ (j a : ℕ) ∧ (j a : ℕ) < (![r, 0, 0, 0] : Fin 4 → ℕ) a + S1x24x64x128.size a := by
    simp only [rowA, Memref.view_squeeze, Memref.view_slice, View.set_reshape]
    refine (Iff.of_eq (congrArg (j ∈ ·) (View.set_slice_whole _ _))).trans ?_
    exact Rect.mem_set_unit
  have h0 : (j 0 : ℕ) < 803 := (j 0).isLt
  have h1 : (j 1 : ℕ) < 24 := (j 1).isLt
  have h2 : (j 2 : ℕ) < 64 := (j 2).isLt
  have h3 : (j 3 : ℕ) < 128 := (j 3).isLt
  rw [A]
  simp only [setA, Finset.mem_filter, Finset.mem_univ, true_and]
  constructor
  · intro H
    exact by have := H 0; simp at this; omega
  · intro H
    intro a
    fin_cases a <;> simp <;> omega

/-- The row at `r` covers exactly the scales of that row. -/
theorem set_rowB (c : Dev nD) (r : ℕ) (h) : (rowB ![r, 0, 0] h).view.set = setB c r := by
  ext j
  have A : j ∈ (rowB ![r, 0, 0] h).view.set ↔ ∀ a : Fin 3, (![r, 0, 0] : Fin 3 → ℕ) a ≤ (j a : ℕ) ∧ (j a : ℕ) < (![r, 0, 0] : Fin 3 → ℕ) a + S1x24x64.size a := by
    simp only [rowB, Memref.view_squeeze, Memref.view_slice, View.set_reshape]
    refine (Iff.of_eq (congrArg (j ∈ ·) (View.set_slice_whole _ _))).trans ?_
    exact Rect.mem_set_unit
  have h0 : (j 0 : ℕ) < 803 := (j 0).isLt
  have h1 : (j 1 : ℕ) < 24 := (j 1).isLt
  have h2 : (j 2 : ℕ) < 64 := (j 2).isLt
  rw [A]
  simp only [setB, Finset.mem_filter, Finset.mem_univ, true_and]
  constructor
  · intro H
    exact by have := H 0; simp at this; omega
  · intro H
    intro a
    fin_cases a <;> simp <;> omega

/-! ## Reads through a window -/

/-- A read through a window of the code buffer is a read of the buffer at the window's slot and sequence. -/
theorem read_winC (c : Dev nD) (s : Fin 2) (b : Fin 16) (h) (g : Buf (Elt F) (mC.view.loc (c : Thread nD τ))) (i : S24x64x128.Idx) :
    (winC ![s.val, b.val, 0, 0, 0] h).view.read (Elt F) g i = (g : S2x16x24x64x128.Idx → Elt F .fp8e4m3) (ix5 s b (i 0) (i 1) (i 2)) := by
  rw [Memref.read_squeeze_slice mC _ (fun _ => rfl) squeezes_S1x1x24x64x128_S24x64x128 (show S1x1x24x64x128.ShapeCasts S24x64x128 by decide) g]
  refine (shapeCast_apply (s := S1x1x24x64x128) _ _ i (ix5 0 0 (i 0) (i 1) (i 2)) ?_).trans ?_
  · rw [Shape.rowMajor_val_five, Shape.rowMajor_val_three]
    show ((((0 * 1 + 0) * 24 + (i 0).val) * 64 + (i 1).val) * 128 + (i 2).val) = ((i 0).val * 64 + (i 1).val) * 128 + (i 2).val
    omega
  · refine congrArg (g : S2x16x24x64x128.Idx → Elt F .fp8e4m3) (funext fun a => Fin.ext ?_)
    match a with
    | ⟨0, _⟩ => show s.val + 1 * 0 = s.val; omega
    | ⟨1, _⟩ => show b.val + 1 * 0 = b.val; omega
    | ⟨2, _⟩ => show 0 + 1 * (i 0).val = (i 0).val; omega
    | ⟨3, _⟩ => show 0 + 1 * (i 1).val = (i 1).val; omega
    | ⟨4, _⟩ => show 0 + 1 * (i 2).val = (i 2).val; omega

/-- A read through a window of the scale buffer is a read of the buffer at the window's slot and sequence. -/
theorem read_winS (c : Dev nD) (s : Fin 2) (b : Fin 16) (h) (g : Buf (Elt F) (mS.view.loc (c : Thread nD τ))) (i : S24x64.Idx) :
    (winS ![s.val, b.val, 0, 0] h).view.read (Elt F) g i = (g : S2x16x24x64.Idx → Elt F .f32) (ix4 s b (i 0) (i 1)) := by
  rw [Memref.read_squeeze_slice mS _ (fun _ => rfl) squeezes_S1x1x24x64_S24x64 (show S1x1x24x64.ShapeCasts S24x64 by decide) g]
  refine (shapeCast_apply (s := S1x1x24x64) _ _ i (ix4 0 0 (i 0) (i 1)) ?_).trans ?_
  · rw [Shape.rowMajor_val_four, Shape.rowMajor_val_two]
    show (((0 * 1 + 0) * 24 + (i 0).val) * 64 + (i 1).val) = (i 0).val * 64 + (i 1).val
    omega
  · refine congrArg (g : S2x16x24x64.Idx → Elt F .f32) (funext fun a => Fin.ext ?_)
    match a with
    | ⟨0, _⟩ => show s.val + 1 * 0 = s.val; omega
    | ⟨1, _⟩ => show b.val + 1 * 0 = b.val; omega
    | ⟨2, _⟩ => show 0 + 1 * (i 0).val = (i 0).val; omega
    | ⟨3, _⟩ => show 0 + 1 * (i 1).val = (i 1).val; omega

/-- A read through a row of the pool of codes. -/
theorem read_rowA (c : Dev nD) (r : Fin 803) (h) (g : Buf (Elt F) (mA.view.loc (c : Thread nD τ))) (i : S24x64x128.Idx) :
    (rowA ![r.val, 0, 0, 0] h).view.read (Elt F) g i = (g : S803x24x64x128.Idx → Elt F .fp8e4m3) (ix4 r (i 0) (i 1) (i 2)) := by
  rw [Memref.read_squeeze_slice mA _ (fun _ => rfl) squeezes_S1x24x64x128_S24x64x128 (show S1x24x64x128.ShapeCasts S24x64x128 by decide) g]
  refine (shapeCast_apply (s := S1x24x64x128) _ _ i (ix4 0 (i 0) (i 1) (i 2)) ?_).trans ?_
  · rw [Shape.rowMajor_val_four, Shape.rowMajor_val_three]
    show (((0 * 24 + (i 0).val) * 64 + (i 1).val) * 128 + (i 2).val) = ((i 0).val * 64 + (i 1).val) * 128 + (i 2).val
    omega
  · refine congrArg (g : S803x24x64x128.Idx → Elt F .fp8e4m3) (funext fun a => Fin.ext ?_)
    match a with
    | ⟨0, _⟩ => show r.val + 1 * 0 = r.val; omega
    | ⟨1, _⟩ => show 0 + 1 * (i 0).val = (i 0).val; omega
    | ⟨2, _⟩ => show 0 + 1 * (i 1).val = (i 1).val; omega
    | ⟨3, _⟩ => show 0 + 1 * (i 2).val = (i 2).val; omega

/-- A read through a row of the pool of scales. -/
theorem read_rowB (c : Dev nD) (r : Fin 803) (h) (g : Buf (Elt F) (mB.view.loc (c : Thread nD τ))) (i : S24x64.Idx) :
    (rowB ![r.val, 0, 0] h).view.read (Elt F) g i = (g : S803x24x64.Idx → Elt F .f32) (ix3 r (i 0) (i 1)) := by
  rw [Memref.read_squeeze_slice mB _ (fun _ => rfl) squeezes_S1x24x64_S24x64 (show S1x24x64.ShapeCasts S24x64 by decide) g]
  refine (shapeCast_apply (s := S1x24x64) _ _ i (ix3 0 (i 0) (i 1)) ?_).trans ?_
  · rw [Shape.rowMajor_val_three, Shape.rowMajor_val_two]
    show (0 * 24 + (i 0).val) * 64 + (i 1).val = (i 0).val * 64 + (i 1).val
    omega
  · refine congrArg (g : S803x24x64.Idx → Elt F .f32) (funext fun a => Fin.ext ?_)
    match a with
    | ⟨0, _⟩ => show r.val + 1 * 0 = r.val; omega
    | ⟨1, _⟩ => show 0 + 1 * (i 0).val = (i 0).val; omega
    | ⟨2, _⟩ => show 0 + 1 * (i 1).val = (i 1).val; omega

/-! ## The table's words and the rows they name -/

/-- Whether a table word names a row of the pool: it is not negative. -/
abbrev liveW (w : BitVec 32) : Prop := k0_cond2 w = 1#1

/-- The row that a table word names: the word, but at most the last row. -/
def rowW (w : BitVec 32) : ℕ := (Scalar.minsi w 802#32).toNat

/-- A table word names a row exactly when it is not negative. -/
theorem liveW_iff (w : BitVec 32) : liveW w ↔ 0 ≤ w.toInt := by
  have e : ((0#32).sle w = true) ↔ 0 ≤ w.toInt := by simp [BitVec.sle]
  rw [← e]
  unfold liveW k0_cond2
  simp only [Scalar.cmpi, IntOp.cmpi, Scalar.extui]
  cases (0#32).sle w <;> decide

/-- The row a live word names, as a number. -/
theorem rowW_eq (w : BitVec 32) (h : liveW w) : rowW w = min w.toNat 802 := by
  rw [liveW_iff] at h
  have h' : w.toNat < 2 ^ 31 := by
    have := BitVec.toInt_eq_toNat_cond w
    have := w.isLt
    split at * <;> omega
  unfold rowW Scalar.minsi IntOp.minsi
  have e : (w.slt 802#32 = true) ↔ w.toNat < 802 := by
    simp only [BitVec.slt, decide_eq_true_eq]
    have := BitVec.toInt_eq_toNat_cond w
    have h8 : (802#32).toInt = 802 := by decide
    rw [h8]
    split at * <;> omega
  split
  · rename_i hs; rw [e] at hs; omega
  · rename_i hs; rw [e] at hs; simp; omega

/-- The row a live word names lies in the pool. -/
theorem rowW_lt (w : BitVec 32) (h : liveW w) : rowW w < 803 := by rw [rowW_eq w h]; omega

/-- The step of the grid as coordinates. -/
def mkC (x : Fin 40) : grid0.Coords := fun a => ⟨x.val, by match a with | ⟨0, _⟩ => exact x.isLt⟩
theorem eq_mkC (i : grid0.Coords) : i = mkC (i 0) := by
  funext a; match a with | ⟨0, _⟩ => rfl

/-! ## The offsets that the loops compute -/

/-- The first branch is taken at the first step alone. -/
theorem cond1_iff (i : grid0.Coords) : k0_cond1 i = 1#1 ↔ (i 0).val = 0 := by
  have A : ∀ x : Fin 40, (k0_cond1 (mkC x) = 1#1 ↔ x.val = 0) := by decide +kernel
  rw [eq_mkC i]; exact A (i 0)
/-- The second branch is taken at every step but the last. -/
theorem cond3_iff (i : grid0.Coords) : k0_cond3 i = 1#1 ↔ (i 0).val + 1 < 40 := by
  have A : ∀ x : Fin 40, (k0_cond3 (mkC x) = 1#1 ↔ x.val + 1 < 40) := by decide +kernel
  rw [eq_mkC i]; exact A (i 0)

theorem off1_eq (t : Fin k0_t1_loop.trips) : k0_off1 t = ![t.val] := by revert t; decide +kernel
theorem off2_eq (t : Fin k0_t1_loop.trips) : k0_off2 t = ![t.val] := by revert t; decide +kernel
theorem off3_eq (t : Fin k0_t1_loop.trips) : k0_off3 t = ![0, t.val, 0, 0, 0] := by revert t; decide +kernel
theorem off5_eq (t : Fin k0_t1_loop.trips) : k0_off5 t = ![0, t.val, 0, 0] := by revert t; decide +kernel
theorem off7_eq (i : grid0.Coords) (t : Fin k0_t2_loop.trips) (h : (i 0).val + 1 < 40) : k0_off7 i t = ![16 * ((i 0).val + 1) + t.val] := by
  have A : ∀ (x : Fin 40) (t : Fin k0_t2_loop.trips), x.val + 1 < 40 → k0_off7 (mkC x) t = ![16 * (x.val + 1) + t.val] := by decide +kernel
  rw [eq_mkC i]; exact A (i 0) t h
theorem off8_eq (i : grid0.Coords) (t : Fin k0_t2_loop.trips) (h : (i 0).val + 1 < 40) : k0_off8 i t = ![16 * ((i 0).val + 1) + t.val] := by
  have A : ∀ (x : Fin 40) (t : Fin k0_t2_loop.trips), x.val + 1 < 40 → k0_off8 (mkC x) t = ![16 * (x.val + 1) + t.val] := by decide +kernel
  rw [eq_mkC i]; exact A (i 0) t h
theorem off9_eq (i : grid0.Coords) (h : (i 0).val + 1 < 40) : k0_off9 i = ![((i 0).val + 1) % 2] := by
  have A : ∀ (x : Fin 40), x.val + 1 < 40 → k0_off9 (mkC x) = ![(x.val + 1) % 2] := by decide +kernel
  rw [eq_mkC i]; exact A (i 0) h
theorem off12_eq (i : grid0.Coords) (h : (i 0).val + 1 < 40) : k0_off12 i = ![((i 0).val + 1) % 2] := by
  have A : ∀ (x : Fin 40), x.val + 1 < 40 → k0_off12 (mkC x) = ![(x.val + 1) % 2] := by decide +kernel
  rw [eq_mkC i]; exact A (i 0) h
theorem off10_eq (i : grid0.Coords) (t : Fin k0_t2_loop.trips) (h : (i 0).val + 1 < 40) : k0_off10 i t = ![((i 0).val + 1) % 2, t.val, 0, 0, 0] := by
  have A : ∀ (x : Fin 40) (t : Fin k0_t2_loop.trips), x.val + 1 < 40 → k0_off10 (mkC x) t = ![(x.val + 1) % 2, t.val, 0, 0, 0] := by decide +kernel
  rw [eq_mkC i]; exact A (i 0) t h
theorem off13_eq (i : grid0.Coords) (t : Fin k0_t2_loop.trips) (h : (i 0).val + 1 < 40) : k0_off13 i t = ![((i 0).val + 1) % 2, t.val, 0, 0] := by
  have A : ∀ (x : Fin 40) (t : Fin k0_t2_loop.trips), x.val + 1 < 40 → k0_off13 (mkC x) t = ![(x.val + 1) % 2, t.val, 0, 0] := by decide +kernel
  rw [eq_mkC i]; exact A (i 0) t h
theorem off15_eq (i : grid0.Coords) (t : Fin k0_t3_loop.trips) : k0_off15 i t = ![16 * (i 0).val + t.val] := by
  have A : ∀ (x : Fin 40) (t : Fin k0_t3_loop.trips), k0_off15 (mkC x) t = ![16 * x.val + t.val] := by decide +kernel
  rw [eq_mkC i]; exact A (i 0) t
theorem off16_eq (i : grid0.Coords) (t : Fin k0_t3_loop.trips) : k0_off16 i t = ![16 * (i 0).val + t.val] := by
  have A : ∀ (x : Fin 40) (t : Fin k0_t3_loop.trips), k0_off16 (mkC x) t = ![16 * x.val + t.val] := by decide +kernel
  rw [eq_mkC i]; exact A (i 0) t
theorem off23_eq (i : grid0.Coords) (t : Fin k0_t3_loop.trips) : k0_off23 i t = ![16 * (i 0).val + t.val] := by
  have A : ∀ (x : Fin 40) (t : Fin k0_t3_loop.trips), k0_off23 (mkC x) t = ![16 * x.val + t.val] := by decide +kernel
  rw [eq_mkC i]; exact A (i 0) t
theorem off17_eq (i : grid0.Coords) : k0_off17 i = ![(i 0).val % 2] := by
  have A : ∀ (x : Fin 40), k0_off17 (mkC x) = ![x.val % 2] := by decide +kernel
  rw [eq_mkC i]; exact A (i 0)
theorem off20_eq (i : grid0.Coords) : k0_off20 i = ![(i 0).val % 2] := by
  have A : ∀ (x : Fin 40), k0_off20 (mkC x) = ![x.val % 2] := by decide +kernel
  rw [eq_mkC i]; exact A (i 0)
theorem off18_eq (i : grid0.Coords) (t : Fin k0_t3_loop.trips) : k0_off18 i t = ![(i 0).val % 2, t.val, 0, 0, 0] := by
  have A : ∀ (x : Fin 40) (t : Fin k0_t3_loop.trips), k0_off18 (mkC x) t = ![x.val % 2, t.val, 0, 0, 0] := by decide +kernel
  rw [eq_mkC i]; exact A (i 0) t
theorem off24_eq (i : grid0.Coords) (t : Fin k0_t3_loop.trips) : k0_off24 i t = ![(i 0).val % 2, t.val, 0, 0, 0] := by
  have A : ∀ (x : Fin 40) (t : Fin k0_t3_loop.trips), k0_off24 (mkC x) t = ![x.val % 2, t.val, 0, 0, 0] := by decide +kernel
  rw [eq_mkC i]; exact A (i 0) t
theorem off21_eq (i : grid0.Coords) (t : Fin k0_t3_loop.trips) : k0_off21 i t = ![(i 0).val % 2, t.val, 0, 0] := by
  have A : ∀ (x : Fin 40) (t : Fin k0_t3_loop.trips), k0_off21 (mkC x) t = ![x.val % 2, t.val, 0, 0] := by decide +kernel
  rw [eq_mkC i]; exact A (i 0) t
theorem off25_eq (i : grid0.Coords) (t : Fin k0_t3_loop.trips) : k0_off25 i t = ![(i 0).val % 2, t.val, 0, 0] := by
  have A : ∀ (x : Fin 40) (t : Fin k0_t3_loop.trips), k0_off25 (mkC x) t = ![x.val % 2, t.val, 0, 0] := by decide +kernel
  rw [eq_mkC i]; exact A (i 0) t
theorem off28_eq (i : grid0.Coords) (t : Fin k0_t4_loop.trips) : k0_off28 i t = ![(i 0).val % 2, t.val, 0, 0] := by
  have A : ∀ (x : Fin 40) (t : Fin k0_t4_loop.trips), k0_off28 (mkC x) t = ![x.val % 2, t.val, 0, 0] := by decide +kernel
  rw [eq_mkC i]; exact A (i 0) t
theorem off30_eq (i : grid0.Coords) (t : Fin k0_t4_loop.trips) : k0_off30 i t = ![(i 0).val % 2, t.val, 0, 0, 0] := by
  have A : ∀ (x : Fin 40) (t : Fin k0_t4_loop.trips), k0_off30 (mkC x) t = ![x.val % 2, t.val, 0, 0, 0] := by decide +kernel
  rw [eq_mkC i]; exact A (i 0) t
theorem off33_eq (i : grid0.Coords) (t : Fin k0_t4_loop.trips) : k0_off33 i t = ![(i 0).val % 2, t.val, 8, 0, 0] := by
  have A : ∀ (x : Fin 40) (t : Fin k0_t4_loop.trips), k0_off33 (mkC x) t = ![x.val % 2, t.val, 8, 0, 0] := by decide +kernel
  rw [eq_mkC i]; exact A (i 0) t
theorem off36_eq (i : grid0.Coords) (t : Fin k0_t4_loop.trips) : k0_off36 i t = ![(i 0).val % 2, t.val, 16, 0, 0] := by
  have A : ∀ (x : Fin 40) (t : Fin k0_t4_loop.trips), k0_off36 (mkC x) t = ![x.val % 2, t.val, 16, 0, 0] := by decide +kernel
  rw [eq_mkC i]; exact A (i 0) t
theorem off4_eq (w : BitVec 32) : k0_off4 w = ![rowW w, 0, 0, 0] := rfl
theorem off11_eq (w : BitVec 32) : k0_off11 w = ![rowW w, 0, 0, 0] := rfl
theorem off19_eq (w : BitVec 32) : k0_off19 w = ![rowW w, 0, 0, 0] := rfl
theorem off6_eq (w : BitVec 32) : k0_off6 w = ![rowW w, 0, 0] := rfl
theorem off14_eq (w : BitVec 32) : k0_off14 w = ![rowW w, 0, 0] := rfl
theorem off22_eq (w : BitVec 32) : k0_off22 w = ![rowW w, 0, 0] := rfl

/-! ## The side conditions of the transfers -/

/-- A row below the pool's extent fits. -/
theorem inbA (r : ℕ) (hr : r < 803) (a : Fin 4) : (![r, 0, 0, 0] : Fin 4 → ℕ) a + S1x24x64x128.size a ≤ S803x24x64x128.size a := by
  fin_cases a <;> simp <;> omega
theorem inbB (r : ℕ) (hr : r < 803) (a : Fin 3) : (![r, 0, 0] : Fin 3 → ℕ) a + S1x24x64.size a ≤ S803x24x64.size a := by
  fin_cases a <;> simp <;> omega
theorem inbC (s b : ℕ) (hs : s < 2) (hb : b < 16) (a : Fin 5) : (![s, b, 0, 0, 0] : Fin 5 → ℕ) a + S1x1x24x64x128.size a ≤ S2x16x24x64x128.size a := by
  fin_cases a <;> simp <;> omega
theorem inbS (s b : ℕ) (hs : s < 2) (hb : b < 16) (a : Fin 4) : (![s, b, 0, 0] : Fin 4 → ℕ) a + S1x1x24x64.size a ≤ S2x16x24x64.size a := by
  fin_cases a <;> simp <;> omega

/-- A row of codes is made of whole words. -/
theorem wordsA (r : ℕ) (h : ∀ a, (![r, 0, 0, 0] : Fin 4 → ℕ) a + S1x24x64x128.size a ≤ S803x24x64x128.size a) :
    (Rect.unit (s := S803x24x64x128) ![r, 0, 0, 0] S1x24x64x128.size h).WholeWords (EltTy.packing .fp8e4m3) := by
  have A : ∀ x : Fin 803, S803x24x64x128.WholeWordsAt (EltTy.packing .fp8e4m3) ![x.val, 0, 0, 0] S1x24x64x128.size (fun _ => 1) := by decide +kernel
  have hr : r < 803 := by have := h 0; simp at this; omega
  exact A ⟨r, hr⟩

theorem chk1 (i : grid0.Coords) (w : BitVec 32) : k0_chk1 i w w :=
  ⟨fun _ h => inbA _ (rowW_lt w h), fun _ h hi => wordsA _ hi, fun _ h => inbB _ (rowW_lt w h)⟩
theorem chk2 (i : grid0.Coords) (w : BitVec 32) : k0_chk2 i w w :=
  ⟨fun _ h => inbA _ (rowW_lt w h), fun _ h hi => wordsA _ hi, fun _ h => inbB _ (rowW_lt w h)⟩
theorem chk3 (w : BitVec 32) : k0_chk3 w w :=
  ⟨fun h => inbA _ (rowW_lt w h), fun h hi => wordsA _ hi, fun h => inbB _ (rowW_lt w h)⟩

end Cert.KernelIdeal.Hand

end
-- ==== Proof.StateI.Res.lean ====
/-
  The resources of the kernel's double buffer: a slot that is idle, one whose transfers are being issued, in flight or
  waited for, and one that is ready. Each slot has two semaphores, sixteen windows of codes, sixteen of scales, and a
  read share of either pool for each.
-/
module

public import proofs.«01_k».proof.Proof.StateI.Sets
public import Idealize.ShloMosaic.Lib.PageRing.Basic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! ## What a block's windows hold -/

/-- The table's word at position `k` (zero outside the table). -/
def tw (T : S640.Idx → BitVec 32) (k : ℕ) : BitVec 32 := if h : k < 640 then T (ix1 ⟨k, h⟩) else 0#32
/-- Whether sequence `b` of block `n` reads a row of the pool. -/
abbrev lv (T : S640.Idx → BitVec 32) (n b : ℕ) : Prop := liveW (tw T (16 * n + b))
/-- The row that sequence `b` of block `n` reads. -/
abbrev rw0 (T : S640.Idx → BitVec 32) (n b : ℕ) : ℕ := rowW (tw T (16 * n + b))
/-- That row, as an index of the pool. -/
def rowF (T : S640.Idx → BitVec 32) (n b : ℕ) : Fin 803 := ⟨min (rw0 T n b) 802, by omega⟩

variable (c : Dev nD) (T : S640.Idx → BitVec 32) (fA : Buf (Elt F) (mA.view.loc (c : Thread nD τ))) (fB : Buf (Elt F) (mB.view.loc (c : Thread nD τ)))

/-- The codes and scales of the row that sequence `b` of block `n` reads. -/
def srcC (n b : ℕ) : S24x64x128.Idx → Elt F .fp8e4m3 := fun i => (fA : S803x24x64x128.Idx → Elt F .fp8e4m3) (ix4 (rowF T n b) (i 0) (i 1) (i 2))
def srcS (n b : ℕ) : S24x64.Idx → Elt F .f32 := fun i => (fB : S803x24x64.Idx → Elt F .f32) (ix3 (rowF T n b) (i 0) (i 1))
/-- The zeros that a sequence without a row gets. -/
def zeroC : S24x64x128.Idx → Elt F .fp8e4m3 := fun i => k0_pay607 (F := F) (ix5 0 0 (i 0) (i 1) (i 2))
def zeroS : S24x64.Idx → Elt F .f32 := fun i => k0_pay608 (F := F) (ix4 0 0 (i 0) (i 1))
/-- What sequence `b` of block `n` computes from: its row, or zeros. -/
def valC (n b : ℕ) : S24x64x128.Idx → Elt F .fp8e4m3 := if lv T n b then srcC c T fA n b else zeroC
def valS (n b : ℕ) : S24x64.Idx → Elt F .f32 := if lv T n b then srcS c T fB n b else zeroS

/-- The code buffer holds `v` in the window of slot `s` and sequence `b`. -/
def HoldsC (s b : ℕ) (g : Buf (Elt F) (mC.view.loc (c : Thread nD τ))) (v : S24x64x128.Idx → Elt F .fp8e4m3) : Prop :=
  ∀ (s' : Fin 2) (b' : Fin 16), s'.val = s → b'.val = b → ∀ i : S24x64x128.Idx, (g : S2x16x24x64x128.Idx → Elt F .fp8e4m3) (ix5 s' b' (i 0) (i 1) (i 2)) = v i
/-- The scale buffer holds `v` in the window of slot `s` and sequence `b`. -/
def HoldsS (s b : ℕ) (g : Buf (Elt F) (mS.view.loc (c : Thread nD τ))) (v : S24x64.Idx → Elt F .f32) : Prop :=
  ∀ (s' : Fin 2) (b' : Fin 16), s'.val = s → b'.val = b → ∀ i : S24x64.Idx, (g : S2x16x24x64.Idx → Elt F .f32) (ix4 s' b' (i 0) (i 1)) = v i

/-! ## Semaphores and amounts -/

/-- The semaphore of slot `s` for the codes, and that for the scales. -/
def csem (s : ℕ) : DmaSem sig := ⟨17 + s % 2, by have : sig.nDmaSem = 21 := rfl; omega⟩
def ssem (s : ℕ) : DmaSem sig := ⟨19 + s % 2, by have : sig.nDmaSem = 21 := rfl; omega⟩

/-- The semaphore that the kernel names for slot `s` of the codes. -/
theorem csem_eq (s : ℕ) (hs : s < 2) (h) :
    ((cc0_scratch2.slice (Rect.unit (s := S2) ![s] S1.size h)).squeeze S_ squeezes_S1_S_).sem = csem s := by
  obtain rfl | rfl : s = 0 ∨ s = 1 := by omega
  · have e : h = (by decide) := rfl
    rw [e]; exact Fin.ext (by show 17 + _ = _; decide +kernel)
  · have e : h = (by decide) := rfl
    rw [e]; exact Fin.ext (by show 17 + _ = _; decide +kernel)
theorem ssem_eq (s : ℕ) (hs : s < 2) (h) :
    ((cc0_scratch3.slice (Rect.unit (s := S2) ![s] S1.size h)).squeeze S_ squeezes_S1_S_).sem = ssem s := by
  obtain rfl | rfl : s = 0 ∨ s = 1 := by omega
  · have e : h = (by decide) := rfl
    rw [e]; exact Fin.ext (by show 19 + _ = _; decide +kernel)
  · have e : h = (by decide) := rfl
    rw [e]; exact Fin.ext (by show 19 + _ = _; decide +kernel)

/-- What one transfer of codes, and one of scales, adds to its semaphore. -/
def NC : ℕ := (winC ![0, 0, 0, 0, 0] (inbC 0 0 (by omega) (by omega))).view.dmaCredit
def NS : ℕ := (winS ![0, 0, 0, 0] (inbS 0 0 (by omega) (by omega))).view.dmaCredit
theorem NC_pos : 0 < NC := by decide +kernel
theorem NS_pos : 0 < NS := by decide +kernel
theorem amountC (o h) (sm : DmaSem sig) : (winC o h).view.amount (.dma sm) = NC := rfl
theorem amountS (o h) (sm : DmaSem sig) : (winS o h).view.amount (.dma sm) = NS := rfl
theorem creditC (o h) : (winC o h).view.dmaCredit = 1 * NC := (Nat.one_mul _).symm
theorem creditS (o h) : (winS o h).view.dmaCredit = 1 * NS := (Nat.one_mul _).symm

/-! ## The resources -/

/-- The read share of the pool that belongs to slot `s` and sequence `b`. -/
def qT (s b : ℕ) : PosShare TreeShare := Transfers.shareTokN fullShare (16 * s + b)

/-- A window of codes at the contents `v`, and one at some contents. -/
def WC (s b : ℕ) (v : S24x64x128.Idx → Elt F .fp8e4m3) : sProp 𝕄 :=
  iprop(∃ g, ⌜HoldsC c s b g v⌝ ∗ (mC.view.loc (c : Thread nD τ) ↦[setC c s b]{fullShare} g))
def WS (s b : ℕ) (v : S24x64.Idx → Elt F .f32) : sProp 𝕄 :=
  iprop(∃ g, ⌜HoldsS c s b g v⌝ ∗ (mS.view.loc (c : Thread nD τ) ↦[setS c s b]{fullShare} g))
def WC' (s b : ℕ) : sProp 𝕄 := iprop(∃ g, (mC.view.loc (c : Thread nD τ) ↦[setC c s b]{fullShare} g))
def WS' (s b : ℕ) : sProp 𝕄 := iprop(∃ g, (mS.view.loc (c : Thread nD τ) ↦[setS c s b]{fullShare} g))
/-- The read shares of slot `s` and sequence `b` of the two pools. -/
def TokA (s b : ℕ) : sProp 𝕄 := (mA.view.loc (c : Thread nD τ) ↦[Finset.univ]{qT s b} fA)
def TokB (s b : ℕ) : sProp 𝕄 := (mB.view.loc (c : Thread nD τ) ↦[Finset.univ]{qT s b} fB)

/-- Slot `s` and sequence `b` while no transfer uses them. -/
def FreeAt (s b : ℕ) : sProp 𝕄 := iprop(WC' c s b ∗ WS' c s b ∗ TokA c fA s b ∗ TokB c fB s b)
/-- What remains of them while the transfers of block `n` are in flight. -/
def LeftAt (s n b : ℕ) : sProp 𝕄 :=
  if lv T n b then
    iprop((mA.view.loc (c : Thread nD τ) ↦[Finset.univ \ setA c (rw0 T n b)]{qT s b} fA)
      ∗ (mB.view.loc (c : Thread nD τ) ↦[Finset.univ \ setB c (rw0 T n b)]{qT s b} fB))
  else FreeAt c fA fB s b
/-- Slot `s` and sequence `b` when block `n`'s contents are there. -/
def ReadyAt (s n b : ℕ) : sProp 𝕄 :=
  iprop(WC c s b (valC c T fA n b) ∗ WS c s b (valS c T fB n b) ∗ TokA c fA s b ∗ TokB c fB s b)

/-- What a landed transfer of codes hands over: its window at the row's codes, and the row's share. -/
def DelC (s n b : ℕ) : sProp 𝕄 :=
  iprop(WC c s b (srcC c T fA n b) ∗ (mA.view.loc (c : Thread nD τ) ↦[setA c (rw0 T n b)]{qT s b} fA))
def DelS (s n b : ℕ) : sProp 𝕄 :=
  iprop(WS c s b (srcS c T fB n b) ∗ (mB.view.loc (c : Thread nD τ) ↦[setB c (rw0 T n b)]{qT s b} fB))

set_option synthInstance.maxHeartbeats 400000 in
instance (s n b : ℕ) : Storable (upEmb : UEmb _ 𝕄) (DelC c T fA s n b) := by unfold DelC WC; infer_instance
set_option synthInstance.maxHeartbeats 400000 in
instance (s n b : ℕ) : Storable (upEmb : UEmb _ 𝕄) (DelS c T fB s n b) := by unfold DelS WS; infer_instance

/-- How many of the first `b` sequences of block `n` read a row, and which is the `i`-th of them. -/
abbrev cnt (n b : ℕ) : ℕ := PageRing.cntP (lv T n) b
abbrev nth (n i : ℕ) : ℕ := PageRing.slotOfP (lv T n) 16 i

/-- The transfers of codes of block `n` into slot `s`: `k` issued, `u` units consumed. -/
def BatC (s n k u : ℕ) : sProp 𝕄 :=
  Transfers.Batch (countersEmb (U := Pipeline.UD sig nD τ)) (c : Thread nD τ) (.dma (csem s)) () NC
    (fun t : Fin (cnt T n 16) => DelC c T fA s n (nth T n t.val)) k u
def BatS (s n k u : ℕ) : sProp 𝕄 :=
  Transfers.Batch (countersEmb (U := Pipeline.UD sig nD τ)) (c : Thread nD τ) (.dma (ssem s)) () NS
    (fun t : Fin (cnt T n 16) => DelS c T fB s n (nth T n t.val)) k u

/-- Slot `s` idle: its semaphores at zero and every sequence free. -/
def Idle (s : ℕ) : sProp 𝕄 :=
  iprop(semVal ((c : Thread nD τ), SemLoc.dma (csem s)) 0 ∗ semVal ((c : Thread nD τ), SemLoc.dma (ssem s)) 0
    ∗ bigSep (Finset.range 16) (FreeAt c fA fB s))
/-- Block `n`'s transfers into slot `s`, those of the first `b` sequences issued. -/
def Iss (s n b : ℕ) : sProp 𝕄 :=
  iprop(BatC c T fA s n (cnt T n b) 0 ∗ BatS c T fB s n (cnt T n b) 0
    ∗ bigSep (Finset.range 16) (fun b' => if b' < b then LeftAt c T fA fB s n b' else FreeAt c fA fB s b'))
/-- Block `n`'s transfers into slot `s`, all issued and none waited for. -/
def Pend (s n : ℕ) : sProp 𝕄 := Iss c T fA fB s n 16
/-- A sequence without a row after its zeros are written. -/
def ZeroAt (s b : ℕ) : sProp 𝕄 := iprop(WC c s b zeroC ∗ WS c s b zeroS ∗ TokA c fA s b ∗ TokB c fB s b)
/-- What sequence `b'` of block `n` has in hand when the first `b` sequences have been waited for. -/
def WaitAt (s n b b' : ℕ) : sProp 𝕄 :=
  if lv T n b' then LeftAt c T fA fB s n b' else if b' < b then ZeroAt c fA fB s b' else FreeAt c fA fB s b'
def Wt (s n b : ℕ) : sProp 𝕄 :=
  iprop(BatC c T fA s n (cnt T n 16) (NC * cnt T n b) ∗ BatS c T fB s n (cnt T n 16) (NS * cnt T n b)
    ∗ bigSep (Finset.range 16) (WaitAt c T fA fB s n b))
/-- Slot `s` with block `n`'s contents in every sequence. -/
def Ready (s n : ℕ) : sProp 𝕄 :=
  iprop(semVal ((c : Thread nD τ), SemLoc.dma (csem s)) 0 ∗ semVal ((c : Thread nD τ), SemLoc.dma (ssem s)) 0
    ∗ bigSep (Finset.range 16) (ReadyAt c T fA fB s n))

/-! ## Moving between them -/

/-- One summand out of a separating product, and its successor back in. -/
theorem take_put (P P' : ℕ → sProp 𝕄) (b : ℕ) (hb : b < 16) (h : ∀ b', b' ≠ b → P b' = P' b') :
    bigSep (Finset.range 16) P ⊢ iprop(P b ∗ (P' b -∗ bigSep (Finset.range 16) P')) := by
  rw [bigSep_erase (Finset.mem_range.mpr hb), bigSep_erase (Φ := P') (Finset.mem_range.mpr hb),
    bigSep_congr (Ψ := P') (fun i hi => h i (Finset.ne_of_mem_erase hi))]
  show iprop(P b ∗ bigSep ((Finset.range 16).erase b) P') ⊢ iprop(P b ∗ (P' b -∗ (P' b ∗ bigSep ((Finset.range 16).erase b) P')))
  iintro ⟨H, HR⟩
  isplitl [H]; · iexact H
  iintro H'
  isplitl [H'] <;> iassumption

/-- Before the first issue: the two batches are allocated from the semaphores at zero. -/
theorem idle_iss (s n : ℕ) : Idle c fA fB s ⊢ (|={Set.univ}=> Iss c T fA fB s n 0 : sProp 𝕄) := by
  unfold Idle Iss BatC BatS
  iintro ⟨H1, H2, HF⟩
  imod (Transfers.batch_alloc' (Lvl := ℕ) (countersEmb (U := Pipeline.UD sig nD τ)) (c : Thread nD τ) () NC
    (fun t : Fin (cnt T n 16) => DelC c T fA s n (nth T n t.val)) (sm := .dma (csem s)) (E := Set.univ)) $$ H1 with HC
  imod (Transfers.batch_alloc' (Lvl := ℕ) (countersEmb (U := Pipeline.UD sig nD τ)) (c : Thread nD τ) () NS
    (fun t : Fin (cnt T n 16) => DelS c T fB s n (nth T n t.val)) (sm := .dma (ssem s)) (E := Set.univ)) $$ H2 with HS
  imodintro
  isplitl [HC]; · iexact HC
  isplitl [HS]; · iexact HS
  iexact HF

/-- All issued, before the first wait. -/
theorem pend_wt (s n : ℕ) : Pend c T fA fB s n ⊢ Wt c T fA fB s n 0 := by
  unfold Pend Iss Wt
  rw [show cnt T n 0 = 0 from rfl, Nat.mul_zero, Nat.mul_zero]
  have h : bigSep (Finset.range 16) (fun b' => if b' < 16 then LeftAt c T fA fB s n b' else FreeAt c fA fB s b') = bigSep (Finset.range 16) (WaitAt c T fA fB s n 0) := by
    refine bigSep_congr fun b hb => ?_
    rw [if_pos (Finset.mem_range.mp hb)]
    unfold WaitAt
    by_cases hl : lv T n b
    · rw [if_pos hl]
    · rw [if_neg hl, if_neg (Nat.not_lt_zero b)]; unfold LeftAt; rw [if_neg hl]
  rw [h]

/-- A live sequence with both transfers landed is ready. -/
theorem ready_live (s n b : ℕ) (hl : lv T n b) :
    iprop(LeftAt c T fA fB s n b ∗ DelC c T fA s n b ∗ DelS c T fB s n b) ⊢ ReadyAt c T fA fB s n b := by
  unfold LeftAt ReadyAt DelC DelS valC valS TokA TokB
  rw [if_pos hl, if_pos hl, if_pos hl]
  iintro ⟨⟨HA, HB⟩, ⟨HC, HA'⟩, HS, HB'⟩
  isplitl [HC]; · iexact HC
  isplitl [HS]; · iexact HS
  isplitl [HA HA']
  · iapply (pointsTo_split_subset (Finset.subset_univ (setA c (rw0 T n b)))).2
    isplitl [HA'] <;> iassumption
  · iapply (pointsTo_split_subset (Finset.subset_univ (setB c (rw0 T n b)))).2
    isplitl [HB'] <;> iassumption

/-- A product over the numbers below `n`, by value. -/
theorem fin_range (n : ℕ) (P : ℕ → sProp 𝕄) : bigSep Finset.univ (fun t : Fin n => P t.val) = bigSep (Finset.range n) P :=
  Ring.bigSep_fin_eq_range n _ P fun _ _ => rfl

/-- The deliveries, put back at their sequences. -/
theorem wt_ready' (s n : ℕ) :
    iprop(bigSep Finset.univ (fun t : Fin (cnt T n 16) => DelC c T fA s n (nth T n t.val))
      ∗ bigSep Finset.univ (fun t : Fin (cnt T n 16) => DelS c T fB s n (nth T n t.val))
      ∗ bigSep (Finset.range 16) (WaitAt c T fA fB s n 16)) ⊢ bigSep (Finset.range 16) (ReadyAt c T fA fB s n) := by
  rw [fin_range (cnt T n 16) (fun i => DelC c T fA s n (nth T n i)), fin_range (cnt T n 16) (fun i => DelS c T fB s n (nth T n i)),
    PageRing.bigSep_liveP (lv T n) (DelC c T fA s n) 16, PageRing.bigSep_liveP (lv T n) (DelS c T fB s n) 16]
  refine (sep_mono .rfl (Entails.of_eq (BI.bigSep_sep _ _ _).symm)).trans ?_
  refine (Entails.of_eq (BI.bigSep_sep _ _ _).symm).trans (bigSep_mono fun b hb => ?_)
  unfold WaitAt
  by_cases hl : lv T n b
  · rw [if_pos hl, if_pos hl, if_pos hl]
    show iprop(DelC c T fA s n b ∗ DelS c T fB s n b ∗ LeftAt c T fA fB s n b) ⊢ _
    iintro ⟨HC, HS, HL⟩
    iapply (ready_live c T fA fB s n b hl)
    isplitl [HL]; · iexact HL
    isplitl [HC] <;> iassumption
  · rw [if_neg hl, if_neg hl, if_neg hl, if_pos (Finset.mem_range.mp hb)]
    unfold ZeroAt ReadyAt valC valS
    rw [if_neg hl, if_neg hl]
    show iprop(emp ∗ emp ∗ (WC c s b zeroC ∗ WS c s b zeroS ∗ TokA c fA s b ∗ TokB c fB s b)) ⊢ iprop(WC c s b zeroC ∗ WS c s b zeroS ∗ TokA c fA s b ∗ TokB c fB s b)
    iintro ⟨-, -, HL⟩
    iexact HL

/-- After the last wait: the deliveries are collected, and every sequence is ready. -/
theorem wt_ready (s n : ℕ) : Wt c T fA fB s n 16 ⊢ (|={Set.univ}=> Ready c T fA fB s n : sProp 𝕄) := by
  unfold Wt Ready BatC BatS
  iintro ⟨HC, HS, HW⟩
  imod (Transfers.batch_collect' (countersEmb (U := Pipeline.UD sig nD τ)) (c : Thread nD τ) NC_pos) $$ HC with ⟨HC, H1⟩
  imod (Transfers.batch_collect' (countersEmb (U := Pipeline.UD sig nD τ)) (c : Thread nD τ) NS_pos) $$ HS with ⟨HS, H2⟩
  imodintro
  isplitl [H1]; · iexact H1
  isplitl [H2]; · iexact H2
  iapply (wt_ready' c T fA fB s n)
  isplitl [HC]; · iexact HC
  isplitl [HS]; · iexact HS
  iexact HW

/-- A ready sequence is free again. -/
theorem ready_free (s n b : ℕ) : ReadyAt c T fA fB s n b ⊢ FreeAt c fA fB s b := by
  unfold ReadyAt FreeAt WC WS WC' WS'
  iintro ⟨⟨%g, -, HC⟩, ⟨%g', -, HS⟩, HA, HB⟩
  isplitl [HC]; · iexists g; iexact HC
  isplitl [HS]; · iexists g'; iexact HS
  isplitl [HA] <;> iassumption

/-- A ready slot is idle again. -/
theorem ready_idle (s n : ℕ) : Ready c T fA fB s n ⊢ Idle c fA fB s := by
  unfold Ready Idle
  iintro ⟨H1, H2, H⟩
  isplitl [H1]; · iexact H1
  isplitl [H2]; · iexact H2
  have h : bigSep (Finset.range 16) (ReadyAt c T fA fB s n) ⊢ bigSep (Finset.range 16) (FreeAt c fA fB s) :=
    bigSep_mono fun b _ => ready_free c T fA fB s n b
  iapply h
  iexact H

end Cert.KernelIdeal.Hand

end
-- ==== Proof.StateI.Issue.lean ====
/-
  Issuing a sequence's two transfers: the rules for the table's word and for the two enqueues, and the step of the
  issue's state.
-/
module

public import proofs.«01_k».proof.Proof.StateI.Res

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (c : Dev nD) (T : S640.Idx → BitVec 32) (fA : Buf (Elt F) (mA.view.loc (c : Thread nD τ))) (fB : Buf (Elt F) (mB.view.loc (c : Thread nD τ)))
variable {defs : Defs nD τ sig (Elt F) Λ₀} {𝒱 : Variants} {bd : Option 𝒱.V}

/-- The table at the contents `T`. -/
def Tab (q : PosShare TreeShare) : sProp 𝕄 := (mT.view.loc (c : Thread nD τ) ↦[Finset.univ]{q} T)

/-- Loading the table's word at position `k`. -/
theorem wp_word (q : PosShare TreeShare) {o : Fin 1 → ℕ} (k : ℕ) (hk : k < 640) (e : o = ![k]) (h) (Q : BitVec 32 → sProp 𝕄) :
    Tab (F := F) c T q ⊢ iprop((Tab (F := F) c T q -∗ Q (tw T k))
      -∗ wp frame (wpE defs 𝒱 (c : Thread nD τ) bd) Set.univ (smemLoad (Val := Elt F) mT (Rect.unit (s := S640) o S1.size h) numel1_S1 rfl) Q) := by
  subst e
  have hv : (mT.access (Rect.unit (s := S640) ![k] S1.size h)).read (Elt F) (T : Buf (Elt F) ((mT.access (Rect.unit (s := S640) ![k] S1.size h)).loc (c : Thread nD τ))) (Shape.Idx.first (numel1_S1.symm ▸ Nat.one_pos)) = tw T k := by
    unfold tw
    rw [dif_pos hk]
    show T _ = T _
    refine congrArg T (funext fun a => ?_)
    match a with
    | ⟨0, _⟩ => exact Fin.ext (by show k + 1 * _ = k; simp [Shape.Idx.first])
  unfold Tab
  iintro H HQ
  iapply (wp_smemLoadElt 𝒱 (c : Thread nD τ) bd Set.univ (m := mT) (r := Rect.unit (s := S640) ![k] S1.size h) (hw := View.loads_smem_one rfl numel1_S1)
    (x := Shape.Idx.first (numel1_S1.symm ▸ Nat.one_pos)) (k := .ret) (S := Finset.univ) (q := q) (f := T) (Finset.subset_univ _)) $$ H
  iintro H
  rw [wp_ret, hv]
  imodintro
  iapply HQ
  iexact H

/-- The codes land: their window holds the row's codes. -/
theorem land_codes (s n b : ℕ) (hs : s < 2) (hb : b < 16) (hl : lv T n b) (hC hA) (g) :
    iprop(((winC ![s, b, 0, 0, 0] hC).view.loc (c : Thread nD τ) ↦[setC c s b]{fullShare} (winC ![s, b, 0, 0, 0] hC).view.write (Elt F) g
          ((ReadAs.same).apply ((rowA ![rw0 T n b, 0, 0, 0] hA).view.read (Elt F) fA)) Finset.univ)
        ∗ ((rowA ![rw0 T n b, 0, 0, 0] hA).view.loc (c : Thread nD τ) ↦[(rowA ![rw0 T n b, 0, 0, 0] hA).view.set]{qT s b} fA)) ⊢ DelC c T fA s n b := by
  unfold DelC WC
  rw [set_rowA]
  iintro ⟨H, HA⟩
  isplitl [H]
  · iexists ((winC ![s, b, 0, 0, 0] hC).view.write (Elt F) g ((ReadAs.same).apply ((rowA ![rw0 T n b, 0, 0, 0] hA).view.read (Elt F) fA)) Finset.univ)
    isplitr [H]
    · ipureintro
      intro s' b' hs' hb' i
      subst hs' hb'
      refine Eq.trans (read_winC c s' b' hC _ i).symm ?_
      refine (congrFun (View.read_write_univ _ _) i).trans ?_
      have hr : rw0 T n b'.val < 803 := rowW_lt _ hl
      have e : rowF T n b'.val = ⟨rw0 T n b'.val, hr⟩ := Fin.ext (Nat.min_eq_left (Nat.le_of_lt_succ hr))
      unfold srcC
      rw [e]
      exact read_rowA c ⟨rw0 T n b'.val, hr⟩ hA fA i
    · iexact H
  · iexact HA

/-- The scales land: their window holds the row's scales. -/
theorem land_scales (s n b : ℕ) (hs : s < 2) (hb : b < 16) (hl : lv T n b) (hC hA) (g) :
    iprop(((winS ![s, b, 0, 0] hC).view.loc (c : Thread nD τ) ↦[setS c s b]{fullShare} (winS ![s, b, 0, 0] hC).view.write (Elt F) g
          ((ReadAs.same).apply ((rowB ![rw0 T n b, 0, 0] hA).view.read (Elt F) fB)) Finset.univ)
        ∗ ((rowB ![rw0 T n b, 0, 0] hA).view.loc (c : Thread nD τ) ↦[(rowB ![rw0 T n b, 0, 0] hA).view.set]{qT s b} fB)) ⊢ DelS c T fB s n b := by
  unfold DelS WS
  rw [set_rowB]
  iintro ⟨H, HA⟩
  isplitl [H]
  · iexists ((winS ![s, b, 0, 0] hC).view.write (Elt F) g ((ReadAs.same).apply ((rowB ![rw0 T n b, 0, 0] hA).view.read (Elt F) fB)) Finset.univ)
    isplitr [H]
    · ipureintro
      intro s' b' hs' hb' i
      subst hs' hb'
      refine Eq.trans (read_winS c s' b' hC _ i).symm ?_
      refine (congrFun (View.read_write_univ _ _) i).trans ?_
      have hr : rw0 T n b'.val < 803 := rowW_lt _ hl
      have e : rowF T n b'.val = ⟨rw0 T n b'.val, hr⟩ := Fin.ext (Nat.min_eq_left (Nat.le_of_lt_succ hr))
      unfold srcS
      rw [e]
      exact read_rowB c ⟨rw0 T n b'.val, hr⟩ hA fB i
    · iexact H
  · iexact HA

/-- Issuing the codes' transfer of a live sequence. -/
theorem wp_issueC (s n b : ℕ) (hs : s < 2) (hb : b < 16) (hl : lv T n b) {oC : Fin 5 → ℕ} {oA : Fin 4 → ℕ}
    (eC : oC = ![s, b, 0, 0, 0]) (eA : oA = ![rw0 T n b, 0, 0, 0]) (hC hA) {sm : DmaSem sig} (esm : sm = csem s) (w1 w2 w3)
    (Q : PUnit → sProp 𝕄) :
    iprop(BatC c T fA s n (cnt T n b) 0 ∗ WC' (F := F) c s b ∗ TokA c fA s b)
      ⊢ iprop((BatC c T fA s n (cnt T n (b + 1)) 0 ∗ (mA.view.loc (c : Thread nD τ) ↦[Finset.univ \ setA c (rw0 T n b)]{qT s b} fA) -∗ Q ⟨⟩)
        -∗ wp frame (wpE defs 𝒱 (c : Thread nD τ) bd) Set.univ
            (Prog.lift (.enqueueDma (rowA oA hA) (.here (winC oC hC)) (.dma sm) w1 w2 w3)) Q) := by
  subst eC eA esm
  obtain ⟨hstep, hslot, hlt⟩ := PageRing.live_facts (lv T n) 16 b hb hl
  unfold BatC WC' TokA
  iintro ⟨HB, ⟨%g, HW⟩, HA⟩ HQ
  icases (pointsTo_split_subset (Finset.subset_univ (setA c (rw0 T n b)))).1 $$ HA with ⟨HA, HR⟩
  iapply (Transfers.wp_dmaBatch (countersEmb (U := Pipeline.UD sig nD τ)) 𝒱 (c : Thread nD τ) bd
    (src := rowA ![rw0 T n b, 0, 0, 0] hA) (dst := winC ![s, b, 0, 0, 0] hC) (sm := .dma (csem s)) (via := .same) (hsrc := w1) (hdst := w2) (hsem := w3) (k := .ret)
    (D := fun t : Fin (cnt T n 16) => DelC c T fA s n (nth T n t.val)) () NC (amountC _ _ _)
    (Sd := setC c s b) (q := qT s b) (fs := fA) (fd := g)
    (by rw [set_winC]) hlt (Nat.zero_le _)
    (by simp only [hslot]; exact land_codes c T fA s n b hs hb hl hC hA g)) $$ [HA HW HB]
  · isplitl [HA]; · rw [set_rowA]; iexact HA
    isplitl [HW]; · iexact HW
    iexact HB
  iintro HB
  rw [wp_ret]
  imodintro
  iapply HQ
  isplitl [HB]
  · rw [show cnt T n (b + 1) = cnt T n b + 1 from hstep]; iexact HB
  · iexact HR

/-- Issuing the scales' transfer of a live sequence. -/
theorem wp_issueS (s n b : ℕ) (hs : s < 2) (hb : b < 16) (hl : lv T n b) {oC : Fin 4 → ℕ} {oA : Fin 3 → ℕ}
    (eC : oC = ![s, b, 0, 0]) (eA : oA = ![rw0 T n b, 0, 0]) (hC hA) {sm : DmaSem sig} (esm : sm = ssem s) (w1 w2 w3)
    (Q : PUnit → sProp 𝕄) :
    iprop(BatS c T fB s n (cnt T n b) 0 ∗ WS' (F := F) c s b ∗ TokB c fB s b)
      ⊢ iprop((BatS c T fB s n (cnt T n (b + 1)) 0 ∗ (mB.view.loc (c : Thread nD τ) ↦[Finset.univ \ setB c (rw0 T n b)]{qT s b} fB) -∗ Q ⟨⟩)
        -∗ wp frame (wpE defs 𝒱 (c : Thread nD τ) bd) Set.univ
            (Prog.lift (.enqueueDma (rowB oA hA) (.here (winS oC hC)) (.dma sm) w1 w2 w3)) Q) := by
  subst eC eA esm
  obtain ⟨hstep, hslot, hlt⟩ := PageRing.live_facts (lv T n) 16 b hb hl
  unfold BatS WS' TokB
  iintro ⟨HB, ⟨%g, HW⟩, HA⟩ HQ
  icases (pointsTo_split_subset (Finset.subset_univ (setB c (rw0 T n b)))).1 $$ HA with ⟨HA, HR⟩
  iapply (Transfers.wp_dmaBatch (countersEmb (U := Pipeline.UD sig nD τ)) 𝒱 (c : Thread nD τ) bd
    (src := rowB ![rw0 T n b, 0, 0] hA) (dst := winS ![s, b, 0, 0] hC) (sm := .dma (ssem s)) (via := .same) (hsrc := w1) (hdst := w2) (hsem := w3) (k := .ret)
    (D := fun t : Fin (cnt T n 16) => DelS c T fB s n (nth T n t.val)) () NS (amountS _ _ _)
    (Sd := setS c s b) (q := qT s b) (fs := fB) (fd := g)
    (by rw [set_winS]) hlt (Nat.zero_le _)
    (by simp only [hslot]; exact land_scales c T fB s n b hs hb hl hC hA g)) $$ [HA HW HB]
  · isplitl [HA]; · rw [set_rowB]; iexact HA
    isplitl [HW]; · iexact HW
    iexact HB
  iintro HB
  rw [wp_ret]
  imodintro
  iapply HQ
  isplitl [HB]
  · rw [show cnt T n (b + 1) = cnt T n b + 1 from hstep]; iexact HB
  · iexact HR

/-- Both transfers of a live sequence: the state of the issue before them, and after them. -/
theorem iss_take (s n b : ℕ) (hb : b < 16) (hl : lv T n b) :
    Iss c T fA fB s n b ⊢ iprop((BatC c T fA s n (cnt T n b) 0 ∗ WC' c s b ∗ TokA c fA s b) ∗ (BatS c T fB s n (cnt T n b) 0 ∗ WS' c s b ∗ TokB c fB s b)
      ∗ ((BatC c T fA s n (cnt T n (b + 1)) 0 ∗ (mA.view.loc (c : Thread nD τ) ↦[Finset.univ \ setA c (rw0 T n b)]{qT s b} fA))
          ∗ (BatS c T fB s n (cnt T n (b + 1)) 0 ∗ (mB.view.loc (c : Thread nD τ) ↦[Finset.univ \ setB c (rw0 T n b)]{qT s b} fB))
          -∗ Iss c T fA fB s n (b + 1))) := by
  unfold Iss
  iintro ⟨H1, H2, HF⟩
  have hn : ¬ b < b := Nat.lt_irrefl b
  icases (take_put (fun b' => if b' < b then LeftAt c T fA fB s n b' else FreeAt c fA fB s b')
    (fun b' => if b' < b + 1 then LeftAt c T fA fB s n b' else FreeAt c fA fB s b') b hb
    (fun b' hne => by by_cases h : b' < b
                      · simp only [if_pos h, if_pos (show b' < b + 1 by omega)]
                      · simp only [if_neg h, if_neg (show ¬ b' < b + 1 by omega)])) $$ HF with ⟨HF, HP⟩
  simp only [if_neg hn, if_pos (Nat.lt_succ_self b)]
  unfold FreeAt
  icases HF with ⟨HC, HS, HA, HB⟩
  isplitl [H1 HC HA]
  · isplitl [H1]; · iexact H1
    isplitl [HC] <;> iassumption
  isplitl [H2 HS HB]
  · isplitl [H2]; · iexact H2
    isplitl [HS] <;> iassumption
  iintro ⟨⟨H1, HA⟩, ⟨H2, HB⟩⟩
  isplitl [H1]; · iexact H1
  isplitl [H2]; · iexact H2
  iapply HP
  unfold LeftAt
  rw [if_pos hl]
  isplitl [HA] <;> iassumption

/-- A sequence without a row issues nothing. -/
theorem iss_dead (s n b : ℕ) (hb : b < 16) (hl : ¬ lv T n b) : Iss c T fA fB s n b ⊢ Iss c T fA fB s n (b + 1) := by
  unfold Iss
  rw [show cnt T n (b + 1) = cnt T n b from PageRing.dead_facts (lv T n) b hl]
  have h : bigSep (Finset.range 16) (fun b' => if b' < b then LeftAt c T fA fB s n b' else FreeAt c fA fB s b')
      = bigSep (Finset.range 16) (fun b' => if b' < b + 1 then LeftAt c T fA fB s n b' else FreeAt c fA fB s b') := by
    refine bigSep_congr fun b' _ => ?_
    by_cases h1 : b' < b
    · rw [if_pos h1, if_pos (show b' < b + 1 by omega)]
    · rw [if_neg h1]
      by_cases h2 : b' < b + 1
      · have : b' = b := by omega
        subst this
        rw [if_pos h2]; unfold LeftAt; rw [if_neg hl]
      · rw [if_neg h2]
  rw [h]

end Cert.KernelIdeal.Hand

end
-- ==== Proof.StateI.Wait.lean ====
/-
  Waiting for a sequence's two transfers, and writing zeros for a sequence without a row: the rules and the steps of
  the state.
-/
module

public import proofs.«01_k».proof.Proof.StateI.Issue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (c : Dev nD) (T : S640.Idx → BitVec 32) (fA : Buf (Elt F) (mA.view.loc (c : Thread nD τ))) (fB : Buf (Elt F) (mB.view.loc (c : Thread nD τ)))
variable {defs : Defs nD τ sig (Elt F) Λ₀} {𝒱 : Variants} {bd : Option 𝒱.V}

/-- The count of live sequences grows with the prefix. -/
theorem cnt_mono (n a b : ℕ) (h : a ≤ b) : cnt T n a ≤ cnt T n b := by
  induction b with
  | zero => obtain rfl : a = 0 := by omega
            exact Nat.le_refl _
  | succ b ih =>
    rcases Nat.lt_or_ge a (b + 1) with h' | h'
    · refine (ih (by omega)).trans ?_
      show PageRing.cntP (lv T n) b ≤ PageRing.cntP (lv T n) (b + 1)
      rw [PageRing.cntP_succ]; exact Nat.le_add_right _ _
    · obtain rfl : a = b + 1 := by omega
      exact Nat.le_refl _

/-- Waiting for a live sequence's codes. -/
theorem wp_waitC (s n b : ℕ) (hb : b < 16) (hl : lv T n b) {oC : Fin 5 → ℕ} {oA : Fin 4 → ℕ} (hC hA) {sm : DmaSem sig} (esm : sm = csem s) (w1 w2)
    (Q : PUnit → sProp 𝕄) (W : Waits sig Unit) :
    iprop(BatC c T fA s n (cnt T n 16) (NC * cnt T n b) ∗ owes (c : Thread nD τ) 0 W)
      ⊢ iprop((∀ W', (BatC c T fA s n (cnt T n 16) (NC * cnt T n (b + 1)) ∗ owes (c : Thread nD τ) 0 W') -∗ Q ⟨⟩)
        -∗ wp frame (wpE defs 𝒱 (c : Thread nD τ) bd) Set.univ
            (Prog.lift (.waitDma2 sm (rowA oA hA) (winC oC hC) w1 w2)) Q) := by
  subst esm
  have hstep : cnt T n (b + 1) = cnt T n b + 1 := (PageRing.live_facts (lv T n) 16 b hb hl).1
  have hle : cnt T n (b + 1) ≤ cnt T n 16 := cnt_mono T n _ _ (by omega)
  have e : NC * cnt T n b + 1 * NC = NC * cnt T n (b + 1) := by rw [hstep, Nat.mul_add, Nat.one_mul, Nat.mul_one]
  unfold BatC
  iintro ⟨HB, HO⟩ HQ
  iapply (Transfers.wp_waitBatchMul (countersEmb (U := Pipeline.UD sig nD τ)) 𝒱 (c : Thread nD τ) bd (sem := csem s)
    (srcw := rowA oA hA) (dstw := winC oC hC) (hsrc := w1) (hdst := w2) (k := .ret)
    (D := fun t : Fin (cnt T n 16) => DelC c T fA s n (nth T n t.val)) (j := cnt T n 16) (u := NC * cnt T n b) (W := W) () (N := NC) 1 (creditC _ _) (by rw [e]; exact Nat.mul_le_mul_left _ hle)) $$ [HB HO]
  · isplitl [HB] <;> iassumption
  rw [e]
  iintro ⟨HB, HO⟩
  rw [wp_ret]
  imodintro
  iapply HQ
  isplitl [HB]; · iexact HB
  iexact HO

/-- Waiting for a live sequence's scales. -/
theorem wp_waitS (s n b : ℕ) (hb : b < 16) (hl : lv T n b) {oC : Fin 4 → ℕ} {oA : Fin 3 → ℕ} (hC hA) {sm : DmaSem sig} (esm : sm = ssem s) (w1 w2)
    (Q : PUnit → sProp 𝕄) (W : Waits sig Unit) :
    iprop(BatS c T fB s n (cnt T n 16) (NS * cnt T n b) ∗ owes (c : Thread nD τ) 0 W)
      ⊢ iprop((∀ W', (BatS c T fB s n (cnt T n 16) (NS * cnt T n (b + 1)) ∗ owes (c : Thread nD τ) 0 W') -∗ Q ⟨⟩)
        -∗ wp frame (wpE defs 𝒱 (c : Thread nD τ) bd) Set.univ
            (Prog.lift (.waitDma2 sm (rowB oA hA) (winS oC hC) w1 w2)) Q) := by
  subst esm
  have hstep : cnt T n (b + 1) = cnt T n b + 1 := (PageRing.live_facts (lv T n) 16 b hb hl).1
  have hle : cnt T n (b + 1) ≤ cnt T n 16 := cnt_mono T n _ _ (by omega)
  have e : NS * cnt T n b + 1 * NS = NS * cnt T n (b + 1) := by rw [hstep, Nat.mul_add, Nat.one_mul, Nat.mul_one]
  unfold BatS
  iintro ⟨HB, HO⟩ HQ
  iapply (Transfers.wp_waitBatchMul (countersEmb (U := Pipeline.UD sig nD τ)) 𝒱 (c : Thread nD τ) bd (sem := ssem s)
    (srcw := rowB oA hA) (dstw := winS oC hC) (hsrc := w1) (hdst := w2) (k := .ret)
    (D := fun t : Fin (cnt T n 16) => DelS c T fB s n (nth T n t.val)) (j := cnt T n 16) (u := NS * cnt T n b) (W := W) () (N := NS) 1 (creditS _ _) (by rw [e]; exact Nat.mul_le_mul_left _ hle)) $$ [HB HO]
  · isplitl [HB] <;> iassumption
  rw [e]
  iintro ⟨HB, HO⟩
  rw [wp_ret]
  imodintro
  iapply HQ
  isplitl [HB]; · iexact HB
  iexact HO

/-! ## The zeros of a sequence without a row -/

/-- The rectangle that the zeros are stored through covers the sequence's window. -/
theorem set_accC (s b : ℕ) (h) : (mC.access (Rect.unit (s := S2x16x24x64x128) ![s, b, 0, 0, 0] S1x1x24x64x128.size h)).set = setC c s b := by
  rw [← set_winC c s b h]
  exact (View.set_reshape _ _).symm
theorem set_accS (s b : ℕ) (h) : (mS.access (Rect.unit (s := S2x16x24x64) ![s, b, 0, 0] S1x1x24x64.size h)).set = setS c s b := by
  rw [← set_winS c s b h]
  exact (View.set_reshape _ _).symm

/-- A store through it leaves the stored block in the window. -/
theorem holds_accC (s b : ℕ) (h) (g : Buf (Elt F) (mC.view.loc (c : Thread nD τ))) (w : S1x1x24x64x128.Idx → Elt F .fp8e4m3) :
    HoldsC c s b ((mC.access (Rect.unit (s := S2x16x24x64x128) ![s, b, 0, 0, 0] S1x1x24x64x128.size h)).write (Elt F) g w Finset.univ)
      (fun i => w (ix5 0 0 (i 0) (i 1) (i 2))) := by
  intro s' b' hs hb i
  subst hs hb
  have e : ix5 s' b' (i 0) (i 1) (i 2) = (mC.access (Rect.unit (s := S2x16x24x64x128) ![s'.val, b'.val, 0, 0, 0] S1x1x24x64x128.size h)).emb
      (ix5 0 0 (i 0) (i 1) (i 2)) := by
    funext a
    refine Fin.ext ?_
    match a with
    | ⟨0, _⟩ => show s'.val = s'.val + 1 * 0; omega
    | ⟨1, _⟩ => show b'.val = b'.val + 1 * 0; omega
    | ⟨2, _⟩ => show (i 0).val = 0 + 1 * (i 0).val; omega
    | ⟨3, _⟩ => show (i 1).val = 0 + 1 * (i 1).val; omega
    | ⟨4, _⟩ => show (i 2).val = 0 + 1 * (i 2).val; omega
  exact (congrArg _ e).trans (View.write_emb_of_mem _ _ (Finset.mem_univ _))
theorem holds_accS (s b : ℕ) (h) (g : Buf (Elt F) (mS.view.loc (c : Thread nD τ))) (w : S1x1x24x64.Idx → Elt F .f32) :
    HoldsS c s b ((mS.access (Rect.unit (s := S2x16x24x64) ![s, b, 0, 0] S1x1x24x64.size h)).write (Elt F) g w Finset.univ)
      (fun i => w (ix4 0 0 (i 0) (i 1))) := by
  intro s' b' hs hb i
  subst hs hb
  have e : ix4 s' b' (i 0) (i 1) = (mS.access (Rect.unit (s := S2x16x24x64) ![s'.val, b'.val, 0, 0] S1x1x24x64.size h)).emb
      (ix4 0 0 (i 0) (i 1)) := by
    funext a
    refine Fin.ext ?_
    match a with
    | ⟨0, _⟩ => show s'.val = s'.val + 1 * 0; omega
    | ⟨1, _⟩ => show b'.val = b'.val + 1 * 0; omega
    | ⟨2, _⟩ => show (i 0).val = 0 + 1 * (i 0).val; omega
    | ⟨3, _⟩ => show (i 1).val = 0 + 1 * (i 1).val; omega
  exact (congrArg _ e).trans (View.write_emb_of_mem _ _ (Finset.mem_univ _))

/-- Loading a window of codes before its zeros are stored (the value is not used). -/
theorem wp_loadC (s b : ℕ) {o : Fin 5 → ℕ} (e : o = ![s, b, 0, 0, 0]) (h hl) (Q : (S1x1x24x64x128.Idx → Elt F .fp8e4m3) → sProp 𝕄) :
    WC' (F := F) c s b ⊢ iprop((∀ v, WC' (F := F) c s b -∗ Q v)
      -∗ wp frame (wpE defs 𝒱 (c : Thread nD τ) bd) Set.univ (Prog.lift (.load mC (Rect.unit (s := S2x16x24x64x128) o S1x1x24x64x128.size h).toLoadRect hl)) Q) := by
  subst e
  unfold WC'
  iintro ⟨%g, H⟩ HQ
  iapply (wp_load_rect 𝒱 (c : Thread nD τ) bd Set.univ (m := mC) (r := Rect.unit (s := S2x16x24x64x128) ![s, b, 0, 0, 0] S1x1x24x64x128.size h) (hl := hl)
    (k := .ret) (S := setC c s b) (f := g) (by rw [set_accC])) $$ H
  iintro H
  rw [wp_ret]
  imodintro
  iapply HQ
  iexists g
  iexact H
/-- Storing the zeros of the codes. -/
theorem wp_storeC (s b : ℕ) {o : Fin 5 → ℕ} (e : o = ![s, b, 0, 0, 0]) (h hx hm) (w : S1x1x24x64x128.Idx → Elt F .fp8e4m3) (Q : PUnit → sProp 𝕄) :
    WC' (F := F) c s b ⊢ iprop((WC (F := F) c s b (fun i => w (ix5 0 0 (i 0) (i 1) (i 2))) -∗ Q ⟨⟩)
      -∗ wp frame (wpE defs 𝒱 (c : Thread nD τ) bd) Set.univ (Prog.lift (.store mC (Rect.unit (s := S2x16x24x64x128) o S1x1x24x64x128.size h) w Finset.univ hx hm)) Q) := by
  subst e
  unfold WC' WC
  iintro ⟨%g, H⟩ HQ
  iapply (wp_store 𝒱 (c : Thread nD τ) bd Set.univ (m := mC) (r := Rect.unit (s := S2x16x24x64x128) ![s, b, 0, 0, 0] S1x1x24x64x128.size h) (hx := hx) (hm := hm)
    (w := w) (k := .ret) (S := setC c s b) (f := g) (by rw [View.setOn_univ, set_accC])) $$ H
  iintro H
  rw [wp_ret]
  imodintro
  iapply HQ
  iexists ((mC.access (Rect.unit (s := S2x16x24x64x128) ![s, b, 0, 0, 0] S1x1x24x64x128.size h)).write (Elt F) g w Finset.univ)
  isplitr [H]
  · ipureintro; exact holds_accC c s b h g w
  · iexact H
/-- Loading a window of scales before its zeros are stored (the value is not used). -/
theorem wp_loadS (s b : ℕ) {o : Fin 4 → ℕ} (e : o = ![s, b, 0, 0]) (h hl) (Q : (S1x1x24x64.Idx → Elt F .f32) → sProp 𝕄) :
    WS' (F := F) c s b ⊢ iprop((∀ v, WS' (F := F) c s b -∗ Q v)
      -∗ wp frame (wpE defs 𝒱 (c : Thread nD τ) bd) Set.univ (Prog.lift (.load mS (Rect.unit (s := S2x16x24x64) o S1x1x24x64.size h).toLoadRect hl)) Q) := by
  subst e
  unfold WS'
  iintro ⟨%g, H⟩ HQ
  iapply (wp_load_rect 𝒱 (c : Thread nD τ) bd Set.univ (m := mS) (r := Rect.unit (s := S2x16x24x64) ![s, b, 0, 0] S1x1x24x64.size h) (hl := hl)
    (k := .ret) (S := setS c s b) (f := g) (by rw [set_accS])) $$ H
  iintro H
  rw [wp_ret]
  imodintro
  iapply HQ
  iexists g
  iexact H
/-- Storing the zeros of the scales. -/
theorem wp_storeS (s b : ℕ) {o : Fin 4 → ℕ} (e : o = ![s, b, 0, 0]) (h hx hm) (w : S1x1x24x64.Idx → Elt F .f32) (Q : PUnit → sProp 𝕄) :
    WS' (F := F) c s b ⊢ iprop((WS (F := F) c s b (fun i => w (ix4 0 0 (i 0) (i 1))) -∗ Q ⟨⟩)
      -∗ wp frame (wpE defs 𝒱 (c : Thread nD τ) bd) Set.univ (Prog.lift (.store mS (Rect.unit (s := S2x16x24x64) o S1x1x24x64.size h) w Finset.univ hx hm)) Q) := by
  subst e
  unfold WS' WS
  iintro ⟨%g, H⟩ HQ
  iapply (wp_store 𝒱 (c : Thread nD τ) bd Set.univ (m := mS) (r := Rect.unit (s := S2x16x24x64) ![s, b, 0, 0] S1x1x24x64.size h) (hx := hx) (hm := hm)
    (w := w) (k := .ret) (S := setS c s b) (f := g) (by rw [View.setOn_univ, set_accS])) $$ H
  iintro H
  rw [wp_ret]
  imodintro
  iapply HQ
  iexists ((mS.access (Rect.unit (s := S2x16x24x64) ![s, b, 0, 0] S1x1x24x64.size h)).write (Elt F) g w Finset.univ)
  isplitr [H]
  · ipureintro; exact holds_accS c s b h g w
  · iexact H

/-- The second guard of the wait loop is the first one's negation. -/
theorem dead_iff (w : BitVec 32) : (Scalar.cmpi .ne (Scalar.extui (Scalar.cmpi .slt w 0#32) : BitVec 32) 0#32 = 1#1) ↔ ¬ liveW w := by
  have e : liveW w ↔ w.slt 0#32 = false := by
    rw [liveW_iff]; simp [BitVec.slt]
  rw [e]
  simp only [Scalar.cmpi, IntOp.cmpi, Scalar.extui]
  cases w.slt 0#32 <;> decide

/-- The state of the waits around a live sequence. -/
theorem wt_live (s n b : ℕ) (hl : lv T n b) :
    bigSep (Finset.range 16) (WaitAt c T fA fB s n b) ⊢ bigSep (Finset.range 16) (WaitAt c T fA fB s n (b + 1)) := by
  have h : bigSep (Finset.range 16) (WaitAt c T fA fB s n b) = bigSep (Finset.range 16) (WaitAt c T fA fB s n (b + 1)) := by
    refine bigSep_congr fun b' _ => ?_
    unfold WaitAt
    by_cases h : lv T n b'
    · rw [if_pos h, if_pos h]
    · rw [if_neg h, if_neg h]
      have hne : b' ≠ b := fun e => h (e ▸ hl)
      by_cases h1 : b' < b
      · rw [if_pos h1, if_pos (show b' < b + 1 by omega)]
      · rw [if_neg h1, if_neg (show ¬ b' < b + 1 by omega)]
  rw [h]
/-- The state of the waits around a sequence without a row. -/
theorem wt_dead (s n b : ℕ) (hb : b < 16) (hl : ¬ lv T n b) :
    bigSep (Finset.range 16) (WaitAt c T fA fB s n b) ⊢ iprop(FreeAt c fA fB s b
      ∗ (ZeroAt c fA fB s b -∗ bigSep (Finset.range 16) (WaitAt c T fA fB s n (b + 1)))) := by
  have h := take_put (WaitAt c T fA fB s n b) (WaitAt c T fA fB s n (b + 1)) b hb (fun b' hne => by
    unfold WaitAt
    by_cases h : lv T n b'
    · rw [if_pos h, if_pos h]
    · rw [if_neg h, if_neg h]
      by_cases h1 : b' < b
      · rw [if_pos h1, if_pos (show b' < b + 1 by omega)]
      · rw [if_neg h1, if_neg (show ¬ b' < b + 1 by omega)])
  have e1 : WaitAt c T fA fB s n b b = FreeAt c fA fB s b := by
    unfold WaitAt; rw [if_neg hl, if_neg (Nat.lt_irrefl b)]
  have e2 : WaitAt c T fA fB s n (b + 1) b = ZeroAt c fA fB s b := by
    unfold WaitAt; rw [if_neg hl, if_pos (Nat.lt_succ_self b)]
  rw [e1, e2] at h
  exact h

end Cert.KernelIdeal.Hand

end
-- ==== Proof.StateI.Trip4.lean ====
/-
The compute trip: one sequence's update, run once through.
-/
module

public import proofs.«01_k».proof.Proof.StateI.Wait
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Memref (isWhole_whole)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (c : Dev nD) (i : grid0.Coords)
  (arg2 : Memref sig .tc .vmem S16x24x64 .bf16) (harg2 : arg2.IsWhole) (arg3 : Memref sig .tc .vmem S16x24 .bf16) (harg3 : arg3.IsWhole)
  (arg4 : Memref sig .tc .vmem S1x24 .f32) (harg4 : arg4.IsWhole) (arg5 : Memref sig .tc .vmem S1x24 .f32) (harg5 : arg5.IsWhole)
  (arg6 : Memref sig .tc .vmem S16x1x128 .bf16) (harg6 : arg6.IsWhole) (arg7 : Memref sig .tc .vmem S16x1x128 .bf16) (harg7 : arg7.IsWhole)
  (arg8 : Memref sig .tc .vmem S1x24 .f32) (harg8 : arg8.IsWhole)
  (arg11 : Memref sig .tc .vmem S16x24x64 .bf16) (harg11 : arg11.IsWhole) (arg12 : Memref sig .tc .vmem S16x24x64x128 .fp8e4m3) (harg12 : arg12.IsWhole)
  (arg13 : Memref sig .tc .vmem S16x24x64 .f32) (harg13 : arg13.IsWhole)
  (arg18 : Memref sig .tc .vmem S512x128 .bf16) (harg18 : arg18.IsWhole) (arg19 : Memref sig .tc .vmem S512x128 .f32) (harg19 : arg19.IsWhole)
  (arg20 : Memref sig .tc .vmem S3x512x128 .fp8e4m3) (harg20 : arg20.IsWhole) (arg21 : Memref sig .tc .vmem S3x512x128 .f32) (harg21 : arg21.IsWhole)
  (arg22 : Memref sig .tc .vmem S16x24 .f32) (harg22 : arg22.IsWhole) (arg23 : Memref sig .tc .vmem S16x24 .f32) (harg23 : arg23.IsWhole)

/-- A buffer's contents on core `c`, and the buffer held whole at them. -/
abbrev Bf {sp : Space} {S : Shape} {e : EltTy} (M : Memref sig .tc sp S e) : Type := Buf (Elt F) (M.view.loc (c : Thread nD τ))
abbrev pt {sp : Space} {S : Shape} {e : EltTy} (M : Memref sig .tc sp S e) (f : Bf (F := F) c M) : sProp 𝕄 :=
  M.view.loc (c : Thread nD τ) ↦{fullShare} f

/-- What one sequence's trip leaves in the code and scale blocks, with the proof that the trip runs. -/
noncomputable def trip4Run (v9 : BitVec 32) (v20 : IVec S24x24 1) (v28 : FVec F S24x1 .f32) (v57 : FVec F S128x128 .bf16) (v74 v75 : IVec S16x512 32) (t : Fin k0_t4_loop.trips)
    (f2 : Bf (F := F) c arg2) (f6 : Bf (F := F) c arg6) (f7 : Bf (F := F) c arg7) (f18 : Bf (F := F) c arg18) (f22 : Bf (F := F) c arg22) (f23 : Bf (F := F) c arg23)
    (hwC : ∀ a, (![(i 0).val % 2, t.val, 0, 0, 0] : Fin 5 → ℕ) a + S1x1x24x64x128.size a ≤ S2x16x24x64x128.size a) (hwS : ∀ a, (![(i 0).val % 2, t.val, 0, 0] : Fin 4 → ℕ) a + S1x1x24x64.size a ≤ S2x16x24x64.size a)
    (gC : Bf (F := F) c mC) (gS : Bf (F := F) c mS) (f12 : Bf (F := F) c arg12) (f13 : Bf (F := F) c arg13) :
    { W : Bf (F := F) c arg12 × Bf (F := F) c arg13 //
      ∀ (defs : Defs nD τ sig (Elt F) Λ₀) (f11 : Bf (F := F) c arg11) (f19 : Bf (F := F) c arg19) (f20 : Bf (F := F) c arg20) (f21 : Bf (F := F) c arg21)
        (hC0 : (mC.access (Rect.unit (s := S2x16x24x64x128) (k0_off30 i t) S1x1x8x64x128.size (k0_off30_inb i t))).set ⊆ (winC ![(i 0).val % 2, t.val, 0, 0, 0] hwC).view.set)
        (hC1 : (mC.access (Rect.unit (s := S2x16x24x64x128) (k0_off33 i t) S1x1x8x64x128.size (k0_off33_inb i t))).set ⊆ (winC ![(i 0).val % 2, t.val, 0, 0, 0] hwC).view.set)
        (hC2 : (mC.access (Rect.unit (s := S2x16x24x64x128) (k0_off36 i t) S1x1x8x64x128.size (k0_off36_inb i t))).set ⊆ (winC ![(i 0).val % 2, t.val, 0, 0, 0] hwC).view.set)
        (hS : (mS.access (Rect.unit (s := S2x16x24x64) (k0_off28 i t) S1x1x24x64.size (k0_off28_inb i t))).set ⊆ (winS ![(i 0).val % 2, t.val, 0, 0] hwS).view.set)
        (Q : Unit → sProp 𝕄),
        iprop(pt c arg2 f2 ∗ pt c arg6 f6 ∗ pt c arg7 f7 ∗ pt c arg18 f18 ∗ pt c arg22 f22 ∗ pt c arg23 f23
          ∗ ((winC ![(i 0).val % 2, t.val, 0, 0, 0] hwC).view.loc (c : Thread nD τ) ↦[(winC ![(i 0).val % 2, t.val, 0, 0, 0] hwC).view.set]{fullShare} gC) ∗ ((winS ![(i 0).val % 2, t.val, 0, 0] hwS).view.loc (c : Thread nD τ) ↦[(winS ![(i 0).val % 2, t.val, 0, 0] hwS).view.set]{fullShare} gS)
          ∗ pt c arg11 f11 ∗ pt c arg12 f12 ∗ pt c arg13 f13 ∗ pt c arg19 f19 ∗ pt c arg20 f20 ∗ pt c arg21 f21
          ∗ (iprop(pt c arg2 f2 ∗ pt c arg6 f6 ∗ pt c arg7 f7 ∗ pt c arg18 f18 ∗ pt c arg22 f22 ∗ pt c arg23 f23
              ∗ ((winC ![(i 0).val % 2, t.val, 0, 0, 0] hwC).view.loc (c : Thread nD τ) ↦[(winC ![(i 0).val % 2, t.val, 0, 0, 0] hwC).view.set]{fullShare} gC) ∗ ((winS ![(i 0).val % 2, t.val, 0, 0] hwS).view.loc (c : Thread nD τ) ↦[(winS ![(i 0).val % 2, t.val, 0, 0] hwS).view.set]{fullShare} gS)
              ∗ (∃ f, pt c arg11 f) ∗ pt c arg12 W.1 ∗ pt c arg13 W.2 ∗ (∃ f, pt c arg19 f) ∗ (∃ f, pt c arg20 f) ∗ (∃ f, pt c arg21 f)) -∗ Q ⟨⟩))
          ⊢ wp frame (wpE defs Variants.none (c : Thread nD τ) none) Set.univ (k0_t4_body i mT (isWhole_whole _) arg2 harg2 arg3 harg3 arg4 harg4 arg5 harg5 arg6 harg6 arg7 harg7 arg8 harg8 mA (isWhole_whole _) mB (isWhole_whole _) arg11 harg11 arg12 harg12 arg13 harg13 mC (isWhole_whole _) mS (isWhole_whole _) cc0_scratch2 cc0_scratch3 arg18 harg18 arg19 harg19 arg20 harg20 arg21 harg21 arg22 harg22 arg23 harg23 v9 v20 v28 v57 v74 v75 t ⟨⟩) Q } := by
  refine ⟨⟨?_, ?_⟩, fun defs f11 f19 f20 f21 hC0 hC1 hC2 hS Q => ?run⟩
  case run =>
    iintro ⟨H2, H6, H7, H18, H22, H23, HC, HS, H11, H12, H13, H19, H20, H21, Hk⟩
    unfold k0_t4_body
    sl_exec_parts!
    sl_step
    iapply Hk
    isplitl [H2]; · iexact H2
    isplitl [H6]; · iexact H6
    isplitl [H7]; · iexact H7
    isplitl [H18]; · iexact H18
    isplitl [H22]; · iexact H22
    isplitl [H23]; · iexact H23
    isplitl [HC]; · iexact HC
    isplitl [HS]; · iexact HS
    isplitl [H11]; · iexists _; iexact H11
    isplitl [H12]; · iexact H12
    isplitl [H13]; · iexact H13
    isplitl [H19]; · iexists _; iexact H19
    isplitl [H20]; · iexists _; iexact H20
    iexists _; iexact H21

end Cert.KernelIdeal.Hand

end
-- ==== Proof.StateI.Step4.lean ====
/-
A trip of the compute loop over the windows that are ready.
-/
module

public import proofs.«01_k».proof.Proof.StateI.Trip4

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Memref (isWhole_whole)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (c : Dev nD) (T : S640.Idx → BitVec 32) (fA : Buf (Elt F) (mA.view.loc (c : Thread nD τ))) (fB : Buf (Elt F) (mB.view.loc (c : Thread nD τ)))
variable {defs : Defs nD τ sig (Elt F) Λ₀} {𝒱 : Variants} {bd : Option 𝒱.V}
variable (i : grid0.Coords)
  (arg2 : Memref sig .tc .vmem S16x24x64 .bf16) (harg2 : arg2.IsWhole) (arg3 : Memref sig .tc .vmem S16x24 .bf16) (harg3 : arg3.IsWhole)
  (arg4 : Memref sig .tc .vmem S1x24 .f32) (harg4 : arg4.IsWhole) (arg5 : Memref sig .tc .vmem S1x24 .f32) (harg5 : arg5.IsWhole)
  (arg6 : Memref sig .tc .vmem S16x1x128 .bf16) (harg6 : arg6.IsWhole) (arg7 : Memref sig .tc .vmem S16x1x128 .bf16) (harg7 : arg7.IsWhole)
  (arg8 : Memref sig .tc .vmem S1x24 .f32) (harg8 : arg8.IsWhole)
  (arg11 : Memref sig .tc .vmem S16x24x64 .bf16) (harg11 : arg11.IsWhole) (arg12 : Memref sig .tc .vmem S16x24x64x128 .fp8e4m3) (harg12 : arg12.IsWhole)
  (arg13 : Memref sig .tc .vmem S16x24x64 .f32) (harg13 : arg13.IsWhole)
  (arg18 : Memref sig .tc .vmem S512x128 .bf16) (harg18 : arg18.IsWhole) (arg19 : Memref sig .tc .vmem S512x128 .f32) (harg19 : arg19.IsWhole)
  (arg20 : Memref sig .tc .vmem S3x512x128 .fp8e4m3) (harg20 : arg20.IsWhole) (arg21 : Memref sig .tc .vmem S3x512x128 .f32) (harg21 : arg21.IsWhole)
  (arg22 : Memref sig .tc .vmem S16x24 .f32) (harg22 : arg22.IsWhole) (arg23 : Memref sig .tc .vmem S16x24 .f32) (harg23 : arg23.IsWhole)

/-- A whole buffer, the rectangle of all of it, and reading through it. -/
theorem set_whole_sub {S : Shape} {sp : CoreSpace} {e : EltTy} (m : Memref sig .tc sp S e) (r : Rect S) :
    (m.access r).set ⊆ (Finset.univ : Finset (Idx ((m.access r).loc (c : Thread nD τ)))) := Finset.subset_univ _

/-- Loading from a buffer held whole. -/
theorem wp_ld {S : Shape} {sp : CoreSpace} {e : EltTy} (m : Memref sig .tc sp S e) (f : Bf (F := F) c m) (r : Rect S) (hl) (Q : (r.shape.Idx → Elt F e) → sProp 𝕄) :
    pt c m f ⊢ iprop((pt c m f -∗ Q ((m.access r).read (Elt F) f))
      -∗ wp frame (wpE defs 𝒱 (c : Thread nD τ) bd) Set.univ (Prog.lift (.load m r.toLoadRect hl)) Q) := by
  unfold pt
  iintro H HQ
  iapply (wp_load_rect 𝒱 (c : Thread nD τ) bd Set.univ (m := m) (r := r) (hl := hl) (k := .ret) (S := Finset.univ) (f := f) (Finset.subset_univ _)) $$ H
  iintro H
  rw [wp_ret]
  imodintro
  iapply HQ
  iexact H
/-- Storing into a buffer held whole. -/
theorem wp_st {S : Shape} {sp : CoreSpace} {e : EltTy} (m : Memref sig .tc sp S e) (f : Bf (F := F) c m) (r : Rect S) (hx hm) (w : r.shape.Idx → Elt F e) (Q : PUnit → sProp 𝕄) :
    pt c m f ⊢ iprop((pt c m ((m.access r).write (Elt F) f w Finset.univ) -∗ Q ⟨⟩)
      -∗ wp frame (wpE defs 𝒱 (c : Thread nD τ) bd) Set.univ (Prog.lift (.store m r w Finset.univ hx hm)) Q) := by
  unfold pt
  iintro H HQ
  iapply (wp_store 𝒱 (c : Thread nD τ) bd Set.univ (m := m) (r := r) (hx := hx) (hm := hm) (w := w) (k := .ret) (S := Finset.univ) (f := f) (Finset.subset_univ _)) $$ H
  iintro H
  rw [wp_ret]
  imodintro
  iapply HQ
  iexact H

variable (P : ℕ → Bf (F := F) c arg12 → Bf (F := F) c arg13 → Prop)
  (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8)

/-- The buffers the compute loop reads. -/
def RO (f18 : Bf (F := F) c arg18) (f22 : Bf (F := F) c arg22) (f23 : Bf (F := F) c arg23) : sProp 𝕄 :=
  iprop(pt c arg2 f2 ∗ pt c arg6 f6 ∗ pt c arg7 f7 ∗ pt c arg18 f18 ∗ pt c arg22 f22 ∗ pt c arg23 f23)
/-- The three output blocks, the first `k` sequences done. -/
def Outs (k : ℕ) : sProp 𝕄 :=
  iprop(∃ f12 f13, ⌜P k f12 f13⌝ ∗ (∃ f11, pt (F := F) c arg11 f11) ∗ pt c arg12 f12 ∗ pt c arg13 f13)
/-- The buffers a trip of the compute loop works in. -/
def Scr : sProp 𝕄 :=
  iprop((∃ f, pt (F := F) c arg19 f) ∗ (∃ f, pt (F := F) c arg20 f) ∗ (∃ f, pt (F := F) c arg21 f))

/-- A block of eight heads of a window lies in the window. -/
theorem sub_winC (c : Dev nD) (s b g : ℕ) (hg : g + 8 ≤ 24) {o : Fin 5 → ℕ} (e : o = ![s, b, g, 0, 0]) (h) (hw) :
    (mC.access (Rect.unit (s := S2x16x24x64x128) o S1x1x8x64x128.size h)).set ⊆ (winC ![s, b, 0, 0, 0] hw).view.set := by
  subst e
  rw [set_winC c s b hw]
  intro j hj
  have hj' := (Iff.of_eq (congrArg (j ∈ ·) (View.set_slice_whole _ _))).mp hj
  have B := Rect.mem_set_unit.mp hj'
  have B0 := B 0
  have B1 := B 1
  unfold setC
  rw [Finset.mem_filter]
  refine ⟨Finset.mem_univ _, ?_, ?_⟩
  · have h1 : s ≤ (j 0 : ℕ) := B0.1
    have h2 : (j 0 : ℕ) < s + 1 := B0.2
    omega
  · have h1 : b ≤ (j 1 : ℕ) := B1.1
    have h2 : (j 1 : ℕ) < b + 1 := B1.2
    omega
theorem sub_winS (c : Dev nD) (s b : ℕ) {o : Fin 4 → ℕ} (e : o = ![s, b, 0, 0]) (h) (hw) :
    (mS.access (Rect.unit (s := S2x16x24x64) o S1x1x24x64.size h)).set ⊆ (winS ![s, b, 0, 0] hw).view.set := by
  subst e
  rw [set_winS c s b hw, ← set_accS c s b h]

/-- The window of codes, and of scales, of sequence `t` in the slot of point `i`. -/
theorem hwC (t : Fin k0_t4_loop.trips) : ∀ a, (![(i 0).val % 2, t.val, 0, 0, 0] : Fin 5 → ℕ) a + S1x1x24x64x128.size a ≤ S2x16x24x64x128.size a :=
  inbC _ _ (Nat.mod_lt _ (by omega)) t.isLt
theorem hwS (t : Fin k0_t4_loop.trips) : ∀ a, (![(i 0).val % 2, t.val, 0, 0] : Fin 4 → ℕ) a + S1x1x24x64.size a ≤ S2x16x24x64.size a :=
  inbS _ _ (Nat.mod_lt _ (by omega)) t.isLt

/-- What the trip of sequence `t` leaves in the blocks of codes and scales. -/
abbrev tripOut (v9 : BitVec 32) (v20 : IVec S24x24 1) (v28 : FVec F S24x1 .f32) (v57 : FVec F S128x128 .bf16) (v74 v75 : IVec S16x512 32)
    (f18 : Bf (F := F) c arg18) (f22 : Bf (F := F) c arg22) (f23 : Bf (F := F) c arg23)
    (t : Fin k0_t4_loop.trips) (gC : Bf (F := F) c mC) (gS : Bf (F := F) c mS) (f12 : Bf (F := F) c arg12) (f13 : Bf (F := F) c arg13) :
    Bf (F := F) c arg12 × Bf (F := F) c arg13 :=
  (trip4Run c i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 v9 v20 v28 v57 v74 v75 t f2 f6 f7 f18 f22 f23 (hwC i t) (hwS i t) gC gS f12 f13).1

/-- One trip of the compute loop. -/
theorem trip4 (v9 : BitVec 32) (v20 : IVec S24x24 1) (v28 : FVec F S24x1 .f32) (v57 : FVec F S128x128 .bf16) (v74 v75 : IVec S16x512 32)
    (f18 : Bf (F := F) c arg18) (f22 : Bf (F := F) c arg22) (f23 : Bf (F := F) c arg23)
    (hstep : ∀ (t : Fin k0_t4_loop.trips) gC gS f12 f13, HoldsC c ((i 0).val % 2) t.val gC (valC c T fA (i 0).val t.val) → HoldsS c ((i 0).val % 2) t.val gS (valS c T fB (i 0).val t.val) →
      P t.val f12 f13 → P (t.val + 1) (tripOut c i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 f2 f6 f7 v9 v20 v28 v57 v74 v75 f18 f22 f23 t gC gS f12 f13).1 (tripOut c i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 f2 f6 f7 v9 v20 v28 v57 v74 v75 f18 f22 f23 t gC gS f12 f13).2)
    (t : Fin k0_t4_loop.trips) (a : Unit) :
    iprop(RO c arg2 arg6 arg7 arg18 arg22 arg23 f2 f6 f7 f18 f22 f23 ∗ Ready c T fA fB ((i 0).val % 2) (i 0).val ∗ Outs c arg11 arg12 arg13 P t.val ∗ Scr (F := F) c arg19 arg20 arg21)
      ⊢ wp frame (wpE defs Variants.none (c : Thread nD τ) none) Set.univ (k0_t4_body i mT (isWhole_whole _) arg2 harg2 arg3 harg3 arg4 harg4 arg5 harg5 arg6 harg6 arg7 harg7 arg8 harg8 mA (isWhole_whole _) mB (isWhole_whole _) arg11 harg11 arg12 harg12 arg13 harg13 mC (isWhole_whole _) mS (isWhole_whole _) cc0_scratch2 cc0_scratch3 arg18 harg18 arg19 harg19 arg20 harg20 arg21 harg21 arg22 harg22 arg23 harg23 v9 v20 v28 v57 v74 v75 t a)
          (fun _ => iprop(RO c arg2 arg6 arg7 arg18 arg22 arg23 f2 f6 f7 f18 f22 f23 ∗ Ready c T fA fB ((i 0).val % 2) (i 0).val ∗ Outs c arg11 arg12 arg13 P (t.val + 1) ∗ Scr (F := F) c arg19 arg20 arg21)) := by
  have ht : t.val < 16 := t.isLt
  obtain ⟨⟩ := a
  unfold RO Ready Outs Scr
  iintro ⟨⟨H2, H6, H7, H18, H22, H23⟩, ⟨Hc, Hs, HR⟩, ⟨%f12, %f13, %hP, ⟨%f11, H11⟩, H12, H13⟩, ⟨⟨%f19, H19⟩, ⟨%f20, H20⟩, ⟨%f21, H21⟩⟩⟩
  have htp := take_put (ReadyAt c T fA fB ((i 0).val % 2) (i 0).val) (ReadyAt c T fA fB ((i 0).val % 2) (i 0).val) t.val ht (fun _ _ => rfl)
  icases htp $$ HR with ⟨HR, Hback⟩
  unfold ReadyAt WC WS
  icases HR with ⟨⟨%gC, %hC, HC⟩, ⟨%gS, %hS, HS⟩, HA, HB⟩
  rw [← set_winC c ((i 0).val % 2) t.val (hwC i t), ← set_winS c ((i 0).val % 2) t.val (hwS i t)]
  iapply ((trip4Run c i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 v9 v20 v28 v57 v74 v75 t f2 f6 f7 f18 f22 f23 (hwC i t) (hwS i t) gC gS f12 f13).2 defs f11 f19 f20 f21
    (sub_winC c _ _ 0 (by omega) (off30_eq i t) _ _) (sub_winC c _ _ 8 (by omega) (off33_eq i t) _ _) (sub_winC c _ _ 16 (by omega) (off36_eq i t) _ _)
    (sub_winS c _ _ (off28_eq i t) _ _) _)
  isplitl [H2]; · iexact H2
  isplitl [H6]; · iexact H6
  isplitl [H7]; · iexact H7
  isplitl [H18]; · iexact H18
  isplitl [H22]; · iexact H22
  isplitl [H23]; · iexact H23
  isplitl [HC]; · iexact HC
  isplitl [HS]; · iexact HS
  isplitl [H11]; · iexact H11
  isplitl [H12]; · iexact H12
  isplitl [H13]; · iexact H13
  isplitl [H19]; · iexact H19
  isplitl [H20]; · iexact H20
  isplitl [H21]; · iexact H21
  iintro ⟨H2, H6, H7, H18, H22, H23, HC, HS, ⟨%g11, H11⟩, H12, H13, H19, H20, H21⟩
  isplitl [H2 H6 H7 H18 H22 H23]
  · isplitl [H2]; · iexact H2
    isplitl [H6]; · iexact H6
    isplitl [H7]; · iexact H7
    isplitl [H18]; · iexact H18
    isplitl [H22]; · iexact H22
    iexact H23
  isplitl [Hc Hs Hback HC HS HA HB]
  · isplitl [Hc]; · iexact Hc
    isplitl [Hs]; · iexact Hs
    iapply Hback
    isplitl [HC]
    · iexists gC; isplitr; · ipureintro; exact hC
      iexact HC
    isplitl [HS]
    · iexists gS; isplitr; · ipureintro; exact hS
      iexact HS
    isplitl [HA] <;> iassumption
  isplitl [H11 H12 H13]
  · iexists (tripOut c i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 f2 f6 f7 v9 v20 v28 v57 v74 v75 f18 f22 f23 t gC gS f12 f13).1
    iexists (tripOut c i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 f2 f6 f7 v9 v20 v28 v57 v74 v75 f18 f22 f23 t gC gS f12 f13).2
    isplitr
    · ipureintro; exact hstep t gC gS f12 f13 hC hS hP
    isplitl [H11]; · iexists g11; iexact H11
    isplitl [H12] <;> iassumption
  isplitl [H19]; · iexact H19
  isplitl [H20] <;> iassumption

end Cert.KernelIdeal.Hand

end
-- ==== Proof.StateI.Trips.lean ====
/-
  The trips of the issue loops.
-/
module

public import proofs.«01_k».proof.Proof.StateI.Issue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Memref (isWhole_whole)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (c : Dev nD) (T : S640.Idx → BitVec 32) (fA : Buf (Elt F) (mA.view.loc (c : Thread nD τ))) (fB : Buf (Elt F) (mB.view.loc (c : Thread nD τ)))
variable {defs : Defs nD τ sig (Elt F) Λ₀} {𝒱 : Variants} {bd : Option 𝒱.V}
variable (i : grid0.Coords)
  (arg2 : Memref sig .tc .vmem S16x24x64 .bf16) (harg2 : arg2.IsWhole) (arg3 : Memref sig .tc .vmem S16x24 .bf16) (harg3 : arg3.IsWhole)
  (arg4 : Memref sig .tc .vmem S1x24 .f32) (harg4 : arg4.IsWhole) (arg5 : Memref sig .tc .vmem S1x24 .f32) (harg5 : arg5.IsWhole)
  (arg6 : Memref sig .tc .vmem S16x1x128 .bf16) (harg6 : arg6.IsWhole) (arg7 : Memref sig .tc .vmem S16x1x128 .bf16) (harg7 : arg7.IsWhole)
  (arg8 : Memref sig .tc .vmem S1x24 .f32) (harg8 : arg8.IsWhole)
  (arg11 : Memref sig .tc .vmem S16x24x64 .bf16) (harg11 : arg11.IsWhole) (arg12 : Memref sig .tc .vmem S16x24x64x128 .fp8e4m3) (harg12 : arg12.IsWhole)
  (arg13 : Memref sig .tc .vmem S16x24x64 .f32) (harg13 : arg13.IsWhole)
  (arg18 : Memref sig .tc .vmem S512x128 .bf16) (harg18 : arg18.IsWhole) (arg19 : Memref sig .tc .vmem S512x128 .f32) (harg19 : arg19.IsWhole)
  (arg20 : Memref sig .tc .vmem S3x512x128 .fp8e4m3) (harg20 : arg20.IsWhole) (arg21 : Memref sig .tc .vmem S3x512x128 .f32) (harg21 : arg21.IsWhole)
  (arg22 : Memref sig .tc .vmem S16x24 .f32) (harg22 : arg22.IsWhole) (arg23 : Memref sig .tc .vmem S16x24 .f32) (harg23 : arg23.IsWhole)

/-- The kernel's semaphore at an offset that is a slot's number. -/
theorem csem_at {o : Fin 1 → ℕ} {s : ℕ} (e : o = ![s]) (hs : s < 2) (h) :
    ((cc0_scratch2.slice (Rect.unit (s := S2) o S1.size h)).squeeze S_ squeezes_S1_S_).sem = csem s := by subst e; exact csem_eq s hs h
theorem ssem_at {o : Fin 1 → ℕ} {s : ℕ} (e : o = ![s]) (hs : s < 2) (h) :
    ((cc0_scratch3.slice (Rect.unit (s := S2) o S1.size h)).squeeze S_ squeezes_S1_S_).sem = ssem s := by subst e; exact ssem_eq s hs h

/-- One trip of the first step's issue loop: sequence `t` of block 0 into slot 0. -/
theorem trip1 (q : PosShare TreeShare) (h1 : k0_cond1 i = 1#1) (t : Fin k0_t1_loop.trips) (a : Unit) :
    iprop(Tab (F := F) c T q ∗ Iss c T fA fB 0 0 t.val)
      ⊢ wp frame (wpE defs 𝒱 (c : Thread nD τ) bd) Set.univ (k0_t1_body i mT (isWhole_whole _) arg2 harg2 arg3 harg3 arg4 harg4 arg5 harg5 arg6 harg6 arg7 harg7 arg8 harg8 mA (isWhole_whole _) mB (isWhole_whole _) arg11 harg11 arg12 harg12 arg13 harg13 mC (isWhole_whole _) mS (isWhole_whole _) cc0_scratch2 cc0_scratch3 arg18 harg18 arg19 harg19 arg20 harg20 arg21 harg21 arg22 harg22 arg23 harg23 h1 t a)
          (fun _ => iprop(Tab (F := F) c T q ∗ Iss c T fA fB 0 0 (t.val + 1))) := by
  have ht : t.val < 16 := t.isLt
  unfold k0_t1_body
  simp only [wp_bind]
  iintro ⟨HT, HI⟩
  iapply (wp_word c T q t.val (by omega) (off1_eq t)) $$ HT
  iintro HT
  by_cases hl : lv T 0 t.val
  · have hl' : liveW (tw T t.val) := by simpa [lv] using hl
    rw [dif_pos (show k0_cond2 _ = 1#1 from hl')]
    simp only [wp_bind]
    iapply (wp_word c T q t.val (by omega) (off2_eq t)) $$ HT
    iintro HT
    rw [show (Prog.lift (TpuEff.assume (k0_chk1 i (tw T t.val) (tw T t.val)) (k0_chk1.dec i (tw T t.val) (tw T t.val)))
        : Prog (TpuEff nD τ sig (Elt F) Λ₀ (c : Thread nD τ).2) _) = .op _ .ret from rfl, wp_assume_of 𝒱 (c : Thread nD τ) bd Set.univ (chk1 i (tw T t.val))]
    rw [wp_ret]
    imodintro
    icases (iss_take c T fA fB 0 0 t.val ht hl) $$ HI with ⟨HC, HS, HI⟩
    iapply (wp_issueC c T fA 0 0 t.val (by omega) ht hl (off3_eq t) (by simpa [rw0] using off4_eq (tw T t.val)) _ _ (csem_eq 0 (by omega) _) _ _ _) $$ HC
    iintro HC
    iapply (wp_issueS c T fB 0 0 t.val (by omega) ht hl (off5_eq t) (by simpa [rw0] using off6_eq (tw T t.val)) _ _ (ssem_eq 0 (by omega) _) _ _ _) $$ HS
    iintro HS
    simp only [wp_pure]
    imodintro
    isplitl [HT]; · iexact HT
    iapply HI
    isplitl [HC] <;> iassumption
  · have hl' : ¬ liveW (tw T t.val) := by simpa [lv] using hl
    rw [dif_neg (show ¬ k0_cond2 _ = 1#1 from hl')]
    simp only [wp_pure]
    imodintro
    isplitl [HT]; · iexact HT
    iapply (iss_dead c T fA fB 0 0 t.val ht hl)
    iexact HI

/-- One trip of the issue loop for the next block, into the other slot. -/
theorem trip2 (q : PosShare TreeShare) (h1 : k0_cond3 i = 1#1) (hn : (i 0).val + 1 < 40) (t : Fin k0_t2_loop.trips) (a : Unit) :
    iprop(Tab (F := F) c T q ∗ Iss c T fA fB (((i 0).val + 1) % 2) ((i 0).val + 1) t.val)
      ⊢ wp frame (wpE defs 𝒱 (c : Thread nD τ) bd) Set.univ (k0_t2_body i mT (isWhole_whole _) arg2 harg2 arg3 harg3 arg4 harg4 arg5 harg5 arg6 harg6 arg7 harg7 arg8 harg8 mA (isWhole_whole _) mB (isWhole_whole _) arg11 harg11 arg12 harg12 arg13 harg13 mC (isWhole_whole _) mS (isWhole_whole _) cc0_scratch2 cc0_scratch3 arg18 harg18 arg19 harg19 arg20 harg20 arg21 harg21 arg22 harg22 arg23 harg23 h1 t a)
          (fun _ => iprop(Tab (F := F) c T q ∗ Iss c T fA fB (((i 0).val + 1) % 2) ((i 0).val + 1) (t.val + 1))) := by
  have ht : t.val < 16 := t.isLt
  unfold k0_t2_body
  simp only [wp_bind]
  iintro ⟨HT, HI⟩
  iapply (wp_word c T q (16 * ((i 0).val + 1) + t.val) (by omega) (off7_eq i t hn)) $$ HT
  iintro HT
  by_cases hl : lv T ((i 0).val + 1) t.val
  · have hl' : liveW (tw T (16 * ((i 0).val + 1) + t.val)) := by simpa [lv] using hl
    rw [dif_pos (show k0_cond4 _ = 1#1 from hl')]
    simp only [wp_bind]
    iapply (wp_word c T q (16 * ((i 0).val + 1) + t.val) (by omega) (off8_eq i t hn)) $$ HT
    iintro HT
    rw [show (Prog.lift (TpuEff.assume (k0_chk2 i (tw T (16 * ((i 0).val + 1) + t.val)) (tw T (16 * ((i 0).val + 1) + t.val))) (k0_chk2.dec i (tw T (16 * ((i 0).val + 1) + t.val)) (tw T (16 * ((i 0).val + 1) + t.val))))
        : Prog (TpuEff nD τ sig (Elt F) Λ₀ (c : Thread nD τ).2) _) = .op _ .ret from rfl, wp_assume_of 𝒱 (c : Thread nD τ) bd Set.univ (chk2 i (tw T (16 * ((i 0).val + 1) + t.val)))]
    rw [wp_ret]
    imodintro
    icases (iss_take c T fA fB (((i 0).val + 1) % 2) ((i 0).val + 1) t.val ht hl) $$ HI with ⟨HC, HS, HI⟩
    iapply (wp_issueC c T fA (((i 0).val + 1) % 2) ((i 0).val + 1) t.val (by omega) ht hl (off10_eq i t hn) (by simpa [rw0] using off11_eq (tw T (16 * ((i 0).val + 1) + t.val))) _ _ (csem_at (off9_eq i hn) (by omega) _) _ _ _) $$ HC
    iintro HC
    iapply (wp_issueS c T fB (((i 0).val + 1) % 2) ((i 0).val + 1) t.val (by omega) ht hl (off13_eq i t hn) (by simpa [rw0] using off14_eq (tw T (16 * ((i 0).val + 1) + t.val))) _ _ (ssem_at (off12_eq i hn) (by omega) _) _ _ _) $$ HS
    iintro HS
    simp only [wp_pure]
    imodintro
    isplitl [HT]; · iexact HT
    iapply HI
    isplitl [HC] <;> iassumption
  · have hl' : ¬ liveW (tw T (16 * ((i 0).val + 1) + t.val)) := by simpa [lv] using hl
    rw [dif_neg (show ¬ k0_cond4 _ = 1#1 from hl')]
    simp only [wp_pure]
    imodintro
    isplitl [HT]; · iexact HT
    iapply (iss_dead c T fA fB (((i 0).val + 1) % 2) ((i 0).val + 1) t.val ht hl)
    iexact HI

end Cert.KernelIdeal.Hand

end
-- ==== Proof.StateI.Trip3.lean ====
/-
  The trips of the wait loop.
-/
module

public import proofs.«01_k».proof.Proof.StateI.Wait
public import proofs.«01_k».proof.Proof.StateI.Trips

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Memref (isWhole_whole)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (c : Dev nD) (T : S640.Idx → BitVec 32) (fA : Buf (Elt F) (mA.view.loc (c : Thread nD τ))) (fB : Buf (Elt F) (mB.view.loc (c : Thread nD τ)))
variable {defs : Defs nD τ sig (Elt F) Λ₀} {𝒱 : Variants} {bd : Option 𝒱.V}
variable (i : grid0.Coords)
  (arg2 : Memref sig .tc .vmem S16x24x64 .bf16) (harg2 : arg2.IsWhole) (arg3 : Memref sig .tc .vmem S16x24 .bf16) (harg3 : arg3.IsWhole)
  (arg4 : Memref sig .tc .vmem S1x24 .f32) (harg4 : arg4.IsWhole) (arg5 : Memref sig .tc .vmem S1x24 .f32) (harg5 : arg5.IsWhole)
  (arg6 : Memref sig .tc .vmem S16x1x128 .bf16) (harg6 : arg6.IsWhole) (arg7 : Memref sig .tc .vmem S16x1x128 .bf16) (harg7 : arg7.IsWhole)
  (arg8 : Memref sig .tc .vmem S1x24 .f32) (harg8 : arg8.IsWhole)
  (arg11 : Memref sig .tc .vmem S16x24x64 .bf16) (harg11 : arg11.IsWhole) (arg12 : Memref sig .tc .vmem S16x24x64x128 .fp8e4m3) (harg12 : arg12.IsWhole)
  (arg13 : Memref sig .tc .vmem S16x24x64 .f32) (harg13 : arg13.IsWhole)
  (arg18 : Memref sig .tc .vmem S512x128 .bf16) (harg18 : arg18.IsWhole) (arg19 : Memref sig .tc .vmem S512x128 .f32) (harg19 : arg19.IsWhole)
  (arg20 : Memref sig .tc .vmem S3x512x128 .fp8e4m3) (harg20 : arg20.IsWhole) (arg21 : Memref sig .tc .vmem S3x512x128 .f32) (harg21 : arg21.IsWhole)
  (arg22 : Memref sig .tc .vmem S16x24 .f32) (harg22 : arg22.IsWhole) (arg23 : Memref sig .tc .vmem S16x24 .f32) (harg23 : arg23.IsWhole)

/-- One trip of the wait loop: sequence `t` of the block at hand. -/
theorem trip3 (q : PosShare TreeShare) (t : Fin k0_t3_loop.trips) (a : Unit) :
    iprop(Tab (F := F) c T q ∗ (∃ W, owes (c : Thread nD τ) 0 W) ∗ Wt c T fA fB ((i 0).val % 2) (i 0).val t.val)
      ⊢ wp frame (wpE defs 𝒱 (c : Thread nD τ) bd) Set.univ (k0_t3_body i mT (isWhole_whole _) arg2 harg2 arg3 harg3 arg4 harg4 arg5 harg5 arg6 harg6 arg7 harg7 arg8 harg8 mA (isWhole_whole _) mB (isWhole_whole _) arg11 harg11 arg12 harg12 arg13 harg13 mC (isWhole_whole _) mS (isWhole_whole _) cc0_scratch2 cc0_scratch3 arg18 harg18 arg19 harg19 arg20 harg20 arg21 harg21 arg22 harg22 arg23 harg23 t a)
          (fun _ => iprop(Tab (F := F) c T q ∗ (∃ W, owes (c : Thread nD τ) 0 W) ∗ Wt c T fA fB ((i 0).val % 2) (i 0).val (t.val + 1))) := by
  have ht : t.val < 16 := t.isLt
  have hi : (i 0).val < 40 := (i 0).isLt
  unfold k0_t3_body Wt
  simp only [wp_bind]
  iintro ⟨HT, ⟨%W, HO⟩, HC, HS, HW⟩
  iapply (wp_word c T q (16 * (i 0).val + t.val) (by omega) (off15_eq i t)) $$ HT
  iintro HT
  by_cases hl : lv T (i 0).val t.val
  · rw [dif_pos (show k0_cond5 _ = 1#1 from hl)]
    simp only [wp_bind]
    iapply (wp_word c T q (16 * (i 0).val + t.val) (by omega) (off16_eq i t)) $$ HT
    iintro HT
    rw [show (Prog.lift (TpuEff.assume (k0_chk3 (tw T (16 * (i 0).val + t.val)) (tw T (16 * (i 0).val + t.val))) (k0_chk3.dec (tw T (16 * (i 0).val + t.val)) (tw T (16 * (i 0).val + t.val))))
        : Prog (TpuEff nD τ sig (Elt F) Λ₀ (c : Thread nD τ).2) _) = .op _ .ret from rfl, wp_assume_of 𝒱 (c : Thread nD τ) bd Set.univ (chk3 (tw T (16 * (i 0).val + t.val)))]
    rw [wp_ret]
    imodintro
    iapply (wp_waitC c T fA ((i 0).val % 2) (i 0).val t.val ht hl _ _ (csem_at (off17_eq i) (by omega) _) _ _ _ W) $$ [HC HO]
    · isplitl [HC] <;> iassumption
    iintro %W1 ⟨HC, HO⟩
    iapply (wp_waitS c T fB ((i 0).val % 2) (i 0).val t.val ht hl _ _ (ssem_at (off20_eq i) (by omega) _) _ _ _ W1) $$ [HS HO]
    · isplitl [HS] <;> iassumption
    iintro %W2 ⟨HS, HO⟩
    simp only [wp_pure, fupd_wp_eq]
    iapply (wp_word c T q (16 * (i 0).val + t.val) (by omega) (off23_eq i t)) $$ HT
    iintro HT
    rw [if_neg (fun h => (dead_iff _).mp h hl)]
    simp only [wp_pure]
    imodintro
    isplitl [HT]; · iexact HT
    isplitl [HO]; · iexists W2; iexact HO
    isplitl [HC]; · iexact HC
    isplitl [HS]; · iexact HS
    iapply (wt_live c T fA fB ((i 0).val % 2) (i 0).val t.val hl)
    iexact HW
  · rw [dif_neg (show ¬ k0_cond5 _ = 1#1 from hl)]
    simp only [wp_bind]
    iapply (wp_word c T q (16 * (i 0).val + t.val) (by omega) (off23_eq i t)) $$ HT
    iintro HT
    rw [if_pos ((dead_iff _).mpr hl)]
    simp only [wp_bind]
    icases (wt_dead c T fA fB ((i 0).val % 2) (i 0).val t.val ht hl) $$ HW with ⟨HF, HW⟩
    unfold FreeAt
    icases HF with ⟨HFC, HFS, HA, HB⟩
    iapply (wp_loadC c ((i 0).val % 2) t.val (off24_eq i t)) $$ HFC
    iintro %v1 HFC
    iapply (wp_storeC c ((i 0).val % 2) t.val (off24_eq i t)) $$ HFC
    iintro HFC
    iapply (wp_loadS c ((i 0).val % 2) t.val (off25_eq i t)) $$ HFS
    iintro %v2 HFS
    iapply (wp_storeS c ((i 0).val % 2) t.val (off25_eq i t)) $$ HFS
    iintro HFS
    simp only [wp_pure]
    imodintro
    have e : cnt T (i 0).val (t.val + 1) = cnt T (i 0).val t.val := PageRing.dead_facts (lv T (i 0).val) t.val hl
    rw [e]
    isplitl [HT]; · iexact HT
    isplitl [HO]; · iexists W; iexact HO
    isplitl [HC]; · iexact HC
    isplitl [HS]; · iexact HS
    iapply HW
    unfold ZeroAt zeroC zeroS
    isplitl [HFC]; · iexact HFC
    isplitl [HFS]; · iexact HFS
    isplitl [HA] <;> iassumption

end Cert.KernelIdeal.Hand

end
-- ==== Proof.StateI.Body.lean ====
/-
One run of the kernel's body.
-/
module

public import proofs.«01_k».proof.Proof.StateI.Step4
public import proofs.«01_k».proof.Proof.StateI.Trip3

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Memref (isWhole_whole)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (c : Dev nD) (T : S640.Idx → BitVec 32) (fA : Buf (Elt F) (mA.view.loc (c : Thread nD τ))) (fB : Buf (Elt F) (mB.view.loc (c : Thread nD τ)))
variable {defs : Defs nD τ sig (Elt F) Λ₀}
variable (i : grid0.Coords)
  (arg2 : Memref sig .tc .vmem S16x24x64 .bf16) (harg2 : arg2.IsWhole) (arg3 : Memref sig .tc .vmem S16x24 .bf16) (harg3 : arg3.IsWhole)
  (arg4 : Memref sig .tc .vmem S1x24 .f32) (harg4 : arg4.IsWhole) (arg5 : Memref sig .tc .vmem S1x24 .f32) (harg5 : arg5.IsWhole)
  (arg6 : Memref sig .tc .vmem S16x1x128 .bf16) (harg6 : arg6.IsWhole) (arg7 : Memref sig .tc .vmem S16x1x128 .bf16) (harg7 : arg7.IsWhole)
  (arg8 : Memref sig .tc .vmem S1x24 .f32) (harg8 : arg8.IsWhole)
  (arg11 : Memref sig .tc .vmem S16x24x64 .bf16) (harg11 : arg11.IsWhole) (arg12 : Memref sig .tc .vmem S16x24x64x128 .fp8e4m3) (harg12 : arg12.IsWhole)
  (arg13 : Memref sig .tc .vmem S16x24x64 .f32) (harg13 : arg13.IsWhole)
  (arg18 : Memref sig .tc .vmem S512x128 .bf16) (harg18 : arg18.IsWhole) (arg19 : Memref sig .tc .vmem S512x128 .f32) (harg19 : arg19.IsWhole)
  (arg20 : Memref sig .tc .vmem S3x512x128 .fp8e4m3) (harg20 : arg20.IsWhole) (arg21 : Memref sig .tc .vmem S3x512x128 .f32) (harg21 : arg21.IsWhole)
  (arg22 : Memref sig .tc .vmem S16x24 .f32) (harg22 : arg22.IsWhole) (arg23 : Memref sig .tc .vmem S16x24 .f32) (harg23 : arg23.IsWhole)

/-- The issue loop of the first point. -/
theorem loop1 (q : PosShare TreeShare) (h1 : k0_cond1 i = 1#1) :
    iprop(Tab (F := F) c T q ∗ Idle c fA fB 0)
      ⊢ wp frame (wpE defs Variants.none (c : Thread nD τ) none) Set.univ (Scf.Loop.for k0_t1_loop (k0_t1_ok i h1) ⟨⟩ (k0_t1_body i mT (isWhole_whole _) arg2 harg2 arg3 harg3 arg4 harg4 arg5 harg5 arg6 harg6 arg7 harg7 arg8 harg8 mA (isWhole_whole _) mB (isWhole_whole _) arg11 harg11 arg12 harg12 arg13 harg13 mC (isWhole_whole _) mS (isWhole_whole _) cc0_scratch2 cc0_scratch3 arg18 harg18 arg19 harg19 arg20 harg20 arg21 harg21 arg22 harg22 arg23 harg23 h1))
          (fun _ => iprop(Tab (F := F) c T q ∗ Pend c T fA fB 0 0)) := by
  iintro ⟨HT, HI⟩
  imod (idle_iss c T fA fB 0 0) $$ HI with HI
  have h := Scf.wp_for frame (wpE defs Variants.none (c : Thread nD τ) none) Set.univ k0_t1_loop.lb k0_t1_loop.ub k0_t1_loop.st (k0_t1_ok i h1) ⟨⟩ _
    (fun k _ => iprop(Tab (F := F) c T q ∗ Iss c T fA fB 0 0 k)) (fun t a => trip1 c T fA fB i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 q h1 t a) (Q := fun _ => iprop(Tab (F := F) c T q ∗ Pend c T fA fB 0 0))
  iapply h
  isplitl [HT HI]
  · isplitl [HT] <;> iassumption
  iintro %acc H
  unfold Pend
  iexact H
/-- The issue loop of the next point. -/
theorem loop2 (q : PosShare TreeShare) (h3 : k0_cond3 i = 1#1) (hn : (i 0).val + 1 < 40) :
    iprop(Tab (F := F) c T q ∗ Idle c fA fB (((i 0).val + 1) % 2))
      ⊢ wp frame (wpE defs Variants.none (c : Thread nD τ) none) Set.univ (Scf.Loop.for k0_t2_loop (k0_t2_ok i h3) ⟨⟩ (k0_t2_body i mT (isWhole_whole _) arg2 harg2 arg3 harg3 arg4 harg4 arg5 harg5 arg6 harg6 arg7 harg7 arg8 harg8 mA (isWhole_whole _) mB (isWhole_whole _) arg11 harg11 arg12 harg12 arg13 harg13 mC (isWhole_whole _) mS (isWhole_whole _) cc0_scratch2 cc0_scratch3 arg18 harg18 arg19 harg19 arg20 harg20 arg21 harg21 arg22 harg22 arg23 harg23 h3))
          (fun _ => iprop(Tab (F := F) c T q ∗ Pend c T fA fB (((i 0).val + 1) % 2) ((i 0).val + 1))) := by
  iintro ⟨HT, HI⟩
  imod (idle_iss c T fA fB (((i 0).val + 1) % 2) ((i 0).val + 1)) $$ HI with HI
  have h := Scf.wp_for frame (wpE defs Variants.none (c : Thread nD τ) none) Set.univ k0_t2_loop.lb k0_t2_loop.ub k0_t2_loop.st (k0_t2_ok i h3) ⟨⟩ _
    (fun k _ => iprop(Tab (F := F) c T q ∗ Iss c T fA fB (((i 0).val + 1) % 2) ((i 0).val + 1) k)) (fun t a => trip2 c T fA fB i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 q h3 hn t a)
    (Q := fun _ => iprop(Tab (F := F) c T q ∗ Pend c T fA fB (((i 0).val + 1) % 2) ((i 0).val + 1)))
  iapply h
  isplitl [HT HI]
  · isplitl [HT] <;> iassumption
  iintro %acc H
  unfold Pend
  iexact H
/-- The wait loop. -/
theorem loop3 (q : PosShare TreeShare) :
    iprop(Tab (F := F) c T q ∗ (∃ W, owes (c : Thread nD τ) 0 W) ∗ Pend c T fA fB ((i 0).val % 2) (i 0).val)
      ⊢ wp frame (wpE defs Variants.none (c : Thread nD τ) none) Set.univ (Scf.Loop.for k0_t3_loop k0_t3_ok ⟨⟩ (k0_t3_body i mT (isWhole_whole _) arg2 harg2 arg3 harg3 arg4 harg4 arg5 harg5 arg6 harg6 arg7 harg7 arg8 harg8 mA (isWhole_whole _) mB (isWhole_whole _) arg11 harg11 arg12 harg12 arg13 harg13 mC (isWhole_whole _) mS (isWhole_whole _) cc0_scratch2 cc0_scratch3 arg18 harg18 arg19 harg19 arg20 harg20 arg21 harg21 arg22 harg22 arg23 harg23))
          (fun _ => iprop(Tab (F := F) c T q ∗ (∃ W, owes (c : Thread nD τ) 0 W) ∗ Wt c T fA fB ((i 0).val % 2) (i 0).val 16)) := by
  iintro ⟨HT, HO, HI⟩
  have h := Scf.wp_for frame (wpE defs Variants.none (c : Thread nD τ) none) Set.univ k0_t3_loop.lb k0_t3_loop.ub k0_t3_loop.st k0_t3_ok ⟨⟩ _
    (fun k _ => iprop(Tab (F := F) c T q ∗ (∃ W, owes (c : Thread nD τ) 0 W) ∗ Wt c T fA fB ((i 0).val % 2) (i 0).val k)) (fun t a => trip3 c T fA fB i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 q t a)
    (Q := fun _ => iprop(Tab (F := F) c T q ∗ (∃ W, owes (c : Thread nD τ) 0 W) ∗ Wt c T fA fB ((i 0).val % 2) (i 0).val 16))
  iapply h
  isplitl [HT HO HI]
  · isplitl [HT]; · iexact HT
    isplitl [HO]; · iexact HO
    iapply (pend_wt c T fA fB ((i 0).val % 2) (i 0).val)
    iexact HI
  iintro %acc H
  iexact H

variable (P : ℕ → Bf (F := F) c arg12 → Bf (F := F) c arg13 → Prop)
  (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8)

/-- The compute loop. -/
theorem loop4 (v9 : BitVec 32) (v20 : IVec S24x24 1) (v28 : FVec F S24x1 .f32) (v57 : FVec F S128x128 .bf16) (v74 v75 : IVec S16x512 32)
    (f18 : Bf (F := F) c arg18) (f22 : Bf (F := F) c arg22) (f23 : Bf (F := F) c arg23)
    (hstep : ∀ (t : Fin k0_t4_loop.trips) gC gS f12 f13, HoldsC c ((i 0).val % 2) t.val gC (valC c T fA (i 0).val t.val) → HoldsS c ((i 0).val % 2) t.val gS (valS c T fB (i 0).val t.val) →
      P t.val f12 f13 → P (t.val + 1) (tripOut c i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 f2 f6 f7 v9 v20 v28 v57 v74 v75 f18 f22 f23 t gC gS f12 f13).1 (tripOut c i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 f2 f6 f7 v9 v20 v28 v57 v74 v75 f18 f22 f23 t gC gS f12 f13).2) :
    iprop(RO c arg2 arg6 arg7 arg18 arg22 arg23 f2 f6 f7 f18 f22 f23 ∗ Ready c T fA fB ((i 0).val % 2) (i 0).val ∗ Outs c arg11 arg12 arg13 P 0 ∗ Scr (F := F) c arg19 arg20 arg21)
      ⊢ wp frame (wpE defs Variants.none (c : Thread nD τ) none) Set.univ (Scf.Loop.for k0_t4_loop k0_t4_ok ⟨⟩ (k0_t4_body i mT (isWhole_whole _) arg2 harg2 arg3 harg3 arg4 harg4 arg5 harg5 arg6 harg6 arg7 harg7 arg8 harg8 mA (isWhole_whole _) mB (isWhole_whole _) arg11 harg11 arg12 harg12 arg13 harg13 mC (isWhole_whole _) mS (isWhole_whole _) cc0_scratch2 cc0_scratch3 arg18 harg18 arg19 harg19 arg20 harg20 arg21 harg21 arg22 harg22 arg23 harg23 v9 v20 v28 v57 v74 v75))
          (fun _ => iprop(RO c arg2 arg6 arg7 arg18 arg22 arg23 f2 f6 f7 f18 f22 f23 ∗ Ready c T fA fB ((i 0).val % 2) (i 0).val ∗ Outs c arg11 arg12 arg13 P 16 ∗ Scr (F := F) c arg19 arg20 arg21)) := by
  iintro HI
  have h := Scf.wp_for frame (wpE defs Variants.none (c : Thread nD τ) none) Set.univ k0_t4_loop.lb k0_t4_loop.ub k0_t4_loop.st k0_t4_ok ⟨⟩ _
    (fun k _ => iprop(RO c arg2 arg6 arg7 arg18 arg22 arg23 f2 f6 f7 f18 f22 f23 ∗ Ready c T fA fB ((i 0).val % 2) (i 0).val ∗ Outs c arg11 arg12 arg13 P k ∗ Scr (F := F) c arg19 arg20 arg21))
    (fun t a => trip4 c T fA fB i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 P f2 f6 f7 v9 v20 v28 v57 v74 v75 f18 f22 f23 hstep t a)
    (Q := fun _ => iprop(RO c arg2 arg6 arg7 arg18 arg22 arg23 f2 f6 f7 f18 f22 f23 ∗ Ready c T fA fB ((i 0).val % 2) (i 0).val ∗ Outs c arg11 arg12 arg13 P 16 ∗ Scr (F := F) c arg19 arg20 arg21))
  iapply h
  isplitl [HI]; · iexact HI
  iintro %acc H
  iexact H

/-- The two slots between points: the transfers of point `t` in flight, the other slot idle. -/
def Slots (t : ℕ) : sProp 𝕄 :=
  iprop((if 0 < t ∧ t < 40 then Pend c T fA fB (t % 2) t else Idle c fA fB (t % 2)) ∗ Idle c fA fB ((t + 1) % 2))

/-- The table of unit rows is in its buffer. -/
def Has18 (f18 : Bf (F := F) c arg18) : Prop := (arg18.access (Rect.unit (s := S512x128) ![0, 0] S512x128.size inb_S512x128_S512x128_0_0)).read (Elt F) f18 = (k0_pay606 (F := F))

/-- The buffer of the table of unit rows before point `t`. -/
def E18 (t : ℕ) : sProp 𝕄 := iprop(∃ f18, ⌜0 < t → Has18 c arg18 f18⌝ ∗ pt (F := F) c arg18 f18)

/-- The time steps and the decays of a block of sequences, written over the contents `f22` and `f23`. -/
abbrev dtOf (f22 : Bf (F := F) c arg22) : Bf (F := F) c arg22 :=
  (arg22.access (Rect.unit (s := S16x24) ![0, 0] S16x24.size inb_S16x24_S16x24_0_0)).write (Elt F) f22 (k0_pay614 (k0_pay611 ((arg3.access (Rect.unit (s := S16x24) ![0, 0] S16x24.size inb_S16x24_S16x24_0_0)).read (Elt F) f3)) (k0_pay612 ((arg4.access (Rect.unit (s := S1x24) ![0, 0] S1x24.size inb_S1x24_S1x24_0_0)).read (Elt F) f4))) Finset.univ
abbrev decayOf (f23 : Bf (F := F) c arg23) : Bf (F := F) c arg23 :=
  (arg23.access (Rect.unit (s := S16x24) ![0, 0] S16x24.size inb_S16x24_S16x24_0_0)).write (Elt F) f23 (k0_pay615 (k0_pay611 ((arg3.access (Rect.unit (s := S16x24) ![0, 0] S16x24.size inb_S16x24_S16x24_0_0)).read (Elt F) f3)) (k0_pay612 ((arg4.access (Rect.unit (s := S1x24) ![0, 0] S1x24.size inb_S1x24_S1x24_0_0)).read (Elt F) f4)) ((arg5.access (Rect.unit (s := S1x24) ![0, 0] S1x24.size inb_S1x24_S1x24_0_0)).read (Elt F) f5)) Finset.univ
/-- Which slot the point uses, as the kernel computes it. -/
abbrev v9Of : BitVec 32 :=
  let v1 : BitVec 32 := Scalar.select (Scalar.cmpi .eq 2#32 0#32) 1#32 2#32
  let v2 : BitVec 32 := Scalar.remsi (BitVec.ofNat 32 (i 0).val) v1
  Scalar.select (Scalar.andi (Scalar.xori (Scalar.cmpi .slt v2 0#32) (Scalar.cmpi .slt v1 0#32)) (Scalar.cmpi .ne v2 0#32)) (Scalar.addi v2 v1) v2
/-- The trip at the values the body reaches it with. -/
abbrev stepOut (f18 : Bf (F := F) c arg18) (f22 : Bf (F := F) c arg22) (f23 : Bf (F := F) c arg23)
    (t : Fin k0_t4_loop.trips) (gC : Bf (F := F) c mC) (gS : Bf (F := F) c mS) (f12 : Bf (F := F) c arg12) (f13 : Bf (F := F) c arg13) :
    Bf (F := F) c arg12 × Bf (F := F) c arg13 :=
  tripOut c i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 f2 f6 f7 (v9Of i) k0_pay609 (k0_pay610 ((arg8.access (Rect.unit (s := S1x24) ![0, 0] S1x24.size inb_S1x24_S1x24_0_0)).read (Elt F) f8)) (k0_pay616 (F := F)) k0_pay617 (iota .tc S16x512 32 [1] iota_S16x512_d1_w32)
    f18 (dtOf c arg3 arg4 arg22 f3 f4 f22) (decayOf c arg3 arg4 arg5 arg23 f3 f4 f5 f23) t gC gS f12 f13

/-- What a run of the body needs of the predicate it carries through the compute loop. -/
def StepOK : Prop :=
  ∀ f18 f22 f23 (t : Fin k0_t4_loop.trips) gC gS f12 f13, Has18 (F := F) c arg18 f18 →
    HoldsC c ((i 0).val % 2) t.val gC (valC c T fA (i 0).val t.val) → HoldsS c ((i 0).val % 2) t.val gS (valS c T fB (i 0).val t.val) →
    P t.val f12 f13 → P (t.val + 1) (stepOut c i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 f2 f3 f4 f5 f6 f7 f8 f18 f22 f23 t gC gS f12 f13).1 (stepOut c i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 f2 f3 f4 f5 f6 f7 f8 f18 f22 f23 t gC gS f12 f13).2

/-- The input blocks. -/
def Ins : sProp 𝕄 := iprop(pt c arg2 f2 ∗ pt c arg3 f3 ∗ pt c arg4 f4 ∗ pt c arg5 f5 ∗ pt c arg6 f6 ∗ pt c arg7 f7 ∗ pt c arg8 f8)
/-- The body's scratch buffers that hold nothing from one point to the next. -/
def Scr5 : sProp 𝕄 := iprop(Scr (F := F) c arg19 arg20 arg21 ∗ (∃ f, pt (F := F) c arg22 f) ∗ (∃ f, pt (F := F) c arg23 f))

/-- A run carried on by what it ends in. -/
theorem run_of {α : Type} {p : Prog (TpuEff nD τ sig (Elt F) Λ₀ .tc) α} {A : sProp 𝕄} {B Q : α → sProp 𝕄} (h : A ⊢ wp frame (wpE defs Variants.none (c : Thread nD τ) none) Set.univ p B) :
    A ⊢ iprop((∀ a, B a -∗ Q a) -∗ wp frame (wpE defs Variants.none (c : Thread nD τ) none) Set.univ p Q) := by
  have h2 : iprop(A ∗ (∀ a, B a -∗ Q a)) ⊢ wp frame (wpE defs Variants.none (c : Thread nD τ) none) Set.univ p Q := by
    refine (sep_mono h .rfl).trans ((wp_frame_r _ _ _).trans (wp_mono _ _ _ fun a => ?_))
    iintro ⟨H, HW⟩
    iapply HW
    iexact H
  iintro HA HW
  iapply h2
  isplitl [HA] <;> iassumption
/-- The table of unit rows and the slots of a point after its first guard. -/
def Mid1 (q : PosShare TreeShare) : sProp 𝕄 :=
  iprop(Tab (F := F) c T q ∗ (∃ W, owes (c : Thread nD τ) 0 W) ∗ Pend c T fA fB ((i 0).val % 2) (i 0).val ∗ Idle c fA fB (((i 0).val + 1) % 2)
    ∗ (∃ f18, ⌜Has18 c arg18 f18⌝ ∗ pt (F := F) c arg18 f18) ∗ Ins c arg2 arg3 arg4 arg5 arg6 arg7 arg8 f2 f3 f4 f5 f6 f7 f8)
/-- The slots of the next point after the second guard. -/
def Nxt (t : ℕ) : sProp 𝕄 := if t < 40 then Pend c T fA fB (t % 2) t else Idle c fA fB (t % 2)
/-- The same after its second guard. -/
def Mid2 (q : PosShare TreeShare) : sProp 𝕄 :=
  iprop(Tab (F := F) c T q ∗ (∃ W, owes (c : Thread nD τ) 0 W) ∗ Pend c T fA fB ((i 0).val % 2) (i 0).val ∗ Nxt c T fA fB ((i 0).val + 1)
    ∗ (∃ f18, ⌜Has18 c arg18 f18⌝ ∗ pt (F := F) c arg18 f18) ∗ Ins c arg2 arg3 arg4 arg5 arg6 arg7 arg8 f2 f3 f4 f5 f6 f7 f8)

/-- The head of the body from its third transfer loop on. -/
noncomputable def tail3 : Prog (TpuEff nD τ sig (Elt F) Λ₀ .tc) (Σ' (v9 : BitVec 32) (v20 : IVec S24x24 1) (v28 : FVec F S24x1 .f32) (v30 : FVec F S16x24 .f32), FVec F S1x24 .f32) := do
  Scf.Loop.for k0_t3_loop k0_t3_ok ⟨⟩ (k0_t3_body i mT (isWhole_whole _) arg2 harg2 arg3 harg3 arg4 harg4 arg5 harg5 arg6 harg6 arg7 harg7 arg8 harg8 mA (isWhole_whole _) mB (isWhole_whole _) arg11 harg11 arg12 harg12 arg13 harg13 mC (isWhole_whole _) mS (isWhole_whole _) cc0_scratch2 cc0_scratch3 arg18 harg18 arg19 harg19 arg20 harg20 arg21 harg21 arg22 harg22 arg23 harg23)
  let v21 : Vec F S1x24 .f32 ← Prog.lift (.load arg8 (Rect.unit (s := S1x24) ![0, 0] S1x24.size inb_S1x24_S1x24_0_0).toLoadRect (View.loadsAt_vmem h_S1x24))
  let v29 : Vec F S16x24 .bf16 ← Prog.lift (.load arg3 (Rect.unit (s := S16x24) ![0, 0] S16x24.size inb_S16x24_S16x24_0_0).toLoadRect (View.loadsAt_vmem h_S16x24))
  let v31 : Vec F S1x24 .f32 ← Prog.lift (.load arg4 (Rect.unit (s := S1x24) ![0, 0] S1x24.size inb_S1x24_S1x24_0_0).toLoadRect (View.loadsAt_vmem h_S1x24))
  pure ⟨v9Of i, k0_pay609, k0_pay610 v21, k0_pay611 v29, k0_pay612 v31⟩

/-- The head of the body from its second guard on. -/
noncomputable def tail2 : Prog (TpuEff nD τ sig (Elt F) Λ₀ .tc) (Σ' (v9 : BitVec 32) (v20 : IVec S24x24 1) (v28 : FVec F S24x1 .f32) (v30 : FVec F S16x24 .f32), FVec F S1x24 .f32) :=
  if h3 : k0_cond3 i = 1#1 then do
    Scf.Loop.for k0_t2_loop (k0_t2_ok i h3) ⟨⟩ (k0_t2_body i mT (isWhole_whole _) arg2 harg2 arg3 harg3 arg4 harg4 arg5 harg5 arg6 harg6 arg7 harg7 arg8 harg8 mA (isWhole_whole _) mB (isWhole_whole _) arg11 harg11 arg12 harg12 arg13 harg13 mC (isWhole_whole _) mS (isWhole_whole _) cc0_scratch2 cc0_scratch3 arg18 harg18 arg19 harg19 arg20 harg20 arg21 harg21 arg22 harg22 arg23 harg23 h3)
    tail3 i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23
  else tail3 i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23
/-- The head of the body. -/
noncomputable def tail1 : Prog (TpuEff nD τ sig (Elt F) Λ₀ .tc) (Σ' (v9 : BitVec 32) (v20 : IVec S24x24 1) (v28 : FVec F S24x1 .f32) (v30 : FVec F S16x24 .f32), FVec F S1x24 .f32) :=
  if h1 : k0_cond1 i = 1#1 then do
    let v108 : Vec F S512x128 .bf16 ← Prog.lift (.load arg18 (Rect.unit (s := S512x128) ![0, 0] S512x128.size inb_S512x128_S512x128_0_0).toLoadRect (View.loadsAt_vmem h_S512x128))
    Prog.lift (.store arg18 (Rect.unit (s := S512x128) ![0, 0] S512x128.size inb_S512x128_S512x128_0_0) (k0_pay606 (F := F)) Finset.univ (View.stores_vmem h_S512x128 (harg18.storeExact_slice rfl _ packedbf16_S512x128_S512x128_0_0) (fun _ => rfl)) (.inl rfl))
    Scf.Loop.for k0_t1_loop (k0_t1_ok i h1) ⟨⟩ (k0_t1_body i mT (isWhole_whole _) arg2 harg2 arg3 harg3 arg4 harg4 arg5 harg5 arg6 harg6 arg7 harg7 arg8 harg8 mA (isWhole_whole _) mB (isWhole_whole _) arg11 harg11 arg12 harg12 arg13 harg13 mC (isWhole_whole _) mS (isWhole_whole _) cc0_scratch2 cc0_scratch3 arg18 harg18 arg19 harg19 arg20 harg20 arg21 harg21 arg22 harg22 arg23 harg23 h1)
    tail2 i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23
  else tail2 i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23
set_option maxRecDepth 65536 in
/-- The printed head is this one. -/
theorem part164_eq : k0_part164 (F := F) i mT (isWhole_whole _) arg2 harg2 arg3 harg3 arg4 harg4 arg5 harg5 arg6 harg6 arg7 harg7 arg8 harg8 mA (isWhole_whole _) mB (isWhole_whole _) arg11 harg11 arg12 harg12 arg13 harg13 mC (isWhole_whole _) mS (isWhole_whole _) cc0_scratch2 cc0_scratch3 arg18 harg18 arg19 harg19 arg20 harg20 arg21 harg21 arg22 harg22 arg23 harg23 = tail1 i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 := rfl
/-- The head from its third loop on. -/
theorem tail3_run (q : PosShare TreeShare) :
    Mid2 c T fA fB i arg2 arg3 arg4 arg5 arg6 arg7 arg8 arg18 f2 f3 f4 f5 f6 f7 f8 q ⊢ wp frame (wpE defs Variants.none (c : Thread nD τ) none) Set.univ (tail3 i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23)
          (fun r => iprop(⌜r = ⟨v9Of i, k0_pay609, k0_pay610 ((arg8.access (Rect.unit (s := S1x24) ![0, 0] S1x24.size inb_S1x24_S1x24_0_0)).read (Elt F) f8), k0_pay611 ((arg3.access (Rect.unit (s := S16x24) ![0, 0] S16x24.size inb_S16x24_S16x24_0_0)).read (Elt F) f3), k0_pay612 ((arg4.access (Rect.unit (s := S1x24) ![0, 0] S1x24.size inb_S1x24_S1x24_0_0)).read (Elt F) f4)⟩⌝
            ∗ Tab (F := F) c T q ∗ (∃ W, owes (c : Thread nD τ) 0 W) ∗ Ready c T fA fB ((i 0).val % 2) (i 0).val
            ∗ Nxt c T fA fB ((i 0).val + 1)
            ∗ (∃ f18, ⌜Has18 c arg18 f18⌝ ∗ pt (F := F) c arg18 f18) ∗ Ins c arg2 arg3 arg4 arg5 arg6 arg7 arg8 f2 f3 f4 f5 f6 f7 f8)) := by
  unfold tail3
  simp only [wp_bind]
  unfold Mid2 Ins
  iintro ⟨HT, HO, HA, HB, H18, ⟨H2, H3, H4, H5, H6, H7, H8⟩⟩
  iapply (run_of c (loop3 c T fA fB i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 q)) $$ [HT HO HA]
  · isplitl [HT]; · iexact HT
    isplitl [HO] <;> iassumption
  iintro %a ⟨HT, HO, HA⟩
  imod (wt_ready c T fA fB ((i 0).val % 2) (i 0).val) $$ HA with HA
  iapply (wp_ld c arg8 f8 (Rect.unit (s := S1x24) ![0, 0] S1x24.size inb_S1x24_S1x24_0_0) _ _) $$ H8
  iintro H8
  iapply (wp_ld c arg3 f3 (Rect.unit (s := S16x24) ![0, 0] S16x24.size inb_S16x24_S16x24_0_0) _ _) $$ H3
  iintro H3
  iapply (wp_ld c arg4 f4 (Rect.unit (s := S1x24) ![0, 0] S1x24.size inb_S1x24_S1x24_0_0) _ _) $$ H4
  iintro H4
  simp only [wp_pure]
  imodintro
  isplitr
  · ipureintro; first | trivial | rfl
  isplitl [HT]; · iexact HT
  isplitl [HO]; · iexact HO
  isplitl [HA]; · iexact HA
  isplitl [HB]; · iexact HB
  isplitl [H18]; · iexact H18
  isplitl [H2]; · iexact H2
  isplitl [H3]; · iexact H3
  isplitl [H4]; · iexact H4
  isplitl [H5]; · iexact H5
  isplitl [H6]; · iexact H6
  isplitl [H7]; · iexact H7
  iexact H8

/-- The head from its second guard on. -/
theorem tail2_run (q : PosShare TreeShare) :
    Mid1 c T fA fB i arg2 arg3 arg4 arg5 arg6 arg7 arg8 arg18 f2 f3 f4 f5 f6 f7 f8 q ⊢ wp frame (wpE defs Variants.none (c : Thread nD τ) none) Set.univ (tail2 i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23)
          (fun r => iprop(⌜r = ⟨v9Of i, k0_pay609, k0_pay610 ((arg8.access (Rect.unit (s := S1x24) ![0, 0] S1x24.size inb_S1x24_S1x24_0_0)).read (Elt F) f8), k0_pay611 ((arg3.access (Rect.unit (s := S16x24) ![0, 0] S16x24.size inb_S16x24_S16x24_0_0)).read (Elt F) f3), k0_pay612 ((arg4.access (Rect.unit (s := S1x24) ![0, 0] S1x24.size inb_S1x24_S1x24_0_0)).read (Elt F) f4)⟩⌝
            ∗ Tab (F := F) c T q ∗ (∃ W, owes (c : Thread nD τ) 0 W) ∗ Ready c T fA fB ((i 0).val % 2) (i 0).val
            ∗ Nxt c T fA fB ((i 0).val + 1)
            ∗ (∃ f18, ⌜Has18 c arg18 f18⌝ ∗ pt (F := F) c arg18 f18) ∗ Ins c arg2 arg3 arg4 arg5 arg6 arg7 arg8 f2 f3 f4 f5 f6 f7 f8)) := by
  unfold tail2 Mid1
  by_cases h0 : (i 0).val + 1 < 40
  · rw [dif_pos ((cond3_iff i).mpr h0), wp_bind]
    iintro ⟨HT, HO, HA, HB, H18, HI⟩
    iapply (run_of c (loop2 c T fA fB i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 q ((cond3_iff i).mpr h0) h0)) $$ [HT HB]
    · isplitl [HT] <;> iassumption
    iintro %a ⟨HT, HB⟩
    iapply (tail3_run c T fA fB i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 f2 f3 f4 f5 f6 f7 f8 q)
    unfold Mid2 Nxt
    rw [if_pos h0]
    isplitl [HT]; · iexact HT
    isplitl [HO]; · iexact HO
    isplitl [HA]; · iexact HA
    isplitl [HB]; · iexact HB
    isplitl [H18] <;> iassumption
  · rw [dif_neg (fun h => h0 ((cond3_iff i).mp h))]
    refine BIBase.Entails.trans ?_ (tail3_run c T fA fB i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 f2 f3 f4 f5 f6 f7 f8 q)
    unfold Mid2 Nxt
    rw [if_neg h0]

/-- The head of the body: the transfers. -/
theorem head (q : PosShare TreeShare) :
    iprop(Tab (F := F) c T q ∗ (∃ W, owes (c : Thread nD τ) 0 W) ∗ Slots c T fA fB (i 0).val ∗ E18 (F := F) c arg18 (i 0).val ∗ Ins c arg2 arg3 arg4 arg5 arg6 arg7 arg8 f2 f3 f4 f5 f6 f7 f8)
      ⊢ wp frame (wpE defs Variants.none (c : Thread nD τ) none) Set.univ (k0_part164 i mT (isWhole_whole _) arg2 harg2 arg3 harg3 arg4 harg4 arg5 harg5 arg6 harg6 arg7 harg7 arg8 harg8 mA (isWhole_whole _) mB (isWhole_whole _) arg11 harg11 arg12 harg12 arg13 harg13 mC (isWhole_whole _) mS (isWhole_whole _) cc0_scratch2 cc0_scratch3 arg18 harg18 arg19 harg19 arg20 harg20 arg21 harg21 arg22 harg22 arg23 harg23)
          (fun r => iprop(⌜r = ⟨v9Of i, k0_pay609, k0_pay610 ((arg8.access (Rect.unit (s := S1x24) ![0, 0] S1x24.size inb_S1x24_S1x24_0_0)).read (Elt F) f8), k0_pay611 ((arg3.access (Rect.unit (s := S16x24) ![0, 0] S16x24.size inb_S16x24_S16x24_0_0)).read (Elt F) f3), k0_pay612 ((arg4.access (Rect.unit (s := S1x24) ![0, 0] S1x24.size inb_S1x24_S1x24_0_0)).read (Elt F) f4)⟩⌝
            ∗ Tab (F := F) c T q ∗ (∃ W, owes (c : Thread nD τ) 0 W) ∗ Ready c T fA fB ((i 0).val % 2) (i 0).val
            ∗ Nxt c T fA fB ((i 0).val + 1)
            ∗ (∃ f18, ⌜Has18 c arg18 f18⌝ ∗ pt (F := F) c arg18 f18) ∗ Ins c arg2 arg3 arg4 arg5 arg6 arg7 arg8 f2 f3 f4 f5 f6 f7 f8)) := by
  have hi : (i 0).val < 40 := (i 0).isLt
  rw [part164_eq]
  unfold tail1
  unfold Slots E18
  by_cases h0 : (i 0).val = 0
  · rw [dif_pos ((cond1_iff i).mpr h0), if_neg (by omega : ¬ (0 < (i 0).val ∧ (i 0).val < 40)), show Idle c fA fB ((i 0).val % 2) = Idle c fA fB 0 by rw [h0]]
    simp only [wp_bind]
    iintro ⟨HT, HO, ⟨HA, HB⟩, ⟨%f18, -, H18⟩, HI⟩
    iapply (wp_ld c arg18 f18 (Rect.unit (s := S512x128) ![0, 0] S512x128.size inb_S512x128_S512x128_0_0) _ _) $$ H18
    iintro H18
    iapply (wp_st c arg18 f18 (Rect.unit (s := S512x128) ![0, 0] S512x128.size inb_S512x128_S512x128_0_0) _ _ _ _) $$ H18
    iintro H18
    iapply (run_of c (loop1 c T fA fB i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 q ((cond1_iff i).mpr h0))) $$ [HT HA]
    · isplitl [HT] <;> iassumption
    iintro %a ⟨HT, HA⟩
    iapply (tail2_run c T fA fB i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 f2 f3 f4 f5 f6 f7 f8 q)
    unfold Mid1
    rw [show Pend c T fA fB ((i 0).val % 2) (i 0).val = Pend c T fA fB 0 0 by rw [h0]]
    isplitl [HT]; · iexact HT
    isplitl [HO]; · iexact HO
    isplitl [HA]; · iexact HA
    isplitl [HB]; · iexact HB
    isplitl [H18]
    · iexists ((arg18.access (Rect.unit (s := S512x128) ![0, 0] S512x128.size inb_S512x128_S512x128_0_0)).write (Elt F) f18 (k0_pay606 (F := F)) Finset.univ)
      isplitr [H18]
      · ipureintro; exact View.read_write_univ _ _
      · iexact H18
    iexact HI
  · rw [dif_neg (fun h => h0 ((cond1_iff i).mp h)), if_pos ⟨by omega, hi⟩]
    iintro ⟨HT, HO, ⟨HA, HB⟩, ⟨%f18, %h18, H18⟩, HI⟩
    iapply (tail2_run c T fA fB i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 f2 f3 f4 f5 f6 f7 f8 q)
    unfold Mid1
    isplitl [HT]; · iexact HT
    isplitl [HO]; · iexact HO
    isplitl [HA]; · iexact HA
    isplitl [HB]; · iexact HB
    isplitl [H18]
    · iexists f18
      isplitr [H18]
      · ipureintro; exact h18 (by omega)
      · iexact H18
    iexact HI
/-- The slots of the next point: its pending transfers, and the slot just read. -/
theorem slots_next (t : ℕ) (ht : t < 40) : iprop(Nxt c T fA fB (t + 1) ∗ Ready c T fA fB (t % 2) t) ⊢ Slots c T fA fB (t + 1) := by
  unfold Slots Nxt
  rw [show (t + 1 + 1) % 2 = t % 2 by omega]
  by_cases hn : t + 1 < 40
  · rw [if_pos hn, if_pos ⟨by omega, hn⟩]
    exact sep_mono .rfl (ready_idle c T fA fB (t % 2) t)
  · rw [if_neg hn, if_neg (fun h => hn h.2)]
    exact sep_mono .rfl (ready_idle c T fA fB (t % 2) t)
/-- One run of the body. -/
theorem body_run (hstep : StepOK c T fA fB i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 P f2 f3 f4 f5 f6 f7 f8) (q : PosShare TreeShare) :
    iprop(Tab (F := F) c T q ∗ (∃ W, owes (c : Thread nD τ) 0 W) ∗ Slots c T fA fB (i 0).val ∗ E18 (F := F) c arg18 (i 0).val
        ∗ Ins c arg2 arg3 arg4 arg5 arg6 arg7 arg8 f2 f3 f4 f5 f6 f7 f8 ∗ Outs c arg11 arg12 arg13 P 0 ∗ Scr5 (F := F) c arg19 arg20 arg21 arg22 arg23)
      ⊢ wp frame (wpE defs Variants.none (c : Thread nD τ) none) Set.univ (cc0_state_update i mT (isWhole_whole _) arg2 harg2 arg3 harg3 arg4 harg4 arg5 harg5 arg6 harg6 arg7 harg7 arg8 harg8 mA (isWhole_whole _) mB (isWhole_whole _) arg11 harg11 arg12 harg12 arg13 harg13 mC (isWhole_whole _) mS (isWhole_whole _) cc0_scratch2 cc0_scratch3 arg18 harg18 arg19 harg19 arg20 harg20 arg21 harg21 arg22 harg22 arg23 harg23)
          (fun _ => iprop(Tab (F := F) c T q ∗ (∃ W, owes (c : Thread nD τ) 0 W) ∗ Slots c T fA fB ((i 0).val + 1) ∗ E18 (F := F) c arg18 ((i 0).val + 1)
        ∗ Ins c arg2 arg3 arg4 arg5 arg6 arg7 arg8 f2 f3 f4 f5 f6 f7 f8 ∗ Outs c arg11 arg12 arg13 P 16 ∗ Scr5 (F := F) c arg19 arg20 arg21 arg22 arg23)) := by
  have hi : (i 0).val < 40 := (i 0).isLt
  rw [cc0_state_update_eq_skeleton]
  unfold cc0_state_update_skel
  simp only [wp_bind]
  iintro ⟨HT, HO, HS, H18, HI, HP, HX⟩
  iapply (run_of c (head c T fA fB i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 f2 f3 f4 f5 f6 f7 f8 q)) $$ [HT HO HS H18 HI]
  · isplitl [HT]; · iexact HT
    isplitl [HO]; · iexact HO
    isplitl [HS]; · iexact HS
    isplitl [H18] <;> iassumption
  iintro %r ⟨%hr, HT, HO, HA, HB, ⟨%f18, %h18, H18⟩, HI⟩
  subst hr
  unfold Scr5 Ins
  icases HX with ⟨HX, ⟨%f22, H22⟩, ⟨%f23, H23⟩⟩
  icases HI with ⟨H2, H3, H4, H5, H6, H7, H8⟩
  rw [k0_part165_eq_skeleton]
  unfold k0_part165_skel
  simp only [wp_bind]
  iapply (wp_ld c arg22 f22 (Rect.unit (s := S16x24) ![0, 0] S16x24.size inb_S16x24_S16x24_0_0) _ _) $$ H22
  iintro H22
  iapply (wp_st c arg22 f22 (Rect.unit (s := S16x24) ![0, 0] S16x24.size inb_S16x24_S16x24_0_0) _ _ _ _) $$ H22
  iintro H22
  iapply (wp_ld c arg5 f5 (Rect.unit (s := S1x24) ![0, 0] S1x24.size inb_S1x24_S1x24_0_0) _ _) $$ H5
  iintro H5
  iapply (wp_ld c arg23 f23 (Rect.unit (s := S16x24) ![0, 0] S16x24.size inb_S16x24_S16x24_0_0) _ _) $$ H23
  iintro H23
  iapply (wp_st c arg23 f23 (Rect.unit (s := S16x24) ![0, 0] S16x24.size inb_S16x24_S16x24_0_0) _ _ _ _) $$ H23
  iintro H23
  simp only [wp_pure]
  imodintro
  iapply (run_of c (loop4 c T fA fB i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 P f2 f6 f7 (v9Of i) k0_pay609 (k0_pay610 ((arg8.access (Rect.unit (s := S1x24) ![0, 0] S1x24.size inb_S1x24_S1x24_0_0)).read (Elt F) f8)) (k0_pay616 (F := F)) k0_pay617 (iota .tc S16x512 32 [1] iota_S16x512_d1_w32)
    f18 (dtOf c arg3 arg4 arg22 f3 f4 f22) (decayOf c arg3 arg4 arg5 arg23 f3 f4 f5 f23) (fun t gC gS f12 f13 => hstep f18 f22 f23 t gC gS f12 f13 h18))) $$ [H2 H6 H7 H18 H22 H23 HA HP HX]
  · isplitl [H2 H6 H7 H18 H22 H23]
    · unfold RO
      isplitl [H2]; · iexact H2
      isplitl [H6]; · iexact H6
      isplitl [H7]; · iexact H7
      isplitl [H18]; · iexact H18
      isplitl [H22]; · iexact H22
      iexact H23
    isplitl [HA]; · iexact HA
    isplitl [HP] <;> iassumption
  unfold RO
  iintro %a ⟨⟨H2, H6, H7, H18, H22, H23⟩, HA, HP, HX⟩
  simp only [wp_pure]
  imodintro
  isplitl [HT]; · iexact HT
  isplitl [HO]; · iexact HO
  isplitl [HA HB]
  · iapply (slots_next c T fA fB (i 0).val hi)
    isplitl [HB] <;> iassumption
  isplitl [H18]
  · unfold E18
    iexists f18
    isplitr [H18]
    · ipureintro; exact fun _ => h18
    · iexact H18
  isplitl [H2 H3 H4 H5 H6 H7 H8]
  · isplitl [H2]; · iexact H2
    isplitl [H3]; · iexact H3
    isplitl [H4]; · iexact H4
    isplitl [H5]; · iexact H5
    isplitl [H6]; · iexact H6
    isplitl [H7]; · iexact H7
    iexact H8
  isplitl [HP]; · iexact HP
  isplitl [HX]; · iexact HX
  isplitl [H22]
  · iexists (dtOf c arg3 arg4 arg22 f3 f4 f22); iexact H22
  iexists (decayOf c arg3 arg4 arg5 arg23 f3 f4 f5 f23); iexact H23

end Cert.KernelIdeal.Hand

end
-- ==== Proof.StateI.Core.lean ====
/-
  One run of the kernel's body between the pipeline's blocks.
-/
module

public import proofs.«01_k».proof.Proof.StateI.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Memref (isWhole_whole)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (c : Dev nD) (T : S640.Idx → BitVec 32) (fA : Buf (Elt F) (mA.view.loc (c : Thread nD τ))) (fB : Buf (Elt F) (mB.view.loc (c : Thread nD τ)))
variable {defs : Defs nD τ sig (Elt F) Λ₀}
variable (i : grid0.Coords)
  (arg2 : Memref sig .tc .vmem S16x24x64 .bf16) (harg2 : arg2.IsWhole) (arg3 : Memref sig .tc .vmem S16x24 .bf16) (harg3 : arg3.IsWhole)
  (arg4 : Memref sig .tc .vmem S1x24 .f32) (harg4 : arg4.IsWhole) (arg5 : Memref sig .tc .vmem S1x24 .f32) (harg5 : arg5.IsWhole)
  (arg6 : Memref sig .tc .vmem S16x1x128 .bf16) (harg6 : arg6.IsWhole) (arg7 : Memref sig .tc .vmem S16x1x128 .bf16) (harg7 : arg7.IsWhole)
  (arg8 : Memref sig .tc .vmem S1x24 .f32) (harg8 : arg8.IsWhole)
  (arg11 : Memref sig .tc .vmem S16x24x64 .bf16) (harg11 : arg11.IsWhole) (arg12 : Memref sig .tc .vmem S16x24x64x128 .fp8e4m3) (harg12 : arg12.IsWhole)
  (arg13 : Memref sig .tc .vmem S16x24x64 .f32) (harg13 : arg13.IsWhole)
  (arg18 : Memref sig .tc .vmem S512x128 .bf16) (harg18 : arg18.IsWhole) (arg19 : Memref sig .tc .vmem S512x128 .f32) (harg19 : arg19.IsWhole)
  (arg20 : Memref sig .tc .vmem S3x512x128 .fp8e4m3) (harg20 : arg20.IsWhole) (arg21 : Memref sig .tc .vmem S3x512x128 .f32) (harg21 : arg21.IsWhole)
  (arg22 : Memref sig .tc .vmem S16x24 .f32) (harg22 : arg22.IsWhole) (arg23 : Memref sig .tc .vmem S16x24 .f32) (harg23 : arg23.IsWhole)

/-- A whole buffer at a reading. -/
theorem owns_pt {S : Shape} {sp : CoreSpace} {e : EltTy} (M : Memref sig .tc sp S e) (h : M.IsWhole) (X : S.Idx → Elt F e) :
    (owns (c : Thread nD τ) M fullShare X : sProp 𝕄) = iprop(∃ f, ⌜M.view.read (Elt F) f = X⌝ ∗ pt (F := F) c M f) := by
  unfold owns
  rw [h.set_eq_univ]

variable (P : ℕ → Bf (F := F) c arg12 → Bf (F := F) c arg13 → Prop) (X2 : S16x24x64.Idx → Elt F .bf16) (X3 : S16x24.Idx → Elt F .bf16) (X4 : S1x24.Idx → Elt F .f32) (X5 : S1x24.Idx → Elt F .f32) (X6 : S16x1x128.Idx → Elt F .bf16) (X7 : S16x1x128.Idx → Elt F .bf16) (X8 : S1x24.Idx → Elt F .f32)

/-- What a run leaves in the two state results' blocks. -/
def Left : sProp 𝕄 := iprop(∃ f12 f13, ⌜P 16 f12 f13⌝ ∗ pt (F := F) c arg12 f12 ∗ pt (F := F) c arg13 f13)
/-- One run of the body, its blocks at their readings. -/
theorem core (hP0 : ∀ f12 f13, P 0 f12 f13)
    (hstep : ∀ f2 f3 f4 f5 f6 f7 f8, arg2.view.read (Elt F) f2 = X2 → arg3.view.read (Elt F) f3 = X3 → arg4.view.read (Elt F) f4 = X4 → arg5.view.read (Elt F) f5 = X5 → arg6.view.read (Elt F) f6 = X6 → arg7.view.read (Elt F) f7 = X7 → arg8.view.read (Elt F) f8 = X8 → StepOK c T fA fB i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 P f2 f3 f4 f5 f6 f7 f8) (q : PosShare TreeShare) :
    iprop(Tab (F := F) c T q ∗ (∃ W, owes (c : Thread nD τ) 0 W) ∗ Slots c T fA fB (i 0).val ∗ E18 (F := F) c arg18 (i 0).val ∗ Scr5 (F := F) c arg19 arg20 arg21 arg22 arg23
        ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ (∃ X, owns (c : Thread nD τ) arg11 fullShare X) ∗ (∃ X, owns (c : Thread nD τ) arg12 fullShare X) ∗ (∃ X, owns (c : Thread nD τ) arg13 fullShare X))
      ⊢ wp frame (wpE defs Variants.none (c : Thread nD τ) none) Set.univ (cc0_state_update i mT (isWhole_whole _) arg2 harg2 arg3 harg3 arg4 harg4 arg5 harg5 arg6 harg6 arg7 harg7 arg8 harg8 mA (isWhole_whole _) mB (isWhole_whole _) arg11 harg11 arg12 harg12 arg13 harg13 mC (isWhole_whole _) mS (isWhole_whole _) cc0_scratch2 cc0_scratch3 arg18 harg18 arg19 harg19 arg20 harg20 arg21 harg21 arg22 harg22 arg23 harg23)
          (fun _ => iprop(Tab (F := F) c T q ∗ (∃ W, owes (c : Thread nD τ) 0 W) ∗ Slots c T fA fB ((i 0).val + 1) ∗ E18 (F := F) c arg18 ((i 0).val + 1) ∗ Scr5 (F := F) c arg19 arg20 arg21 arg22 arg23
        ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ (∃ X, owns (c : Thread nD τ) arg11 fullShare X) ∗ Left c arg12 arg13 P)) := by
  rw [owns_pt c arg2 harg2, owns_pt c arg3 harg3, owns_pt c arg4 harg4, owns_pt c arg5 harg5, owns_pt c arg6 harg6, owns_pt c arg7 harg7, owns_pt c arg8 harg8]
  simp only [owns_pt c arg11 harg11, owns_pt c arg12 harg12, owns_pt c arg13 harg13]
  iintro ⟨HT, HO, HS, H18, HX, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%X11, %f11, -, H11⟩, ⟨%X12, %f12, -, H12⟩, ⟨%X13, %f13, -, H13⟩⟩
  iapply (run_of c (body_run c T fA fB i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 P f2 f3 f4 f5 f6 f7 f8 (hstep f2 f3 f4 f5 f6 f7 f8 h2 h3 h4 h5 h6 h7 h8) q)) $$ [HT HO HS H18 HX H2 H3 H4 H5 H6 H7 H8 H11 H12 H13]
  · isplitl [HT]; · iexact HT
    isplitl [HO]; · iexact HO
    isplitl [HS]; · iexact HS
    isplitl [H18]; · iexact H18
    isplitl [H2 H3 H4 H5 H6 H7 H8]
    · unfold Ins
      isplitl [H2]; · iexact H2
      isplitl [H3]; · iexact H3
      isplitl [H4]; · iexact H4
      isplitl [H5]; · iexact H5
      isplitl [H6]; · iexact H6
      isplitl [H7]; · iexact H7
      iexact H8
    isplitl [H11 H12 H13]
    · unfold Outs
      iexists f12, f13
      isplitr; · ipureintro; exact hP0 _ _
      isplitl [H11]; · iexists f11; iexact H11
      isplitl [H12] <;> iassumption
    iexact HX
  unfold Ins Outs Left
  iintro %_ ⟨HT, HO, HS, H18, ⟨H2, H3, H4, H5, H6, H7, H8⟩, ⟨%g12, %g13, %hP, ⟨%g11, H11⟩, H12, H13⟩, HX⟩
  isplitl [HT]; · iexact HT
  isplitl [HO]; · iexact HO
  isplitl [HS]; · iexact HS
  isplitl [H18]; · iexact H18
  isplitl [HX]; · iexact HX
  isplitl [H2]
  · iexists f2
    isplitr; · ipureintro; exact h2
    iexact H2
  isplitl [H3]
  · iexists f3
    isplitr; · ipureintro; exact h3
    iexact H3
  isplitl [H4]
  · iexists f4
    isplitr; · ipureintro; exact h4
    iexact H4
  isplitl [H5]
  · iexists f5
    isplitr; · ipureintro; exact h5
    iexact H5
  isplitl [H6]
  · iexists f6
    isplitr; · ipureintro; exact h6
    iexact H6
  isplitl [H7]
  · iexists f7
    isplitr; · ipureintro; exact h7
    iexact H7
  isplitl [H8]
  · iexists f8
    isplitr; · ipureintro; exact h8
    iexact H8
  isplitl [H11]
  · iexists _, g11
    isplitr; · ipureintro; exact rfl
    iexact H11
  iexists g12, g13
  isplitr; · ipureintro; exact hP
  isplitl [H12] <;> iassumption

end Cert.KernelIdeal.Hand

end
-- ==== Proof.StateI.Pool.lean ====
/-
  The kernel's own buffers and semaphores, and the two pools, taken apart into the resources of the two slots and put
  together again.
-/
module

public import proofs.«01_k».proof.Proof.StateI.Body
public import Idealize.ShloMosaic.Lib.Ring

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (c : Dev nD) (T : S640.Idx → BitVec 32) (fA : Buf (Elt F) (mA.view.loc (c : Thread nD τ))) (fB : Buf (Elt F) (mB.view.loc (c : Thread nD τ)))

/-- A family over thirty-two numbers, as two families over sixteen. -/
theorem range32 (Φ : ℕ → sProp 𝕄) : bigSep (Finset.range 32) Φ = iprop(bigSep (Finset.range 16) Φ ∗ bigSep (Finset.range 16) (fun b => Φ (16 + b))) := by
  have h : ∀ k : ℕ, bigSep (Finset.range (16 + k)) Φ ⊣⊢ iprop(bigSep (Finset.range 16) Φ ∗ bigSep (Finset.range k) (fun b => Φ (16 + b))) := by
    intro k
    induction k with
    | zero => rw [Finset.range_zero, BI.bigSep_empty]; exact ⟨BI.sep_emp.2, BI.sep_emp.1⟩
    | succ k ih =>
      rw [show Finset.range (16 + (k + 1)) = insert (16 + k) (Finset.range (16 + k)) from Finset.range_add_one, BI.bigSep_insert Finset.notMem_range_self,
        Finset.range_add_one (n := k), BI.bigSep_insert Finset.notMem_range_self]
      constructor
      · refine (Idealize.SL.BI.sep_mono_r ih.1).trans ?_
        show iprop(Φ (16 + k) ∗ bigSep (Finset.range 16) Φ ∗ bigSep (Finset.range k) (fun b => Φ (16 + b))) ⊢ iprop(bigSep (Finset.range 16) Φ ∗ Φ (16 + k) ∗ bigSep (Finset.range k) (fun b => Φ (16 + b)))
        iintro ⟨H, H1, H2⟩
        isplitl [H1]; · iexact H1
        isplitl [H] <;> iassumption
      · refine BIBase.Entails.trans ?_ (Idealize.SL.BI.sep_mono_r ih.2)
        show iprop(bigSep (Finset.range 16) Φ ∗ Φ (16 + k) ∗ bigSep (Finset.range k) (fun b => Φ (16 + b))) ⊢ iprop(Φ (16 + k) ∗ bigSep (Finset.range 16) Φ ∗ bigSep (Finset.range k) (fun b => Φ (16 + b)))
        iintro ⟨H1, H, H2⟩
        isplitl [H]; · iexact H
        isplitl [H1] <;> iassumption
  exact BI.Entails.antisymm (h 16).1 (h 16).2

/-- Number `k` of the thirty-two windows of codes, and of scales. -/
def piecC (k : Fin 32) : Finset (Idx (mC.view.loc (c : Thread nD τ))) := setC c (k.val / 16) (k.val % 16)
def piecS (k : Fin 32) : Finset (Idx (mS.view.loc (c : Thread nD τ))) := setS c (k.val / 16) (k.val % 16)
theorem mem_setC (s b : ℕ) (j : S2x16x24x64x128.Idx) : (j : Idx (mC.view.loc (c : Thread nD τ))) ∈ setC c s b ↔ (j 0).val = s ∧ (j 1).val = b :=
  ⟨fun h => (Finset.mem_filter.mp h).2, fun h => Finset.mem_filter.mpr ⟨Finset.mem_univ _, h⟩⟩
theorem mem_setS (s b : ℕ) (j : S2x16x24x64.Idx) : (j : Idx (mS.view.loc (c : Thread nD τ))) ∈ setS c s b ↔ (j 0).val = s ∧ (j 1).val = b :=
  ⟨fun h => (Finset.mem_filter.mp h).2, fun h => Finset.mem_filter.mpr ⟨Finset.mem_univ _, h⟩⟩
/-- They are disjoint and cover the buffer. -/
theorem piecC_disj (b b' : Fin 32) (h : b ≠ b') : Disjoint (piecC c b) (piecC c b') := by
  rw [Finset.disjoint_left]
  intro j hj hj'
  have h1 := (mem_setC c _ _ j).mp hj
  have h2 := (mem_setC c _ _ j).mp hj'
  exact h (Fin.ext (by omega))
theorem piecS_disj (b b' : Fin 32) (h : b ≠ b') : Disjoint (piecS c b) (piecS c b') := by
  rw [Finset.disjoint_left]
  intro j hj hj'
  have h1 := (mem_setS c _ _ j).mp hj
  have h2 := (mem_setS c _ _ j).mp hj'
  exact h (Fin.ext (by omega))
theorem piecC_cover : Finset.univ.biUnion (piecC c) = Finset.univ := by
  refine Finset.eq_univ_iff_forall.mpr fun j => ?_
  have h0 : ((j : S2x16x24x64x128.Idx) 0).val < 2 := ((j : S2x16x24x64x128.Idx) 0).isLt
  have h1 : ((j : S2x16x24x64x128.Idx) 1).val < 16 := ((j : S2x16x24x64x128.Idx) 1).isLt
  refine Finset.mem_biUnion.mpr ⟨⟨16 * ((j : S2x16x24x64x128.Idx) 0).val + ((j : S2x16x24x64x128.Idx) 1).val, by omega⟩, Finset.mem_univ _, (mem_setC c _ _ j).mpr ⟨?_, ?_⟩⟩
  · show _ = (16 * _ + _) / 16; omega
  · show _ = (16 * _ + _) % 16; omega
theorem piecS_cover : Finset.univ.biUnion (piecS c) = Finset.univ := by
  refine Finset.eq_univ_iff_forall.mpr fun j => ?_
  have h0 : ((j : S2x16x24x64.Idx) 0).val < 2 := ((j : S2x16x24x64.Idx) 0).isLt
  have h1 : ((j : S2x16x24x64.Idx) 1).val < 16 := ((j : S2x16x24x64.Idx) 1).isLt
  refine Finset.mem_biUnion.mpr ⟨⟨16 * ((j : S2x16x24x64.Idx) 0).val + ((j : S2x16x24x64.Idx) 1).val, by omega⟩, Finset.mem_univ _, (mem_setS c _ _ j).mpr ⟨?_, ?_⟩⟩
  · show _ = (16 * _ + _) / 16; omega
  · show _ = (16 * _ + _) % 16; omega

/-- The thirty-two windows of codes, and of scales, by slot. -/
theorem winsC_eq : bigSep Finset.univ (fun k : Fin 32 => (iprop(∃ f, (mC.view.loc (c : Thread nD τ) ↦[piecC c k]{fullShare} f)) : sProp 𝕄))
    = iprop(bigSep (Finset.range 16) (WC' (F := F) c 0) ∗ bigSep (Finset.range 16) (WC' (F := F) c 1)) := by
  rw [Ring.bigSep_fin_eq_range 32 _ (fun k => WC' (F := F) c (k / 16) (k % 16)) (fun t h => rfl), range32]
  have e0 : bigSep (Finset.range 16) (fun k => WC' (F := F) c (k / 16) (k % 16)) = bigSep (Finset.range 16) (WC' (F := F) c 0) :=
    BI.bigSep_congr fun b hb => by have := Finset.mem_range.mp hb; rw [show b / 16 = 0 by omega, show b % 16 = b by omega]
  have e1 : bigSep (Finset.range 16) (fun b => WC' (F := F) c ((16 + b) / 16) ((16 + b) % 16)) = bigSep (Finset.range 16) (WC' (F := F) c 1) :=
    BI.bigSep_congr fun b hb => by have := Finset.mem_range.mp hb; rw [show (16 + b) / 16 = 1 by omega, show (16 + b) % 16 = b by omega]
  rw [e0, e1]
theorem winsS_eq : bigSep Finset.univ (fun k : Fin 32 => (iprop(∃ f, (mS.view.loc (c : Thread nD τ) ↦[piecS c k]{fullShare} f)) : sProp 𝕄))
    = iprop(bigSep (Finset.range 16) (WS' (F := F) c 0) ∗ bigSep (Finset.range 16) (WS' (F := F) c 1)) := by
  rw [Ring.bigSep_fin_eq_range 32 _ (fun k => WS' (F := F) c (k / 16) (k % 16)) (fun t h => rfl), range32]
  have e0 : bigSep (Finset.range 16) (fun k => WS' (F := F) c (k / 16) (k % 16)) = bigSep (Finset.range 16) (WS' (F := F) c 0) :=
    BI.bigSep_congr fun b hb => by have := Finset.mem_range.mp hb; rw [show b / 16 = 0 by omega, show b % 16 = b by omega]
  have e1 : bigSep (Finset.range 16) (fun b => WS' (F := F) c ((16 + b) / 16) ((16 + b) % 16)) = bigSep (Finset.range 16) (WS' (F := F) c 1) :=
    BI.bigSep_congr fun b hb => by have := Finset.mem_range.mp hb; rw [show (16 + b) / 16 = 1 by omega, show (16 + b) % 16 = b by omega]
  rw [e0, e1]

/-- The two slot buffers taken apart and put together again. -/
theorem splitC : (iprop(∃ f, pt (F := F) c mC f) : sProp 𝕄) ⊢ iprop(bigSep (Finset.range 16) (WC' (F := F) c 0) ∗ bigSep (Finset.range 16) (WC' (F := F) c 1)) := by
  rw [← winsC_eq]
  iintro ⟨%f, H⟩
  have h : (pt (F := F) c mC f : sProp 𝕄) ⊢ bigSep Finset.univ (fun k : Fin 32 => (iprop(∃ f, (mC.view.loc (c : Thread nD τ) ↦[piecC c k]{fullShare} f)) : sProp 𝕄)) := by
    refine (BIBase.Entails.of_eq (Ring.pointsTo_blocks (piecC c) (piecC_disj c) (piecC_cover c) f)).trans ?_
    refine BI.bigSep_mono fun b _ => ?_
    show (mC.view.loc (c : Thread nD τ) ↦[piecC c b]{fullShare} f : sProp 𝕄) ⊢ iprop(∃ f, (mC.view.loc (c : Thread nD τ) ↦[piecC c b]{fullShare} f))
    iintro H
    iexists f
    iexact H
  iapply h
  iexact H
theorem splitS : (iprop(∃ f, pt (F := F) c mS f) : sProp 𝕄) ⊢ iprop(bigSep (Finset.range 16) (WS' (F := F) c 0) ∗ bigSep (Finset.range 16) (WS' (F := F) c 1)) := by
  rw [← winsS_eq]
  iintro ⟨%f, H⟩
  have h : (pt (F := F) c mS f : sProp 𝕄) ⊢ bigSep Finset.univ (fun k : Fin 32 => (iprop(∃ f, (mS.view.loc (c : Thread nD τ) ↦[piecS c k]{fullShare} f)) : sProp 𝕄)) := by
    refine (BIBase.Entails.of_eq (Ring.pointsTo_blocks (piecS c) (piecS_disj c) (piecS_cover c) f)).trans ?_
    refine BI.bigSep_mono fun b _ => ?_
    show (mS.view.loc (c : Thread nD τ) ↦[piecS c b]{fullShare} f : sProp 𝕄) ⊢ iprop(∃ f, (mS.view.loc (c : Thread nD τ) ↦[piecS c b]{fullShare} f))
    iintro H
    iexists f
    iexact H
  iapply h
  iexact H
theorem joinC : iprop(bigSep (Finset.range 16) (WC' (F := F) c 0) ∗ bigSep (Finset.range 16) (WC' (F := F) c 1)) ⊢ (iprop(∃ f, pt (F := F) c mC f) : sProp 𝕄) := by
  rw [← winsC_eq]
  exact Ring.pointsTo_blocks_join_exists (piecC c) (piecC_disj c) (piecC_cover c) (fun _ => zeroC (F := F) (ix3 0 0 0))
theorem joinS : iprop(bigSep (Finset.range 16) (WS' (F := F) c 0) ∗ bigSep (Finset.range 16) (WS' (F := F) c 1)) ⊢ (iprop(∃ f, pt (F := F) c mS f) : sProp 𝕄) := by
  rw [← winsS_eq]
  exact Ring.pointsTo_blocks_join_exists (piecS c) (piecS_disj c) (piecS_cover c) (fun _ => zeroS (F := F) (ix2 0 0))

/-- What remains of the two pools beside the slots' read shares. -/
def RestA : sProp 𝕄 := (mA.view.loc (c : Thread nD τ) ↦{Transfers.shareDrop fullShare 32} fA)
def RestB : sProp 𝕄 := (mB.view.loc (c : Thread nD τ) ↦{Transfers.shareDrop fullShare 32} fB)
/-- A pool is its read shares, by slot, and what remains. -/
theorem toksA : (pt (F := F) c mA fA : sProp 𝕄) ⊣⊢ iprop(RestA c fA ∗ bigSep (Finset.range 16) (TokA c fA 0) ∗ bigSep (Finset.range 16) (TokA c fA 1)) := by
  have e := Transfers.pointsTo_toks_range (nD := nD) (τ := τ) (sig := sig) (Ix := Unit) (Val := Elt F) (Name := ℕ) (U := Pipeline.UD sig nD τ) (Lvl := ℕ) (ℓ := mA.view.loc (c : Thread nD τ)) (S := Finset.univ) (f := fA) fullShare 32
  rw [range32] at e
  have e0 : bigSep (Finset.range 16) (TokA c fA 0) = bigSep (Finset.range 16) (fun i => (mA.view.loc (c : Thread nD τ) ↦[Finset.univ]{Transfers.shareTokN fullShare i} fA : sProp 𝕄)) :=
    BI.bigSep_congr fun b _ => by unfold TokA qT; rw [show 16 * 0 + b = b by omega]
  rw [e0]
  exact e
theorem toksB : (pt (F := F) c mB fB : sProp 𝕄) ⊣⊢ iprop(RestB c fB ∗ bigSep (Finset.range 16) (TokB c fB 0) ∗ bigSep (Finset.range 16) (TokB c fB 1)) := by
  have e := Transfers.pointsTo_toks_range (nD := nD) (τ := τ) (sig := sig) (Ix := Unit) (Val := Elt F) (Name := ℕ) (U := Pipeline.UD sig nD τ) (Lvl := ℕ) (ℓ := mB.view.loc (c : Thread nD τ)) (S := Finset.univ) (f := fB) fullShare 32
  rw [range32] at e
  have e0 : bigSep (Finset.range 16) (TokB c fB 0) = bigSep (Finset.range 16) (fun i => (mB.view.loc (c : Thread nD τ) ↦[Finset.univ]{Transfers.shareTokN fullShare i} fB : sProp 𝕄)) :=
    BI.bigSep_congr fun b _ => by unfold TokB qT; rw [show 16 * 0 + b = b by omega]
  rw [e0]
  exact e

/-- The sequences of a slot are all free. -/
theorem free_eq (s : ℕ) : bigSep (Finset.range 16) (FreeAt c fA fB s)
    = iprop(bigSep (Finset.range 16) (WC' (F := F) c s) ∗ bigSep (Finset.range 16) (WS' (F := F) c s) ∗ bigSep (Finset.range 16) (TokA c fA s) ∗ bigSep (Finset.range 16) (TokB c fB s)) := by
  have e3 := BI.bigSep_sep (Finset.range 16) (TokA c fA s) (TokB c fB s)
  have e2 := (BI.bigSep_sep (Finset.range 16) (WS' (F := F) c s) (fun b => iprop(TokA c fA s b ∗ TokB c fB s b))).trans (congrArg (BI.sep _) e3)
  exact (BI.bigSep_sep (Finset.range 16) (WC' (F := F) c s) (fun b => iprop(WS' (F := F) c s b ∗ TokA c fA s b ∗ TokB c fB s b))).trans (congrArg (BI.sep _) e2)

/-- What the kernel's own buffers and semaphores are before and after the run. -/
def Own : sProp 𝕄 :=
  iprop((∃ f, pt (F := F) c mC f) ∗ (∃ f, pt (F := F) c mS f)
    ∗ (semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0)
    ∗ pt (F := F) c mA fA ∗ pt (F := F) c mB fB)
/-- Both slots idle, and what remains of the pools. -/
def Both : sProp 𝕄 := iprop(Idle c fA fB 0 ∗ Idle c fA fB 1 ∗ RestA c fA ∗ RestB c fB)
theorem own_both : Own c fA fB ⊢ Both c fA fB := by
  unfold Both Idle Own
  rw [free_eq, free_eq]
  iintro ⟨HC, HS, ⟨S17, S18, S19, S20⟩, HA, HB⟩
  ihave HC := (splitC (F := F) c) $$ HC
  ihave HS := (splitS (F := F) c) $$ HS
  ihave HA := (toksA c fA).1 $$ HA
  ihave HB := (toksB c fB).1 $$ HB
  icases HC with ⟨C0, C1⟩
  icases HS with ⟨S0, S1⟩
  icases HA with ⟨RA, A0, A1⟩
  icases HB with ⟨RB, B0, B1⟩
  isplitl [S17 S19 C0 S0 A0 B0]
  · isplitl [S17]; · iexact S17
    isplitl [S19]; · iexact S19
    isplitl [C0]; · iexact C0
    isplitl [S0]; · iexact S0
    isplitl [A0] <;> iassumption
  isplitl [S18 S20 C1 S1 A1 B1]
  · isplitl [S18]; · iexact S18
    isplitl [S20]; · iexact S20
    isplitl [C1]; · iexact C1
    isplitl [S1]; · iexact S1
    isplitl [A1] <;> iassumption
  isplitl [RA] <;> iassumption
theorem both_own : Both c fA fB ⊢ Own c fA fB := by
  unfold Both Idle Own
  rw [free_eq, free_eq]
  iintro ⟨⟨S17, S19, C0, S0, A0, B0⟩, ⟨S18, S20, C1, S1, A1, B1⟩, RA, RB⟩
  isplitl [C0 C1]
  · iapply (joinC (F := F) c)
    isplitl [C0] <;> iassumption
  isplitl [S0 S1]
  · iapply (joinS (F := F) c)
    isplitl [S0] <;> iassumption
  isplitl [S17 S18 S19 S20]
  · isplitl [S17]; · iexact S17
    isplitl [S18]; · iexact S18
    isplitl [S19]; · iexact S19
    iexact S20
  isplitl [RA A0 A1]
  · iapply (toksA c fA).2
    isplitl [RA]; · iexact RA
    isplitl [A0] <;> iassumption
  iapply (toksB c fB).2
  isplitl [RB]; · iexact RB
  isplitl [B0] <;> iassumption

end Cert.KernelIdeal.Hand

end
-- ==== Proof.StateI.Launch.lean ====
/-
  The kernel's pipeline: its proof data and one point of it.
-/
module

public import proofs.«01_k».proof.Proof.StateI.Core
public import proofs.«01_k».proof.Proof.StateI.Pool
public import proofs.«01_k».proof.Proof.Gen.KernelIdeal.Launch
public import Idealize.ShloMosaic.Lib.Pipeline.FrameBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Memref (isWhole_whole)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- The kernel's own semaphores. -/
abbrev osem0 : Fin 4 → SemLoc sig := ![SemLoc.dma 17, SemLoc.dma 18, SemLoc.dma 19, SemLoc.dma 20]
theorem ownSemFacts0 : Pipeline.OwnSemFacts spec0 osem0 := by decide
/-- The pools, which the kernel reads by its own transfers. -/
def H0 : Finset (Ref sig .tc) := {main_arg7, main_arg8}
theorem H0_sub : H0 ⊆ Pipeline.restRefsP sig pre0 spec0 := by decide

/-- The buffers as the kernel finds them. -/
def V (c : Dev nD) (b : Ref sig .tc) : Buf (Elt F) ((c : Thread nD τ).loc b) := StableHlo.after (hostOps0 (F := F)) (fun b => m (c, b)) b
theorem hostOps0_fresh : (hostOps0 : List (HloOp τ sig (Elt F))).Forall fun op => op.fresh = ∅ := ⟨rfl, rfl, rfl⟩
set_option backward.isDefEq.respectTransparency.types false in
theorem hmain (𝒱₀ : Variants) : Pipeline.HMainP (Ix := Unit) (Name := ℕ) (U := Pipeline.UD sig nD τ) (Lvl := ℕ) (pcfgs (F := F)) 0 defs₀ 𝒱₀ m (main (F := F)) (V m) :=
  Pipeline.hmainP_prefix pcfgs 0 defs₀ 𝒱₀ m main hostOps0 hostOps0_sub hostOps0_fresh main_chain

/-- The table of slots, as the kernel finds it. -/
def tbl : pre0.Contents (Elt F) := fun j => V m (0 : Dev nD) (pre0.ref j)
theorem V_pre (c : Dev nD) (j : Fin 1) : V m c (pre0.ref j) = tbl m j := by
  obtain rfl : c = 0 := Subsingleton.elim _ _
  rfl
theorem ok_tbl : ok0 (F := F) (tbl m) := by unfold ok0; trivial
abbrev adm : (pcfg0 (F := F)).Adm := ⟨tbl m, ok_tbl m⟩
abbrev cfgM : Pipeline.Cfg sig Λ₀ := cfg0 (adm m)

/-- A window's block at a point. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

abbrev ms0 (t : Fin (cfgM m).N) : Memref sig .tc .vmem S16x24x64 .bf16 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S16x24 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x24 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x24 .f32 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S16x1x128 .bf16 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S16x1x128 .bf16 := spec0_5.stage ((cfgM m).slots t 5)
abbrev hs5 (t : Fin (cfgM m).N) : (ms5 m t).IsWhole := hstage0_5 (((cfgM m).slots t 5).cast nbuf0_5)
abbrev ms6 (t : Fin (cfgM m).N) : Memref sig .tc .vmem S1x24 .f32 := spec0_6.stage ((cfgM m).slots t 6)
abbrev hs6 (t : Fin (cfgM m).N) : (ms6 m t).IsWhole := hstage0_6 (((cfgM m).slots t 6).cast nbuf0_6)
abbrev ms7 (t : Fin (cfgM m).N) : Memref sig .tc .vmem S16x24x64 .bf16 := spec0_7.stage ((cfgM m).slots t 7)
abbrev hs7 (t : Fin (cfgM m).N) : (ms7 m t).IsWhole := hstage0_7 (((cfgM m).slots t 7).cast nbuf0_7)
abbrev ms8 (t : Fin (cfgM m).N) : Memref sig .tc .vmem S16x24x64x128 .fp8e4m3 := spec0_8.stage ((cfgM m).slots t 8)
abbrev hs8 (t : Fin (cfgM m).N) : (ms8 m t).IsWhole := hstage0_8 (((cfgM m).slots t 8).cast nbuf0_8)
abbrev ms9 (t : Fin (cfgM m).N) : Memref sig .tc .vmem S16x24x64 .f32 := spec0_9.stage ((cfgM m).slots t 9)
abbrev hs9 (t : Fin (cfgM m).N) : (ms9 m t).IsWhole := hstage0_9 (((cfgM m).slots t 9).cast nbuf0_9)

/-- The state between the points. -/
def Φs (c : Dev nD) (t : ℕ) : sProp 𝕄 :=
  iprop(Tab (F := F) c (V m c main_arg9) fullShare.right ∗ Slots c (V m c main_arg9) (V m c main_arg7) (V m c main_arg8) t ∗ E18 (F := F) c (Memref.whole cc0_scratch4) t ∗ Scr5 (F := F) c (Memref.whole cc0_scratch5) (Memref.whole cc0_scratch6) (Memref.whole cc0_scratch7) (Memref.whole cc0_scratch8) (Memref.whole cc0_scratch9)
    ∗ RestA c (V m c main_arg7) ∗ RestB c (V m c main_arg8) ∗ (∃ r, prngReg (Ix := Unit) (Val := Elt F) (Name := ℕ) (U := Pipeline.UD sig nD τ) (Lvl := ℕ) c r))

variable (o8 : (c : Dev nD) → (t : Fin (cfgM m).N) → S16x24x64x128.Idx → Elt F .fp8e4m3) (o9 : (c : Dev nD) → (t : Fin (cfgM m).N) → S16x24x64.Idx → Elt F .f32)

/-- The proof data of the pipeline: each input block unchanged, the two state results' blocks as given, nothing said of the first
    result's. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfgM m) ⟨7, h⟩ t
    | ⟨8, _⟩ => o8 c t
    | ⟨9, _⟩ => o9 c t
    | ⟨_ + 10, h⟩ => absurd h (Nat.not_lt.2 (Nat.le_add_left _ _))
  Φ t := Φs m c t.val
  q _ := fullShare
  owed _ := 0
theorem A_eq (c : Dev nD) (w : Fin (cfgM m).W) : (dats m o8 o9 0 c).A w = V m c (Pipeline.arrRef spec0 w) := by
  dsimp only [dats]
theorem before0 (c : Dev nD) (t : Fin (cfgM m).N) (d) : (dats m o8 o9 0 c).before 0 t d = iblk m c 0 t :=
  ((dats m o8 o9 0 c).before_in_eq_fetched 0 rfl (fun _ => rfl) (fun _ _ _ => rfl) (fun t => rfl) t d).trans rfl
theorem before1 (c : Dev nD) (t : Fin (cfgM m).N) (d) : (dats m o8 o9 0 c).before 1 t d = iblk m c 1 t :=
  ((dats m o8 o9 0 c).before_in_eq_fetched 1 rfl (fun _ => rfl) (fun _ _ _ => rfl) (fun t => rfl) t d).trans rfl
theorem before2 (c : Dev nD) (t : Fin (cfgM m).N) (d) : (dats m o8 o9 0 c).before 2 t d = iblk m c 2 t :=
  ((dats m o8 o9 0 c).before_in_eq_fetched 2 rfl (fun _ => rfl) (fun _ _ _ => rfl) (fun t => rfl) t d).trans rfl
theorem before3 (c : Dev nD) (t : Fin (cfgM m).N) (d) : (dats m o8 o9 0 c).before 3 t d = iblk m c 3 t :=
  ((dats m o8 o9 0 c).before_in_eq_fetched 3 rfl (fun _ => rfl) (fun _ _ _ => rfl) (fun t => rfl) t d).trans rfl
theorem before4 (c : Dev nD) (t : Fin (cfgM m).N) (d) : (dats m o8 o9 0 c).before 4 t d = iblk m c 4 t :=
  ((dats m o8 o9 0 c).before_in_eq_fetched 4 rfl (fun _ => rfl) (fun _ _ _ => rfl) (fun t => rfl) t d).trans rfl
theorem before5 (c : Dev nD) (t : Fin (cfgM m).N) (d) : (dats m o8 o9 0 c).before 5 t d = iblk m c 5 t :=
  ((dats m o8 o9 0 c).before_in_eq_fetched 5 rfl (fun _ => rfl) (fun _ _ _ => rfl) (fun t => rfl) t d).trans rfl
theorem before6 (c : Dev nD) (t : Fin (cfgM m).N) (d) : (dats m o8 o9 0 c).before 6 t d = iblk m c 6 t :=
  ((dats m o8 o9 0 c).before_in_eq_fetched 6 rfl (fun _ => rfl) (fun _ _ _ => rfl) (fun t => rfl) t d).trans rfl

/-- The body as the pipeline calls it. -/
abbrev bodyAt (t : Fin (cfgM m).N) : Prog (TpuEff nD τ sig (Elt F) Λ₀ .tc) PUnit := cc0_state_update (F := F) (grid0.coords t) mT (isWhole_whole _) (ms0 m t) (hs0 m t) (ms1 m t) (hs1 m t) (ms2 m t) (hs2 m t) (ms3 m t) (hs3 m t) (ms4 m t) (hs4 m t) (ms5 m t) (hs5 m t) (ms6 m t) (hs6 m t) mA (isWhole_whole _) mB (isWhole_whole _) (ms7 m t) (hs7 m t) (ms8 m t) (hs8 m t) (ms9 m t) (hs9 m t) mC (isWhole_whole _) mS (isWhole_whole _) cc0_scratch2 cc0_scratch3 (Memref.whole cc0_scratch4) (isWhole_whole _) (Memref.whole cc0_scratch5) (isWhole_whole _) (Memref.whole cc0_scratch6) (isWhole_whole _) (Memref.whole cc0_scratch7) (isWhole_whole _) (Memref.whole cc0_scratch8) (isWhole_whole _) (Memref.whole cc0_scratch9) (isWhole_whole _)
theorem defs₀_row (t : Fin (cfgM m).N) : defs₀ (F := F) .tc (cfgM m).body ((cfgM m).bodyArgs t ((cfgM m).slots t)) = bodyAt m t := by
  unfold defs₀
  rw [Defs.onTc_tc]
theorem coords_val : ∀ t : Fin grid0.N, ((grid0.coords t) 0).val = t.val := by decide

/-- What a run of the body at a point leaves, as `StepOK` says it of the point's blocks. -/
def PointOK (c : Dev nD) (t : Fin (cfgM m).N) (P : ℕ → Bf (F := F) c (ms8 m t) → Bf (F := F) c (ms9 m t) → Prop) : Prop :=
  ∀ (f2 : Bf (F := F) c (ms0 m t)) (f3 : Bf (F := F) c (ms1 m t)) (f4 : Bf (F := F) c (ms2 m t)) (f5 : Bf (F := F) c (ms3 m t)) (f6 : Bf (F := F) c (ms4 m t)) (f7 : Bf (F := F) c (ms5 m t)) (f8 : Bf (F := F) c (ms6 m t)),
    (ms0 m t).view.read (Elt F) f2 = iblk m c 0 t → (ms1 m t).view.read (Elt F) f3 = iblk m c 1 t → (ms2 m t).view.read (Elt F) f4 = iblk m c 2 t → (ms3 m t).view.read (Elt F) f5 = iblk m c 3 t → (ms4 m t).view.read (Elt F) f6 = iblk m c 4 t → (ms5 m t).view.read (Elt F) f7 = iblk m c 5 t → (ms6 m t).view.read (Elt F) f8 = iblk m c 6 t →
    StepOK c (V m c main_arg9) (V m c main_arg7) (V m c main_arg8) (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (Memref.whole cc0_scratch4) (isWhole_whole _) (Memref.whole cc0_scratch5) (isWhole_whole _) (Memref.whole cc0_scratch6) (isWhole_whole _) (Memref.whole cc0_scratch7) (isWhole_whole _) (Memref.whole cc0_scratch8) (isWhole_whole _) (Memref.whole cc0_scratch9) (isWhole_whole _) P f2 f3 f4 f5 f6 f7 f8

/-- One point. -/
theorem point (c : Dev nD) (t : Fin (cfgM m).N) (P : ℕ → Bf (F := F) c (ms8 m t) → Bf (F := F) c (ms9 m t) → Prop) (hP0 : ∀ f12 f13, P 0 f12 f13) (hstep : PointOK m c t P) :
    iprop(Φs m c t.val ∗ (∃ W, owes (c : Thread nD τ) 0 W) ∗ owns (c : Thread nD τ) (ms0 m t) fullShare (iblk m c 0 t) ∗ owns (c : Thread nD τ) (ms1 m t) fullShare (iblk m c 1 t) ∗ owns (c : Thread nD τ) (ms2 m t) fullShare (iblk m c 2 t) ∗ owns (c : Thread nD τ) (ms3 m t) fullShare (iblk m c 3 t) ∗ owns (c : Thread nD τ) (ms4 m t) fullShare (iblk m c 4 t) ∗ owns (c : Thread nD τ) (ms5 m t) fullShare (iblk m c 5 t) ∗ owns (c : Thread nD τ) (ms6 m t) fullShare (iblk m c 6 t) ∗ (∃ X, owns (c : Thread nD τ) (ms7 m t) fullShare X) ∗ (∃ X, owns (c : Thread nD τ) (ms8 m t) fullShare X) ∗ (∃ X, owns (c : Thread nD τ) (ms9 m t) fullShare X))
      ⊢ wp frame (wpE defs₀ Variants.none (c : Thread nD τ) none) Set.univ (bodyAt m t)
        (fun _ => iprop(Φs m c (t.val + 1) ∗ (∃ W, owes (c : Thread nD τ) 0 W) ∗ owns (c : Thread nD τ) (ms0 m t) fullShare (iblk m c 0 t) ∗ owns (c : Thread nD τ) (ms1 m t) fullShare (iblk m c 1 t) ∗ owns (c : Thread nD τ) (ms2 m t) fullShare (iblk m c 2 t) ∗ owns (c : Thread nD τ) (ms3 m t) fullShare (iblk m c 3 t) ∗ owns (c : Thread nD τ) (ms4 m t) fullShare (iblk m c 4 t) ∗ owns (c : Thread nD τ) (ms5 m t) fullShare (iblk m c 5 t) ∗ owns (c : Thread nD τ) (ms6 m t) fullShare (iblk m c 6 t) ∗ (∃ X, owns (c : Thread nD τ) (ms7 m t) fullShare X) ∗ Left c (ms8 m t) (ms9 m t) P)) := by
  have h := core (defs := defs₀ (F := F)) c (V m c main_arg9) (V m c main_arg7) (V m c main_arg8) (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (Memref.whole cc0_scratch4) (isWhole_whole _) (Memref.whole cc0_scratch5) (isWhole_whole _) (Memref.whole cc0_scratch6) (isWhole_whole _) (Memref.whole cc0_scratch7) (isWhole_whole _) (Memref.whole cc0_scratch8) (isWhole_whole _) (Memref.whole cc0_scratch9) (isWhole_whole _) P (iblk m c 0 t) (iblk m c 1 t) (iblk m c 2 t) (iblk m c 3 t) (iblk m c 4 t) (iblk m c 5 t) (iblk m c 6 t) hP0 hstep fullShare.right
  rw [coords_val t] at h
  unfold Φs
  iintro ⟨⟨HT, HS, H18, HX, HA, HB, HG⟩, HO, H0, H1, H2, H3, H4, H5, H6, H7, H8, H9⟩
  iapply (run_of c h) $$ [HT HS H18 HX HO H0 H1 H2 H3 H4 H5 H6 H7 H8 H9]
  · isplitl [HT]; · iexact HT
    isplitl [HO]; · iexact HO
    isplitl [HS]; · iexact HS
    isplitl [H18]; · iexact H18
    isplitl [HX]; · iexact HX
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro %_ ⟨HT, HO, HS, H18, HX, H0, H1, H2, H3, H4, H5, H6, H7, HL⟩
  isplitl [HT HS H18 HX HA HB HG]
  · isplitl [HT]; · iexact HT
    isplitl [HS]; · iexact HS
    isplitl [H18]; · iexact H18
    isplitl [HX]; · iexact HX
    isplitl [HA]; · iexact HA
    isplitl [HB]; · iexact HB
    iexact HG
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HL

end Cert.KernelIdeal.Hand

end
-- ==== Proof.StateI.Run.lean ====
/-
  The kernel's pipeline run: with nothing said of the results, and with the two state results' blocks given.
-/
module

public import proofs.«01_k».proof.Proof.StateI.Launch

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)
variable (o8 : (c : Dev nD) → (t : Fin (cfgM m).N) → S16x24x64x128.Idx → Elt F .fp8e4m3) (o9 : (c : Dev nD) → (t : Fin (cfgM m).N) → S16x24x64.Idx → Elt F .f32)

theorem ownSems0_eq4 (c : Dev nD) : (Pipeline.ownSems0 (Ix := Unit) (Name := ℕ) (U := Pipeline.UD sig nD τ) (Lvl := ℕ) (Val := Elt F) (τ := τ) osem0 c : sProp 𝕄)
    = iprop(semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) := by
  rw [Pipeline.ownSems0_eq_of_list c osem0 [0, 1, 2, 3] (by decide) (by decide)]
  rfl
theorem hbmPts0_eq (c : Dev nD) : (bigSep H0 (fun b => ((c : Thread nD τ).loc b) ↦{fullShare} V m c b) : sProp 𝕄)
    = iprop(pt (F := F) c mA (V m c main_arg7) ∗ pt (F := F) c mB (V m c main_arg8)) := by
  rw [BI.bigSep_eq_bigSepL_of_eq [main_arg7, main_arg8] (by decide) (by decide)]
  rfl
theorem PhiT0_eq (c : Dev nD) : (Pipeline.ΦT pre0 (tbl m) c : sProp 𝕄) = Tab (F := F) c (V m c main_arg9) fullShare.right := by
  obtain rfl : c = 0 := Subsingleton.elim _ _
  unfold Pipeline.ΦT Pipeline.prefHeld
  rw [BI.bigSep_univ_eq_bigSepL [(0 : Fin 1)] (by decide) (by decide)]
  rfl
/-- The kernel's invariant, conjunct by conjunct. -/
theorem PhiD0_eq (c : Dev nD) : (Pipeline.ΦD osem0 spec0 H0 (V m) c : sProp 𝕄)
    = iprop(((∃ f, pt (F := F) c mC f) ∗ (∃ f, pt (F := F) c mS f) ∗ (∃ f, pt (F := F) c (Memref.whole cc0_scratch4) f) ∗ (∃ f, pt (F := F) c (Memref.whole cc0_scratch5) f) ∗ (∃ f, pt (F := F) c (Memref.whole cc0_scratch6) f) ∗ (∃ f, pt (F := F) c (Memref.whole cc0_scratch7) f) ∗ (∃ f, pt (F := F) c (Memref.whole cc0_scratch8) f) ∗ (∃ f, pt (F := F) c (Memref.whole cc0_scratch9) f))
      ∗ (∃ r, prngReg (Ix := Unit) (Val := Elt F) (Name := ℕ) (U := Pipeline.UD sig nD τ) (Lvl := ℕ) c r)
      ∗ (semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0)
      ∗ pt (F := F) c mA (V m c main_arg7) ∗ pt (F := F) c mB (V m c main_arg8)) := by
  rw [Pipeline.ΦD_eq, scopedRest0_eq, ownSems0_eq4, hbmPts0_eq]
theorem owns_of (c : Dev nD) {S : Shape} {sp : CoreSpace} {e : EltTy} (M : Memref sig .tc sp S e) (h : M.IsWhole) (f : Bf (F := F) c M) :
    (pt (F := F) c M f : sProp 𝕄) ⊢ owns (c : Thread nD τ) M fullShare (M.view.read (Elt F) f) := by
  rw [owns_pt c M h]
  iintro H
  iexists f
  isplitr; · ipureintro; rfl
  iexact H
/-- Into the first point, and out of the last. -/
theorem hin (c : Dev nD) : iprop(Pipeline.ΦD osem0 spec0 H0 (V m) c ∗ Pipeline.ΦT pre0 (tbl m) c) ⊢ (Φs m c 0 : sProp 𝕄) := by
  rw [PhiD0_eq, PhiT0_eq]
  unfold Φs Slots E18 Scr5 Scr
  have hb := own_both c (V m c main_arg7) (V m c main_arg8)
  unfold Own Both at hb
  rw [if_neg (by omega)]
  iintro ⟨⟨⟨HC, HS, ⟨%f18, H18⟩, H19, H20, H21, H22, H23⟩, HG, HQ, HA, HB⟩, HT⟩
  ihave HO := hb $$ [HC HS HQ HA HB]
  · isplitl [HC]; · iexact HC
    isplitl [HS]; · iexact HS
    isplitl [HQ]; · iexact HQ
    isplitl [HA] <;> iassumption
  icases HO with ⟨H0, H1, RA, RB⟩
  isplitl [HT]; · iexact HT
  isplitl [H0 H1]; · isplitl [H0] <;> iassumption
  isplitl [H18]
  · iexists f18
    isplitr; · ipureintro; exact fun h => absurd h (by omega)
    iexact H18
  isplitl [H19 H20 H21 H22 H23]
  · isplitl [H19 H20 H21]
    · isplitl [H19]; · iexact H19
      isplitl [H20] <;> iassumption
    isplitl [H22] <;> iassumption
  isplitl [RA]; · iexact RA
  isplitl [RB]; · iexact RB
  iexact HG
theorem hout (c : Dev nD) : (Φs m c 40 : sProp 𝕄) ⊢ Pipeline.ΦD osem0 spec0 H0 (V m) c := by
  rw [PhiD0_eq]
  unfold Φs Slots E18 Scr5 Scr
  have hb := both_own c (V m c main_arg7) (V m c main_arg8)
  unfold Own Both at hb
  rw [if_neg (by omega)]
  iintro ⟨HT, ⟨H0, H1⟩, ⟨%f18, -, H18⟩, ⟨⟨H19, H20, H21⟩, H22, H23⟩, RA, RB, HG⟩
  ihave HO := hb $$ [H0 H1 RA RB]
  · isplitl [H0]; · iexact H0
    isplitl [H1]; · iexact H1
    isplitl [RA] <;> iassumption
  icases HO with ⟨HC, HS, HQ, HA, HB⟩
  isplitl [HC HS H18 H19 H20 H21 H22 H23]
  · isplitl [HC]; · iexact HC
    isplitl [HS]; · iexact HS
    isplitl [H18]; · iexists f18; iexact H18
    isplitl [H19]; · iexact H19
    isplitl [H20]; · iexact H20
    isplitl [H21]; · iexact H21
    isplitl [H22] <;> iassumption
  isplitl [HG]; · iexact HG
  isplitl [HQ]; · iexact HQ
  isplitl [HA] <;> iassumption

/-- Nothing is said of any result. -/
abbrev fgtA : Fin 10 → Bool := fun | 0 => false | 1 => false | 2 => false | 3 => false | 4 => false | 5 => false | 6 => false | 7 => true | 8 => true | 9 => true | ⟨_ + 10, h⟩ => absurd h (Nat.not_lt.2 (Nat.le_add_left _ _))
theorem soundA (c : Dev nD) (t : Fin (cfgM m).N) :
    iprop((dats m o8 o9 0 c).Φ t.castSucc ∗ (dats m o8 o9 0 c).owesAt () t.castSucc ∗ (∃ d, owns (c : Thread nD τ) (ms0 m t) fullShare ((dats m o8 o9 0 c).before 0 t d)) ∗ (∃ d, owns (c : Thread nD τ) (ms1 m t) fullShare ((dats m o8 o9 0 c).before 1 t d)) ∗ (∃ d, owns (c : Thread nD τ) (ms2 m t) fullShare ((dats m o8 o9 0 c).before 2 t d)) ∗ (∃ d, owns (c : Thread nD τ) (ms3 m t) fullShare ((dats m o8 o9 0 c).before 3 t d)) ∗ (∃ d, owns (c : Thread nD τ) (ms4 m t) fullShare ((dats m o8 o9 0 c).before 4 t d)) ∗ (∃ d, owns (c : Thread nD τ) (ms5 m t) fullShare ((dats m o8 o9 0 c).before 5 t d)) ∗ (∃ d, owns (c : Thread nD τ) (ms6 m t) fullShare ((dats m o8 o9 0 c).before 6 t d)) ∗ (∃ X, owns (c : Thread nD τ) (ms7 m t) fullShare X) ∗ (∃ X, owns (c : Thread nD τ) (ms8 m t) fullShare X) ∗ (∃ X, owns (c : Thread nD τ) (ms9 m t) fullShare X))
      ⊢ wp frame (wpE (defs₀ (F := F)) Variants.none (c : Thread nD τ) none) Set.univ (bodyAt m t)
        (fun _ => iprop((dats m o8 o9 0 c).Φ t.succ ∗ (dats m o8 o9 0 c).owesAt () t.succ ∗ owns (c : Thread nD τ) (ms0 m t) fullShare ((dats m o8 o9 0 c).after 0 t) ∗ owns (c : Thread nD τ) (ms1 m t) fullShare ((dats m o8 o9 0 c).after 1 t) ∗ owns (c : Thread nD τ) (ms2 m t) fullShare ((dats m o8 o9 0 c).after 2 t) ∗ owns (c : Thread nD τ) (ms3 m t) fullShare ((dats m o8 o9 0 c).after 3 t) ∗ owns (c : Thread nD τ) (ms4 m t) fullShare ((dats m o8 o9 0 c).after 4 t) ∗ owns (c : Thread nD τ) (ms5 m t) fullShare ((dats m o8 o9 0 c).after 5 t) ∗ owns (c : Thread nD τ) (ms6 m t) fullShare ((dats m o8 o9 0 c).after 6 t) ∗ (∃ X, owns (c : Thread nD τ) (ms7 m t) fullShare X) ∗ (∃ X, owns (c : Thread nD τ) (ms8 m t) fullShare X) ∗ (∃ X, owns (c : Thread nD τ) (ms9 m t) fullShare X))) := by
  rw [show (dats m o8 o9 0 c).Φ t.castSucc = Φs m c t.val from rfl, show (dats m o8 o9 0 c).Φ t.succ = Φs m c (t.val + 1) from rfl]
  unfold Dat.owesAt Pipeline.owesWithin
  rw [show (dats m o8 o9 0 c).owed t.castSucc = 0 from rfl, show (dats m o8 o9 0 c).owed t.succ = 0 from rfl]
  simp only [before0 m o8 o9 c t, before1 m o8 o9 c t, before2 m o8 o9 c t, before3 m o8 o9 c t, before4 m o8 o9 c t, before5 m o8 o9 c t, before6 m o8 o9 c t]
  iintro ⟨HΦ, ⟨%W, -, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_of c (point m c t (fun _ _ _ => True) (fun _ _ => trivial) (fun _ _ _ _ _ _ _ _ _ _ _ _ _ _ _ => by intros; trivial))) $$ [HΦ HO H0 H1 H2 H3 H4 H5 H6 H7 H8 H9]
  · isplitl [HΦ]; · iexact HΦ
    isplitl [HO]; · iexists W; iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists d7; iexact H7
    isplitl [H8]; · iexists _; iexact H8
    iexists _; iexact H9
  unfold Left
  iintro %_ ⟨HΦ, ⟨%W', HO⟩, H0, H1, H2, H3, H4, H5, H6, H7, %g8, %g9, %hP, H8, H9⟩
  isplitl [HΦ]; · iexact HΦ
  isplitl [HO]
  · iexists W'
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; iapply (owns_of c (ms8 m t) (hs8 m t) g8); iexact H8
  iexists _; iapply (owns_of c (ms9 m t) (hs9 m t) g9); iexact H9
theorem body_obligationA (c : Dev nD) : BodyObligation (dats m o8 o9 0 c) (defs₀ (F := F)) Variants.none () Set.univ fgtA := fun t => by
  rw [bigSep_W0, bigSep_W0, defs₀_row]
  exact triple_restated (soundA m o8 o9 c t) rfl .rfl fun _ => .rfl
set_option backward.isDefEq.respectTransparency.types false in
theorem run_mainA : θ_run defs (onTc (τ := τ) (main (F := F))) (s₀ m ρ) (fun r => Pipeline.RDat.FramePost (cfgM m) (fun c => (dats m o8 o9 0 c).toRForget fgtA) (V m) r ∧ r.2.sem = fun _ => 0) :=
  Pipeline.θ_run_frameP_dma_forget (Q' := _) pcfgs (fun _ => adm m) (dats m o8 o9) (0 : Fin 1) launch0 osem0 defs₀ Variants.none fgtA ownSemFacts0 H0 H0_sub m ρ main
    (hbody := fun c => (body_obligationA m o8 o9 c).loose) (hshare := fun c => (dats m o8 o9 0 c).share_full fun _ => rfl)
    (howed := fun _ _ => rfl) (V := V m) (hmain := hmain m Variants.none) (hA := A_eq m o8 o9) (hpf := V_pre m)
    (hin := fun c => hin m c) (hout := fun c => hout m c)

/-- Nothing is said of the first result. -/
abbrev fgtV : Fin 10 → Bool := fun | 0 => false | 1 => false | 2 => false | 3 => false | 4 => false | 5 => false | 6 => false | 7 => true | 8 => false | 9 => false | ⟨_ + 10, h⟩ => absurd h (Nat.not_lt.2 (Nat.le_add_left _ _))
theorem soundV (c : Dev nD) (t : Fin (cfgM m).N)
    (P : ℕ → Bf (F := F) c (ms8 m t) → Bf (F := F) c (ms9 m t) → Prop) (hP0 : ∀ f12 f13, P 0 f12 f13) (hstep : PointOK m c t P)
    (hP : ∀ f12 f13, P 16 f12 f13 → (ms8 m t).view.read (Elt F) f12 = o8 c t ∧ (ms9 m t).view.read (Elt F) f13 = o9 c t) :
    iprop((dats m o8 o9 0 c).Φ t.castSucc ∗ (dats m o8 o9 0 c).owesAt () t.castSucc ∗ (∃ d, owns (c : Thread nD τ) (ms0 m t) fullShare ((dats m o8 o9 0 c).before 0 t d)) ∗ (∃ d, owns (c : Thread nD τ) (ms1 m t) fullShare ((dats m o8 o9 0 c).before 1 t d)) ∗ (∃ d, owns (c : Thread nD τ) (ms2 m t) fullShare ((dats m o8 o9 0 c).before 2 t d)) ∗ (∃ d, owns (c : Thread nD τ) (ms3 m t) fullShare ((dats m o8 o9 0 c).before 3 t d)) ∗ (∃ d, owns (c : Thread nD τ) (ms4 m t) fullShare ((dats m o8 o9 0 c).before 4 t d)) ∗ (∃ d, owns (c : Thread nD τ) (ms5 m t) fullShare ((dats m o8 o9 0 c).before 5 t d)) ∗ (∃ d, owns (c : Thread nD τ) (ms6 m t) fullShare ((dats m o8 o9 0 c).before 6 t d)) ∗ (∃ X, owns (c : Thread nD τ) (ms7 m t) fullShare X) ∗ (∃ d, owns (c : Thread nD τ) (ms8 m t) fullShare ((dats m o8 o9 0 c).before 8 t d)) ∗ (∃ d, owns (c : Thread nD τ) (ms9 m t) fullShare ((dats m o8 o9 0 c).before 9 t d)))
      ⊢ wp frame (wpE (defs₀ (F := F)) Variants.none (c : Thread nD τ) none) Set.univ (bodyAt m t)
        (fun _ => iprop((dats m o8 o9 0 c).Φ t.succ ∗ (dats m o8 o9 0 c).owesAt () t.succ ∗ owns (c : Thread nD τ) (ms0 m t) fullShare ((dats m o8 o9 0 c).after 0 t) ∗ owns (c : Thread nD τ) (ms1 m t) fullShare ((dats m o8 o9 0 c).after 1 t) ∗ owns (c : Thread nD τ) (ms2 m t) fullShare ((dats m o8 o9 0 c).after 2 t) ∗ owns (c : Thread nD τ) (ms3 m t) fullShare ((dats m o8 o9 0 c).after 3 t) ∗ owns (c : Thread nD τ) (ms4 m t) fullShare ((dats m o8 o9 0 c).after 4 t) ∗ owns (c : Thread nD τ) (ms5 m t) fullShare ((dats m o8 o9 0 c).after 5 t) ∗ owns (c : Thread nD τ) (ms6 m t) fullShare ((dats m o8 o9 0 c).after 6 t) ∗ (∃ X, owns (c : Thread nD τ) (ms7 m t) fullShare X) ∗ owns (c : Thread nD τ) (ms8 m t) fullShare ((dats m o8 o9 0 c).after 8 t) ∗ owns (c : Thread nD τ) (ms9 m t) fullShare ((dats m o8 o9 0 c).after 9 t))) := by
  rw [show (dats m o8 o9 0 c).Φ t.castSucc = Φs m c t.val from rfl, show (dats m o8 o9 0 c).Φ t.succ = Φs m c (t.val + 1) from rfl]
  unfold Dat.owesAt Pipeline.owesWithin
  rw [show (dats m o8 o9 0 c).owed t.castSucc = 0 from rfl, show (dats m o8 o9 0 c).owed t.succ = 0 from rfl]
  simp only [before0 m o8 o9 c t, before1 m o8 o9 c t, before2 m o8 o9 c t, before3 m o8 o9 c t, before4 m o8 o9 c t, before5 m o8 o9 c t, before6 m o8 o9 c t]
  iintro ⟨HΦ, ⟨%W, -, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_of c (point m c t P hP0 hstep)) $$ [HΦ HO H0 H1 H2 H3 H4 H5 H6 H7 H8 H9]
  · isplitl [HΦ]; · iexact HΦ
    isplitl [HO]; · iexists W; iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists d7; iexact H7
    isplitl [H8]; · iexists _; iexact H8
    iexists _; iexact H9
  unfold Left
  iintro %_ ⟨HΦ, ⟨%W', HO⟩, H0, H1, H2, H3, H4, H5, H6, H7, %g8, %g9, %hP', H8, H9⟩
  isplitl [HΦ]; · iexact HΦ
  isplitl [HO]
  · iexists W'
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · rw [show (dats m o8 o9 0 c).after 8 t = (ms8 m t).view.read (Elt F) g8 from (hP g8 g9 hP').1.symm]
    iapply (owns_of c (ms8 m t) (hs8 m t) g8); iexact H8
  rw [show (dats m o8 o9 0 c).after 9 t = (ms9 m t).view.read (Elt F) g9 from (hP g8 g9 hP').2.symm]
  iapply (owns_of c (ms9 m t) (hs9 m t) g9); iexact H9
variable (P : (c : Dev nD) → (t : Fin (cfgM m).N) → ℕ → Bf (F := F) c (ms8 m t) → Bf (F := F) c (ms9 m t) → Prop) (hP0 : ∀ c t f12 f13, P c t 0 f12 f13) (hstep : ∀ c t, PointOK m c t (P c t))
    (hP : ∀ c t f12 f13, P c t 16 f12 f13 → (ms8 m t).view.read (Elt F) f12 = o8 c t ∧ (ms9 m t).view.read (Elt F) f13 = o9 c t)
include hP0 hstep hP
theorem body_obligationV (c : Dev nD) : BodyObligation (dats m o8 o9 0 c) (defs₀ (F := F)) Variants.none () Set.univ fgtV := fun t => by
  rw [bigSep_W0, bigSep_W0, defs₀_row]
  exact triple_restated (soundV m o8 o9 c t (P c t) (hP0 c t) (hstep c t) (hP c t)) rfl .rfl fun _ => .rfl
set_option backward.isDefEq.respectTransparency.types false in
theorem run_mainV : θ_run defs (onTc (τ := τ) (main (F := F))) (s₀ m ρ) (fun r => Pipeline.RDat.FramePost (cfgM m) (fun c => (dats m o8 o9 0 c).toRForget fgtV) (V m) r ∧ r.2.sem = fun _ => 0) :=
  Pipeline.θ_run_frameP_dma_forget (Q' := _) pcfgs (fun _ => adm m) (dats m o8 o9) (0 : Fin 1) launch0 osem0 defs₀ Variants.none fgtV ownSemFacts0 H0 H0_sub m ρ main
    (hbody := fun c => (body_obligationV m o8 o9 P hP0 hstep hP c).loose) (hshare := fun c => (dats m o8 o9 0 c).share_full fun _ => rfl)
    (howed := fun _ _ => rfl) (V := V m) (hmain := hmain m Variants.none) (hA := A_eq m o8 o9) (hpf := V_pre m)
    (hin := fun c => hin m c) (hout := fun c => hout m c)

end Cert.KernelIdeal.Hand

end
-- ==== Proof.StateI.Frame.lean ====
/-
  The kernel's frame.
-/
module

public import proofs.«01_k».proof.Proof.StateI.Run
public import Idealize.ShloMosaic.Lib.StableHlo.RunRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)
variable (o8 : (c : Dev nD) → (t : Fin (cfgM m).N) → S16x24x64x128.Idx → Elt F .fp8e4m3) (o9 : (c : Dev nD) → (t : Fin (cfgM m).N) → S16x24x64.Idx → Elt F .f32)

/-! No argument array is written before the kernel runs. -/
theorem V_arg0 (c : Dev nD) : V m c main_arg0 = m ((c : Thread nD τ).loc main_arg0) := by
  unfold V
  exact StableHlo.after_unwritten [main_v0, main_v1, main_v2] rfl (by decide) _
theorem V_arg1 (c : Dev nD) : V m c main_arg1 = m ((c : Thread nD τ).loc main_arg1) := by
  unfold V
  exact StableHlo.after_unwritten [main_v0, main_v1, main_v2] rfl (by decide) _
theorem V_arg2 (c : Dev nD) : V m c main_arg2 = m ((c : Thread nD τ).loc main_arg2) := by
  unfold V
  exact StableHlo.after_unwritten [main_v0, main_v1, main_v2] rfl (by decide) _
theorem V_arg3 (c : Dev nD) : V m c main_arg3 = m ((c : Thread nD τ).loc main_arg3) := by
  unfold V
  exact StableHlo.after_unwritten [main_v0, main_v1, main_v2] rfl (by decide) _
theorem V_arg4 (c : Dev nD) : V m c main_arg4 = m ((c : Thread nD τ).loc main_arg4) := by
  unfold V
  exact StableHlo.after_unwritten [main_v0, main_v1, main_v2] rfl (by decide) _
theorem V_arg5 (c : Dev nD) : V m c main_arg5 = m ((c : Thread nD τ).loc main_arg5) := by
  unfold V
  exact StableHlo.after_unwritten [main_v0, main_v1, main_v2] rfl (by decide) _
theorem V_arg6 (c : Dev nD) : V m c main_arg6 = m ((c : Thread nD τ).loc main_arg6) := by
  unfold V
  exact StableHlo.after_unwritten [main_v0, main_v1, main_v2] rfl (by decide) _
theorem V_arg7 (c : Dev nD) : V m c main_arg7 = m ((c : Thread nD τ).loc main_arg7) := by
  unfold V
  exact StableHlo.after_unwritten [main_v0, main_v1, main_v2] rfl (by decide) _
theorem V_arg8 (c : Dev nD) : V m c main_arg8 = m ((c : Thread nD τ).loc main_arg8) := by
  unfold V
  exact StableHlo.after_unwritten [main_v0, main_v1, main_v2] rfl (by decide) _
theorem V_arg9 (c : Dev nD) : V m c main_arg9 = m ((c : Thread nD τ).loc main_arg9) := by
  unfold V
  exact StableHlo.after_unwritten [main_v0, main_v1, main_v2] rfl (by decide) _

/-- The argument arrays at the end are those of the start. -/
abbrev Kept (m : (ℓ : Loc nD τ sig) → Buf (Elt F) ℓ) (r : PUnit × MemSt nD τ sig (Elt F)) (c : Dev nD) : Prop :=
  r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9)

/-- The argument arrays end unchanged. -/
theorem args_of {fgt : Fin 10 → Bool} {r : PUnit × MemSt nD τ sig (Elt F)} (h : Pipeline.RDat.FramePost (cfgM m) (fun c => (dats m o8 o9 0 c).toRForget fgt) (V m) r ∧ r.2.sem = fun _ => 0) (c : Dev nD) :
    Kept m r c :=
  ⟨(Pipeline.RDat.FramePost.arr_in h.1 c 0 rfl).trans ((A_eq m o8 o9 c 0).trans (V_arg0 m c)),
    (Pipeline.RDat.FramePost.arr_in h.1 c 1 rfl).trans ((A_eq m o8 o9 c 1).trans (V_arg1 m c)),
    ((h.1 c).2 main_arg2 (by decide : main_arg2 ∈ Pipeline.restRefs sig spec0)).trans (V_arg2 m c),
    ((h.1 c).2 main_arg3 (by decide : main_arg3 ∈ Pipeline.restRefs sig spec0)).trans (V_arg3 m c),
    (Pipeline.RDat.FramePost.arr_in h.1 c 4 rfl).trans ((A_eq m o8 o9 c 4).trans (V_arg4 m c)),
    (Pipeline.RDat.FramePost.arr_in h.1 c 5 rfl).trans ((A_eq m o8 o9 c 5).trans (V_arg5 m c)),
    ((h.1 c).2 main_arg6 (by decide : main_arg6 ∈ Pipeline.restRefs sig spec0)).trans (V_arg6 m c),
    ((h.1 c).2 main_arg7 (by decide : main_arg7 ∈ Pipeline.restRefs sig spec0)).trans (V_arg7 m c),
    ((h.1 c).2 main_arg8 (by decide : main_arg8 ∈ Pipeline.restRefs sig spec0)).trans (V_arg8 m c),
    ((h.1 c).2 main_arg9 (by decide : main_arg9 ∈ Pipeline.restRefs sig spec0)).trans (V_arg9 m c)⟩
/-- The program terminates, nothing faults, its argument arrays end unchanged and every semaphore at zero. -/
theorem frame : θ_run defs (onTc (τ := τ) (main (F := F))) ⟨m, fun _ => 0, ρ⟩ (fun r => (∀ c : Dev nD, Kept m r c) ∧ r.2.sem = fun _ => 0) :=
  (θ_run defs _ _).mono (fun _ h => ⟨fun c => args_of m (fun c t => Pipeline.Dat.unnamed (cfg := cfgM m) 8 t) (fun c t => Pipeline.Dat.unnamed (cfg := cfgM m) 9 t) h c, h.2⟩) (run_mainA m ρ _ _)

end Cert.KernelIdeal.Hand

end
-- ==== Proof.Value.Canon.lean ====
/-
The update of one group of eight heads, as functions of the group's scale rows, input rows, codes and input projection:
the blocks of new state, their largest magnitudes, the power-of-two scale, and the codes written back.
-/
module

public import proofs.«01_k».proof.Proof.StateI.Trip4

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.Sem
open Idealize.ShloMosaic.ValueIdx

variable {F : FTy → Type} [FloatOps F]

/-- Rows `32 q` to `32 q + 31` of the group's codes, read out of the lane-major arrangement. -/
def ctOf (w : Vec F S1x1x8x64x128 .fp8e4m3) (q : ℕ) : Vec F S1x32x128 .fp8e4m3 :=
  fun j => k0_pay49 w (ix3 (0 : Fin 1) (⟨(32 * q + (j 1).val) % 512, Nat.mod_lt _ (by decide)⟩ : Fin 512) (j 2))

/-- Rows `32 q` to `32 q + 31` of the spread-out input projection. -/
def bqOf (bp : Vec F S512x128 .f32) (q : ℕ) : Vec F S32x128 .f32 :=
  fun j => bp (ix2 (⟨(32 * q + (j 0).val) % 512, Nat.mod_lt _ (by decide)⟩ : Fin 512) (j 1))

/-- Block `q` of the group's new state. -/
def hq (s8 xp8 : FVec F S8x128 .f32) (w : Vec F S1x1x8x64x128 .fp8e4m3) (bp : Vec F S512x128 .f32) (q : ℕ) : FVec F S4x8x128 .f32 :=
  k0_pay54 s8 xp8 (ctOf w q) (bqOf bp q)

/-- The same block in the shape it is stored in. -/
def hbOf (s8 xp8 : FVec F S8x128 .f32) (w : Vec F S1x1x8x64x128 .fp8e4m3) (bp : Vec F S512x128 .f32) (q : ℕ) : FVec F S1x32x128 .f32 :=
  k0_pay55 s8 xp8 (ctOf w q) (bqOf bp q)

/-- The running largest magnitude after one more block. -/
def mx (m : FVec F S8x128 .f32) (h : FVec F S4x8x128 .f32) : FVec F S8x128 .f32 :=
  maximumf m (multiReduction .maximumf [0] S8x128 (absf h) 0xFF800000#32 reduces_S4x8x128_S8x128 (.inl rfl) rfl)

/-- The running largest magnitude after the first `k` blocks `h`. -/
def mAll (h : ℕ → FVec F S4x8x128 .f32) : ℕ → FVec F S8x128 .f32
  | 0 => k0_pay51
  | k + 1 => mx (mAll h k) (h k)

/-- The largest magnitude over all columns, divided by 448. -/
def tOf (m : FVec F S8x128 .f32) : FVec F S8x128 .f32 :=
  mulf (maximumf m (dynamicRotate 0 4#32 none m rotates_S8x128_d0)) (broadcast S8x128 (Scalar.ofBits .f32 0x3B124925#32))

/-- One step of the search for the exponent bits. -/
def uStep (t : FVec F S8x128 .f32) (k : BitVec 32) (u : IVec S8x128 32) : IVec S8x128 32 :=
  select (cmpf .oge t (bitcastToFloat .f32 (ori u (broadcast S8x128 k)))) (ori u (broadcast S8x128 k)) u

/-- The first three steps of the search. -/
def u3 (t : FVec F S8x128 .f32) : IVec S8x128 32 :=
  uStep t 268435456#32 (uStep t 536870912#32 (uStep t 1073741824#32 (broadcast S8x128 0#32)))

/-- The reciprocal of the scale. -/
def invOf (t : FVec F S8x128 .f32) : FVec F S8x128 .f32 := k0_pay96 t (u3 t)

/-- The scale. -/
def sclOf (t : FVec F S8x128 .f32) : FVec F S8x128 .f32 := k0_pay95 t (u3 t)

/-- The codes of the group, from the reciprocal of the scale and the stored blocks. -/
def codesOf (inv : FVec F S8x128 .f32) (hb : ℕ → FVec F S1x32x128 .f32) : FVec F S1x8x64x128 .fp8e4m3 :=
  shapeCast S1x8x64x128 (shapeCast S8x64x128 (shapeCast S512x128 (transpose S128x4x128 [2, 1, 0] (shapeCast S128x4x128
    (concatenate S512x128 0 [⟨S32x128, k0_pay99 inv (hb 0)⟩, ⟨S32x128, k0_pay99 inv (hb 1)⟩, ⟨S32x128, k0_pay99 inv (hb 2)⟩, ⟨S32x128, k0_pay99 inv (hb 3)⟩, ⟨S32x128, k0_pay99 inv (hb 4)⟩, ⟨S32x128, k0_pay99 inv (hb 5)⟩, ⟨S32x128, k0_pay99 inv (hb 6)⟩, ⟨S32x128, k0_pay99 inv (hb 7)⟩, ⟨S32x128, k0_pay99 inv (hb 8)⟩, ⟨S32x128, k0_pay99 inv (hb 9)⟩, ⟨S32x128, k0_pay99 inv (hb 10)⟩, ⟨S32x128, k0_pay99 inv (hb 11)⟩, ⟨S32x128, k0_pay99 inv (hb 12)⟩, ⟨S32x128, k0_pay99 inv (hb 13)⟩, ⟨S32x128, k0_pay99 inv (hb 14)⟩, ⟨S32x128, k0_pay99 inv (hb 15)⟩] concatenates_S32x128_S32x128_S32x128_S32x128_S32x128_S32x128_S32x128_S32x128_S32x128_S32x128_S32x128_S32x128_S32x128_S32x128_S32x128_S32x128_S512x128_d0)
    shapeCasts_S512x128_S128x4x128) transposes_S128x4x128_p2_1_0_S128x4x128) shapeCasts_S128x4x128_S512x128) shapeCasts_S512x128_S8x64x128) shapeCasts_S8x64x128_S1x8x64x128

theorem ct_read (v : View sig .tc .vmem S3x512x128 .fp8e4m3) (g q : ℕ) (w : Vec F S1x1x8x64x128 .fp8e4m3) (L : List (View.Piece (Elt F) S3x512x128 .fp8e4m3))
    (h : ∀ a, (![g, 0, 0] : Fin 3 → ℕ) a + S1x512x128.size a ≤ S3x512x128.size a) (h' : ∀ a, (![g, 32 * q, 0] : Fin 3 → ℕ) a + S1x32x128.size a ≤ S3x512x128.size a) :
    v.readCov (⟨Rect.unit (s := S3x512x128) ![g, 0, 0] S1x512x128.size h, k0_pay49 w⟩ :: L) (Rect.unit (s := S3x512x128) ![g, 32 * q, 0] S1x32x128.size h').toLoadRect = ctOf w q := by
  rw [View.readCov_eq_canon']
  funext j
  have hq : 32 * q + 32 ≤ 512 := h' 1
  have hj : (j 1).val < 32 := (j 1).isLt
  have e : (Rect.unit (s := S3x512x128) ![g, 32 * q, 0] S1x32x128.size h').toLoadRect.idx j
      = (Rect.unit (s := S3x512x128) ![g, 0, 0] S1x512x128.size h).idx (ix3 (0 : Fin 1) (⟨(32 * q + (j 1).val) % 512, Nat.mod_lt _ (by decide)⟩ : Fin 512) (j 2)) := by
    funext a
    apply Fin.ext
    have h0 : (j 0).val = 0 := by have : (j 0).val < 1 := (j 0).isLt; omega
    fin_cases a
    · show g + 1 * (j 0).val = g + 1 * 0
      omega
    · show 32 * q + 1 * (j 1).val = 0 + 1 * ((32 * q + (j 1).val) % 512)
      omega
    · rfl
  rw [e]
  exact View.canon_cons_emb _ _ _ _

theorem bq_read (v : View sig .tc .vmem S512x128 .f32) (q : ℕ) (bp : Vec F S512x128 .f32) (L : List (View.Piece (Elt F) S512x128 .f32))
    (h : ∀ a, (![0, 0] : Fin 2 → ℕ) a + S512x128.size a ≤ S512x128.size a) (h' : ∀ a, (![32 * q, 0] : Fin 2 → ℕ) a + S32x128.size a ≤ S512x128.size a) :
    v.readCov (⟨Rect.unit (s := S512x128) ![0, 0] S512x128.size h, bp⟩ :: L) (Rect.unit (s := S512x128) ![32 * q, 0] S32x128.size h').toLoadRect = bqOf bp q := by
  rw [View.readCov_eq_canon']
  funext j
  have hq : 32 * q + 32 ≤ 512 := h' 0
  have hj : (j 0).val < 32 := (j 0).isLt
  have e : (Rect.unit (s := S512x128) ![32 * q, 0] S32x128.size h').toLoadRect.idx j
      = (Rect.unit (s := S512x128) ![0, 0] S512x128.size h).idx (ix2 (⟨(32 * q + (j 0).val) % 512, Nat.mod_lt _ (by decide)⟩ : Fin 512) (j 1)) := by
    funext a
    apply Fin.ext
    fin_cases a
    · show 32 * q + 1 * (j 0).val = 0 + 1 * ((32 * q + (j 0).val) % 512)
      omega
    · rfl
  rw [e]
  exact View.canon_cons_emb _ _ _ _

end Cert.KernelIdeal.Hand

end

end
-- ==== Proof.Value.Exp.lean ====
/-
The powers of two of the format's exponent field, and the search for the largest one below a number.
-/
module

public import proofs.«01_k».proof.Proof.Value.Canon
public import Idealize.ShloMosaic.PureOps.Ideal

@[expose] public section

set_option maxRecDepth 16384

noncomputable section

namespace Cert.KernelIdeal.Hand

open Cert.KernelIdeal Cert.KernelIdeal.Gen
open Idealize.ShloMosaic Idealize.ShloMosaic.TcCoe
open Idealize.ShloMosaic.ValueIdx

/-- The word whose exponent field is `c` and whose other bits are zero. -/
abbrev ew (c : ℕ) : BitVec 32 := BitVec.ofNat 32 (c * 8388608)

/-- What that word denotes. -/
def ef (c : ℕ) : EReal := Ideal.ofBits .f32 (ew c)

theorem ew_fields : ∀ c : Fin 256, (ew c.val).extractLsb' 31 1 = 0#1 ∧ ((ew c.val).extractLsb' 23 8).toNat = c.val ∧ ((ew c.val).extractLsb' 0 23).toNat = 0 := by
  decide +kernel

theorem ef_eq (c : ℕ) (hc : c < 256) :
    ef c = if c = 255 then ⊤ else if c = 0 then 0 else (((2 : ℝ) ^ 23 * (2 : ℝ) ^ ((c : ℤ) - 150) : ℝ) : EReal) := by
  obtain ⟨h1, h2, h3⟩ := ew_fields ⟨c, hc⟩
  dsimp only at h1 h2 h3
  unfold ef
  show Ideal.ieee 8 23 (ew c) = _
  unfold Ideal.ieee
  simp only [show (8 + 23 : ℕ) = 31 from rfl, h1, h2, h3]
  by_cases a : c = 255
  · subst a; simp
  by_cases b : c = 0
  · subst b; simp
  · have a' : ¬ c = 2 ^ 8 - 1 := by simpa using a
    simp only [a, b, a', if_false]
    have e : (c : ℤ) - (2 ^ (8 - 1) - 1) - (23 : ℕ) = (c : ℤ) - 150 := by norm_num; ring
    rw [e]
    norm_num

theorem ef_zero : ef 0 = 0 := by rw [ef_eq 0 (by decide)]; simp
theorem ef_top : ef 255 = ⊤ := by rw [ef_eq 255 (by decide)]; simp

theorem ef_succ (c : ℕ) (hc : c + 1 < 256) : ef c ≤ ef (c + 1) := by
  rw [ef_eq c (by omega), ef_eq (c + 1) hc]
  by_cases a : c + 1 = 255
  · rw [if_pos a]; exact le_top
  rw [if_neg a, if_neg (show ¬ c = 255 by omega), if_neg (show ¬ c + 1 = 0 by omega)]
  by_cases b : c = 0
  · rw [if_pos b]
    exact EReal.coe_nonneg.2 (by positivity)
  · rw [if_neg b]
    refine EReal.coe_le_coe_iff.2 ?_
    refine mul_le_mul_of_nonneg_left ?_ (by positivity)
    exact zpow_le_zpow_right₀ (by norm_num) (by push_cast; omega)

theorem ef_mono (a b : ℕ) (hb : b < 256) (h : a ≤ b) : ef a ≤ ef b := by
  induction b with
  | zero => rw [Nat.le_zero.1 h]
  | succ n ih =>
    rcases Nat.lt_or_ge a (n + 1) with h' | h'
    · exact (ih (by omega) (by omega)).trans (ef_succ n hb)
    · rw [Nat.le_antisymm h h']

/-- `E` is the largest exponent field whose power of two is at most `t`. -/
def IsExp (t : EReal) (E : ℕ) : Prop := E < 256 ∧ ∀ c, c < 256 → (ef c ≤ t ↔ c ≤ E)

theorem exists_exp (t : EReal) (ht : 0 ≤ t) : ∃ E, IsExp t E := by
  classical
  refine ⟨Nat.findGreatest (fun c => ef c ≤ t) 255, ?_, fun c hc => ⟨fun h => ?_, fun h => ?_⟩⟩
  · exact Nat.lt_of_le_of_lt (Nat.findGreatest_le 255) (by decide)
  · exact Nat.le_findGreatest (by omega) h
  · have h0 : ef (Nat.findGreatest (fun c => ef c ≤ t) 255) ≤ t :=
      Nat.findGreatest_spec (P := fun c => ef c ≤ t) (m := 0) (Nat.zero_le _) (by rw [ef_zero]; exact ht)
    exact (ef_mono c _ (Nat.lt_of_le_of_lt (Nat.findGreatest_le 255) (by decide)) h).trans h0

theorem cmp_oge (x y : EReal) : Ideal.cmp .oge x y = if y ≤ x then 1#1 else 0#1 := by
  unfold Ideal.cmp
  by_cases h : y ≤ x <;> simp [h]

theorem ew_or : ∀ k : Fin 8, ∀ m : Fin 256, m.val % 2 ^ (k.val + 1) = 0 →
    IntOp.ori (ew m.val) (BitVec.ofNat 32 (2 ^ k.val * 8388608)) = ew (m.val + 2 ^ k.val) := by decide +kernel

/-- One step of the search: bit `k` of the exponent. -/
theorem uStep_apply (T : FVec Ideal S8x128 .f32) (j : S8x128.Idx) (E : ℕ) (hE : IsExp (T j) E) (k : Fin 8) (u : IVec S8x128 32)
    (w : BitVec 32) (hw : w = BitVec.ofNat 32 (2 ^ k.val * 8388608))
    (hu : u j = ew (2 ^ (k.val + 1) * (E / 2 ^ (k.val + 1)))) : uStep T w u j = ew (2 ^ k.val * (E / 2 ^ k.val)) := by
  subst hw
  have hk : 0 < 2 ^ k.val := by positivity
  obtain ⟨m, hm⟩ : ∃ m, m = 2 ^ (k.val + 1) * (E / 2 ^ (k.val + 1)) := ⟨_, rfl⟩
  rw [← hm] at hu
  have hmE : m ≤ E := by rw [hm]; exact Nat.mul_div_le _ _
  have hm256 : m < 256 := by have := hE.1; omega
  have hmod : m % 2 ^ (k.val + 1) = 0 := by rw [hm]; exact Nat.mul_mod_right _ _
  have ho := ew_or k ⟨m, hm256⟩ hmod
  dsimp only at ho
  have hlt : E < m + 2 ^ (k.val + 1) := by
    rw [hm]; have := Nat.lt_mul_div_succ E (show 0 < 2 ^ (k.val + 1) by positivity); rw [Nat.mul_add, Nat.mul_one] at this; exact this
  have hp : 2 ^ (k.val + 1) = 2 * 2 ^ k.val := by rw [Nat.pow_succ, Nat.mul_comm]
  have hdvd : 2 ^ (k.val + 1) ∣ 256 := by have : (256 : ℕ) = 2 ^ 8 := rfl; rw [this]; exact Nat.pow_dvd_pow 2 (by omega)
  have hm2 : m + 2 ^ k.val < 256 := by
    obtain ⟨q, hq⟩ := hdvd
    obtain ⟨r, hr⟩ := Nat.dvd_of_mod_eq_zero hmod
    have : r < q := by
      by_contra hc
      have : 2 ^ (k.val + 1) * q ≤ 2 ^ (k.val + 1) * r := Nat.mul_le_mul_left _ (by omega)
      omega
    have : 2 ^ (k.val + 1) * (r + 1) ≤ 2 ^ (k.val + 1) * q := Nat.mul_le_mul_left _ (by omega)
    rw [Nat.mul_add, Nat.mul_one] at this
    omega
  have hs : uStep T (BitVec.ofNat 32 (2 ^ k.val * 8388608)) u j
      = if ef (m + 2 ^ k.val) ≤ T j then ew (m + 2 ^ k.val) else ew m := by
    show Scalar.select (Ideal.cmp .oge (T j) (Ideal.ofBits .f32 (IntOp.ori (u j) (BitVec.ofNat 32 (2 ^ k.val * 8388608))))) (IntOp.ori (u j) (BitVec.ofNat 32 (2 ^ k.val * 8388608))) (u j) = _
    rw [hu, ho, cmp_oge]
    show Scalar.select (if ef (m + 2 ^ k.val) ≤ T j then 1#1 else 0#1) _ _ = _
    by_cases h : ef (m + 2 ^ k.val) ≤ T j
    · rw [if_pos h, if_pos h]; rfl
    · rw [if_neg h, if_neg h]; rfl
  rw [hs]
  have hq : 2 ^ k.val * (E / 2 ^ k.val) = if m + 2 ^ k.val ≤ E then m + 2 ^ k.val else m := by
    have hmk : ∃ r, m = 2 ^ k.val * r := by
      obtain ⟨r, hr⟩ := Nat.dvd_of_mod_eq_zero hmod
      exact ⟨2 * r, by rw [hr, hp]; ring⟩
    obtain ⟨r, hr⟩ := hmk
    by_cases h : m + 2 ^ k.val ≤ E
    · rw [if_pos h, hr]
      have : E / 2 ^ k.val = r + 1 := by
        refine Nat.div_eq_of_lt_le ?_ ?_
        · rw [Nat.add_mul, Nat.one_mul, Nat.mul_comm r]; omega
        · rw [Nat.add_mul, Nat.add_mul, Nat.one_mul, Nat.mul_comm r]; omega
      rw [this]; ring
    · rw [if_neg h, hr]
      have : E / 2 ^ k.val = r := by
        refine Nat.div_eq_of_lt_le ?_ ?_
        · rw [Nat.mul_comm r]; omega
        · rw [Nat.add_mul, Nat.one_mul, Nat.mul_comm r]; omega
      rw [this]
  rw [hq]
  by_cases h : m + 2 ^ k.val ≤ E
  · rw [if_pos ((hE.2 _ hm2).2 h), if_pos h]
  · rw [if_neg (fun h' => h ((hE.2 _ hm2).1 h')), if_neg h]

/-- The whole search ends at the exponent. -/
theorem pay93_apply (T : FVec Ideal S8x128 .f32) (j : S8x128.Idx) (E : ℕ) (hE : IsExp (T j) E) : k0_pay93 T (u3 T) j = ew E := by
  have h0 : (broadcast S8x128 0#32 : IVec S8x128 32) j = ew (2 ^ 8 * (E / 2 ^ 8)) := by
    rw [Nat.div_eq_of_lt (by have := hE.1; omega)]; rfl
  have h7 := uStep_apply T j E hE 7 _ 1073741824#32 (by decide) h0
  have h6 := uStep_apply T j E hE 6 _ 536870912#32 (by decide) h7
  have h5 := uStep_apply T j E hE 5 _ 268435456#32 (by decide) h6
  have h4 := uStep_apply T j E hE 4 _ 134217728#32 (by decide) h5
  have h3 := uStep_apply T j E hE 3 _ 67108864#32 (by decide) h4
  have h2 := uStep_apply T j E hE 2 _ 33554432#32 (by decide) h3
  have h1 := uStep_apply T j E hE 1 _ 16777216#32 (by decide) h2
  have h := uStep_apply T j E hE 0 _ 8388608#32 (by decide) h1
  have e : k0_pay93 T (u3 T) = uStep T 8388608#32 (uStep T 16777216#32 (uStep T 33554432#32 (uStep T 67108864#32 (uStep T 134217728#32 (u3 T))))) := by
    generalize u3 T = u
    rfl
  rw [e]
  refine Eq.trans h ?_
  show ew (1 * (E / 1)) = ew E
  rw [Nat.div_one, Nat.one_mul]

/-- The word of the scale, and of its reciprocal, at exponent `E`. -/
def sclW (E : ℕ) : BitVec 32 := if E = 0 ∨ E = 255 then ew 127 else ew (E + 1)
def invW (E : ℕ) : BitVec 32 := if E = 0 ∨ E = 255 then ew 127 else ew (253 - E)

theorem sclW_bits : ∀ E : Fin 256, Scalar.select (IntOp.andi (IntOp.cmpi .ne (ew E.val) 0#32) (IntOp.cmpi .ne (ew E.val) 2139095040#32)) (IntOp.addi (ew E.val) 8388608#32) 1065353216#32 = sclW E.val := by
  decide +kernel
theorem invW_bits : ∀ E : Fin 256, Scalar.select (IntOp.andi (IntOp.cmpi .ne (ew E.val) 0#32) (IntOp.cmpi .ne (ew E.val) 2139095040#32)) (IntOp.maxsi (IntOp.subi 2122317824#32 (ew E.val)) 0#32) 1065353216#32 = invW E.val := by
  decide +kernel

theorem sclOf_apply (T : FVec Ideal S8x128 .f32) (j : S8x128.Idx) (E : ℕ) (hE : IsExp (T j) E) : sclOf T j = Ideal.ofBits .f32 (sclW E) := by
  rw [← sclW_bits ⟨E, hE.1⟩]
  show _ = Ideal.ofBits .f32 (Scalar.select (IntOp.andi (IntOp.cmpi .ne (ew E) 0#32) (IntOp.cmpi .ne (ew E) 2139095040#32)) (IntOp.addi (ew E) 8388608#32) 1065353216#32)
  rw [← pay93_apply T j E hE]
  unfold sclOf k0_pay95 k0_pay94
  generalize k0_pay93 T (u3 T) = u
  rfl

theorem invOf_apply (T : FVec Ideal S8x128 .f32) (j : S8x128.Idx) (E : ℕ) (hE : IsExp (T j) E) : invOf T j = Ideal.ofBits .f32 (invW E) := by
  rw [← invW_bits ⟨E, hE.1⟩]
  show _ = Ideal.ofBits .f32 (Scalar.select (IntOp.andi (IntOp.cmpi .ne (ew E) 0#32) (IntOp.cmpi .ne (ew E) 2139095040#32)) (IntOp.maxsi (IntOp.subi 2122317824#32 (ew E)) 0#32) 1065353216#32)
  rw [← pay93_apply T j E hE]
  unfold invOf k0_pay96 k0_pay94
  generalize k0_pay93 T (u3 T) = u
  rfl

end Cert.KernelIdeal.Hand

end

end
-- ==== Proof.Value.Lanes.lean ====
/-
Carrying a group's rows into lanes and its lanes back into rows.
-/
module

public import proofs.«01_k».proof.Proof.Value.Canon

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.Sem
open Idealize.ShloMosaic.ValueIdx

variable {F : FTy → Type} [FloatOps F]

/-- Row `l / 16` of a group's block, at column `4 (l mod 16) + s mod 4`. -/
abbrev rowOf (l : Fin 128) : Fin 8 := ⟨l.val / 16, by omega⟩
abbrev colOf (s : Fin 8) (l : Fin 128) : Fin 64 := ⟨4 * (l.val % 16) + s.val % 4, by omega⟩

theorem gather1_apply {α : Type} (v : S8x128.Idx → α) (x : IVec S8x128 32) (s : Fin 8) (l : Fin 128) (n : ℕ) (hn : n < 128) (h : x (ix2 s l) = BitVec.ofNat 32 n) :
    dynamicGather (s := S8x128) 1 v x (ix2 s l) = v (ix2 s ⟨n, hn⟩) := by
  unfold dynamicGather
  congr 1
  funext a
  fin_cases a
  · rfl
  · apply Fin.ext
    show (x (ix2 s l)).toNat % 128 = n
    rw [h, BitVec.toNat_ofNat, Nat.mod_eq_of_lt (a := n) (by omega), Nat.mod_eq_of_lt hn]

theorem gather0_apply {α : Type} (v : S8x128.Idx → α) (x : IVec S8x128 32) (s : Fin 8) (l : Fin 128) (n : ℕ) (hn : n < 8) (h : x (ix2 s l) = BitVec.ofNat 32 n) :
    dynamicGather (s := S8x128) 0 v x (ix2 s l) = v (ix2 ⟨n, hn⟩ l) := by
  unfold dynamicGather
  congr 1
  funext a
  fin_cases a
  · apply Fin.ext
    show (x (ix2 s l)).toNat % 8 = n
    rw [h, BitVec.toNat_ofNat, Nat.mod_eq_of_lt (a := n) (by omega), Nat.mod_eq_of_lt hn]
  · rfl

theorem select_one {α : Type} (c : IVec S8x128 1) (a b : S8x128.Idx → α) (i : S8x128.Idx) (p : Prop) [Decidable p] (h : c i = if p then 1#1 else 0#1) :
    select c a b i = if p then a i else b i := by
  show Scalar.select (c i) (a i) (b i) = _
  rw [h]
  by_cases hp : p
  · rw [if_pos hp, if_pos hp]; rfl
  · rw [if_neg hp, if_neg hp]; rfl

/-- Four gathers, one for each column modulo 4, chosen by the row modulo 4. -/
theorem r2l_apply {α : Type} (v0 v1 v2 v3 : S8x128.Idx → α) (c1 c2 c3 : IVec S8x128 1) (i0 i1 i2 i3 a0 a1 a2 a3 : IVec S8x128 32)
    (hA : S8x128.ShapeCasts S8x128x1) (hB : S8x128x1.ShapeCasts S8x128) (h1 : v1 = v0) (h2 : v2 = v0) (h3 : v3 = v0)
    (hc1 : ∀ (s : Fin 8) (l : Fin 128), c1 (ix2 s l) = if s.val % 4 = 1 then 1#1 else 0#1)
    (hc2 : ∀ (s : Fin 8) (l : Fin 128), c2 (ix2 s l) = if s.val % 4 = 2 then 1#1 else 0#1)
    (hc3 : ∀ (s : Fin 8) (l : Fin 128), c3 (ix2 s l) = if s.val % 4 = 3 then 1#1 else 0#1)
    (hi0 : ∀ (s : Fin 8) (l : Fin 128), i0 (ix2 s l) = BitVec.ofNat 32 (4 * (l.val % 16)))
    (hi1 : ∀ (s : Fin 8) (l : Fin 128), i1 (ix2 s l) = BitVec.ofNat 32 (4 * (l.val % 16) + 1))
    (hi2 : ∀ (s : Fin 8) (l : Fin 128), i2 (ix2 s l) = BitVec.ofNat 32 (4 * (l.val % 16) + 2))
    (hi3 : ∀ (s : Fin 8) (l : Fin 128), i3 (ix2 s l) = BitVec.ofNat 32 (4 * (l.val % 16) + 3))
    (ha0 : ∀ (s : Fin 8) (l : Fin 128), a0 (ix2 s l) = BitVec.ofNat 32 (l.val / 16))
    (ha1 : ∀ (s : Fin 8) (l : Fin 128), a1 (ix2 s l) = BitVec.ofNat 32 (l.val / 16))
    (ha2 : ∀ (s : Fin 8) (l : Fin 128), a2 (ix2 s l) = BitVec.ofNat 32 (l.val / 16))
    (ha3 : ∀ (s : Fin 8) (l : Fin 128), a3 (ix2 s l) = BitVec.ofNat 32 (l.val / 16))
    (s : Fin 8) (l : Fin 128) :
    select c3 (dynamicGather (s := S8x128) 0 (dynamicGather (s := S8x128) 1 v3 (shapeCast S8x128 (shapeCast S8x128x1 i3 hA) hB)) (shapeCast S8x128 (shapeCast S8x128x1 a3 hA) hB))
      (select c2 (dynamicGather (s := S8x128) 0 (dynamicGather (s := S8x128) 1 v2 (shapeCast S8x128 (shapeCast S8x128x1 i2 hA) hB)) (shapeCast S8x128 (shapeCast S8x128x1 a2 hA) hB))
        (select c1 (dynamicGather (s := S8x128) 0 (dynamicGather (s := S8x128) 1 v1 (shapeCast S8x128 (shapeCast S8x128x1 i1 hA) hB)) (shapeCast S8x128 (shapeCast S8x128x1 a1 hA) hB)) (dynamicGather (s := S8x128) 0 (dynamicGather (s := S8x128) 1 v0 (shapeCast S8x128 (shapeCast S8x128x1 i0 hA) hB)) (shapeCast S8x128 (shapeCast S8x128x1 a0 hA) hB)))) (ix2 s l)
      = v0 (ix2 (rowOf l) ⟨(colOf s l).val, by have := (colOf s l).isLt; omega⟩) := by
  subst h1 h2 h3
  simp only [shapeCast_shapeCast]
  rw [select_one _ _ _ _ _ (hc3 s l), select_one _ _ _ _ _ (hc2 s l), select_one _ _ _ _ _ (hc1 s l)]
  rw [gather0_apply _ _ s l (l.val / 16) (by omega) (ha3 s l), gather0_apply _ _ s l (l.val / 16) (by omega) (ha2 s l),
    gather0_apply _ _ s l (l.val / 16) (by omega) (ha1 s l), gather0_apply _ _ s l (l.val / 16) (by omega) (ha0 s l)]
  rw [gather1_apply _ _ _ l (4 * (l.val % 16) + 3) (by omega) (hi3 _ l), gather1_apply _ _ _ l (4 * (l.val % 16) + 2) (by omega) (hi2 _ l),
    gather1_apply _ _ _ l (4 * (l.val % 16) + 1) (by omega) (hi1 _ l), gather1_apply _ _ _ l (4 * (l.val % 16)) (by omega) (hi0 _ l)]
  have h4 : s.val % 4 < 4 := Nat.mod_lt _ (by decide)
  by_cases e3 : s.val % 4 = 3
  · rw [if_pos e3]; congr 2; apply Fin.ext; show 4 * (l.val % 16) + 3 = 4 * (l.val % 16) + s.val % 4; omega
  rw [if_neg e3]
  by_cases e2 : s.val % 4 = 2
  · rw [if_pos e2]; congr 2; apply Fin.ext; show 4 * (l.val % 16) + 2 = 4 * (l.val % 16) + s.val % 4; omega
  rw [if_neg e2]
  by_cases e1 : s.val % 4 = 1
  · rw [if_pos e1]; congr 2; apply Fin.ext; show 4 * (l.val % 16) + 1 = 4 * (l.val % 16) + s.val % 4; omega
  · rw [if_neg e1]; congr 2; apply Fin.ext; show 4 * (l.val % 16) = 4 * (l.val % 16) + s.val % 4; omega

/-- A row block widened by zeros, read in its own columns. -/
theorem pad_apply {α : Type} (g : ℕ) (v : S24x64.Idx → α) (z : S8x64.Idx → α) (h : S24x64.Slices ![g, 0] S8x64) (h' : Shape.Concatenates [S8x64, S8x64] S8x128 1)
    (s : Fin 8) (l : Fin 64) (hg : g + 8 ≤ 24) :
    concatenate S8x128 1 [⟨S8x64, extractStridedSlice S8x64 ![g, 0] v h⟩, ⟨S8x64, z⟩] h' (ix2 s ⟨l.val, by omega⟩) = v (ix2 (⟨g + s.val, by omega⟩ : Fin 24) l) := by
  rw [concatenate_pair_apply_left (t := S8x128) 1 _ _ h' (ix2 s ⟨l.val, by omega⟩) rfl (ix2 s l) (by intro b; fin_cases b <;> rfl)]
  refine extractStridedSlice_apply _ _ _ _ _ ?_
  intro a
  fin_cases a
  · rfl
  · show l.val = 0 + l.val
    omega

/-- Four gathers back, one for each pair of rows, chosen by the row halved. -/
theorem l2r_apply {α : Type} (v : S8x128.Idx → α) (c1 c2 c3 : IVec S8x128 1) (i0 i1 i2 i3 a : IVec S8x128 32)
    (hA : S8x128.ShapeCasts S8x128x1) (hB : S8x128x1.ShapeCasts S8x128)
    (hc1 : ∀ (s : Fin 8) (l : Fin 128), c1 (ix2 s l) = if s.val / 2 = 1 then 1#1 else 0#1)
    (hc2 : ∀ (s : Fin 8) (l : Fin 128), c2 (ix2 s l) = if s.val / 2 = 2 then 1#1 else 0#1)
    (hc3 : ∀ (s : Fin 8) (l : Fin 128), c3 (ix2 s l) = if s.val / 2 = 3 then 1#1 else 0#1)
    (hi0 : ∀ (s : Fin 8) (l : Fin 128), i0 (ix2 s l) = BitVec.ofNat 32 (16 * (s.val / 4) + (l.val % 64) / 4))
    (hi1 : ∀ (s : Fin 8) (l : Fin 128), i1 (ix2 s l) = BitVec.ofNat 32 (16 * (2 + s.val / 4) + (l.val % 64) / 4))
    (hi2 : ∀ (s : Fin 8) (l : Fin 128), i2 (ix2 s l) = BitVec.ofNat 32 (16 * (4 + s.val / 4) + (l.val % 64) / 4))
    (hi3 : ∀ (s : Fin 8) (l : Fin 128), i3 (ix2 s l) = BitVec.ofNat 32 (16 * (6 + s.val / 4) + (l.val % 64) / 4))
    (ha : ∀ (s : Fin 8) (l : Fin 128), a (ix2 s l) = BitVec.ofNat 32 (s.val % 2 * 4 + l.val % 4))
    (h : S8x128.Slices ![0, 0] S8x64) (h' : S8x64.ShapeCasts S1x8x64) (s : Fin 8) (l : Fin 64) :
    shapeCast S1x8x64 (extractStridedSlice S8x64 ![0, 0] (select c3 (dynamicGather (s := S8x128) 0 (dynamicGather (s := S8x128) 1 v (shapeCast S8x128 (shapeCast S8x128x1 i3 hA) hB)) (shapeCast S8x128 (shapeCast S8x128x1 a hA) hB))
      (select c2 (dynamicGather (s := S8x128) 0 (dynamicGather (s := S8x128) 1 v (shapeCast S8x128 (shapeCast S8x128x1 i2 hA) hB)) (shapeCast S8x128 (shapeCast S8x128x1 a hA) hB))
        (select c1 (dynamicGather (s := S8x128) 0 (dynamicGather (s := S8x128) 1 v (shapeCast S8x128 (shapeCast S8x128x1 i1 hA) hB)) (shapeCast S8x128 (shapeCast S8x128x1 a hA) hB)) (dynamicGather (s := S8x128) 0 (dynamicGather (s := S8x128) 1 v (shapeCast S8x128 (shapeCast S8x128x1 i0 hA) hB)) (shapeCast S8x128 (shapeCast S8x128x1 a hA) hB))))) h) h' (ix3 (0 : Fin 1) s l)
      = v (ix2 (⟨s.val % 2 * 4 + l.val % 4, by omega⟩ : Fin 8) (⟨16 * s.val + l.val / 4, by omega⟩ : Fin 128)) := by
  simp only [shapeCast_shapeCast]
  rw [shapeCast_apply (s := S8x64) (t := S1x8x64) _ h' (ix3 (0 : Fin 1) s l) (ix2 s l) (by
    rw [Shape.rowMajor_val_two, Shape.rowMajor_val_three]; show s.val * 64 + l.val = (0 * 8 + s.val) * 64 + l.val; omega)]
  obtain ⟨L, hLv⟩ : ∃ L : Fin 128, L.val = l.val := ⟨⟨l.val, by omega⟩, rfl⟩
  rw [extractStridedSlice_apply (s := S8x128) (t := S8x64) _ _ h (ix2 s l) (ix2 s L) (by
    intro b
    fin_cases b
    · show s.val = 0 + s.val
      omega
    · show L.val = 0 + l.val
      omega)]
  rw [select_one _ _ _ _ _ (hc3 s L), select_one _ _ _ _ _ (hc2 s L), select_one _ _ _ _ _ (hc1 s L)]
  have b4 : s.val % 2 * 4 + L.val % 4 < 8 := by omega
  rw [gather0_apply _ _ s L _ b4 (ha s L), gather0_apply _ _ s L _ b4 (ha s L), gather0_apply _ _ s L _ b4 (ha s L), gather0_apply _ _ s L _ b4 (ha s L)]
  rw [gather1_apply _ _ _ L _ (by have := L.isLt; dsimp only; omega) (hi3 _ L), gather1_apply _ _ _ L _ (by have := L.isLt; dsimp only; omega) (hi2 _ L),
    gather1_apply _ _ _ L _ (by have := L.isLt; dsimp only; omega) (hi1 _ L), gather1_apply _ _ _ L _ (by have := L.isLt; dsimp only; omega) (hi0 _ L)]
  have h4 : s.val / 2 < 4 := by omega
  have key : ∀ (T : ℕ) (hT : s.val / 2 = T) (x : Fin 8) (y : Fin 128) (hx : x.val = s.val % 2 * 4 + L.val % 4) (hy : y.val = 16 * (2 * T + (s.val % 2 * 4 + L.val % 4) / 4) + (L.val % 64) / 4),
      v (ix2 x y) = v (ix2 (⟨s.val % 2 * 4 + l.val % 4, by omega⟩ : Fin 8) (⟨16 * s.val + l.val / 4, by omega⟩ : Fin 128)) := by
    intro T hT x y hx hy
    have ex : x = (⟨s.val % 2 * 4 + l.val % 4, by omega⟩ : Fin 8) := Fin.ext (by rw [hx, hLv])
    have ey : y = (⟨16 * s.val + l.val / 4, by omega⟩ : Fin 128) := Fin.ext (by show y.val = 16 * s.val + l.val / 4; have := l.isLt; omega)
    exact congrArg v (congrArg₂ ix2 ex ey)
  by_cases e3 : s.val / 2 = 3
  · rw [if_pos e3]; exact key 3 e3 _ _ rfl (by first | rfl | omega | (dsimp only; omega))
  rw [if_neg e3]
  by_cases e2 : s.val / 2 = 2
  · rw [if_pos e2]; exact key 2 e2 _ _ rfl (by first | rfl | omega | (dsimp only; omega))
  rw [if_neg e2]
  by_cases e1 : s.val / 2 = 1
  · rw [if_pos e1]; exact key 1 e1 _ _ rfl (by first | rfl | omega | (dsimp only; omega))
  · rw [if_neg e1]; exact key 0 (by omega) _ _ rfl (by first | rfl | omega | (dsimp only; omega))

end Cert.KernelIdeal.Hand

end

end
-- ==== Proof.Value.Point.lean ====
/-
One group of eight heads, entry by entry over the extended reals: what the largest magnitude, the codes and the scale are
in terms of the new state of each head, row and column.
-/
module

public import proofs.«01_k».proof.Proof.Value.Exp
public import proofs.«01_k».proof.Proof.Value.Lanes
public import Idealize.ShloMosaic.Lib.KernelVsHost
public import Idealize.ShloMosaic.PureOps.Ideal.Laws

@[expose] public section

set_option maxRecDepth 16384

noncomputable section

namespace Cert.KernelIdeal.Hand

open Cert.KernelIdeal Cert.KernelIdeal.Gen
open Idealize.ShloMosaic Idealize.ShloMosaic.TcCoe
open Idealize.ShloMosaic.ValueIdx

/-! ### The quantiser -/

/-- The largest magnitude among 128 numbers, at least zero. -/
def amaxS (H : Fin 128 → EReal) : EReal := (Finset.univ : Finset (Fin 128)).fold max 0 fun n => max (H n) (-(H n))

theorem amaxS_le (H : Fin 128 → EReal) (y : EReal) : amaxS H ≤ y ↔ 0 ≤ y ∧ ∀ n, max (H n) (-(H n)) ≤ y := by
  unfold amaxS
  rw [Finset.fold_max_le]
  exact and_congr_right fun _ => ⟨fun h n => h n (Finset.mem_univ n), fun h n _ => h n⟩

theorem amaxS_nonneg (H : Fin 128 → EReal) : 0 ≤ amaxS H := ((amaxS_le H _).1 le_rfl).1

/-- The largest magnitude divided by 448. -/
def tS (H : Fin 128 → EReal) : EReal := amaxS H * Ideal.ofBits .f32 0x3B124925#32

theorem ofBits_c448 : (0 : EReal) ≤ Ideal.ofBits .f32 0x3B124925#32 := by
  show (0 : EReal) ≤ Ideal.ieee 8 23 0x3B124925#32
  unfold Ideal.ieee
  have h1 : (0x3B124925#32 : BitVec 32).extractLsb' (8 + 23) 1 = 0#1 := by decide
  have h2 : ((0x3B124925#32 : BitVec 32).extractLsb' 23 8).toNat = 118 := by decide
  have h3 : ((0x3B124925#32 : BitVec 32).extractLsb' 0 23).toNat = 1198373 := by decide
  simp only [h1, h2, h3]
  norm_num

theorem tS_nonneg (H : Fin 128 → EReal) : 0 ≤ tS H := mul_nonneg (amaxS_nonneg H) ofBits_c448

/-- The exponent chosen for a bound `t`. -/
def expS (t : EReal) : ℕ := open Classical in if h : ∃ E, IsExp t E then h.choose else 0

theorem isExp_expS (t : EReal) (h : 0 ≤ t) : IsExp t (expS t) := by
  unfold expS
  rw [dif_pos (exists_exp t h)]
  exact (exists_exp t h).choose_spec

/-- The scale of a row `H`. -/
def sclS (H : Fin 128 → EReal) : EReal := Ideal.ofBits .f32 (sclW (expS (tS H)))
/-- The reciprocal of the scale of a row `H`. -/
def invS (H : Fin 128 → EReal) : EReal := Ideal.ofBits .f32 (invW (expS (tS H)))
/-- The code of column `n` of a row `H`. -/
def codeS (H : Fin 128 → EReal) (n : Fin 128) : EReal :=
  min (Ideal.ofBits .f32 0x43E00000#32) (max (Ideal.ofBits .f32 0xC3E00000#32) (H n * invS H))

/-! ### Reading the arrangement -/

theorem pay49_apply (w : Vec Ideal S1x1x8x64x128 .fp8e4m3) (R : Fin 512) (l : Fin 128) :
    k0_pay49 w (ix3 (0 : Fin 1) R l) = w (ix5 (0 : Fin 1) (0 : Fin 1) (⟨l.val / 16, by omega⟩ : Fin 8) (⟨4 * (l.val % 16) + R.val % 4, by omega⟩ : Fin 64) (⟨R.val / 4, by omega⟩ : Fin 128)) := by
  show shapeCast S1x512x128 (shapeCast S512x128 (transpose S128x4x128 [2, 1, 0] (shapeCast S128x4x128 (shapeCast S512x128 (shapeCast S8x64x128 w shapeCasts_S1x1x8x64x128_S8x64x128) shapeCasts_S8x64x128_S512x128) shapeCasts_S512x128_S128x4x128) transposes_S128x4x128_p2_1_0_S128x4x128) shapeCasts_S128x4x128_S512x128) shapeCasts_S512x128_S1x512x128 _ = _
  rw [shapeCast_apply _ _ _ (ix2 R l) (by rw [Shape.rowMajor_val_two, Shape.rowMajor_val_three]; show R.val * 128 + l.val = (0 * 512 + R.val) * 128 + l.val; omega)]
  rw [shapeCast_apply _ _ _ (ix3 (⟨R.val / 4, by omega⟩ : Fin 128) (⟨R.val % 4, by omega⟩ : Fin 4) l) (by rw [Shape.rowMajor_val_two, Shape.rowMajor_val_three]; show (R.val / 4 * 4 + R.val % 4) * 128 + l.val = R.val * 128 + l.val; omega)]
  rw [transpose_apply _ _ _ _ (ix3 l (⟨R.val % 4, by omega⟩ : Fin 4) (⟨R.val / 4, by omega⟩ : Fin 128)) (by intro b; fin_cases b <;> rfl)]
  rw [shapeCast_apply _ _ _ (ix2 (⟨4 * l.val + R.val % 4, by omega⟩ : Fin 512) (⟨R.val / 4, by omega⟩ : Fin 128)) (by rw [Shape.rowMajor_val_two, Shape.rowMajor_val_three]; show (4 * l.val + R.val % 4) * 128 + R.val / 4 = (l.val * 4 + R.val % 4) * 128 + R.val / 4; omega)]
  rw [shapeCast_apply _ _ _ (ix3 (⟨l.val / 16, by omega⟩ : Fin 8) (⟨4 * (l.val % 16) + R.val % 4, by omega⟩ : Fin 64) (⟨R.val / 4, by omega⟩ : Fin 128)) (by rw [Shape.rowMajor_val_two, Shape.rowMajor_val_three]; show (l.val / 16 * 64 + (4 * (l.val % 16) + R.val % 4)) * 128 + R.val / 4 = (4 * l.val + R.val % 4) * 128 + R.val / 4; omega)]
  rw [shapeCast_apply _ _ _ (ix5 (0 : Fin 1) (0 : Fin 1) (⟨l.val / 16, by omega⟩ : Fin 8) (⟨4 * (l.val % 16) + R.val % 4, by omega⟩ : Fin 64) (⟨R.val / 4, by omega⟩ : Fin 128)) (by rw [Shape.rowMajor_val_five, Shape.rowMajor_val_three]; show (((0 * 1 + 0) * 8 + l.val / 16) * 64 + (4 * (l.val % 16) + R.val % 4)) * 128 + R.val / 4 = (l.val / 16 * 64 + (4 * (l.val % 16) + R.val % 4)) * 128 + R.val / 4; omega)]

/-- A row vector spread over the four rows of a block. -/
theorem spread_apply {α : Type} (v : S8x128.Idx → α) (a : Fin 4) (s : Fin 8) (l : Fin 128) :
    broadcastTo S4x8x128 (shapeCast S1x8x128 v shapeCasts_S8x128_S1x8x128) broadcasts_S1x8x128_S4x8x128 (ix3 a s l) = v (ix2 s l) := by
  rw [broadcastTo_apply _ _ _ (ix3 (0 : Fin 1) s l) (by intro b; fin_cases b <;> rfl)]
  exact shapeCast_apply _ _ _ _ (by rw [Shape.rowMajor_val_two, Shape.rowMajor_val_three]; show s.val * 128 + l.val = (0 * 8 + s.val) * 128 + l.val; omega)

theorem cast32_apply {α : Type} (v : S32x128.Idx → α) (a : Fin 4) (s : Fin 8) (l : Fin 128) :
    shapeCast S4x8x128 v shapeCasts_S32x128_S4x8x128 (ix3 a s l) = v (ix2 (⟨8 * a.val + s.val, by omega⟩ : Fin 32) l) :=
  shapeCast_apply _ _ _ _ (by rw [Shape.rowMajor_val_two, Shape.rowMajor_val_three]; show (8 * a.val + s.val) * 128 + l.val = (a.val * 8 + s.val) * 128 + l.val; omega)

theorem uncast32_apply {α : Type} (v : S4x8x128.Idx → α) (r : Fin 32) (l : Fin 128) :
    shapeCast S32x128 v shapeCasts_S4x8x128_S32x128 (ix2 r l) = v (ix3 (⟨r.val / 8, by omega⟩ : Fin 4) (⟨r.val % 8, by omega⟩ : Fin 8) l) :=
  shapeCast_apply _ _ _ _ (by rw [Shape.rowMajor_val_two, Shape.rowMajor_val_three]; show (r.val / 8 * 8 + r.val % 8) * 128 + l.val = r.val * 128 + l.val; omega)

theorem lead32_apply {α : Type} (v : S1x32x128.Idx → α) (r : Fin 32) (l : Fin 128) :
    shapeCast S32x128 v shapeCasts_S1x32x128_S32x128 (ix2 r l) = v (ix3 (0 : Fin 1) r l) :=
  shapeCast_apply _ _ _ _ (by rw [Shape.rowMajor_val_two, Shape.rowMajor_val_three]; show (0 * 32 + r.val) * 128 + l.val = r.val * 128 + l.val; omega)

theorem unlead32_apply {α : Type} (v : S32x128.Idx → α) (r : Fin 32) (l : Fin 128) :
    shapeCast S1x32x128 v shapeCasts_S32x128_S1x32x128 (ix3 (0 : Fin 1) r l) = v (ix2 r l) :=
  shapeCast_apply _ _ _ _ (by rw [Shape.rowMajor_val_two, Shape.rowMajor_val_three]; show r.val * 128 + l.val = (0 * 32 + r.val) * 128 + l.val; omega)

section Group

variable (s8 xp8 : FVec Ideal S8x128 .f32) (w : Vec Ideal S1x1x8x64x128 .fp8e4m3) (bp : Vec Ideal S512x128 .f32)
variable (S X : Fin 8 → Fin 64 → EReal) (B : Fin 128 → EReal)

/-- The new state of one head, row and column: the decayed old state plus the input. -/
def newH (h : Fin 8) (p : Fin 64) (n : Fin 128) : EReal := w (ix5 (0 : Fin 1) (0 : Fin 1) h p n) * S h p + X h p * B n

/-- Which head and row of the group sublane `s` and lane `l` hold. -/
abbrev hOf (l : Fin 128) : Fin 8 := ⟨l.val / 16, by omega⟩
abbrev pOf (s : Fin 8) (l : Fin 128) : Fin 64 := ⟨4 * (l.val % 16) + s.val % 4, by omega⟩

variable (hS : ∀ (s : Fin 8) (l : Fin 128), s8 (ix2 s l) = S (hOf l) (pOf s l)) (hX : ∀ (s : Fin 8) (l : Fin 128), xp8 (ix2 s l) = X (hOf l) (pOf s l))
variable (hB : ∀ (R : Fin 512) (l : Fin 128), bp (ix2 R l) = B (⟨R.val / 4, by omega⟩ : Fin 128))
include hS hX hB

theorem hq_apply (q : Fin 16) (a : Fin 4) (s : Fin 8) (l : Fin 128) :
    hq s8 xp8 w bp q.val (ix3 a s l) = newH w S X B (hOf l) (pOf s l) (⟨8 * q.val + 2 * a.val + s.val / 4, by omega⟩ : Fin 128) := by
  have hR : (32 * q.val + (8 * a.val + s.val)) % 512 = 32 * q.val + (8 * a.val + s.val) := Nat.mod_eq_of_lt (by omega)
  have e1 : ctOf w q.val (ix3 (0 : Fin 1) (⟨8 * a.val + s.val, by omega⟩ : Fin 32) l) = w (ix5 (0 : Fin 1) (0 : Fin 1) (hOf l) (pOf s l) (⟨8 * q.val + 2 * a.val + s.val / 4, by omega⟩ : Fin 128)) := by
    refine (pay49_apply w _ l).trans (congrArg w ?_)
    refine congrArg₂ (fun (x : Fin 64) (y : Fin 128) => ix5 (0 : Fin 1) (0 : Fin 1) (hOf l) x y) (Fin.ext ?_) (Fin.ext ?_)
    · show 4 * (l.val % 16) + (32 * q.val + (8 * a.val + s.val)) % 512 % 4 = 4 * (l.val % 16) + s.val % 4
      omega
    · show (32 * q.val + (8 * a.val + s.val)) % 512 / 4 = 8 * q.val + 2 * a.val + s.val / 4
      omega
  have e2 : bqOf bp q.val (ix2 (⟨8 * a.val + s.val, by omega⟩ : Fin 32) l) = B (⟨8 * q.val + 2 * a.val + s.val / 4, by omega⟩ : Fin 128) := by
    refine (hB _ l).trans (congrArg B (Fin.ext ?_))
    show (32 * q.val + (8 * a.val + s.val)) % 512 / 4 = 8 * q.val + 2 * a.val + s.val / 4
    omega
  show shapeCast S4x8x128 (shapeCast S32x128 (ctOf w q.val) shapeCasts_S1x32x128_S32x128) shapeCasts_S32x128_S4x8x128 (ix3 a s l) * broadcastTo S4x8x128 (shapeCast S1x8x128 s8 shapeCasts_S8x128_S1x8x128) broadcasts_S1x8x128_S4x8x128 (ix3 a s l) + broadcastTo S4x8x128 (shapeCast S1x8x128 xp8 shapeCasts_S8x128_S1x8x128) broadcasts_S1x8x128_S4x8x128 (ix3 a s l) * shapeCast S4x8x128 (bqOf bp q.val) shapeCasts_S32x128_S4x8x128 (ix3 a s l) = _
  rw [spread_apply, spread_apply, cast32_apply, cast32_apply, lead32_apply, e1, e2, hS, hX]
  rfl

theorem mAll_le (k : ℕ) (hk : k ≤ 16) (s : Fin 8) (l : Fin 128) (y : EReal) :
    mAll (hq s8 xp8 w bp) k (ix2 s l) ≤ y ↔ 0 ≤ y ∧ ∀ (q : Fin 16) (a : Fin 4), q.val < k →
      max (newH w S X B (hOf l) (pOf s l) (⟨8 * q.val + 2 * a.val + s.val / 4, by omega⟩ : Fin 128)) (-(newH w S X B (hOf l) (pOf s l) (⟨8 * q.val + 2 * a.val + s.val / 4, by omega⟩ : Fin 128))) ≤ y := by
  induction k with
  | zero =>
    have : mAll (hq s8 xp8 w bp) 0 (ix2 s l) = (0 : EReal) := ef_zero
    rw [this]
    exact ⟨fun h => ⟨h, fun q a hq => absurd hq (Nat.not_lt_zero _)⟩, fun h => h.1⟩
  | succ k ih =>
    have hmr : multiReduction .maximumf [0] S8x128 (absf (hq s8 xp8 w bp k)) 0xFF800000#32 reduces_S4x8x128_S8x128 (.inl rfl) rfl (ix2 s l) ≤ y
        ↔ ∀ a : Fin 4, max (newH w S X B (hOf l) (pOf s l) (⟨8 * k + 2 * a.val + s.val / 4, by omega⟩ : Fin 128)) (-(newH w S X B (hOf l) (pOf s l) (⟨8 * k + 2 * a.val + s.val / 4, by omega⟩ : Fin 128))) ≤ y := by
      refine (iff_of_eq (congrArg (· ≤ y) (Ideal.multiReduction_maximumf_single (absf (hq s8 xp8 w bp k)) 0xFF800000#32 reduces_S4x8x128_S8x128 (.inl rfl) rfl (ix2 s l)))).trans ?_
      rw [Finset.fold_max_le]
      have hb : (FloatOps.ofBits (F := Ideal) .f32 0xFF800000#32 : EReal) = ⊥ := by
        show Ideal.ieee 8 23 0xFF800000#32 = ⊥
        unfold Ideal.ieee
        simp
      have hl : ∀ a : Fin 4, reduces_S4x8x128_S8x128.lift (ix2 s l) a = ix3 a s l := by
        intro a; funext b; apply Fin.ext; fin_cases b <;> rfl
      have hv : ∀ a : Fin 4, (absf (hq s8 xp8 w bp k) ∘ reduces_S4x8x128_S8x128.lift (ix2 s l)) a = max (newH w S X B (hOf l) (pOf s l) (⟨8 * k + 2 * a.val + s.val / 4, by omega⟩ : Fin 128)) (-(newH w S X B (hOf l) (pOf s l) (⟨8 * k + 2 * a.val + s.val / 4, by omega⟩ : Fin 128))) := by
        intro a
        refine Eq.trans (congrArg (absf (hq s8 xp8 w bp k)) (hl a)) ?_
        show max (hq s8 xp8 w bp k (ix3 a s l)) (-(hq s8 xp8 w bp k (ix3 a s l))) = _
        rw [hq_apply s8 xp8 w bp S X B hS hX hB (⟨k, by omega⟩ : Fin 16) a s l]
      rw [hb]
      exact ⟨fun h a => (hv a) ▸ h.2 a (Finset.mem_univ _), fun h => ⟨bot_le, fun a _ => (hv a).symm ▸ h a⟩⟩
    show max (mAll (hq s8 xp8 w bp) k (ix2 s l)) (multiReduction .maximumf [0] S8x128 (absf (hq s8 xp8 w bp k)) 0xFF800000#32 reduces_S4x8x128_S8x128 (.inl rfl) rfl (ix2 s l)) ≤ y ↔ _
    rw [max_le_iff, ih (by omega), hmr]
    constructor
    · rintro ⟨⟨h0, h1⟩, h2⟩
      refine ⟨h0, fun q a hq => ?_⟩
      rcases Nat.lt_or_ge q.val k with h | h
      · exact h1 q a h
      · have e : q.val = k := by omega
        have := h2 a
        simpa only [e] using this
    · rintro ⟨h0, h1⟩
      exact ⟨⟨h0, fun q a hq => h1 q a (by omega)⟩, fun a => h1 (⟨k, by omega⟩ : Fin 16) a (Nat.lt_succ_self k)⟩

theorem tOf_apply (s : Fin 8) (l : Fin 128) : tOf (mAll (hq s8 xp8 w bp) 16) (ix2 s l) = tS (newH w S X B (hOf l) (pOf s l)) := by
  show max (mAll (hq s8 xp8 w bp) 16 (ix2 s l)) (dynamicRotate 0 4#32 none (mAll (hq s8 xp8 w bp) 16) rotates_S8x128_d0 (ix2 s l)) * Ideal.ofBits .f32 0x3B124925#32 = _
  rw [dynamicRotate_apply _ _ _ _ _ (ix2 (⟨(s.val + 4) % 8, Nat.mod_lt _ (by decide)⟩ : Fin 8) l) (by
    intro b
    fin_cases b
    · show (s.val + 4) % 8 = (s.val + 8 - 4 % 8) % 8
      omega
    · rfl)]
  unfold tS
  congr 1
  refine eq_of_forall_ge_iff fun y => ?_
  have hp : pOf (⟨(s.val + 4) % 8, Nat.mod_lt _ (by decide)⟩ : Fin 8) l = pOf s l := Fin.ext (by show 4 * (l.val % 16) + (s.val + 4) % 8 % 4 = 4 * (l.val % 16) + s.val % 4; omega)
  rw [max_le_iff, mAll_le s8 xp8 w bp S X B hS hX hB 16 le_rfl, mAll_le s8 xp8 w bp S X B hS hX hB 16 le_rfl, amaxS_le, hp]
  constructor
  · rintro ⟨⟨h0, h1⟩, ⟨_, h2⟩⟩
    refine ⟨h0, fun n => ?_⟩
    by_cases hn : n.val % 2 = s.val / 4
    · have := h1 (⟨n.val / 8, by omega⟩ : Fin 16) (⟨n.val % 8 / 2, by omega⟩ : Fin 4) (by show n.val / 8 < 16; omega)
      have e : (⟨8 * (n.val / 8) + 2 * (n.val % 8 / 2) + s.val / 4, by omega⟩ : Fin 128) = n := Fin.ext (by show 8 * (n.val / 8) + 2 * (n.val % 8 / 2) + s.val / 4 = n.val; omega)
      simp only [e] at this
      exact this
    · have := h2 (⟨n.val / 8, by omega⟩ : Fin 16) (⟨n.val % 8 / 2, by omega⟩ : Fin 4) (by show n.val / 8 < 16; omega)
      have e : (⟨8 * (n.val / 8) + 2 * (n.val % 8 / 2) + (s.val + 4) % 8 / 4, by omega⟩ : Fin 128) = n := Fin.ext (by show 8 * (n.val / 8) + 2 * (n.val % 8 / 2) + (s.val + 4) % 8 / 4 = n.val; omega)
      simp only [e] at this
      exact this
  · rintro ⟨h0, h1⟩
    exact ⟨⟨h0, fun q a _ => h1 _⟩, ⟨h0, fun q a _ => h1 _⟩⟩

theorem scl_apply (s : Fin 8) (l : Fin 128) : sclOf (tOf (mAll (hq s8 xp8 w bp) 16)) (ix2 s l) = sclS (newH w S X B (hOf l) (pOf s l)) := by
  rw [sclOf_apply _ _ (expS (tS (newH w S X B (hOf l) (pOf s l)))) (by rw [tOf_apply s8 xp8 w bp S X B hS hX hB]; exact isExp_expS _ (tS_nonneg _))]
  rfl

theorem inv_apply (s : Fin 8) (l : Fin 128) : invOf (tOf (mAll (hq s8 xp8 w bp) 16)) (ix2 s l) = invS (newH w S X B (hOf l) (pOf s l)) := by
  rw [invOf_apply _ _ (expS (tS (newH w S X B (hOf l) (pOf s l)))) (by rw [tOf_apply s8 xp8 w bp S X B hS hX hB]; exact isExp_expS _ (tS_nonneg _))]
  rfl

theorem pay99_apply (q : Fin 16) (r : Fin 32) (l : Fin 128) :
    k0_pay99 (invOf (tOf (mAll (hq s8 xp8 w bp) 16))) (hbOf s8 xp8 w bp q.val) (ix2 r l)
      = codeS (newH w S X B (hOf l) (pOf (⟨r.val % 8, by omega⟩ : Fin 8) l)) (⟨8 * q.val + r.val / 4, by omega⟩ : Fin 128) := by
  show shapeCast S32x128 (minimumf (broadcast S4x8x128 (Scalar.ofBits (F := Ideal) .f32 0x43E00000#32)) (maximumf (broadcast S4x8x128 (Scalar.ofBits (F := Ideal) .f32 0xC3E00000#32)) (mulf (shapeCast S4x8x128 (shapeCast S32x128 (hbOf s8 xp8 w bp q.val) shapeCasts_S1x32x128_S32x128) shapeCasts_S32x128_S4x8x128) (broadcastTo S4x8x128 (shapeCast S1x8x128 (invOf (tOf (mAll (hq s8 xp8 w bp) 16))) shapeCasts_S8x128_S1x8x128) broadcasts_S1x8x128_S4x8x128)))) shapeCasts_S4x8x128_S32x128 (ix2 r l) = _
  rw [uncast32_apply]
  show min (Ideal.ofBits .f32 0x43E00000#32) (max (Ideal.ofBits .f32 0xC3E00000#32) (shapeCast S4x8x128 (shapeCast S32x128 (hbOf s8 xp8 w bp q.val) shapeCasts_S1x32x128_S32x128) shapeCasts_S32x128_S4x8x128 (ix3 (⟨r.val / 8, by omega⟩ : Fin 4) (⟨r.val % 8, by omega⟩ : Fin 8) l) * broadcastTo S4x8x128 (shapeCast S1x8x128 (invOf (tOf (mAll (hq s8 xp8 w bp) 16))) shapeCasts_S8x128_S1x8x128) broadcasts_S1x8x128_S4x8x128 (ix3 (⟨r.val / 8, by omega⟩ : Fin 4) (⟨r.val % 8, by omega⟩ : Fin 8) l))) = _
  rw [spread_apply, cast32_apply, lead32_apply, inv_apply s8 xp8 w bp S X B hS hX hB]
  have e : hbOf s8 xp8 w bp q.val (ix3 (0 : Fin 1) (⟨8 * (r.val / 8) + r.val % 8, by omega⟩ : Fin 32) l) = newH w S X B (hOf l) (pOf (⟨r.val % 8, by omega⟩ : Fin 8) l) (⟨8 * q.val + r.val / 4, by omega⟩ : Fin 128) := by
    show shapeCast S1x32x128 (shapeCast S32x128 (hq s8 xp8 w bp q.val) shapeCasts_S4x8x128_S32x128) shapeCasts_S32x128_S1x32x128 _ = _
    rw [unlead32_apply, uncast32_apply, hq_apply s8 xp8 w bp S X B hS hX hB]
    refine congrArg₂ (newH w S X B (hOf l)) (Fin.ext ?_) (Fin.ext ?_)
    · show 4 * (l.val % 16) + (8 * (r.val / 8) + r.val % 8) % 8 % 4 = 4 * (l.val % 16) + r.val % 8 % 4
      omega
    · show 8 * q.val + 2 * ((8 * (r.val / 8) + r.val % 8) / 8) + (8 * (r.val / 8) + r.val % 8) % 8 / 4 = 8 * q.val + r.val / 4
      omega
  rw [e]
  rfl

/-- The codes of the group, entry by entry. -/
theorem codesOf_apply (h : Fin 8) (p : Fin 64) (n : Fin 128) :
    codesOf (invOf (tOf (mAll (hq s8 xp8 w bp) 16))) (hbOf s8 xp8 w bp) (ix4 (0 : Fin 1) h p n) = codeS (newH w S X B h p) n := by
  unfold codesOf
  rw [shapeCast_apply _ _ _ (ix3 h p n) (by rw [Shape.rowMajor_val_four, Shape.rowMajor_val_three]; show (h.val * 64 + p.val) * 128 + n.val = ((0 * 8 + h.val) * 64 + p.val) * 128 + n.val; omega)]
  rw [shapeCast_apply _ _ _ (ix2 (⟨64 * h.val + p.val, by omega⟩ : Fin 512) n) (by rw [Shape.rowMajor_val_two, Shape.rowMajor_val_three]; show (64 * h.val + p.val) * 128 + n.val = (h.val * 64 + p.val) * 128 + n.val; omega)]
  rw [shapeCast_apply _ _ _ (ix3 (⟨16 * h.val + p.val / 4, by omega⟩ : Fin 128) (⟨p.val % 4, by omega⟩ : Fin 4) n) (by rw [Shape.rowMajor_val_two, Shape.rowMajor_val_three]; show ((16 * h.val + p.val / 4) * 4 + p.val % 4) * 128 + n.val = (64 * h.val + p.val) * 128 + n.val; omega)]
  rw [transpose_apply _ _ _ _ (ix3 n (⟨p.val % 4, by omega⟩ : Fin 4) (⟨16 * h.val + p.val / 4, by omega⟩ : Fin 128)) (by intro b; fin_cases b <;> rfl)]
  rw [shapeCast_apply _ _ _ (ix2 (⟨4 * n.val + p.val % 4, by omega⟩ : Fin 512) (⟨16 * h.val + p.val / 4, by omega⟩ : Fin 128)) (by rw [Shape.rowMajor_val_two, Shape.rowMajor_val_three]; show (4 * n.val + p.val % 4) * 128 + (16 * h.val + p.val / 4) = (n.val * 4 + p.val % 4) * 128 + (16 * h.val + p.val / 4); omega)]
  refine Eq.trans (concatenate_ofFn_apply (s₁ := S32x128) (t := S512x128) 0 (fun q : Fin 16 => k0_pay99 (invOf (tOf (mAll (hq s8 xp8 w bp) 16))) (hbOf s8 xp8 w bp q.val)) concatenates_S32x128_S32x128_S32x128_S32x128_S32x128_S32x128_S32x128_S32x128_S32x128_S32x128_S32x128_S32x128_S32x128_S32x128_S32x128_S32x128_S512x128_d0 rfl 32 rfl _ (⟨(4 * n.val + p.val % 4) / 32, by omega⟩ : Fin 16) rfl (ix2 (⟨(4 * n.val + p.val % 4) % 32, by omega⟩ : Fin 32) (⟨16 * h.val + p.val / 4, by omega⟩ : Fin 128)) rfl ?_) ?_
  · intro b hb
    fin_cases b
    · exact absurd rfl hb
    · rfl
  · rw [pay99_apply s8 xp8 w bp S X B hS hX hB]
    have e1 : hOf (⟨16 * h.val + p.val / 4, by omega⟩ : Fin 128) = h := Fin.ext (by show (16 * h.val + p.val / 4) / 16 = h.val; omega)
    have e2 : pOf (⟨(4 * n.val + p.val % 4) % 32 % 8, by omega⟩ : Fin 8) (⟨16 * h.val + p.val / 4, by omega⟩ : Fin 128) = p := Fin.ext (by show 4 * ((16 * h.val + p.val / 4) % 16) + (4 * n.val + p.val % 4) % 32 % 8 % 4 = p.val; omega)
    have e3 : (⟨8 * ((4 * n.val + p.val % 4) / 32) + (4 * n.val + p.val % 4) % 32 / 4, by omega⟩ : Fin 128) = n := Fin.ext (by show 8 * ((4 * n.val + p.val % 4) / 32) + (4 * n.val + p.val % 4) % 32 / 4 = n.val; omega)
    rw [e1]
    exact congrArg₂ (fun x y => codeS (newH w S X B h x) y) e2 e3

end Group

end Cert.KernelIdeal.Hand

end

end
-- ==== Proof.Value.Bq.lean ====
/-
The reads of the spread-out input projection, shared by the three groups.
-/
module

public import proofs.«01_k».proof.Proof.Value.Canon
public import Idealize.ShloMosaic.Lib.Pipeline.ReadBack

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.Sem
open Idealize.ShloMosaic.ValueIdx
open trip4Run

variable {F : FTy → Type} [FloatOps F]

variable (c : Dev nD) (i : grid0.Coords)
  (arg2 : Memref sig .tc .vmem S16x24x64 .bf16) (arg6 : Memref sig .tc .vmem S16x1x128 .bf16)
  (arg18 : Memref sig .tc .vmem S512x128 .bf16) (arg19 : Memref sig .tc .vmem S512x128 .f32)
  (arg20 : Memref sig .tc .vmem S3x512x128 .fp8e4m3) (arg21 : Memref sig .tc .vmem S3x512x128 .f32)
  (arg22 : Memref sig .tc .vmem S16x24 .f32) (arg23 : Memref sig .tc .vmem S16x24 .f32)
  (v20 : IVec S24x24 1) (v57 : FVec F S128x128 .bf16) (t : Fin k0_t4_loop.trips)
  (f2 : Bf (F := F) c arg2) (f6 : Bf (F := F) c arg6) (f18 : Bf (F := F) c arg18) (f22 : Bf (F := F) c arg22) (f23 : Bf (F := F) c arg23)
  (gC : Bf (F := F) c mC) (gS : Bf (F := F) c mS)

/-- The spread-out input projection of this sequence. -/
abbrev bpT : Vec F S512x128 .f32 := (k0_pay8 v57 (sl.r_3 c arg6 t f6) (View.readAt (Elt F) arg18.view (Rect.unit ![0, 0] S512x128.size inb_S512x128_S512x128_0_0).toLoadRect f18))

theorem v776_eq : (sl.v776 c arg6 arg18 arg19 v57 t f6 f18) = bqOf (bpT c arg6 arg18 v57 t f6 f18) 0 := bq_read arg19.view 0 _ _ _ _

theorem v796_eq : (sl.v796 c arg6 arg18 arg19 v57 t f6 f18) = bqOf (bpT c arg6 arg18 v57 t f6 f18) 1 := bq_read arg19.view 1 _ _ _ _

theorem v816_eq : (sl.v816 c arg6 arg18 arg19 v57 t f6 f18) = bqOf (bpT c arg6 arg18 v57 t f6 f18) 2 := bq_read arg19.view 2 _ _ _ _

theorem v836_eq : (sl.v836 c arg6 arg18 arg19 v57 t f6 f18) = bqOf (bpT c arg6 arg18 v57 t f6 f18) 3 := bq_read arg19.view 3 _ _ _ _

theorem v856_eq : (sl.v856 c arg6 arg18 arg19 v57 t f6 f18) = bqOf (bpT c arg6 arg18 v57 t f6 f18) 4 := bq_read arg19.view 4 _ _ _ _

theorem v876_eq : (sl.v876 c arg6 arg18 arg19 v57 t f6 f18) = bqOf (bpT c arg6 arg18 v57 t f6 f18) 5 := bq_read arg19.view 5 _ _ _ _

theorem v896_eq : (sl.v896 c arg6 arg18 arg19 v57 t f6 f18) = bqOf (bpT c arg6 arg18 v57 t f6 f18) 6 := bq_read arg19.view 6 _ _ _ _

theorem v916_eq : (sl.v916 c arg6 arg18 arg19 v57 t f6 f18) = bqOf (bpT c arg6 arg18 v57 t f6 f18) 7 := bq_read arg19.view 7 _ _ _ _

theorem v936_eq : (sl.v936 c arg6 arg18 arg19 v57 t f6 f18) = bqOf (bpT c arg6 arg18 v57 t f6 f18) 8 := bq_read arg19.view 8 _ _ _ _

theorem v956_eq : (sl.v956 c arg6 arg18 arg19 v57 t f6 f18) = bqOf (bpT c arg6 arg18 v57 t f6 f18) 9 := bq_read arg19.view 9 _ _ _ _

theorem v976_eq : (sl.v976 c arg6 arg18 arg19 v57 t f6 f18) = bqOf (bpT c arg6 arg18 v57 t f6 f18) 10 := bq_read arg19.view 10 _ _ _ _

theorem v996_eq : (sl.v996 c arg6 arg18 arg19 v57 t f6 f18) = bqOf (bpT c arg6 arg18 v57 t f6 f18) 11 := bq_read arg19.view 11 _ _ _ _

theorem v1016_eq : (sl.v1016 c arg6 arg18 arg19 v57 t f6 f18) = bqOf (bpT c arg6 arg18 v57 t f6 f18) 12 := bq_read arg19.view 12 _ _ _ _

theorem v1036_eq : (sl.v1036 c arg6 arg18 arg19 v57 t f6 f18) = bqOf (bpT c arg6 arg18 v57 t f6 f18) 13 := bq_read arg19.view 13 _ _ _ _

theorem v1056_eq : (sl.v1056 c arg6 arg18 arg19 v57 t f6 f18) = bqOf (bpT c arg6 arg18 v57 t f6 f18) 14 := bq_read arg19.view 14 _ _ _ _

theorem v1076_eq : (sl.v1076 c arg6 arg18 arg19 v57 t f6 f18) = bqOf (bpT c arg6 arg18 v57 t f6 f18) 15 := bq_read arg19.view 15 _ _ _ _

end Cert.KernelIdeal.Hand

end

end
-- ==== Proof.Value.Reads.lean ====
/-
What a trip of the compute loop reads, entry by entry over the extended reals: the time steps, the decays, the decayed
scales, the scaled inputs and the spread-out input projection.
-/
module

public import proofs.«01_k».proof.Proof.Value.Point
public import proofs.«01_k».proof.Proof.Value.Bq

@[expose] public section

set_option maxRecDepth 16384

noncomputable section

namespace Cert.KernelIdeal.Hand

open Cert.KernelIdeal Cert.KernelIdeal.Gen
open Idealize.ShloMosaic Idealize.ShloMosaic.TcCoe
open Idealize.ShloMosaic.ValueIdx

/-! ### Time steps and decays -/

/-- The softplus of a number, as `max(v, 0) + log1p(exp(0 - |v|))`. -/
def spl (v : EReal) : EReal := max v 0 + Ideal.log1p (Ideal.exp (0 - max v (-v)))

/-- A row of 24 numbers spread over the sixteen sequences. -/
theorem row24_apply {α : Type} (v : S1x24.Idx → α) (b : Fin 16) (h : Fin 24) :
    broadcastTo S16x24 v broadcasts_S1x24_S16x24 (ix2 b h) = v (ix2 (0 : Fin 1) h) :=
  broadcastTo_apply _ _ _ _ (by intro b; fin_cases b <;> rfl)

/-- The time steps, entry by entry. -/
theorem pay613_apply (v30 : FVec Ideal S16x24 .f32) (v32 : FVec Ideal S1x24 .f32) (b : Fin 16) (h : Fin 24) :
    k0_pay613 v30 v32 (ix2 b h) = spl (v30 (ix2 b h) + v32 (ix2 (0 : Fin 1) h)) := by
  have e : ∀ z : EReal, z = 0 → max (v30 (ix2 b h) + broadcastTo S16x24 v32 broadcasts_S1x24_S16x24 (ix2 b h)) z
      + Ideal.log1p (Ideal.exp (z - max (v30 (ix2 b h) + broadcastTo S16x24 v32 broadcasts_S1x24_S16x24 (ix2 b h)) (-(v30 (ix2 b h) + broadcastTo S16x24 v32 broadcasts_S1x24_S16x24 (ix2 b h)))))
      = spl (v30 (ix2 b h) + v32 (ix2 (0 : Fin 1) h)) := by
    rintro z rfl
    rw [row24_apply]; rfl
  exact e (Ideal.ofBits .f32 0x00000000#32) Ideal.ofBits_zero_f32

theorem pay612_eq (v : Vec Ideal S1x24 .f32) : k0_pay612 v = v := by
  show shapeCast S1x24 v shapeCasts_S1x24_S1x24 = v
  exact shapeCast_self _ _

theorem pay614_apply (v30 : FVec Ideal S16x24 .f32) (v32 : FVec Ideal S1x24 .f32) (b : Fin 16) (h : Fin 24) :
    k0_pay614 v30 v32 (ix2 b h) = spl (v30 (ix2 b h) + v32 (ix2 (0 : Fin 1) h)) := by
  show shapeCast S16x24 (k0_pay613 v30 v32) shapeCasts_S16x24_S16x24 (ix2 b h) = _
  rw [shapeCast_self, pay613_apply]

/-- The decay of a head over a time step `d`: `exp((0 - exp a) * d)`. -/
def dcy (a d : EReal) : EReal := Ideal.exp ((0 - Ideal.exp a) * d)

theorem pay615_apply (v30 : FVec Ideal S16x24 .f32) (v32 : FVec Ideal S1x24 .f32) (v46 : Vec Ideal S1x24 .f32) (b : Fin 16) (h : Fin 24) :
    k0_pay615 v30 v32 v46 (ix2 b h) = dcy (v46 (ix2 (0 : Fin 1) h)) (spl (v30 (ix2 b h) + v32 (ix2 (0 : Fin 1) h))) := by
  have e : ∀ z : EReal, z = 0 → shapeCast S16x24 (exp (mulf (broadcastTo S16x24 (subf (broadcast S1x24 z) (exp (shapeCast S1x24 v46 shapeCasts_S1x24_S1x24))) broadcasts_S1x24_S16x24) (k0_pay613 v30 v32)) : FVec Ideal S16x24 .f32) shapeCasts_S16x24_S16x24 (ix2 b h)
      = dcy (v46 (ix2 (0 : Fin 1) h)) (spl (v30 (ix2 b h) + v32 (ix2 (0 : Fin 1) h))) := by
    rintro z rfl
    rw [shapeCast_self, shapeCast_self]
    show Ideal.exp (broadcastTo S16x24 (subf (broadcast S1x24 (0 : EReal)) (exp v46) : FVec Ideal S1x24 .f32) broadcasts_S1x24_S16x24 (ix2 b h) * k0_pay613 v30 v32 (ix2 b h)) = _
    rw [row24_apply, pay613_apply]
    rfl
  exact e (Ideal.ofBits .f32 0x00000000#32) Ideal.ofBits_zero_f32

/-! ### The diagonal of a spread-out row -/

/-- The unit matrix of bits. -/
theorem pay609_apply (a b : Fin 24) : k0_pay609 (ix2 a b) = if a = b then 1#1 else 0#1 := by
  have A : ∀ a b : Fin 24, k0_pay609 (ix2 a b) = if a = b then 1#1 else 0#1 := by decide +kernel
  exact A a b

/-- Summing a row of the unit matrix times `v` picks out one entry of `v`. -/
theorem diag_apply (v : Vec Ideal S1x24 .f32) (z : EReal) (hz : z = 0) (h : Fin 24) :
    (multiReduction .add [1] S24 (select k0_pay609 (broadcastTo S24x24 (shapeCast S1x24 v shapeCasts_S1x24_S1x24) broadcasts_S1x24_S24x24) (broadcast S24x24 z) : FVec Ideal S24x24 .f32) 0x00000000#32 reduces_S24x24_S24 (.inl rfl) rfl : FVec Ideal S24 .f32) (ix1 h)
      = v (ix2 (0 : Fin 1) h) := by
  subst hz
  rw [shapeCast_self]
  refine (Ideal.multiReduction_add_single (select k0_pay609 (broadcastTo S24x24 v broadcasts_S1x24_S24x24) (broadcast S24x24 (0 : EReal)) : FVec Ideal S24x24 .f32) 0x00000000#32 reduces_S24x24_S24 (.inl rfl) rfl (ix1 h)).trans ?_
  have hl : ∀ k : Fin 24, reduces_S24x24_S24.lift (ix1 h) k = ix2 h k := by
    intro k; funext b; apply Fin.ext; fin_cases b <;> rfl
  have ht : ∀ k : Fin 24, (select k0_pay609 (broadcastTo S24x24 v broadcasts_S1x24_S24x24) (broadcast S24x24 (0 : EReal)) : FVec Ideal S24x24 .f32) (ix2 h k) = if h = k then v (ix2 (0 : Fin 1) k) else 0 := by
    intro k
    show (if k0_pay609 (ix2 h k) = 1#1 then broadcastTo S24x24 v broadcasts_S1x24_S24x24 (ix2 h k) else 0) = _
    rw [pay609_apply, broadcastTo_apply _ _ _ (ix2 (0 : Fin 1) k) (by intro b; fin_cases b <;> rfl)]
    by_cases e : h = k
    · rw [if_pos e, if_pos e, if_pos rfl]
    · rw [if_neg e, if_neg e, if_neg (by decide)]
  refine (Finset.sum_congr rfl fun k _ => (congrArg (select k0_pay609 (broadcastTo S24x24 v broadcasts_S1x24_S24x24) (broadcast S24x24 (0 : EReal)) : FVec Ideal S24x24 .f32) (hl k)).trans (ht k)).trans ?_
  exact (Finset.sum_ite_eq (Finset.univ : Finset (Fin 24)) h fun k => v (ix2 (0 : Fin 1) k)).trans (if_pos (Finset.mem_univ _))

/-- A column of 24 numbers spread over 64 columns. -/
theorem col24_apply {α : Type} (v : S24.Idx → α) (h : Fin 24) (p : Fin 64) :
    broadcastTo S24x64 (shapeCast S24x1 v shapeCasts_S24_S24x1) broadcasts_S24x1_S24x64 (ix2 h p) = v (ix1 h) := by
  rw [broadcastTo_apply _ _ _ (ix2 h (0 : Fin 1)) (by intro b; fin_cases b <;> rfl)]
  exact shapeCast_apply _ _ _ _ (by rw [Shape.rowMajor_val_two, Shape.rowMajor_val_one]; show h.val = h.val * 1 + 0; omega)

/-- The decayed scales. -/
theorem pay3_apply (v88 : Vec Ideal S1x24 .f32) (v101 : Vec Ideal S1x1x24x64 .f32) (h : Fin 24) (p : Fin 64) :
    k0_pay3 k0_pay609 v88 v101 (ix2 h p) = v101 (ix4 (0 : Fin 1) (0 : Fin 1) h p) * v88 (ix2 (0 : Fin 1) h) := by
  have e1 : shapeCast S24x64 v101 shapeCasts_S1x1x24x64_S24x64 (ix2 h p) = v101 (ix4 (0 : Fin 1) (0 : Fin 1) h p) :=
    shapeCast_apply _ _ _ _ (by rw [Shape.rowMajor_val_two, Shape.rowMajor_val_four]; show ((0 * 1 + 0) * 24 + h.val) * 64 + p.val = h.val * 64 + p.val; omega)
  exact congrArg₂ (fun x y : EReal => x * y) e1 ((col24_apply _ h p).trans (diag_apply v88 _ Ideal.ofBits_zero_f32 h))

/-- The scaled inputs. -/
theorem pay4_apply (v80 : Vec Ideal S1x24 .f32) (v96 : Vec Ideal S1x24x64 .bf16) (h : Fin 24) (p : Fin 64) :
    k0_pay4 k0_pay609 v80 v96 (ix2 h p) = v96 (ix3 (0 : Fin 1) h p) * v80 (ix2 (0 : Fin 1) h) := by
  have e1 : k0_pay2 v96 (ix2 h p) = v96 (ix3 (0 : Fin 1) h p) := by
    show shapeCast S24x64 v96 shapeCasts_S1x24x64_S24x64 (ix2 h p) = _
    exact shapeCast_apply _ _ _ _ (by rw [Shape.rowMajor_val_two, Shape.rowMajor_val_three]; show (0 * 24 + h.val) * 64 + p.val = h.val * 64 + p.val; omega)
  exact congrArg₂ (fun x y : EReal => x * y) e1 ((col24_apply _ h p).trans (diag_apply v80 _ Ideal.ofBits_zero_f32 h))

/-! ### The spread-out input projection -/

/-- A quarter, rounded down, as the kernel computes it. -/
def fd4 (w : BitVec 32) : BitVec 32 :=
  let q := Scalar.divsi w 4#32
  Scalar.select (Scalar.andi (Scalar.cmpi .ne (Scalar.subi (Scalar.extui (Scalar.cmpi .sgt w 0#32)) (Scalar.extui (Scalar.cmpi .slt w 0#32))) (Scalar.subi (Scalar.extui (Scalar.cmpi .sgt 4#32 0#32)) (Scalar.extui (Scalar.cmpi .slt 4#32 0#32)))) (Scalar.cmpi .ne (Scalar.remsi w 4#32) 0#32))
    (Scalar.subi q 1#32) q

theorem fd4_eq : ∀ R : Fin 512, fd4 (BitVec.ofNat 32 R.val) = BitVec.ofNat 32 (R.val / 4) := by decide +kernel

theorem pay606_apply (R : Fin 512) (k : Fin 128) :
    k0_pay606 (F := Ideal) (ix2 R k) = if k = (⟨R.val / 4, by omega⟩ : Fin 128) then Ideal.ofBits .f32 0x3F800000#32 else Ideal.ofBits .f32 0x00000000#32 := by
  have e0 : (iota .tc S512x128 32 [0] iota_S512x128_d0_w32) (ix2 R k) = BitVec.ofNat 32 R.val := iota_single_apply _ _ _ _ _ _
  have e1 : (iota .tc S512x128 32 [1] iota_S512x128_d1_w32) (ix2 R k) = BitVec.ofNat 32 k.val := iota_single_apply _ _ _ _ _ _
  have hh : k0_pay606 (F := Ideal) (ix2 R k) = if Scalar.cmpi .eq (fd4 ((iota .tc S512x128 32 [0] iota_S512x128_d0_w32) (ix2 R k))) ((iota .tc S512x128 32 [1] iota_S512x128_d1_w32) (ix2 R k)) = 1#1 then Ideal.ofBits .f32 0x3F800000#32 else Ideal.ofBits .f32 0x00000000#32 := by
    unfold k0_pay606
    dsimp only
    rw [shapeCast_self]
    rfl
  rw [hh, e0, e1, fd4_eq]
  have hc : (Scalar.cmpi .eq (BitVec.ofNat 32 (R.val / 4)) (BitVec.ofNat 32 k.val) = 1#1) ↔ k = (⟨R.val / 4, by omega⟩ : Fin 128) := by
    show (BitVec.ofBool (BitVec.ofNat 32 (R.val / 4) == BitVec.ofNat 32 k.val) = 1#1) ↔ _
    have hb : ∀ q : Bool, BitVec.ofBool q = 1#1 ↔ q = true := by decide
    rw [hb, beq_iff_eq, Fin.ext_iff]
    constructor
    · intro h
      have := congrArg BitVec.toNat h
      rw [BitVec.toNat_ofNat, BitVec.toNat_ofNat, Nat.mod_eq_of_lt (by omega), Nat.mod_eq_of_lt (by omega)] at this
      exact this.symm
    · intro h; exact congrArg _ h.symm
  by_cases h : k = (⟨R.val / 4, by omega⟩ : Fin 128)
  · rw [if_pos h, if_pos (hc.2 h)]
  · rw [if_neg h, if_neg (mt hc.1 h)]

theorem ofBits_one : Ideal.ofBits .f32 0x3F800000#32 = 1 := by
  show Ideal.ieee 8 23 0x3F800000#32 = 1
  unfold Ideal.ieee
  have h1 : (0x3F800000#32 : BitVec 32).extractLsb' (8 + 23) 1 = 0#1 := by decide
  have h2 : ((0x3F800000#32 : BitVec 32).extractLsb' 23 8).toNat = 127 := by decide
  have h3 : ((0x3F800000#32 : BitVec 32).extractLsb' 0 23).toNat = 0 := by decide
  simp only [h1, h2, h3]
  norm_num

theorem ofBits_one16 : Ideal.ofBits .bf16 0x3F80#16 = 1 := by
  show Ideal.ieee 8 7 0x3F80#16 = 1
  unfold Ideal.ieee
  have h1 : (0x3F80#16 : BitVec 16).extractLsb' (8 + 7) 1 = 0#1 := by decide
  have h2 : ((0x3F80#16 : BitVec 16).extractLsb' 7 8).toNat = 127 := by decide
  have h3 : ((0x3F80#16 : BitVec 16).extractLsb' 0 7).toNat = 0 := by decide
  simp only [h1, h2, h3]
  norm_num

/-- The coordinate a contraction index stands for. -/
abbrev kap (k : dot_S512x128_S128x128_S512x128_1_0_0_1_n_n.contr.Idx) : Fin 128 := contrEquiv1 dot_S512x128_S128x128_S512x128_1_0_0_1_n_n 128 rfl rfl k

/-- Row `R` of the spread-out projection holds entry `R / 4` in every lane. -/
theorem pay8_apply (v109 : FVec Ideal S1x128 .bf16) (v118 : Vec Ideal S512x128 .bf16) (hv : v118 = k0_pay606 (F := Ideal)) (R : Fin 512) (l : Fin 128) :
    k0_pay8 k0_pay616 v109 v118 (ix2 R l) = v109 (ix2 (0 : Fin 1) (⟨R.val / 4, by omega⟩ : Fin 128)) := by
  subst hv
  unfold k0_pay8
  rw [shapeCast_self]
  have hl : ∀ k : dot_S512x128_S128x128_S512x128_1_0_0_1_n_n.contr.Idx, (mulf k0_pay606 (broadcastTo S512x128 v109 broadcasts_S1x128_S512x128) : FVec Ideal S512x128 .bf16) (dot_S512x128_S128x128_S512x128_1_0_0_1_n_n.lhsIdx (ix2 R l) k)
      = if (kap k) = (⟨R.val / 4, by omega⟩ : Fin 128) then v109 (ix2 (0 : Fin 1) (⟨R.val / 4, by omega⟩ : Fin 128)) else 0 := by
    intro k
    have hi : dot_S512x128_S128x128_S512x128_1_0_0_1_n_n.lhsIdx (ix2 R l) k = ix2 R (kap k) := by
      funext b; apply Fin.ext; fin_cases b <;> rfl
    rw [hi]
    show k0_pay606 (F := Ideal) (ix2 R (kap k)) * broadcastTo S512x128 v109 broadcasts_S1x128_S512x128 (ix2 R (kap k)) = _
    rw [pay606_apply, broadcastTo_apply _ _ _ (ix2 (0 : Fin 1) (kap k)) (by intro b; fin_cases b <;> rfl)]
    by_cases e : (kap k) = (⟨R.val / 4, by omega⟩ : Fin 128)
    · rw [if_pos e, if_pos e, e, ofBits_one, one_mul]
    · rw [if_neg e, if_neg e, Ideal.ofBits_zero_f32, zero_mul]
  refine (Ideal.matmul_apply_of_eq dot_S512x128_S128x128_S512x128_1_0_0_1_n_n none _ _ _ (ix2 R l) _ (fun _ => 1) hl (fun k => ofBits_one16)).trans ?_
  have hz : (constant S512x128 .f32 0x00000000#32 : FVec Ideal S512x128 .f32) (ix2 R l) = (0 : EReal) := Ideal.ofBits_zero_f32
  rw [hz, zero_add]
  simp only [mul_one]
  refine (Equiv.sum_comp (contrEquiv1 dot_S512x128_S128x128_S512x128_1_0_0_1_n_n 128 rfl rfl) fun j : Fin 128 => if j = (⟨R.val / 4, by omega⟩ : Fin 128) then v109 (ix2 (0 : Fin 1) (⟨R.val / 4, by omega⟩ : Fin 128)) else 0).trans ?_
  exact (Finset.sum_ite_eq' (Finset.univ : Finset (Fin 128)) _ fun _ => v109 (ix2 (0 : Fin 1) (⟨R.val / 4, by omega⟩ : Fin 128))).trans (if_pos (Finset.mem_univ _))

end Cert.KernelIdeal.Hand

end

end
-- ==== Proof.Value.Trip0.lean ====
/-
Group 0 of one sequence's update, in the terms of `Canon`.
-/
module

public import proofs.«01_k».proof.Proof.Value.Bq

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.Sem
open Idealize.ShloMosaic.ValueIdx
open trip4Run

variable {F : FTy → Type} [FloatOps F]

variable (c : Dev nD) (i : grid0.Coords)
  (arg2 : Memref sig .tc .vmem S16x24x64 .bf16) (arg6 : Memref sig .tc .vmem S16x1x128 .bf16)
  (arg18 : Memref sig .tc .vmem S512x128 .bf16) (arg19 : Memref sig .tc .vmem S512x128 .f32)
  (arg20 : Memref sig .tc .vmem S3x512x128 .fp8e4m3) (arg21 : Memref sig .tc .vmem S3x512x128 .f32)
  (arg22 : Memref sig .tc .vmem S16x24 .f32) (arg23 : Memref sig .tc .vmem S16x24 .f32)
  (v20 : IVec S24x24 1) (v57 : FVec F S128x128 .bf16) (t : Fin k0_t4_loop.trips)
  (f2 : Bf (F := F) c arg2) (f6 : Bf (F := F) c arg6) (f18 : Bf (F := F) c arg18) (f22 : Bf (F := F) c arg22) (f23 : Bf (F := F) c arg23)
  (gC : Bf (F := F) c mC) (gS : Bf (F := F) c mS)

theorem v769_eq : (sl.v769 c i arg20 t gC) = ctOf (sl.v755 c i t gC) 0 := ct_read arg20.view 0 0 _ _ _ _
theorem v789_eq : (sl.v789 c i arg20 t gC) = ctOf (sl.v755 c i t gC) 1 := ct_read arg20.view 0 1 _ _ _ _
theorem v809_eq : (sl.v809 c i arg20 t gC) = ctOf (sl.v755 c i t gC) 2 := ct_read arg20.view 0 2 _ _ _ _
theorem v829_eq : (sl.v829 c i arg20 t gC) = ctOf (sl.v755 c i t gC) 3 := ct_read arg20.view 0 3 _ _ _ _
theorem v849_eq : (sl.v849 c i arg20 t gC) = ctOf (sl.v755 c i t gC) 4 := ct_read arg20.view 0 4 _ _ _ _
theorem v869_eq : (sl.v869 c i arg20 t gC) = ctOf (sl.v755 c i t gC) 5 := ct_read arg20.view 0 5 _ _ _ _
theorem v889_eq : (sl.v889 c i arg20 t gC) = ctOf (sl.v755 c i t gC) 6 := ct_read arg20.view 0 6 _ _ _ _
theorem v909_eq : (sl.v909 c i arg20 t gC) = ctOf (sl.v755 c i t gC) 7 := ct_read arg20.view 0 7 _ _ _ _
theorem v929_eq : (sl.v929 c i arg20 t gC) = ctOf (sl.v755 c i t gC) 8 := ct_read arg20.view 0 8 _ _ _ _
theorem v949_eq : (sl.v949 c i arg20 t gC) = ctOf (sl.v755 c i t gC) 9 := ct_read arg20.view 0 9 _ _ _ _
theorem v969_eq : (sl.v969 c i arg20 t gC) = ctOf (sl.v755 c i t gC) 10 := ct_read arg20.view 0 10 _ _ _ _
theorem v989_eq : (sl.v989 c i arg20 t gC) = ctOf (sl.v755 c i t gC) 11 := ct_read arg20.view 0 11 _ _ _ _
theorem v1009_eq : (sl.v1009 c i arg20 t gC) = ctOf (sl.v755 c i t gC) 12 := ct_read arg20.view 0 12 _ _ _ _
theorem v1029_eq : (sl.v1029 c i arg20 t gC) = ctOf (sl.v755 c i t gC) 13 := ct_read arg20.view 0 13 _ _ _ _
theorem v1049_eq : (sl.v1049 c i arg20 t gC) = ctOf (sl.v755 c i t gC) 14 := ct_read arg20.view 0 14 _ _ _ _
theorem v1069_eq : (sl.v1069 c i arg20 t gC) = ctOf (sl.v755 c i t gC) 15 := ct_read arg20.view 0 15 _ _ _ _

/-- Run `q` of the group's new state. -/
abbrev hb0 (q : ℕ) := hbOf (sl.r_8 c i arg23 v20 t f23 gS) (sl.r_10 c arg2 arg22 v20 t f2 f22) (sl.v755 c i t gC) (bpT c arg6 arg18 v57 t f6 f18) q

theorem v1151_eq : (sl.v1151 c i arg2 arg6 arg18 arg19 arg20 arg21 arg22 arg23 v20 v57 t f2 f6 f18 f22 f23 gC gS) = hb0 c i arg2 arg6 arg18 arg22 arg23 v20 v57 t f2 f6 f18 f22 f23 gC gS 0 := by
  rw [hb0, hbOf, ← v769_eq c i arg20 t gC, ← v776_eq c arg6 arg18 arg19 v57 t f6 f18]
  iterate 15 refine (View.readCov_skip _ _ _ _ _ (by decide)).trans ?_
  exact View.readCov_cons_toLoadRect _ _ _ _

theorem v1163_eq : (sl.v1163 c i arg2 arg6 arg18 arg19 arg20 arg21 arg22 arg23 v20 v57 t f2 f6 f18 f22 f23 gC gS) = hb0 c i arg2 arg6 arg18 arg22 arg23 v20 v57 t f2 f6 f18 f22 f23 gC gS 1 := by
  rw [hb0, hbOf, ← v789_eq c i arg20 t gC, ← v796_eq c arg6 arg18 arg19 v57 t f6 f18]
  iterate 14 refine (View.readCov_skip _ _ _ _ _ (by decide)).trans ?_
  exact View.readCov_cons_toLoadRect _ _ _ _

theorem v1175_eq : (sl.v1175 c i arg2 arg6 arg18 arg19 arg20 arg21 arg22 arg23 v20 v57 t f2 f6 f18 f22 f23 gC gS) = hb0 c i arg2 arg6 arg18 arg22 arg23 v20 v57 t f2 f6 f18 f22 f23 gC gS 2 := by
  rw [hb0, hbOf, ← v809_eq c i arg20 t gC, ← v816_eq c arg6 arg18 arg19 v57 t f6 f18]
  iterate 13 refine (View.readCov_skip _ _ _ _ _ (by decide)).trans ?_
  exact View.readCov_cons_toLoadRect _ _ _ _

theorem v1187_eq : (sl.v1187 c i arg2 arg6 arg18 arg19 arg20 arg21 arg22 arg23 v20 v57 t f2 f6 f18 f22 f23 gC gS) = hb0 c i arg2 arg6 arg18 arg22 arg23 v20 v57 t f2 f6 f18 f22 f23 gC gS 3 := by
  rw [hb0, hbOf, ← v829_eq c i arg20 t gC, ← v836_eq c arg6 arg18 arg19 v57 t f6 f18]
  iterate 12 refine (View.readCov_skip _ _ _ _ _ (by decide)).trans ?_
  exact View.readCov_cons_toLoadRect _ _ _ _

theorem v1199_eq : (sl.v1199 c i arg2 arg6 arg18 arg19 arg20 arg21 arg22 arg23 v20 v57 t f2 f6 f18 f22 f23 gC gS) = hb0 c i arg2 arg6 arg18 arg22 arg23 v20 v57 t f2 f6 f18 f22 f23 gC gS 4 := by
  rw [hb0, hbOf, ← v849_eq c i arg20 t gC, ← v856_eq c arg6 arg18 arg19 v57 t f6 f18]
  iterate 11 refine (View.readCov_skip _ _ _ _ _ (by decide)).trans ?_
  exact View.readCov_cons_toLoadRect _ _ _ _

theorem v1211_eq : (sl.v1211 c i arg2 arg6 arg18 arg19 arg20 arg21 arg22 arg23 v20 v57 t f2 f6 f18 f22 f23 gC gS) = hb0 c i arg2 arg6 arg18 arg22 arg23 v20 v57 t f2 f6 f18 f22 f23 gC gS 5 := by
  rw [hb0, hbOf, ← v869_eq c i arg20 t gC, ← v876_eq c arg6 arg18 arg19 v57 t f6 f18]
  iterate 10 refine (View.readCov_skip _ _ _ _ _ (by decide)).trans ?_
  exact View.readCov_cons_toLoadRect _ _ _ _

theorem v1223_eq : (sl.v1223 c i arg2 arg6 arg18 arg19 arg20 arg21 arg22 arg23 v20 v57 t f2 f6 f18 f22 f23 gC gS) = hb0 c i arg2 arg6 arg18 arg22 arg23 v20 v57 t f2 f6 f18 f22 f23 gC gS 6 := by
  rw [hb0, hbOf, ← v889_eq c i arg20 t gC, ← v896_eq c arg6 arg18 arg19 v57 t f6 f18]
  iterate 9 refine (View.readCov_skip _ _ _ _ _ (by decide)).trans ?_
  exact View.readCov_cons_toLoadRect _ _ _ _

theorem v1235_eq : (sl.v1235 c i arg2 arg6 arg18 arg19 arg20 arg21 arg22 arg23 v20 v57 t f2 f6 f18 f22 f23 gC gS) = hb0 c i arg2 arg6 arg18 arg22 arg23 v20 v57 t f2 f6 f18 f22 f23 gC gS 7 := by
  rw [hb0, hbOf, ← v909_eq c i arg20 t gC, ← v916_eq c arg6 arg18 arg19 v57 t f6 f18]
  iterate 8 refine (View.readCov_skip _ _ _ _ _ (by decide)).trans ?_
  exact View.readCov_cons_toLoadRect _ _ _ _

theorem v1247_eq : (sl.v1247 c i arg2 arg6 arg18 arg19 arg20 arg21 arg22 arg23 v20 v57 t f2 f6 f18 f22 f23 gC gS) = hb0 c i arg2 arg6 arg18 arg22 arg23 v20 v57 t f2 f6 f18 f22 f23 gC gS 8 := by
  rw [hb0, hbOf, ← v929_eq c i arg20 t gC, ← v936_eq c arg6 arg18 arg19 v57 t f6 f18]
  iterate 7 refine (View.readCov_skip _ _ _ _ _ (by decide)).trans ?_
  exact View.readCov_cons_toLoadRect _ _ _ _

theorem v1259_eq : (sl.v1259 c i arg2 arg6 arg18 arg19 arg20 arg21 arg22 arg23 v20 v57 t f2 f6 f18 f22 f23 gC gS) = hb0 c i arg2 arg6 arg18 arg22 arg23 v20 v57 t f2 f6 f18 f22 f23 gC gS 9 := by
  rw [hb0, hbOf, ← v949_eq c i arg20 t gC, ← v956_eq c arg6 arg18 arg19 v57 t f6 f18]
  iterate 6 refine (View.readCov_skip _ _ _ _ _ (by decide)).trans ?_
  exact View.readCov_cons_toLoadRect _ _ _ _

theorem v1271_eq : (sl.v1271 c i arg2 arg6 arg18 arg19 arg20 arg21 arg22 arg23 v20 v57 t f2 f6 f18 f22 f23 gC gS) = hb0 c i arg2 arg6 arg18 arg22 arg23 v20 v57 t f2 f6 f18 f22 f23 gC gS 10 := by
  rw [hb0, hbOf, ← v969_eq c i arg20 t gC, ← v976_eq c arg6 arg18 arg19 v57 t f6 f18]
  iterate 5 refine (View.readCov_skip _ _ _ _ _ (by decide)).trans ?_
  exact View.readCov_cons_toLoadRect _ _ _ _

theorem v1283_eq : (sl.v1283 c i arg2 arg6 arg18 arg19 arg20 arg21 arg22 arg23 v20 v57 t f2 f6 f18 f22 f23 gC gS) = hb0 c i arg2 arg6 arg18 arg22 arg23 v20 v57 t f2 f6 f18 f22 f23 gC gS 11 := by
  rw [hb0, hbOf, ← v989_eq c i arg20 t gC, ← v996_eq c arg6 arg18 arg19 v57 t f6 f18]
  iterate 4 refine (View.readCov_skip _ _ _ _ _ (by decide)).trans ?_
  exact View.readCov_cons_toLoadRect _ _ _ _

theorem v1295_eq : (sl.v1295 c i arg2 arg6 arg18 arg19 arg20 arg21 arg22 arg23 v20 v57 t f2 f6 f18 f22 f23 gC gS) = hb0 c i arg2 arg6 arg18 arg22 arg23 v20 v57 t f2 f6 f18 f22 f23 gC gS 12 := by
  rw [hb0, hbOf, ← v1009_eq c i arg20 t gC, ← v1016_eq c arg6 arg18 arg19 v57 t f6 f18]
  iterate 3 refine (View.readCov_skip _ _ _ _ _ (by decide)).trans ?_
  exact View.readCov_cons_toLoadRect _ _ _ _

theorem v1307_eq : (sl.v1307 c i arg2 arg6 arg18 arg19 arg20 arg21 arg22 arg23 v20 v57 t f2 f6 f18 f22 f23 gC gS) = hb0 c i arg2 arg6 arg18 arg22 arg23 v20 v57 t f2 f6 f18 f22 f23 gC gS 13 := by
  rw [hb0, hbOf, ← v1029_eq c i arg20 t gC, ← v1036_eq c arg6 arg18 arg19 v57 t f6 f18]
  iterate 2 refine (View.readCov_skip _ _ _ _ _ (by decide)).trans ?_
  exact View.readCov_cons_toLoadRect _ _ _ _

theorem v1319_eq : (sl.v1319 c i arg2 arg6 arg18 arg19 arg20 arg21 arg22 arg23 v20 v57 t f2 f6 f18 f22 f23 gC gS) = hb0 c i arg2 arg6 arg18 arg22 arg23 v20 v57 t f2 f6 f18 f22 f23 gC gS 14 := by
  rw [hb0, hbOf, ← v1049_eq c i arg20 t gC, ← v1056_eq c arg6 arg18 arg19 v57 t f6 f18]
  refine (View.readCov_skip _ _ _ _ _ (by decide)).trans ?_
  exact View.readCov_cons_toLoadRect _ _ _ _

theorem v1331_eq : (sl.v1331 c i arg2 arg6 arg18 arg19 arg20 arg21 arg22 arg23 v20 v57 t f2 f6 f18 f22 f23 gC gS) = hb0 c i arg2 arg6 arg18 arg22 arg23 v20 v57 t f2 f6 f18 f22 f23 gC gS 15 := by
  rw [hb0, hbOf, ← v1069_eq c i arg20 t gC, ← v1076_eq c arg6 arg18 arg19 v57 t f6 f18]
  exact View.readCov_cons_toLoadRect _ _ _ _

/-- The largest magnitudes over 448. -/
theorem t_0 : (sl.r_27 c i arg2 arg6 arg18 arg19 arg20 arg22 arg23 v20 v57 t f2 f6 f18 f22 f23 gC gS) = tOf (mAll (hq (sl.r_8 c i arg23 v20 t f23 gS) (sl.r_10 c arg2 arg22 v20 t f2 f22) (sl.v755 c i t gC) (bpT c arg6 arg18 v57 t f6 f18)) 16) := by
  simp only [sl.r_12, sl.r_13, sl.r_14, sl.r_15, sl.r_16, sl.r_17, sl.r_18, sl.r_19, sl.r_20, sl.r_21, sl.r_22, sl.r_23, sl.r_24, sl.r_25, sl.r_26, sl.r_27, v769_eq, v789_eq, v809_eq, v829_eq, v849_eq, v869_eq, v889_eq, v909_eq, v929_eq, v949_eq, v969_eq, v989_eq, v1009_eq, v1029_eq, v1049_eq, v1069_eq, v776_eq, v796_eq, v816_eq, v836_eq, v856_eq, v876_eq, v896_eq, v916_eq, v936_eq, v956_eq, v976_eq, v996_eq, v1016_eq, v1036_eq, v1056_eq, v1076_eq]
  rfl

theorem scl_0 : (sl.r_29 c i arg2 arg6 arg18 arg19 arg20 arg22 arg23 v20 v57 t f2 f6 f18 f22 f23 gC gS) = sclOf (sl.r_27 c i arg2 arg6 arg18 arg19 arg20 arg22 arg23 v20 v57 t f2 f6 f18 f22 f23 gC gS) := by
  simp only [sl.r_29, sl.r_30, sl.r_27, sl.r_28, k0_pay92]
  generalize k0_pay91 (F := F) _ _ _ _ _ _ = T
  rfl

theorem inv_0 : (sl.r_30 c i arg2 arg6 arg18 arg19 arg20 arg22 arg23 v20 v57 t f2 f6 f18 f22 f23 gC gS) = invOf (sl.r_27 c i arg2 arg6 arg18 arg19 arg20 arg22 arg23 v20 v57 t f2 f6 f18 f22 f23 gC gS) := by
  simp only [sl.r_29, sl.r_30, sl.r_27, sl.r_28, k0_pay92]
  generalize k0_pay91 (F := F) _ _ _ _ _ _ = T
  rfl

/-- The group's codes as stored. -/
theorem codes_0 : k0_pay118 (sl.r_30 c i arg2 arg6 arg18 arg19 arg20 arg22 arg23 v20 v57 t f2 f6 f18 f22 f23 gC gS) (sl.r_32 c i arg2 arg6 arg18 arg19 arg20 arg21 arg22 arg23 v20 v57 t f2 f6 f18 f22 f23 gC gS) (sl.r_33 c i arg2 arg6 arg18 arg19 arg20 arg21 arg22 arg23 v20 v57 t f2 f6 f18 f22 f23 gC gS) (sl.r_34 c i arg2 arg6 arg18 arg19 arg20 arg21 arg22 arg23 v20 v57 t f2 f6 f18 f22 f23 gC gS) (sl.r_36 c i arg2 arg6 arg18 arg19 arg20 arg21 arg22 arg23 v20 v57 t f2 f6 f18 f22 f23 gC gS) (sl.r_37 c i arg2 arg6 arg18 arg19 arg20 arg21 arg22 arg23 v20 v57 t f2 f6 f18 f22 f23 gC gS) (sl.r_38 c i arg2 arg6 arg18 arg19 arg20 arg21 arg22 arg23 v20 v57 t f2 f6 f18 f22 f23 gC gS) (sl.r_39 c i arg2 arg6 arg18 arg19 arg20 arg21 arg22 arg23 v20 v57 t f2 f6 f18 f22 f23 gC gS) (sl.r_42 c i arg2 arg6 arg18 arg19 arg20 arg21 arg22 arg23 v20 v57 t f2 f6 f18 f22 f23 gC gS) (sl.r_43 c i arg2 arg6 arg18 arg19 arg20 arg21 arg22 arg23 v20 v57 t f2 f6 f18 f22 f23 gC gS) (sl.r_44 c i arg2 arg6 arg18 arg19 arg20 arg21 arg22 arg23 v20 v57 t f2 f6 f18 f22 f23 gC gS) (sl.r_46 c i arg2 arg6 arg18 arg19 arg20 arg21 arg22 arg23 v20 v57 t f2 f6 f18 f22 f23 gC gS) (sl.r_47 c i arg2 arg6 arg18 arg19 arg20 arg21 arg22 arg23 v20 v57 t f2 f6 f18 f22 f23 gC gS) (sl.r_48 c i arg2 arg6 arg18 arg19 arg20 arg21 arg22 arg23 v20 v57 t f2 f6 f18 f22 f23 gC gS) (sl.r_49 c i arg2 arg6 arg18 arg19 arg20 arg21 arg22 arg23 v20 v57 t f2 f6 f18 f22 f23 gC gS) (sl.r_50 c i arg2 arg6 arg18 arg19 arg20 arg21 arg22 arg23 v20 v57 t f2 f6 f18 f22 f23 gC gS) (sl.r_51 c i arg2 arg6 arg18 arg19 arg20 arg22 arg23 v20 v57 t f2 f6 f18 f22 f23 gC gS) (sl.v1331 c i arg2 arg6 arg18 arg19 arg20 arg21 arg22 arg23 v20 v57 t f2 f6 f18 f22 f23 gC gS) = codesOf (sl.r_30 c i arg2 arg6 arg18 arg19 arg20 arg22 arg23 v20 v57 t f2 f6 f18 f22 f23 gC gS) (hbOf (sl.r_8 c i arg23 v20 t f23 gS) (sl.r_10 c arg2 arg22 v20 t f2 f22) (sl.v755 c i t gC) (bpT c arg6 arg18 v57 t f6 f18)) := by
  simp only [sl.r_31, sl.r_32, sl.r_33, sl.r_34, sl.r_35, sl.r_36, sl.r_37, sl.r_38, sl.r_39, sl.r_40, sl.r_41, sl.r_42, sl.r_43, sl.r_44, sl.r_45, sl.r_46, sl.r_47, sl.r_48, sl.r_49, sl.r_50, sl.r_51, v1151_eq, v1163_eq, v1175_eq, v1187_eq, v1199_eq, v1211_eq, v1223_eq, v1235_eq, v1247_eq, v1259_eq, v1271_eq, v1283_eq, v1295_eq, v1307_eq, v1319_eq, v1331_eq]
  generalize (sl.r_30 c i arg2 arg6 arg18 arg19 arg20 arg22 arg23 v20 v57 t f2 f6 f18 f22 f23 gC gS) = I
  rfl

end Cert.KernelIdeal.Hand

end

end
-- ==== Proof.Value.Trip1.lean ====
/-
Group 1 of one sequence's update, in the terms of `Canon`.
-/
module

public import proofs.«01_k».proof.Proof.Value.Bq

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.Sem
open Idealize.ShloMosaic.ValueIdx
open trip4Run

variable {F : FTy → Type} [FloatOps F]

variable (c : Dev nD) (i : grid0.Coords)
  (arg2 : Memref sig .tc .vmem S16x24x64 .bf16) (arg6 : Memref sig .tc .vmem S16x1x128 .bf16)
  (arg18 : Memref sig .tc .vmem S512x128 .bf16) (arg19 : Memref sig .tc .vmem S512x128 .f32)
  (arg20 : Memref sig .tc .vmem S3x512x128 .fp8e4m3) (arg21 : Memref sig .tc .vmem S3x512x128 .f32)
  (arg22 : Memref sig .tc .vmem S16x24 .f32) (arg23 : Memref sig .tc .vmem S16x24 .f32)
  (v20 : IVec S24x24 1) (v57 : FVec F S128x128 .bf16) (t : Fin k0_t4_loop.trips)
  (f2 : Bf (F := F) c arg2) (f6 : Bf (F := F) c arg6) (f18 : Bf (F := F) c arg18) (f22 : Bf (F := F) c arg22) (f23 : Bf (F := F) c arg23)
  (gC : Bf (F := F) c mC) (gS : Bf (F := F) c mS)

theorem v3120_eq : (sl.v3120 c i arg20 t gC) = ctOf (sl.v3106 c i t gC) 0 := ct_read arg20.view 1 0 _ _ _ _
theorem v3140_eq : (sl.v3140 c i arg20 t gC) = ctOf (sl.v3106 c i t gC) 1 := ct_read arg20.view 1 1 _ _ _ _
theorem v3160_eq : (sl.v3160 c i arg20 t gC) = ctOf (sl.v3106 c i t gC) 2 := ct_read arg20.view 1 2 _ _ _ _
theorem v3180_eq : (sl.v3180 c i arg20 t gC) = ctOf (sl.v3106 c i t gC) 3 := ct_read arg20.view 1 3 _ _ _ _
theorem v3200_eq : (sl.v3200 c i arg20 t gC) = ctOf (sl.v3106 c i t gC) 4 := ct_read arg20.view 1 4 _ _ _ _
theorem v3220_eq : (sl.v3220 c i arg20 t gC) = ctOf (sl.v3106 c i t gC) 5 := ct_read arg20.view 1 5 _ _ _ _
theorem v3240_eq : (sl.v3240 c i arg20 t gC) = ctOf (sl.v3106 c i t gC) 6 := ct_read arg20.view 1 6 _ _ _ _
theorem v3260_eq : (sl.v3260 c i arg20 t gC) = ctOf (sl.v3106 c i t gC) 7 := ct_read arg20.view 1 7 _ _ _ _
theorem v3280_eq : (sl.v3280 c i arg20 t gC) = ctOf (sl.v3106 c i t gC) 8 := ct_read arg20.view 1 8 _ _ _ _
theorem v3300_eq : (sl.v3300 c i arg20 t gC) = ctOf (sl.v3106 c i t gC) 9 := ct_read arg20.view 1 9 _ _ _ _
theorem v3320_eq : (sl.v3320 c i arg20 t gC) = ctOf (sl.v3106 c i t gC) 10 := ct_read arg20.view 1 10 _ _ _ _
theorem v3340_eq : (sl.v3340 c i arg20 t gC) = ctOf (sl.v3106 c i t gC) 11 := ct_read arg20.view 1 11 _ _ _ _
theorem v3360_eq : (sl.v3360 c i arg20 t gC) = ctOf (sl.v3106 c i t gC) 12 := ct_read arg20.view 1 12 _ _ _ _
theorem v3380_eq : (sl.v3380 c i arg20 t gC) = ctOf (sl.v3106 c i t gC) 13 := ct_read arg20.view 1 13 _ _ _ _
theorem v3400_eq : (sl.v3400 c i arg20 t gC) = ctOf (sl.v3106 c i t gC) 14 := ct_read arg20.view 1 14 _ _ _ _
theorem v3420_eq : (sl.v3420 c i arg20 t gC) = ctOf (sl.v3106 c i t gC) 15 := ct_read arg20.view 1 15 _ _ _ _

/-- Run `q` of the group's new state. -/
abbrev hb1 (q : ℕ) := hbOf (sl.r_53 c i arg23 v20 t f23 gS) (sl.r_55 c arg2 arg22 v20 t f2 f22) (sl.v3106 c i t gC) (bpT c arg6 arg18 v57 t f6 f18) q

theorem v3502_eq : (sl.v3502 c i arg2 arg6 arg18 arg19 arg20 arg21 arg22 arg23 v20 v57 t f2 f6 f18 f22 f23 gC gS) = hb1 c i arg2 arg6 arg18 arg22 arg23 v20 v57 t f2 f6 f18 f22 f23 gC gS 0 := by
  rw [hb1, hbOf, ← v3120_eq c i arg20 t gC, ← v776_eq c arg6 arg18 arg19 v57 t f6 f18]
  iterate 15 refine (View.readCov_skip _ _ _ _ _ (by decide)).trans ?_
  exact View.readCov_cons_toLoadRect _ _ _ _

theorem v3514_eq : (sl.v3514 c i arg2 arg6 arg18 arg19 arg20 arg21 arg22 arg23 v20 v57 t f2 f6 f18 f22 f23 gC gS) = hb1 c i arg2 arg6 arg18 arg22 arg23 v20 v57 t f2 f6 f18 f22 f23 gC gS 1 := by
  rw [hb1, hbOf, ← v3140_eq c i arg20 t gC, ← v796_eq c arg6 arg18 arg19 v57 t f6 f18]
  iterate 14 refine (View.readCov_skip _ _ _ _ _ (by decide)).trans ?_
  exact View.readCov_cons_toLoadRect _ _ _ _

theorem v3526_eq : (sl.v3526 c i arg2 arg6 arg18 arg19 arg20 arg21 arg22 arg23 v20 v57 t f2 f6 f18 f22 f23 gC gS) = hb1 c i arg2 arg6 arg18 arg22 arg23 v20 v57 t f2 f6 f18 f22 f23 gC gS 2 := by
  rw [hb1, hbOf, ← v3160_eq c i arg20 t gC, ← v816_eq c arg6 arg18 arg19 v57 t f6 f18]
  iterate 13 refine (View.readCov_skip _ _ _ _ _ (by decide)).trans ?_
  exact View.readCov_cons_toLoadRect _ _ _ _

theorem v3538_eq : (sl.v3538 c i arg2 arg6 arg18 arg19 arg20 arg21 arg22 arg23 v20 v57 t f2 f6 f18 f22 f23 gC gS) = hb1 c i arg2 arg6 arg18 arg22 arg23 v20 v57 t f2 f6 f18 f22 f23 gC gS 3 := by
  rw [hb1, hbOf, ← v3180_eq c i arg20 t gC, ← v836_eq c arg6 arg18 arg19 v57 t f6 f18]
  iterate 12 refine (View.readCov_skip _ _ _ _ _ (by decide)).trans ?_
  exact View.readCov_cons_toLoadRect _ _ _ _

theorem v3550_eq : (sl.v3550 c i arg2 arg6 arg18 arg19 arg20 arg21 arg22 arg23 v20 v57 t f2 f6 f18 f22 f23 gC gS) = hb1 c i arg2 arg6 arg18 arg22 arg23 v20 v57 t f2 f6 f18 f22 f23 gC gS 4 := by
  rw [hb1, hbOf, ← v3200_eq c i arg20 t gC, ← v856_eq c arg6 arg18 arg19 v57 t f6 f18]
  iterate 11 refine (View.readCov_skip _ _ _ _ _ (by decide)).trans ?_
  exact View.readCov_cons_toLoadRect _ _ _ _

theorem v3562_eq : (sl.v3562 c i arg2 arg6 arg18 arg19 arg20 arg21 arg22 arg23 v20 v57 t f2 f6 f18 f22 f23 gC gS) = hb1 c i arg2 arg6 arg18 arg22 arg23 v20 v57 t f2 f6 f18 f22 f23 gC gS 5 := by
  rw [hb1, hbOf, ← v3220_eq c i arg20 t gC, ← v876_eq c arg6 arg18 arg19 v57 t f6 f18]
  iterate 10 refine (View.readCov_skip _ _ _ _ _ (by decide)).trans ?_
  exact View.readCov_cons_toLoadRect _ _ _ _

theorem v3574_eq : (sl.v3574 c i arg2 arg6 arg18 arg19 arg20 arg21 arg22 arg23 v20 v57 t f2 f6 f18 f22 f23 gC gS) = hb1 c i arg2 arg6 arg18 arg22 arg23 v20 v57 t f2 f6 f18 f22 f23 gC gS 6 := by
  rw [hb1, hbOf, ← v3240_eq c i arg20 t gC, ← v896_eq c arg6 arg18 arg19 v57 t f6 f18]
  iterate 9 refine (View.readCov_skip _ _ _ _ _ (by decide)).trans ?_
  exact View.readCov_cons_toLoadRect _ _ _ _

theorem v3586_eq : (sl.v3586 c i arg2 arg6 arg18 arg19 arg20 arg21 arg22 arg23 v20 v57 t f2 f6 f18 f22 f23 gC gS) = hb1 c i arg2 arg6 arg18 arg22 arg23 v20 v57 t f2 f6 f18 f22 f23 gC gS 7 := by
  rw [hb1, hbOf, ← v3260_eq c i arg20 t gC, ← v916_eq c arg6 arg18 arg19 v57 t f6 f18]
  iterate 8 refine (View.readCov_skip _ _ _ _ _ (by decide)).trans ?_
  exact View.readCov_cons_toLoadRect _ _ _ _

theorem v3598_eq : (sl.v3598 c i arg2 arg6 arg18 arg19 arg20 arg21 arg22 arg23 v20 v57 t f2 f6 f18 f22 f23 gC gS) = hb1 c i arg2 arg6 arg18 arg22 arg23 v20 v57 t f2 f6 f18 f22 f23 gC gS 8 := by
  rw [hb1, hbOf, ← v3280_eq c i arg20 t gC, ← v936_eq c arg6 arg18 arg19 v57 t f6 f18]
  iterate 7 refine (View.readCov_skip _ _ _ _ _ (by decide)).trans ?_
  exact View.readCov_cons_toLoadRect _ _ _ _

theorem v3610_eq : (sl.v3610 c i arg2 arg6 arg18 arg19 arg20 arg21 arg22 arg23 v20 v57 t f2 f6 f18 f22 f23 gC gS) = hb1 c i arg2 arg6 arg18 arg22 arg23 v20 v57 t f2 f6 f18 f22 f23 gC gS 9 := by
  rw [hb1, hbOf, ← v3300_eq c i arg20 t gC, ← v956_eq c arg6 arg18 arg19 v57 t f6 f18]
  iterate 6 refine (View.readCov_skip _ _ _ _ _ (by decide)).trans ?_
  exact View.readCov_cons_toLoadRect _ _ _ _

theorem v3622_eq : (sl.v3622 c i arg2 arg6 arg18 arg19 arg20 arg21 arg22 arg23 v20 v57 t f2 f6 f18 f22 f23 gC gS) = hb1 c i arg2 arg6 arg18 arg22 arg23 v20 v57 t f2 f6 f18 f22 f23 gC gS 10 := by
  rw [hb1, hbOf, ← v3320_eq c i arg20 t gC, ← v976_eq c arg6 arg18 arg19 v57 t f6 f18]
  iterate 5 refine (View.readCov_skip _ _ _ _ _ (by decide)).trans ?_
  exact View.readCov_cons_toLoadRect _ _ _ _

theorem v3634_eq : (sl.v3634 c i arg2 arg6 arg18 arg19 arg20 arg21 arg22 arg23 v20 v57 t f2 f6 f18 f22 f23 gC gS) = hb1 c i arg2 arg6 arg18 arg22 arg23 v20 v57 t f2 f6 f18 f22 f23 gC gS 11 := by
  rw [hb1, hbOf, ← v3340_eq c i arg20 t gC, ← v996_eq c arg6 arg18 arg19 v57 t f6 f18]
  iterate 4 refine (View.readCov_skip _ _ _ _ _ (by decide)).trans ?_
  exact View.readCov_cons_toLoadRect _ _ _ _

theorem v3646_eq : (sl.v3646 c i arg2 arg6 arg18 arg19 arg20 arg21 arg22 arg23 v20 v57 t f2 f6 f18 f22 f23 gC gS) = hb1 c i arg2 arg6 arg18 arg22 arg23 v20 v57 t f2 f6 f18 f22 f23 gC gS 12 := by
  rw [hb1, hbOf, ← v3360_eq c i arg20 t gC, ← v1016_eq c arg6 arg18 arg19 v57 t f6 f18]
  iterate 3 refine (View.readCov_skip _ _ _ _ _ (by decide)).trans ?_
  exact View.readCov_cons_toLoadRect _ _ _ _

theorem v3658_eq : (sl.v3658 c i arg2 arg6 arg18 arg19 arg20 arg21 arg22 arg23 v20 v57 t f2 f6 f18 f22 f23 gC gS) = hb1 c i arg2 arg6 arg18 arg22 arg23 v20 v57 t f2 f6 f18 f22 f23 gC gS 13 := by
  rw [hb1, hbOf, ← v3380_eq c i arg20 t gC, ← v1036_eq c arg6 arg18 arg19 v57 t f6 f18]
  iterate 2 refine (View.readCov_skip _ _ _ _ _ (by decide)).trans ?_
  exact View.readCov_cons_toLoadRect _ _ _ _

theorem v3670_eq : (sl.v3670 c i arg2 arg6 arg18 arg19 arg20 arg21 arg22 arg23 v20 v57 t f2 f6 f18 f22 f23 gC gS) = hb1 c i arg2 arg6 arg18 arg22 arg23 v20 v57 t f2 f6 f18 f22 f23 gC gS 14 := by
  rw [hb1, hbOf, ← v3400_eq c i arg20 t gC, ← v1056_eq c arg6 arg18 arg19 v57 t f6 f18]
  refine (View.readCov_skip _ _ _ _ _ (by decide)).trans ?_
  exact View.readCov_cons_toLoadRect _ _ _ _

theorem v3682_eq : (sl.v3682 c i arg2 arg6 arg18 arg19 arg20 arg21 arg22 arg23 v20 v57 t f2 f6 f18 f22 f23 gC gS) = hb1 c i arg2 arg6 arg18 arg22 arg23 v20 v57 t f2 f6 f18 f22 f23 gC gS 15 := by
  rw [hb1, hbOf, ← v3420_eq c i arg20 t gC, ← v1076_eq c arg6 arg18 arg19 v57 t f6 f18]
  exact View.readCov_cons_toLoadRect _ _ _ _

/-- The largest magnitudes over 448. -/
theorem t_1 : (sl.r_80 c i arg2 arg6 arg18 arg19 arg20 arg22 arg23 v20 v57 t f2 f6 f18 f22 f23 gC gS) = tOf (mAll (hq (sl.r_53 c i arg23 v20 t f23 gS) (sl.r_55 c arg2 arg22 v20 t f2 f22) (sl.v3106 c i t gC) (bpT c arg6 arg18 v57 t f6 f18)) 16) := by
  simp only [sl.r_57, sl.r_59, sl.r_60, sl.r_62, sl.r_63, sl.r_65, sl.r_66, sl.r_68, sl.r_69, sl.r_71, sl.r_72, sl.r_74, sl.r_75, sl.r_77, sl.r_78, sl.r_80, v3120_eq, v3140_eq, v3160_eq, v3180_eq, v3200_eq, v3220_eq, v3240_eq, v3260_eq, v3280_eq, v3300_eq, v3320_eq, v3340_eq, v3360_eq, v3380_eq, v3400_eq, v3420_eq, v776_eq, v796_eq, v816_eq, v836_eq, v856_eq, v876_eq, v896_eq, v916_eq, v936_eq, v956_eq, v976_eq, v996_eq, v1016_eq, v1036_eq, v1056_eq, v1076_eq]
  rfl

theorem scl_1 : (sl.r_84 c i arg2 arg6 arg18 arg19 arg20 arg22 arg23 v20 v57 t f2 f6 f18 f22 f23 gC gS) = sclOf (sl.r_80 c i arg2 arg6 arg18 arg19 arg20 arg22 arg23 v20 v57 t f2 f6 f18 f22 f23 gC gS) := by
  simp only [sl.r_84, sl.r_85, sl.r_86, sl.r_80, sl.r_81, sl.r_82, sl.r_83, k0_pay297, k0_pay298, k0_pay299]
  generalize k0_pay296 (F := F) _ _ _ _ _ _ = T
  rfl

theorem inv_1 : (sl.r_86 c i arg2 arg6 arg18 arg19 arg20 arg22 arg23 v20 v57 t f2 f6 f18 f22 f23 gC gS) = invOf (sl.r_80 c i arg2 arg6 arg18 arg19 arg20 arg22 arg23 v20 v57 t f2 f6 f18 f22 f23 gC gS) := by
  simp only [sl.r_84, sl.r_85, sl.r_86, sl.r_80, sl.r_81, sl.r_82, sl.r_83, k0_pay297, k0_pay298, k0_pay299]
  generalize k0_pay296 (F := F) _ _ _ _ _ _ = T
  rfl

/-- The group's codes as stored. -/
theorem codes_1 : k0_pay322 (sl.r_86 c i arg2 arg6 arg18 arg19 arg20 arg22 arg23 v20 v57 t f2 f6 f18 f22 f23 gC gS) (sl.r_87 c i arg2 arg6 arg18 arg19 arg20 arg21 arg22 arg23 v20 v57 t f2 f6 f18 f22 f23 gC gS) (sl.r_88 c i arg2 arg6 arg18 arg19 arg20 arg21 arg22 arg23 v20 v57 t f2 f6 f18 f22 f23 gC gS) (sl.r_89 c i arg2 arg6 arg18 arg19 arg20 arg21 arg22 arg23 v20 v57 t f2 f6 f18 f22 f23 gC gS) (sl.r_92 c i arg2 arg6 arg18 arg19 arg20 arg21 arg22 arg23 v20 v57 t f2 f6 f18 f22 f23 gC gS) (sl.r_93 c i arg2 arg6 arg18 arg19 arg20 arg21 arg22 arg23 v20 v57 t f2 f6 f18 f22 f23 gC gS) (sl.r_94 c i arg2 arg6 arg18 arg19 arg20 arg21 arg22 arg23 v20 v57 t f2 f6 f18 f22 f23 gC gS) (sl.r_95 c i arg2 arg6 arg18 arg19 arg20 arg21 arg22 arg23 v20 v57 t f2 f6 f18 f22 f23 gC gS) (sl.r_96 c i arg2 arg6 arg18 arg19 arg20 arg21 arg22 arg23 v20 v57 t f2 f6 f18 f22 f23 gC gS) (sl.r_97 c i arg2 arg6 arg18 arg19 arg20 arg21 arg22 arg23 v20 v57 t f2 f6 f18 f22 f23 gC gS) (sl.r_98 c i arg2 arg6 arg18 arg19 arg20 arg21 arg22 arg23 v20 v57 t f2 f6 f18 f22 f23 gC gS) (sl.r_100 c i arg2 arg6 arg18 arg19 arg20 arg21 arg22 arg23 v20 v57 t f2 f6 f18 f22 f23 gC gS) (sl.r_101 c i arg2 arg6 arg18 arg19 arg20 arg21 arg22 arg23 v20 v57 t f2 f6 f18 f22 f23 gC gS) (sl.r_102 c i arg2 arg6 arg18 arg19 arg20 arg21 arg22 arg23 v20 v57 t f2 f6 f18 f22 f23 gC gS) (sl.r_103 c i arg2 arg6 arg18 arg19 arg20 arg21 arg22 arg23 v20 v57 t f2 f6 f18 f22 f23 gC gS) (sl.v3670 c i arg2 arg6 arg18 arg19 arg20 arg21 arg22 arg23 v20 v57 t f2 f6 f18 f22 f23 gC gS) (sl.v3682 c i arg2 arg6 arg18 arg19 arg20 arg21 arg22 arg23 v20 v57 t f2 f6 f18 f22 f23 gC gS) = codesOf (sl.r_86 c i arg2 arg6 arg18 arg19 arg20 arg22 arg23 v20 v57 t f2 f6 f18 f22 f23 gC gS) (hbOf (sl.r_53 c i arg23 v20 t f23 gS) (sl.r_55 c arg2 arg22 v20 t f2 f22) (sl.v3106 c i t gC) (bpT c arg6 arg18 v57 t f6 f18)) := by
  simp only [sl.r_87, sl.r_88, sl.r_89, sl.r_90, sl.r_91, sl.r_92, sl.r_93, sl.r_94, sl.r_95, sl.r_96, sl.r_97, sl.r_98, sl.r_99, sl.r_100, sl.r_101, sl.r_102, sl.r_103, v3502_eq, v3514_eq, v3526_eq, v3538_eq, v3550_eq, v3562_eq, v3574_eq, v3586_eq, v3598_eq, v3610_eq, v3622_eq, v3634_eq, v3646_eq, v3658_eq, v3670_eq, v3682_eq]
  unfold sl.r_86
  generalize (sl.r_85 c i arg2 arg6 arg18 arg19 arg20 arg22 arg23 v20 v57 t f2 f6 f18 f22 f23 gC gS) = I
  rfl

end Cert.KernelIdeal.Hand

end

end
-- ==== Proof.Value.Trip2.lean ====
/-
Group 2 of one sequence's update, in the terms of `Canon`.
-/
module

public import proofs.«01_k».proof.Proof.Value.Bq

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.Sem
open Idealize.ShloMosaic.ValueIdx
open trip4Run

variable {F : FTy → Type} [FloatOps F]

variable (c : Dev nD) (i : grid0.Coords)
  (arg2 : Memref sig .tc .vmem S16x24x64 .bf16) (arg6 : Memref sig .tc .vmem S16x1x128 .bf16)
  (arg18 : Memref sig .tc .vmem S512x128 .bf16) (arg19 : Memref sig .tc .vmem S512x128 .f32)
  (arg20 : Memref sig .tc .vmem S3x512x128 .fp8e4m3) (arg21 : Memref sig .tc .vmem S3x512x128 .f32)
  (arg22 : Memref sig .tc .vmem S16x24 .f32) (arg23 : Memref sig .tc .vmem S16x24 .f32)
  (v20 : IVec S24x24 1) (v57 : FVec F S128x128 .bf16) (t : Fin k0_t4_loop.trips)
  (f2 : Bf (F := F) c arg2) (f6 : Bf (F := F) c arg6) (f18 : Bf (F := F) c arg18) (f22 : Bf (F := F) c arg22) (f23 : Bf (F := F) c arg23)
  (gC : Bf (F := F) c mC) (gS : Bf (F := F) c mS)

theorem v5471_eq : (sl.v5471 c i arg20 t gC) = ctOf (sl.v5457 c i t gC) 0 := ct_read arg20.view 2 0 _ _ _ _
theorem v5491_eq : (sl.v5491 c i arg20 t gC) = ctOf (sl.v5457 c i t gC) 1 := ct_read arg20.view 2 1 _ _ _ _
theorem v5511_eq : (sl.v5511 c i arg20 t gC) = ctOf (sl.v5457 c i t gC) 2 := ct_read arg20.view 2 2 _ _ _ _
theorem v5531_eq : (sl.v5531 c i arg20 t gC) = ctOf (sl.v5457 c i t gC) 3 := ct_read arg20.view 2 3 _ _ _ _
theorem v5551_eq : (sl.v5551 c i arg20 t gC) = ctOf (sl.v5457 c i t gC) 4 := ct_read arg20.view 2 4 _ _ _ _
theorem v5571_eq : (sl.v5571 c i arg20 t gC) = ctOf (sl.v5457 c i t gC) 5 := ct_read arg20.view 2 5 _ _ _ _
theorem v5591_eq : (sl.v5591 c i arg20 t gC) = ctOf (sl.v5457 c i t gC) 6 := ct_read arg20.view 2 6 _ _ _ _
theorem v5611_eq : (sl.v5611 c i arg20 t gC) = ctOf (sl.v5457 c i t gC) 7 := ct_read arg20.view 2 7 _ _ _ _
theorem v5631_eq : (sl.v5631 c i arg20 t gC) = ctOf (sl.v5457 c i t gC) 8 := ct_read arg20.view 2 8 _ _ _ _
theorem v5651_eq : (sl.v5651 c i arg20 t gC) = ctOf (sl.v5457 c i t gC) 9 := ct_read arg20.view 2 9 _ _ _ _
theorem v5671_eq : (sl.v5671 c i arg20 t gC) = ctOf (sl.v5457 c i t gC) 10 := ct_read arg20.view 2 10 _ _ _ _
theorem v5691_eq : (sl.v5691 c i arg20 t gC) = ctOf (sl.v5457 c i t gC) 11 := ct_read arg20.view 2 11 _ _ _ _
theorem v5711_eq : (sl.v5711 c i arg20 t gC) = ctOf (sl.v5457 c i t gC) 12 := ct_read arg20.view 2 12 _ _ _ _
theorem v5731_eq : (sl.v5731 c i arg20 t gC) = ctOf (sl.v5457 c i t gC) 13 := ct_read arg20.view 2 13 _ _ _ _
theorem v5751_eq : (sl.v5751 c i arg20 t gC) = ctOf (sl.v5457 c i t gC) 14 := ct_read arg20.view 2 14 _ _ _ _
theorem v5771_eq : (sl.v5771 c i arg20 t gC) = ctOf (sl.v5457 c i t gC) 15 := ct_read arg20.view 2 15 _ _ _ _

/-- Run `q` of the group's new state. -/
abbrev hb2 (q : ℕ) := hbOf (sl.r_106 c i arg23 v20 t f23 gS) (sl.r_108 c arg2 arg22 v20 t f2 f22) (sl.v5457 c i t gC) (bpT c arg6 arg18 v57 t f6 f18) q

theorem v5853_eq : (sl.v5853 c i arg2 arg6 arg18 arg19 arg20 arg21 arg22 arg23 v20 v57 t f2 f6 f18 f22 f23 gC gS) = hb2 c i arg2 arg6 arg18 arg22 arg23 v20 v57 t f2 f6 f18 f22 f23 gC gS 0 := by
  rw [hb2, hbOf, ← v5471_eq c i arg20 t gC, ← v776_eq c arg6 arg18 arg19 v57 t f6 f18]
  iterate 15 refine (View.readCov_skip _ _ _ _ _ (by decide)).trans ?_
  exact View.readCov_cons_toLoadRect _ _ _ _

theorem v5865_eq : (sl.v5865 c i arg2 arg6 arg18 arg19 arg20 arg21 arg22 arg23 v20 v57 t f2 f6 f18 f22 f23 gC gS) = hb2 c i arg2 arg6 arg18 arg22 arg23 v20 v57 t f2 f6 f18 f22 f23 gC gS 1 := by
  rw [hb2, hbOf, ← v5491_eq c i arg20 t gC, ← v796_eq c arg6 arg18 arg19 v57 t f6 f18]
  iterate 14 refine (View.readCov_skip _ _ _ _ _ (by decide)).trans ?_
  exact View.readCov_cons_toLoadRect _ _ _ _

theorem v5877_eq : (sl.v5877 c i arg2 arg6 arg18 arg19 arg20 arg21 arg22 arg23 v20 v57 t f2 f6 f18 f22 f23 gC gS) = hb2 c i arg2 arg6 arg18 arg22 arg23 v20 v57 t f2 f6 f18 f22 f23 gC gS 2 := by
  rw [hb2, hbOf, ← v5511_eq c i arg20 t gC, ← v816_eq c arg6 arg18 arg19 v57 t f6 f18]
  iterate 13 refine (View.readCov_skip _ _ _ _ _ (by decide)).trans ?_
  exact View.readCov_cons_toLoadRect _ _ _ _

theorem v5889_eq : (sl.v5889 c i arg2 arg6 arg18 arg19 arg20 arg21 arg22 arg23 v20 v57 t f2 f6 f18 f22 f23 gC gS) = hb2 c i arg2 arg6 arg18 arg22 arg23 v20 v57 t f2 f6 f18 f22 f23 gC gS 3 := by
  rw [hb2, hbOf, ← v5531_eq c i arg20 t gC, ← v836_eq c arg6 arg18 arg19 v57 t f6 f18]
  iterate 12 refine (View.readCov_skip _ _ _ _ _ (by decide)).trans ?_
  exact View.readCov_cons_toLoadRect _ _ _ _

theorem v5901_eq : (sl.v5901 c i arg2 arg6 arg18 arg19 arg20 arg21 arg22 arg23 v20 v57 t f2 f6 f18 f22 f23 gC gS) = hb2 c i arg2 arg6 arg18 arg22 arg23 v20 v57 t f2 f6 f18 f22 f23 gC gS 4 := by
  rw [hb2, hbOf, ← v5551_eq c i arg20 t gC, ← v856_eq c arg6 arg18 arg19 v57 t f6 f18]
  iterate 11 refine (View.readCov_skip _ _ _ _ _ (by decide)).trans ?_
  exact View.readCov_cons_toLoadRect _ _ _ _

theorem v5913_eq : (sl.v5913 c i arg2 arg6 arg18 arg19 arg20 arg21 arg22 arg23 v20 v57 t f2 f6 f18 f22 f23 gC gS) = hb2 c i arg2 arg6 arg18 arg22 arg23 v20 v57 t f2 f6 f18 f22 f23 gC gS 5 := by
  rw [hb2, hbOf, ← v5571_eq c i arg20 t gC, ← v876_eq c arg6 arg18 arg19 v57 t f6 f18]
  iterate 10 refine (View.readCov_skip _ _ _ _ _ (by decide)).trans ?_
  exact View.readCov_cons_toLoadRect _ _ _ _

theorem v5925_eq : (sl.v5925 c i arg2 arg6 arg18 arg19 arg20 arg21 arg22 arg23 v20 v57 t f2 f6 f18 f22 f23 gC gS) = hb2 c i arg2 arg6 arg18 arg22 arg23 v20 v57 t f2 f6 f18 f22 f23 gC gS 6 := by
  rw [hb2, hbOf, ← v5591_eq c i arg20 t gC, ← v896_eq c arg6 arg18 arg19 v57 t f6 f18]
  iterate 9 refine (View.readCov_skip _ _ _ _ _ (by decide)).trans ?_
  exact View.readCov_cons_toLoadRect _ _ _ _

theorem v5937_eq : (sl.v5937 c i arg2 arg6 arg18 arg19 arg20 arg21 arg22 arg23 v20 v57 t f2 f6 f18 f22 f23 gC gS) = hb2 c i arg2 arg6 arg18 arg22 arg23 v20 v57 t f2 f6 f18 f22 f23 gC gS 7 := by
  rw [hb2, hbOf, ← v5611_eq c i arg20 t gC, ← v916_eq c arg6 arg18 arg19 v57 t f6 f18]
  iterate 8 refine (View.readCov_skip _ _ _ _ _ (by decide)).trans ?_
  exact View.readCov_cons_toLoadRect _ _ _ _

theorem v5949_eq : (sl.v5949 c i arg2 arg6 arg18 arg19 arg20 arg21 arg22 arg23 v20 v57 t f2 f6 f18 f22 f23 gC gS) = hb2 c i arg2 arg6 arg18 arg22 arg23 v20 v57 t f2 f6 f18 f22 f23 gC gS 8 := by
  rw [hb2, hbOf, ← v5631_eq c i arg20 t gC, ← v936_eq c arg6 arg18 arg19 v57 t f6 f18]
  iterate 7 refine (View.readCov_skip _ _ _ _ _ (by decide)).trans ?_
  exact View.readCov_cons_toLoadRect _ _ _ _

theorem v5961_eq : (sl.v5961 c i arg2 arg6 arg18 arg19 arg20 arg21 arg22 arg23 v20 v57 t f2 f6 f18 f22 f23 gC gS) = hb2 c i arg2 arg6 arg18 arg22 arg23 v20 v57 t f2 f6 f18 f22 f23 gC gS 9 := by
  rw [hb2, hbOf, ← v5651_eq c i arg20 t gC, ← v956_eq c arg6 arg18 arg19 v57 t f6 f18]
  iterate 6 refine (View.readCov_skip _ _ _ _ _ (by decide)).trans ?_
  exact View.readCov_cons_toLoadRect _ _ _ _

theorem v5973_eq : (sl.v5973 c i arg2 arg6 arg18 arg19 arg20 arg21 arg22 arg23 v20 v57 t f2 f6 f18 f22 f23 gC gS) = hb2 c i arg2 arg6 arg18 arg22 arg23 v20 v57 t f2 f6 f18 f22 f23 gC gS 10 := by
  rw [hb2, hbOf, ← v5671_eq c i arg20 t gC, ← v976_eq c arg6 arg18 arg19 v57 t f6 f18]
  iterate 5 refine (View.readCov_skip _ _ _ _ _ (by decide)).trans ?_
  exact View.readCov_cons_toLoadRect _ _ _ _

theorem v5985_eq : (sl.v5985 c i arg2 arg6 arg18 arg19 arg20 arg21 arg22 arg23 v20 v57 t f2 f6 f18 f22 f23 gC gS) = hb2 c i arg2 arg6 arg18 arg22 arg23 v20 v57 t f2 f6 f18 f22 f23 gC gS 11 := by
  rw [hb2, hbOf, ← v5691_eq c i arg20 t gC, ← v996_eq c arg6 arg18 arg19 v57 t f6 f18]
  iterate 4 refine (View.readCov_skip _ _ _ _ _ (by decide)).trans ?_
  exact View.readCov_cons_toLoadRect _ _ _ _

theorem v5997_eq : (sl.v5997 c i arg2 arg6 arg18 arg19 arg20 arg21 arg22 arg23 v20 v57 t f2 f6 f18 f22 f23 gC gS) = hb2 c i arg2 arg6 arg18 arg22 arg23 v20 v57 t f2 f6 f18 f22 f23 gC gS 12 := by
  rw [hb2, hbOf, ← v5711_eq c i arg20 t gC, ← v1016_eq c arg6 arg18 arg19 v57 t f6 f18]
  iterate 3 refine (View.readCov_skip _ _ _ _ _ (by decide)).trans ?_
  exact View.readCov_cons_toLoadRect _ _ _ _

theorem v6009_eq : (sl.v6009 c i arg2 arg6 arg18 arg19 arg20 arg21 arg22 arg23 v20 v57 t f2 f6 f18 f22 f23 gC gS) = hb2 c i arg2 arg6 arg18 arg22 arg23 v20 v57 t f2 f6 f18 f22 f23 gC gS 13 := by
  rw [hb2, hbOf, ← v5731_eq c i arg20 t gC, ← v1036_eq c arg6 arg18 arg19 v57 t f6 f18]
  iterate 2 refine (View.readCov_skip _ _ _ _ _ (by decide)).trans ?_
  exact View.readCov_cons_toLoadRect _ _ _ _

theorem v6021_eq : (sl.v6021 c i arg2 arg6 arg18 arg19 arg20 arg21 arg22 arg23 v20 v57 t f2 f6 f18 f22 f23 gC gS) = hb2 c i arg2 arg6 arg18 arg22 arg23 v20 v57 t f2 f6 f18 f22 f23 gC gS 14 := by
  rw [hb2, hbOf, ← v5751_eq c i arg20 t gC, ← v1056_eq c arg6 arg18 arg19 v57 t f6 f18]
  refine (View.readCov_skip _ _ _ _ _ (by decide)).trans ?_
  exact View.readCov_cons_toLoadRect _ _ _ _

theorem v6033_eq : (sl.v6033 c i arg2 arg6 arg18 arg19 arg20 arg21 arg22 arg23 v20 v57 t f2 f6 f18 f22 f23 gC gS) = hb2 c i arg2 arg6 arg18 arg22 arg23 v20 v57 t f2 f6 f18 f22 f23 gC gS 15 := by
  rw [hb2, hbOf, ← v5771_eq c i arg20 t gC, ← v1076_eq c arg6 arg18 arg19 v57 t f6 f18]
  exact View.readCov_cons_toLoadRect _ _ _ _

/-- The largest magnitudes over 448. -/
theorem t_2 : (sl.r_125 c i arg2 arg6 arg18 arg19 arg20 arg22 arg23 v20 v57 t f2 f6 f18 f22 f23 gC gS) = tOf (mAll (hq (sl.r_106 c i arg23 v20 t f23 gS) (sl.r_108 c arg2 arg22 v20 t f2 f22) (sl.v5457 c i t gC) (bpT c arg6 arg18 v57 t f6 f18)) 16) := by
  simp only [sl.r_110, sl.r_111, sl.r_112, sl.r_113, sl.r_114, sl.r_115, sl.r_116, sl.r_117, sl.r_118, sl.r_119, sl.r_120, sl.r_121, sl.r_122, sl.r_123, sl.r_124, sl.r_125, v5471_eq, v5491_eq, v5511_eq, v5531_eq, v5551_eq, v5571_eq, v5591_eq, v5611_eq, v5631_eq, v5651_eq, v5671_eq, v5691_eq, v5711_eq, v5731_eq, v5751_eq, v5771_eq, v776_eq, v796_eq, v816_eq, v836_eq, v856_eq, v876_eq, v896_eq, v916_eq, v936_eq, v956_eq, v976_eq, v996_eq, v1016_eq, v1036_eq, v1056_eq, v1076_eq]
  rfl

theorem scl_2 : (sl.r_128 c i arg2 arg6 arg18 arg19 arg20 arg22 arg23 v20 v57 t f2 f6 f18 f22 f23 gC gS) = sclOf (sl.r_125 c i arg2 arg6 arg18 arg19 arg20 arg22 arg23 v20 v57 t f2 f6 f18 f22 f23 gC gS) := by
  simp only [sl.r_128, sl.r_129, sl.r_126, sl.r_127]
  generalize (sl.r_125 c i arg2 arg6 arg18 arg19 arg20 arg22 arg23 v20 v57 t f2 f6 f18 f22 f23 gC gS) = T
  rfl

theorem inv_2 : (sl.r_129 c i arg2 arg6 arg18 arg19 arg20 arg22 arg23 v20 v57 t f2 f6 f18 f22 f23 gC gS) = invOf (sl.r_125 c i arg2 arg6 arg18 arg19 arg20 arg22 arg23 v20 v57 t f2 f6 f18 f22 f23 gC gS) := by
  simp only [sl.r_128, sl.r_129, sl.r_126, sl.r_127]
  generalize (sl.r_125 c i arg2 arg6 arg18 arg19 arg20 arg22 arg23 v20 v57 t f2 f6 f18 f22 f23 gC gS) = T
  rfl

/-- The group's codes as stored. -/
theorem codes_2 : k0_pay517 (sl.r_129 c i arg2 arg6 arg18 arg19 arg20 arg22 arg23 v20 v57 t f2 f6 f18 f22 f23 gC gS) (sl.r_130 c i arg2 arg6 arg18 arg19 arg20 arg21 arg22 arg23 v20 v57 t f2 f6 f18 f22 f23 gC gS) (sl.r_131 c i arg2 arg6 arg18 arg19 arg20 arg21 arg22 arg23 v20 v57 t f2 f6 f18 f22 f23 gC gS) (sl.r_132 c i arg2 arg6 arg18 arg19 arg20 arg21 arg22 arg23 v20 v57 t f2 f6 f18 f22 f23 gC gS) (sl.r_133 c i arg2 arg6 arg18 arg19 arg20 arg21 arg22 arg23 v20 v57 t f2 f6 f18 f22 f23 gC gS) (sl.r_134 c i arg2 arg6 arg18 arg19 arg20 arg21 arg22 arg23 v20 v57 t f2 f6 f18 f22 f23 gC gS) (sl.r_135 c i arg2 arg6 arg18 arg19 arg20 arg21 arg22 arg23 v20 v57 t f2 f6 f18 f22 f23 gC gS) (sl.r_137 c i arg2 arg6 arg18 arg19 arg20 arg21 arg22 arg23 v20 v57 t f2 f6 f18 f22 f23 gC gS) (sl.r_138 c i arg2 arg6 arg18 arg19 arg20 arg21 arg22 arg23 v20 v57 t f2 f6 f18 f22 f23 gC gS) (sl.r_139 c i arg2 arg6 arg18 arg19 arg20 arg21 arg22 arg23 v20 v57 t f2 f6 f18 f22 f23 gC gS) (sl.r_140 c i arg2 arg6 arg18 arg19 arg20 arg21 arg22 arg23 v20 v57 t f2 f6 f18 f22 f23 gC gS) (sl.r_141 c i arg2 arg6 arg18 arg19 arg20 arg21 arg22 arg23 v20 v57 t f2 f6 f18 f22 f23 gC gS) (sl.r_142 c i arg2 arg6 arg18 arg19 arg20 arg21 arg22 arg23 v20 v57 t f2 f6 f18 f22 f23 gC gS) (sl.r_143 c i arg2 arg6 arg18 arg19 arg20 arg21 arg22 arg23 v20 v57 t f2 f6 f18 f22 f23 gC gS) (sl.r_144 c i arg2 arg6 arg18 arg19 arg20 arg21 arg22 arg23 v20 v57 t f2 f6 f18 f22 f23 gC gS) sl.cst_2066 sl.cst_2102 (sl.v6021 c i arg2 arg6 arg18 arg19 arg20 arg21 arg22 arg23 v20 v57 t f2 f6 f18 f22 f23 gC gS) (sl.v6033 c i arg2 arg6 arg18 arg19 arg20 arg21 arg22 arg23 v20 v57 t f2 f6 f18 f22 f23 gC gS) = codesOf (sl.r_129 c i arg2 arg6 arg18 arg19 arg20 arg22 arg23 v20 v57 t f2 f6 f18 f22 f23 gC gS) (hbOf (sl.r_106 c i arg23 v20 t f23 gS) (sl.r_108 c arg2 arg22 v20 t f2 f22) (sl.v5457 c i t gC) (bpT c arg6 arg18 v57 t f6 f18)) := by
  simp only [sl.r_130, sl.r_131, sl.r_132, sl.r_133, sl.r_134, sl.r_135, sl.r_136, sl.cst_2066, sl.r_137, sl.r_138, sl.r_139, sl.r_140, sl.r_141, sl.r_142, sl.r_143, sl.r_144, v5853_eq, v5865_eq, v5877_eq, v5889_eq, v5901_eq, v5913_eq, v5925_eq, v5937_eq, v5949_eq, v5961_eq, v5973_eq, v5985_eq, v5997_eq, v6009_eq, v6021_eq, v6033_eq]
  unfold sl.r_129
  generalize (sl.r_126 c i arg2 arg6 arg18 arg19 arg20 arg22 arg23 v20 v57 t f2 f6 f18 f22 f23 gC gS) = I
  generalize (sl.r_127 c i arg2 arg6 arg18 arg19 arg20 arg22 arg23 v20 v57 t f2 f6 f18 f22 f23 gC gS) = J
  rfl

end Cert.KernelIdeal.Hand

end

end
-- ==== Proof.Value.Rows0.lean ====
/-
The rows and lanes of the three groups.
-/
module

public import proofs.«01_k».proof.Proof.Value.Lanes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.Sem
open Idealize.ShloMosaic.ValueIdx
open trip4Run

variable {F : FTy → Type} [FloatOps F]

variable (c : Dev nD) (i : grid0.Coords)
  (arg2 : Memref sig .tc .vmem S16x24x64 .bf16) (arg6 : Memref sig .tc .vmem S16x1x128 .bf16)
  (arg18 : Memref sig .tc .vmem S512x128 .bf16) (arg19 : Memref sig .tc .vmem S512x128 .f32)
  (arg20 : Memref sig .tc .vmem S3x512x128 .fp8e4m3) (arg21 : Memref sig .tc .vmem S3x512x128 .f32)
  (arg22 : Memref sig .tc .vmem S16x24 .f32) (arg23 : Memref sig .tc .vmem S16x24 .f32)
  (v20 : IVec S24x24 1) (v57 : FVec F S128x128 .bf16) (t : Fin k0_t4_loop.trips)
  (f2 : Bf (F := F) c arg2) (f6 : Bf (F := F) c arg6) (f18 : Bf (F := F) c arg18) (f22 : Bf (F := F) c arg22) (f23 : Bf (F := F) c arg23)
  (gC : Bf (F := F) c mC) (gS : Bf (F := F) c mS)

theorem s8_0 (s : Fin 8) (l : Fin 128) : (sl.r_8 c i arg23 v20 t f23 gS) (ix2 s l) = (sl.r_1 c i arg23 v20 t f23 gS) (ix2 (⟨0 + l.val / 16, by omega⟩ : Fin 24) (colOf s l)) := by
  refine Eq.trans (r2l_apply _ _ _ _ _ _ _ _ _ _ _ _ _ _ _ shapeCasts_S8x128_S8x128x1 shapeCasts_S8x128x1_S8x128 rfl rfl rfl (by decide +kernel) (by decide +kernel) (by decide +kernel) (by decide +kernel) (by decide +kernel) (by decide +kernel) (by decide +kernel) (by decide +kernel) (by decide +kernel) (by decide +kernel) (by decide +kernel) s l) ?_
  exact pad_apply 0 (sl.r_1 c i arg23 v20 t f23 gS) _ slices_S24x64_o0_0_S8x64 concatenates_S8x64_S8x64_S8x128_d1 (rowOf l) (colOf s l) (by decide)

theorem xp8_0 (s : Fin 8) (l : Fin 128) : (sl.r_10 c arg2 arg22 v20 t f2 f22) (ix2 s l) = (sl.r_2 c arg2 arg22 v20 t f2 f22) (ix2 (⟨0 + l.val / 16, by omega⟩ : Fin 24) (colOf s l)) := by
  refine Eq.trans (r2l_apply _ _ _ _ _ _ _ _ _ _ _ _ _ _ _ shapeCasts_S8x128_S8x128x1 shapeCasts_S8x128x1_S8x128 rfl rfl rfl (by decide +kernel) (by decide +kernel) (by decide +kernel) (by decide +kernel) (by decide +kernel) (by decide +kernel) (by decide +kernel) (by decide +kernel) (by decide +kernel) (by decide +kernel) (by decide +kernel) s l) ?_
  exact pad_apply 0 (sl.r_2 c arg2 arg22 v20 t f2 f22) _ slices_S24x64_o0_0_S8x64 concatenates_S8x64_S8x64_S8x128_d1 (rowOf l) (colOf s l) (by decide)

theorem os_0 (s : Fin 8) (l : Fin 64) : (sl.v1919 c i arg2 arg6 arg18 arg19 arg20 arg22 arg23 v20 v57 t f2 f6 f18 f22 f23 gC gS) (ix3 (0 : Fin 1) s l) = (sl.r_29 c i arg2 arg6 arg18 arg19 arg20 arg22 arg23 v20 v57 t f2 f6 f18 f22 f23 gC gS) (ix2 (⟨s.val % 2 * 4 + l.val % 4, by omega⟩ : Fin 8) (⟨16 * s.val + l.val / 4, by omega⟩ : Fin 128)) := by
  simp only [sl.v1844, sl.v1887, sl.v1697, sl.v1740, sl.v1550, sl.v1593, sl.v1430, sl.v1473, sl.v1620, sl.v1767, sl.v1914, sl.v1915, sl.v1919, sl.v1843, sl.v1472, sl.v1696, sl.v1549, sl.v1429]
  generalize (sl.r_29 c i arg2 arg6 arg18 arg19 arg20 arg22 arg23 v20 v57 t f2 f6 f18 f22 f23 gC gS) = v
  refine l2r_apply v _ _ _ _ _ _ _ _ shapeCasts_S8x128_S8x128x1 shapeCasts_S8x128x1_S8x128 ?_ ?_ ?_ ?_ ?_ ?_ ?_ ?_ _ _ s l <;> decide +kernel

end Cert.KernelIdeal.Hand

end

end
-- ==== Proof.Value.Rows1.lean ====
/-
The rows and lanes of the three groups.
-/
module

public import proofs.«01_k».proof.Proof.Value.Lanes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.Sem
open Idealize.ShloMosaic.ValueIdx
open trip4Run

variable {F : FTy → Type} [FloatOps F]

variable (c : Dev nD) (i : grid0.Coords)
  (arg2 : Memref sig .tc .vmem S16x24x64 .bf16) (arg6 : Memref sig .tc .vmem S16x1x128 .bf16)
  (arg18 : Memref sig .tc .vmem S512x128 .bf16) (arg19 : Memref sig .tc .vmem S512x128 .f32)
  (arg20 : Memref sig .tc .vmem S3x512x128 .fp8e4m3) (arg21 : Memref sig .tc .vmem S3x512x128 .f32)
  (arg22 : Memref sig .tc .vmem S16x24 .f32) (arg23 : Memref sig .tc .vmem S16x24 .f32)
  (v20 : IVec S24x24 1) (v57 : FVec F S128x128 .bf16) (t : Fin k0_t4_loop.trips)
  (f2 : Bf (F := F) c arg2) (f6 : Bf (F := F) c arg6) (f18 : Bf (F := F) c arg18) (f22 : Bf (F := F) c arg22) (f23 : Bf (F := F) c arg23)
  (gC : Bf (F := F) c mC) (gS : Bf (F := F) c mS)

theorem s8_1 (s : Fin 8) (l : Fin 128) : (sl.r_53 c i arg23 v20 t f23 gS) (ix2 s l) = (sl.r_1 c i arg23 v20 t f23 gS) (ix2 (⟨8 + l.val / 16, by omega⟩ : Fin 24) (colOf s l)) := by
  refine Eq.trans (r2l_apply _ _ _ _ _ _ _ _ _ _ _ _ _ _ _ shapeCasts_S8x128_S8x128x1 shapeCasts_S8x128x1_S8x128 rfl rfl rfl (by decide +kernel) (by decide +kernel) (by decide +kernel) (by decide +kernel) (by decide +kernel) (by decide +kernel) (by decide +kernel) (by decide +kernel) (by decide +kernel) (by decide +kernel) (by decide +kernel) s l) ?_
  exact pad_apply 8 (sl.r_1 c i arg23 v20 t f23 gS) _ slices_S24x64_o8_0_S8x64 concatenates_S8x64_S8x64_S8x128_d1 (rowOf l) (colOf s l) (by decide)

theorem xp8_1 (s : Fin 8) (l : Fin 128) : (sl.r_55 c arg2 arg22 v20 t f2 f22) (ix2 s l) = (sl.r_2 c arg2 arg22 v20 t f2 f22) (ix2 (⟨8 + l.val / 16, by omega⟩ : Fin 24) (colOf s l)) := by
  refine Eq.trans (r2l_apply _ _ _ _ _ _ _ _ _ _ _ _ _ _ _ shapeCasts_S8x128_S8x128x1 shapeCasts_S8x128x1_S8x128 rfl rfl rfl (by decide +kernel) (by decide +kernel) (by decide +kernel) (by decide +kernel) (by decide +kernel) (by decide +kernel) (by decide +kernel) (by decide +kernel) (by decide +kernel) (by decide +kernel) (by decide +kernel) s l) ?_
  exact pad_apply 8 (sl.r_2 c arg2 arg22 v20 t f2 f22) _ slices_S24x64_o8_0_S8x64 concatenates_S8x64_S8x64_S8x128_d1 (rowOf l) (colOf s l) (by decide)

theorem os_1 (s : Fin 8) (l : Fin 64) : (sl.v4270 c i arg2 arg6 arg18 arg19 arg20 arg22 arg23 v20 v57 t f2 f6 f18 f22 f23 gC gS) (ix3 (0 : Fin 1) s l) = (sl.r_84 c i arg2 arg6 arg18 arg19 arg20 arg22 arg23 v20 v57 t f2 f6 f18 f22 f23 gC gS) (ix2 (⟨s.val % 2 * 4 + l.val % 4, by omega⟩ : Fin 8) (⟨16 * s.val + l.val / 4, by omega⟩ : Fin 128)) := by
  simp only [sl.v4195, sl.v4238, sl.v4048, sl.v4091, sl.v3901, sl.v3944, sl.v3781, sl.v3824, sl.v3971, sl.v4118, sl.v4265, sl.v4266, sl.v4270, sl.v1843, sl.v1472, sl.v1696, sl.v1549, sl.v3780]
  generalize (sl.r_84 c i arg2 arg6 arg18 arg19 arg20 arg22 arg23 v20 v57 t f2 f6 f18 f22 f23 gC gS) = v
  refine l2r_apply v _ _ _ _ _ _ _ _ shapeCasts_S8x128_S8x128x1 shapeCasts_S8x128x1_S8x128 ?_ ?_ ?_ ?_ ?_ ?_ ?_ ?_ _ _ s l <;> decide +kernel

end Cert.KernelIdeal.Hand

end

end
-- ==== Proof.Value.Rows2.lean ====
/-
The rows and lanes of the three groups.
-/
module

public import proofs.«01_k».proof.Proof.Value.Lanes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.Sem
open Idealize.ShloMosaic.ValueIdx
open trip4Run

variable {F : FTy → Type} [FloatOps F]

variable (c : Dev nD) (i : grid0.Coords)
  (arg2 : Memref sig .tc .vmem S16x24x64 .bf16) (arg6 : Memref sig .tc .vmem S16x1x128 .bf16)
  (arg18 : Memref sig .tc .vmem S512x128 .bf16) (arg19 : Memref sig .tc .vmem S512x128 .f32)
  (arg20 : Memref sig .tc .vmem S3x512x128 .fp8e4m3) (arg21 : Memref sig .tc .vmem S3x512x128 .f32)
  (arg22 : Memref sig .tc .vmem S16x24 .f32) (arg23 : Memref sig .tc .vmem S16x24 .f32)
  (v20 : IVec S24x24 1) (v57 : FVec F S128x128 .bf16) (t : Fin k0_t4_loop.trips)
  (f2 : Bf (F := F) c arg2) (f6 : Bf (F := F) c arg6) (f18 : Bf (F := F) c arg18) (f22 : Bf (F := F) c arg22) (f23 : Bf (F := F) c arg23)
  (gC : Bf (F := F) c mC) (gS : Bf (F := F) c mS)

theorem s8_2 (s : Fin 8) (l : Fin 128) : (sl.r_106 c i arg23 v20 t f23 gS) (ix2 s l) = (sl.r_1 c i arg23 v20 t f23 gS) (ix2 (⟨16 + l.val / 16, by omega⟩ : Fin 24) (colOf s l)) := by
  refine Eq.trans (r2l_apply _ _ _ _ _ _ _ _ _ _ _ _ _ _ _ shapeCasts_S8x128_S8x128x1 shapeCasts_S8x128x1_S8x128 rfl rfl rfl (by decide +kernel) (by decide +kernel) (by decide +kernel) (by decide +kernel) (by decide +kernel) (by decide +kernel) (by decide +kernel) (by decide +kernel) (by decide +kernel) (by decide +kernel) (by decide +kernel) s l) ?_
  exact pad_apply 16 (sl.r_1 c i arg23 v20 t f23 gS) _ slices_S24x64_o16_0_S8x64 concatenates_S8x64_S8x64_S8x128_d1 (rowOf l) (colOf s l) (by decide)

theorem xp8_2 (s : Fin 8) (l : Fin 128) : (sl.r_108 c arg2 arg22 v20 t f2 f22) (ix2 s l) = (sl.r_2 c arg2 arg22 v20 t f2 f22) (ix2 (⟨16 + l.val / 16, by omega⟩ : Fin 24) (colOf s l)) := by
  refine Eq.trans (r2l_apply _ _ _ _ _ _ _ _ _ _ _ _ _ _ _ shapeCasts_S8x128_S8x128x1 shapeCasts_S8x128x1_S8x128 rfl rfl rfl (by decide +kernel) (by decide +kernel) (by decide +kernel) (by decide +kernel) (by decide +kernel) (by decide +kernel) (by decide +kernel) (by decide +kernel) (by decide +kernel) (by decide +kernel) (by decide +kernel) s l) ?_
  exact pad_apply 16 (sl.r_2 c arg2 arg22 v20 t f2 f22) _ slices_S24x64_o16_0_S8x64 concatenates_S8x64_S8x64_S8x128_d1 (rowOf l) (colOf s l) (by decide)

theorem os_2 (s : Fin 8) (l : Fin 64) : (sl.v6621 c i arg2 arg6 arg18 arg19 arg20 arg22 arg23 v20 v57 t f2 f6 f18 f22 f23 gC gS) (ix3 (0 : Fin 1) s l) = (sl.r_128 c i arg2 arg6 arg18 arg19 arg20 arg22 arg23 v20 v57 t f2 f6 f18 f22 f23 gC gS) (ix2 (⟨s.val % 2 * 4 + l.val % 4, by omega⟩ : Fin 8) (⟨16 * s.val + l.val / 4, by omega⟩ : Fin 128)) := by
  simp only [sl.v6546, sl.v6589, sl.v6399, sl.v6442, sl.v6252, sl.v6295, sl.v6132, sl.v6175, sl.v6322, sl.v6469, sl.v6616, sl.v6617, sl.v6621, sl.v1843, sl.v1472, sl.v1696, sl.v1549, sl.v6131]
  generalize (sl.r_128 c i arg2 arg6 arg18 arg19 arg20 arg22 arg23 v20 v57 t f2 f6 f18 f22 f23 gC gS) = v
  refine l2r_apply v _ _ _ _ _ _ _ _ shapeCasts_S8x128_S8x128x1 shapeCasts_S8x128x1_S8x128 ?_ ?_ ?_ ?_ ?_ ?_ ?_ ?_ _ _ s l <;> decide +kernel

end Cert.KernelIdeal.Hand

end

end
-- ==== Proof.Value.Step.lean ====
/-
One trip of the compute loop over the extended reals: the rows of codes and scales that it writes, in terms of the
blocks it reads.
-/
module

public import proofs.«01_k».proof.Proof.Value.Reads
public import proofs.«01_k».proof.Proof.Value.Trip0
public import proofs.«01_k».proof.Proof.Value.Trip1
public import proofs.«01_k».proof.Proof.Value.Trip2
public import proofs.«01_k».proof.Proof.Value.Rows0
public import proofs.«01_k».proof.Proof.Value.Rows1
public import proofs.«01_k».proof.Proof.Value.Rows2
public import proofs.«01_k».proof.Proof.StateI.Body
public import Idealize.ShloMosaic.Lib.WritesUnit
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe
open Idealize.ShloMosaic.ValueIdx
open trip4Run

/-! ### Offsets of the trip's reads and writes -/

theorem off26_eq (t : Fin k0_t4_loop.trips) : k0_off26 t = ![t.val, 0] := by revert t; decide +kernel
theorem off27_eq (t : Fin k0_t4_loop.trips) : k0_off27 t = ![t.val, 0, 0] := by revert t; decide +kernel
theorem off29_eq (t : Fin k0_t4_loop.trips) : k0_off29 t = ![t.val, 0, 0] := by revert t; decide +kernel
theorem off31_eq (t : Fin k0_t4_loop.trips) : k0_off31 t = ![t.val, 0, 0, 0] := by revert t; decide +kernel
theorem off34_eq (t : Fin k0_t4_loop.trips) : k0_off34 t = ![t.val, 8, 0, 0] := by revert t; decide +kernel
theorem off37_eq (t : Fin k0_t4_loop.trips) : k0_off37 t = ![t.val, 16, 0, 0] := by revert t; decide +kernel
theorem off32_eq (t : Fin k0_t4_loop.trips) : k0_off32 t = ![t.val, 0, 0] := by revert t; decide +kernel
theorem off35_eq (t : Fin k0_t4_loop.trips) : k0_off35 t = ![t.val, 8, 0] := by revert t; decide +kernel
theorem off38_eq (t : Fin k0_t4_loop.trips) : k0_off38 t = ![t.val, 16, 0] := by revert t; decide +kernel

/-- A load at offsets reads the buffer at the offsets plus the index. -/
theorem rd_at {S : Shape} {sp : CoreSpace} {e : EltTy} {c : Dev nD} (m : Memref sig .tc sp S e) (f : Bf (F := Ideal) c m) {off off' size : Fin S.rank → ℕ}
    (inb : ∀ a, off a + size a ≤ S.size a) (h : off = off') (x : (Rect.unit off size inb).shape.Idx) (y : S.Idx) (hx : ∀ a, (y a).val = off' a + (x a).val) :
    View.readAt (Elt Ideal) m.view (Rect.unit off size inb).toLoadRect f x = m.view.read (Elt Ideal) f y := by
  subst h
  exact congrArg (m.view.read (Elt Ideal) f) (funext fun a => Fin.ext (by show off a + 1 * (x a).val = (y a).val; rw [hx a, Nat.one_mul]))

/-! ### The new state of a sequence -/

/-- The time step of one sequence and head. -/
def dlt {n : ℕ} (dt : (⟨2, ![n, 24]⟩ : Shape).Idx → EReal) (bias : Fin 24 → EReal) (b : Fin n) (h : Fin 24) : EReal := spl (dt (ix2 b h) + bias h)

/-- The new state of one sequence: the old codes `cv` times the decayed scales, plus the scaled input. -/
def newS {n : ℕ} (cv : S24x64x128.Idx → EReal) (sv : S24x64.Idx → EReal) (x : (⟨3, ![n, 24, 64]⟩ : Shape).Idx → EReal) (dt : (⟨2, ![n, 24]⟩ : Shape).Idx → EReal)
    (bias alog : Fin 24 → EReal) (Bm : (⟨3, ![n, 1, 128]⟩ : Shape).Idx → EReal) (b : Fin n) (h : Fin 24) (p : Fin 64) (k : Fin 128) : EReal :=
  cv (ix3 h p k) * (sv (ix2 h p) * dcy (alog h) (dlt dt bias b h)) + (x (ix3 b h p) * dlt dt bias b h) * Bm (ix3 b (0 : Fin 1) k)

variable (c : Dev nD) (T : S640.Idx → BitVec 32) (fA : Buf (Elt Ideal) (mA.view.loc (c : Thread nD τ))) (fB : Buf (Elt Ideal) (mB.view.loc (c : Thread nD τ)))
variable (i : grid0.Coords)
  (arg2 : Memref sig .tc .vmem S16x24x64 .bf16) (harg2 : arg2.IsWhole) (arg3 : Memref sig .tc .vmem S16x24 .bf16) (harg3 : arg3.IsWhole)
  (arg4 : Memref sig .tc .vmem S1x24 .f32) (harg4 : arg4.IsWhole) (arg5 : Memref sig .tc .vmem S1x24 .f32) (harg5 : arg5.IsWhole)
  (arg6 : Memref sig .tc .vmem S16x1x128 .bf16) (harg6 : arg6.IsWhole) (arg7 : Memref sig .tc .vmem S16x1x128 .bf16) (harg7 : arg7.IsWhole)
  (arg8 : Memref sig .tc .vmem S1x24 .f32) (harg8 : arg8.IsWhole)
  (arg11 : Memref sig .tc .vmem S16x24x64 .bf16) (harg11 : arg11.IsWhole) (arg12 : Memref sig .tc .vmem S16x24x64x128 .fp8e4m3) (harg12 : arg12.IsWhole)
  (arg13 : Memref sig .tc .vmem S16x24x64 .f32) (harg13 : arg13.IsWhole)
  (arg18 : Memref sig .tc .vmem S512x128 .bf16) (harg18 : arg18.IsWhole) (arg19 : Memref sig .tc .vmem S512x128 .f32) (harg19 : arg19.IsWhole)
  (arg20 : Memref sig .tc .vmem S3x512x128 .fp8e4m3) (harg20 : arg20.IsWhole) (arg21 : Memref sig .tc .vmem S3x512x128 .f32) (harg21 : arg21.IsWhole)
  (arg22 : Memref sig .tc .vmem S16x24 .f32) (harg22 : arg22.IsWhole) (arg23 : Memref sig .tc .vmem S16x24 .f32) (harg23 : arg23.IsWhole)
variable (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8)

/-! ### The time steps and decays of the block -/

theorem read_dtOf (f22 : Bf (F := Ideal) c arg22) (b : Fin 16) (h : Fin 24) :
    arg22.view.read (Elt Ideal) (dtOf c arg3 arg4 arg22 f3 f4 f22) (ix2 b h) = dlt (arg3.view.read (Elt Ideal) f3) (fun h => arg4.view.read (Elt Ideal) f4 (ix2 (0 : Fin 1) h)) b h := by
  have e1 := View.readAt_full arg22.view (dtOf c arg3 arg4 arg22 f3 f4 f22) (off := ![0, 0]) inb_S16x24_S16x24_0_0
  have e2 : (arg22.access (Rect.unit (s := S16x24) ![0, 0] S16x24.size inb_S16x24_S16x24_0_0)).read (Elt Ideal) (dtOf c arg3 arg4 arg22 f3 f4 f22) = _ := View.read_write_univ _ _
  refine (congrFun (e1.symm.trans e2) (ix2 b h)).trans ?_
  rw [pay614_apply, pay612_eq]
  exact congrArg₂ (fun x y : EReal => spl (x + y)) (congrFun (View.readAt_full arg3.view f3 (off := ![0, 0]) inb_S16x24_S16x24_0_0) _) (congrFun (View.readAt_full arg4.view f4 (off := ![0, 0]) inb_S1x24_S1x24_0_0) _)

theorem read_decayOf (f23 : Bf (F := Ideal) c arg23) (b : Fin 16) (h : Fin 24) :
    arg23.view.read (Elt Ideal) (decayOf c arg3 arg4 arg5 arg23 f3 f4 f5 f23) (ix2 b h)
      = dcy (arg5.view.read (Elt Ideal) f5 (ix2 (0 : Fin 1) h)) (dlt (arg3.view.read (Elt Ideal) f3) (fun h => arg4.view.read (Elt Ideal) f4 (ix2 (0 : Fin 1) h)) b h) := by
  have e1 := View.readAt_full arg23.view (decayOf c arg3 arg4 arg5 arg23 f3 f4 f5 f23) (off := ![0, 0]) inb_S16x24_S16x24_0_0
  have e2 : (arg23.access (Rect.unit (s := S16x24) ![0, 0] S16x24.size inb_S16x24_S16x24_0_0)).read (Elt Ideal) (decayOf c arg3 arg4 arg5 arg23 f3 f4 f5 f23) = _ := View.read_write_univ _ _
  refine (congrFun (e1.symm.trans e2) (ix2 b h)).trans ?_
  rw [pay615_apply, pay612_eq]
  exact congrArg₂ dcy (congrFun (View.readAt_full arg5.view f5 (off := ![0, 0]) inb_S1x24_S1x24_0_0) _)
    (congrArg₂ (fun x y : EReal => spl (x + y)) (congrFun (View.readAt_full arg3.view f3 (off := ![0, 0]) inb_S16x24_S16x24_0_0) _) (congrFun (View.readAt_full arg4.view f4 (off := ![0, 0]) inb_S1x24_S1x24_0_0) _))

variable (f18 : Bf (F := Ideal) c arg18) (f22 : Bf (F := Ideal) c arg22) (f23 : Bf (F := Ideal) c arg23)
  (t : Fin k0_t4_loop.trips) (gC : Bf (F := Ideal) c mC) (gS : Bf (F := Ideal) c mS)
  (f12 : Bf (F := Ideal) c arg12) (f13 : Bf (F := Ideal) c arg13)
variable (cv : S24x64x128.Idx → EReal) (sv : S24x64.Idx → EReal)

/-- The sequence of the trip. -/
abbrev tB (t : Fin k0_t4_loop.trips) : Fin 16 := t
/-- The slot of the point. -/
abbrev slotOf (i : grid0.Coords) : Fin 2 := ⟨(i 0).val % 2, Nat.mod_lt _ (by omega)⟩

/-- The new state that this trip computes. -/
abbrev hT (h : Fin 24) (p : Fin 64) (k : Fin 128) : EReal :=
  newS cv sv (arg2.view.read (Elt Ideal) f2) (arg3.view.read (Elt Ideal) f3) (fun h => arg4.view.read (Elt Ideal) f4 (ix2 (0 : Fin 1) h)) (fun h => arg5.view.read (Elt Ideal) f5 (ix2 (0 : Fin 1) h)) (arg6.view.read (Elt Ideal) f6) (tB t) h p k

/-- The decayed scales of this trip. -/
theorem r1_apply (hS : HoldsS (F := Ideal) c ((i 0).val % 2) t.val gS sv) (h : Fin 24) (p : Fin 64) :
    sl.r_1 c i arg23 k0_pay609 t (decayOf c arg3 arg4 arg5 arg23 f3 f4 f5 f23) gS (ix2 h p)
      = sv (ix2 h p) * dcy (arg5.view.read (Elt Ideal) f5 (ix2 (0 : Fin 1) h)) (dlt (arg3.view.read (Elt Ideal) f3) (fun h => arg4.view.read (Elt Ideal) f4 (ix2 (0 : Fin 1) h)) (tB t) h) := by
  unfold sl.r_1
  rw [pay3_apply]
  refine congrArg₂ (fun x y : EReal => x * y) ?_ ?_
  · unfold sl.v101
    refine (rd_at mS gS _ (off28_eq i t) _ (ix4 (slotOf i) (tB t) h p) (by intro a; fin_cases a <;> first | rfl | exact (Nat.zero_add _).symm)).trans ?_
    exact hS (slotOf i) (tB t) rfl rfl (ix2 h p)
  · refine (rd_at arg23 _ _ (off26_eq t) _ (ix2 (tB t) h) (by intro a; fin_cases a <;> first | rfl | exact (Nat.zero_add _).symm)).trans ?_
    exact read_decayOf c arg3 arg4 arg5 arg23 f3 f4 f5 f23 (tB t) h

/-- The scaled inputs of this trip. -/
theorem r2_apply (h : Fin 24) (p : Fin 64) :
    sl.r_2 c arg2 arg22 k0_pay609 t f2 (dtOf c arg3 arg4 arg22 f3 f4 f22) (ix2 h p)
      = arg2.view.read (Elt Ideal) f2 (ix3 (tB t) h p) * dlt (arg3.view.read (Elt Ideal) f3) (fun h => arg4.view.read (Elt Ideal) f4 (ix2 (0 : Fin 1) h)) (tB t) h := by
  unfold sl.r_2
  rw [pay4_apply]
  refine congrArg₂ (fun x y : EReal => x * y) ?_ ?_
  · exact rd_at arg2 f2 _ (off27_eq t) _ (ix3 (tB t) h p) (by intro a; fin_cases a <;> first | rfl | exact (Nat.zero_add _).symm)
  · refine (rd_at arg22 _ _ (off26_eq t) _ (ix2 (tB t) h) (by intro a; fin_cases a <;> first | rfl | exact (Nat.zero_add _).symm)).trans ?_
    exact read_dtOf c arg3 arg4 arg22 f3 f4 f22 (tB t) h

/-- The spread-out input projection of this trip. -/
theorem bp_apply (h18 : Has18 (F := Ideal) c arg18 f18) (R : Fin 512) (l : Fin 128) :
    bpT (F := Ideal) c arg6 arg18 k0_pay616 t f6 f18 (ix2 R l) = arg6.view.read (Elt Ideal) f6 (ix3 (tB t) (0 : Fin 1) (⟨R.val / 4, by omega⟩ : Fin 128)) := by
  refine (pay8_apply _ _ h18 R l).trans ?_
  unfold sl.r_3 k0_pay5
  dsimp only
  refine (shapeCast_apply _ shapeCasts_S1x1x128_S1x128 _ (ix3 (0 : Fin 1) (0 : Fin 1) (⟨R.val / 4, by omega⟩ : Fin 128)) (by rw [Shape.rowMajor_val_two, Shape.rowMajor_val_three]; show (0 * 1 + 0) * 128 + R.val / 4 = 0 * 128 + R.val / 4; omega)).trans ?_
  exact rd_at arg6 f6 _ (off29_eq t) _ (ix3 (tB t) (0 : Fin 1) (⟨R.val / 4, by omega⟩ : Fin 128)) (by intro a; fin_cases a <;> first | rfl | exact (Nat.zero_add _).symm)

/-! ### Heads 0 to 7 -/

/-- The decayed scales, the scaled inputs and the new state of this group. -/
abbrev S_0 (h : Fin 8) (p : Fin 64) : EReal := sv (ix2 (⟨0 + h.val, by omega⟩ : Fin 24) p) * dcy (arg5.view.read (Elt Ideal) f5 (ix2 (0 : Fin 1) (⟨0 + h.val, by omega⟩ : Fin 24))) (dlt (arg3.view.read (Elt Ideal) f3) (fun h => arg4.view.read (Elt Ideal) f4 (ix2 (0 : Fin 1) h)) (tB t) (⟨0 + h.val, by omega⟩ : Fin 24))
abbrev X_0 (h : Fin 8) (p : Fin 64) : EReal := arg2.view.read (Elt Ideal) f2 (ix3 (tB t) (⟨0 + h.val, by omega⟩ : Fin 24) p) * dlt (arg3.view.read (Elt Ideal) f3) (fun h => arg4.view.read (Elt Ideal) f4 (ix2 (0 : Fin 1) h)) (tB t) (⟨0 + h.val, by omega⟩ : Fin 24)

theorem newH_0 (hC : HoldsC (F := Ideal) c ((i 0).val % 2) t.val gC cv) (h : Fin 8) (p : Fin 64) :
    newH (sl.v755 c i t gC) (S_0 c arg3 arg4 arg5 f3 f4 f5 t sv) (X_0 c arg2 arg3 arg4 f2 f3 f4 t) (fun n => arg6.view.read (Elt Ideal) f6 (ix3 (tB t) (0 : Fin 1) n)) h p
      = hT c arg2 arg3 arg4 arg5 arg6 f2 f3 f4 f5 f6 t cv sv (⟨0 + h.val, by omega⟩ : Fin 24) p := by
  funext k
  unfold newH hT newS
  refine congrArg (fun z : EReal => z * _ + _) ?_
  unfold sl.v755
  refine (rd_at mC gC _ (off30_eq i t) _ (ix5 (slotOf i) (tB t) (⟨0 + h.val, by omega⟩ : Fin 24) p k) (by intro a; fin_cases a <;> first | rfl | exact (Nat.zero_add _).symm)).trans ?_
  exact hC (slotOf i) (tB t) rfl rfl (ix3 (⟨0 + h.val, by omega⟩ : Fin 24) p k)

theorem hS_0 (hS : HoldsS (F := Ideal) c ((i 0).val % 2) t.val gS sv) (s : Fin 8) (l : Fin 128) :
    sl.r_8 c i arg23 k0_pay609 t (decayOf c arg3 arg4 arg5 arg23 f3 f4 f5 f23) gS (ix2 s l) = S_0 c arg3 arg4 arg5 f3 f4 f5 t sv (hOf l) (pOf s l) :=
  (s8_0 c i arg23 k0_pay609 t _ gS s l).trans (r1_apply c i arg3 arg4 arg5 arg23 f3 f4 f5 f23 t gS sv hS _ _)

theorem hX_0 (s : Fin 8) (l : Fin 128) :
    sl.r_10 c arg2 arg22 k0_pay609 t f2 (dtOf c arg3 arg4 arg22 f3 f4 f22) (ix2 s l) = X_0 c arg2 arg3 arg4 f2 f3 f4 t (hOf l) (pOf s l) :=
  (xp8_0 c arg2 arg22 k0_pay609 t f2 _ s l).trans (r2_apply c arg2 arg3 arg4 arg22 f2 f3 f4 f22 t _ _)

/-- The codes of this group. -/
theorem cod_0 (h18 : Has18 (F := Ideal) c arg18 f18) (hC : HoldsC (F := Ideal) c ((i 0).val % 2) t.val gC cv) (hS : HoldsS (F := Ideal) c ((i 0).val % 2) t.val gS sv)
    (h : Fin 8) (p : Fin 64) (k : Fin 128) :
    codesOf (sl.r_30 c i arg2 arg6 arg18 arg19 arg20 arg22 arg23 k0_pay609 (k0_pay616 (F := Ideal)) t f2 f6 f18 (dtOf c arg3 arg4 arg22 f3 f4 f22) (decayOf c arg3 arg4 arg5 arg23 f3 f4 f5 f23) gC gS)
      (hbOf (sl.r_8 c i arg23 k0_pay609 t (decayOf c arg3 arg4 arg5 arg23 f3 f4 f5 f23) gS) (sl.r_10 c arg2 arg22 k0_pay609 t f2 (dtOf c arg3 arg4 arg22 f3 f4 f22)) (sl.v755 c i t gC) (bpT c arg6 arg18 (k0_pay616 (F := Ideal)) t f6 f18)) (ix4 (0 : Fin 1) h p k)
      = codeS (hT c arg2 arg3 arg4 arg5 arg6 f2 f3 f4 f5 f6 t cv sv (⟨0 + h.val, by omega⟩ : Fin 24) p) k := by
  rw [inv_0, t_0]
  refine (codesOf_apply _ _ _ _ _ _ (fun n => arg6.view.read (Elt Ideal) f6 (ix3 (tB t) (0 : Fin 1) n)) (hS_0 c i arg3 arg4 arg5 arg23 f3 f4 f5 f23 t gS sv hS) (hX_0 c arg2 arg3 arg4 arg22 f2 f3 f4 f22 t) (fun R l => bp_apply c arg6 arg18 f6 f18 t h18 R l) h p k).trans ?_
  exact congrArg (fun H => codeS H k) (newH_0 c i arg2 arg3 arg4 arg5 arg6 f2 f3 f4 f5 f6 t gC cv sv hC h p)

/-- The scales of this group. -/
theorem sca_0 (h18 : Has18 (F := Ideal) c arg18 f18) (hC : HoldsC (F := Ideal) c ((i 0).val % 2) t.val gC cv) (hS : HoldsS (F := Ideal) c ((i 0).val % 2) t.val gS sv)
    (h : Fin 8) (p : Fin 64) :
    sl.v1919 c i arg2 arg6 arg18 arg19 arg20 arg22 arg23 k0_pay609 (k0_pay616 (F := Ideal)) t f2 f6 f18 (dtOf c arg3 arg4 arg22 f3 f4 f22) (decayOf c arg3 arg4 arg5 arg23 f3 f4 f5 f23) gC gS (ix3 (0 : Fin 1) h p)
      = sclS (hT c arg2 arg3 arg4 arg5 arg6 f2 f3 f4 f5 f6 t cv sv (⟨0 + h.val, by omega⟩ : Fin 24) p) := by
  rw [os_0, scl_0, t_0]
  refine (scl_apply _ _ _ _ _ _ (fun n => arg6.view.read (Elt Ideal) f6 (ix3 (tB t) (0 : Fin 1) n)) (hS_0 c i arg3 arg4 arg5 arg23 f3 f4 f5 f23 t gS sv hS) (hX_0 c arg2 arg3 arg4 arg22 f2 f3 f4 f22 t) (fun R l => bp_apply c arg6 arg18 f6 f18 t h18 R l) _ _).trans ?_
  refine congrArg sclS (Eq.trans ?_ (newH_0 c i arg2 arg3 arg4 arg5 arg6 f2 f3 f4 f5 f6 t gC cv sv hC h p))
  refine congrArg₂ (newH _ _ _ _) (Fin.ext ?_) (Fin.ext ?_)
  · show (16 * h.val + p.val / 4) / 16 = h.val
    omega
  · show 4 * ((16 * h.val + p.val / 4) % 16) + (h.val % 2 * 4 + p.val % 4) % 4 = p.val
    omega

/-! ### Heads 8 to 15 -/

/-- The decayed scales, the scaled inputs and the new state of this group. -/
abbrev S_1 (h : Fin 8) (p : Fin 64) : EReal := sv (ix2 (⟨8 + h.val, by omega⟩ : Fin 24) p) * dcy (arg5.view.read (Elt Ideal) f5 (ix2 (0 : Fin 1) (⟨8 + h.val, by omega⟩ : Fin 24))) (dlt (arg3.view.read (Elt Ideal) f3) (fun h => arg4.view.read (Elt Ideal) f4 (ix2 (0 : Fin 1) h)) (tB t) (⟨8 + h.val, by omega⟩ : Fin 24))
abbrev X_1 (h : Fin 8) (p : Fin 64) : EReal := arg2.view.read (Elt Ideal) f2 (ix3 (tB t) (⟨8 + h.val, by omega⟩ : Fin 24) p) * dlt (arg3.view.read (Elt Ideal) f3) (fun h => arg4.view.read (Elt Ideal) f4 (ix2 (0 : Fin 1) h)) (tB t) (⟨8 + h.val, by omega⟩ : Fin 24)

theorem newH_1 (hC : HoldsC (F := Ideal) c ((i 0).val % 2) t.val gC cv) (h : Fin 8) (p : Fin 64) :
    newH (sl.v3106 c i t gC) (S_1 c arg3 arg4 arg5 f3 f4 f5 t sv) (X_1 c arg2 arg3 arg4 f2 f3 f4 t) (fun n => arg6.view.read (Elt Ideal) f6 (ix3 (tB t) (0 : Fin 1) n)) h p
      = hT c arg2 arg3 arg4 arg5 arg6 f2 f3 f4 f5 f6 t cv sv (⟨8 + h.val, by omega⟩ : Fin 24) p := by
  funext k
  unfold newH hT newS
  refine congrArg (fun z : EReal => z * _ + _) ?_
  unfold sl.v3106
  refine (rd_at mC gC _ (off33_eq i t) _ (ix5 (slotOf i) (tB t) (⟨8 + h.val, by omega⟩ : Fin 24) p k) (by intro a; fin_cases a <;> first | rfl | exact (Nat.zero_add _).symm)).trans ?_
  exact hC (slotOf i) (tB t) rfl rfl (ix3 (⟨8 + h.val, by omega⟩ : Fin 24) p k)

theorem hS_1 (hS : HoldsS (F := Ideal) c ((i 0).val % 2) t.val gS sv) (s : Fin 8) (l : Fin 128) :
    sl.r_53 c i arg23 k0_pay609 t (decayOf c arg3 arg4 arg5 arg23 f3 f4 f5 f23) gS (ix2 s l) = S_1 c arg3 arg4 arg5 f3 f4 f5 t sv (hOf l) (pOf s l) :=
  (s8_1 c i arg23 k0_pay609 t _ gS s l).trans (r1_apply c i arg3 arg4 arg5 arg23 f3 f4 f5 f23 t gS sv hS _ _)

theorem hX_1 (s : Fin 8) (l : Fin 128) :
    sl.r_55 c arg2 arg22 k0_pay609 t f2 (dtOf c arg3 arg4 arg22 f3 f4 f22) (ix2 s l) = X_1 c arg2 arg3 arg4 f2 f3 f4 t (hOf l) (pOf s l) :=
  (xp8_1 c arg2 arg22 k0_pay609 t f2 _ s l).trans (r2_apply c arg2 arg3 arg4 arg22 f2 f3 f4 f22 t _ _)

/-- The codes of this group. -/
theorem cod_1 (h18 : Has18 (F := Ideal) c arg18 f18) (hC : HoldsC (F := Ideal) c ((i 0).val % 2) t.val gC cv) (hS : HoldsS (F := Ideal) c ((i 0).val % 2) t.val gS sv)
    (h : Fin 8) (p : Fin 64) (k : Fin 128) :
    codesOf (sl.r_86 c i arg2 arg6 arg18 arg19 arg20 arg22 arg23 k0_pay609 (k0_pay616 (F := Ideal)) t f2 f6 f18 (dtOf c arg3 arg4 arg22 f3 f4 f22) (decayOf c arg3 arg4 arg5 arg23 f3 f4 f5 f23) gC gS)
      (hbOf (sl.r_53 c i arg23 k0_pay609 t (decayOf c arg3 arg4 arg5 arg23 f3 f4 f5 f23) gS) (sl.r_55 c arg2 arg22 k0_pay609 t f2 (dtOf c arg3 arg4 arg22 f3 f4 f22)) (sl.v3106 c i t gC) (bpT c arg6 arg18 (k0_pay616 (F := Ideal)) t f6 f18)) (ix4 (0 : Fin 1) h p k)
      = codeS (hT c arg2 arg3 arg4 arg5 arg6 f2 f3 f4 f5 f6 t cv sv (⟨8 + h.val, by omega⟩ : Fin 24) p) k := by
  rw [inv_1, t_1]
  refine (codesOf_apply _ _ _ _ _ _ (fun n => arg6.view.read (Elt Ideal) f6 (ix3 (tB t) (0 : Fin 1) n)) (hS_1 c i arg3 arg4 arg5 arg23 f3 f4 f5 f23 t gS sv hS) (hX_1 c arg2 arg3 arg4 arg22 f2 f3 f4 f22 t) (fun R l => bp_apply c arg6 arg18 f6 f18 t h18 R l) h p k).trans ?_
  exact congrArg (fun H => codeS H k) (newH_1 c i arg2 arg3 arg4 arg5 arg6 f2 f3 f4 f5 f6 t gC cv sv hC h p)

/-- The scales of this group. -/
theorem sca_1 (h18 : Has18 (F := Ideal) c arg18 f18) (hC : HoldsC (F := Ideal) c ((i 0).val % 2) t.val gC cv) (hS : HoldsS (F := Ideal) c ((i 0).val % 2) t.val gS sv)
    (h : Fin 8) (p : Fin 64) :
    sl.v4270 c i arg2 arg6 arg18 arg19 arg20 arg22 arg23 k0_pay609 (k0_pay616 (F := Ideal)) t f2 f6 f18 (dtOf c arg3 arg4 arg22 f3 f4 f22) (decayOf c arg3 arg4 arg5 arg23 f3 f4 f5 f23) gC gS (ix3 (0 : Fin 1) h p)
      = sclS (hT c arg2 arg3 arg4 arg5 arg6 f2 f3 f4 f5 f6 t cv sv (⟨8 + h.val, by omega⟩ : Fin 24) p) := by
  rw [os_1, scl_1, t_1]
  refine (scl_apply _ _ _ _ _ _ (fun n => arg6.view.read (Elt Ideal) f6 (ix3 (tB t) (0 : Fin 1) n)) (hS_1 c i arg3 arg4 arg5 arg23 f3 f4 f5 f23 t gS sv hS) (hX_1 c arg2 arg3 arg4 arg22 f2 f3 f4 f22 t) (fun R l => bp_apply c arg6 arg18 f6 f18 t h18 R l) _ _).trans ?_
  refine congrArg sclS (Eq.trans ?_ (newH_1 c i arg2 arg3 arg4 arg5 arg6 f2 f3 f4 f5 f6 t gC cv sv hC h p))
  refine congrArg₂ (newH _ _ _ _) (Fin.ext ?_) (Fin.ext ?_)
  · show (16 * h.val + p.val / 4) / 16 = h.val
    omega
  · show 4 * ((16 * h.val + p.val / 4) % 16) + (h.val % 2 * 4 + p.val % 4) % 4 = p.val
    omega

/-! ### Heads 16 to 23 -/

/-- The decayed scales, the scaled inputs and the new state of this group. -/
abbrev S_2 (h : Fin 8) (p : Fin 64) : EReal := sv (ix2 (⟨16 + h.val, by omega⟩ : Fin 24) p) * dcy (arg5.view.read (Elt Ideal) f5 (ix2 (0 : Fin 1) (⟨16 + h.val, by omega⟩ : Fin 24))) (dlt (arg3.view.read (Elt Ideal) f3) (fun h => arg4.view.read (Elt Ideal) f4 (ix2 (0 : Fin 1) h)) (tB t) (⟨16 + h.val, by omega⟩ : Fin 24))
abbrev X_2 (h : Fin 8) (p : Fin 64) : EReal := arg2.view.read (Elt Ideal) f2 (ix3 (tB t) (⟨16 + h.val, by omega⟩ : Fin 24) p) * dlt (arg3.view.read (Elt Ideal) f3) (fun h => arg4.view.read (Elt Ideal) f4 (ix2 (0 : Fin 1) h)) (tB t) (⟨16 + h.val, by omega⟩ : Fin 24)

theorem newH_2 (hC : HoldsC (F := Ideal) c ((i 0).val % 2) t.val gC cv) (h : Fin 8) (p : Fin 64) :
    newH (sl.v5457 c i t gC) (S_2 c arg3 arg4 arg5 f3 f4 f5 t sv) (X_2 c arg2 arg3 arg4 f2 f3 f4 t) (fun n => arg6.view.read (Elt Ideal) f6 (ix3 (tB t) (0 : Fin 1) n)) h p
      = hT c arg2 arg3 arg4 arg5 arg6 f2 f3 f4 f5 f6 t cv sv (⟨16 + h.val, by omega⟩ : Fin 24) p := by
  funext k
  unfold newH hT newS
  refine congrArg (fun z : EReal => z * _ + _) ?_
  unfold sl.v5457
  refine (rd_at mC gC _ (off36_eq i t) _ (ix5 (slotOf i) (tB t) (⟨16 + h.val, by omega⟩ : Fin 24) p k) (by intro a; fin_cases a <;> first | rfl | exact (Nat.zero_add _).symm)).trans ?_
  exact hC (slotOf i) (tB t) rfl rfl (ix3 (⟨16 + h.val, by omega⟩ : Fin 24) p k)

theorem hS_2 (hS : HoldsS (F := Ideal) c ((i 0).val % 2) t.val gS sv) (s : Fin 8) (l : Fin 128) :
    sl.r_106 c i arg23 k0_pay609 t (decayOf c arg3 arg4 arg5 arg23 f3 f4 f5 f23) gS (ix2 s l) = S_2 c arg3 arg4 arg5 f3 f4 f5 t sv (hOf l) (pOf s l) :=
  (s8_2 c i arg23 k0_pay609 t _ gS s l).trans (r1_apply c i arg3 arg4 arg5 arg23 f3 f4 f5 f23 t gS sv hS _ _)

theorem hX_2 (s : Fin 8) (l : Fin 128) :
    sl.r_108 c arg2 arg22 k0_pay609 t f2 (dtOf c arg3 arg4 arg22 f3 f4 f22) (ix2 s l) = X_2 c arg2 arg3 arg4 f2 f3 f4 t (hOf l) (pOf s l) :=
  (xp8_2 c arg2 arg22 k0_pay609 t f2 _ s l).trans (r2_apply c arg2 arg3 arg4 arg22 f2 f3 f4 f22 t _ _)

/-- The codes of this group. -/
theorem cod_2 (h18 : Has18 (F := Ideal) c arg18 f18) (hC : HoldsC (F := Ideal) c ((i 0).val % 2) t.val gC cv) (hS : HoldsS (F := Ideal) c ((i 0).val % 2) t.val gS sv)
    (h : Fin 8) (p : Fin 64) (k : Fin 128) :
    codesOf (sl.r_129 c i arg2 arg6 arg18 arg19 arg20 arg22 arg23 k0_pay609 (k0_pay616 (F := Ideal)) t f2 f6 f18 (dtOf c arg3 arg4 arg22 f3 f4 f22) (decayOf c arg3 arg4 arg5 arg23 f3 f4 f5 f23) gC gS)
      (hbOf (sl.r_106 c i arg23 k0_pay609 t (decayOf c arg3 arg4 arg5 arg23 f3 f4 f5 f23) gS) (sl.r_108 c arg2 arg22 k0_pay609 t f2 (dtOf c arg3 arg4 arg22 f3 f4 f22)) (sl.v5457 c i t gC) (bpT c arg6 arg18 (k0_pay616 (F := Ideal)) t f6 f18)) (ix4 (0 : Fin 1) h p k)
      = codeS (hT c arg2 arg3 arg4 arg5 arg6 f2 f3 f4 f5 f6 t cv sv (⟨16 + h.val, by omega⟩ : Fin 24) p) k := by
  rw [inv_2, t_2]
  refine (codesOf_apply _ _ _ _ _ _ (fun n => arg6.view.read (Elt Ideal) f6 (ix3 (tB t) (0 : Fin 1) n)) (hS_2 c i arg3 arg4 arg5 arg23 f3 f4 f5 f23 t gS sv hS) (hX_2 c arg2 arg3 arg4 arg22 f2 f3 f4 f22 t) (fun R l => bp_apply c arg6 arg18 f6 f18 t h18 R l) h p k).trans ?_
  exact congrArg (fun H => codeS H k) (newH_2 c i arg2 arg3 arg4 arg5 arg6 f2 f3 f4 f5 f6 t gC cv sv hC h p)

/-- The scales of this group. -/
theorem sca_2 (h18 : Has18 (F := Ideal) c arg18 f18) (hC : HoldsC (F := Ideal) c ((i 0).val % 2) t.val gC cv) (hS : HoldsS (F := Ideal) c ((i 0).val % 2) t.val gS sv)
    (h : Fin 8) (p : Fin 64) :
    sl.v6621 c i arg2 arg6 arg18 arg19 arg20 arg22 arg23 k0_pay609 (k0_pay616 (F := Ideal)) t f2 f6 f18 (dtOf c arg3 arg4 arg22 f3 f4 f22) (decayOf c arg3 arg4 arg5 arg23 f3 f4 f5 f23) gC gS (ix3 (0 : Fin 1) h p)
      = sclS (hT c arg2 arg3 arg4 arg5 arg6 f2 f3 f4 f5 f6 t cv sv (⟨16 + h.val, by omega⟩ : Fin 24) p) := by
  rw [os_2, scl_2, t_2]
  refine (scl_apply _ _ _ _ _ _ (fun n => arg6.view.read (Elt Ideal) f6 (ix3 (tB t) (0 : Fin 1) n)) (hS_2 c i arg3 arg4 arg5 arg23 f3 f4 f5 f23 t gS sv hS) (hX_2 c arg2 arg3 arg4 arg22 f2 f3 f4 f22 t) (fun R l => bp_apply c arg6 arg18 f6 f18 t h18 R l) _ _).trans ?_
  refine congrArg sclS (Eq.trans ?_ (newH_2 c i arg2 arg3 arg4 arg5 arg6 f2 f3 f4 f5 f6 t gC cv sv hC h p))
  refine congrArg₂ (newH _ _ _ _) (Fin.ext ?_) (Fin.ext ?_)
  · show (16 * h.val + p.val / 4) / 16 = h.val
    omega
  · show 4 * ((16 * h.val + p.val / 4) % 16) + (h.val % 2 * 4 + p.val % 4) % 4 = p.val
    omega

/-! ### The two output blocks after the trip -/

/-- The block of codes after the trip: the trip's row is new, the other rows are as before. -/
theorem step_codes (h18 : Has18 (F := Ideal) c arg18 f18) (hC : HoldsC (F := Ideal) c ((i 0).val % 2) t.val gC cv) (hS : HoldsS (F := Ideal) c ((i 0).val % 2) t.val gS sv)
    (b : Fin 16) (h : Fin 24) (p : Fin 64) (k : Fin 128) :
    arg12.view.read (Elt Ideal) (stepOut c i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 f2 f3 f4 f5 f6 f7 f8 f18 f22 f23 t gC gS f12 f13).1 (ix4 b h p k)
      = if b = tB t then codeS (hT c arg2 arg3 arg4 arg5 arg6 f2 f3 f4 f5 f6 t cv sv h p) k else arg12.view.read (Elt Ideal) f12 (ix4 b h p k) := by
  unfold stepOut tripOut trip4Run
  dsimp only
  unfold sl.H12_3 sl.H12_2 sl.H12_1
  rw [codes_0, codes_1, codes_2]
  by_cases hb : b = tB t
  · rw [if_pos hb]
    by_cases h2 : 16 ≤ h.val
    · refine (View.read_writes_cons_unit_of_mem _ _ _ _ _ _ (ix4 (0 : Fin 1) (⟨h.val - 16, by omega⟩ : Fin 8) p k) (off37_eq t) (by intro a; fin_cases a <;> first | rfl | exact congrArg Fin.val hb | exact (Nat.zero_add _).symm | (show h.val = 16 + (h.val - 16); omega))).trans ?_
      refine (cod_2 c i arg2 arg3 arg4 arg5 arg6 arg18 arg19 arg20 arg22 arg23 f2 f3 f4 f5 f6 f18 f22 f23 t gC gS cv sv h18 hC hS _ p k).trans ?_
      exact congrArg (fun z => codeS (hT c arg2 arg3 arg4 arg5 arg6 f2 f3 f4 f5 f6 t cv sv z p) k) (Fin.ext (by show 16 + (h.val - 16) = h.val; omega))
    refine (View.read_writes_cons_unit_of_not_mem _ _ _ _ _ _ (off37_eq t) (1 : Fin 4) (Or.inl (by show h.val < 16; omega))).trans ?_
    by_cases h1 : 8 ≤ h.val
    · refine (View.read_writes_cons_unit_of_mem _ _ _ _ _ _ (ix4 (0 : Fin 1) (⟨h.val - 8, by omega⟩ : Fin 8) p k) (off34_eq t) (by intro a; fin_cases a <;> first | rfl | exact congrArg Fin.val hb | exact (Nat.zero_add _).symm | (show h.val = 8 + (h.val - 8); omega))).trans ?_
      refine (cod_1 c i arg2 arg3 arg4 arg5 arg6 arg18 arg19 arg20 arg22 arg23 f2 f3 f4 f5 f6 f18 f22 f23 t gC gS cv sv h18 hC hS _ p k).trans ?_
      exact congrArg (fun z => codeS (hT c arg2 arg3 arg4 arg5 arg6 f2 f3 f4 f5 f6 t cv sv z p) k) (Fin.ext (by show 8 + (h.val - 8) = h.val; omega))
    refine (View.read_writes_cons_unit_of_not_mem _ _ _ _ _ _ (off34_eq t) (1 : Fin 4) (Or.inl (by show h.val < 8; omega))).trans ?_
    refine (View.read_writes_cons_unit_of_mem _ _ _ _ _ _ (ix4 (0 : Fin 1) (⟨h.val, by omega⟩ : Fin 8) p k) (off31_eq t) (by intro a; fin_cases a <;> first | rfl | exact congrArg Fin.val hb | exact (Nat.zero_add _).symm)).trans ?_
    refine (cod_0 c i arg2 arg3 arg4 arg5 arg6 arg18 arg19 arg20 arg22 arg23 f2 f3 f4 f5 f6 f18 f22 f23 t gC gS cv sv h18 hC hS _ p k).trans ?_
    exact congrArg (fun z => codeS (hT c arg2 arg3 arg4 arg5 arg6 f2 f3 f4 f5 f6 t cv sv z p) k) (Fin.ext (by show 0 + h.val = h.val; omega))
  · rw [if_neg hb]
    have hne : b.val < t.val ∨ t.val + 1 ≤ b.val := by
      have : b.val ≠ t.val := fun e => hb (Fin.ext e)
      omega
    refine (View.read_writes_cons_unit_of_not_mem _ _ _ _ _ _ (off37_eq t) (0 : Fin 4) hne).trans ?_
    refine (View.read_writes_cons_unit_of_not_mem _ _ _ _ _ _ (off34_eq t) (0 : Fin 4) hne).trans ?_
    exact View.read_writes_cons_unit_of_not_mem _ _ _ _ _ _ (off31_eq t) (0 : Fin 4) hne

/-- The block of scales after the trip. -/
theorem step_scales (h18 : Has18 (F := Ideal) c arg18 f18) (hC : HoldsC (F := Ideal) c ((i 0).val % 2) t.val gC cv) (hS : HoldsS (F := Ideal) c ((i 0).val % 2) t.val gS sv)
    (b : Fin 16) (h : Fin 24) (p : Fin 64) :
    arg13.view.read (Elt Ideal) (stepOut c i arg2 harg2 arg3 harg3 arg4 harg4 arg5 harg5 arg6 harg6 arg7 harg7 arg8 harg8 arg11 harg11 arg12 harg12 arg13 harg13 arg18 harg18 arg19 harg19 arg20 harg20 arg21 harg21 arg22 harg22 arg23 harg23 f2 f3 f4 f5 f6 f7 f8 f18 f22 f23 t gC gS f12 f13).2 (ix3 b h p)
      = if b = tB t then sclS (hT c arg2 arg3 arg4 arg5 arg6 f2 f3 f4 f5 f6 t cv sv h p) else arg13.view.read (Elt Ideal) f13 (ix3 b h p) := by
  unfold stepOut tripOut trip4Run
  dsimp only
  unfold sl.H13_3 sl.H13_2 sl.H13_1
  by_cases hb : b = tB t
  · rw [if_pos hb]
    by_cases h2 : 16 ≤ h.val
    · refine (View.read_writes_cons_unit_of_mem _ _ _ _ _ _ (ix3 (0 : Fin 1) (⟨h.val - 16, by omega⟩ : Fin 8) p) (off38_eq t) (by intro a; fin_cases a <;> first | rfl | exact congrArg Fin.val hb | exact (Nat.zero_add _).symm | (show h.val = 16 + (h.val - 16); omega))).trans ?_
      refine (sca_2 c i arg2 arg3 arg4 arg5 arg6 arg18 arg19 arg20 arg22 arg23 f2 f3 f4 f5 f6 f18 f22 f23 t gC gS cv sv h18 hC hS _ p).trans ?_
      exact congrArg (fun z => sclS (hT c arg2 arg3 arg4 arg5 arg6 f2 f3 f4 f5 f6 t cv sv z p)) (Fin.ext (by show 16 + (h.val - 16) = h.val; omega))
    refine (View.read_writes_cons_unit_of_not_mem _ _ _ _ _ _ (off38_eq t) (1 : Fin 3) (Or.inl (by show h.val < 16; omega))).trans ?_
    by_cases h1 : 8 ≤ h.val
    · refine (View.read_writes_cons_unit_of_mem _ _ _ _ _ _ (ix3 (0 : Fin 1) (⟨h.val - 8, by omega⟩ : Fin 8) p) (off35_eq t) (by intro a; fin_cases a <;> first | rfl | exact congrArg Fin.val hb | exact (Nat.zero_add _).symm | (show h.val = 8 + (h.val - 8); omega))).trans ?_
      refine (sca_1 c i arg2 arg3 arg4 arg5 arg6 arg18 arg19 arg20 arg22 arg23 f2 f3 f4 f5 f6 f18 f22 f23 t gC gS cv sv h18 hC hS _ p).trans ?_
      exact congrArg (fun z => sclS (hT c arg2 arg3 arg4 arg5 arg6 f2 f3 f4 f5 f6 t cv sv z p)) (Fin.ext (by show 8 + (h.val - 8) = h.val; omega))
    refine (View.read_writes_cons_unit_of_not_mem _ _ _ _ _ _ (off35_eq t) (1 : Fin 3) (Or.inl (by show h.val < 8; omega))).trans ?_
    refine (View.read_writes_cons_unit_of_mem _ _ _ _ _ _ (ix3 (0 : Fin 1) (⟨h.val, by omega⟩ : Fin 8) p) (off32_eq t) (by intro a; fin_cases a <;> first | rfl | exact congrArg Fin.val hb | exact (Nat.zero_add _).symm)).trans ?_
    refine (sca_0 c i arg2 arg3 arg4 arg5 arg6 arg18 arg19 arg20 arg22 arg23 f2 f3 f4 f5 f6 f18 f22 f23 t gC gS cv sv h18 hC hS _ p).trans ?_
    exact congrArg (fun z => sclS (hT c arg2 arg3 arg4 arg5 arg6 f2 f3 f4 f5 f6 t cv sv z p)) (Fin.ext (by show 0 + h.val = h.val; omega))
  · rw [if_neg hb]
    have hne : b.val < t.val ∨ t.val + 1 ≤ b.val := by
      have : b.val ≠ t.val := fun e => hb (Fin.ext e)
      omega
    refine (View.read_writes_cons_unit_of_not_mem _ _ _ _ _ _ (off38_eq t) (0 : Fin 3) hne).trans ?_
    refine (View.read_writes_cons_unit_of_not_mem _ _ _ _ _ _ (off35_eq t) (0 : Fin 3) hne).trans ?_
    exact View.read_writes_cons_unit_of_not_mem _ _ _ _ _ _ (off32_eq t) (0 : Fin 3) hne

end Cert.KernelIdeal.Hand

end

end
-- ==== Proof.Value.Out.lean ====
/-
The kernel's two state results after the run, as one expression of the argument arrays.
-/
module

public import proofs.«01_k».proof.Proof.Value.Step
public import proofs.«01_k».proof.Proof.StateI.Frame
public import Idealize.ShloMosaic.Lib.Pipeline.ValueKit.Geometry
public import Idealize.ShloMosaic.Lib.Pipeline.Cells

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.ValueIdx
open Idealize.ShloMosaic.Pipeline (Dat Cfg Window)

variable (m : (ℓ : Loc nD τ sig) → Buf (Elt Ideal) ℓ) (ρ : Dev nD → PrngReg)

/-- A point's block of an array whose blocks are rows 16t to 16t+15. -/
theorem row_lt {t b : ℕ} (ht : t < 40) (hb : b < 16) : 16 * t + b < 640 := by omega

theorem N_eq : (cfgM m).N = 40 := by show grid0.N = 40; decide

/-- The sequence that row `b` of point `t` belongs to. -/
abbrev seqOf (t : Fin (cfgM m).N) (b : Fin 16) : Fin 640 := ⟨16 * t.val + b.val, row_lt (N_eq m ▸ t.isLt) b.isLt⟩

theorem index0 : ∀ t : Fin grid0.N, cc0_transform_0 (grid0.coords t) = ![t.val, 0, 0] := by decide +kernel
theorem index1 : ∀ t : Fin grid0.N, cc0_transform_1 (grid0.coords t) = ![t.val, 0] := by decide +kernel
theorem index2 : ∀ t : Fin grid0.N, cc0_transform_2 (grid0.coords t) = ![0, 0] := by decide +kernel
theorem index3 : ∀ t : Fin grid0.N, cc0_transform_3 (grid0.coords t) = ![0, 0] := by decide +kernel
theorem index4 : ∀ t : Fin grid0.N, cc0_transform_4 (grid0.coords t) = ![t.val, 0, 0] := by decide +kernel
theorem index8 : ∀ t : Fin grid0.N, cc0_transform_10 (grid0.coords t) = ![t.val, 0, 0, 0] := by decide +kernel
theorem index9 : ∀ t : Fin grid0.N, cc0_transform_11 (grid0.coords t) = ![t.val, 0, 0] := by decide +kernel

/-- The coordinate of a block's element in its array. -/
theorem emb_val (w : Fin (cfgM m).W) (t : Fin (cfgM m).N) (y : (((cfgM m).win w).xblock ((cfgM m).grid.coords t)).Idx) (hk : ((cfgM m).win w).kind = .blocked)
    (a : Fin ((cfgM m).win w).shape.rank) : ((((cfgM m).win w).rect t).emb y a : ℕ) = ((cfgM m).win w).index t a * ((cfgM m).win w).size a + y a :=
  ((cfgM m).win w).rect_emb_val t y a hk

theorem iblk0_apply (c : Dev nD) (t : Fin (cfgM m).N) (b : Fin 16) (h : Fin 24) (p : Fin 64) : iblk m c 0 t (ix3 b h p) = V m c main_arg0 (ix3 (seqOf m t b) h p) := by
  unfold iblk
  refine congrArg (V m c main_arg0) (funext fun a => Fin.ext ?_)
  refine (emb_val m 0 t (ix3 b h p) rfl a).trans ?_
  show cc0_transform_0 (grid0.coords t) a * _ + _ = _
  rw [index0 t]
  fin_cases a
  · show t.val * 16 + b.val = 16 * t.val + b.val; omega
  · show 0 * 24 + h.val = h.val; omega
  · show 0 * 64 + p.val = p.val; omega
theorem iblk1_apply (c : Dev nD) (t : Fin (cfgM m).N) (b : Fin 16) (h : Fin 24) : iblk m c 1 t (ix2 b h) = V m c main_arg1 (ix2 (seqOf m t b) h) := by
  unfold iblk
  refine congrArg (V m c main_arg1) (funext fun a => Fin.ext ?_)
  refine (emb_val m 1 t (ix2 b h) rfl a).trans ?_
  show cc0_transform_1 (grid0.coords t) a * _ + _ = _
  rw [index1 t]
  fin_cases a
  · show t.val * 16 + b.val = 16 * t.val + b.val; omega
  · show 0 * 24 + h.val = h.val; omega
theorem iblk2_apply (c : Dev nD) (t : Fin (cfgM m).N) (h : Fin 24) : iblk m c 2 t (ix2 (0 : Fin 1) h) = V m c main_v0 (ix2 (0 : Fin 1) h) := by
  unfold iblk
  refine congrArg (V m c main_v0) (funext fun a => Fin.ext ?_)
  refine (emb_val m 2 t (ix2 (0 : Fin 1) h) rfl a).trans ?_
  show cc0_transform_2 (grid0.coords t) a * _ + _ = _
  rw [index2 t]
  fin_cases a
  · rfl
  · show 0 * 24 + h.val = h.val; omega
theorem iblk3_apply (c : Dev nD) (t : Fin (cfgM m).N) (h : Fin 24) : iblk m c 3 t (ix2 (0 : Fin 1) h) = V m c main_v1 (ix2 (0 : Fin 1) h) := by
  unfold iblk
  refine congrArg (V m c main_v1) (funext fun a => Fin.ext ?_)
  refine (emb_val m 3 t (ix2 (0 : Fin 1) h) rfl a).trans ?_
  show cc0_transform_3 (grid0.coords t) a * _ + _ = _
  rw [index3 t]
  fin_cases a
  · rfl
  · show 0 * 24 + h.val = h.val; omega
theorem iblk4_apply (c : Dev nD) (t : Fin (cfgM m).N) (b : Fin 16) (k : Fin 128) : iblk m c 4 t (ix3 b (0 : Fin 1) k) = V m c main_arg4 (ix3 (seqOf m t b) (0 : Fin 1) k) := by
  unfold iblk
  refine congrArg (V m c main_arg4) (funext fun a => Fin.ext ?_)
  refine (emb_val m 4 t (ix3 b (0 : Fin 1) k) rfl a).trans ?_
  show cc0_transform_4 (grid0.coords t) a * _ + _ = _
  rw [index4 t]
  fin_cases a
  · show t.val * 16 + b.val = 16 * t.val + b.val; omega
  · rfl
  · show 0 * 128 + k.val = k.val; omega

/-- The host's two row vectors are the argument vectors. -/
theorem V_v0 (c : Dev nD) (h : Fin 24) : V m c main_v0 (ix2 (0 : Fin 1) h) = m ((c : Thread nD τ).loc main_arg2) (ix1 h) := by
  have e : V m c main_v0 = shapeCast S1x24 (m ((c : Thread nD τ).loc main_arg2) : FVec Ideal S24 .f32) shapeCasts_S24_S1x24 := by
    unfold V hostOps0
    rfl
  rw [e]
  exact shapeCast_apply _ _ _ (ix1 h) (by rw [Shape.rowMajor_val_two, Shape.rowMajor_val_one]; show h.val = 0 * 24 + h.val; omega)
theorem V_v1 (c : Dev nD) (h : Fin 24) : V m c main_v1 (ix2 (0 : Fin 1) h) = m ((c : Thread nD τ).loc main_arg3) (ix1 h) := by
  have e : V m c main_v1 = shapeCast S1x24 (m ((c : Thread nD τ).loc main_arg3) : FVec Ideal S24 .f32) shapeCasts_S24_S1x24 := by
    unfold V hostOps0
    rfl
  rw [e]
  exact shapeCast_apply _ _ _ (ix1 h) (by rw [Shape.rowMajor_val_two, Shape.rowMajor_val_one]; show h.val = 0 * 24 + h.val; omega)

/-- The old codes and scales of one sequence: its slot's rows, or zero for a sequence without a slot. -/
def oldC (ids : S640.Idx → BitVec 32) (cd : S803x24x64x128.Idx → EReal) (b : Fin 640) (i : S24x64x128.Idx) : EReal :=
  if 0 ≤ (ids (ix1 b)).toInt then cd (ix4 (⟨min (Scalar.minsi (ids (ix1 b)) 802#32).toNat 802, by omega⟩ : Fin 803) (i 0) (i 1) (i 2)) else 0
def oldS (ids : S640.Idx → BitVec 32) (sc : S803x24x64.Idx → EReal) (b : Fin 640) (i : S24x64.Idx) : EReal :=
  if 0 ≤ (ids (ix1 b)).toInt then sc (ix3 (⟨min (Scalar.minsi (ids (ix1 b)) 802#32).toNat 802, by omega⟩ : Fin 803) (i 0) (i 1)) else 0

/-- The new state of every sequence, head and row. -/
def stH (x : S640x24x64.Idx → EReal) (dt : S640x24.Idx → EReal) (bias alog : S24.Idx → EReal) (Bm : S640x1x128.Idx → EReal)
    (cd : S803x24x64x128.Idx → EReal) (sc : S803x24x64.Idx → EReal) (ids : S640.Idx → BitVec 32) (b : Fin 640) (h : Fin 24) (p : Fin 64) : Fin 128 → EReal :=
  newS (oldC ids cd b) (oldS ids sc b) x dt (fun h => bias (ix1 h)) (fun h => alog (ix1 h)) Bm b h p

/-- The new state as the kernel computes it from its arguments. -/
abbrev kH (c : Dev nD) : Fin 640 → Fin 24 → Fin 64 → Fin 128 → EReal :=
  stH (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg7)) (m ((c : Thread nD τ).loc main_arg8)) (m ((c : Thread nD τ).loc main_arg9))

/-- The two state results. -/
def resC (H : Fin 640 → Fin 24 → Fin 64 → Fin 128 → EReal) : S640x24x64x128.Idx → EReal := fun j => codeS (H (j 0) (j 1) (j 2)) (j 3)
def resS (H : Fin 640 → Fin 24 → Fin 64 → Fin 128 → EReal) : S640x24x64.Idx → EReal := fun j => sclS (H (j 0) (j 1) (j 2))

def o8 (c : Dev nD) (t : Fin (cfgM m).N) : S16x24x64x128.Idx → EReal := fun y => codeS (kH m c (seqOf m t (y 0)) (y 1) (y 2)) (y 3)
def o9 (c : Dev nD) (t : Fin (cfgM m).N) : S16x24x64.Idx → EReal := fun y => sclS (kH m c (seqOf m t (y 0)) (y 1) (y 2))

theorem tw_seq (T : S640.Idx → BitVec 32) (t : Fin (cfgM m).N) (b : Fin 16) : tw T (16 * t.val + b.val) = T (ix1 (seqOf m t b)) := by
  unfold tw
  rw [dif_pos (row_lt (N_eq m ▸ t.isLt) b.isLt)]

theorem valC_seq (c : Dev nD) (T : S640.Idx → BitVec 32) (fA : S803x24x64x128.Idx → EReal) (t : Fin (cfgM m).N) (b : Fin 16) (i : S24x64x128.Idx) :
    valC (F := Ideal) c T fA t.val b.val i = oldC T fA (seqOf m t b) i := by
  have e := tw_seq m T t b
  unfold valC oldC lv
  by_cases hl : 0 ≤ (T (ix1 (seqOf m t b))).toInt
  · rw [if_pos hl, if_pos ((liveW_iff _).mpr (e ▸ hl))]
    exact congrArg (fun r : Fin 803 => fA (ix4 r (i 0) (i 1) (i 2))) (Fin.ext (congrArg (fun w : BitVec 32 => min (Scalar.minsi w 802#32).toNat 802) e))
  · rw [if_neg hl, if_neg (fun h => hl (e ▸ (liveW_iff _).mp h))]
    show Ideal.ofBits .fp8e4m3 0x00#8 = 0
    simp [Ideal.ofBits, Ideal.e4m3fn]

theorem valS_seq (c : Dev nD) (T : S640.Idx → BitVec 32) (fB : S803x24x64.Idx → EReal) (t : Fin (cfgM m).N) (b : Fin 16) (i : S24x64.Idx) :
    valS (F := Ideal) c T fB t.val b.val i = oldS T fB (seqOf m t b) i := by
  have e := tw_seq m T t b
  unfold valS oldS lv
  by_cases hl : 0 ≤ (T (ix1 (seqOf m t b))).toInt
  · rw [if_pos hl, if_pos ((liveW_iff _).mpr (e ▸ hl))]
    exact congrArg (fun r : Fin 803 => fB (ix3 r (i 0) (i 1))) (Fin.ext (congrArg (fun w : BitVec 32 => min (Scalar.minsi w 802#32).toNat 802) e))
  · rw [if_neg hl, if_neg (fun h => hl (e ▸ (liveW_iff _).mp h))]
    exact Ideal.ofBits_zero_f32

/-- What a point has written after its first `k` trips: the rows below `k`. -/
def PT (c : Dev nD) (t : Fin (cfgM m).N) (k : ℕ) (f12 : Bf (F := Ideal) c (ms8 m t)) (f13 : Bf (F := Ideal) c (ms9 m t)) : Prop :=
  ∀ b : Fin 16, b.val < k → ∀ (h : Fin 24) (p : Fin 64),
    (∀ n : Fin 128, (ms8 m t).view.read (Elt Ideal) f12 (ix4 b h p n) = o8 m c t (ix4 b h p n)) ∧ (ms9 m t).view.read (Elt Ideal) f13 (ix3 b h p) = o9 m c t (ix3 b h p)

theorem PT_16 (c : Dev nD) (t : Fin (cfgM m).N) (f12 : Bf (F := Ideal) c (ms8 m t)) (f13 : Bf (F := Ideal) c (ms9 m t)) (hP : PT m c t 16 f12 f13) :
    (ms8 m t).view.read (Elt Ideal) f12 = o8 m c t ∧ (ms9 m t).view.read (Elt Ideal) f13 = o9 m c t := by
  constructor
  · funext y
    rw [eq_ix4 y]
    exact (hP _ (y 0).isLt _ _).1 _
  · funext y
    rw [eq_ix3 y]
    exact (hP _ (y 0).isLt _ _).2

/-- One trip extends what has been written by its row. -/
theorem PT_step (c : Dev nD) (t : Fin (cfgM m).N) : PointOK m c t (PT m c t) := by
  intro f2 f3 f4 f5 f6 f7 f8 e2 e3 e4 e5 e6 _ _ f18 f22 f23 k gC gS f12 f13 h18 hC hS hP b hb h p
  have ht : ((grid0.coords t) 0).val = t.val := coords_val t
  have hk : hT c (ms0 m t) (ms1 m t) (ms2 m t) (ms3 m t) (ms4 m t) f2 f3 f4 f5 f6 k (valC c (V m c main_arg9) (V m c main_arg7) ((grid0.coords t) 0).val k.val) (valS c (V m c main_arg9) (V m c main_arg8) ((grid0.coords t) 0).val k.val) h p
      = kH m c (seqOf m t (tB k)) h p := by
    funext n
    unfold hT kH stH newS dlt
    dsimp only
    rw [e2, e3, e4, e5, e6, ht]
    have a0 := iblk0_apply m c t (tB k) h p
    have a1 := iblk1_apply m c t (tB k) h
    have a2 := iblk2_apply m c t h
    have a3 := iblk3_apply m c t h
    have a4 := iblk4_apply m c t (tB k) n
    rw [V_arg0] at a0
    rw [V_arg1] at a1
    rw [V_v0] at a2
    rw [V_v1] at a3
    rw [V_arg4] at a4
    rw [a0, a1, a2, a3, a4, valC_seq m c _ _ t (tB k), valS_seq m c _ _ t (tB k), V_arg7, V_arg8, V_arg9]
  refine ⟨fun n => ?_, ?_⟩
  · refine (step_codes c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) _ _ _ _ _ _ _ _ _ _ _ _ f2 f3 f4 f5 f6 f7 f8 f18 f22 f23 k gC gS f12 f13 _ _ h18 hC hS b h p n).trans ?_
    by_cases e : b = tB k
    · rw [if_pos e, hk, e]; rfl
    · rw [if_neg e]
      exact (hP b (by have : b.val ≠ k.val := fun q => e (Fin.ext q); omega) h p).1 n
  · refine (step_scales c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) _ _ _ _ _ _ _ _ _ _ _ _ f2 f3 f4 f5 f6 f7 f8 f18 f22 f23 k gC gS f12 f13 _ _ h18 hC hS b h p).trans ?_
    by_cases e : b = tB k
    · rw [if_pos e, hk, e]; rfl
    · rw [if_neg e]
      exact (hP b (by have : b.val ≠ k.val := fun q => e (Fin.ext q); omega) h p).2

/-- A table with which the windows can be evaluated: no window's blocks depend on the table. -/
def adm0 : (pcfg0 (F := Ideal)).Adm := ⟨fun _ _ => Classical.arbitrary _, (by unfold ok0; trivial : ok0 (F := Ideal) fun _ _ => Classical.arbitrary _)⟩
theorem covers8 : ((cfgM m).win 8).Covers := (by decide +kernel : ((cfg0 adm0).win 8).Covers)
theorem covers9 : ((cfgM m).win 9).Covers := (by decide +kernel : ((cfg0 adm0).win 9).Covers)

theorem emb8 (t : Fin (cfgM m).N) (y : S16x24x64x128.Idx) : ((((cfgM m).win 8).rect t).emb y : S640x24x64x128.Idx) = ix4 (seqOf m t (y 0)) (y 1) (y 2) (y 3) := by
  refine funext fun a => Fin.ext ?_
  refine (emb_val m 8 t y rfl a).trans ?_
  show cc0_transform_10 (grid0.coords t) a * _ + _ = _
  rw [index8 t]
  fin_cases a
  · show t.val * 16 + (y 0).val = 16 * t.val + (y 0).val; omega
  · show 0 * 24 + (y 1).val = (y 1).val; omega
  · show 0 * 64 + (y 2).val = (y 2).val; omega
  · show 0 * 128 + (y 3).val = (y 3).val; omega
theorem emb9 (t : Fin (cfgM m).N) (y : S16x24x64.Idx) : ((((cfgM m).win 9).rect t).emb y : S640x24x64.Idx) = ix3 (seqOf m t (y 0)) (y 1) (y 2) := by
  refine funext fun a => Fin.ext ?_
  refine (emb_val m 9 t y rfl a).trans ?_
  show cc0_transform_11 (grid0.coords t) a * _ + _ = _
  rw [index9 t]
  fin_cases a
  · show t.val * 16 + (y 0).val = 16 * t.val + (y 0).val; omega
  · show 0 * 24 + (y 1).val = (y 1).val; omega
  · show 0 * 64 + (y 2).val = (y 2).val; omega

/-- The final codes. -/
theorem arr8 (c : Dev nD) : (dats m (o8 m) (o9 m) 0 c).arrAt 8 (cfgM m).N = resC (kH m c) :=
  (dats m (o8 m) (o9 m) 0 c).arrAt_eq_of_covers 8 _ (covers8 m) fun t hf y => by
    exact (congrArg (resC (kH m c)) (emb8 m t y)).symm
/-- The final scales. -/
theorem arr9 (c : Dev nD) : (dats m (o8 m) (o9 m) 0 c).arrAt 9 (cfgM m).N = resS (kH m c) :=
  (dats m (o8 m) (o9 m) 0 c).arrAt_eq_of_covers 9 _ (covers9 m) fun t hf y => by
    exact (congrArg (resS (kH m c)) (emb9 m t y)).symm

/-- The kernel's run: its codes and scales, its arguments unchanged, every semaphore at zero. -/
theorem run : θ_run defs (onTc (τ := τ) (main (F := Ideal))) ⟨m, fun _ => 0, ρ⟩ (fun r => ∀ c : Dev nD,
    r.2.mem ((c.tc : Thread nD τ).loc main_v3_1) = resC (kH m c) ∧ r.2.mem ((c.tc : Thread nD τ).loc main_v3_2) = resS (kH m c)
    ∧ Kept m r c) :=
  (θ_run defs _ _).mono (fun r h c =>
    ⟨(((dats m (o8 m) (o9 m) 0 c).toRForget_arrAt_iff (fgt := fgtV) (w := 8) rfl _ _).mp ((h.1 c).1 8)).trans (arr8 m c),
     (((dats m (o8 m) (o9 m) 0 c).toRForget_arrAt_iff (fgt := fgtV) (w := 9) rfl _ _).mp ((h.1 c).1 9)).trans (arr9 m c),
     args_of m (o8 m) (o9 m) h c⟩) (run_mainV m ρ (o8 m) (o9 m) (PT m) (fun c t f12 f13 b hb => absurd hb (by omega)) (PT_step m) (PT_16 m))

end Cert.KernelIdeal.Hand

end

end
-- ==== Proof.Value.RefState.lean ====
/-
The reference's new state, entry by entry over the extended reals.
-/
module

public import proofs.«01_k».proof.Proof.Gen.ReferenceIdeal.Frame
public import proofs.«01_k».proof.Proof.Value.Step

@[expose] public section

set_option maxRecDepth 16384

noncomputable section

namespace Cert.ReferenceIdeal.Value

open Cert.ReferenceIdeal Cert.ReferenceIdeal.Gen
open Idealize.ShloMosaic Idealize.ShloMosaic.TcCoe
open Idealize.ShloMosaic.ValueIdx
open Cert.KernelIdeal.Hand (spl dcy)

/-! ### Reading the arrangement -/

section Arrange
variable {α : Type} (b : Fin 640) (h : Fin 24) (p : Fin 64) (k : Fin 128)

/-- One number per row, spread over the row's columns. -/
theorem rowSpread_apply (z : S640x24x64.Idx → α) :
    broadcastTo S640x24x64x128 (shapeCast S640x24x64x1 z shapeCasts_S640x24x64_S640x24x64x1) broadcasts_S640x24x64x1_S640x24x64x128 (ix4 b h p k) = z (ix3 b h p) := by
  rw [broadcastTo_apply _ _ _ (ix4 b h p (0 : Fin 1)) (by intro b; fin_cases b <;> rfl)]
  exact shapeCast_apply _ _ _ _ (by rw [Shape.rowMajor_val_three, Shape.rowMajor_val_four]; show (b.val * 24 + h.val) * 64 + p.val = ((b.val * 24 + h.val) * 64 + p.val) * 1 + 0; omega)

/-- One number per row, spread over the 254 thresholds. -/
theorem rowSpread254_apply (z : S640x24x64.Idx → α) (q : Fin 254) :
    broadcastTo S640x24x64x254 (shapeCast S640x24x64x1 z shapeCasts_S640x24x64_S640x24x64x1) broadcasts_S640x24x64x1_S640x24x64x254 (ix4 b h p q) = z (ix3 b h p) := by
  rw [broadcastTo_apply _ _ _ (ix4 b h p (0 : Fin 1)) (by intro b; fin_cases b <;> rfl)]
  exact shapeCast_apply _ _ _ _ (by rw [Shape.rowMajor_val_three, Shape.rowMajor_val_four]; show (b.val * 24 + h.val) * 64 + p.val = ((b.val * 24 + h.val) * 64 + p.val) * 1 + 0; omega)

/-- One flag per sequence, spread over its state. -/
theorem seqSpread_apply (z : S640x1x1x1.Idx → α) :
    broadcastTo S640x24x64x128 (shapeCast S640x1x1x1 z shapeCasts_S640x1x1x1_S640x1x1x1) broadcasts_S640x1x1x1_S640x24x64x128 (ix4 b h p k) = z (ix4 b (0 : Fin 1) (0 : Fin 1) (0 : Fin 1)) := by
  rw [shapeCast_self, broadcastTo_apply _ _ _ (ix4 b (0 : Fin 1) (0 : Fin 1) (0 : Fin 1)) (by intro b; fin_cases b <;> rfl)]

/-- One number per sequence and head, spread over its rows and columns. -/
theorem headSpread_apply (z : S640x24.Idx → α) :
    broadcastTo S640x24x64x128 (shapeCast S640x24x1x1 z shapeCasts_S640x24_S640x24x1x1) broadcasts_S640x24x1x1_S640x24x64x128 (ix4 b h p k) = z (ix2 b h) := by
  rw [broadcastTo_apply _ _ _ (ix4 b h (0 : Fin 1) (0 : Fin 1)) (by intro b; fin_cases b <;> rfl)]
  exact shapeCast_apply _ _ _ _ (by rw [Shape.rowMajor_val_two, Shape.rowMajor_val_four]; show b.val * 24 + h.val = ((b.val * 24 + h.val) * 1 + 0) * 1 + 0; omega)

/-- One number per sequence and column, spread over its heads and rows. -/
theorem colSpread_apply (z : S640x1x128.Idx → α) :
    broadcastTo S640x24x64x128 (shapeCast S640x1x1x128 z shapeCasts_S640x1x128_S640x1x1x128) broadcasts_S640x1x1x128_S640x24x64x128 (ix4 b h p k) = z (ix3 b (0 : Fin 1) k) := by
  rw [broadcastTo_apply _ _ _ (ix4 b (0 : Fin 1) (0 : Fin 1) k) (by intro b; fin_cases b <;> rfl)]
  exact shapeCast_apply _ _ _ _ (by rw [Shape.rowMajor_val_three, Shape.rowMajor_val_four]; show (b.val * 1 + 0) * 128 + k.val = ((b.val * 1 + 0) * 1 + 0) * 128 + k.val; omega)

/-- One number per sequence and head, spread over its rows. -/
theorem headRows_apply (z : S640x24.Idx → α) :
    broadcastTo S640x24x64 (shapeCast S640x24x1 z shapeCasts_S640x24_S640x24x1) broadcasts_S640x24x1_S640x24x64 (ix3 b h p) = z (ix2 b h) := by
  rw [broadcastTo_apply _ _ _ (ix3 b h (0 : Fin 1)) (by intro b; fin_cases b <;> rfl)]
  exact shapeCast_apply _ _ _ _ (by rw [Shape.rowMajor_val_two, Shape.rowMajor_val_three]; show b.val * 24 + h.val = (b.val * 24 + h.val) * 1 + 0; omega)

/-- One number per head, spread over the sequences. -/
theorem perHead_apply (z : S1x24.Idx → α) :
    broadcastTo S640x24 z broadcasts_S1x24_S640x24 (ix2 b h) = z (ix2 (0 : Fin 1) h) :=
  broadcastTo_apply _ _ _ _ (by intro b; fin_cases b <;> rfl)

theorem head1_apply (z : S24.Idx → α) : shapeCast S1x24 z shapeCasts_S24_S1x24 (ix2 (0 : Fin 1) h) = z (ix1 h) :=
  shapeCast_apply _ _ _ _ (by rw [Shape.rowMajor_val_one, Shape.rowMajor_val_two]; show h.val = 0 * 24 + h.val; omega)

end Arrange

/-! ### The pieces of the state -/

theorem cmp_one_self (x : EReal) : Ideal.cmp .one x x = 0#1 := by simp [Ideal.cmp]

/-- The reference's softplus is `max(v, 0) + log1p(exp(0 - |v|))`. -/
theorem softplus_apply (A : FVec Ideal S640x24 .f32) (j : S640x24.Idx) (z w : Ideal .f32) (hz : z = (0 : EReal)) (hw : w = (0 : EReal)) :
    select (cmpf .one (subf A (broadcast S640x24 z)) (subf A (broadcast S640x24 z))) (addf A (broadcast S640x24 z))
      (addf (maximumf A (broadcast S640x24 z)) (log1p (exp (subf (broadcast S640x24 w) (absf (subf A (broadcast S640x24 z))))))) j = spl (A j) := by
  subst hz hw
  show Scalar.select (Ideal.cmp .one ((A j : EReal) - 0) ((A j : EReal) - 0)) ((A j : EReal) + 0) (max (A j : EReal) 0 + Ideal.log1p (Ideal.exp (0 - max ((A j : EReal) - 0) (-((A j : EReal) - 0))))) = _
  rw [cmp_one_self, sub_zero]
  rfl

theorem pay3_apply (v16 : Vec Ideal S640x24 .bf16) (v18 : Vec Ideal S24 .f32) (b : Fin 640) (h : Fin 24) :
    k0_pay3 v16 v18 (ix2 b h) = spl (v16 (ix2 b h) + v18 (ix1 h)) := by
  unfold k0_pay3
  refine (softplus_apply _ (ix2 b h) _ _ Ideal.ofBits_zero_f32 Ideal.ofBits_zero_f32).trans (congrArg spl ?_)
  show (v16 (ix2 b h) : EReal) + broadcastTo S640x24 (shapeCast S1x24 v18 shapeCasts_S24_S1x24) broadcasts_S1x24_S640x24 (ix2 b h) = _
  rw [perHead_apply, head1_apply]

/-- The old state of an entry: code times scale where the sequence has a slot, else zero. -/
theorem pay2_apply (v0 : Vec Ideal S640x1x1x1 .i32) (v4 : Vec Ideal S640x24x64x128 .fp8e4m3) (v7 : Vec Ideal S640x24x64 .f32) (b : Fin 640) (h : Fin 24) (p : Fin 64) (k : Fin 128) :
    k0_pay2 v0 v4 v7 (ix4 b h p k)
      = Scalar.select (IntOp.cmpi .ne (v0 (ix4 b (0 : Fin 1) (0 : Fin 1) (0 : Fin 1))) 0#32) ((v4 (ix4 b h p k) : EReal) * (v7 (ix3 b h p) : EReal)) (0 : EReal) := by
  unfold k0_pay2
  rw [shapeCast_self v0, shapeCast_self v4, shapeCast_self v7]
  have key : ∀ z : EReal, z = 0 → select (broadcastTo S640x24x64x128 (shapeCast S640x1x1x1 (cmpi .ne v0 (broadcast S640x1x1x1 0#32)) shapeCasts_S640x1x1x1_S640x1x1x1) broadcasts_S640x1x1x1_S640x24x64x128)
      (mulf (extf .f32 v4 bitsLt_fp8e4m3_f32) (broadcastTo S640x24x64x128 (shapeCast S640x24x64x1 v7 shapeCasts_S640x24x64_S640x24x64x1) broadcasts_S640x24x64x1_S640x24x64x128) : FVec Ideal S640x24x64x128 .f32) (broadcast S640x24x64x128 z) (ix4 b h p k)
      = Scalar.select (IntOp.cmpi .ne (v0 (ix4 b (0 : Fin 1) (0 : Fin 1) (0 : Fin 1))) 0#32) ((v4 (ix4 b h p k) : EReal) * (v7 (ix3 b h p) : EReal)) (0 : EReal) := by
    rintro z rfl
    show Scalar.select (broadcastTo S640x24x64x128 (shapeCast S640x1x1x1 (cmpi .ne v0 (broadcast S640x1x1x1 0#32)) shapeCasts_S640x1x1x1_S640x1x1x1) broadcasts_S640x1x1x1_S640x24x64x128 (ix4 b h p k))
      ((v4 (ix4 b h p k) : EReal) * broadcastTo S640x24x64x128 (shapeCast S640x24x64x1 v7 shapeCasts_S640x24x64_S640x24x64x1) broadcasts_S640x24x64x1_S640x24x64x128 (ix4 b h p k)) (0 : EReal) = _
    rw [seqSpread_apply, rowSpread_apply]
    rfl
  exact key _ Ideal.ofBits_zero_f32

/-- The new state of an entry. -/
theorem pay7_apply (v15 : FVec Ideal S640x24x64x128 .f32) (v35 : FVec Ideal S640x24 .f32) (v38 v39 : FVec Ideal S1x24 .f32) (v44 : Vec Ideal S640x24x64 .bf16) (v53 : Vec Ideal S640x1x128 .bf16)
    (b : Fin 640) (h : Fin 24) (p : Fin 64) (k : Fin 128) :
    k0_pay7 v15 v35 v38 v39 v44 v53 (ix4 b h p k)
      = Ideal.exp (((v39 (ix2 (0 : Fin 1) h) : EReal) - v38 (ix2 (0 : Fin 1) h)) * v35 (ix2 b h)) * (v15 (ix4 b h p k) : EReal)
        + ((v35 (ix2 b h) : EReal) * v44 (ix3 b h p)) * (v53 (ix3 b (0 : Fin 1) k) : EReal) := by
  unfold k0_pay7 k0_pay6
  show broadcastTo S640x24x64x128 (shapeCast S640x24x1x1 (exp (mulf (broadcastTo S640x24 (subf v39 v38) broadcasts_S1x24_S640x24) v35)) shapeCasts_S640x24_S640x24x1x1) broadcasts_S640x24x1x1_S640x24x64x128 (ix4 b h p k) * (v15 (ix4 b h p k) : EReal)
    + broadcastTo S640x24x64x128 (shapeCast S640x24x64x1 (mulf (broadcastTo S640x24x64 (shapeCast S640x24x1 v35 shapeCasts_S640x24_S640x24x1) broadcasts_S640x24x1_S640x24x64) (extf .f32 v44 bitsLt_bf16_f32) : FVec Ideal S640x24x64 .f32) shapeCasts_S640x24x64_S640x24x64x1) broadcasts_S640x24x64x1_S640x24x64x128 (ix4 b h p k)
      * broadcastTo S640x24x64x128 (shapeCast S640x1x1x128 (extf .f32 v53 bitsLt_bf16_f32 : FVec Ideal S640x1x128 .f32) shapeCasts_S640x1x128_S640x1x1x128) broadcasts_S640x1x1x128_S640x24x64x128 (ix4 b h p k) = _
  rw [headSpread_apply, rowSpread_apply, colSpread_apply]
  show Ideal.exp (broadcastTo S640x24 (subf v39 v38) broadcasts_S1x24_S640x24 (ix2 b h) * (v35 (ix2 b h) : EReal)) * (v15 (ix4 b h p k) : EReal)
    + (broadcastTo S640x24x64 (shapeCast S640x24x1 v35 shapeCasts_S640x24_S640x24x1) broadcasts_S640x24x1_S640x24x64 (ix3 b h p) * (v44 (ix3 b h p) : EReal)) * (v53 (ix3 b (0 : Fin 1) k) : EReal) = _
  rw [perHead_apply, headRows_apply]
  rfl

/-- The new state of an entry, from the reference's arguments: the decayed old state plus the scaled input. -/
def stRef (x : Vec Ideal S640x24x64 .bf16) (dt : Vec Ideal S640x24 .bf16) (bias alog : Vec Ideal S24 .f32) (Bm : Vec Ideal S640x1x128 .bf16)
    (cg : Vec Ideal S640x24x64x128 .fp8e4m3) (sg : Vec Ideal S640x24x64 .f32) (vd : Vec Ideal S640x1x1x1 .i32) (b : Fin 640) (h : Fin 24) (p : Fin 64) (k : Fin 128) : EReal :=
  dcy (alog (ix1 h)) (spl ((dt (ix2 b h) : EReal) + bias (ix1 h)))
      * Scalar.select (IntOp.cmpi .ne (vd (ix4 b (0 : Fin 1) (0 : Fin 1) (0 : Fin 1))) 0#32) ((cg (ix4 b h p k) : EReal) * (sg (ix3 b h p) : EReal)) (0 : EReal)
    + (spl ((dt (ix2 b h) : EReal) + bias (ix1 h)) * (x (ix3 b h p) : EReal)) * (Bm (ix3 b (0 : Fin 1) k) : EReal)

theorem state_apply (x : Vec Ideal S640x24x64 .bf16) (dt : Vec Ideal S640x24 .bf16) (bias alog : Vec Ideal S24 .f32) (Bm : Vec Ideal S640x1x128 .bf16)
    (cg : Vec Ideal S640x24x64x128 .fp8e4m3) (sg : Vec Ideal S640x24x64 .f32) (vd : Vec Ideal S640x1x1x1 .i32) (b : Fin 640) (h : Fin 24) (p : Fin 64) (k : Fin 128) :
    k0_pay7 (k0_pay2 vd cg sg) (k0_pay3 dt bias) (k0_pay4 alog) k0_pay5 x Bm (ix4 b h p k) = stRef x dt bias alog Bm cg sg vd b h p k := by
  have e4 : k0_pay4 alog (ix2 (0 : Fin 1) h) = Ideal.exp (alog (ix1 h)) := by
    unfold k0_pay4
    exact head1_apply h _
  have e5 : (k0_pay5 (F := Ideal) (ix2 (0 : Fin 1) h) : EReal) = 0 := by
    unfold k0_pay5
    exact Ideal.ofBits_zero_f32
  rw [pay7_apply, pay2_apply, pay3_apply, e4, e5]
  rfl

end Cert.ReferenceIdeal.Value

end

end
-- ==== Proof.Value.RefQuant.lean ====
/-
The reference's quantiser, entry by entry over the extended reals: the count of powers of two at most the bound is the
bound's exponent, and the scale and the codes follow from it.
-/
module

public import proofs.«01_k».proof.Proof.Value.RefState
public import Idealize.ShloMosaic.Lib.WordSum

@[expose] public section

set_option maxRecDepth 16384

noncomputable section

namespace Cert.ReferenceIdeal.Value

open Cert.ReferenceIdeal Cert.ReferenceIdeal.Gen
open Idealize.ShloMosaic Idealize.ShloMosaic.TcCoe
open Idealize.ShloMosaic.ValueIdx
open Cert.KernelIdeal.Hand (amaxS amaxS_le tS tS_nonneg expS isExp_expS IsExp ew ef ef_top sclS invS codeS sclW invW cmp_oge)

/-! ### The largest magnitude -/

/-- The reference's largest magnitude of a row, from minus infinity, is the one from zero. -/
theorem rowMax_apply (W : FVec Ideal S640x24x64x128 .f32) (b : Fin 640) (h : Fin 24) (p : Fin 64) :
    multiReduction .maximumf [3] S640x24x64 (absf W) 0xFF800000#32 reduces_S640x24x64x128_S640x24x64 (.inl rfl) rfl (ix3 b h p)
      = amaxS fun k => W (ix4 b h p k) := by
  refine eq_of_forall_ge_iff fun y => ?_
  refine (iff_of_eq (congrArg (· ≤ y) (Ideal.multiReduction_maximumf_single (absf W) 0xFF800000#32 reduces_S640x24x64x128_S640x24x64 (.inl rfl) rfl (ix3 b h p)))).trans ?_
  rw [Finset.fold_max_le, amaxS_le]
  have hb : (FloatOps.ofBits (F := Ideal) .f32 0xFF800000#32 : EReal) = ⊥ := by
    show Ideal.ieee 8 23 0xFF800000#32 = ⊥
    unfold Ideal.ieee
    simp
  have hl : ∀ k : Fin 128, reduces_S640x24x64x128_S640x24x64.lift (ix3 b h p) k = ix4 b h p k := by
    intro k; funext a; apply Fin.ext; fin_cases a <;> rfl
  have hv : ∀ k : Fin 128, (absf W ∘ reduces_S640x24x64x128_S640x24x64.lift (ix3 b h p)) k = max (W (ix4 b h p k) : EReal) (-(W (ix4 b h p k) : EReal)) := by
    intro k
    show absf W (reduces_S640x24x64x128_S640x24x64.lift (ix3 b h p) k) = _
    rw [hl]
    rfl
  constructor
  · rintro ⟨_, h1⟩
    have h1' : ∀ k : Fin 128, max (W (ix4 b h p k) : EReal) (-(W (ix4 b h p k) : EReal)) ≤ y := fun k => (hv k) ▸ h1 k (Finset.mem_univ _)
    refine ⟨?_, h1'⟩
    have h0 := h1' (0 : Fin 128)
    rcases le_total (0 : EReal) (W (ix4 b h p (0 : Fin 128))) with g | g
    · exact g.trans ((le_max_left _ _).trans h0)
    · exact (EReal.neg_nonneg.2 g).trans ((le_max_right _ _).trans h0)
  · rintro ⟨_, h1⟩
    refine ⟨?_, fun k _ => ?_⟩
    · exact (le_of_eq hb).trans bot_le
    · exact (le_of_eq (hv k)).trans (h1 k)

theorem pay9_apply (v15 : FVec Ideal S640x24x64x128 .f32) (v35 : FVec Ideal S640x24 .f32) (v38 v39 : FVec Ideal S1x24 .f32) (v44 : Vec Ideal S640x24x64 .bf16) (v53 : Vec Ideal S640x1x128 .bf16)
    (b : Fin 640) (h : Fin 24) (p : Fin 64) :
    k0_pay9 v15 v35 v38 v39 v44 v53 (ix3 b h p) = tS fun k => k0_pay7 v15 v35 v38 v39 v44 v53 (ix4 b h p k) := by
  unfold k0_pay9
  generalize k0_pay7 v15 v35 v38 v39 v44 v53 = W
  have e := rowMax_apply W b h p
  have e2 : ∀ (R : FVec Ideal S640x24x64 .f32) (z : EReal), mulf R (broadcast S640x24x64 z) (ix3 b h p) = R (ix3 b h p) * z := fun _ _ => rfl
  rw [e2]
  unfold tS
  rw [e]
  rfl

/-! ### The exponent -/

/-- The 254 thresholds: the powers of two, as words. -/
theorem thr_word : ∀ q : Fin 254, IntOp.shli .vector (IntOp.minsi 255#32 (IntOp.maxsi 0#32 (IntOp.addi (IntOp.subi (BitVec.ofNat 32 q.val) 126#32) 127#32))) 23#32 = ew (q.val + 1) := by
  decide +kernel

/-- The thresholds. -/
def thr : FVec Ideal S1x1x1x254 .f32 :=
  bitcastToFloat .f32 (shli (minsi (broadcast S1x1x1x254 255#32) (maxsi (broadcast S1x1x1x254 0#32) (addi k0_pay10 k0_pay11))) (broadcast S1x1x1x254 23#32))

theorem thr_apply (q : Fin 254) : thr (ix4 (0 : Fin 1) (0 : Fin 1) (0 : Fin 1) q) = ef (q.val + 1) := by
  have e : k0_pay10 (ix4 (0 : Fin 1) (0 : Fin 1) (0 : Fin 1) q) = IntOp.subi (BitVec.ofNat 32 q.val) 126#32 := by
    unfold k0_pay10
    show IntOp.subi (iota .tc S1x1x1x254 32 [3] iota_S1x1x1x254_d3_w32 (ix4 (0 : Fin 1) (0 : Fin 1) (0 : Fin 1) q)) 126#32 = _
    rw [iota_single_apply _ _ _ _ _ _]
  show Ideal.ofBits .f32 (IntOp.shli .vector (IntOp.minsi 255#32 (IntOp.maxsi 0#32 (IntOp.addi (k0_pay10 (ix4 (0 : Fin 1) (0 : Fin 1) (0 : Fin 1) q)) (k0_pay11 (ix4 (0 : Fin 1) (0 : Fin 1) (0 : Fin 1) q))))) 23#32) = _
  rw [e]
  exact congrArg (Ideal.ofBits .f32) (thr_word q)

/-- Which thresholds the bound of a row reaches. -/
def hit (T : FVec Ideal S640x24x64 .f32) : IVec S640x24x64x254 32 :=
  extui 32 (cmpf .oge (broadcastTo S640x24x64x254 (shapeCast S640x24x64x1 T shapeCasts_S640x24x64_S640x24x64x1) broadcasts_S640x24x64x1_S640x24x64x254) (broadcastTo S640x24x64x254 thr broadcasts_S1x1x1x254_S640x24x64x254)) natLt_1_32

/-- How many. -/
def cnt (T : FVec Ideal S640x24x64 .f32) : IVec S640x24x64 32 :=
  multiReductionI .add [3] S640x24x64 (hit T) 0#32 reduces_S640x24x64x254_S640x24x64 rfl

theorem hit_apply (T : FVec Ideal S640x24x64 .f32) (b : Fin 640) (h : Fin 24) (p : Fin 64) (q : Fin 254) (E : ℕ) (hE : IsExp (T (ix3 b h p)) E) :
    (hit T (ix4 b h p q)).toNat = if q.val < E then 1 else 0 := by
  show ((Ideal.cmp .oge (broadcastTo S640x24x64x254 (shapeCast S640x24x64x1 T shapeCasts_S640x24x64_S640x24x64x1) broadcasts_S640x24x64x1_S640x24x64x254 (ix4 b h p q)) (broadcastTo S640x24x64x254 thr broadcasts_S1x1x1x254_S640x24x64x254 (ix4 b h p q))).setWidth 32).toNat = _
  rw [rowSpread254_apply, broadcastTo_apply _ _ _ (ix4 (0 : Fin 1) (0 : Fin 1) (0 : Fin 1) q) (by intro a; fin_cases a <;> rfl), thr_apply, cmp_oge]
  have e := hE.2 (q.val + 1) (by omega)
  by_cases g : q.val < E
  · rw [if_pos g, if_pos (e.2 (by omega))]; decide
  · rw [if_neg g, if_neg (fun g' => g (by have := e.1 g'; omega))]; decide

theorem sum_lt (E n : ℕ) : ∑ q ∈ Finset.range n, (if q < E then 1 else 0) = min E n := by
  induction n with
  | zero => simp
  | succ n ih =>
    rw [Finset.sum_range_succ, ih]
    split <;> omega

theorem cnt_apply (T : FVec Ideal S640x24x64 .f32) (b : Fin 640) (h : Fin 24) (p : Fin 64) (E : ℕ) (hE : IsExp (T (ix3 b h p)) E) :
    cnt T (ix3 b h p) = BitVec.ofNat 32 (min E 254) := by
  have hl : ∀ q : Fin 254, reduces_S640x24x64x254_S640x24x64.lift (ix3 b h p) q = ix4 b h p q := by
    intro q; funext a; apply Fin.ext; fin_cases a <;> rfl
  have hs : ∑ i ∈ Finset.univ.filter (fun i => reduces_S640x24x64x254_S640x24x64.drop i = ix3 b h p), (hit T i).toNat = min E 254 := by
    refine (reduces_S640x24x64x254_S640x24x64.sum_filter_drop_single (fun i => (hit T i).toNat) (ix3 b h p)).trans ?_
    refine (Finset.sum_congr rfl fun (q : Fin 254) _ => ?_).trans ((Fin.sum_univ_eq_sum_range (fun q => if q < E then 1 else 0) 254).trans (sum_lt E 254))
    exact (congrArg (fun i => (hit T i).toNat) (hl q)).trans (hit_apply T b h p q E hE)
  have hb : min E 254 < 2 ^ 32 := lt_of_le_of_lt (Nat.min_le_right _ _) (by norm_num)
  refine BitVec.eq_of_toNat_eq ?_
  rw [BitVec.toNat_ofNat, Nat.mod_eq_of_lt hb]
  exact (WordSum.toNat_multiReductionI_add (hit T) reduces_S640x24x64x254_S640x24x64 rfl (ix3 b h p) (hs ▸ hb)).trans hs

/-- The exponent that the reference takes for a bound whose exponent field is `E`. -/
def expW (E : ℕ) : BitVec 32 :=
  Scalar.select (IntOp.ori (IntOp.cmpi .eq (BitVec.ofNat 32 (min E 254)) 0#32) (if E = 255 then 1#1 else 0#1)) 0#32 (IntOp.subi (BitVec.ofNat 32 (min E 254)) 126#32)

theorem sclW_ref : ∀ E : Fin 256, IntOp.shli .vector (IntOp.minsi 255#32 (IntOp.maxsi 0#32 (IntOp.addi (expW E.val) 127#32))) 23#32 = sclW E.val := by decide +kernel
theorem invW_ref : ∀ E : Fin 256, IntOp.shli .vector (IntOp.minsi 255#32 (IntOp.maxsi 0#32 (IntOp.addi (IntOp.subi 0#32 (expW E.val)) 127#32))) 23#32 = invW E.val := by decide +kernel

theorem cmp_inf (t : EReal) (E : ℕ) (hE : IsExp t E) : Ideal.cmp .oeq t (Ideal.ofBits .f32 0x7F800000#32) = if E = 255 then 1#1 else 0#1 := by
  have ei : Ideal.ofBits .f32 0x7F800000#32 = (⊤ : EReal) := ef_top
  rw [ei]
  have e := hE.2 255 (by decide)
  rw [ef_top, top_le_iff] at e
  have hlt := hE.1
  by_cases g : t = ⊤
  · have : E = 255 := by have := e.1 g; omega
    rw [if_pos this, g]
    simp [Ideal.cmp]
  · have : ¬ E = 255 := fun g' => g (e.2 (by omega))
    rw [if_neg this]
    simp [Ideal.cmp, g]

/-- The exponent from the count `n`: zero for a zero or infinite bound. -/
def selW (T : FVec Ideal S640x24x64 .f32) (n : IVec S640x24x64 32) (c : Ideal .f32) : IVec S640x24x64 32 :=
  select (ori (cmpi .eq n (broadcast S640x24x64 0#32)) (cmpf .oeq T (broadcast S640x24x64 c))) (broadcast S640x24x64 0#32) (subi n (broadcast S640x24x64 126#32))

theorem selW_apply (T : FVec Ideal S640x24x64 .f32) (n : IVec S640x24x64 32) (c : EReal) (j : S640x24x64.Idx) :
    selW T n c j = Scalar.select (IntOp.ori (IntOp.cmpi .eq (n j) 0#32) (Ideal.cmp .oeq (T j) c)) 0#32 (IntOp.subi (n j) 126#32) := rfl

theorem pay12_eq (T : FVec Ideal S640x24x64 .f32) : k0_pay12 T k0_pay10 k0_pay11 = selW T (cnt T) (FloatOps.ofBits .f32 0x7F800000#32) := by
  unfold k0_pay12 selW cnt hit thr
  rfl

theorem pay12_apply (T : FVec Ideal S640x24x64 .f32) (b : Fin 640) (h : Fin 24) (p : Fin 64) (E : ℕ) (hE : IsExp (T (ix3 b h p)) E) :
    k0_pay12 T k0_pay10 k0_pay11 (ix3 b h p) = expW E := by
  rw [pay12_eq, selW_apply, cnt_apply T b h p E hE]
  unfold expW
  rw [← cmp_inf _ E hE]
  rfl

/-- A scale from its exponent. -/
theorem bits13 (u : IVec S640x24x64 32) (j : S640x24x64.Idx) :
    (bitcastToFloat .f32 (shli (minsi (broadcast S640x24x64 255#32) (maxsi (broadcast S640x24x64 0#32) (addi u (broadcast S640x24x64 127#32)))) (broadcast S640x24x64 23#32)) : FVec Ideal S640x24x64 .f32) j
      = Ideal.ofBits .f32 (IntOp.shli .vector (IntOp.minsi 255#32 (IntOp.maxsi 0#32 (IntOp.addi (u j) 127#32))) 23#32) := rfl

/-- The reference's scale of a row. -/
theorem pay13_apply (T : FVec Ideal S640x24x64 .f32) (b : Fin 640) (h : Fin 24) (p : Fin 64) (E : ℕ) (hE : IsExp (T (ix3 b h p)) E) :
    k0_pay13 T k0_pay10 k0_pay11 (ix3 b h p) = Ideal.ofBits .f32 (sclW E) := by
  unfold k0_pay13
  rw [bits13, pay12_apply T b h p E hE]
  exact congrArg (Ideal.ofBits .f32) (sclW_ref ⟨E, hE.1⟩)

theorem exp14 (u : IVec S640x24x64 32) (j : S640x24x64.Idx) :
    maxsi (broadcast S640x24x64 0#32) (addi (subi (broadcast S640x24x64 0#32) u) (broadcast S640x24x64 127#32)) j = IntOp.maxsi 0#32 (IntOp.addi (IntOp.subi 0#32 (u j)) 127#32) := rfl

theorem bits1 (w u : IVec S640x24x64 32) (j : S640x24x64.Idx) :
    (bitcastToFloat .f32 (shli (minsi w u) (broadcast S640x24x64 23#32)) : FVec Ideal S640x24x64 .f32) j = Ideal.ofBits .f32 (IntOp.shli .vector (IntOp.minsi (w j) (u j)) 23#32) := rfl

theorem clip_apply (W Z : FVec Ideal S640x24x64x128 .f32) (c d : EReal) (j : S640x24x64x128.Idx) :
    (truncf .fp8e4m3 (minimumf (broadcast S640x24x64x128 c) (maximumf (broadcast S640x24x64x128 d) (mulf W Z)) : FVec Ideal S640x24x64x128 .f32) bitsLt_fp8e4m3_f32) j = min c (max d ((W j : EReal) * Z j)) := rfl

/-- The reference's code of an entry. -/
theorem pay1_apply (W : FVec Ideal S640x24x64x128 .f32) (T : FVec Ideal S640x24x64 .f32) (b : Fin 640) (h : Fin 24) (p : Fin 64) (k : Fin 128) (E : ℕ) (hE : IsExp (T (ix3 b h p)) E) :
    k0_pay1 W (k0_pay14 T k0_pay10 k0_pay11) k0_pay15 (ix4 b h p k)
      = min (Ideal.ofBits .f32 0x43E00000#32) (max (Ideal.ofBits .f32 0xC3E00000#32) ((W (ix4 b h p k) : EReal) * Ideal.ofBits .f32 (invW E))) := by
  have e14 : k0_pay14 T k0_pay10 k0_pay11 (ix3 b h p) = IntOp.maxsi 0#32 (IntOp.addi (IntOp.subi 0#32 (expW E)) 127#32) := by
    unfold k0_pay14
    rw [exp14, pay12_apply T b h p E hE]
  have e15 : k0_pay15 (ix3 b h p) = 255#32 := rfl
  generalize k0_pay14 T k0_pay10 k0_pay11 = u at e14
  generalize k0_pay15 = w at e15
  unfold k0_pay1
  rw [clip_apply, rowSpread_apply, bits1, e14, e15, invW_ref ⟨E, hE.1⟩]
  rfl

end Cert.ReferenceIdeal.Value

end

end
-- ==== Proof.Value.RefHost.lean ====
/-
What the reference's host operations hand to its kernel: the gathered codes and scales, and the validity flags.
-/
module

public import proofs.«01_k».proof.Proof.Gen.ReferenceIdeal.Frame
public import Idealize.ShloMosaic.Lib.ValueIdx
public import Idealize.ShloMosaic.Lib.Pipeline.Value

@[expose] public section

set_option maxRecDepth 16384

noncomputable section

namespace Cert.ReferenceIdeal.Value

open Cert.ReferenceIdeal Cert.ReferenceIdeal.Gen
open Idealize.ShloMosaic Idealize.ShloMosaic.TcCoe
open Idealize.ShloMosaic.ValueIdx

/-! ### The gathers -/

/-- The gather of the codes: the slot read signed and clamped. -/
theorem gatherC_apply {α : Type} (x : S803x24x64x128.Idx → α) (idx : IVec S640x1 32) (b : Fin 640) (h : Fin 24) (p : Fin 64) (k : Fin 128) :
    Host.gather gather_S803x24x64x128_S640x1_S640x24x64x128_123_0_n_n_0_1_12464128 x idx (ix4 b h p k)
      = x (ix4 (⟨min (idx (ix2 b (0 : Fin 1))).toInt.toNat 802, by omega⟩ : Fin 803) h p k) := by
  unfold Host.gather
  congr 1
  funext a
  refine Fin.ext ?_
  show gather_S803x24x64x128_S640x1_S640x24x64x128_123_0_n_n_0_1_12464128.start (ix4 b h p k) idx a + gather_S803x24x64x128_S640x1_S640x24x64x128_123_0_n_n_0_1_12464128.batchCoord (ix4 b h p k) a
      + gather_S803x24x64x128_S640x1_S640x24x64x128_123_0_n_n_0_1_12464128.offCoord (ix4 b h p k) a = _
  rw [GatherDims.batchCoord_eq_zero _ _ _ List.not_mem_nil]
  have ha : a = (0 : Fin 4) ∨ a = (1 : Fin 4) ∨ a = (2 : Fin 4) ∨ a = (3 : Fin 4) := by fin_cases a <;> simp
  rcases ha with rfl | rfl | rfl | rfl
  · rw [GatherDims.offCoord_eq_zero _ _ _ (fun g => ((GatherDims.mem_sKept _ _).mp g).1 (List.mem_singleton.mpr rfl))]
    simp only [Nat.add_zero]
    unfold GatherDims.start
    rw [dif_pos (show (0 : Fin 4) ∈ gather_S803x24x64x128_S640x1_S640x24x64x128_123_0_n_n_0_1_12464128.startIndexMap from List.mem_singleton.mpr rfl)]
    refine congrArg (fun i => min (idx i).toInt.toNat 802) ?_
    funext d; refine Fin.ext ?_
    match d with
    | ⟨0, _⟩ => rfl
    | ⟨1, _⟩ => rfl
  · have hs : gather_S803x24x64x128_S640x1_S640x24x64x128_123_0_n_n_0_1_12464128.start (ix4 b h p k) idx (1 : Fin 4) = 0 := by
      unfold GatherDims.start
      rw [dif_neg (show ¬ ((1 : Fin 4) ∈ gather_S803x24x64x128_S640x1_S640x24x64x128_123_0_n_n_0_1_12464128.startIndexMap) from fun g => absurd (List.mem_singleton.mp g) (by decide : ¬ (1 : Fin 4) = 0))]
    rw [hs]
    unfold GatherDims.offCoord
    rw [dif_pos (show (1 : Fin 4) ∈ gather_S803x24x64x128_S640x1_S640x24x64x128_123_0_n_n_0_1_12464128.sKept from (GatherDims.mem_sKept _ _).mpr ⟨fun g => absurd (List.mem_singleton.mp g) (by decide : ¬ (1 : Fin 4) = 0), List.not_mem_nil⟩)]
    simp only [Nat.zero_add]
    rfl
  · have hs : gather_S803x24x64x128_S640x1_S640x24x64x128_123_0_n_n_0_1_12464128.start (ix4 b h p k) idx (2 : Fin 4) = 0 := by
      unfold GatherDims.start
      rw [dif_neg (show ¬ ((2 : Fin 4) ∈ gather_S803x24x64x128_S640x1_S640x24x64x128_123_0_n_n_0_1_12464128.startIndexMap) from fun g => absurd (List.mem_singleton.mp g) (by decide : ¬ (2 : Fin 4) = 0))]
    rw [hs]
    unfold GatherDims.offCoord
    rw [dif_pos (show (2 : Fin 4) ∈ gather_S803x24x64x128_S640x1_S640x24x64x128_123_0_n_n_0_1_12464128.sKept from (GatherDims.mem_sKept _ _).mpr ⟨fun g => absurd (List.mem_singleton.mp g) (by decide : ¬ (2 : Fin 4) = 0), List.not_mem_nil⟩)]
    simp only [Nat.zero_add]
    rfl
  · have hs : gather_S803x24x64x128_S640x1_S640x24x64x128_123_0_n_n_0_1_12464128.start (ix4 b h p k) idx (3 : Fin 4) = 0 := by
      unfold GatherDims.start
      rw [dif_neg (show ¬ ((3 : Fin 4) ∈ gather_S803x24x64x128_S640x1_S640x24x64x128_123_0_n_n_0_1_12464128.startIndexMap) from fun g => absurd (List.mem_singleton.mp g) (by decide : ¬ (3 : Fin 4) = 0))]
    rw [hs]
    unfold GatherDims.offCoord
    rw [dif_pos (show (3 : Fin 4) ∈ gather_S803x24x64x128_S640x1_S640x24x64x128_123_0_n_n_0_1_12464128.sKept from (GatherDims.mem_sKept _ _).mpr ⟨fun g => absurd (List.mem_singleton.mp g) (by decide : ¬ (3 : Fin 4) = 0), List.not_mem_nil⟩)]
    simp only [Nat.zero_add]
    rfl

/-- The gather of the scales. -/
theorem gatherS_apply {α : Type} (x : S803x24x64.Idx → α) (idx : IVec S640x1 32) (b : Fin 640) (h : Fin 24) (p : Fin 64) :
    Host.gather gather_S803x24x64_S640x1_S640x24x64_12_0_n_n_0_1_12464 x idx (ix3 b h p)
      = x (ix3 (⟨min (idx (ix2 b (0 : Fin 1))).toInt.toNat 802, by omega⟩ : Fin 803) h p) := by
  unfold Host.gather
  congr 1
  funext a
  refine Fin.ext ?_
  show gather_S803x24x64_S640x1_S640x24x64_12_0_n_n_0_1_12464.start (ix3 b h p) idx a + gather_S803x24x64_S640x1_S640x24x64_12_0_n_n_0_1_12464.batchCoord (ix3 b h p) a
      + gather_S803x24x64_S640x1_S640x24x64_12_0_n_n_0_1_12464.offCoord (ix3 b h p) a = _
  rw [GatherDims.batchCoord_eq_zero _ _ _ List.not_mem_nil]
  have ha : a = (0 : Fin 3) ∨ a = (1 : Fin 3) ∨ a = (2 : Fin 3) := by fin_cases a <;> simp
  rcases ha with rfl | rfl | rfl
  · rw [GatherDims.offCoord_eq_zero _ _ _ (fun g => ((GatherDims.mem_sKept _ _).mp g).1 (List.mem_singleton.mpr rfl))]
    simp only [Nat.add_zero]
    unfold GatherDims.start
    rw [dif_pos (show (0 : Fin 3) ∈ gather_S803x24x64_S640x1_S640x24x64_12_0_n_n_0_1_12464.startIndexMap from List.mem_singleton.mpr rfl)]
    refine congrArg (fun i => min (idx i).toInt.toNat 802) ?_
    funext d; refine Fin.ext ?_
    match d with
    | ⟨0, _⟩ => rfl
    | ⟨1, _⟩ => rfl
  · have hs : gather_S803x24x64_S640x1_S640x24x64_12_0_n_n_0_1_12464.start (ix3 b h p) idx (1 : Fin 3) = 0 := by
      unfold GatherDims.start
      rw [dif_neg (show ¬ ((1 : Fin 3) ∈ gather_S803x24x64_S640x1_S640x24x64_12_0_n_n_0_1_12464.startIndexMap) from fun g => absurd (List.mem_singleton.mp g) (by decide : ¬ (1 : Fin 3) = 0))]
    rw [hs]
    unfold GatherDims.offCoord
    rw [dif_pos (show (1 : Fin 3) ∈ gather_S803x24x64_S640x1_S640x24x64_12_0_n_n_0_1_12464.sKept from (GatherDims.mem_sKept _ _).mpr ⟨fun g => absurd (List.mem_singleton.mp g) (by decide : ¬ (1 : Fin 3) = 0), List.not_mem_nil⟩)]
    simp only [Nat.zero_add]
    rfl
  · have hs : gather_S803x24x64_S640x1_S640x24x64_12_0_n_n_0_1_12464.start (ix3 b h p) idx (2 : Fin 3) = 0 := by
      unfold GatherDims.start
      rw [dif_neg (show ¬ ((2 : Fin 3) ∈ gather_S803x24x64_S640x1_S640x24x64_12_0_n_n_0_1_12464.startIndexMap) from fun g => absurd (List.mem_singleton.mp g) (by decide : ¬ (2 : Fin 3) = 0))]
    rw [hs]
    unfold GatherDims.offCoord
    rw [dif_pos (show (2 : Fin 3) ∈ gather_S803x24x64_S640x1_S640x24x64_12_0_n_n_0_1_12464.sKept from (GatherDims.mem_sKept _ _).mpr ⟨fun g => absurd (List.mem_singleton.mp g) (by decide : ¬ (2 : Fin 3) = 0), List.not_mem_nil⟩)]
    simp only [Nat.zero_add]
    rfl

/-! ### The slots and the flags -/

/-- The 640 zeros. -/
abbrev zero640 : IVec S640 32 := broadcastInDim S640 ![] bcast_S_S640 (constantI S_ 32 0#32)

/-- The slot of each sequence, as the gathers receive it. -/
def slot (ids : IVec S640 32) : IVec S640x1 32 :=
  broadcastInDim S640x1 ![0] bcast_S640_S640x1_0 (select (cmpi .slt (maxsi ids zero640) zero640) (addi (maxsi ids zero640) (broadcastInDim S640 ![] bcast_S_S640 (constantI S_ 32 803#32))) (maxsi ids zero640))

/-- Whether each sequence has a slot. -/
def flag (ids : IVec S640 32) : IVec S640x1x1x1 32 :=
  broadcastInDim S640x1x1x1 ![0] bcast_S640_S640x1x1x1_0 (extui 32 (cmpi .sge ids zero640) natLt_1_32)

theorem slot_apply (ids : IVec S640 32) (b : Fin 640) :
    slot ids (ix2 b (0 : Fin 1)) = Scalar.select (IntOp.cmpi .slt (IntOp.maxsi (ids (ix1 b)) 0#32) 0#32) (IntOp.addi (IntOp.maxsi (ids (ix1 b)) 0#32) 803#32) (IntOp.maxsi (ids (ix1 b)) 0#32) := by
  unfold slot
  rw [broadcastInDim_apply _ _ _ _ (ix1 b) (by intro a; fin_cases a; rfl)]
  rfl

theorem flag_apply (ids : IVec S640 32) (b : Fin 640) :
    flag ids (ix4 b (0 : Fin 1) (0 : Fin 1) (0 : Fin 1)) = (IntOp.cmpi .sge (ids (ix1 b)) 0#32).setWidth 32 := by
  unfold flag
  rw [broadcastInDim_apply _ _ _ _ (ix1 b) (by intro a; fin_cases a; rfl)]
  rfl

variable {F : FTy → Type} [FloatOps F]
variable (m : (ℓ : Loc nD τ sig) → Buf (Elt F) ℓ)

theorem V_flag (c : Dev nD) : V m c main_v5 = flag (m ((c : Thread nD τ).loc main_arg9)) := by
  unfold V hostOps0
  rfl
theorem V_codes (c : Dev nD) : V m c main_v12 = Host.gather gather_S803x24x64x128_S640x1_S640x24x64x128_123_0_n_n_0_1_12464128 (m ((c : Thread nD τ).loc main_arg7)) (slot (m ((c : Thread nD τ).loc main_arg9))) := by
  unfold V hostOps0
  rfl
theorem V_scales (c : Dev nD) : V m c main_v19 = Host.gather gather_S803x24x64_S640x1_S640x24x64_12_0_n_n_0_1_12464 (m ((c : Thread nD τ).loc main_arg8)) (slot (m ((c : Thread nD τ).loc main_arg9))) := by
  unfold V hostOps0
  rfl

end Cert.ReferenceIdeal.Value

end

end
-- ==== Proof.Value.RefRun.lean ====
/-
The reference's run: each of its arrays after the run, block by block, and its arguments unchanged.
-/
module

public import proofs.«01_k».proof.Proof.Gen.ReferenceIdeal.Frame
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 10's array: the body's result for that window (`Gen.out0_10`: its stores
    as pieces over the input windows' blocks), read through the window's block. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 10).cut (grid0.coords t) ((dats m 0 c).after 10 t) = _
  rw [after0_10]

/-- Distinct grid points have distinct block indices. -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S640x24x64.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- WHAT POINT `t` WRITES BACK to output window 11's array: the body's result for that window (`Gen.out0_11`: its stores
    as pieces over the input windows' blocks), read through the window's block. -/
theorem flushed11 (c : Dev nD) (t : Fin cfg0.N) :
    (dats m 0 c).flushed 11 t = (cfg0.win 11).cut (grid0.coords t) (out0_11 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 11).cut (grid0.coords t) ((dats m 0 c).after 11 t) = _
  rw [after0_11]

/-- Distinct grid points have distinct block indices. -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no flushing point's block covers keeps output window 11's array contents at region entry. -/
theorem entry11 (c : Dev nD) (i : S640x24x64x128.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- WHAT POINT `t` WRITES BACK to output window 12's array: the body's result for that window (`Gen.out0_12`: its stores
    as pieces over the input windows' blocks), read through the window's block. -/
theorem flushed12 (c : Dev nD) (t : Fin cfg0.N) :
    (dats m 0 c).flushed 12 t = (cfg0.win 12).cut (grid0.coords t) (out0_12 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 12).cut (grid0.coords t) ((dats m 0 c).after 12 t) = _
  rw [after0_12]

/-- Distinct grid points have distinct block indices. -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- BLOCK `t` OF THE FINAL ARRAY, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- An index that no flushing point's block covers keeps output window 12's array contents at region entry. -/
theorem entry12 (c : Dev nD) (i : S640x24x64.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v20_0) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v20_1) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v20_2) = (dats m 0 c).arrAt 12 cfg0.N :=
  (h c).1 12

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v20_0) = (dats m 0 c).arrAt 10 cfg0.N
      ∧ r.2.mem ((c : Thread nD τ).loc main_v20_1) = (dats m 0 c).arrAt 11 cfg0.N
      ∧ r.2.mem ((c : Thread nD τ).loc main_v20_2) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post10 m r h c,
      post11 m r h c,
      post12 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

end Cert.ReferenceIdeal.Value

end

end
-- ==== Proof.Value.RefOut.lean ====
/-
The reference's two state results after the run, as the expression of the argument arrays that the kernel's are.
-/
module

public import proofs.«01_k».proof.Proof.Value.RefQuant
public import proofs.«01_k».proof.Proof.Value.RefHost
public import proofs.«01_k».proof.Proof.Value.RefRun
public import proofs.«01_k».proof.Proof.Value.Out

@[expose] public section

set_option maxRecDepth 16384

noncomputable section

namespace Cert.ReferenceIdeal.Value

open Cert.ReferenceIdeal Cert.ReferenceIdeal.Gen
open Idealize.ShloMosaic Idealize.ShloMosaic.TcCoe Idealize.SL.Sem
open Idealize.ShloMosaic.ValueIdx
open Idealize.ShloMosaic.Pipeline (Dat)
open Cert.KernelIdeal.Hand (spl dcy newS dlt oldC oldS stH resC resS amaxS tS tS_nonneg expS isExp_expS sclS invS codeS)

/-! ### The body's results, from the blocks -/

theorem off4 : (![0, 0, 0, 0] : Fin 4 → ℕ) = fun _ => 0 := by funext a; fin_cases a <;> rfl
theorem off3 : (![0, 0, 0] : Fin 3 → ℕ) = fun _ => 0 := by funext a; fin_cases a <;> rfl
theorem off2 : (![0, 0] : Fin 2 → ℕ) = fun _ => 0 := by funext a; fin_cases a <;> rfl
theorem off1 : (![0] : Fin 1 → ℕ) = fun _ => 0 := by funext a; fin_cases a; rfl

section Body
variable {F : FTy → Type} [FloatOps F]
variable (x0 : Vec F S640x24x64 .bf16) (x1 : Vec F S640x24 .bf16) (x2 : Vec F S24 .f32) (x3 : Vec F S24 .f32) (x4 : Vec F S640x1x128 .bf16) (x5 : Vec F S640x1x128 .bf16) (x6 : Vec F S24 .f32)
variable (x7 : Vec F S640x24x64x128 .fp8e4m3) (x8 : Vec F S640x24x64 .f32) (x9 : Vec F S640x1x1x1 .i32)

/-- The scale bound of every row. -/
abbrev bound : FVec F S640x24x64 .f32 := k0_pay9 (k0_pay2 x9 x7 x8) (k0_pay3 x1 x2) (k0_pay4 x3) k0_pay5 x0 x4

theorem out11_eq : out0_11 x0 x1 x2 x3 x4 x5 x6 x7 x8 x9
    = k0_pay1 (k0_pay7 (k0_pay2 x9 x7 x8) (k0_pay3 x1 x2) (k0_pay4 x3) k0_pay5 x0 x4) (k0_pay14 (bound x0 x1 x2 x3 x4 x7 x8 x9) k0_pay10 k0_pay11) k0_pay15 := by
  unfold_out out0_11
  rw [View.canon_cons_unit_zero off4]
  rw [View.ld_unit_zero (S := S640x24x64) off3 _ x0, View.ld_unit_zero (S := S640x24) off2 _ x1, View.ld_unit_zero (S := S24) off1 _ x2, View.ld_unit_zero (S := S24) off1 _ x3, View.ld_unit_zero (S := S640x1x128) off3 _ x4,
    View.ld_unit_zero (S := S640x24x64x128) off4 _ x7, View.ld_unit_zero (S := S640x24x64) off3 _ x8, View.ld_unit_zero (S := S640x1x1x1) off4 _ x9]

theorem out12_eq : out0_12 x0 x1 x2 x3 x4 x5 x6 x7 x8 x9 = k0_pay13 (bound x0 x1 x2 x3 x4 x7 x8 x9) k0_pay10 k0_pay11 := by
  unfold_out out0_12
  rw [View.canon_cons_unit_zero off3]
  rw [View.ld_unit_zero (S := S640x24x64) off3 _ x0, View.ld_unit_zero (S := S640x24) off2 _ x1, View.ld_unit_zero (S := S24) off1 _ x2, View.ld_unit_zero (S := S24) off1 _ x3, View.ld_unit_zero (S := S640x1x128) off3 _ x4,
    View.ld_unit_zero (S := S640x24x64x128) off4 _ x7, View.ld_unit_zero (S := S640x24x64) off3 _ x8, View.ld_unit_zero (S := S640x1x1x1) off4 _ x9]
end Body

section Point
variable (x0 : Vec Ideal S640x24x64 .bf16) (x1 : Vec Ideal S640x24 .bf16) (x2 : Vec Ideal S24 .f32) (x3 : Vec Ideal S24 .f32) (x4 : Vec Ideal S640x1x128 .bf16) (x5 : Vec Ideal S640x1x128 .bf16) (x6 : Vec Ideal S24 .f32)
variable (x7 : Vec Ideal S640x24x64x128 .fp8e4m3) (x8 : Vec Ideal S640x24x64 .f32) (x9 : Vec Ideal S640x1x1x1 .i32)

theorem bound_apply (b : Fin 640) (h : Fin 24) (p : Fin 64) :
    bound x0 x1 x2 x3 x4 x7 x8 x9 (ix3 b h p) = tS (stRef x0 x1 x2 x3 x4 x7 x8 x9 b h p) := by
  unfold bound
  rw [pay9_apply]
  exact congrArg tS (funext fun k => state_apply x0 x1 x2 x3 x4 x7 x8 x9 b h p k)

theorem out11_apply (b : Fin 640) (h : Fin 24) (p : Fin 64) (k : Fin 128) :
    out0_11 x0 x1 x2 x3 x4 x5 x6 x7 x8 x9 (ix4 b h p k) = codeS (stRef x0 x1 x2 x3 x4 x7 x8 x9 b h p) k := by
  have hE := isExp_expS (tS (stRef x0 x1 x2 x3 x4 x7 x8 x9 b h p)) (tS_nonneg _)
  rw [← bound_apply x0 x1 x2 x3 x4 x7 x8 x9 b h p] at hE
  rw [out11_eq, pay1_apply _ _ b h p k _ hE, state_apply, bound_apply]
  rfl

theorem out12_apply (b : Fin 640) (h : Fin 24) (p : Fin 64) :
    out0_12 x0 x1 x2 x3 x4 x5 x6 x7 x8 x9 (ix3 b h p) = sclS (stRef x0 x1 x2 x3 x4 x7 x8 x9 b h p) := by
  have hE := isExp_expS (tS (stRef x0 x1 x2 x3 x4 x7 x8 x9 b h p)) (tS_nonneg _)
  rw [← bound_apply x0 x1 x2 x3 x4 x7 x8 x9 b h p] at hE
  rw [out12_eq, pay13_apply _ b h p _ hE, bound_apply]
  rfl
end Point

/-! ### The old state -/

/-- A sequence with a slot: what the reference gathers is its slot's row. -/
theorem slot_row (w : BitVec 32) (h : 0 ≤ w.toInt) :
    min (Scalar.select (IntOp.cmpi .slt (IntOp.maxsi w 0#32) 0#32) (IntOp.addi (IntOp.maxsi w 0#32) 803#32) (IntOp.maxsi w 0#32)).toInt.toNat 802 = min (Scalar.minsi w 802#32).toNat 802 := by
  have h0 : IntOp.maxsi w 0#32 = w := by
    unfold IntOp.maxsi
    by_cases g : (0#32 : BitVec 32).slt w = true
    · rw [if_pos g]
    · rw [if_neg g]
      have g' : ¬ (0 < w.toInt) := by simpa [BitVec.slt] using g
      have : w.toInt = 0 := by omega
      exact (BitVec.eq_of_toInt_eq (by rw [this]; rfl)).symm
  have h1 : IntOp.cmpi .slt w 0#32 = 0#1 := by
    have : w.slt 0#32 = false := by simp [BitVec.slt]; omega
    simp [IntOp.cmpi, this]
  rw [h0, h1]
  show min w.toInt.toNat 802 = min (IntOp.minsi w 802#32).toNat 802
  have hm : w.msb = false := by
    rw [BitVec.msb_eq_toInt]; simp; omega
  have ht : w.toInt = (w.toNat : ℤ) := BitVec.toInt_eq_toNat_of_msb hm
  unfold IntOp.minsi
  by_cases g : w.slt 802#32 = true
  · rw [if_pos g, ht]; rfl
  · rw [if_neg g]
    have g' : ¬ (w.toInt < 802) := by simpa [BitVec.slt] using g
    show min w.toInt.toNat 802 = min 802 802
    omega

theorem flag_pos (w : BitVec 32) (h : 0 ≤ w.toInt) : IntOp.cmpi .ne ((IntOp.cmpi .sge w 0#32).setWidth 32) 0#32 = 1#1 := by
  have : (0#32 : BitVec 32).sle w = true := by simp [BitVec.sle]; omega
  simp [IntOp.cmpi, this]
theorem flag_neg (w : BitVec 32) (h : ¬ 0 ≤ w.toInt) : IntOp.cmpi .ne ((IntOp.cmpi .sge w 0#32).setWidth 32) 0#32 = 0#1 := by
  have : (0#32 : BitVec 32).sle w = false := by simp [BitVec.sle]; omega
  simp [IntOp.cmpi, this]

/-- The state of a sequence with a slot: the reference decays the product of code and scale, the kernel the scale. -/
theorem alg_slot (d q s l x B : EReal) : d * (q * s) + (l * x) * B = q * (s * d) + (x * l) * B := by
  rw [mul_comm l x, mul_comm d (q * s), mul_assoc]
/-- The state of a sequence with no slot: its old part is zero. -/
theorem alg_none (d l x B : EReal) : d * 0 + (l * x) * B = 0 * (0 * d) + (x * l) * B := by
  rw [mul_comm l x, mul_zero, zero_mul]

/-- The reference's new state is the kernel's. -/
theorem stRef_eq (x : Vec Ideal S640x24x64 .bf16) (dt : Vec Ideal S640x24 .bf16) (bias alog : Vec Ideal S24 .f32) (Bm : Vec Ideal S640x1x128 .bf16)
    (cd : Vec Ideal S803x24x64x128 .fp8e4m3) (sc : Vec Ideal S803x24x64 .f32) (ids : IVec S640 32) (b : Fin 640) (h : Fin 24) (p : Fin 64) :
    stRef x dt bias alog Bm (Host.gather gather_S803x24x64x128_S640x1_S640x24x64x128_123_0_n_n_0_1_12464128 cd (slot ids)) (Host.gather gather_S803x24x64_S640x1_S640x24x64_12_0_n_n_0_1_12464 sc (slot ids)) (flag ids) b h p
      = stH x dt bias alog Bm cd sc ids b h p := by
  funext k
  unfold stRef stH newS dlt oldC oldS
  rw [gatherC_apply, gatherS_apply, flag_apply]
  by_cases hv : 0 ≤ (ids (ix1 b)).toInt
  · have hr : min (slot ids (ix2 b 0)).toInt.toNat 802 = min (Scalar.minsi (ids (ix1 b)) 802#32).toNat 802 := by
      rw [slot_apply]
      exact slot_row (ids (ix1 b)) hv
    have er : (⟨min (slot ids (ix2 b 0)).toInt.toNat 802, by omega⟩ : Fin 803) = ⟨min (Scalar.minsi (ids (ix1 b)) 802#32).toNat 802, by omega⟩ := Fin.ext hr
    rw [flag_pos _ hv, if_pos hv, if_pos hv, er]
    exact alg_slot _ _ _ _ _ _
  · rw [flag_neg _ hv, if_neg hv, if_neg hv]
    exact alg_none _ _ _ _

/-! ### The run -/

section Run
variable (m : (ℓ : Loc nD τ sig) → Buf (Elt Ideal) ℓ) (ρ : Dev nD → PrngReg)

/-- The new state from the reference's arguments. -/
abbrev rH (c : Dev nD) : Fin 640 → Fin 24 → Fin 64 → Fin 128 → EReal :=
  stH (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg7)) (m ((c : Thread nD τ).loc main_arg8)) (m ((c : Thread nD τ).loc main_arg9))

theorem blk0 (c : Dev nD) (t : Fin cfg0.N) : iblk m c 0 t = m ((c : Thread nD τ).loc main_arg0) := by
  rw [← V_main_arg0 m c]
  exact funext fun y => congrArg (V m c main_arg0) (funext fun a => Fin.ext ((cfg0.win 0).rect_emb_val_of_index_zero t a rfl y))
theorem blk1 (c : Dev nD) (t : Fin cfg0.N) : iblk m c 1 t = m ((c : Thread nD τ).loc main_arg1) := by
  rw [← V_main_arg1 m c]
  exact funext fun y => congrArg (V m c main_arg1) (funext fun a => Fin.ext ((cfg0.win 1).rect_emb_val_of_index_zero t a rfl y))
theorem blk2 (c : Dev nD) (t : Fin cfg0.N) : iblk m c 2 t = m ((c : Thread nD τ).loc main_arg2) := by
  rw [← V_main_arg2 m c]
  exact funext fun y => congrArg (V m c main_arg2) (funext fun a => Fin.ext ((cfg0.win 2).rect_emb_val_of_index_zero t a rfl y))
theorem blk3 (c : Dev nD) (t : Fin cfg0.N) : iblk m c 3 t = m ((c : Thread nD τ).loc main_arg3) := by
  rw [← V_main_arg3 m c]
  exact funext fun y => congrArg (V m c main_arg3) (funext fun a => Fin.ext ((cfg0.win 3).rect_emb_val_of_index_zero t a rfl y))
theorem blk4 (c : Dev nD) (t : Fin cfg0.N) : iblk m c 4 t = m ((c : Thread nD τ).loc main_arg4) := by
  rw [← V_main_arg4 m c]
  exact funext fun y => congrArg (V m c main_arg4) (funext fun a => Fin.ext ((cfg0.win 4).rect_emb_val_of_index_zero t a rfl y))
theorem blk7 (c : Dev nD) (t : Fin cfg0.N) : iblk m c 7 t = Host.gather gather_S803x24x64x128_S640x1_S640x24x64x128_123_0_n_n_0_1_12464128 (m ((c : Thread nD τ).loc main_arg7)) (slot (m ((c : Thread nD τ).loc main_arg9))) := by
  rw [← V_codes m c]
  exact funext fun y => congrArg (V m c main_v12) (funext fun a => Fin.ext ((cfg0.win 7).rect_emb_val_of_index_zero t a rfl y))
theorem blk8 (c : Dev nD) (t : Fin cfg0.N) : iblk m c 8 t = Host.gather gather_S803x24x64_S640x1_S640x24x64_12_0_n_n_0_1_12464 (m ((c : Thread nD τ).loc main_arg8)) (slot (m ((c : Thread nD τ).loc main_arg9))) := by
  rw [← V_scales m c]
  exact funext fun y => congrArg (V m c main_v19) (funext fun a => Fin.ext ((cfg0.win 8).rect_emb_val_of_index_zero t a rfl y))
theorem blk9 (c : Dev nD) (t : Fin cfg0.N) : iblk m c 9 t = flag (m ((c : Thread nD τ).loc main_arg9)) := by
  rw [← V_flag m c]
  exact funext fun y => congrArg (V m c main_v5) (funext fun a => Fin.ext ((cfg0.win 9).rect_emb_val_of_index_zero t a rfl y))

theorem flushC (c : Dev nD) (t : Fin cfg0.N) (b : Fin 640) (h : Fin 24) (p : Fin 64) (k : Fin 128) :
    (dats m 0 c).after 11 t (ix4 b h p k) = codeS (rH m c b h p) k := by
  rw [after0_11, blk0, blk1, blk2, blk3, blk4, blk7, blk8, blk9]
  refine (out11_apply _ _ _ _ _ _ _ _ _ _ b h p k).trans ?_
  rw [stRef_eq]

theorem flushS (c : Dev nD) (t : Fin cfg0.N) (b : Fin 640) (h : Fin 24) (p : Fin 64) :
    (dats m 0 c).after 12 t (ix3 b h p) = sclS (rH m c b h p) := by
  rw [after0_12, blk0, blk1, blk2, blk3, blk4, blk7, blk8, blk9]
  refine (out12_apply _ _ _ _ _ _ _ _ _ _ b h p).trans ?_
  rw [stRef_eq]

theorem eta4 (j : S640x24x64x128.Idx) : j = ix4 (j 0) (j 1) (j 2) (j 3) := by funext a; fin_cases a <;> rfl
theorem eta3 (j : S640x24x64.Idx) : j = ix3 (j 0) (j 1) (j 2) := by funext a; fin_cases a <;> rfl

theorem flushC' (c : Dev nD) (t : Fin cfg0.N) (j : S640x24x64x128.Idx) : (dats m 0 c).after 11 t j = resC (rH m c) j := by
  rw [eta4 j]
  exact flushC m c t (j 0) (j 1) (j 2) (j 3)
theorem flushS' (c : Dev nD) (t : Fin cfg0.N) (j : S640x24x64.Idx) : (dats m 0 c).after 12 t j = resS (rH m c) j := by
  rw [eta3 j]
  exact flushS m c t (j 0) (j 1) (j 2)

/-- The final codes. -/
theorem arr11 (c : Dev nD) : (dats m 0 c).arrAt 11 cfg0.N = resC (rH m c) :=
  (dats m 0 c).arrAt_eq_of_after_last 11 (⟨0, by decide⟩ : Fin cfg0.N) (by decide +kernel) _ fun j => flushC' m c (⟨0, by decide⟩ : Fin cfg0.N) j
/-- The final scales. -/
theorem arr12 (c : Dev nD) : (dats m 0 c).arrAt 12 cfg0.N = resS (rH m c) :=
  (dats m 0 c).arrAt_eq_of_after_last 12 (⟨0, by decide⟩ : Fin cfg0.N) (by decide +kernel) _ fun j => flushS' m c (⟨0, by decide⟩ : Fin cfg0.N) j

/-- The reference's run: its codes and scales, its arguments unchanged. -/
theorem run : θ_run defs (onTc (τ := τ) (main (F := Ideal))) ⟨m, fun _ => 0, ρ⟩ (fun r => ∀ c : Dev nD,
    r.2.mem ((c.tc : Thread nD τ).loc main_v20_1) = resC (rH m c) ∧ r.2.mem ((c.tc : Thread nD τ).loc main_v20_2) = resS (rH m c)
    ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9)) :=
  (θ_run defs _ _).mono (fun r h c => ⟨(h c).2.1.trans (arr11 m c), (h c).2.2.1.trans (arr12 m c), (h c).2.2.2⟩) (run_blocks m ρ)

end Run

end Cert.ReferenceIdeal.Value

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.ReferenceIdeal.Skeleton
public import proofs.«01_k».proof.Proof.Gen.ReferenceIdeal.Frame
public import proofs.«01_k».proof.Proof.State.Frame
public import proofs.«01_k».proof.Proof.StateI.Frame
public import proofs.«01_k».proof.Proof.Value.Out
public import proofs.«01_k».proof.Proof.Value.RefOut
public import Idealize.ShloMosaic.Adequacy
public import Idealize.ShloMosaic.Init

@[expose] public section

noncomputable section

namespace Cert.Proof

open Idealize.ShloMosaic Idealize.SL.Sem Cert.Kernel

instance onFacts : Cert.On_state_results.Facts where
  bcast_S_S640x24x64 := by decide
  bcast_S_S640x24x64x128 := by decide

/-- No element of the first result is claimed. -/
theorem mask0 (x : FVec Ideal Cert.On_state_results.S640x24x64 .bf16) (dt : FVec Ideal Cert.On_state_results.S640x24 .bf16) (bias alog : FVec Ideal Cert.On_state_results.S24 .f32) (Bm Cm : FVec Ideal Cert.On_state_results.S640x1x128 .bf16) (D : FVec Ideal Cert.On_state_results.S24 .f32)
    (cd : FVec Ideal Cert.On_state_results.S803x24x64x128 .fp8e4m3) (sc : FVec Ideal Cert.On_state_results.S803x24x64 .f32) (ids : IVec Cert.On_state_results.S640 32) (i : Cert.On_state_results.S640x24x64.Idx) :
    (Cert.On_state_results.fn (F := Ideal) x dt bias alog Bm Cm D cd sc ids).1 i = 0#1 := rfl

/-- The new codes and scales of the idealized kernel are the reference's: each run ends with the same expression of the
arguments. -/
theorem algebraic : algebraic_KernelIdeal_ReferenceIdeal_on_state_results (hKernelIdeal := Cert.KernelIdeal.Gen.facts)
    (hReferenceIdeal := Cert.ReferenceIdeal.Gen.facts) (hOn_state_results := onFacts) := by
  intro m g m' g' _ heq
  have hH : ∀ c, Cert.ReferenceIdeal.Value.rH m' c = Cert.KernelIdeal.Hand.kH m c := fun c => by
    obtain ⟨h0, h1, h2, h3, h4, h5, h6, h7, h8, h9⟩ := heq c
    show Cert.KernelIdeal.Hand.stH _ _ _ _ _ _ _ _ = Cert.KernelIdeal.Hand.stH _ _ _ _ _ _ _ _
    rw [h0, h1, h2, h3, h4, h7, h8, h9]
  refine ⟨fun c => m ((c.tc : Thread Cert.KernelIdeal.nD Cert.KernelIdeal.τ).loc Cert.KernelIdeal.main_v3_0), fun c => Cert.KernelIdeal.Hand.resC (Cert.KernelIdeal.Hand.kH m c), fun c => Cert.KernelIdeal.Hand.resS (Cert.KernelIdeal.Hand.kH m c), ?_, ?_⟩
  · exact (θ_run Cert.KernelIdeal.defs _ _).mono (fun r h c =>
      ⟨fun i hi => absurd ((mask0 _ _ _ _ _ _ _ _ _ _ i).symm.trans hi) (by decide),
        fun i _ => congrFun (h c).1 i, fun i _ => congrFun (h c).2.1 i, (h c).2.2⟩) (Cert.KernelIdeal.Hand.run m g)
  · exact (θ_run Cert.ReferenceIdeal.defs _ _).mono (fun r h c =>
      ⟨fun i hi => absurd ((mask0 _ _ _ _ _ _ _ _ _ _ i).symm.trans hi) (by decide),
        fun i _ => congrFun ((h c).1.trans (congrArg Cert.KernelIdeal.Hand.resC (hH c))) i,
        fun i _ => congrFun ((h c).2.1.trans (congrArg Cert.KernelIdeal.Hand.resS (hH c))) i, (h c).2.2⟩) (Cert.ReferenceIdeal.Value.run m' g')

/-- The claims of the certificate: each program leaves its arguments as they were and ends with no transfer under way, the
idealized kernel is the kernel read at the ideal floats, and its new codes and scales are the reference's. -/
theorem claim : Cert.Claim :=
  ⟨Cert.Kernel.Gen.facts, Cert.KernelIdeal.Gen.facts, Cert.ReferenceIdeal.Gen.facts, onFacts,
    fun m ρ _ => Cert.Kernel.Hand.frame m ρ, fun m ρ _ => Cert.KernelIdeal.Hand.frame m ρ,
    fun m ρ _ => Cert.ReferenceIdeal.Gen.frame m ρ, trivial, algebraic⟩

end Cert.Proof

end
